-- ==== Defs.lean ====
def Pre_Kernel [hPre_rows_exist : Cert.Pre_rows_exist.Facts] (m : (ℓ : Loc Cert.Kernel.nD Cert.Kernel.τ Cert.Kernel.sig) → Buf (Elt Bits) ℓ) : Prop :=
  ∀ c : Dev Cert.Kernel.nD,
    (Cert.Pre_rows_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_rows_exist : Cert.Pre_rows_exist.Facts] (m : (ℓ : Loc Cert.KernelIdeal.nD Cert.KernelIdeal.τ Cert.KernelIdeal.sig) → Buf (Elt Ideal) ℓ) : Prop :=
  ∀ c : Dev Cert.KernelIdeal.nD,
    (Cert.Pre_rows_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_exist [hPre_rows_exist : Cert.Pre_rows_exist.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_exist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_rows_exist : Cert.Pre_rows_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_rows_exist : Cert.Pre_rows_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_rows_exist [hReferenceIdeal : Cert.ReferenceIdeal.Facts] [hPre_rows_exist : Cert.Pre_rows_exist.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_exist m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "tenth" .f32 0x3DCCCCCD#32 ((10⁻¹ : ℝ) : EReal)

def algebraic_KernelIdeal_ReferenceIdeal [hKernelIdeal : Cert.KernelIdeal.Facts] [hReferenceIdeal : Cert.ReferenceIdeal.Facts] [hPre_rows_exist : Cert.Pre_rows_exist.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v406) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_rows_exist : Cert.Pre_rows_exist.Facts),
    quiescent_Kernel (hKernel := hKernel) (hPre_rows_exist := hPre_rows_exist)
    ∧ quiescent_KernelIdeal (hKernelIdeal := hKernelIdeal) (hPre_rows_exist := hPre_rows_exist)
    ∧ quiescent_ReferenceIdeal (hReferenceIdeal := hReferenceIdeal)
    ∧ quiescent_ReferenceIdeal_pre_rows_exist (hReferenceIdeal := hReferenceIdeal) (hPre_rows_exist := hPre_rows_exist)
    ∧ preserves_Kernel_KernelIdeal
    ∧ algebraic_KernelIdeal_ReferenceIdeal (hKernelIdeal := hKernelIdeal) (hReferenceIdeal := hReferenceIdeal) (hPre_rows_exist := hPre_rows_exist)
-- ==== Pre_rows_exist.lean ====
abbrev S30000x256 : Shape := ⟨2, ![30000, 256]⟩
abbrev S30000x300 : Shape := ⟨2, ![30000, 300]⟩
abbrev S30000x128 : Shape := ⟨2, ![30000, 128]⟩
abbrev S512x2 : Shape := ⟨2, ![512, 2]⟩
abbrev S12x16x512 : Shape := ⟨3, ![12, 16, 512]⟩
abbrev S_ : Shape := ⟨0, ![]⟩

class Facts : Prop where
  bcast_S_S512x2 : S_.BroadcastsInDim S512x2 (![] : Fin 0 → Fin S512x2.rank)
  reducesTo_S512x2_S_d0_1 : S512x2.ReducesTo [0, 1] S_
  h_S_ : 0 < S_.numel
  bcast_S_S12x16x512 : S_.BroadcastsInDim S12x16x512 (![] : Fin 0 → Fin S12x16x512.rank)
  reducesTo_S12x16x512_S_d0_1_2 : S12x16x512.ReducesTo [0, 1, 2] S_

variable [Facts]

def fn {F : FTy → Type} [FloatOps F] (main_arg0 : FVec F S30000x256 .f32) (main_arg1 : FVec F S30000x256 .f32) (main_arg2 : FVec F S30000x300 .f32) (main_arg3 : FVec F S30000x300 .f32) (main_arg4 : FVec F S30000x128 .f32) (main_arg5 : FVec F S30000x128 .f32) (main_arg6 : IVec S512x2 32) (main_arg7 : IVec S12x16x512 32) : IVec S_ 1 :=
  let main_c : IVec S_ 32 := constantI S_ 32 0#32
  let main_v0 : IVec S512x2 32 := broadcastInDim S512x2 ![] bcast_S_S512x2 main_c
  let main_v1 : IVec S512x2 1 := cmpi .sge main_arg6 main_v0
  let main_c_0 : IVec S_ 32 := constantI S_ 32 30000#32
  let main_v2 : IVec S512x2 32 := broadcastInDim S512x2 ![] bcast_S_S512x2 main_c_0
  let main_v3 : IVec S512x2 1 := cmpi .slt main_arg6 main_v2
  let main_v4 : IVec S512x2 1 := andi main_v1 main_v3
  let main_c_1 : IVec S_ 1 := constantI S_ 1 1#1
  let main_v5 : IVec S_ 1 := (fun x v => Host.reduce IntOp.andi x v reducesTo_S512x2_S_d0_1 h_S_) main_v4 main_c_1
  let main_c_2 : IVec S_ 32 := constantI S_ 32 0#32
  let main_v6 : IVec S12x16x512 32 := broadcastInDim S12x16x512 ![] bcast_S_S12x16x512 main_c_2
  let main_v7 : IVec S12x16x512 1 := cmpi .sge main_arg7 main_v6
  let main_c_3 : IVec S_ 32 := constantI S_ 32 30000#32
  let main_v8 : IVec S12x16x512 32 := broadcastInDim S12x16x512 ![] bcast_S_S12x16x512 main_c_3
  let main_v9 : IVec S12x16x512 1 := cmpi .slt main_arg7 main_v8
  let main_v10 : IVec S12x16x512 1 := andi main_v7 main_v9
  let main_c_4 : IVec S_ 1 := constantI S_ 1 1#1
  let main_v11 : IVec S_ 1 := (fun x v => Host.reduce IntOp.andi x v reducesTo_S12x16x512_S_d0_1_2 h_S_) main_v10 main_c_4
  let main_v12 : IVec S_ 1 := andi main_v5 main_v11
  main_v12
-- ==== Kernel.lean ====
abbrev S30000x256 : Shape := ⟨2, ![30000, 256]⟩
abbrev S30000x300 : Shape := ⟨2, ![30000, 300]⟩
abbrev S30000x128 : Shape := ⟨2, ![30000, 128]⟩
abbrev S512x2 : Shape := ⟨2, ![512, 2]⟩
abbrev S12x16x512 : Shape := ⟨3, ![12, 16, 512]⟩
abbrev S512x1 : Shape := ⟨2, ![512, 1]⟩
abbrev S512 : Shape := ⟨1, ![512]⟩
abbrev S1024 : Shape := ⟨1, ![1024]⟩
abbrev S30000x1x256 : Shape := ⟨3, ![30000, 1, 256]⟩
abbrev S30000x1x300 : Shape := ⟨3, ![30000, 1, 300]⟩
abbrev S30000x1x128 : Shape := ⟨3, ![30000, 1, 128]⟩
abbrev S512x256 : Shape := ⟨2, ![512, 256]⟩
abbrev S512x300 : Shape := ⟨2, ![512, 300]⟩
abbrev S512x128 : Shape := ⟨2, ![512, 128]⟩
abbrev S1x1x256 : Shape := ⟨3, ![1, 1, 256]⟩
abbrev S1 : Shape := ⟨1, ![1]⟩
abbrev S1x1x300 : Shape := ⟨3, ![1, 1, 300]⟩
abbrev S1x1x128 : Shape := ⟨3, ![1, 1, 128]⟩
abbrev S8x256 : Shape := ⟨2, ![8, 256]⟩
abbrev S8x300 : Shape := ⟨2, ![8, 300]⟩
abbrev S8x128 : Shape := ⟨2, ![8, 128]⟩
abbrev S256 : Shape := ⟨1, ![256]⟩
abbrev S1x256 : Shape := ⟨2, ![1, 256]⟩
abbrev S300 : Shape := ⟨1, ![300]⟩
abbrev S1x300 : Shape := ⟨2, ![1, 300]⟩
abbrev S128 : Shape := ⟨1, ![128]⟩
abbrev S1x128 : Shape := ⟨2, ![1, 128]⟩
abbrev S1x512x256 : Shape := ⟨3, ![1, 512, 256]⟩
abbrev S2x512x256 : Shape := ⟨3, ![2, 512, 256]⟩
abbrev S1x512x300 : Shape := ⟨3, ![1, 512, 300]⟩
abbrev S2x512x300 : Shape := ⟨3, ![2, 512, 300]⟩
abbrev S1x512x128 : Shape := ⟨3, ![1, 512, 128]⟩
abbrev S2x512x128 : Shape := ⟨3, ![2, 512, 128]⟩
abbrev S1x16x512 : Shape := ⟨3, ![1, 16, 512]⟩
abbrev S16x512 : Shape := ⟨2, ![16, 512]⟩
abbrev S2x16x512 : Shape := ⟨3, ![2, 16, 512]⟩
abbrev S2x16x16x32 : Shape := ⟨4, ![2, 16, 16, 32]⟩
abbrev S16384 : Shape := ⟨1, ![16384]⟩
abbrev S512x32x1 : Shape := ⟨3, ![512, 32, 1]⟩
abbrev S1x32x256 : Shape := ⟨3, ![1, 32, 256]⟩
abbrev S1x32x1 : Shape := ⟨3, ![1, 32, 1]⟩
abbrev S32x256 : Shape := ⟨2, ![32, 256]⟩
abbrev S32 : Shape := ⟨1, ![32]⟩
abbrev S32x1 : Shape := ⟨2, ![32, 1]⟩
abbrev S1x32x300 : Shape := ⟨3, ![1, 32, 300]⟩
abbrev S32x300 : Shape := ⟨2, ![32, 300]⟩
abbrev S1x32x128 : Shape := ⟨3, ![1, 32, 128]⟩
abbrev S32x128 : Shape := ⟨2, ![32, 128]⟩
abbrev S32768 : Shape := ⟨1, ![32768]⟩
abbrev S256x128 : Shape := ⟨2, ![256, 128]⟩
abbrev S1x1 : Shape := ⟨2, ![1, 1]⟩
abbrev S8x64x1 : Shape := ⟨3, ![8, 64, 1]⟩
abbrev S1x256x128 : Shape := ⟨3, ![1, 256, 128]⟩
abbrev S1x64x1 : Shape := ⟨3, ![1, 64, 1]⟩
abbrev S64x1 : Shape := ⟨2, ![64, 1]⟩
abbrev S64x1x1 : Shape := ⟨3, ![64, 1, 1]⟩
abbrev S64x256x128 : Shape := ⟨3, ![64, 256, 128]⟩
abbrev S1x64x256x128 : Shape := ⟨4, ![1, 64, 256, 128]⟩
abbrev S1x1x1x1 : Shape := ⟨4, ![1, 1, 1, 1]⟩
abbrev S_ : Shape := ⟨0, ![]⟩

abbrev nBuf : Space → Nat
  | .hbm => 113
  | .vmem => 526
  | .smem => 7
  | _ => 0

abbrev vmemTy0_0 (i : Nat) : BufTy := match i % 128 with
  | 0 => ⟨S1x1x256, .f32⟩
  | 1 => ⟨S1x1x256, .f32⟩
  | 2 => ⟨S1x1x256, .f32⟩
  | 3 => ⟨S1x1x256, .f32⟩
  | 4 => ⟨S1x1x256, .f32⟩
  | 5 => ⟨S1x1x256, .f32⟩
  | 6 => ⟨S1x1x256, .f32⟩
  | 7 => ⟨S1x1x256, .f32⟩
  | 8 => ⟨S1x1x256, .f32⟩
  | 9 => ⟨S1x1x256, .f32⟩
  | 10 => ⟨S1x1x256, .f32⟩
  | 11 => ⟨S1x1x256, .f32⟩
  | 12 => ⟨S1x1x256, .f32⟩
  | 13 => ⟨S1x1x256, .f32⟩
  | 14 => ⟨S1x1x256, .f32⟩
  | 15 => ⟨S1x1x256, .f32⟩
  | 16 => ⟨S1x1x256, .f32⟩
  | 17 => ⟨S1x1x256, .f32⟩
  | 18 => ⟨S1x1x256, .f32⟩
  | 19 => ⟨S1x1x256, .f32⟩
  | 20 => ⟨S1x1x256, .f32⟩
  | 21 => ⟨S1x1x256, .f32⟩
  | 22 => ⟨S1x1x256, .f32⟩
  | 23 => ⟨S1x1x256, .f32⟩
  | 24 => ⟨S1x1x256, .f32⟩
  | 25 => ⟨S1x1x256, .f32⟩
  | 26 => ⟨S1x1x256, .f32⟩
  | 27 => ⟨S1x1x256, .f32⟩
  | 28 => ⟨S1x1x256, .f32⟩
  | 29 => ⟨S1x1x256, .f32⟩
  | 30 => ⟨S1x1x256, .f32⟩
  | 31 => ⟨S1x1x256, .f32⟩
  | 32 => ⟨S1x1x300, .f32⟩
  | 33 => ⟨S1x1x300, .f32⟩
  | 34 => ⟨S1x1x300, .f32⟩
  | 35 => ⟨S1x1x300, .f32⟩
  | 36 => ⟨S1x1x300, .f32⟩
  | 37 => ⟨S1x1x300, .f32⟩
  | 38 => ⟨S1x1x300, .f32⟩
  | 39 => ⟨S1x1x300, .f32⟩
  | 40 => ⟨S1x1x300, .f32⟩
  | 41 => ⟨S1x1x300, .f32⟩
  | 42 => ⟨S1x1x300, .f32⟩
  | 43 => ⟨S1x1x300, .f32⟩
  | 44 => ⟨S1x1x300, .f32⟩
  | 45 => ⟨S1x1x300, .f32⟩
  | 46 => ⟨S1x1x300, .f32⟩
  | 47 => ⟨S1x1x300, .f32⟩
  | 48 => ⟨S1x1x300, .f32⟩
  | 49 => ⟨S1x1x300, .f32⟩
  | 50 => ⟨S1x1x300, .f32⟩
  | 51 => ⟨S1x1x300, .f32⟩
  | 52 => ⟨S1x1x300, .f32⟩
  | 53 => ⟨S1x1x300, .f32⟩
  | 54 => ⟨S1x1x300, .f32⟩
  | 55 => ⟨S1x1x300, .f32⟩
  | 56 => ⟨S1x1x300, .f32⟩
  | 57 => ⟨S1x1x300, .f32⟩
  | 58 => ⟨S1x1x300, .f32⟩
  | 59 => ⟨S1x1x300, .f32⟩
  | 60 => ⟨S1x1x300, .f32⟩
  | 61 => ⟨S1x1x300, .f32⟩
  | 62 => ⟨S1x1x300, .f32⟩
  | 63 => ⟨S1x1x300, .f32⟩
  | 64 => ⟨S1x1x128, .f32⟩
  | 65 => ⟨S1x1x128, .f32⟩
  | 66 => ⟨S1x1x128, .f32⟩
  | 67 => ⟨S1x1x128, .f32⟩
  | 68 => ⟨S1x1x128, .f32⟩
  | 69 => ⟨S1x1x128, .f32⟩
  | 70 => ⟨S1x1x128, .f32⟩
  | 71 => ⟨S1x1x128, .f32⟩
  | 72 => ⟨S1x1x128, .f32⟩
  | 73 => ⟨S1x1x128, .f32⟩
  | 74 => ⟨S1x1x128, .f32⟩
  | 75 => ⟨S1x1x128, .f32⟩
  | 76 => ⟨S1x1x128, .f32⟩
  | 77 => ⟨S1x1x128, .f32⟩
  | 78 => ⟨S1x1x128, .f32⟩
  | 79 => ⟨S1x1x128, .f32⟩
  | 80 => ⟨S1x1x128, .f32⟩
  | 81 => ⟨S1x1x128, .f32⟩
  | 82 => ⟨S1x1x128, .f32⟩
  | 83 => ⟨S1x1x128, .f32⟩
  | 84 => ⟨S1x1x128, .f32⟩
  | 85 => ⟨S1x1x128, .f32⟩
  | 86 => ⟨S1x1x128, .f32⟩
  | 87 => ⟨S1x1x128, .f32⟩
  | 88 => ⟨S1x1x128, .f32⟩
  | 89 => ⟨S1x1x128, .f32⟩
  | 90 => ⟨S1x1x128, .f32⟩
  | 91 => ⟨S1x1x128, .f32⟩
  | 92 => ⟨S1x1x128, .f32⟩
  | 93 => ⟨S1x1x128, .f32⟩
  | 94 => ⟨S1x1x128, .f32⟩
  | 95 => ⟨S1x1x128, .f32⟩
  | 96 => ⟨S8x256, .f32⟩
  | 97 => ⟨S8x256, .f32⟩
  | 98 => ⟨S8x256, .f32⟩
  | 99 => ⟨S8x256, .f32⟩
  | 100 => ⟨S8x300, .f32⟩
  | 101 => ⟨S8x300, .f32⟩
  | 102 => ⟨S8x300, .f32⟩
  | 103 => ⟨S8x300, .f32⟩
  | 104 => ⟨S8x128, .f32⟩
  | 105 => ⟨S8x128, .f32⟩
  | 106 => ⟨S8x128, .f32⟩
  | 107 => ⟨S8x128, .f32⟩
  | 108 => ⟨S1x1x256, .f32⟩
  | 109 => ⟨S1x1x256, .f32⟩
  | 110 => ⟨S1x1x256, .f32⟩
  | 111 => ⟨S1x1x256, .f32⟩
  | 112 => ⟨S1x1x256, .f32⟩
  | 113 => ⟨S1x1x256, .f32⟩
  | 114 => ⟨S1x1x256, .f32⟩
  | 115 => ⟨S1x1x256, .f32⟩
  | 116 => ⟨S1x1x256, .f32⟩
  | 117 => ⟨S1x1x256, .f32⟩
  | 118 => ⟨S1x1x256, .f32⟩
  | 119 => ⟨S1x1x256, .f32⟩
  | 120 => ⟨S1x1x256, .f32⟩
  | 121 => ⟨S1x1x256, .f32⟩
  | 122 => ⟨S1x1x256, .f32⟩
  | 123 => ⟨S1x1x256, .f32⟩
  | 124 => ⟨S1x1x256, .f32⟩
  | 125 => ⟨S1x1x256, .f32⟩
  | 126 => ⟨S1x1x256, .f32⟩
  | 127 => ⟨S1x1x256, .f32⟩
  | _ => ⟨S30000x256, .f32⟩

abbrev vmemTy0_1 (i : Nat) : BufTy := match i % 128 with
  | 0 => ⟨S1x1x256, .f32⟩
  | 1 => ⟨S1x1x256, .f32⟩
  | 2 => ⟨S1x1x256, .f32⟩
  | 3 => ⟨S1x1x256, .f32⟩
  | 4 => ⟨S1x1x256, .f32⟩
  | 5 => ⟨S1x1x256, .f32⟩
  | 6 => ⟨S1x1x256, .f32⟩
  | 7 => ⟨S1x1x256, .f32⟩
  | 8 => ⟨S1x1x256, .f32⟩
  | 9 => ⟨S1x1x256, .f32⟩
  | 10 => ⟨S1x1x256, .f32⟩
  | 11 => ⟨S1x1x256, .f32⟩
  | 12 => ⟨S1x1x256, .f32⟩
  | 13 => ⟨S1x1x256, .f32⟩
  | 14 => ⟨S1x1x256, .f32⟩
  | 15 => ⟨S1x1x256, .f32⟩
  | 16 => ⟨S1x1x256, .f32⟩
  | 17 => ⟨S1x1x256, .f32⟩
  | 18 => ⟨S1x1x256, .f32⟩
  | 19 => ⟨S1x1x256, .f32⟩
  | 20 => ⟨S1x1x256, .f32⟩
  | 21 => ⟨S1x1x256, .f32⟩
  | 22 => ⟨S1x1x256, .f32⟩
  | 23 => ⟨S1x1x256, .f32⟩
  | 24 => ⟨S1x1x256, .f32⟩
  | 25 => ⟨S1x1x256, .f32⟩
  | 26 => ⟨S1x1x256, .f32⟩
  | 27 => ⟨S1x1x256, .f32⟩
  | 28 => ⟨S1x1x256, .f32⟩
  | 29 => ⟨S1x1x256, .f32⟩
  | 30 => ⟨S1x1x256, .f32⟩
  | 31 => ⟨S1x1x256, .f32⟩
  | 32 => ⟨S1x1x256, .f32⟩
  | 33 => ⟨S1x1x256, .f32⟩
  | 34 => ⟨S1x1x256, .f32⟩
  | 35 => ⟨S1x1x256, .f32⟩
  | 36 => ⟨S1x1x256, .f32⟩
  | 37 => ⟨S1x1x256, .f32⟩
  | 38 => ⟨S1x1x256, .f32⟩
  | 39 => ⟨S1x1x256, .f32⟩
  | 40 => ⟨S1x1x256, .f32⟩
  | 41 => ⟨S1x1x256, .f32⟩
  | 42 => ⟨S1x1x256, .f32⟩
  | 43 => ⟨S1x1x256, .f32⟩
  | 44 => ⟨S1x32x256, .f32⟩
  | 45 => ⟨S1x32x256, .f32⟩
  | 46 => ⟨S1x32x1, .f32⟩
  | 47 => ⟨S1x32x1, .f32⟩
  | 48 => ⟨S1x1x256, .f32⟩
  | 49 => ⟨S1x1x256, .f32⟩
  | 50 => ⟨S1x1x256, .f32⟩
  | 51 => ⟨S1x1x256, .f32⟩
  | 52 => ⟨S1x1x256, .f32⟩
  | 53 => ⟨S1x1x256, .f32⟩
  | 54 => ⟨S1x1x256, .f32⟩
  | 55 => ⟨S1x1x256, .f32⟩
  | 56 => ⟨S1x1x256, .f32⟩
  | 57 => ⟨S1x1x256, .f32⟩
  | 58 => ⟨S1x1x256, .f32⟩
  | 59 => ⟨S1x1x256, .f32⟩
  | 60 => ⟨S1x1x256, .f32⟩
  | 61 => ⟨S1x1x256, .f32⟩
  | 62 => ⟨S1x1x256, .f32⟩
  | 63 => ⟨S1x1x256, .f32⟩
  | 64 => ⟨S1x1x256, .f32⟩
  | 65 => ⟨S1x1x256, .f32⟩
  | 66 => ⟨S1x1x256, .f32⟩
  | 67 => ⟨S1x1x256, .f32⟩
  | 68 => ⟨S1x1x256, .f32⟩
  | 69 => ⟨S1x1x256, .f32⟩
  | 70 => ⟨S1x1x256, .f32⟩
  | 71 => ⟨S1x1x256, .f32⟩
  | 72 => ⟨S1x1x256, .f32⟩
  | 73 => ⟨S1x1x256, .f32⟩
  | 74 => ⟨S1x1x256, .f32⟩
  | 75 => ⟨S1x1x256, .f32⟩
  | 76 => ⟨S1x1x256, .f32⟩
  | 77 => ⟨S1x1x256, .f32⟩
  | 78 => ⟨S1x1x256, .f32⟩
  | 79 => ⟨S1x1x256, .f32⟩
  | 80 => ⟨S1x1x256, .f32⟩
  | 81 => ⟨S1x1x256, .f32⟩
  | 82 => ⟨S1x1x256, .f32⟩
  | 83 => ⟨S1x1x256, .f32⟩
  | 84 => ⟨S1x1x256, .f32⟩
  | 85 => ⟨S1x1x256, .f32⟩
  | 86 => ⟨S1x1x256, .f32⟩
  | 87 => ⟨S1x1x256, .f32⟩
  | 88 => ⟨S1x1x256, .f32⟩
  | 89 => ⟨S1x1x256, .f32⟩
  | 90 => ⟨S1x1x256, .f32⟩
  | 91 => ⟨S1x1x256, .f32⟩
  | 92 => ⟨S1x1x256, .f32⟩
  | 93 => ⟨S1x1x256, .f32⟩
  | 94 => ⟨S1x1x256, .f32⟩
  | 95 => ⟨S1x1x256, .f32⟩
  | 96 => ⟨S1x1x256, .f32⟩
  | 97 => ⟨S1x1x256, .f32⟩
  | 98 => ⟨S1x1x256, .f32⟩
  | 99 => ⟨S1x1x256, .f32⟩
  | 100 => ⟨S1x1x256, .f32⟩
  | 101 => ⟨S1x1x256, .f32⟩
  | 102 => ⟨S1x1x256, .f32⟩
  | 103 => ⟨S1x1x256, .f32⟩
  | 104 => ⟨S1x1x256, .f32⟩
  | 105 => ⟨S1x1x256, .f32⟩
  | 106 => ⟨S1x1x256, .f32⟩
  | 107 => ⟨S1x1x256, .f32⟩
  | 108 => ⟨S1x1x256, .f32⟩
  | 109 => ⟨S1x1x256, .f32⟩
  | 110 => ⟨S1x1x256, .f32⟩
  | 111 => ⟨S1x1x256, .f32⟩
  | 112 => ⟨S1x32x256, .f32⟩
  | 113 => ⟨S1x32x256, .f32⟩
  | 114 => ⟨S1x32x1, .f32⟩
  | 115 => ⟨S1x32x1, .f32⟩
  | 116 => ⟨S1x1x300, .f32⟩
  | 117 => ⟨S1x1x300, .f32⟩
  | 118 => ⟨S1x1x300, .f32⟩
  | 119 => ⟨S1x1x300, .f32⟩
  | 120 => ⟨S1x1x300, .f32⟩
  | 121 => ⟨S1x1x300, .f32⟩
  | 122 => ⟨S1x1x300, .f32⟩
  | 123 => ⟨S1x1x300, .f32⟩
  | 124 => ⟨S1x1x300, .f32⟩
  | 125 => ⟨S1x1x300, .f32⟩
  | 126 => ⟨S1x1x300, .f32⟩
  | 127 => ⟨S1x1x300, .f32⟩
  | _ => ⟨S30000x256, .f32⟩

abbrev vmemTy0_2 (i : Nat) : BufTy := match i % 128 with
  | 0 => ⟨S1x1x300, .f32⟩
  | 1 => ⟨S1x1x300, .f32⟩
  | 2 => ⟨S1x1x300, .f32⟩
  | 3 => ⟨S1x1x300, .f32⟩
  | 4 => ⟨S1x1x300, .f32⟩
  | 5 => ⟨S1x1x300, .f32⟩
  | 6 => ⟨S1x1x300, .f32⟩
  | 7 => ⟨S1x1x300, .f32⟩
  | 8 => ⟨S1x1x300, .f32⟩
  | 9 => ⟨S1x1x300, .f32⟩
  | 10 => ⟨S1x1x300, .f32⟩
  | 11 => ⟨S1x1x300, .f32⟩
  | 12 => ⟨S1x1x300, .f32⟩
  | 13 => ⟨S1x1x300, .f32⟩
  | 14 => ⟨S1x1x300, .f32⟩
  | 15 => ⟨S1x1x300, .f32⟩
  | 16 => ⟨S1x1x300, .f32⟩
  | 17 => ⟨S1x1x300, .f32⟩
  | 18 => ⟨S1x1x300, .f32⟩
  | 19 => ⟨S1x1x300, .f32⟩
  | 20 => ⟨S1x1x300, .f32⟩
  | 21 => ⟨S1x1x300, .f32⟩
  | 22 => ⟨S1x1x300, .f32⟩
  | 23 => ⟨S1x1x300, .f32⟩
  | 24 => ⟨S1x1x300, .f32⟩
  | 25 => ⟨S1x1x300, .f32⟩
  | 26 => ⟨S1x1x300, .f32⟩
  | 27 => ⟨S1x1x300, .f32⟩
  | 28 => ⟨S1x1x300, .f32⟩
  | 29 => ⟨S1x1x300, .f32⟩
  | 30 => ⟨S1x1x300, .f32⟩
  | 31 => ⟨S1x1x300, .f32⟩
  | 32 => ⟨S1x1x300, .f32⟩
  | 33 => ⟨S1x1x300, .f32⟩
  | 34 => ⟨S1x1x300, .f32⟩
  | 35 => ⟨S1x1x300, .f32⟩
  | 36 => ⟨S1x1x300, .f32⟩
  | 37 => ⟨S1x1x300, .f32⟩
  | 38 => ⟨S1x1x300, .f32⟩
  | 39 => ⟨S1x1x300, .f32⟩
  | 40 => ⟨S1x1x300, .f32⟩
  | 41 => ⟨S1x1x300, .f32⟩
  | 42 => ⟨S1x1x300, .f32⟩
  | 43 => ⟨S1x1x300, .f32⟩
  | 44 => ⟨S1x1x300, .f32⟩
  | 45 => ⟨S1x1x300, .f32⟩
  | 46 => ⟨S1x1x300, .f32⟩
  | 47 => ⟨S1x1x300, .f32⟩
  | 48 => ⟨S1x1x300, .f32⟩
  | 49 => ⟨S1x1x300, .f32⟩
  | 50 => ⟨S1x1x300, .f32⟩
  | 51 => ⟨S1x1x300, .f32⟩
  | 52 => ⟨S1x32x300, .f32⟩
  | 53 => ⟨S1x32x300, .f32⟩
  | 54 => ⟨S1x32x1, .f32⟩
  | 55 => ⟨S1x32x1, .f32⟩
  | 56 => ⟨S1x1x300, .f32⟩
  | 57 => ⟨S1x1x300, .f32⟩
  | 58 => ⟨S1x1x300, .f32⟩
  | 59 => ⟨S1x1x300, .f32⟩
  | 60 => ⟨S1x1x300, .f32⟩
  | 61 => ⟨S1x1x300, .f32⟩
  | 62 => ⟨S1x1x300, .f32⟩
  | 63 => ⟨S1x1x300, .f32⟩
  | 64 => ⟨S1x1x300, .f32⟩
  | 65 => ⟨S1x1x300, .f32⟩
  | 66 => ⟨S1x1x300, .f32⟩
  | 67 => ⟨S1x1x300, .f32⟩
  | 68 => ⟨S1x1x300, .f32⟩
  | 69 => ⟨S1x1x300, .f32⟩
  | 70 => ⟨S1x1x300, .f32⟩
  | 71 => ⟨S1x1x300, .f32⟩
  | 72 => ⟨S1x1x300, .f32⟩
  | 73 => ⟨S1x1x300, .f32⟩
  | 74 => ⟨S1x1x300, .f32⟩
  | 75 => ⟨S1x1x300, .f32⟩
  | 76 => ⟨S1x1x300, .f32⟩
  | 77 => ⟨S1x1x300, .f32⟩
  | 78 => ⟨S1x1x300, .f32⟩
  | 79 => ⟨S1x1x300, .f32⟩
  | 80 => ⟨S1x1x300, .f32⟩
  | 81 => ⟨S1x1x300, .f32⟩
  | 82 => ⟨S1x1x300, .f32⟩
  | 83 => ⟨S1x1x300, .f32⟩
  | 84 => ⟨S1x1x300, .f32⟩
  | 85 => ⟨S1x1x300, .f32⟩
  | 86 => ⟨S1x1x300, .f32⟩
  | 87 => ⟨S1x1x300, .f32⟩
  | 88 => ⟨S1x1x300, .f32⟩
  | 89 => ⟨S1x1x300, .f32⟩
  | 90 => ⟨S1x1x300, .f32⟩
  | 91 => ⟨S1x1x300, .f32⟩
  | 92 => ⟨S1x1x300, .f32⟩
  | 93 => ⟨S1x1x300, .f32⟩
  | 94 => ⟨S1x1x300, .f32⟩
  | 95 => ⟨S1x1x300, .f32⟩
  | 96 => ⟨S1x1x300, .f32⟩
  | 97 => ⟨S1x1x300, .f32⟩
  | 98 => ⟨S1x1x300, .f32⟩
  | 99 => ⟨S1x1x300, .f32⟩
  | 100 => ⟨S1x1x300, .f32⟩
  | 101 => ⟨S1x1x300, .f32⟩
  | 102 => ⟨S1x1x300, .f32⟩
  | 103 => ⟨S1x1x300, .f32⟩
  | 104 => ⟨S1x1x300, .f32⟩
  | 105 => ⟨S1x1x300, .f32⟩
  | 106 => ⟨S1x1x300, .f32⟩
  | 107 => ⟨S1x1x300, .f32⟩
  | 108 => ⟨S1x1x300, .f32⟩
  | 109 => ⟨S1x1x300, .f32⟩
  | 110 => ⟨S1x1x300, .f32⟩
  | 111 => ⟨S1x1x300, .f32⟩
  | 112 => ⟨S1x1x300, .f32⟩
  | 113 => ⟨S1x1x300, .f32⟩
  | 114 => ⟨S1x1x300, .f32⟩
  | 115 => ⟨S1x1x300, .f32⟩
  | 116 => ⟨S1x1x300, .f32⟩
  | 117 => ⟨S1x1x300, .f32⟩
  | 118 => ⟨S1x1x300, .f32⟩
  | 119 => ⟨S1x1x300, .f32⟩
  | 120 => ⟨S1x32x300, .f32⟩
  | 121 => ⟨S1x32x300, .f32⟩
  | 122 => ⟨S1x32x1, .f32⟩
  | 123 => ⟨S1x32x1, .f32⟩
  | 124 => ⟨S1x1x128, .f32⟩
  | 125 => ⟨S1x1x128, .f32⟩
  | 126 => ⟨S1x1x128, .f32⟩
  | 127 => ⟨S1x1x128, .f32⟩
  | _ => ⟨S30000x256, .f32⟩

abbrev vmemTy0_3 (i : Nat) : BufTy := match i % 128 with
  | 0 => ⟨S1x1x128, .f32⟩
  | 1 => ⟨S1x1x128, .f32⟩
  | 2 => ⟨S1x1x128, .f32⟩
  | 3 => ⟨S1x1x128, .f32⟩
  | 4 => ⟨S1x1x128, .f32⟩
  | 5 => ⟨S1x1x128, .f32⟩
  | 6 => ⟨S1x1x128, .f32⟩
  | 7 => ⟨S1x1x128, .f32⟩
  | 8 => ⟨S1x1x128, .f32⟩
  | 9 => ⟨S1x1x128, .f32⟩
  | 10 => ⟨S1x1x128, .f32⟩
  | 11 => ⟨S1x1x128, .f32⟩
  | 12 => ⟨S1x1x128, .f32⟩
  | 13 => ⟨S1x1x128, .f32⟩
  | 14 => ⟨S1x1x128, .f32⟩
  | 15 => ⟨S1x1x128, .f32⟩
  | 16 => ⟨S1x1x128, .f32⟩
  | 17 => ⟨S1x1x128, .f32⟩
  | 18 => ⟨S1x1x128, .f32⟩
  | 19 => ⟨S1x1x128, .f32⟩
  | 20 => ⟨S1x1x128, .f32⟩
  | 21 => ⟨S1x1x128, .f32⟩
  | 22 => ⟨S1x1x128, .f32⟩
  | 23 => ⟨S1x1x128, .f32⟩
  | 24 => ⟨S1x1x128, .f32⟩
  | 25 => ⟨S1x1x128, .f32⟩
  | 26 => ⟨S1x1x128, .f32⟩
  | 27 => ⟨S1x1x128, .f32⟩
  | 28 => ⟨S1x1x128, .f32⟩
  | 29 => ⟨S1x1x128, .f32⟩
  | 30 => ⟨S1x1x128, .f32⟩
  | 31 => ⟨S1x1x128, .f32⟩
  | 32 => ⟨S1x1x128, .f32⟩
  | 33 => ⟨S1x1x128, .f32⟩
  | 34 => ⟨S1x1x128, .f32⟩
  | 35 => ⟨S1x1x128, .f32⟩
  | 36 => ⟨S1x1x128, .f32⟩
  | 37 => ⟨S1x1x128, .f32⟩
  | 38 => ⟨S1x1x128, .f32⟩
  | 39 => ⟨S1x1x128, .f32⟩
  | 40 => ⟨S1x1x128, .f32⟩
  | 41 => ⟨S1x1x128, .f32⟩
  | 42 => ⟨S1x1x128, .f32⟩
  | 43 => ⟨S1x1x128, .f32⟩
  | 44 => ⟨S1x1x128, .f32⟩
  | 45 => ⟨S1x1x128, .f32⟩
  | 46 => ⟨S1x1x128, .f32⟩
  | 47 => ⟨S1x1x128, .f32⟩
  | 48 => ⟨S1x1x128, .f32⟩
  | 49 => ⟨S1x1x128, .f32⟩
  | 50 => ⟨S1x1x128, .f32⟩
  | 51 => ⟨S1x1x128, .f32⟩
  | 52 => ⟨S1x1x128, .f32⟩
  | 53 => ⟨S1x1x128, .f32⟩
  | 54 => ⟨S1x1x128, .f32⟩
  | 55 => ⟨S1x1x128, .f32⟩
  | 56 => ⟨S1x1x128, .f32⟩
  | 57 => ⟨S1x1x128, .f32⟩
  | 58 => ⟨S1x1x128, .f32⟩
  | 59 => ⟨S1x1x128, .f32⟩
  | 60 => ⟨S1x32x128, .f32⟩
  | 61 => ⟨S1x32x128, .f32⟩
  | 62 => ⟨S1x32x1, .f32⟩
  | 63 => ⟨S1x32x1, .f32⟩
  | 64 => ⟨S1x1x128, .f32⟩
  | 65 => ⟨S1x1x128, .f32⟩
  | 66 => ⟨S1x1x128, .f32⟩
  | 67 => ⟨S1x1x128, .f32⟩
  | 68 => ⟨S1x1x128, .f32⟩
  | 69 => ⟨S1x1x128, .f32⟩
  | 70 => ⟨S1x1x128, .f32⟩
  | 71 => ⟨S1x1x128, .f32⟩
  | 72 => ⟨S1x1x128, .f32⟩
  | 73 => ⟨S1x1x128, .f32⟩
  | 74 => ⟨S1x1x128, .f32⟩
  | 75 => ⟨S1x1x128, .f32⟩
  | 76 => ⟨S1x1x128, .f32⟩
  | 77 => ⟨S1x1x128, .f32⟩
  | 78 => ⟨S1x1x128, .f32⟩
  | 79 => ⟨S1x1x128, .f32⟩
  | 80 => ⟨S1x1x128, .f32⟩
  | 81 => ⟨S1x1x128, .f32⟩
  | 82 => ⟨S1x1x128, .f32⟩
  | 83 => ⟨S1x1x128, .f32⟩
  | 84 => ⟨S1x1x128, .f32⟩
  | 85 => ⟨S1x1x128, .f32⟩
  | 86 => ⟨S1x1x128, .f32⟩
  | 87 => ⟨S1x1x128, .f32⟩
  | 88 => ⟨S1x1x128, .f32⟩
  | 89 => ⟨S1x1x128, .f32⟩
  | 90 => ⟨S1x1x128, .f32⟩
  | 91 => ⟨S1x1x128, .f32⟩
  | 92 => ⟨S1x1x128, .f32⟩
  | 93 => ⟨S1x1x128, .f32⟩
  | 94 => ⟨S1x1x128, .f32⟩
  | 95 => ⟨S1x1x128, .f32⟩
  | 96 => ⟨S1x1x128, .f32⟩
  | 97 => ⟨S1x1x128, .f32⟩
  | 98 => ⟨S1x1x128, .f32⟩
  | 99 => ⟨S1x1x128, .f32⟩
  | 100 => ⟨S1x1x128, .f32⟩
  | 101 => ⟨S1x1x128, .f32⟩
  | 102 => ⟨S1x1x128, .f32⟩
  | 103 => ⟨S1x1x128, .f32⟩
  | 104 => ⟨S1x1x128, .f32⟩
  | 105 => ⟨S1x1x128, .f32⟩
  | 106 => ⟨S1x1x128, .f32⟩
  | 107 => ⟨S1x1x128, .f32⟩
  | 108 => ⟨S1x1x128, .f32⟩
  | 109 => ⟨S1x1x128, .f32⟩
  | 110 => ⟨S1x1x128, .f32⟩
  | 111 => ⟨S1x1x128, .f32⟩
  | 112 => ⟨S1x1x128, .f32⟩
  | 113 => ⟨S1x1x128, .f32⟩
  | 114 => ⟨S1x1x128, .f32⟩
  | 115 => ⟨S1x1x128, .f32⟩
  | 116 => ⟨S1x1x128, .f32⟩
  | 117 => ⟨S1x1x128, .f32⟩
  | 118 => ⟨S1x1x128, .f32⟩
  | 119 => ⟨S1x1x128, .f32⟩
  | 120 => ⟨S1x1x128, .f32⟩
  | 121 => ⟨S1x1x128, .f32⟩
  | 122 => ⟨S1x1x128, .f32⟩
  | 123 => ⟨S1x1x128, .f32⟩
  | 124 => ⟨S1x1x128, .f32⟩
  | 125 => ⟨S1x1x128, .f32⟩
  | 126 => ⟨S1x1x128, .f32⟩
  | 127 => ⟨S1x1x128, .f32⟩
  | _ => ⟨S30000x256, .f32⟩

abbrev vmemTy0_4 (i : Nat) : BufTy := match i % 128 with
  | 0 => ⟨S1x32x128, .f32⟩
  | 1 => ⟨S1x32x128, .f32⟩
  | 2 => ⟨S1x32x1, .f32⟩
  | 3 => ⟨S1x32x1, .f32⟩
  | 4 => ⟨S256x128, .f32⟩
  | 5 => ⟨S256x128, .f32⟩
  | 6 => ⟨S256x128, .f32⟩
  | 7 => ⟨S512x256, .f32⟩
  | 8 => ⟨S512x256, .f32⟩
  | 9 => ⟨S512x300, .f32⟩
  | 10 => ⟨S512x300, .f32⟩
  | 11 => ⟨S512x128, .f32⟩
  | 12 => ⟨S512x128, .f32⟩
  | 13 => ⟨S1x1, .f32⟩
  | _ => ⟨S30000x256, .f32⟩

abbrev vmemTy (i : Nat) : BufTy := match i / 128 with
  | 0 => vmemTy0_0 i
  | 1 => vmemTy0_1 i
  | 2 => vmemTy0_2 i
  | 3 => vmemTy0_3 i
  | 4 => vmemTy0_4 i
  | _ => ⟨S30000x256, .f32⟩

abbrev bufTy : (tb : Table) → Fin (tcTables nBuf tb) → BufTy
  | .hbm, ⟨0, _⟩ => ⟨S30000x256, .f32⟩
  | .hbm, ⟨1, _⟩ => ⟨S30000x256, .f32⟩
  | .hbm, ⟨2, _⟩ => ⟨S30000x300, .f32⟩
  | .hbm, ⟨3, _⟩ => ⟨S30000x300, .f32⟩
  | .hbm, ⟨4, _⟩ => ⟨S30000x128, .f32⟩
  | .hbm, ⟨5, _⟩ => ⟨S30000x128, .f32⟩
  | .hbm, ⟨6, _⟩ => ⟨S512x2, .i32⟩
  | .hbm, ⟨7, _⟩ => ⟨S12x16x512, .i32⟩
  | .hbm, ⟨8, _⟩ => ⟨S512x1, .i32⟩
  | .hbm, ⟨9, _⟩ => ⟨S512, .i32⟩
  | .hbm, ⟨10, _⟩ => ⟨S512x1, .i32⟩
  | .hbm, ⟨11, _⟩ => ⟨S512, .i32⟩
  | .hbm, ⟨12, _⟩ => ⟨S30000x1x256, .f32⟩
  | .hbm, ⟨13, _⟩ => ⟨S30000x1x256, .f32⟩
  | .hbm, ⟨14, _⟩ => ⟨S30000x1x300, .f32⟩
  | .hbm, ⟨15, _⟩ => ⟨S30000x1x300, .f32⟩
  | .hbm, ⟨16, _⟩ => ⟨S30000x1x128, .f32⟩
  | .hbm, ⟨17, _⟩ => ⟨S30000x1x128, .f32⟩
  | .hbm, ⟨18, _⟩ => ⟨S512x256, .f32⟩
  | .hbm, ⟨19, _⟩ => ⟨S512x256, .f32⟩
  | .hbm, ⟨20, _⟩ => ⟨S512x300, .f32⟩
  | .hbm, ⟨21, _⟩ => ⟨S512x300, .f32⟩
  | .hbm, ⟨22, _⟩ => ⟨S512x128, .f32⟩
  | .hbm, ⟨23, _⟩ => ⟨S512x128, .f32⟩
  | .hbm, ⟨24, _⟩ => ⟨S1x512x256, .f32⟩
  | .hbm, ⟨25, _⟩ => ⟨S1x512x256, .f32⟩
  | .hbm, ⟨26, _⟩ => ⟨S2x512x256, .f32⟩
  | .hbm, ⟨27, _⟩ => ⟨S1x512x300, .f32⟩
  | .hbm, ⟨28, _⟩ => ⟨S1x512x300, .f32⟩
  | .hbm, ⟨29, _⟩ => ⟨S2x512x300, .f32⟩
  | .hbm, ⟨30, _⟩ => ⟨S1x512x128, .f32⟩
  | .hbm, ⟨31, _⟩ => ⟨S1x512x128, .f32⟩
  | .hbm, ⟨32, _⟩ => ⟨S2x512x128, .f32⟩
  | .hbm, ⟨33, _⟩ => ⟨S1x16x512, .i32⟩
  | .hbm, ⟨34, _⟩ => ⟨S16x512, .i32⟩
  | .hbm, ⟨35, _⟩ => ⟨S1x16x512, .i32⟩
  | .hbm, ⟨36, _⟩ => ⟨S16x512, .i32⟩
  | .hbm, ⟨37, _⟩ => ⟨S1x16x512, .i32⟩
  | .hbm, ⟨38, _⟩ => ⟨S1x16x512, .i32⟩
  | .hbm, ⟨39, _⟩ => ⟨S2x16x512, .i32⟩
  | .hbm, ⟨40, _⟩ => ⟨S2x16x16x32, .i32⟩
  | .hbm, ⟨41, _⟩ => ⟨S2x16x16x32, .i32⟩
  | .hbm, ⟨42, _⟩ => ⟨S30000x1x256, .f32⟩
  | .hbm, ⟨43, _⟩ => ⟨S512x32x1, .f32⟩
  | .hbm, ⟨44, _⟩ => ⟨S1x16x512, .i32⟩
  | .hbm, ⟨45, _⟩ => ⟨S16x512, .i32⟩
  | .hbm, ⟨46, _⟩ => ⟨S1x16x512, .i32⟩
  | .hbm, ⟨47, _⟩ => ⟨S16x512, .i32⟩
  | .hbm, ⟨48, _⟩ => ⟨S1x16x512, .i32⟩
  | .hbm, ⟨49, _⟩ => ⟨S1x16x512, .i32⟩
  | .hbm, ⟨50, _⟩ => ⟨S2x16x512, .i32⟩
  | .hbm, ⟨51, _⟩ => ⟨S2x16x16x32, .i32⟩
  | .hbm, ⟨52, _⟩ => ⟨S2x16x16x32, .i32⟩
  | .hbm, ⟨53, _⟩ => ⟨S30000x1x256, .f32⟩
  | .hbm, ⟨54, _⟩ => ⟨S512x32x1, .f32⟩
  | .hbm, ⟨55, _⟩ => ⟨S1x16x512, .i32⟩
  | .hbm, ⟨56, _⟩ => ⟨S16x512, .i32⟩
  | .hbm, ⟨57, _⟩ => ⟨S1x16x512, .i32⟩
  | .hbm, ⟨58, _⟩ => ⟨S16x512, .i32⟩
  | .hbm, ⟨59, _⟩ => ⟨S1x16x512, .i32⟩
  | .hbm, ⟨60, _⟩ => ⟨S1x16x512, .i32⟩
  | .hbm, ⟨61, _⟩ => ⟨S2x16x512, .i32⟩
  | .hbm, ⟨62, _⟩ => ⟨S2x16x16x32, .i32⟩
  | .hbm, ⟨63, _⟩ => ⟨S2x16x16x32, .i32⟩
  | .hbm, ⟨64, _⟩ => ⟨S30000x1x300, .f32⟩
  | .hbm, ⟨65, _⟩ => ⟨S512x32x1, .f32⟩
  | .hbm, ⟨66, _⟩ => ⟨S1x16x512, .i32⟩
  | .hbm, ⟨67, _⟩ => ⟨S16x512, .i32⟩
  | .hbm, ⟨68, _⟩ => ⟨S1x16x512, .i32⟩
  | .hbm, ⟨69, _⟩ => ⟨S16x512, .i32⟩
  | .hbm, ⟨70, _⟩ => ⟨S1x16x512, .i32⟩
  | .hbm, ⟨71, _⟩ => ⟨S1x16x512, .i32⟩
  | .hbm, ⟨72, _⟩ => ⟨S2x16x512, .i32⟩
  | .hbm, ⟨73, _⟩ => ⟨S2x16x16x32, .i32⟩
  | .hbm, ⟨74, _⟩ => ⟨S2x16x16x32, .i32⟩
  | .hbm, ⟨75, _⟩ => ⟨S30000x1x300, .f32⟩
  | .hbm, ⟨76, _⟩ => ⟨S512x32x1, .f32⟩
  | .hbm, ⟨77, _⟩ => ⟨S1x16x512, .i32⟩
  | .hbm, ⟨78, _⟩ => ⟨S16x512, .i32⟩
  | .hbm, ⟨79, _⟩ => ⟨S1x16x512, .i32⟩
  | .hbm, ⟨80, _⟩ => ⟨S16x512, .i32⟩
  | .hbm, ⟨81, _⟩ => ⟨S1x16x512, .i32⟩
  | .hbm, ⟨82, _⟩ => ⟨S1x16x512, .i32⟩
  | .hbm, ⟨83, _⟩ => ⟨S2x16x512, .i32⟩
  | .hbm, ⟨84, _⟩ => ⟨S2x16x16x32, .i32⟩
  | .hbm, ⟨85, _⟩ => ⟨S2x16x16x32, .i32⟩
  | .hbm, ⟨86, _⟩ => ⟨S30000x1x128, .f32⟩
  | .hbm, ⟨87, _⟩ => ⟨S512x32x1, .f32⟩
  | .hbm, ⟨88, _⟩ => ⟨S1x16x512, .i32⟩
  | .hbm, ⟨89, _⟩ => ⟨S16x512, .i32⟩
  | .hbm, ⟨90, _⟩ => ⟨S1x16x512, .i32⟩
  | .hbm, ⟨91, _⟩ => ⟨S16x512, .i32⟩
  | .hbm, ⟨92, _⟩ => ⟨S1x16x512, .i32⟩
  | .hbm, ⟨93, _⟩ => ⟨S1x16x512, .i32⟩
  | .hbm, ⟨94, _⟩ => ⟨S2x16x512, .i32⟩
  | .hbm, ⟨95, _⟩ => ⟨S2x16x16x32, .i32⟩
  | .hbm, ⟨96, _⟩ => ⟨S2x16x16x32, .i32⟩
  | .hbm, ⟨97, _⟩ => ⟨S30000x1x128, .f32⟩
  | .hbm, ⟨98, _⟩ => ⟨S512x32x1, .f32⟩
  | .hbm, ⟨99, _⟩ => ⟨S16384, .f32⟩
  | .hbm, ⟨100, _⟩ => ⟨S16384, .f32⟩
  | .hbm, ⟨101, _⟩ => ⟨S32768, .f32⟩
  | .hbm, ⟨102, _⟩ => ⟨S256x128, .f32⟩
  | .hbm, ⟨103, _⟩ => ⟨S16384, .f32⟩
  | .hbm, ⟨104, _⟩ => ⟨S16384, .f32⟩
  | .hbm, ⟨105, _⟩ => ⟨S32768, .f32⟩
  | .hbm, ⟨106, _⟩ => ⟨S256x128, .f32⟩
  | .hbm, ⟨107, _⟩ => ⟨S16384, .f32⟩
  | .hbm, ⟨108, _⟩ => ⟨S16384, .f32⟩
  | .hbm, ⟨109, _⟩ => ⟨S32768, .f32⟩
  | .hbm, ⟨110, _⟩ => ⟨S256x128, .f32⟩
  | .hbm, ⟨111, _⟩ => ⟨S1x1, .f32⟩
  | .hbm, ⟨112, _⟩ => ⟨S_, .f32⟩
  | .local _ .vmem, ⟨i, _⟩ => vmemTy i
  | .local _ .smem, ⟨0, _⟩ => ⟨S1024, .i32⟩
  | .local _ .smem, ⟨1, _⟩ => ⟨S16384, .i32⟩
  | .local _ .smem, ⟨2, _⟩ => ⟨S16384, .i32⟩
  | .local _ .smem, ⟨3, _⟩ => ⟨S16384, .i32⟩
  | .local _ .smem, ⟨4, _⟩ => ⟨S16384, .i32⟩
  | .local _ .smem, ⟨5, _⟩ => ⟨S16384, .i32⟩
  | .local _ .smem, ⟨6, _⟩ => ⟨S16384, .i32⟩
  | _, _ => ⟨S30000x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_4 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | 4 => dmaSemScopedAt0_4 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_4 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | _ => false

abbrev vmemScopedAt (i : Nat) : Bool := match i / 128 with
  | 0 => vmemScopedAt0_0 i
  | 1 => vmemScopedAt0_1 i
  | 2 => vmemScopedAt0_2 i
  | 3 => vmemScopedAt0_3 i
  | 4 => vmemScopedAt0_4 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 526 → Bool
  | ⟨i, _⟩ => dmaSemScopedAt i

abbrev sig : RefSig :=
  ofTc nBuf bufTy 0 526 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v11_5 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v4 : Ref sig .tc := ⟨.smem, 0, rfl⟩
abbrev main_v30 : Ref sig .tc := ⟨.smem, 1, rfl⟩
abbrev main_v42 : Ref sig .tc := ⟨.smem, 2, rfl⟩
abbrev main_v54 : Ref sig .tc := ⟨.smem, 3, rfl⟩
abbrev main_v66 : Ref sig .tc := ⟨.smem, 4, rfl⟩
abbrev main_v78 : Ref sig .tc := ⟨.smem, 5, rfl⟩
abbrev main_v90 : Ref sig .tc := ⟨.smem, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_stg37_0 : Ref sig .tc := ⟨.vmem, 74, rfl⟩
abbrev cc0_stg37_1 : Ref sig .tc := ⟨.vmem, 75, rfl⟩
abbrev cc0_stg38_0 : Ref sig .tc := ⟨.vmem, 76, rfl⟩
abbrev cc0_stg38_1 : Ref sig .tc := ⟨.vmem, 77, rfl⟩
abbrev cc0_stg39_0 : Ref sig .tc := ⟨.vmem, 78, rfl⟩
abbrev cc0_stg39_1 : Ref sig .tc := ⟨.vmem, 79, rfl⟩
abbrev cc0_stg40_0 : Ref sig .tc := ⟨.vmem, 80, rfl⟩
abbrev cc0_stg40_1 : Ref sig .tc := ⟨.vmem, 81, rfl⟩
abbrev cc0_stg41_0 : Ref sig .tc := ⟨.vmem, 82, rfl⟩
abbrev cc0_stg41_1 : Ref sig .tc := ⟨.vmem, 83, rfl⟩
abbrev cc0_stg42_0 : Ref sig .tc := ⟨.vmem, 84, rfl⟩
abbrev cc0_stg42_1 : Ref sig .tc := ⟨.vmem, 85, rfl⟩
abbrev cc0_stg43_0 : Ref sig .tc := ⟨.vmem, 86, rfl⟩
abbrev cc0_stg43_1 : Ref sig .tc := ⟨.vmem, 87, rfl⟩
abbrev cc0_stg44_0 : Ref sig .tc := ⟨.vmem, 88, rfl⟩
abbrev cc0_stg44_1 : Ref sig .tc := ⟨.vmem, 89, rfl⟩
abbrev cc0_stg45_0 : Ref sig .tc := ⟨.vmem, 90, rfl⟩
abbrev cc0_stg45_1 : Ref sig .tc := ⟨.vmem, 91, rfl⟩
abbrev cc0_stg46_0 : Ref sig .tc := ⟨.vmem, 92, rfl⟩
abbrev cc0_stg46_1 : Ref sig .tc := ⟨.vmem, 93, rfl⟩
abbrev cc0_stg47_0 : Ref sig .tc := ⟨.vmem, 94, rfl⟩
abbrev cc0_stg47_1 : Ref sig .tc := ⟨.vmem, 95, rfl⟩
abbrev cc0_stg48_0 : Ref sig .tc := ⟨.vmem, 96, rfl⟩
abbrev cc0_stg48_1 : Ref sig .tc := ⟨.vmem, 97, rfl⟩
abbrev cc0_stg49_0 : Ref sig .tc := ⟨.vmem, 98, rfl⟩
abbrev cc0_stg49_1 : Ref sig .tc := ⟨.vmem, 99, rfl⟩
abbrev cc0_stg50_0 : Ref sig .tc := ⟨.vmem, 100, rfl⟩
abbrev cc0_stg50_1 : Ref sig .tc := ⟨.vmem, 101, rfl⟩
abbrev cc0_stg51_0 : Ref sig .tc := ⟨.vmem, 102, rfl⟩
abbrev cc0_stg51_1 : Ref sig .tc := ⟨.vmem, 103, rfl⟩
abbrev cc0_stg52_0 : Ref sig .tc := ⟨.vmem, 104, rfl⟩
abbrev cc0_stg52_1 : Ref sig .tc := ⟨.vmem, 105, rfl⟩
abbrev cc0_stg53_0 : Ref sig .tc := ⟨.vmem, 106, rfl⟩
abbrev cc0_stg53_1 : Ref sig .tc := ⟨.vmem, 107, rfl⟩
abbrev cc1_stg0_0 : Ref sig .tc := ⟨.vmem, 108, rfl⟩
abbrev cc1_stg0_1 : Ref sig .tc := ⟨.vmem, 109, rfl⟩
abbrev cc1_stg1_0 : Ref sig .tc := ⟨.vmem, 110, rfl⟩
abbrev cc1_stg1_1 : Ref sig .tc := ⟨.vmem, 111, rfl⟩
abbrev cc1_stg2_0 : Ref sig .tc := ⟨.vmem, 112, rfl⟩
abbrev cc1_stg2_1 : Ref sig .tc := ⟨.vmem, 113, rfl⟩
abbrev cc1_stg3_0 : Ref sig .tc := ⟨.vmem, 114, rfl⟩
abbrev cc1_stg3_1 : Ref sig .tc := ⟨.vmem, 115, rfl⟩
abbrev cc1_stg4_0 : Ref sig .tc := ⟨.vmem, 116, rfl⟩
abbrev cc1_stg4_1 : Ref sig .tc := ⟨.vmem, 117, rfl⟩
abbrev cc1_stg5_0 : Ref sig .tc := ⟨.vmem, 118, rfl⟩
abbrev cc1_stg5_1 : Ref sig .tc := ⟨.vmem, 119, rfl⟩
abbrev cc1_stg6_0 : Ref sig .tc := ⟨.vmem, 120, rfl⟩
abbrev cc1_stg6_1 : Ref sig .tc := ⟨.vmem, 121, rfl⟩
abbrev cc1_stg7_0 : Ref sig .tc := ⟨.vmem, 122, rfl⟩
abbrev cc1_stg7_1 : Ref sig .tc := ⟨.vmem, 123, rfl⟩
abbrev cc1_stg8_0 : Ref sig .tc := ⟨.vmem, 124, rfl⟩
abbrev cc1_stg8_1 : Ref sig .tc := ⟨.vmem, 125, rfl⟩
abbrev cc1_stg9_0 : Ref sig .tc := ⟨.vmem, 126, rfl⟩
abbrev cc1_stg9_1 : Ref sig .tc := ⟨.vmem, 127, rfl⟩
abbrev cc1_stg10_0 : Ref sig .tc := ⟨.vmem, 128, rfl⟩
abbrev cc1_stg10_1 : Ref sig .tc := ⟨.vmem, 129, rfl⟩
abbrev cc1_stg11_0 : Ref sig .tc := ⟨.vmem, 130, rfl⟩
abbrev cc1_stg11_1 : Ref sig .tc := ⟨.vmem, 131, rfl⟩
abbrev cc1_stg12_0 : Ref sig .tc := ⟨.vmem, 132, rfl⟩
abbrev cc1_stg12_1 : Ref sig .tc := ⟨.vmem, 133, rfl⟩
abbrev cc1_stg13_0 : Ref sig .tc := ⟨.vmem, 134, rfl⟩
abbrev cc1_stg13_1 : Ref sig .tc := ⟨.vmem, 135, rfl⟩
abbrev cc1_stg14_0 : Ref sig .tc := ⟨.vmem, 136, rfl⟩
abbrev cc1_stg14_1 : Ref sig .tc := ⟨.vmem, 137, rfl⟩
abbrev cc1_stg15_0 : Ref sig .tc := ⟨.vmem, 138, rfl⟩
abbrev cc1_stg15_1 : Ref sig .tc := ⟨.vmem, 139, rfl⟩
abbrev cc1_stg16_0 : Ref sig .tc := ⟨.vmem, 140, rfl⟩
abbrev cc1_stg16_1 : Ref sig .tc := ⟨.vmem, 141, rfl⟩
abbrev cc1_stg17_0 : Ref sig .tc := ⟨.vmem, 142, rfl⟩
abbrev cc1_stg17_1 : Ref sig .tc := ⟨.vmem, 143, rfl⟩
abbrev cc1_stg18_0 : Ref sig .tc := ⟨.vmem, 144, rfl⟩
abbrev cc1_stg18_1 : Ref sig .tc := ⟨.vmem, 145, rfl⟩
abbrev cc1_stg19_0 : Ref sig .tc := ⟨.vmem, 146, rfl⟩
abbrev cc1_stg19_1 : Ref sig .tc := ⟨.vmem, 147, rfl⟩
abbrev cc1_stg20_0 : Ref sig .tc := ⟨.vmem, 148, rfl⟩
abbrev cc1_stg20_1 : Ref sig .tc := ⟨.vmem, 149, rfl⟩
abbrev cc1_stg21_0 : Ref sig .tc := ⟨.vmem, 150, rfl⟩
abbrev cc1_stg21_1 : Ref sig .tc := ⟨.vmem, 151, rfl⟩
abbrev cc1_stg22_0 : Ref sig .tc := ⟨.vmem, 152, rfl⟩
abbrev cc1_stg22_1 : Ref sig .tc := ⟨.vmem, 153, rfl⟩
abbrev cc1_stg23_0 : Ref sig .tc := ⟨.vmem, 154, rfl⟩
abbrev cc1_stg23_1 : Ref sig .tc := ⟨.vmem, 155, rfl⟩
abbrev cc1_stg24_0 : Ref sig .tc := ⟨.vmem, 156, rfl⟩
abbrev cc1_stg24_1 : Ref sig .tc := ⟨.vmem, 157, rfl⟩
abbrev cc1_stg25_0 : Ref sig .tc := ⟨.vmem, 158, rfl⟩
abbrev cc1_stg25_1 : Ref sig .tc := ⟨.vmem, 159, rfl⟩
abbrev cc1_stg26_0 : Ref sig .tc := ⟨.vmem, 160, rfl⟩
abbrev cc1_stg26_1 : Ref sig .tc := ⟨.vmem, 161, rfl⟩
abbrev cc1_stg27_0 : Ref sig .tc := ⟨.vmem, 162, rfl⟩
abbrev cc1_stg27_1 : Ref sig .tc := ⟨.vmem, 163, rfl⟩
abbrev cc1_stg28_0 : Ref sig .tc := ⟨.vmem, 164, rfl⟩
abbrev cc1_stg28_1 : Ref sig .tc := ⟨.vmem, 165, rfl⟩
abbrev cc1_stg29_0 : Ref sig .tc := ⟨.vmem, 166, rfl⟩
abbrev cc1_stg29_1 : Ref sig .tc := ⟨.vmem, 167, rfl⟩
abbrev cc1_stg30_0 : Ref sig .tc := ⟨.vmem, 168, rfl⟩
abbrev cc1_stg30_1 : Ref sig .tc := ⟨.vmem, 169, rfl⟩
abbrev cc1_stg31_0 : Ref sig .tc := ⟨.vmem, 170, rfl⟩
abbrev cc1_stg31_1 : Ref sig .tc := ⟨.vmem, 171, rfl⟩
abbrev cc1_stg32_0 : Ref sig .tc := ⟨.vmem, 172, rfl⟩
abbrev cc1_stg32_1 : Ref sig .tc := ⟨.vmem, 173, rfl⟩
abbrev cc1_stg33_0 : Ref sig .tc := ⟨.vmem, 174, rfl⟩
abbrev cc1_stg33_1 : Ref sig .tc := ⟨.vmem, 175, rfl⟩
abbrev cc2_stg0_0 : Ref sig .tc := ⟨.vmem, 176, rfl⟩
abbrev cc2_stg0_1 : Ref sig .tc := ⟨.vmem, 177, rfl⟩
abbrev cc2_stg1_0 : Ref sig .tc := ⟨.vmem, 178, rfl⟩
abbrev cc2_stg1_1 : Ref sig .tc := ⟨.vmem, 179, rfl⟩
abbrev cc2_stg2_0 : Ref sig .tc := ⟨.vmem, 180, rfl⟩
abbrev cc2_stg2_1 : Ref sig .tc := ⟨.vmem, 181, rfl⟩
abbrev cc2_stg3_0 : Ref sig .tc := ⟨.vmem, 182, rfl⟩
abbrev cc2_stg3_1 : Ref sig .tc := ⟨.vmem, 183, rfl⟩
abbrev cc2_stg4_0 : Ref sig .tc := ⟨.vmem, 184, rfl⟩
abbrev cc2_stg4_1 : Ref sig .tc := ⟨.vmem, 185, rfl⟩
abbrev cc2_stg5_0 : Ref sig .tc := ⟨.vmem, 186, rfl⟩
abbrev cc2_stg5_1 : Ref sig .tc := ⟨.vmem, 187, rfl⟩
abbrev cc2_stg6_0 : Ref sig .tc := ⟨.vmem, 188, rfl⟩
abbrev cc2_stg6_1 : Ref sig .tc := ⟨.vmem, 189, rfl⟩
abbrev cc2_stg7_0 : Ref sig .tc := ⟨.vmem, 190, rfl⟩
abbrev cc2_stg7_1 : Ref sig .tc := ⟨.vmem, 191, rfl⟩
abbrev cc2_stg8_0 : Ref sig .tc := ⟨.vmem, 192, rfl⟩
abbrev cc2_stg8_1 : Ref sig .tc := ⟨.vmem, 193, rfl⟩
abbrev cc2_stg9_0 : Ref sig .tc := ⟨.vmem, 194, rfl⟩
abbrev cc2_stg9_1 : Ref sig .tc := ⟨.vmem, 195, rfl⟩
abbrev cc2_stg10_0 : Ref sig .tc := ⟨.vmem, 196, rfl⟩
abbrev cc2_stg10_1 : Ref sig .tc := ⟨.vmem, 197, rfl⟩
abbrev cc2_stg11_0 : Ref sig .tc := ⟨.vmem, 198, rfl⟩
abbrev cc2_stg11_1 : Ref sig .tc := ⟨.vmem, 199, rfl⟩
abbrev cc2_stg12_0 : Ref sig .tc := ⟨.vmem, 200, rfl⟩
abbrev cc2_stg12_1 : Ref sig .tc := ⟨.vmem, 201, rfl⟩
abbrev cc2_stg13_0 : Ref sig .tc := ⟨.vmem, 202, rfl⟩
abbrev cc2_stg13_1 : Ref sig .tc := ⟨.vmem, 203, rfl⟩
abbrev cc2_stg14_0 : Ref sig .tc := ⟨.vmem, 204, rfl⟩
abbrev cc2_stg14_1 : Ref sig .tc := ⟨.vmem, 205, rfl⟩
abbrev cc2_stg15_0 : Ref sig .tc := ⟨.vmem, 206, rfl⟩
abbrev cc2_stg15_1 : Ref sig .tc := ⟨.vmem, 207, rfl⟩
abbrev cc2_stg16_0 : Ref sig .tc := ⟨.vmem, 208, rfl⟩
abbrev cc2_stg16_1 : Ref sig .tc := ⟨.vmem, 209, rfl⟩
abbrev cc2_stg17_0 : Ref sig .tc := ⟨.vmem, 210, rfl⟩
abbrev cc2_stg17_1 : Ref sig .tc := ⟨.vmem, 211, rfl⟩
abbrev cc2_stg18_0 : Ref sig .tc := ⟨.vmem, 212, rfl⟩
abbrev cc2_stg18_1 : Ref sig .tc := ⟨.vmem, 213, rfl⟩
abbrev cc2_stg19_0 : Ref sig .tc := ⟨.vmem, 214, rfl⟩
abbrev cc2_stg19_1 : Ref sig .tc := ⟨.vmem, 215, rfl⟩
abbrev cc2_stg20_0 : Ref sig .tc := ⟨.vmem, 216, rfl⟩
abbrev cc2_stg20_1 : Ref sig .tc := ⟨.vmem, 217, rfl⟩
abbrev cc2_stg21_0 : Ref sig .tc := ⟨.vmem, 218, rfl⟩
abbrev cc2_stg21_1 : Ref sig .tc := ⟨.vmem, 219, rfl⟩
abbrev cc2_stg22_0 : Ref sig .tc := ⟨.vmem, 220, rfl⟩
abbrev cc2_stg22_1 : Ref sig .tc := ⟨.vmem, 221, rfl⟩
abbrev cc2_stg23_0 : Ref sig .tc := ⟨.vmem, 222, rfl⟩
abbrev cc2_stg23_1 : Ref sig .tc := ⟨.vmem, 223, rfl⟩
abbrev cc2_stg24_0 : Ref sig .tc := ⟨.vmem, 224, rfl⟩
abbrev cc2_stg24_1 : Ref sig .tc := ⟨.vmem, 225, rfl⟩
abbrev cc2_stg25_0 : Ref sig .tc := ⟨.vmem, 226, rfl⟩
abbrev cc2_stg25_1 : Ref sig .tc := ⟨.vmem, 227, rfl⟩
abbrev cc2_stg26_0 : Ref sig .tc := ⟨.vmem, 228, rfl⟩
abbrev cc2_stg26_1 : Ref sig .tc := ⟨.vmem, 229, rfl⟩
abbrev cc2_stg27_0 : Ref sig .tc := ⟨.vmem, 230, rfl⟩
abbrev cc2_stg27_1 : Ref sig .tc := ⟨.vmem, 231, rfl⟩
abbrev cc2_stg28_0 : Ref sig .tc := ⟨.vmem, 232, rfl⟩
abbrev cc2_stg28_1 : Ref sig .tc := ⟨.vmem, 233, rfl⟩
abbrev cc2_stg29_0 : Ref sig .tc := ⟨.vmem, 234, rfl⟩
abbrev cc2_stg29_1 : Ref sig .tc := ⟨.vmem, 235, rfl⟩
abbrev cc2_stg30_0 : Ref sig .tc := ⟨.vmem, 236, rfl⟩
abbrev cc2_stg30_1 : Ref sig .tc := ⟨.vmem, 237, rfl⟩
abbrev cc2_stg31_0 : Ref sig .tc := ⟨.vmem, 238, rfl⟩
abbrev cc2_stg31_1 : Ref sig .tc := ⟨.vmem, 239, rfl⟩
abbrev cc2_stg32_0 : Ref sig .tc := ⟨.vmem, 240, rfl⟩
abbrev cc2_stg32_1 : Ref sig .tc := ⟨.vmem, 241, rfl⟩
abbrev cc2_stg33_0 : Ref sig .tc := ⟨.vmem, 242, rfl⟩
abbrev cc2_stg33_1 : Ref sig .tc := ⟨.vmem, 243, rfl⟩
abbrev cc3_stg0_0 : Ref sig .tc := ⟨.vmem, 244, rfl⟩
abbrev cc3_stg0_1 : Ref sig .tc := ⟨.vmem, 245, rfl⟩
abbrev cc3_stg1_0 : Ref sig .tc := ⟨.vmem, 246, rfl⟩
abbrev cc3_stg1_1 : Ref sig .tc := ⟨.vmem, 247, rfl⟩
abbrev cc3_stg2_0 : Ref sig .tc := ⟨.vmem, 248, rfl⟩
abbrev cc3_stg2_1 : Ref sig .tc := ⟨.vmem, 249, rfl⟩
abbrev cc3_stg3_0 : Ref sig .tc := ⟨.vmem, 250, rfl⟩
abbrev cc3_stg3_1 : Ref sig .tc := ⟨.vmem, 251, rfl⟩
abbrev cc3_stg4_0 : Ref sig .tc := ⟨.vmem, 252, rfl⟩
abbrev cc3_stg4_1 : Ref sig .tc := ⟨.vmem, 253, rfl⟩
abbrev cc3_stg5_0 : Ref sig .tc := ⟨.vmem, 254, rfl⟩
abbrev cc3_stg5_1 : Ref sig .tc := ⟨.vmem, 255, rfl⟩
abbrev cc3_stg6_0 : Ref sig .tc := ⟨.vmem, 256, rfl⟩
abbrev cc3_stg6_1 : Ref sig .tc := ⟨.vmem, 257, rfl⟩
abbrev cc3_stg7_0 : Ref sig .tc := ⟨.vmem, 258, rfl⟩
abbrev cc3_stg7_1 : Ref sig .tc := ⟨.vmem, 259, rfl⟩
abbrev cc3_stg8_0 : Ref sig .tc := ⟨.vmem, 260, rfl⟩
abbrev cc3_stg8_1 : Ref sig .tc := ⟨.vmem, 261, rfl⟩
abbrev cc3_stg9_0 : Ref sig .tc := ⟨.vmem, 262, rfl⟩
abbrev cc3_stg9_1 : Ref sig .tc := ⟨.vmem, 263, rfl⟩
abbrev cc3_stg10_0 : Ref sig .tc := ⟨.vmem, 264, rfl⟩
abbrev cc3_stg10_1 : Ref sig .tc := ⟨.vmem, 265, rfl⟩
abbrev cc3_stg11_0 : Ref sig .tc := ⟨.vmem, 266, rfl⟩
abbrev cc3_stg11_1 : Ref sig .tc := ⟨.vmem, 267, rfl⟩
abbrev cc3_stg12_0 : Ref sig .tc := ⟨.vmem, 268, rfl⟩
abbrev cc3_stg12_1 : Ref sig .tc := ⟨.vmem, 269, rfl⟩
abbrev cc3_stg13_0 : Ref sig .tc := ⟨.vmem, 270, rfl⟩
abbrev cc3_stg13_1 : Ref sig .tc := ⟨.vmem, 271, rfl⟩
abbrev cc3_stg14_0 : Ref sig .tc := ⟨.vmem, 272, rfl⟩
abbrev cc3_stg14_1 : Ref sig .tc := ⟨.vmem, 273, rfl⟩
abbrev cc3_stg15_0 : Ref sig .tc := ⟨.vmem, 274, rfl⟩
abbrev cc3_stg15_1 : Ref sig .tc := ⟨.vmem, 275, rfl⟩
abbrev cc3_stg16_0 : Ref sig .tc := ⟨.vmem, 276, rfl⟩
abbrev cc3_stg16_1 : Ref sig .tc := ⟨.vmem, 277, rfl⟩
abbrev cc3_stg17_0 : Ref sig .tc := ⟨.vmem, 278, rfl⟩
abbrev cc3_stg17_1 : Ref sig .tc := ⟨.vmem, 279, rfl⟩
abbrev cc3_stg18_0 : Ref sig .tc := ⟨.vmem, 280, rfl⟩
abbrev cc3_stg18_1 : Ref sig .tc := ⟨.vmem, 281, rfl⟩
abbrev cc3_stg19_0 : Ref sig .tc := ⟨.vmem, 282, rfl⟩
abbrev cc3_stg19_1 : Ref sig .tc := ⟨.vmem, 283, rfl⟩
abbrev cc3_stg20_0 : Ref sig .tc := ⟨.vmem, 284, rfl⟩
abbrev cc3_stg20_1 : Ref sig .tc := ⟨.vmem, 285, rfl⟩
abbrev cc3_stg21_0 : Ref sig .tc := ⟨.vmem, 286, rfl⟩
abbrev cc3_stg21_1 : Ref sig .tc := ⟨.vmem, 287, rfl⟩
abbrev cc3_stg22_0 : Ref sig .tc := ⟨.vmem, 288, rfl⟩
abbrev cc3_stg22_1 : Ref sig .tc := ⟨.vmem, 289, rfl⟩
abbrev cc3_stg23_0 : Ref sig .tc := ⟨.vmem, 290, rfl⟩
abbrev cc3_stg23_1 : Ref sig .tc := ⟨.vmem, 291, rfl⟩
abbrev cc3_stg24_0 : Ref sig .tc := ⟨.vmem, 292, rfl⟩
abbrev cc3_stg24_1 : Ref sig .tc := ⟨.vmem, 293, rfl⟩
abbrev cc3_stg25_0 : Ref sig .tc := ⟨.vmem, 294, rfl⟩
abbrev cc3_stg25_1 : Ref sig .tc := ⟨.vmem, 295, rfl⟩
abbrev cc3_stg26_0 : Ref sig .tc := ⟨.vmem, 296, rfl⟩
abbrev cc3_stg26_1 : Ref sig .tc := ⟨.vmem, 297, rfl⟩
abbrev cc3_stg27_0 : Ref sig .tc := ⟨.vmem, 298, rfl⟩
abbrev cc3_stg27_1 : Ref sig .tc := ⟨.vmem, 299, rfl⟩
abbrev cc3_stg28_0 : Ref sig .tc := ⟨.vmem, 300, rfl⟩
abbrev cc3_stg28_1 : Ref sig .tc := ⟨.vmem, 301, rfl⟩
abbrev cc3_stg29_0 : Ref sig .tc := ⟨.vmem, 302, rfl⟩
abbrev cc3_stg29_1 : Ref sig .tc := ⟨.vmem, 303, rfl⟩
abbrev cc3_stg30_0 : Ref sig .tc := ⟨.vmem, 304, rfl⟩
abbrev cc3_stg30_1 : Ref sig .tc := ⟨.vmem, 305, rfl⟩
abbrev cc3_stg31_0 : Ref sig .tc := ⟨.vmem, 306, rfl⟩
abbrev cc3_stg31_1 : Ref sig .tc := ⟨.vmem, 307, rfl⟩
abbrev cc3_stg32_0 : Ref sig .tc := ⟨.vmem, 308, rfl⟩
abbrev cc3_stg32_1 : Ref sig .tc := ⟨.vmem, 309, rfl⟩
abbrev cc3_stg33_0 : Ref sig .tc := ⟨.vmem, 310, rfl⟩
abbrev cc3_stg33_1 : Ref sig .tc := ⟨.vmem, 311, rfl⟩
abbrev cc4_stg0_0 : Ref sig .tc := ⟨.vmem, 312, rfl⟩
abbrev cc4_stg0_1 : Ref sig .tc := ⟨.vmem, 313, rfl⟩
abbrev cc4_stg1_0 : Ref sig .tc := ⟨.vmem, 314, rfl⟩
abbrev cc4_stg1_1 : Ref sig .tc := ⟨.vmem, 315, rfl⟩
abbrev cc4_stg2_0 : Ref sig .tc := ⟨.vmem, 316, rfl⟩
abbrev cc4_stg2_1 : Ref sig .tc := ⟨.vmem, 317, rfl⟩
abbrev cc4_stg3_0 : Ref sig .tc := ⟨.vmem, 318, rfl⟩
abbrev cc4_stg3_1 : Ref sig .tc := ⟨.vmem, 319, rfl⟩
abbrev cc4_stg4_0 : Ref sig .tc := ⟨.vmem, 320, rfl⟩
abbrev cc4_stg4_1 : Ref sig .tc := ⟨.vmem, 321, rfl⟩
abbrev cc4_stg5_0 : Ref sig .tc := ⟨.vmem, 322, rfl⟩
abbrev cc4_stg5_1 : Ref sig .tc := ⟨.vmem, 323, rfl⟩
abbrev cc4_stg6_0 : Ref sig .tc := ⟨.vmem, 324, rfl⟩
abbrev cc4_stg6_1 : Ref sig .tc := ⟨.vmem, 325, rfl⟩
abbrev cc4_stg7_0 : Ref sig .tc := ⟨.vmem, 326, rfl⟩
abbrev cc4_stg7_1 : Ref sig .tc := ⟨.vmem, 327, rfl⟩
abbrev cc4_stg8_0 : Ref sig .tc := ⟨.vmem, 328, rfl⟩
abbrev cc4_stg8_1 : Ref sig .tc := ⟨.vmem, 329, rfl⟩
abbrev cc4_stg9_0 : Ref sig .tc := ⟨.vmem, 330, rfl⟩
abbrev cc4_stg9_1 : Ref sig .tc := ⟨.vmem, 331, rfl⟩
abbrev cc4_stg10_0 : Ref sig .tc := ⟨.vmem, 332, rfl⟩
abbrev cc4_stg10_1 : Ref sig .tc := ⟨.vmem, 333, rfl⟩
abbrev cc4_stg11_0 : Ref sig .tc := ⟨.vmem, 334, rfl⟩
abbrev cc4_stg11_1 : Ref sig .tc := ⟨.vmem, 335, rfl⟩
abbrev cc4_stg12_0 : Ref sig .tc := ⟨.vmem, 336, rfl⟩
abbrev cc4_stg12_1 : Ref sig .tc := ⟨.vmem, 337, rfl⟩
abbrev cc4_stg13_0 : Ref sig .tc := ⟨.vmem, 338, rfl⟩
abbrev cc4_stg13_1 : Ref sig .tc := ⟨.vmem, 339, rfl⟩
abbrev cc4_stg14_0 : Ref sig .tc := ⟨.vmem, 340, rfl⟩
abbrev cc4_stg14_1 : Ref sig .tc := ⟨.vmem, 341, rfl⟩
abbrev cc4_stg15_0 : Ref sig .tc := ⟨.vmem, 342, rfl⟩
abbrev cc4_stg15_1 : Ref sig .tc := ⟨.vmem, 343, rfl⟩
abbrev cc4_stg16_0 : Ref sig .tc := ⟨.vmem, 344, rfl⟩
abbrev cc4_stg16_1 : Ref sig .tc := ⟨.vmem, 345, rfl⟩
abbrev cc4_stg17_0 : Ref sig .tc := ⟨.vmem, 346, rfl⟩
abbrev cc4_stg17_1 : Ref sig .tc := ⟨.vmem, 347, rfl⟩
abbrev cc4_stg18_0 : Ref sig .tc := ⟨.vmem, 348, rfl⟩
abbrev cc4_stg18_1 : Ref sig .tc := ⟨.vmem, 349, rfl⟩
abbrev cc4_stg19_0 : Ref sig .tc := ⟨.vmem, 350, rfl⟩
abbrev cc4_stg19_1 : Ref sig .tc := ⟨.vmem, 351, rfl⟩
abbrev cc4_stg20_0 : Ref sig .tc := ⟨.vmem, 352, rfl⟩
abbrev cc4_stg20_1 : Ref sig .tc := ⟨.vmem, 353, rfl⟩
abbrev cc4_stg21_0 : Ref sig .tc := ⟨.vmem, 354, rfl⟩
abbrev cc4_stg21_1 : Ref sig .tc := ⟨.vmem, 355, rfl⟩
abbrev cc4_stg22_0 : Ref sig .tc := ⟨.vmem, 356, rfl⟩
abbrev cc4_stg22_1 : Ref sig .tc := ⟨.vmem, 357, rfl⟩
abbrev cc4_stg23_0 : Ref sig .tc := ⟨.vmem, 358, rfl⟩
abbrev cc4_stg23_1 : Ref sig .tc := ⟨.vmem, 359, rfl⟩
abbrev cc4_stg24_0 : Ref sig .tc := ⟨.vmem, 360, rfl⟩
abbrev cc4_stg24_1 : Ref sig .tc := ⟨.vmem, 361, rfl⟩
abbrev cc4_stg25_0 : Ref sig .tc := ⟨.vmem, 362, rfl⟩
abbrev cc4_stg25_1 : Ref sig .tc := ⟨.vmem, 363, rfl⟩
abbrev cc4_stg26_0 : Ref sig .tc := ⟨.vmem, 364, rfl⟩
abbrev cc4_stg26_1 : Ref sig .tc := ⟨.vmem, 365, rfl⟩
abbrev cc4_stg27_0 : Ref sig .tc := ⟨.vmem, 366, rfl⟩
abbrev cc4_stg27_1 : Ref sig .tc := ⟨.vmem, 367, rfl⟩
abbrev cc4_stg28_0 : Ref sig .tc := ⟨.vmem, 368, rfl⟩
abbrev cc4_stg28_1 : Ref sig .tc := ⟨.vmem, 369, rfl⟩
abbrev cc4_stg29_0 : Ref sig .tc := ⟨.vmem, 370, rfl⟩
abbrev cc4_stg29_1 : Ref sig .tc := ⟨.vmem, 371, rfl⟩
abbrev cc4_stg30_0 : Ref sig .tc := ⟨.vmem, 372, rfl⟩
abbrev cc4_stg30_1 : Ref sig .tc := ⟨.vmem, 373, rfl⟩
abbrev cc4_stg31_0 : Ref sig .tc := ⟨.vmem, 374, rfl⟩
abbrev cc4_stg31_1 : Ref sig .tc := ⟨.vmem, 375, rfl⟩
abbrev cc4_stg32_0 : Ref sig .tc := ⟨.vmem, 376, rfl⟩
abbrev cc4_stg32_1 : Ref sig .tc := ⟨.vmem, 377, rfl⟩
abbrev cc4_stg33_0 : Ref sig .tc := ⟨.vmem, 378, rfl⟩
abbrev cc4_stg33_1 : Ref sig .tc := ⟨.vmem, 379, rfl⟩
abbrev cc5_stg0_0 : Ref sig .tc := ⟨.vmem, 380, rfl⟩
abbrev cc5_stg0_1 : Ref sig .tc := ⟨.vmem, 381, rfl⟩
abbrev cc5_stg1_0 : Ref sig .tc := ⟨.vmem, 382, rfl⟩
abbrev cc5_stg1_1 : Ref sig .tc := ⟨.vmem, 383, rfl⟩
abbrev cc5_stg2_0 : Ref sig .tc := ⟨.vmem, 384, rfl⟩
abbrev cc5_stg2_1 : Ref sig .tc := ⟨.vmem, 385, rfl⟩
abbrev cc5_stg3_0 : Ref sig .tc := ⟨.vmem, 386, rfl⟩
abbrev cc5_stg3_1 : Ref sig .tc := ⟨.vmem, 387, rfl⟩
abbrev cc5_stg4_0 : Ref sig .tc := ⟨.vmem, 388, rfl⟩
abbrev cc5_stg4_1 : Ref sig .tc := ⟨.vmem, 389, rfl⟩
abbrev cc5_stg5_0 : Ref sig .tc := ⟨.vmem, 390, rfl⟩
abbrev cc5_stg5_1 : Ref sig .tc := ⟨.vmem, 391, rfl⟩
abbrev cc5_stg6_0 : Ref sig .tc := ⟨.vmem, 392, rfl⟩
abbrev cc5_stg6_1 : Ref sig .tc := ⟨.vmem, 393, rfl⟩
abbrev cc5_stg7_0 : Ref sig .tc := ⟨.vmem, 394, rfl⟩
abbrev cc5_stg7_1 : Ref sig .tc := ⟨.vmem, 395, rfl⟩
abbrev cc5_stg8_0 : Ref sig .tc := ⟨.vmem, 396, rfl⟩
abbrev cc5_stg8_1 : Ref sig .tc := ⟨.vmem, 397, rfl⟩
abbrev cc5_stg9_0 : Ref sig .tc := ⟨.vmem, 398, rfl⟩
abbrev cc5_stg9_1 : Ref sig .tc := ⟨.vmem, 399, rfl⟩
abbrev cc5_stg10_0 : Ref sig .tc := ⟨.vmem, 400, rfl⟩
abbrev cc5_stg10_1 : Ref sig .tc := ⟨.vmem, 401, rfl⟩
abbrev cc5_stg11_0 : Ref sig .tc := ⟨.vmem, 402, rfl⟩
abbrev cc5_stg11_1 : Ref sig .tc := ⟨.vmem, 403, rfl⟩
abbrev cc5_stg12_0 : Ref sig .tc := ⟨.vmem, 404, rfl⟩
abbrev cc5_stg12_1 : Ref sig .tc := ⟨.vmem, 405, rfl⟩
abbrev cc5_stg13_0 : Ref sig .tc := ⟨.vmem, 406, rfl⟩
abbrev cc5_stg13_1 : Ref sig .tc := ⟨.vmem, 407, rfl⟩
abbrev cc5_stg14_0 : Ref sig .tc := ⟨.vmem, 408, rfl⟩
abbrev cc5_stg14_1 : Ref sig .tc := ⟨.vmem, 409, rfl⟩
abbrev cc5_stg15_0 : Ref sig .tc := ⟨.vmem, 410, rfl⟩
abbrev cc5_stg15_1 : Ref sig .tc := ⟨.vmem, 411, rfl⟩
abbrev cc5_stg16_0 : Ref sig .tc := ⟨.vmem, 412, rfl⟩
abbrev cc5_stg16_1 : Ref sig .tc := ⟨.vmem, 413, rfl⟩
abbrev cc5_stg17_0 : Ref sig .tc := ⟨.vmem, 414, rfl⟩
abbrev cc5_stg17_1 : Ref sig .tc := ⟨.vmem, 415, rfl⟩
abbrev cc5_stg18_0 : Ref sig .tc := ⟨.vmem, 416, rfl⟩
abbrev cc5_stg18_1 : Ref sig .tc := ⟨.vmem, 417, rfl⟩
abbrev cc5_stg19_0 : Ref sig .tc := ⟨.vmem, 418, rfl⟩
abbrev cc5_stg19_1 : Ref sig .tc := ⟨.vmem, 419, rfl⟩
abbrev cc5_stg20_0 : Ref sig .tc := ⟨.vmem, 420, rfl⟩
abbrev cc5_stg20_1 : Ref sig .tc := ⟨.vmem, 421, rfl⟩
abbrev cc5_stg21_0 : Ref sig .tc := ⟨.vmem, 422, rfl⟩
abbrev cc5_stg21_1 : Ref sig .tc := ⟨.vmem, 423, rfl⟩
abbrev cc5_stg22_0 : Ref sig .tc := ⟨.vmem, 424, rfl⟩
abbrev cc5_stg22_1 : Ref sig .tc := ⟨.vmem, 425, rfl⟩
abbrev cc5_stg23_0 : Ref sig .tc := ⟨.vmem, 426, rfl⟩
abbrev cc5_stg23_1 : Ref sig .tc := ⟨.vmem, 427, rfl⟩
abbrev cc5_stg24_0 : Ref sig .tc := ⟨.vmem, 428, rfl⟩
abbrev cc5_stg24_1 : Ref sig .tc := ⟨.vmem, 429, rfl⟩
abbrev cc5_stg25_0 : Ref sig .tc := ⟨.vmem, 430, rfl⟩
abbrev cc5_stg25_1 : Ref sig .tc := ⟨.vmem, 431, rfl⟩
abbrev cc5_stg26_0 : Ref sig .tc := ⟨.vmem, 432, rfl⟩
abbrev cc5_stg26_1 : Ref sig .tc := ⟨.vmem, 433, rfl⟩
abbrev cc5_stg27_0 : Ref sig .tc := ⟨.vmem, 434, rfl⟩
abbrev cc5_stg27_1 : Ref sig .tc := ⟨.vmem, 435, rfl⟩
abbrev cc5_stg28_0 : Ref sig .tc := ⟨.vmem, 436, rfl⟩
abbrev cc5_stg28_1 : Ref sig .tc := ⟨.vmem, 437, rfl⟩
abbrev cc5_stg29_0 : Ref sig .tc := ⟨.vmem, 438, rfl⟩
abbrev cc5_stg29_1 : Ref sig .tc := ⟨.vmem, 439, rfl⟩
abbrev cc5_stg30_0 : Ref sig .tc := ⟨.vmem, 440, rfl⟩
abbrev cc5_stg30_1 : Ref sig .tc := ⟨.vmem, 441, rfl⟩
abbrev cc5_stg31_0 : Ref sig .tc := ⟨.vmem, 442, rfl⟩
abbrev cc5_stg31_1 : Ref sig .tc := ⟨.vmem, 443, rfl⟩
abbrev cc5_stg32_0 : Ref sig .tc := ⟨.vmem, 444, rfl⟩
abbrev cc5_stg32_1 : Ref sig .tc := ⟨.vmem, 445, rfl⟩
abbrev cc5_stg33_0 : Ref sig .tc := ⟨.vmem, 446, rfl⟩
abbrev cc5_stg33_1 : Ref sig .tc := ⟨.vmem, 447, rfl⟩
abbrev cc6_stg0_0 : Ref sig .tc := ⟨.vmem, 448, rfl⟩
abbrev cc6_stg0_1 : Ref sig .tc := ⟨.vmem, 449, rfl⟩
abbrev cc6_stg1_0 : Ref sig .tc := ⟨.vmem, 450, rfl⟩
abbrev cc6_stg1_1 : Ref sig .tc := ⟨.vmem, 451, rfl⟩
abbrev cc6_stg2_0 : Ref sig .tc := ⟨.vmem, 452, rfl⟩
abbrev cc6_stg2_1 : Ref sig .tc := ⟨.vmem, 453, rfl⟩
abbrev cc6_stg3_0 : Ref sig .tc := ⟨.vmem, 454, rfl⟩
abbrev cc6_stg3_1 : Ref sig .tc := ⟨.vmem, 455, rfl⟩
abbrev cc6_stg4_0 : Ref sig .tc := ⟨.vmem, 456, rfl⟩
abbrev cc6_stg4_1 : Ref sig .tc := ⟨.vmem, 457, rfl⟩
abbrev cc6_stg5_0 : Ref sig .tc := ⟨.vmem, 458, rfl⟩
abbrev cc6_stg5_1 : Ref sig .tc := ⟨.vmem, 459, rfl⟩
abbrev cc6_stg6_0 : Ref sig .tc := ⟨.vmem, 460, rfl⟩
abbrev cc6_stg6_1 : Ref sig .tc := ⟨.vmem, 461, rfl⟩
abbrev cc6_stg7_0 : Ref sig .tc := ⟨.vmem, 462, rfl⟩
abbrev cc6_stg7_1 : Ref sig .tc := ⟨.vmem, 463, rfl⟩
abbrev cc6_stg8_0 : Ref sig .tc := ⟨.vmem, 464, rfl⟩
abbrev cc6_stg8_1 : Ref sig .tc := ⟨.vmem, 465, rfl⟩
abbrev cc6_stg9_0 : Ref sig .tc := ⟨.vmem, 466, rfl⟩
abbrev cc6_stg9_1 : Ref sig .tc := ⟨.vmem, 467, rfl⟩
abbrev cc6_stg10_0 : Ref sig .tc := ⟨.vmem, 468, rfl⟩
abbrev cc6_stg10_1 : Ref sig .tc := ⟨.vmem, 469, rfl⟩
abbrev cc6_stg11_0 : Ref sig .tc := ⟨.vmem, 470, rfl⟩
abbrev cc6_stg11_1 : Ref sig .tc := ⟨.vmem, 471, rfl⟩
abbrev cc6_stg12_0 : Ref sig .tc := ⟨.vmem, 472, rfl⟩
abbrev cc6_stg12_1 : Ref sig .tc := ⟨.vmem, 473, rfl⟩
abbrev cc6_stg13_0 : Ref sig .tc := ⟨.vmem, 474, rfl⟩
abbrev cc6_stg13_1 : Ref sig .tc := ⟨.vmem, 475, rfl⟩
abbrev cc6_stg14_0 : Ref sig .tc := ⟨.vmem, 476, rfl⟩
abbrev cc6_stg14_1 : Ref sig .tc := ⟨.vmem, 477, rfl⟩
abbrev cc6_stg15_0 : Ref sig .tc := ⟨.vmem, 478, rfl⟩
abbrev cc6_stg15_1 : Ref sig .tc := ⟨.vmem, 479, rfl⟩
abbrev cc6_stg16_0 : Ref sig .tc := ⟨.vmem, 480, rfl⟩
abbrev cc6_stg16_1 : Ref sig .tc := ⟨.vmem, 481, rfl⟩
abbrev cc6_stg17_0 : Ref sig .tc := ⟨.vmem, 482, rfl⟩
abbrev cc6_stg17_1 : Ref sig .tc := ⟨.vmem, 483, rfl⟩
abbrev cc6_stg18_0 : Ref sig .tc := ⟨.vmem, 484, rfl⟩
abbrev cc6_stg18_1 : Ref sig .tc := ⟨.vmem, 485, rfl⟩
abbrev cc6_stg19_0 : Ref sig .tc := ⟨.vmem, 486, rfl⟩
abbrev cc6_stg19_1 : Ref sig .tc := ⟨.vmem, 487, rfl⟩
abbrev cc6_stg20_0 : Ref sig .tc := ⟨.vmem, 488, rfl⟩
abbrev cc6_stg20_1 : Ref sig .tc := ⟨.vmem, 489, rfl⟩
abbrev cc6_stg21_0 : Ref sig .tc := ⟨.vmem, 490, rfl⟩
abbrev cc6_stg21_1 : Ref sig .tc := ⟨.vmem, 491, rfl⟩
abbrev cc6_stg22_0 : Ref sig .tc := ⟨.vmem, 492, rfl⟩
abbrev cc6_stg22_1 : Ref sig .tc := ⟨.vmem, 493, rfl⟩
abbrev cc6_stg23_0 : Ref sig .tc := ⟨.vmem, 494, rfl⟩
abbrev cc6_stg23_1 : Ref sig .tc := ⟨.vmem, 495, rfl⟩
abbrev cc6_stg24_0 : Ref sig .tc := ⟨.vmem, 496, rfl⟩
abbrev cc6_stg24_1 : Ref sig .tc := ⟨.vmem, 497, rfl⟩
abbrev cc6_stg25_0 : Ref sig .tc := ⟨.vmem, 498, rfl⟩
abbrev cc6_stg25_1 : Ref sig .tc := ⟨.vmem, 499, rfl⟩
abbrev cc6_stg26_0 : Ref sig .tc := ⟨.vmem, 500, rfl⟩
abbrev cc6_stg26_1 : Ref sig .tc := ⟨.vmem, 501, rfl⟩
abbrev cc6_stg27_0 : Ref sig .tc := ⟨.vmem, 502, rfl⟩
abbrev cc6_stg27_1 : Ref sig .tc := ⟨.vmem, 503, rfl⟩
abbrev cc6_stg28_0 : Ref sig .tc := ⟨.vmem, 504, rfl⟩
abbrev cc6_stg28_1 : Ref sig .tc := ⟨.vmem, 505, rfl⟩
abbrev cc6_stg29_0 : Ref sig .tc := ⟨.vmem, 506, rfl⟩
abbrev cc6_stg29_1 : Ref sig .tc := ⟨.vmem, 507, rfl⟩
abbrev cc6_stg30_0 : Ref sig .tc := ⟨.vmem, 508, rfl⟩
abbrev cc6_stg30_1 : Ref sig .tc := ⟨.vmem, 509, rfl⟩
abbrev cc6_stg31_0 : Ref sig .tc := ⟨.vmem, 510, rfl⟩
abbrev cc6_stg31_1 : Ref sig .tc := ⟨.vmem, 511, rfl⟩
abbrev cc6_stg32_0 : Ref sig .tc := ⟨.vmem, 512, rfl⟩
abbrev cc6_stg32_1 : Ref sig .tc := ⟨.vmem, 513, rfl⟩
abbrev cc6_stg33_0 : Ref sig .tc := ⟨.vmem, 514, rfl⟩
abbrev cc6_stg33_1 : Ref sig .tc := ⟨.vmem, 515, rfl⟩
abbrev cc7_stg0_0 : Ref sig .tc := ⟨.vmem, 516, rfl⟩
abbrev cc7_stg1_0 : Ref sig .tc := ⟨.vmem, 517, rfl⟩
abbrev cc7_stg2_0 : Ref sig .tc := ⟨.vmem, 518, rfl⟩
abbrev cc7_stg3_0 : Ref sig .tc := ⟨.vmem, 519, rfl⟩
abbrev cc7_stg4_0 : Ref sig .tc := ⟨.vmem, 520, rfl⟩
abbrev cc7_stg5_0 : Ref sig .tc := ⟨.vmem, 521, rfl⟩
abbrev cc7_stg6_0 : Ref sig .tc := ⟨.vmem, 522, rfl⟩
abbrev cc7_stg7_0 : Ref sig .tc := ⟨.vmem, 523, rfl⟩
abbrev cc7_stg8_0 : Ref sig .tc := ⟨.vmem, 524, rfl⟩
abbrev cc7_stg9_0 : Ref sig .tc := ⟨.vmem, 525, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73
abbrev cc0_sem37_0 : DmaSem sig := 74
abbrev cc0_sem37_1 : DmaSem sig := 75
abbrev cc0_sem38_0 : DmaSem sig := 76
abbrev cc0_sem38_1 : DmaSem sig := 77
abbrev cc0_sem39_0 : DmaSem sig := 78
abbrev cc0_sem39_1 : DmaSem sig := 79
abbrev cc0_sem40_0 : DmaSem sig := 80
abbrev cc0_sem40_1 : DmaSem sig := 81
abbrev cc0_sem41_0 : DmaSem sig := 82
abbrev cc0_sem41_1 : DmaSem sig := 83
abbrev cc0_sem42_0 : DmaSem sig := 84
abbrev cc0_sem42_1 : DmaSem sig := 85
abbrev cc0_sem43_0 : DmaSem sig := 86
abbrev cc0_sem43_1 : DmaSem sig := 87
abbrev cc0_sem44_0 : DmaSem sig := 88
abbrev cc0_sem44_1 : DmaSem sig := 89
abbrev cc0_sem45_0 : DmaSem sig := 90
abbrev cc0_sem45_1 : DmaSem sig := 91
abbrev cc0_sem46_0 : DmaSem sig := 92
abbrev cc0_sem46_1 : DmaSem sig := 93
abbrev cc0_sem47_0 : DmaSem sig := 94
abbrev cc0_sem47_1 : DmaSem sig := 95
abbrev cc0_sem48_0 : DmaSem sig := 96
abbrev cc0_sem48_1 : DmaSem sig := 97
abbrev cc0_sem49_0 : DmaSem sig := 98
abbrev cc0_sem49_1 : DmaSem sig := 99
abbrev cc0_sem50_0 : DmaSem sig := 100
abbrev cc0_sem50_1 : DmaSem sig := 101
abbrev cc0_sem51_0 : DmaSem sig := 102
abbrev cc0_sem51_1 : DmaSem sig := 103
abbrev cc0_sem52_0 : DmaSem sig := 104
abbrev cc0_sem52_1 : DmaSem sig := 105
abbrev cc0_sem53_0 : DmaSem sig := 106
abbrev cc0_sem53_1 : DmaSem sig := 107
abbrev cc1_sem0_0 : DmaSem sig := 108
abbrev cc1_sem0_1 : DmaSem sig := 109
abbrev cc1_sem1_0 : DmaSem sig := 110
abbrev cc1_sem1_1 : DmaSem sig := 111
abbrev cc1_sem2_0 : DmaSem sig := 112
abbrev cc1_sem2_1 : DmaSem sig := 113
abbrev cc1_sem3_0 : DmaSem sig := 114
abbrev cc1_sem3_1 : DmaSem sig := 115
abbrev cc1_sem4_0 : DmaSem sig := 116
abbrev cc1_sem4_1 : DmaSem sig := 117
abbrev cc1_sem5_0 : DmaSem sig := 118
abbrev cc1_sem5_1 : DmaSem sig := 119
abbrev cc1_sem6_0 : DmaSem sig := 120
abbrev cc1_sem6_1 : DmaSem sig := 121
abbrev cc1_sem7_0 : DmaSem sig := 122
abbrev cc1_sem7_1 : DmaSem sig := 123
abbrev cc1_sem8_0 : DmaSem sig := 124
abbrev cc1_sem8_1 : DmaSem sig := 125
abbrev cc1_sem9_0 : DmaSem sig := 126
abbrev cc1_sem9_1 : DmaSem sig := 127
abbrev cc1_sem10_0 : DmaSem sig := 128
abbrev cc1_sem10_1 : DmaSem sig := 129
abbrev cc1_sem11_0 : DmaSem sig := 130
abbrev cc1_sem11_1 : DmaSem sig := 131
abbrev cc1_sem12_0 : DmaSem sig := 132
abbrev cc1_sem12_1 : DmaSem sig := 133
abbrev cc1_sem13_0 : DmaSem sig := 134
abbrev cc1_sem13_1 : DmaSem sig := 135
abbrev cc1_sem14_0 : DmaSem sig := 136
abbrev cc1_sem14_1 : DmaSem sig := 137
abbrev cc1_sem15_0 : DmaSem sig := 138
abbrev cc1_sem15_1 : DmaSem sig := 139
abbrev cc1_sem16_0 : DmaSem sig := 140
abbrev cc1_sem16_1 : DmaSem sig := 141
abbrev cc1_sem17_0 : DmaSem sig := 142
abbrev cc1_sem17_1 : DmaSem sig := 143
abbrev cc1_sem18_0 : DmaSem sig := 144
abbrev cc1_sem18_1 : DmaSem sig := 145
abbrev cc1_sem19_0 : DmaSem sig := 146
abbrev cc1_sem19_1 : DmaSem sig := 147
abbrev cc1_sem20_0 : DmaSem sig := 148
abbrev cc1_sem20_1 : DmaSem sig := 149
abbrev cc1_sem21_0 : DmaSem sig := 150
abbrev cc1_sem21_1 : DmaSem sig := 151
abbrev cc1_sem22_0 : DmaSem sig := 152
abbrev cc1_sem22_1 : DmaSem sig := 153
abbrev cc1_sem23_0 : DmaSem sig := 154
abbrev cc1_sem23_1 : DmaSem sig := 155
abbrev cc1_sem24_0 : DmaSem sig := 156
abbrev cc1_sem24_1 : DmaSem sig := 157
abbrev cc1_sem25_0 : DmaSem sig := 158
abbrev cc1_sem25_1 : DmaSem sig := 159
abbrev cc1_sem26_0 : DmaSem sig := 160
abbrev cc1_sem26_1 : DmaSem sig := 161
abbrev cc1_sem27_0 : DmaSem sig := 162
abbrev cc1_sem27_1 : DmaSem sig := 163
abbrev cc1_sem28_0 : DmaSem sig := 164
abbrev cc1_sem28_1 : DmaSem sig := 165
abbrev cc1_sem29_0 : DmaSem sig := 166
abbrev cc1_sem29_1 : DmaSem sig := 167
abbrev cc1_sem30_0 : DmaSem sig := 168
abbrev cc1_sem30_1 : DmaSem sig := 169
abbrev cc1_sem31_0 : DmaSem sig := 170
abbrev cc1_sem31_1 : DmaSem sig := 171
abbrev cc1_sem32_0 : DmaSem sig := 172
abbrev cc1_sem32_1 : DmaSem sig := 173
abbrev cc1_sem33_0 : DmaSem sig := 174
abbrev cc1_sem33_1 : DmaSem sig := 175
abbrev cc2_sem0_0 : DmaSem sig := 176
abbrev cc2_sem0_1 : DmaSem sig := 177
abbrev cc2_sem1_0 : DmaSem sig := 178
abbrev cc2_sem1_1 : DmaSem sig := 179
abbrev cc2_sem2_0 : DmaSem sig := 180
abbrev cc2_sem2_1 : DmaSem sig := 181
abbrev cc2_sem3_0 : DmaSem sig := 182
abbrev cc2_sem3_1 : DmaSem sig := 183
abbrev cc2_sem4_0 : DmaSem sig := 184
abbrev cc2_sem4_1 : DmaSem sig := 185
abbrev cc2_sem5_0 : DmaSem sig := 186
abbrev cc2_sem5_1 : DmaSem sig := 187
abbrev cc2_sem6_0 : DmaSem sig := 188
abbrev cc2_sem6_1 : DmaSem sig := 189
abbrev cc2_sem7_0 : DmaSem sig := 190
abbrev cc2_sem7_1 : DmaSem sig := 191
abbrev cc2_sem8_0 : DmaSem sig := 192
abbrev cc2_sem8_1 : DmaSem sig := 193
abbrev cc2_sem9_0 : DmaSem sig := 194
abbrev cc2_sem9_1 : DmaSem sig := 195
abbrev cc2_sem10_0 : DmaSem sig := 196
abbrev cc2_sem10_1 : DmaSem sig := 197
abbrev cc2_sem11_0 : DmaSem sig := 198
abbrev cc2_sem11_1 : DmaSem sig := 199
abbrev cc2_sem12_0 : DmaSem sig := 200
abbrev cc2_sem12_1 : DmaSem sig := 201
abbrev cc2_sem13_0 : DmaSem sig := 202
abbrev cc2_sem13_1 : DmaSem sig := 203
abbrev cc2_sem14_0 : DmaSem sig := 204
abbrev cc2_sem14_1 : DmaSem sig := 205
abbrev cc2_sem15_0 : DmaSem sig := 206
abbrev cc2_sem15_1 : DmaSem sig := 207
abbrev cc2_sem16_0 : DmaSem sig := 208
abbrev cc2_sem16_1 : DmaSem sig := 209
abbrev cc2_sem17_0 : DmaSem sig := 210
abbrev cc2_sem17_1 : DmaSem sig := 211
abbrev cc2_sem18_0 : DmaSem sig := 212
abbrev cc2_sem18_1 : DmaSem sig := 213
abbrev cc2_sem19_0 : DmaSem sig := 214
abbrev cc2_sem19_1 : DmaSem sig := 215
abbrev cc2_sem20_0 : DmaSem sig := 216
abbrev cc2_sem20_1 : DmaSem sig := 217
abbrev cc2_sem21_0 : DmaSem sig := 218
abbrev cc2_sem21_1 : DmaSem sig := 219
abbrev cc2_sem22_0 : DmaSem sig := 220
abbrev cc2_sem22_1 : DmaSem sig := 221
abbrev cc2_sem23_0 : DmaSem sig := 222
abbrev cc2_sem23_1 : DmaSem sig := 223
abbrev cc2_sem24_0 : DmaSem sig := 224
abbrev cc2_sem24_1 : DmaSem sig := 225
abbrev cc2_sem25_0 : DmaSem sig := 226
abbrev cc2_sem25_1 : DmaSem sig := 227
abbrev cc2_sem26_0 : DmaSem sig := 228
abbrev cc2_sem26_1 : DmaSem sig := 229
abbrev cc2_sem27_0 : DmaSem sig := 230
abbrev cc2_sem27_1 : DmaSem sig := 231
abbrev cc2_sem28_0 : DmaSem sig := 232
abbrev cc2_sem28_1 : DmaSem sig := 233
abbrev cc2_sem29_0 : DmaSem sig := 234
abbrev cc2_sem29_1 : DmaSem sig := 235
abbrev cc2_sem30_0 : DmaSem sig := 236
abbrev cc2_sem30_1 : DmaSem sig := 237
abbrev cc2_sem31_0 : DmaSem sig := 238
abbrev cc2_sem31_1 : DmaSem sig := 239
abbrev cc2_sem32_0 : DmaSem sig := 240
abbrev cc2_sem32_1 : DmaSem sig := 241
abbrev cc2_sem33_0 : DmaSem sig := 242
abbrev cc2_sem33_1 : DmaSem sig := 243
abbrev cc3_sem0_0 : DmaSem sig := 244
abbrev cc3_sem0_1 : DmaSem sig := 245
abbrev cc3_sem1_0 : DmaSem sig := 246
abbrev cc3_sem1_1 : DmaSem sig := 247
abbrev cc3_sem2_0 : DmaSem sig := 248
abbrev cc3_sem2_1 : DmaSem sig := 249
abbrev cc3_sem3_0 : DmaSem sig := 250
abbrev cc3_sem3_1 : DmaSem sig := 251
abbrev cc3_sem4_0 : DmaSem sig := 252
abbrev cc3_sem4_1 : DmaSem sig := 253
abbrev cc3_sem5_0 : DmaSem sig := 254
abbrev cc3_sem5_1 : DmaSem sig := 255
abbrev cc3_sem6_0 : DmaSem sig := 256
abbrev cc3_sem6_1 : DmaSem sig := 257
abbrev cc3_sem7_0 : DmaSem sig := 258
abbrev cc3_sem7_1 : DmaSem sig := 259
abbrev cc3_sem8_0 : DmaSem sig := 260
abbrev cc3_sem8_1 : DmaSem sig := 261
abbrev cc3_sem9_0 : DmaSem sig := 262
abbrev cc3_sem9_1 : DmaSem sig := 263
abbrev cc3_sem10_0 : DmaSem sig := 264
abbrev cc3_sem10_1 : DmaSem sig := 265
abbrev cc3_sem11_0 : DmaSem sig := 266
abbrev cc3_sem11_1 : DmaSem sig := 267
abbrev cc3_sem12_0 : DmaSem sig := 268
abbrev cc3_sem12_1 : DmaSem sig := 269
abbrev cc3_sem13_0 : DmaSem sig := 270
abbrev cc3_sem13_1 : DmaSem sig := 271
abbrev cc3_sem14_0 : DmaSem sig := 272
abbrev cc3_sem14_1 : DmaSem sig := 273
abbrev cc3_sem15_0 : DmaSem sig := 274
abbrev cc3_sem15_1 : DmaSem sig := 275
abbrev cc3_sem16_0 : DmaSem sig := 276
abbrev cc3_sem16_1 : DmaSem sig := 277
abbrev cc3_sem17_0 : DmaSem sig := 278
abbrev cc3_sem17_1 : DmaSem sig := 279
abbrev cc3_sem18_0 : DmaSem sig := 280
abbrev cc3_sem18_1 : DmaSem sig := 281
abbrev cc3_sem19_0 : DmaSem sig := 282
abbrev cc3_sem19_1 : DmaSem sig := 283
abbrev cc3_sem20_0 : DmaSem sig := 284
abbrev cc3_sem20_1 : DmaSem sig := 285
abbrev cc3_sem21_0 : DmaSem sig := 286
abbrev cc3_sem21_1 : DmaSem sig := 287
abbrev cc3_sem22_0 : DmaSem sig := 288
abbrev cc3_sem22_1 : DmaSem sig := 289
abbrev cc3_sem23_0 : DmaSem sig := 290
abbrev cc3_sem23_1 : DmaSem sig := 291
abbrev cc3_sem24_0 : DmaSem sig := 292
abbrev cc3_sem24_1 : DmaSem sig := 293
abbrev cc3_sem25_0 : DmaSem sig := 294
abbrev cc3_sem25_1 : DmaSem sig := 295
abbrev cc3_sem26_0 : DmaSem sig := 296
abbrev cc3_sem26_1 : DmaSem sig := 297
abbrev cc3_sem27_0 : DmaSem sig := 298
abbrev cc3_sem27_1 : DmaSem sig := 299
abbrev cc3_sem28_0 : DmaSem sig := 300
abbrev cc3_sem28_1 : DmaSem sig := 301
abbrev cc3_sem29_0 : DmaSem sig := 302
abbrev cc3_sem29_1 : DmaSem sig := 303
abbrev cc3_sem30_0 : DmaSem sig := 304
abbrev cc3_sem30_1 : DmaSem sig := 305
abbrev cc3_sem31_0 : DmaSem sig := 306
abbrev cc3_sem31_1 : DmaSem sig := 307
abbrev cc3_sem32_0 : DmaSem sig := 308
abbrev cc3_sem32_1 : DmaSem sig := 309
abbrev cc3_sem33_0 : DmaSem sig := 310
abbrev cc3_sem33_1 : DmaSem sig := 311
abbrev cc4_sem0_0 : DmaSem sig := 312
abbrev cc4_sem0_1 : DmaSem sig := 313
abbrev cc4_sem1_0 : DmaSem sig := 314
abbrev cc4_sem1_1 : DmaSem sig := 315
abbrev cc4_sem2_0 : DmaSem sig := 316
abbrev cc4_sem2_1 : DmaSem sig := 317
abbrev cc4_sem3_0 : DmaSem sig := 318
abbrev cc4_sem3_1 : DmaSem sig := 319
abbrev cc4_sem4_0 : DmaSem sig := 320
abbrev cc4_sem4_1 : DmaSem sig := 321
abbrev cc4_sem5_0 : DmaSem sig := 322
abbrev cc4_sem5_1 : DmaSem sig := 323
abbrev cc4_sem6_0 : DmaSem sig := 324
abbrev cc4_sem6_1 : DmaSem sig := 325
abbrev cc4_sem7_0 : DmaSem sig := 326
abbrev cc4_sem7_1 : DmaSem sig := 327
abbrev cc4_sem8_0 : DmaSem sig := 328
abbrev cc4_sem8_1 : DmaSem sig := 329
abbrev cc4_sem9_0 : DmaSem sig := 330
abbrev cc4_sem9_1 : DmaSem sig := 331
abbrev cc4_sem10_0 : DmaSem sig := 332
abbrev cc4_sem10_1 : DmaSem sig := 333
abbrev cc4_sem11_0 : DmaSem sig := 334
abbrev cc4_sem11_1 : DmaSem sig := 335
abbrev cc4_sem12_0 : DmaSem sig := 336
abbrev cc4_sem12_1 : DmaSem sig := 337
abbrev cc4_sem13_0 : DmaSem sig := 338
abbrev cc4_sem13_1 : DmaSem sig := 339
abbrev cc4_sem14_0 : DmaSem sig := 340
abbrev cc4_sem14_1 : DmaSem sig := 341
abbrev cc4_sem15_0 : DmaSem sig := 342
abbrev cc4_sem15_1 : DmaSem sig := 343
abbrev cc4_sem16_0 : DmaSem sig := 344
abbrev cc4_sem16_1 : DmaSem sig := 345
abbrev cc4_sem17_0 : DmaSem sig := 346
abbrev cc4_sem17_1 : DmaSem sig := 347
abbrev cc4_sem18_0 : DmaSem sig := 348
abbrev cc4_sem18_1 : DmaSem sig := 349
abbrev cc4_sem19_0 : DmaSem sig := 350
abbrev cc4_sem19_1 : DmaSem sig := 351
abbrev cc4_sem20_0 : DmaSem sig := 352
abbrev cc4_sem20_1 : DmaSem sig := 353
abbrev cc4_sem21_0 : DmaSem sig := 354
abbrev cc4_sem21_1 : DmaSem sig := 355
abbrev cc4_sem22_0 : DmaSem sig := 356
abbrev cc4_sem22_1 : DmaSem sig := 357
abbrev cc4_sem23_0 : DmaSem sig := 358
abbrev cc4_sem23_1 : DmaSem sig := 359
abbrev cc4_sem24_0 : DmaSem sig := 360
abbrev cc4_sem24_1 : DmaSem sig := 361
abbrev cc4_sem25_0 : DmaSem sig := 362
abbrev cc4_sem25_1 : DmaSem sig := 363
abbrev cc4_sem26_0 : DmaSem sig := 364
abbrev cc4_sem26_1 : DmaSem sig := 365
abbrev cc4_sem27_0 : DmaSem sig := 366
abbrev cc4_sem27_1 : DmaSem sig := 367
abbrev cc4_sem28_0 : DmaSem sig := 368
abbrev cc4_sem28_1 : DmaSem sig := 369
abbrev cc4_sem29_0 : DmaSem sig := 370
abbrev cc4_sem29_1 : DmaSem sig := 371
abbrev cc4_sem30_0 : DmaSem sig := 372
abbrev cc4_sem30_1 : DmaSem sig := 373
abbrev cc4_sem31_0 : DmaSem sig := 374
abbrev cc4_sem31_1 : DmaSem sig := 375
abbrev cc4_sem32_0 : DmaSem sig := 376
abbrev cc4_sem32_1 : DmaSem sig := 377
abbrev cc4_sem33_0 : DmaSem sig := 378
abbrev cc4_sem33_1 : DmaSem sig := 379
abbrev cc5_sem0_0 : DmaSem sig := 380
abbrev cc5_sem0_1 : DmaSem sig := 381
abbrev cc5_sem1_0 : DmaSem sig := 382
abbrev cc5_sem1_1 : DmaSem sig := 383
abbrev cc5_sem2_0 : DmaSem sig := 384
abbrev cc5_sem2_1 : DmaSem sig := 385
abbrev cc5_sem3_0 : DmaSem sig := 386
abbrev cc5_sem3_1 : DmaSem sig := 387
abbrev cc5_sem4_0 : DmaSem sig := 388
abbrev cc5_sem4_1 : DmaSem sig := 389
abbrev cc5_sem5_0 : DmaSem sig := 390
abbrev cc5_sem5_1 : DmaSem sig := 391
abbrev cc5_sem6_0 : DmaSem sig := 392
abbrev cc5_sem6_1 : DmaSem sig := 393
abbrev cc5_sem7_0 : DmaSem sig := 394
abbrev cc5_sem7_1 : DmaSem sig := 395
abbrev cc5_sem8_0 : DmaSem sig := 396
abbrev cc5_sem8_1 : DmaSem sig := 397
abbrev cc5_sem9_0 : DmaSem sig := 398
abbrev cc5_sem9_1 : DmaSem sig := 399
abbrev cc5_sem10_0 : DmaSem sig := 400
abbrev cc5_sem10_1 : DmaSem sig := 401
abbrev cc5_sem11_0 : DmaSem sig := 402
abbrev cc5_sem11_1 : DmaSem sig := 403
abbrev cc5_sem12_0 : DmaSem sig := 404
abbrev cc5_sem12_1 : DmaSem sig := 405
abbrev cc5_sem13_0 : DmaSem sig := 406
abbrev cc5_sem13_1 : DmaSem sig := 407
abbrev cc5_sem14_0 : DmaSem sig := 408
abbrev cc5_sem14_1 : DmaSem sig := 409
abbrev cc5_sem15_0 : DmaSem sig := 410
abbrev cc5_sem15_1 : DmaSem sig := 411
abbrev cc5_sem16_0 : DmaSem sig := 412
abbrev cc5_sem16_1 : DmaSem sig := 413
abbrev cc5_sem17_0 : DmaSem sig := 414
abbrev cc5_sem17_1 : DmaSem sig := 415
abbrev cc5_sem18_0 : DmaSem sig := 416
abbrev cc5_sem18_1 : DmaSem sig := 417
abbrev cc5_sem19_0 : DmaSem sig := 418
abbrev cc5_sem19_1 : DmaSem sig := 419
abbrev cc5_sem20_0 : DmaSem sig := 420
abbrev cc5_sem20_1 : DmaSem sig := 421
abbrev cc5_sem21_0 : DmaSem sig := 422
abbrev cc5_sem21_1 : DmaSem sig := 423
abbrev cc5_sem22_0 : DmaSem sig := 424
abbrev cc5_sem22_1 : DmaSem sig := 425
abbrev cc5_sem23_0 : DmaSem sig := 426
abbrev cc5_sem23_1 : DmaSem sig := 427
abbrev cc5_sem24_0 : DmaSem sig := 428
abbrev cc5_sem24_1 : DmaSem sig := 429
abbrev cc5_sem25_0 : DmaSem sig := 430
abbrev cc5_sem25_1 : DmaSem sig := 431
abbrev cc5_sem26_0 : DmaSem sig := 432
abbrev cc5_sem26_1 : DmaSem sig := 433
abbrev cc5_sem27_0 : DmaSem sig := 434
abbrev cc5_sem27_1 : DmaSem sig := 435
abbrev cc5_sem28_0 : DmaSem sig := 436
abbrev cc5_sem28_1 : DmaSem sig := 437
abbrev cc5_sem29_0 : DmaSem sig := 438
abbrev cc5_sem29_1 : DmaSem sig := 439
abbrev cc5_sem30_0 : DmaSem sig := 440
abbrev cc5_sem30_1 : DmaSem sig := 441
abbrev cc5_sem31_0 : DmaSem sig := 442
abbrev cc5_sem31_1 : DmaSem sig := 443
abbrev cc5_sem32_0 : DmaSem sig := 444
abbrev cc5_sem32_1 : DmaSem sig := 445
abbrev cc5_sem33_0 : DmaSem sig := 446
abbrev cc5_sem33_1 : DmaSem sig := 447
abbrev cc6_sem0_0 : DmaSem sig := 448
abbrev cc6_sem0_1 : DmaSem sig := 449
abbrev cc6_sem1_0 : DmaSem sig := 450
abbrev cc6_sem1_1 : DmaSem sig := 451
abbrev cc6_sem2_0 : DmaSem sig := 452
abbrev cc6_sem2_1 : DmaSem sig := 453
abbrev cc6_sem3_0 : DmaSem sig := 454
abbrev cc6_sem3_1 : DmaSem sig := 455
abbrev cc6_sem4_0 : DmaSem sig := 456
abbrev cc6_sem4_1 : DmaSem sig := 457
abbrev cc6_sem5_0 : DmaSem sig := 458
abbrev cc6_sem5_1 : DmaSem sig := 459
abbrev cc6_sem6_0 : DmaSem sig := 460
abbrev cc6_sem6_1 : DmaSem sig := 461
abbrev cc6_sem7_0 : DmaSem sig := 462
abbrev cc6_sem7_1 : DmaSem sig := 463
abbrev cc6_sem8_0 : DmaSem sig := 464
abbrev cc6_sem8_1 : DmaSem sig := 465
abbrev cc6_sem9_0 : DmaSem sig := 466
abbrev cc6_sem9_1 : DmaSem sig := 467
abbrev cc6_sem10_0 : DmaSem sig := 468
abbrev cc6_sem10_1 : DmaSem sig := 469
abbrev cc6_sem11_0 : DmaSem sig := 470
abbrev cc6_sem11_1 : DmaSem sig := 471
abbrev cc6_sem12_0 : DmaSem sig := 472
abbrev cc6_sem12_1 : DmaSem sig := 473
abbrev cc6_sem13_0 : DmaSem sig := 474
abbrev cc6_sem13_1 : DmaSem sig := 475
abbrev cc6_sem14_0 : DmaSem sig := 476
abbrev cc6_sem14_1 : DmaSem sig := 477
abbrev cc6_sem15_0 : DmaSem sig := 478
abbrev cc6_sem15_1 : DmaSem sig := 479
abbrev cc6_sem16_0 : DmaSem sig := 480
abbrev cc6_sem16_1 : DmaSem sig := 481
abbrev cc6_sem17_0 : DmaSem sig := 482
abbrev cc6_sem17_1 : DmaSem sig := 483
abbrev cc6_sem18_0 : DmaSem sig := 484
abbrev cc6_sem18_1 : DmaSem sig := 485
abbrev cc6_sem19_0 : DmaSem sig := 486
abbrev cc6_sem19_1 : DmaSem sig := 487
abbrev cc6_sem20_0 : DmaSem sig := 488
abbrev cc6_sem20_1 : DmaSem sig := 489
abbrev cc6_sem21_0 : DmaSem sig := 490
abbrev cc6_sem21_1 : DmaSem sig := 491
abbrev cc6_sem22_0 : DmaSem sig := 492
abbrev cc6_sem22_1 : DmaSem sig := 493
abbrev cc6_sem23_0 : DmaSem sig := 494
abbrev cc6_sem23_1 : DmaSem sig := 495
abbrev cc6_sem24_0 : DmaSem sig := 496
abbrev cc6_sem24_1 : DmaSem sig := 497
abbrev cc6_sem25_0 : DmaSem sig := 498
abbrev cc6_sem25_1 : DmaSem sig := 499
abbrev cc6_sem26_0 : DmaSem sig := 500
abbrev cc6_sem26_1 : DmaSem sig := 501
abbrev cc6_sem27_0 : DmaSem sig := 502
abbrev cc6_sem27_1 : DmaSem sig := 503
abbrev cc6_sem28_0 : DmaSem sig := 504
abbrev cc6_sem28_1 : DmaSem sig := 505
abbrev cc6_sem29_0 : DmaSem sig := 506
abbrev cc6_sem29_1 : DmaSem sig := 507
abbrev cc6_sem30_0 : DmaSem sig := 508
abbrev cc6_sem30_1 : DmaSem sig := 509
abbrev cc6_sem31_0 : DmaSem sig := 510
abbrev cc6_sem31_1 : DmaSem sig := 511
abbrev cc6_sem32_0 : DmaSem sig := 512
abbrev cc6_sem32_1 : DmaSem sig := 513
abbrev cc6_sem33_0 : DmaSem sig := 514
abbrev cc6_sem33_1 : DmaSem sig := 515
abbrev cc7_sem0_0 : DmaSem sig := 516
abbrev cc7_sem1_0 : DmaSem sig := 517
abbrev cc7_sem2_0 : DmaSem sig := 518
abbrev cc7_sem3_0 : DmaSem sig := 519
abbrev cc7_sem4_0 : DmaSem sig := 520
abbrev cc7_sem5_0 : DmaSem sig := 521
abbrev cc7_sem6_0 : DmaSem sig := 522
abbrev cc7_sem7_0 : DmaSem sig := 523
abbrev cc7_sem8_0 : DmaSem sig := 524
abbrev cc7_sem9_0 : DmaSem sig := 525

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) (c0_i32_0 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi c0_i32 v0
  let v2 : BitVec 32 := Scalar.addi v1 c0_i32_0
  let v3 : Index := Scalar.indexCast v2
  ![v3.toNat]
def cc0_transform_0 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi c0_i32 v0
  let c0_i32_0 : BitVec 32 := 0#32
  let v2 : BitVec 32 := Scalar.addi v1 c0_i32_0
  let v3 : Index := Scalar.indexCast v2
  let v4 : BitVec 32 := pf.at 0 (Rect.unit (s := S1024) ![v3.toNat] S1.size (k0_off1_inb i 0 0)) numel1_S1
  let c0_i32_1 : BitVec 32 := 0#32
  let c0_i32_2 : BitVec 32 := 0#32
  let c0_i32_3 : BitVec 32 := 0#32
  ![v4.toNat, c0_i32_1.toNat, c0_i32_2.toNat]

def cc0_transform_1 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi c0_i32 v0
  let c1_i32 : BitVec 32 := 1#32
  let v2 : BitVec 32 := Scalar.addi v1 c1_i32
  let v3 : Index := Scalar.indexCast v2
  let v4 : BitVec 32 := pf.at 0 (Rect.unit (s := S1024) ![v3.toNat] S1.size (k0_off1_inb i 0 1)) numel1_S1
  let c0_i32_0 : BitVec 32 := 0#32
  let c0_i32_1 : BitVec 32 := 0#32
  let c0_i32_2 : BitVec 32 := 0#32
  ![v4.toNat, c0_i32_0.toNat, c0_i32_1.toNat]

def cc0_transform_2 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi c0_i32 v0
  let c2_i32 : BitVec 32 := 2#32
  let v2 : BitVec 32 := Scalar.addi v1 c2_i32
  let v3 : Index := Scalar.indexCast v2
  let v4 : BitVec 32 := pf.at 0 (Rect.unit (s := S1024) ![v3.toNat] S1.size (k0_off1_inb i 0 2)) numel1_S1
  let c0_i32_0 : BitVec 32 := 0#32
  let c0_i32_1 : BitVec 32 := 0#32
  let c0_i32_2 : BitVec 32 := 0#32
  ![v4.toNat, c0_i32_0.toNat, c0_i32_1.toNat]

def cc0_transform_3 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi c0_i32 v0
  let c3_i32 : BitVec 32 := 3#32
  let v2 : BitVec 32 := Scalar.addi v1 c3_i32
  let v3 : Index := Scalar.indexCast v2
  let v4 : BitVec 32 := pf.at 0 (Rect.unit (s := S1024) ![v3.toNat] S1.size (k0_off1_inb i 0 3)) numel1_S1
  let c0_i32_0 : BitVec 32 := 0#32
  let c0_i32_1 : BitVec 32 := 0#32
  let c0_i32_2 : BitVec 32 := 0#32
  ![v4.toNat, c0_i32_0.toNat, c0_i32_1.toNat]

def cc0_transform_4 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi c0_i32 v0
  let c4_i32 : BitVec 32 := 4#32
  let v2 : BitVec 32 := Scalar.addi v1 c4_i32
  let v3 : Index := Scalar.indexCast v2
  let v4 : BitVec 32 := pf.at 0 (Rect.unit (s := S1024) ![v3.toNat] S1.size (k0_off1_inb i 0 4)) numel1_S1
  let c0_i32_0 : BitVec 32 := 0#32
  let c0_i32_1 : BitVec 32 := 0#32
  let c0_i32_2 : BitVec 32 := 0#32
  ![v4.toNat, c0_i32_0.toNat, c0_i32_1.toNat]

def cc0_transform_5 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi c0_i32 v0
  let c5_i32 : BitVec 32 := 5#32
  let v2 : BitVec 32 := Scalar.addi v1 c5_i32
  let v3 : Index := Scalar.indexCast v2
  let v4 : BitVec 32 := pf.at 0 (Rect.unit (s := S1024) ![v3.toNat] S1.size (k0_off1_inb i 0 5)) numel1_S1
  let c0_i32_0 : BitVec 32 := 0#32
  let c0_i32_1 : BitVec 32 := 0#32
  let c0_i32_2 : BitVec 32 := 0#32
  ![v4.toNat, c0_i32_0.toNat, c0_i32_1.toNat]

def cc0_transform_6 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi c0_i32 v0
  let c6_i32 : BitVec 32 := 6#32
  let v2 : BitVec 32 := Scalar.addi v1 c6_i32
  let v3 : Index := Scalar.indexCast v2
  let v4 : BitVec 32 := pf.at 0 (Rect.unit (s := S1024) ![v3.toNat] S1.size (k0_off1_inb i 0 6)) numel1_S1
  let c0_i32_0 : BitVec 32 := 0#32
  let c0_i32_1 : BitVec 32 := 0#32
  let c0_i32_2 : BitVec 32 := 0#32
  ![v4.toNat, c0_i32_0.toNat, c0_i32_1.toNat]

def cc0_transform_7 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi c0_i32 v0
  let c7_i32 : BitVec 32 := 7#32
  let v2 : BitVec 32 := Scalar.addi v1 c7_i32
  let v3 : Index := Scalar.indexCast v2
  let v4 : BitVec 32 := pf.at 0 (Rect.unit (s := S1024) ![v3.toNat] S1.size (k0_off1_inb i 0 7)) numel1_S1
  let c0_i32_0 : BitVec 32 := 0#32
  let c0_i32_1 : BitVec 32 := 0#32
  let c0_i32_2 : BitVec 32 := 0#32
  ![v4.toNat, c0_i32_0.toNat, c0_i32_1.toNat]

def cc0_transform_8 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c512_i32 : BitVec 32 := 512#32
  let v1 : BitVec 32 := Scalar.addi c512_i32 v0
  let c0_i32 : BitVec 32 := 0#32
  let v2 : BitVec 32 := Scalar.addi v1 c0_i32
  let v3 : Index := Scalar.indexCast v2
  let v4 : BitVec 32 := pf.at 0 (Rect.unit (s := S1024) ![v3.toNat] S1.size (k0_off1_inb i 1 0)) numel1_S1
  let c0_i32_0 : BitVec 32 := 0#32
  let c0_i32_1 : BitVec 32 := 0#32
  let c0_i32_2 : BitVec 32 := 0#32
  ![v4.toNat, c0_i32_0.toNat, c0_i32_1.toNat]

def cc0_transform_9 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c512_i32 : BitVec 32 := 512#32
  let v1 : BitVec 32 := Scalar.addi c512_i32 v0
  let c1_i32 : BitVec 32 := 1#32
  let v2 : BitVec 32 := Scalar.addi v1 c1_i32
  let v3 : Index := Scalar.indexCast v2
  let v4 : BitVec 32 := pf.at 0 (Rect.unit (s := S1024) ![v3.toNat] S1.size (k0_off1_inb i 1 1)) numel1_S1
  let c0_i32 : BitVec 32 := 0#32
  let c0_i32_0 : BitVec 32 := 0#32
  let c0_i32_1 : BitVec 32 := 0#32
  ![v4.toNat, c0_i32.toNat, c0_i32_0.toNat]

def cc0_transform_10 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c512_i32 : BitVec 32 := 512#32
  let v1 : BitVec 32 := Scalar.addi c512_i32 v0
  let c2_i32 : BitVec 32 := 2#32
  let v2 : BitVec 32 := Scalar.addi v1 c2_i32
  let v3 : Index := Scalar.indexCast v2
  let v4 : BitVec 32 := pf.at 0 (Rect.unit (s := S1024) ![v3.toNat] S1.size (k0_off1_inb i 1 2)) numel1_S1
  let c0_i32 : BitVec 32 := 0#32
  let c0_i32_0 : BitVec 32 := 0#32
  let c0_i32_1 : BitVec 32 := 0#32
  ![v4.toNat, c0_i32.toNat, c0_i32_0.toNat]

def cc0_transform_11 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c512_i32 : BitVec 32 := 512#32
  let v1 : BitVec 32 := Scalar.addi c512_i32 v0
  let c3_i32 : BitVec 32 := 3#32
  let v2 : BitVec 32 := Scalar.addi v1 c3_i32
  let v3 : Index := Scalar.indexCast v2
  let v4 : BitVec 32 := pf.at 0 (Rect.unit (s := S1024) ![v3.toNat] S1.size (k0_off1_inb i 1 3)) numel1_S1
  let c0_i32 : BitVec 32 := 0#32
  let c0_i32_0 : BitVec 32 := 0#32
  let c0_i32_1 : BitVec 32 := 0#32
  ![v4.toNat, c0_i32.toNat, c0_i32_0.toNat]

def cc0_transform_12 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c512_i32 : BitVec 32 := 512#32
  let v1 : BitVec 32 := Scalar.addi c512_i32 v0
  let c4_i32 : BitVec 32 := 4#32
  let v2 : BitVec 32 := Scalar.addi v1 c4_i32
  let v3 : Index := Scalar.indexCast v2
  let v4 : BitVec 32 := pf.at 0 (Rect.unit (s := S1024) ![v3.toNat] S1.size (k0_off1_inb i 1 4)) numel1_S1
  let c0_i32 : BitVec 32 := 0#32
  let c0_i32_0 : BitVec 32 := 0#32
  let c0_i32_1 : BitVec 32 := 0#32
  ![v4.toNat, c0_i32.toNat, c0_i32_0.toNat]

def cc0_transform_13 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c512_i32 : BitVec 32 := 512#32
  let v1 : BitVec 32 := Scalar.addi c512_i32 v0
  let c5_i32 : BitVec 32 := 5#32
  let v2 : BitVec 32 := Scalar.addi v1 c5_i32
  let v3 : Index := Scalar.indexCast v2
  let v4 : BitVec 32 := pf.at 0 (Rect.unit (s := S1024) ![v3.toNat] S1.size (k0_off1_inb i 1 5)) numel1_S1
  let c0_i32 : BitVec 32 := 0#32
  let c0_i32_0 : BitVec 32 := 0#32
  let c0_i32_1 : BitVec 32 := 0#32
  ![v4.toNat, c0_i32.toNat, c0_i32_0.toNat]

def cc0_transform_14 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c512_i32 : BitVec 32 := 512#32
  let v1 : BitVec 32 := Scalar.addi c512_i32 v0
  let c6_i32 : BitVec 32 := 6#32
  let v2 : BitVec 32 := Scalar.addi v1 c6_i32
  let v3 : Index := Scalar.indexCast v2
  let v4 : BitVec 32 := pf.at 0 (Rect.unit (s := S1024) ![v3.toNat] S1.size (k0_off1_inb i 1 6)) numel1_S1
  let c0_i32 : BitVec 32 := 0#32
  let c0_i32_0 : BitVec 32 := 0#32
  let c0_i32_1 : BitVec 32 := 0#32
  ![v4.toNat, c0_i32.toNat, c0_i32_0.toNat]

def cc0_transform_15 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c512_i32 : BitVec 32 := 512#32
  let v1 : BitVec 32 := Scalar.addi c512_i32 v0
  let c7_i32 : BitVec 32 := 7#32
  let v2 : BitVec 32 := Scalar.addi v1 c7_i32
  let v3 : Index := Scalar.indexCast v2
  let v4 : BitVec 32 := pf.at 0 (Rect.unit (s := S1024) ![v3.toNat] S1.size (k0_off1_inb i 1 7)) numel1_S1
  let c0_i32 : BitVec 32 := 0#32
  let c0_i32_0 : BitVec 32 := 0#32
  let c0_i32_1 : BitVec 32 := 0#32
  ![v4.toNat, c0_i32.toNat, c0_i32_0.toNat]

def cc0_transform_16 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi c0_i32 v0
  let c0_i32_0 : BitVec 32 := 0#32
  let v2 : BitVec 32 := Scalar.addi v1 c0_i32_0
  let v3 : Index := Scalar.indexCast v2
  let v4 : BitVec 32 := pf.at 0 (Rect.unit (s := S1024) ![v3.toNat] S1.size (k0_off1_inb i 0 0)) numel1_S1
  let c0_i32_1 : BitVec 32 := 0#32
  let c0_i32_2 : BitVec 32 := 0#32
  let c0_i32_3 : BitVec 32 := 0#32
  ![v4.toNat, c0_i32_1.toNat, c0_i32_2.toNat]

def cc0_transform_17 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi c0_i32 v0
  let c1_i32 : BitVec 32 := 1#32
  let v2 : BitVec 32 := Scalar.addi v1 c1_i32
  let v3 : Index := Scalar.indexCast v2
  let v4 : BitVec 32 := pf.at 0 (Rect.unit (s := S1024) ![v3.toNat] S1.size (k0_off1_inb i 0 1)) numel1_S1
  let c0_i32_0 : BitVec 32 := 0#32
  let c0_i32_1 : BitVec 32 := 0#32
  let c0_i32_2 : BitVec 32 := 0#32
  ![v4.toNat, c0_i32_0.toNat, c0_i32_1.toNat]

def cc0_transform_18 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi c0_i32 v0
  let c2_i32 : BitVec 32 := 2#32
  let v2 : BitVec 32 := Scalar.addi v1 c2_i32
  let v3 : Index := Scalar.indexCast v2
  let v4 : BitVec 32 := pf.at 0 (Rect.unit (s := S1024) ![v3.toNat] S1.size (k0_off1_inb i 0 2)) numel1_S1
  let c0_i32_0 : BitVec 32 := 0#32
  let c0_i32_1 : BitVec 32 := 0#32
  let c0_i32_2 : BitVec 32 := 0#32
  ![v4.toNat, c0_i32_0.toNat, c0_i32_1.toNat]

def cc0_transform_19 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi c0_i32 v0
  let c3_i32 : BitVec 32 := 3#32
  let v2 : BitVec 32 := Scalar.addi v1 c3_i32
  let v3 : Index := Scalar.indexCast v2
  let v4 : BitVec 32 := pf.at 0 (Rect.unit (s := S1024) ![v3.toNat] S1.size (k0_off1_inb i 0 3)) numel1_S1
  let c0_i32_0 : BitVec 32 := 0#32
  let c0_i32_1 : BitVec 32 := 0#32
  let c0_i32_2 : BitVec 32 := 0#32
  ![v4.toNat, c0_i32_0.toNat, c0_i32_1.toNat]

def cc0_transform_20 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi c0_i32 v0
  let c4_i32 : BitVec 32 := 4#32
  let v2 : BitVec 32 := Scalar.addi v1 c4_i32
  let v3 : Index := Scalar.indexCast v2
  let v4 : BitVec 32 := pf.at 0 (Rect.unit (s := S1024) ![v3.toNat] S1.size (k0_off1_inb i 0 4)) numel1_S1
  let c0_i32_0 : BitVec 32 := 0#32
  let c0_i32_1 : BitVec 32 := 0#32
  let c0_i32_2 : BitVec 32 := 0#32
  ![v4.toNat, c0_i32_0.toNat, c0_i32_1.toNat]

def cc0_transform_21 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi c0_i32 v0
  let c5_i32 : BitVec 32 := 5#32
  let v2 : BitVec 32 := Scalar.addi v1 c5_i32
  let v3 : Index := Scalar.indexCast v2
  let v4 : BitVec 32 := pf.at 0 (Rect.unit (s := S1024) ![v3.toNat] S1.size (k0_off1_inb i 0 5)) numel1_S1
  let c0_i32_0 : BitVec 32 := 0#32
  let c0_i32_1 : BitVec 32 := 0#32
  let c0_i32_2 : BitVec 32 := 0#32
  ![v4.toNat, c0_i32_0.toNat, c0_i32_1.toNat]

def cc0_transform_22 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi c0_i32 v0
  let c6_i32 : BitVec 32 := 6#32
  let v2 : BitVec 32 := Scalar.addi v1 c6_i32
  let v3 : Index := Scalar.indexCast v2
  let v4 : BitVec 32 := pf.at 0 (Rect.unit (s := S1024) ![v3.toNat] S1.size (k0_off1_inb i 0 6)) numel1_S1
  let c0_i32_0 : BitVec 32 := 0#32
  let c0_i32_1 : BitVec 32 := 0#32
  let c0_i32_2 : BitVec 32 := 0#32
  ![v4.toNat, c0_i32_0.toNat, c0_i32_1.toNat]

def cc0_transform_23 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi c0_i32 v0
  let c7_i32 : BitVec 32 := 7#32
  let v2 : BitVec 32 := Scalar.addi v1 c7_i32
  let v3 : Index := Scalar.indexCast v2
  let v4 : BitVec 32 := pf.at 0 (Rect.unit (s := S1024) ![v3.toNat] S1.size (k0_off1_inb i 0 7)) numel1_S1
  let c0_i32_0 : BitVec 32 := 0#32
  let c0_i32_1 : BitVec 32 := 0#32
  let c0_i32_2 : BitVec 32 := 0#32
  ![v4.toNat, c0_i32_0.toNat, c0_i32_1.toNat]

def cc0_transform_24 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c512_i32 : BitVec 32 := 512#32
  let v1 : BitVec 32 := Scalar.addi c512_i32 v0
  let c0_i32 : BitVec 32 := 0#32
  let v2 : BitVec 32 := Scalar.addi v1 c0_i32
  let v3 : Index := Scalar.indexCast v2
  let v4 : BitVec 32 := pf.at 0 (Rect.unit (s := S1024) ![v3.toNat] S1.size (k0_off1_inb i 1 0)) numel1_S1
  let c0_i32_0 : BitVec 32 := 0#32
  let c0_i32_1 : BitVec 32 := 0#32
  let c0_i32_2 : BitVec 32 := 0#32
  ![v4.toNat, c0_i32_0.toNat, c0_i32_1.toNat]

def cc0_transform_25 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c512_i32 : BitVec 32 := 512#32
  let v1 : BitVec 32 := Scalar.addi c512_i32 v0
  let c1_i32 : BitVec 32 := 1#32
  let v2 : BitVec 32 := Scalar.addi v1 c1_i32
  let v3 : Index := Scalar.indexCast v2
  let v4 : BitVec 32 := pf.at 0 (Rect.unit (s := S1024) ![v3.toNat] S1.size (k0_off1_inb i 1 1)) numel1_S1
  let c0_i32 : BitVec 32 := 0#32
  let c0_i32_0 : BitVec 32 := 0#32
  let c0_i32_1 : BitVec 32 := 0#32
  ![v4.toNat, c0_i32.toNat, c0_i32_0.toNat]

def cc0_transform_26 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c512_i32 : BitVec 32 := 512#32
  let v1 : BitVec 32 := Scalar.addi c512_i32 v0
  let c2_i32 : BitVec 32 := 2#32
  let v2 : BitVec 32 := Scalar.addi v1 c2_i32
  let v3 : Index := Scalar.indexCast v2
  let v4 : BitVec 32 := pf.at 0 (Rect.unit (s := S1024) ![v3.toNat] S1.size (k0_off1_inb i 1 2)) numel1_S1
  let c0_i32 : BitVec 32 := 0#32
  let c0_i32_0 : BitVec 32 := 0#32
  let c0_i32_1 : BitVec 32 := 0#32
  ![v4.toNat, c0_i32.toNat, c0_i32_0.toNat]

def cc0_transform_27 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c512_i32 : BitVec 32 := 512#32
  let v1 : BitVec 32 := Scalar.addi c512_i32 v0
  let c3_i32 : BitVec 32 := 3#32
  let v2 : BitVec 32 := Scalar.addi v1 c3_i32
  let v3 : Index := Scalar.indexCast v2
  let v4 : BitVec 32 := pf.at 0 (Rect.unit (s := S1024) ![v3.toNat] S1.size (k0_off1_inb i 1 3)) numel1_S1
  let c0_i32 : BitVec 32 := 0#32
  let c0_i32_0 : BitVec 32 := 0#32
  let c0_i32_1 : BitVec 32 := 0#32
  ![v4.toNat, c0_i32.toNat, c0_i32_0.toNat]

def cc0_transform_28 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c512_i32 : BitVec 32 := 512#32
  let v1 : BitVec 32 := Scalar.addi c512_i32 v0
  let c4_i32 : BitVec 32 := 4#32
  let v2 : BitVec 32 := Scalar.addi v1 c4_i32
  let v3 : Index := Scalar.indexCast v2
  let v4 : BitVec 32 := pf.at 0 (Rect.unit (s := S1024) ![v3.toNat] S1.size (k0_off1_inb i 1 4)) numel1_S1
  let c0_i32 : BitVec 32 := 0#32
  let c0_i32_0 : BitVec 32 := 0#32
  let c0_i32_1 : BitVec 32 := 0#32
  ![v4.toNat, c0_i32.toNat, c0_i32_0.toNat]

def cc0_transform_29 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c512_i32 : BitVec 32 := 512#32
  let v1 : BitVec 32 := Scalar.addi c512_i32 v0
  let c5_i32 : BitVec 32 := 5#32
  let v2 : BitVec 32 := Scalar.addi v1 c5_i32
  let v3 : Index := Scalar.indexCast v2
  let v4 : BitVec 32 := pf.at 0 (Rect.unit (s := S1024) ![v3.toNat] S1.size (k0_off1_inb i 1 5)) numel1_S1
  let c0_i32 : BitVec 32 := 0#32
  let c0_i32_0 : BitVec 32 := 0#32
  let c0_i32_1 : BitVec 32 := 0#32
  ![v4.toNat, c0_i32.toNat, c0_i32_0.toNat]

def cc0_transform_30 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c512_i32 : BitVec 32 := 512#32
  let v1 : BitVec 32 := Scalar.addi c512_i32 v0
  let c6_i32 : BitVec 32 := 6#32
  let v2 : BitVec 32 := Scalar.addi v1 c6_i32
  let v3 : Index := Scalar.indexCast v2
  let v4 : BitVec 32 := pf.at 0 (Rect.unit (s := S1024) ![v3.toNat] S1.size (k0_off1_inb i 1 6)) numel1_S1
  let c0_i32 : BitVec 32 := 0#32
  let c0_i32_0 : BitVec 32 := 0#32
  let c0_i32_1 : BitVec 32 := 0#32
  ![v4.toNat, c0_i32.toNat, c0_i32_0.toNat]

def cc0_transform_31 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c512_i32 : BitVec 32 := 512#32
  let v1 : BitVec 32 := Scalar.addi c512_i32 v0
  let c7_i32 : BitVec 32 := 7#32
  let v2 : BitVec 32 := Scalar.addi v1 c7_i32
  let v3 : Index := Scalar.indexCast v2
  let v4 : BitVec 32 := pf.at 0 (Rect.unit (s := S1024) ![v3.toNat] S1.size (k0_off1_inb i 1 7)) numel1_S1
  let c0_i32 : BitVec 32 := 0#32
  let c0_i32_0 : BitVec 32 := 0#32
  let c0_i32_1 : BitVec 32 := 0#32
  ![v4.toNat, c0_i32.toNat, c0_i32_0.toNat]

def cc0_transform_32 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi c0_i32 v0
  let c0_i32_0 : BitVec 32 := 0#32
  let v2 : BitVec 32 := Scalar.addi v1 c0_i32_0
  let v3 : Index := Scalar.indexCast v2
  let v4 : BitVec 32 := pf.at 0 (Rect.unit (s := S1024) ![v3.toNat] S1.size (k0_off1_inb i 0 0)) numel1_S1
  let c0_i32_1 : BitVec 32 := 0#32
  let c0_i32_2 : BitVec 32 := 0#32
  let c0_i32_3 : BitVec 32 := 0#32
  ![v4.toNat, c0_i32_1.toNat, c0_i32_2.toNat]

def cc0_transform_33 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi c0_i32 v0
  let c1_i32 : BitVec 32 := 1#32
  let v2 : BitVec 32 := Scalar.addi v1 c1_i32
  let v3 : Index := Scalar.indexCast v2
  let v4 : BitVec 32 := pf.at 0 (Rect.unit (s := S1024) ![v3.toNat] S1.size (k0_off1_inb i 0 1)) numel1_S1
  let c0_i32_0 : BitVec 32 := 0#32
  let c0_i32_1 : BitVec 32 := 0#32
  let c0_i32_2 : BitVec 32 := 0#32
  ![v4.toNat, c0_i32_0.toNat, c0_i32_1.toNat]

def cc0_transform_34 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi c0_i32 v0
  let c2_i32 : BitVec 32 := 2#32
  let v2 : BitVec 32 := Scalar.addi v1 c2_i32
  let v3 : Index := Scalar.indexCast v2
  let v4 : BitVec 32 := pf.at 0 (Rect.unit (s := S1024) ![v3.toNat] S1.size (k0_off1_inb i 0 2)) numel1_S1
  let c0_i32_0 : BitVec 32 := 0#32
  let c0_i32_1 : BitVec 32 := 0#32
  let c0_i32_2 : BitVec 32 := 0#32
  ![v4.toNat, c0_i32_0.toNat, c0_i32_1.toNat]

def cc0_transform_35 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi c0_i32 v0
  let c3_i32 : BitVec 32 := 3#32
  let v2 : BitVec 32 := Scalar.addi v1 c3_i32
  let v3 : Index := Scalar.indexCast v2
  let v4 : BitVec 32 := pf.at 0 (Rect.unit (s := S1024) ![v3.toNat] S1.size (k0_off1_inb i 0 3)) numel1_S1
  let c0_i32_0 : BitVec 32 := 0#32
  let c0_i32_1 : BitVec 32 := 0#32
  let c0_i32_2 : BitVec 32 := 0#32
  ![v4.toNat, c0_i32_0.toNat, c0_i32_1.toNat]

def cc0_transform_36 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi c0_i32 v0
  let c4_i32 : BitVec 32 := 4#32
  let v2 : BitVec 32 := Scalar.addi v1 c4_i32
  let v3 : Index := Scalar.indexCast v2
  let v4 : BitVec 32 := pf.at 0 (Rect.unit (s := S1024) ![v3.toNat] S1.size (k0_off1_inb i 0 4)) numel1_S1
  let c0_i32_0 : BitVec 32 := 0#32
  let c0_i32_1 : BitVec 32 := 0#32
  let c0_i32_2 : BitVec 32 := 0#32
  ![v4.toNat, c0_i32_0.toNat, c0_i32_1.toNat]

def cc0_transform_37 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi c0_i32 v0
  let c5_i32 : BitVec 32 := 5#32
  let v2 : BitVec 32 := Scalar.addi v1 c5_i32
  let v3 : Index := Scalar.indexCast v2
  let v4 : BitVec 32 := pf.at 0 (Rect.unit (s := S1024) ![v3.toNat] S1.size (k0_off1_inb i 0 5)) numel1_S1
  let c0_i32_0 : BitVec 32 := 0#32
  let c0_i32_1 : BitVec 32 := 0#32
  let c0_i32_2 : BitVec 32 := 0#32
  ![v4.toNat, c0_i32_0.toNat, c0_i32_1.toNat]

def cc0_transform_38 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi c0_i32 v0
  let c6_i32 : BitVec 32 := 6#32
  let v2 : BitVec 32 := Scalar.addi v1 c6_i32
  let v3 : Index := Scalar.indexCast v2
  let v4 : BitVec 32 := pf.at 0 (Rect.unit (s := S1024) ![v3.toNat] S1.size (k0_off1_inb i 0 6)) numel1_S1
  let c0_i32_0 : BitVec 32 := 0#32
  let c0_i32_1 : BitVec 32 := 0#32
  let c0_i32_2 : BitVec 32 := 0#32
  ![v4.toNat, c0_i32_0.toNat, c0_i32_1.toNat]

def cc0_transform_39 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi c0_i32 v0
  let c7_i32 : BitVec 32 := 7#32
  let v2 : BitVec 32 := Scalar.addi v1 c7_i32
  let v3 : Index := Scalar.indexCast v2
  let v4 : BitVec 32 := pf.at 0 (Rect.unit (s := S1024) ![v3.toNat] S1.size (k0_off1_inb i 0 7)) numel1_S1
  let c0_i32_0 : BitVec 32 := 0#32
  let c0_i32_1 : BitVec 32 := 0#32
  let c0_i32_2 : BitVec 32 := 0#32
  ![v4.toNat, c0_i32_0.toNat, c0_i32_1.toNat]

def cc0_transform_40 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c512_i32 : BitVec 32 := 512#32
  let v1 : BitVec 32 := Scalar.addi c512_i32 v0
  let c0_i32 : BitVec 32 := 0#32
  let v2 : BitVec 32 := Scalar.addi v1 c0_i32
  let v3 : Index := Scalar.indexCast v2
  let v4 : BitVec 32 := pf.at 0 (Rect.unit (s := S1024) ![v3.toNat] S1.size (k0_off1_inb i 1 0)) numel1_S1
  let c0_i32_0 : BitVec 32 := 0#32
  let c0_i32_1 : BitVec 32 := 0#32
  let c0_i32_2 : BitVec 32 := 0#32
  ![v4.toNat, c0_i32_0.toNat, c0_i32_1.toNat]

def cc0_transform_41 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c512_i32 : BitVec 32 := 512#32
  let v1 : BitVec 32 := Scalar.addi c512_i32 v0
  let c1_i32 : BitVec 32 := 1#32
  let v2 : BitVec 32 := Scalar.addi v1 c1_i32
  let v3 : Index := Scalar.indexCast v2
  let v4 : BitVec 32 := pf.at 0 (Rect.unit (s := S1024) ![v3.toNat] S1.size (k0_off1_inb i 1 1)) numel1_S1
  let c0_i32 : BitVec 32 := 0#32
  let c0_i32_0 : BitVec 32 := 0#32
  let c0_i32_1 : BitVec 32 := 0#32
  ![v4.toNat, c0_i32.toNat, c0_i32_0.toNat]

def cc0_transform_42 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c512_i32 : BitVec 32 := 512#32
  let v1 : BitVec 32 := Scalar.addi c512_i32 v0
  let c2_i32 : BitVec 32 := 2#32
  let v2 : BitVec 32 := Scalar.addi v1 c2_i32
  let v3 : Index := Scalar.indexCast v2
  let v4 : BitVec 32 := pf.at 0 (Rect.unit (s := S1024) ![v3.toNat] S1.size (k0_off1_inb i 1 2)) numel1_S1
  let c0_i32 : BitVec 32 := 0#32
  let c0_i32_0 : BitVec 32 := 0#32
  let c0_i32_1 : BitVec 32 := 0#32
  ![v4.toNat, c0_i32.toNat, c0_i32_0.toNat]

def cc0_transform_43 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c512_i32 : BitVec 32 := 512#32
  let v1 : BitVec 32 := Scalar.addi c512_i32 v0
  let c3_i32 : BitVec 32 := 3#32
  let v2 : BitVec 32 := Scalar.addi v1 c3_i32
  let v3 : Index := Scalar.indexCast v2
  let v4 : BitVec 32 := pf.at 0 (Rect.unit (s := S1024) ![v3.toNat] S1.size (k0_off1_inb i 1 3)) numel1_S1
  let c0_i32 : BitVec 32 := 0#32
  let c0_i32_0 : BitVec 32 := 0#32
  let c0_i32_1 : BitVec 32 := 0#32
  ![v4.toNat, c0_i32.toNat, c0_i32_0.toNat]

def cc0_transform_44 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c512_i32 : BitVec 32 := 512#32
  let v1 : BitVec 32 := Scalar.addi c512_i32 v0
  let c4_i32 : BitVec 32 := 4#32
  let v2 : BitVec 32 := Scalar.addi v1 c4_i32
  let v3 : Index := Scalar.indexCast v2
  let v4 : BitVec 32 := pf.at 0 (Rect.unit (s := S1024) ![v3.toNat] S1.size (k0_off1_inb i 1 4)) numel1_S1
  let c0_i32 : BitVec 32 := 0#32
  let c0_i32_0 : BitVec 32 := 0#32
  let c0_i32_1 : BitVec 32 := 0#32
  ![v4.toNat, c0_i32.toNat, c0_i32_0.toNat]

def cc0_transform_45 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c512_i32 : BitVec 32 := 512#32
  let v1 : BitVec 32 := Scalar.addi c512_i32 v0
  let c5_i32 : BitVec 32 := 5#32
  let v2 : BitVec 32 := Scalar.addi v1 c5_i32
  let v3 : Index := Scalar.indexCast v2
  let v4 : BitVec 32 := pf.at 0 (Rect.unit (s := S1024) ![v3.toNat] S1.size (k0_off1_inb i 1 5)) numel1_S1
  let c0_i32 : BitVec 32 := 0#32
  let c0_i32_0 : BitVec 32 := 0#32
  let c0_i32_1 : BitVec 32 := 0#32
  ![v4.toNat, c0_i32.toNat, c0_i32_0.toNat]

def cc0_transform_46 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c512_i32 : BitVec 32 := 512#32
  let v1 : BitVec 32 := Scalar.addi c512_i32 v0
  let c6_i32 : BitVec 32 := 6#32
  let v2 : BitVec 32 := Scalar.addi v1 c6_i32
  let v3 : Index := Scalar.indexCast v2
  let v4 : BitVec 32 := pf.at 0 (Rect.unit (s := S1024) ![v3.toNat] S1.size (k0_off1_inb i 1 6)) numel1_S1
  let c0_i32 : BitVec 32 := 0#32
  let c0_i32_0 : BitVec 32 := 0#32
  let c0_i32_1 : BitVec 32 := 0#32
  ![v4.toNat, c0_i32.toNat, c0_i32_0.toNat]

def cc0_transform_47 (k0_off1_inb : ∀ i : grid0.Coords, ∀ (r₁ : Fin 2) (r₂ : Fin 8), ∀ a, (k0_off1 i (BitVec.ofNat 32 (512 * r₁.val)) (BitVec.ofNat 32 r₂.val)) a + S1.size a ≤ S1024.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c512_i32 : BitVec 32 := 512#32
  let v1 : BitVec 32 := Scalar.addi c512_i32 v0
  let c7_i32 : BitVec 32 := 7#32
  let v2 : BitVec 32 := Scalar.addi v1 c7_i32
  let v3 : Index := Scalar.indexCast v2
  let v4 : BitVec 32 := pf.at 0 (Rect.unit (s := S1024) ![v3.toNat] S1.size (k0_off1_inb i 1 7)) numel1_S1
  let c0_i32 : BitVec 32 := 0#32
  let c0_i32_0 : BitVec 32 := 0#32
  let c0_i32_1 : BitVec 32 := 0#32
  ![v4.toNat, c0_i32.toNat, c0_i32_0.toNat]

def cc0_transform_48 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_49 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_50 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_51 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_52 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_53 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x300 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x300 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x300 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x300 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x300 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x1x300 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1x300 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x1x300 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x1x300 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x1x300 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x1x300 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x1x300 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x1x300 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x1x300 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x1x300 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x1x300 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x1x128 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S1x1x128 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1x1x128 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S1x1x128 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S1x1x128 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S1x1x128 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S1x1x128 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S1x1x128 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S1x1x128 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

abbrev stage0_41 : Fin 2 → Memref sig .tc .vmem S1x1x128 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]

abbrev stage0_42 : Fin 2 → Memref sig .tc .vmem S1x1x128 .f32 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true]

abbrev stage0_43 : Fin 2 → Memref sig .tc .vmem S1x1x128 .f32 := fun | 0 => Memref.whole cc0_stg43_0 | 1 => Memref.whole cc0_stg43_1 | ⟨_ + 2, h⟩ => absurd h (Nat.not_lt.2 (Nat.le_add_left _ _))
abbrev sem0_43 : Fin 2 → DmaSem sig := fun | 0 => cc0_sem43_0 | 1 => cc0_sem43_1 | ⟨_ + 2, h⟩ => absurd h (Nat.not_lt.2 (Nat.le_add_left _ _))
abbrev reads0_43 : Fin grid0.rank → Bool := ![true]

abbrev stage0_44 : Fin 2 → Memref sig .tc .vmem S1x1x128 .f32 := fun | 0 => Memref.whole cc0_stg44_0 | 1 => Memref.whole cc0_stg44_1 | ⟨_ + 2, h⟩ => absurd h (Nat.not_lt.2 (Nat.le_add_left _ _))
abbrev sem0_44 : Fin 2 → DmaSem sig := fun | 0 => cc0_sem44_0 | 1 => cc0_sem44_1 | ⟨_ + 2, h⟩ => absurd h (Nat.not_lt.2 (Nat.le_add_left _ _))
abbrev reads0_44 : Fin grid0.rank → Bool := ![true]

abbrev stage0_45 : Fin 2 → Memref sig .tc .vmem S1x1x128 .f32 := fun | 0 => Memref.whole cc0_stg45_0 | 1 => Memref.whole cc0_stg45_1 | ⟨_ + 2, h⟩ => absurd h (Nat.not_lt.2 (Nat.le_add_left _ _))
abbrev sem0_45 : Fin 2 → DmaSem sig := fun | 0 => cc0_sem45_0 | 1 => cc0_sem45_1 | ⟨_ + 2, h⟩ => absurd h (Nat.not_lt.2 (Nat.le_add_left _ _))
abbrev reads0_45 : Fin grid0.rank → Bool := ![true]

abbrev stage0_46 : Fin 2 → Memref sig .tc .vmem S1x1x128 .f32 := fun | 0 => Memref.whole cc0_stg46_0 | 1 => Memref.whole cc0_stg46_1 | ⟨_ + 2, h⟩ => absurd h (Nat.not_lt.2 (Nat.le_add_left _ _))
abbrev sem0_46 : Fin 2 → DmaSem sig := fun | 0 => cc0_sem46_0 | 1 => cc0_sem46_1 | ⟨_ + 2, h⟩ => absurd h (Nat.not_lt.2 (Nat.le_add_left _ _))
abbrev reads0_46 : Fin grid0.rank → Bool := ![true]

abbrev stage0_47 : Fin 2 → Memref sig .tc .vmem S1x1x128 .f32 := fun | 0 => Memref.whole cc0_stg47_0 | 1 => Memref.whole cc0_stg47_1 | ⟨_ + 2, h⟩ => absurd h (Nat.not_lt.2 (Nat.le_add_left _ _))
abbrev sem0_47 : Fin 2 → DmaSem sig := fun | 0 => cc0_sem47_0 | 1 => cc0_sem47_1 | ⟨_ + 2, h⟩ => absurd h (Nat.not_lt.2 (Nat.le_add_left _ _))
abbrev reads0_47 : Fin grid0.rank → Bool := ![true]

abbrev stage0_48 : Fin 2 → Memref sig .tc .vmem S8x256 .f32 := fun | 0 => Memref.whole cc0_stg48_0 | 1 => Memref.whole cc0_stg48_1 | ⟨_ + 2, h⟩ => absurd h (Nat.not_lt.2 (Nat.le_add_left _ _))
abbrev sem0_48 : Fin 2 → DmaSem sig := fun | 0 => cc0_sem48_0 | 1 => cc0_sem48_1 | ⟨_ + 2, h⟩ => absurd h (Nat.not_lt.2 (Nat.le_add_left _ _))
abbrev reads0_48 : Fin grid0.rank → Bool := ![true]

abbrev stage0_49 : Fin 2 → Memref sig .tc .vmem S8x256 .f32 := fun | 0 => Memref.whole cc0_stg49_0 | 1 => Memref.whole cc0_stg49_1 | ⟨_ + 2, h⟩ => absurd h (Nat.not_lt.2 (Nat.le_add_left _ _))
abbrev sem0_49 : Fin 2 → DmaSem sig := fun | 0 => cc0_sem49_0 | 1 => cc0_sem49_1 | ⟨_ + 2, h⟩ => absurd h (Nat.not_lt.2 (Nat.le_add_left _ _))
abbrev reads0_49 : Fin grid0.rank → Bool := ![true]

abbrev stage0_50 : Fin 2 → Memref sig .tc .vmem S8x300 .f32 := fun | 0 => Memref.whole cc0_stg50_0 | 1 => Memref.whole cc0_stg50_1 | ⟨_ + 2, h⟩ => absurd h (Nat.not_lt.2 (Nat.le_add_left _ _))
abbrev sem0_50 : Fin 2 → DmaSem sig := fun | 0 => cc0_sem50_0 | 1 => cc0_sem50_1 | ⟨_ + 2, h⟩ => absurd h (Nat.not_lt.2 (Nat.le_add_left _ _))
abbrev reads0_50 : Fin grid0.rank → Bool := ![true]

abbrev stage0_51 : Fin 2 → Memref sig .tc .vmem S8x300 .f32 := fun | 0 => Memref.whole cc0_stg51_0 | 1 => Memref.whole cc0_stg51_1 | ⟨_ + 2, h⟩ => absurd h (Nat.not_lt.2 (Nat.le_add_left _ _))
abbrev sem0_51 : Fin 2 → DmaSem sig := fun | 0 => cc0_sem51_0 | 1 => cc0_sem51_1 | ⟨_ + 2, h⟩ => absurd h (Nat.not_lt.2 (Nat.le_add_left _ _))
abbrev reads0_51 : Fin grid0.rank → Bool := ![true]

abbrev stage0_52 : Fin 2 → Memref sig .tc .vmem S8x128 .f32 := fun | 0 => Memref.whole cc0_stg52_0 | 1 => Memref.whole cc0_stg52_1 | ⟨_ + 2, h⟩ => absurd h (Nat.not_lt.2 (Nat.le_add_left _ _))
abbrev sem0_52 : Fin 2 → DmaSem sig := fun | 0 => cc0_sem52_0 | 1 => cc0_sem52_1 | ⟨_ + 2, h⟩ => absurd h (Nat.not_lt.2 (Nat.le_add_left _ _))
abbrev reads0_52 : Fin grid0.rank → Bool := ![true]

abbrev stage0_53 : Fin 2 → Memref sig .tc .vmem S8x128 .f32 := fun | 0 => Memref.whole cc0_stg53_0 | 1 => Memref.whole cc0_stg53_1 | ⟨_ + 2, h⟩ => absurd h (Nat.not_lt.2 (Nat.le_add_left _ _))
abbrev sem0_53 : Fin 2 → DmaSem sig := fun | 0 => cc0_sem53_0 | 1 => cc0_sem53_1 | ⟨_ + 2, h⟩ => absurd h (Nat.not_lt.2 (Nat.le_add_left _ _))
abbrev reads0_53 : Fin grid0.rank → Bool := ![true]

abbrev grid1 : Pipeline.Grid := ⟨1, ![512], ![false]⟩

abbrev pre1 : Pipeline.Prefetch sig := ⟨1, ![main_v30.idx], fun | 0 => main_v30.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) (c0_i32 : BitVec 32) : Fin 1 → Nat :=
  let arg0 : BitVec 32 := BitVec.ofNat 32 (i 0).val
  let c32_i32 : BitVec 32 := 32#32
  let v0 : BitVec 32 := Scalar.muli arg0 c32_i32
  let v1 : BitVec 32 := Scalar.addi v0 c0_i32
  let v2 : Index := Scalar.indexCast v1
  ![v2.toNat]
def cc1_transform_0 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v2 : Index := Scalar.indexCast v1
  let v3 : BitVec 32 := pf.at 0 (Rect.unit (s := S16384) ![v2.toNat] S1.size (k1_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc1_transform_1 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.addi v0 c1_i32
  let v2 : Index := Scalar.indexCast v1
  let v3 : BitVec 32 := pf.at 0 (Rect.unit (s := S16384) ![v2.toNat] S1.size (k1_off1_inb i 1)) numel1_S1
  let c0_i32 : BitVec 32 := 0#32
  let c0_i32_0 : BitVec 32 := 0#32
  let c0_i32_1 : BitVec 32 := 0#32
  ![v3.toNat, c0_i32.toNat, c0_i32_0.toNat]

def cc1_transform_2 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c2_i32 : BitVec 32 := 2#32
  let v1 : BitVec 32 := Scalar.addi v0 c2_i32
  let v2 : Index := Scalar.indexCast v1
  let v3 : BitVec 32 := pf.at 0 (Rect.unit (s := S16384) ![v2.toNat] S1.size (k1_off1_inb i 2)) numel1_S1
  let c0_i32 : BitVec 32 := 0#32
  let c0_i32_0 : BitVec 32 := 0#32
  let c0_i32_1 : BitVec 32 := 0#32
  ![v3.toNat, c0_i32.toNat, c0_i32_0.toNat]

def cc1_transform_3 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c3_i32 : BitVec 32 := 3#32
  let v1 : BitVec 32 := Scalar.addi v0 c3_i32
  let v2 : Index := Scalar.indexCast v1
  let v3 : BitVec 32 := pf.at 0 (Rect.unit (s := S16384) ![v2.toNat] S1.size (k1_off1_inb i 3)) numel1_S1
  let c0_i32 : BitVec 32 := 0#32
  let c0_i32_0 : BitVec 32 := 0#32
  let c0_i32_1 : BitVec 32 := 0#32
  ![v3.toNat, c0_i32.toNat, c0_i32_0.toNat]

def cc1_transform_4 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c4_i32 : BitVec 32 := 4#32
  let v1 : BitVec 32 := Scalar.addi v0 c4_i32
  let v2 : Index := Scalar.indexCast v1
  let v3 : BitVec 32 := pf.at 0 (Rect.unit (s := S16384) ![v2.toNat] S1.size (k1_off1_inb i 4)) numel1_S1
  let c0_i32 : BitVec 32 := 0#32
  let c0_i32_0 : BitVec 32 := 0#32
  let c0_i32_1 : BitVec 32 := 0#32
  ![v3.toNat, c0_i32.toNat, c0_i32_0.toNat]

def cc1_transform_5 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c5_i32 : BitVec 32 := 5#32
  let v1 : BitVec 32 := Scalar.addi v0 c5_i32
  let v2 : Index := Scalar.indexCast v1
  let v3 : BitVec 32 := pf.at 0 (Rect.unit (s := S16384) ![v2.toNat] S1.size (k1_off1_inb i 5)) numel1_S1
  let c0_i32 : BitVec 32 := 0#32
  let c0_i32_0 : BitVec 32 := 0#32
  let c0_i32_1 : BitVec 32 := 0#32
  ![v3.toNat, c0_i32.toNat, c0_i32_0.toNat]

def cc1_transform_6 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c6_i32 : BitVec 32 := 6#32
  let v1 : BitVec 32 := Scalar.addi v0 c6_i32
  let v2 : Index := Scalar.indexCast v1
  let v3 : BitVec 32 := pf.at 0 (Rect.unit (s := S16384) ![v2.toNat] S1.size (k1_off1_inb i 6)) numel1_S1
  let c0_i32 : BitVec 32 := 0#32
  let c0_i32_0 : BitVec 32 := 0#32
  let c0_i32_1 : BitVec 32 := 0#32
  ![v3.toNat, c0_i32.toNat, c0_i32_0.toNat]

def cc1_transform_7 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c7_i32 : BitVec 32 := 7#32
  let v1 : BitVec 32 := Scalar.addi v0 c7_i32
  let v2 : Index := Scalar.indexCast v1
  let v3 : BitVec 32 := pf.at 0 (Rect.unit (s := S16384) ![v2.toNat] S1.size (k1_off1_inb i 7)) numel1_S1
  let c0_i32 : BitVec 32 := 0#32
  let c0_i32_0 : BitVec 32 := 0#32
  let c0_i32_1 : BitVec 32 := 0#32
  ![v3.toNat, c0_i32.toNat, c0_i32_0.toNat]

def cc1_transform_8 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c8_i32 : BitVec 32 := 8#32
  let v1 : BitVec 32 := Scalar.addi v0 c8_i32
  let v2 : Index := Scalar.indexCast v1
  let v3 : BitVec 32 := pf.at 0 (Rect.unit (s := S16384) ![v2.toNat] S1.size (k1_off1_inb i 8)) numel1_S1
  let c0_i32 : BitVec 32 := 0#32
  let c0_i32_0 : BitVec 32 := 0#32
  let c0_i32_1 : BitVec 32 := 0#32
  ![v3.toNat, c0_i32.toNat, c0_i32_0.toNat]

def cc1_transform_9 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c9_i32 : BitVec 32 := 9#32
  let v1 : BitVec 32 := Scalar.addi v0 c9_i32
  let v2 : Index := Scalar.indexCast v1
  let v3 : BitVec 32 := pf.at 0 (Rect.unit (s := S16384) ![v2.toNat] S1.size (k1_off1_inb i 9)) numel1_S1
  let c0_i32 : BitVec 32 := 0#32
  let c0_i32_0 : BitVec 32 := 0#32
  let c0_i32_1 : BitVec 32 := 0#32
  ![v3.toNat, c0_i32.toNat, c0_i32_0.toNat]

def cc1_transform_10 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c10_i32 : BitVec 32 := 10#32
  let v1 : BitVec 32 := Scalar.addi v0 c10_i32
  let v2 : Index := Scalar.indexCast v1
  let v3 : BitVec 32 := pf.at 0 (Rect.unit (s := S16384) ![v2.toNat] S1.size (k1_off1_inb i 10)) numel1_S1
  let c0_i32 : BitVec 32 := 0#32
  let c0_i32_0 : BitVec 32 := 0#32
  let c0_i32_1 : BitVec 32 := 0#32
  ![v3.toNat, c0_i32.toNat, c0_i32_0.toNat]

def cc1_transform_11 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c11_i32 : BitVec 32 := 11#32
  let v1 : BitVec 32 := Scalar.addi v0 c11_i32
  let v2 : Index := Scalar.indexCast v1
  let v3 : BitVec 32 := pf.at 0 (Rect.unit (s := S16384) ![v2.toNat] S1.size (k1_off1_inb i 11)) numel1_S1
  let c0_i32 : BitVec 32 := 0#32
  let c0_i32_0 : BitVec 32 := 0#32
  let c0_i32_1 : BitVec 32 := 0#32
  ![v3.toNat, c0_i32.toNat, c0_i32_0.toNat]

def cc1_transform_12 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c12_i32 : BitVec 32 := 12#32
  let v1 : BitVec 32 := Scalar.addi v0 c12_i32
  let v2 : Index := Scalar.indexCast v1
  let v3 : BitVec 32 := pf.at 0 (Rect.unit (s := S16384) ![v2.toNat] S1.size (k1_off1_inb i 12)) numel1_S1
  let c0_i32 : BitVec 32 := 0#32
  let c0_i32_0 : BitVec 32 := 0#32
  let c0_i32_1 : BitVec 32 := 0#32
  ![v3.toNat, c0_i32.toNat, c0_i32_0.toNat]

def cc1_transform_13 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c13_i32 : BitVec 32 := 13#32
  let v1 : BitVec 32 := Scalar.addi v0 c13_i32
  let v2 : Index := Scalar.indexCast v1
  let v3 : BitVec 32 := pf.at 0 (Rect.unit (s := S16384) ![v2.toNat] S1.size (k1_off1_inb i 13)) numel1_S1
  let c0_i32 : BitVec 32 := 0#32
  let c0_i32_0 : BitVec 32 := 0#32
  let c0_i32_1 : BitVec 32 := 0#32
  ![v3.toNat, c0_i32.toNat, c0_i32_0.toNat]

def cc1_transform_14 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c14_i32 : BitVec 32 := 14#32
  let v1 : BitVec 32 := Scalar.addi v0 c14_i32
  let v2 : Index := Scalar.indexCast v1
  let v3 : BitVec 32 := pf.at 0 (Rect.unit (s := S16384) ![v2.toNat] S1.size (k1_off1_inb i 14)) numel1_S1
  let c0_i32 : BitVec 32 := 0#32
  let c0_i32_0 : BitVec 32 := 0#32
  let c0_i32_1 : BitVec 32 := 0#32
  ![v3.toNat, c0_i32.toNat, c0_i32_0.toNat]

def cc1_transform_15 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c15_i32 : BitVec 32 := 15#32
  let v1 : BitVec 32 := Scalar.addi v0 c15_i32
  let v2 : Index := Scalar.indexCast v1
  let v3 : BitVec 32 := pf.at 0 (Rect.unit (s := S16384) ![v2.toNat] S1.size (k1_off1_inb i 15)) numel1_S1
  let c0_i32 : BitVec 32 := 0#32
  let c0_i32_0 : BitVec 32 := 0#32
  let c0_i32_1 : BitVec 32 := 0#32
  ![v3.toNat, c0_i32.toNat, c0_i32_0.toNat]

def cc1_transform_16 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c16_i32 : BitVec 32 := 16#32
  let v1 : BitVec 32 := Scalar.addi v0 c16_i32
  let v2 : Index := Scalar.indexCast v1
  let v3 : BitVec 32 := pf.at 0 (Rect.unit (s := S16384) ![v2.toNat] S1.size (k1_off1_inb i 16)) numel1_S1
  let c0_i32 : BitVec 32 := 0#32
  let c0_i32_0 : BitVec 32 := 0#32
  let c0_i32_1 : BitVec 32 := 0#32
  ![v3.toNat, c0_i32.toNat, c0_i32_0.toNat]

def cc1_transform_17 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c17_i32 : BitVec 32 := 17#32
  let v1 : BitVec 32 := Scalar.addi v0 c17_i32
  let v2 : Index := Scalar.indexCast v1
  let v3 : BitVec 32 := pf.at 0 (Rect.unit (s := S16384) ![v2.toNat] S1.size (k1_off1_inb i 17)) numel1_S1
  let c0_i32 : BitVec 32 := 0#32
  let c0_i32_0 : BitVec 32 := 0#32
  let c0_i32_1 : BitVec 32 := 0#32
  ![v3.toNat, c0_i32.toNat, c0_i32_0.toNat]

def cc1_transform_18 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c18_i32 : BitVec 32 := 18#32
  let v1 : BitVec 32 := Scalar.addi v0 c18_i32
  let v2 : Index := Scalar.indexCast v1
  let v3 : BitVec 32 := pf.at 0 (Rect.unit (s := S16384) ![v2.toNat] S1.size (k1_off1_inb i 18)) numel1_S1
  let c0_i32 : BitVec 32 := 0#32
  let c0_i32_0 : BitVec 32 := 0#32
  let c0_i32_1 : BitVec 32 := 0#32
  ![v3.toNat, c0_i32.toNat, c0_i32_0.toNat]

def cc1_transform_19 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c19_i32 : BitVec 32 := 19#32
  let v1 : BitVec 32 := Scalar.addi v0 c19_i32
  let v2 : Index := Scalar.indexCast v1
  let v3 : BitVec 32 := pf.at 0 (Rect.unit (s := S16384) ![v2.toNat] S1.size (k1_off1_inb i 19)) numel1_S1
  let c0_i32 : BitVec 32 := 0#32
  let c0_i32_0 : BitVec 32 := 0#32
  let c0_i32_1 : BitVec 32 := 0#32
  ![v3.toNat, c0_i32.toNat, c0_i32_0.toNat]

def cc1_transform_20 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c20_i32 : BitVec 32 := 20#32
  let v1 : BitVec 32 := Scalar.addi v0 c20_i32
  let v2 : Index := Scalar.indexCast v1
  let v3 : BitVec 32 := pf.at 0 (Rect.unit (s := S16384) ![v2.toNat] S1.size (k1_off1_inb i 20)) numel1_S1
  let c0_i32 : BitVec 32 := 0#32
  let c0_i32_0 : BitVec 32 := 0#32
  let c0_i32_1 : BitVec 32 := 0#32
  ![v3.toNat, c0_i32.toNat, c0_i32_0.toNat]

def cc1_transform_21 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c21_i32 : BitVec 32 := 21#32
  let v1 : BitVec 32 := Scalar.addi v0 c21_i32
  let v2 : Index := Scalar.indexCast v1
  let v3 : BitVec 32 := pf.at 0 (Rect.unit (s := S16384) ![v2.toNat] S1.size (k1_off1_inb i 21)) numel1_S1
  let c0_i32 : BitVec 32 := 0#32
  let c0_i32_0 : BitVec 32 := 0#32
  let c0_i32_1 : BitVec 32 := 0#32
  ![v3.toNat, c0_i32.toNat, c0_i32_0.toNat]

def cc1_transform_22 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c22_i32 : BitVec 32 := 22#32
  let v1 : BitVec 32 := Scalar.addi v0 c22_i32
  let v2 : Index := Scalar.indexCast v1
  let v3 : BitVec 32 := pf.at 0 (Rect.unit (s := S16384) ![v2.toNat] S1.size (k1_off1_inb i 22)) numel1_S1
  let c0_i32 : BitVec 32 := 0#32
  let c0_i32_0 : BitVec 32 := 0#32
  let c0_i32_1 : BitVec 32 := 0#32
  ![v3.toNat, c0_i32.toNat, c0_i32_0.toNat]

def cc1_transform_23 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c23_i32 : BitVec 32 := 23#32
  let v1 : BitVec 32 := Scalar.addi v0 c23_i32
  let v2 : Index := Scalar.indexCast v1
  let v3 : BitVec 32 := pf.at 0 (Rect.unit (s := S16384) ![v2.toNat] S1.size (k1_off1_inb i 23)) numel1_S1
  let c0_i32 : BitVec 32 := 0#32
  let c0_i32_0 : BitVec 32 := 0#32
  let c0_i32_1 : BitVec 32 := 0#32
  ![v3.toNat, c0_i32.toNat, c0_i32_0.toNat]

def cc1_transform_24 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c24_i32 : BitVec 32 := 24#32
  let v1 : BitVec 32 := Scalar.addi v0 c24_i32
  let v2 : Index := Scalar.indexCast v1
  let v3 : BitVec 32 := pf.at 0 (Rect.unit (s := S16384) ![v2.toNat] S1.size (k1_off1_inb i 24)) numel1_S1
  let c0_i32 : BitVec 32 := 0#32
  let c0_i32_0 : BitVec 32 := 0#32
  let c0_i32_1 : BitVec 32 := 0#32
  ![v3.toNat, c0_i32.toNat, c0_i32_0.toNat]

def cc1_transform_25 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c25_i32 : BitVec 32 := 25#32
  let v1 : BitVec 32 := Scalar.addi v0 c25_i32
  let v2 : Index := Scalar.indexCast v1
  let v3 : BitVec 32 := pf.at 0 (Rect.unit (s := S16384) ![v2.toNat] S1.size (k1_off1_inb i 25)) numel1_S1
  let c0_i32 : BitVec 32 := 0#32
  let c0_i32_0 : BitVec 32 := 0#32
  let c0_i32_1 : BitVec 32 := 0#32
  ![v3.toNat, c0_i32.toNat, c0_i32_0.toNat]

def cc1_transform_26 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c26_i32 : BitVec 32 := 26#32
  let v1 : BitVec 32 := Scalar.addi v0 c26_i32
  let v2 : Index := Scalar.indexCast v1
  let v3 : BitVec 32 := pf.at 0 (Rect.unit (s := S16384) ![v2.toNat] S1.size (k1_off1_inb i 26)) numel1_S1
  let c0_i32 : BitVec 32 := 0#32
  let c0_i32_0 : BitVec 32 := 0#32
  let c0_i32_1 : BitVec 32 := 0#32
  ![v3.toNat, c0_i32.toNat, c0_i32_0.toNat]

def cc1_transform_27 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c27_i32 : BitVec 32 := 27#32
  let v1 : BitVec 32 := Scalar.addi v0 c27_i32
  let v2 : Index := Scalar.indexCast v1
  let v3 : BitVec 32 := pf.at 0 (Rect.unit (s := S16384) ![v2.toNat] S1.size (k1_off1_inb i 27)) numel1_S1
  let c0_i32 : BitVec 32 := 0#32
  let c0_i32_0 : BitVec 32 := 0#32
  let c0_i32_1 : BitVec 32 := 0#32
  ![v3.toNat, c0_i32.toNat, c0_i32_0.toNat]

def cc1_transform_28 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c28_i32 : BitVec 32 := 28#32
  let v1 : BitVec 32 := Scalar.addi v0 c28_i32
  let v2 : Index := Scalar.indexCast v1
  let v3 : BitVec 32 := pf.at 0 (Rect.unit (s := S16384) ![v2.toNat] S1.size (k1_off1_inb i 28)) numel1_S1
  let c0_i32 : BitVec 32 := 0#32
  let c0_i32_0 : BitVec 32 := 0#32
  let c0_i32_1 : BitVec 32 := 0#32
  ![v3.toNat, c0_i32.toNat, c0_i32_0.toNat]

def cc1_transform_29 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c29_i32 : BitVec 32 := 29#32
  let v1 : BitVec 32 := Scalar.addi v0 c29_i32
  let v2 : Index := Scalar.indexCast v1
  let v3 : BitVec 32 := pf.at 0 (Rect.unit (s := S16384) ![v2.toNat] S1.size (k1_off1_inb i 29)) numel1_S1
  let c0_i32 : BitVec 32 := 0#32
  let c0_i32_0 : BitVec 32 := 0#32
  let c0_i32_1 : BitVec 32 := 0#32
  ![v3.toNat, c0_i32.toNat, c0_i32_0.toNat]

def cc1_transform_30 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c30_i32 : BitVec 32 := 30#32
  let v1 : BitVec 32 := Scalar.addi v0 c30_i32
  let v2 : Index := Scalar.indexCast v1
  let v3 : BitVec 32 := pf.at 0 (Rect.unit (s := S16384) ![v2.toNat] S1.size (k1_off1_inb i 30)) numel1_S1
  let c0_i32 : BitVec 32 := 0#32
  let c0_i32_0 : BitVec 32 := 0#32
  let c0_i32_1 : BitVec 32 := 0#32
  ![v3.toNat, c0_i32.toNat, c0_i32_0.toNat]

def cc1_transform_31 (k1_off1_inb : ∀ i : grid1.Coords, ∀ (r : Fin 32), ∀ a, (k1_off1 i (BitVec.ofNat 32 r.val)) a + S1.size a ≤ S16384.size a) (numel1_S1 : S1.numel = 1) (pf : pre1.Contents (Elt F)) (i : grid1.Coords) : Fin 3 → Nat :=
  let arg0 : BitVec 32 := BitVec.ofNat 32 (i 0).val
  let c32_i32 : BitVec 32 := 32#32
  let v0 : BitVec 32 := Scalar.muli arg0 c32_i32
  let c31_i32 : BitVec 32 := 31#32
  let v1 : BitVec 32 := Scalar.addi v0 c31_i32
  let v2 : Index := Scalar.indexCast v1
  let v3 : BitVec 32 := pf.at 0 (Rect.unit (s := S16384) ![v2.toNat] S1.size (k1_off1_inb i 31)) numel1_S1
  let c0_i32 : BitVec 32 := 0#32
  let c0_i32_0 : BitVec 32 := 0#32
  let c0_i32_1 : BitVec 32 := 0#32
  ![v3.toNat, c0_i32.toNat, c0_i32_0.toNat]

def cc1_transform_32 (i : grid1.Coords) : Fin 3 → Nat :=
  let arg0 : BitVec 32 := BitVec.ofNat 32 (i 0).val
  let c256_i32 : BitVec 32 := 256#32
  let v0 : BitVec 32 := Scalar.divsi arg0 c256_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c256_i32 c0_i32_1
  let v7 : BitVec 32 := Scalar.extui v6
  let c0_i32_2 : BitVec 32 := 0#32
  let v8 : BitVec 1 := Scalar.cmpi .slt c256_i32 c0_i32_2
  let v9 : BitVec 32 := Scalar.extui v8
  let v10 : BitVec 32 := Scalar.subi v7 v9
  let v11 : BitVec 1 := Scalar.cmpi .ne v5 v10
  let v12 : BitVec 32 := Scalar.remsi arg0 c256_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c256_i32_4 : BitVec 32 := 256#32
  let c0_i32_5 : BitVec 32 := 0#32
  let v17 : BitVec 1 := Scalar.cmpi .eq c256_i32_4 c0_i32_5
  let c1_i32_6 : BitVec 32 := 1#32
  let v18 : BitVec 32 := Scalar.select v17 c1_i32_6 c256_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.divsi v26 c16_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c16_i32 c0_i32_12
  let v34 : BitVec 32 := Scalar.extui v33
  let c0_i32_13 : BitVec 32 := 0#32
  let v35 : BitVec 1 := Scalar.cmpi .slt c16_i32 c0_i32_13
  let v36 : BitVec 32 := Scalar.extui v35
  let v37 : BitVec 32 := Scalar.subi v34 v36
  let v38 : BitVec 1 := Scalar.cmpi .ne v32 v37
  let v39 : BitVec 32 := Scalar.remsi v26 c16_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c0_i32_16 : BitVec 32 := 0#32
  let c0_i32_17 : BitVec 32 := 0#32
  ![v16.toNat, v43.toNat, c0_i32_16.toNat]

def cc1_transform_33 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x1x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x1x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x1x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x1x256 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1x1x256 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S1x1x256 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S1x1x256 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S1x1x256 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S1x1x256 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 2 → Memref sig .tc .vmem S1x1x256 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

abbrev stage1_20 : Fin 2 → Memref sig .tc .vmem S1x1x256 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true]

abbrev stage1_21 : Fin 2 → Memref sig .tc .vmem S1x1x256 .f32 := fun | 0 => Memref.whole cc1_stg21_0 | 1 => Memref.whole cc1_stg21_1 | ⟨_ + 2, h⟩ => absurd h (Nat.not_lt.2 (Nat.le_add_left _ _))
abbrev sem1_21 : Fin 2 → DmaSem sig := fun | 0 => cc1_sem21_0 | 1 => cc1_sem21_1 | ⟨_ + 2, h⟩ => absurd h (Nat.not_lt.2 (Nat.le_add_left _ _))
abbrev reads1_21 : Fin grid1.rank → Bool := ![true]

abbrev stage1_22 : Fin 2 → Memref sig .tc .vmem S1x1x256 .f32 := fun | 0 => Memref.whole cc1_stg22_0 | 1 => Memref.whole cc1_stg22_1 | ⟨_ + 2, h⟩ => absurd h (Nat.not_lt.2 (Nat.le_add_left _ _))
abbrev sem1_22 : Fin 2 → DmaSem sig := fun | 0 => cc1_sem22_0 | 1 => cc1_sem22_1 | ⟨_ + 2, h⟩ => absurd h (Nat.not_lt.2 (Nat.le_add_left _ _))
abbrev reads1_22 : Fin grid1.rank → Bool := ![true]

abbrev stage1_23 : Fin 2 → Memref sig .tc .vmem S1x1x256 .f32 := fun | 0 => Memref.whole cc1_stg23_0 | 1 => Memref.whole cc1_stg23_1 | ⟨_ + 2, h⟩ => absurd h (Nat.not_lt.2 (Nat.le_add_left _ _))
abbrev sem1_23 : Fin 2 → DmaSem sig := fun | 0 => cc1_sem23_0 | 1 => cc1_sem23_1 | ⟨_ + 2, h⟩ => absurd h (Nat.not_lt.2 (Nat.le_add_left _ _))
abbrev reads1_23 : Fin grid1.rank → Bool := ![true]

abbrev stage1_24 : Fin 2 → Memref sig .tc .vmem S1x1x256 .f32 := fun | 0 => Memref.whole cc1_stg24_0 | 1 => Memref.whole cc1_stg24_1 | ⟨_ + 2, h⟩ => absurd h (Nat.not_lt.2 (Nat.le_add_left _ _))
abbrev sem1_24 : Fin 2 → DmaSem sig := fun | 0 => cc1_sem24_0 | 1 => cc1_sem24_1 | ⟨_ + 2, h⟩ => absurd h (Nat.not_lt.2 (Nat.le_add_left _ _))
abbrev reads1_24 : Fin grid1.rank → Bool := ![true]

abbrev stage1_25 : Fin 2 → Memref sig .tc .vmem S1x1x256 .f32 := fun | 0 => Memref.whole cc1_stg25_0 | 1 => Memref.whole cc1_stg25_1 | ⟨_ + 2, h⟩ => absurd h (Nat.not_lt.2 (Nat.le_add_left _ _))
abbrev sem1_25 : Fin 2 → DmaSem sig := fun | 0 => cc1_sem25_0 | 1 => cc1_sem25_1 | ⟨_ + 2, h⟩ => absurd h (Nat.not_lt.2 (Nat.le_add_left _ _))
abbrev reads1_25 : Fin grid1.rank → Bool := ![true]

abbrev stage1_26 : Fin 2 → Memref sig .tc .vmem S1x1x256 .f32 := fun | 0 => Memref.whole cc1_stg26_0 | 1 => Memref.whole cc1_stg26_1 | ⟨_ + 2, h⟩ => absurd h (Nat.not_lt.2 (Nat.le_add_left _ _))
abbrev sem1_26 : Fin 2 → DmaSem sig := fun | 0 => cc1_sem26_0 | 1 => cc1_sem26_1 | ⟨_ + 2, h⟩ => absurd h (Nat.not_lt.2 (Nat.le_add_left _ _))
abbrev reads1_26 : Fin grid1.rank → Bool := ![true]

abbrev stage1_27 : Fin 2 → Memref sig .tc .vmem S1x1x256 .f32 := fun | 0 => Memref.whole cc1_stg27_0 | 1 => Memref.whole cc1_stg27_1 | ⟨_ + 2, h⟩ => absurd h (Nat.not_lt.2 (Nat.le_add_left _ _))
abbrev sem1_27 : Fin 2 → DmaSem sig := fun | 0 => cc1_sem27_0 | 1 => cc1_sem27_1 | ⟨_ + 2, h⟩ => absurd h (Nat.not_lt.2 (Nat.le_add_left _ _))
abbrev reads1_27 : Fin grid1.rank → Bool := ![true]

abbrev stage1_28 : Fin 2 → Memref sig .tc .vmem S1x1x256 .f32 := fun | 0 => Memref.whole cc1_stg28_0 | 1 => Memref.whole cc1_stg28_1 | ⟨_ + 2, h⟩ => absurd h (Nat.not_lt.2 (Nat.le_add_left _ _))
abbrev sem1_28 : Fin 2 → DmaSem sig := fun | 0 => cc1_sem28_0 | 1 => cc1_sem28_1 | ⟨_ + 2, h⟩ => absurd h (Nat.not_lt.2 (Nat.le_add_left _ _))
abbrev reads1_28 : Fin grid1.rank → Bool := ![true]

abbrev stage1_29 : Fin 2 → Memref sig .tc .vmem S1x1x256 .f32 := fun | 0 => Memref.whole cc1_stg29_0 | 1 => Memref.whole cc1_stg29_1 | ⟨_ + 2, h⟩ => absurd h (Nat.not_lt.2 (Nat.le_add_left _ _))
abbrev sem1_29 : Fin 2 → DmaSem sig := fun | 0 => cc1_sem29_0 | 1 => cc1_sem29_1 | ⟨_ + 2, h⟩ => absurd h (Nat.not_lt.2 (Nat.le_add_left _ _))
abbrev reads1_29 : Fin grid1.rank → Bool := ![true]

abbrev stage1_30 : Fin 2 → Memref sig .tc .vmem S1x1x256 .f32 := fun | 0 => Memref.whole cc1_stg30_0 | 1 => Memref.whole cc1_stg30_1 | ⟨_ + 2, h⟩ => absurd h (Nat.not_lt.2 (Nat.le_add_left _ _))
abbrev sem1_30 : Fin 2 → DmaSem sig := fun | 0 => cc1_sem30_0 | 1 => cc1_sem30_1 | ⟨_ + 2, h⟩ => absurd h (Nat.not_lt.2 (Nat.le_add_left _ _))
abbrev reads1_30 : Fin grid1.rank → Bool := ![true]

abbrev stage1_31 : Fin 2 → Memref sig .tc .vmem S1x1x256 .f32 := fun | 0 => Memref.whole cc1_stg31_0 | 1 => Memref.whole cc1_stg31_1 | ⟨_ + 2, h⟩ => absurd h (Nat.not_lt.2 (Nat.le_add_left _ _))
abbrev sem1_31 : Fin 2 → DmaSem sig := fun | 0 => cc1_sem31_0 | 1 => cc1_sem31_1 | ⟨_ + 2, h⟩ => absurd h (Nat.not_lt.2 (Nat.le_add_left _ _))
abbrev reads1_31 : Fin grid1.rank → Bool := ![true]

abbrev stage1_32 : Fin 2 → Memref sig .tc .vmem S1x32x256 .f32 := fun | 0 => Memref.whole cc1_stg32_0 | 1 => Memref.whole cc1_stg32_1 | ⟨_ + 2, h⟩ => absurd h (Nat.not_lt.2 (Nat.le_add_left _ _))
abbrev sem1_32 : Fin 2 → DmaSem sig := fun | 0 => cc1_sem32_0 | 1 => cc1_sem32_1 | ⟨_ + 2, h⟩ => absurd h (Nat.not_lt.2 (Nat.le_add_left _ _))
abbrev reads1_32 : Fin grid1.rank → Bool := ![true]

abbrev stage1_33 : Fin 2 → Memref sig .tc .vmem S1x32x1 .f32 := fun | 0 => Memref.whole cc1_stg33_0 | 1 => Memref.whole cc1_stg33_1 | ⟨_ + 2, h⟩ => absurd h (Nat.not_lt.2 (Nat.le_add_left _ _))
abbrev sem1_33 : Fin 2 → DmaSem sig := fun | 0 => cc1_sem33_0 | 1 => cc1_sem33_1 | ⟨_ + 2, h⟩ => absurd h (Nat.not_lt.2 (Nat.le_add_left _ _))
abbrev reads1_33 : Fin grid1.rank → Bool := ![true]

abbrev grid2 : Pipeline.Grid := ⟨1, ![512], ![false]⟩

abbrev pre2 : Pipeline.Prefetch sig := ⟨1, ![main_v42.idx], fun | 0 => main_v42.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) (c0_i32 : BitVec 32) : Fin 1 → Nat :=
  let arg0 : BitVec 32 := BitVec.ofNat 32 (i 0).val
  let c32_i32 : BitVec 32 := 32#32
  let v0 : BitVec 32 := Scalar.muli arg0 c32_i32
  let v1 : BitVec 32 := Scalar.addi v0 c0_i32
  let v2 : Index := Scalar.indexCast v1
  ![v2.toNat]
def cc2_transform_0 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v2 : Index := Scalar.indexCast v1
  let v3 : BitVec 32 := pf.at 0 (Rect.unit (s := S16384) ![v2.toNat] S1.size (k2_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc2_transform_1 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.addi v0 c1_i32
  let v2 : Index := Scalar.indexCast v1
  let v3 : BitVec 32 := pf.at 0 (Rect.unit (s := S16384) ![v2.toNat] S1.size (k2_off1_inb i 1)) numel1_S1
  let c0_i32 : BitVec 32 := 0#32
  let c0_i32_0 : BitVec 32 := 0#32
  let c0_i32_1 : BitVec 32 := 0#32
  ![v3.toNat, c0_i32.toNat, c0_i32_0.toNat]

def cc2_transform_2 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c2_i32 : BitVec 32 := 2#32
  let v1 : BitVec 32 := Scalar.addi v0 c2_i32
  let v2 : Index := Scalar.indexCast v1
  let v3 : BitVec 32 := pf.at 0 (Rect.unit (s := S16384) ![v2.toNat] S1.size (k2_off1_inb i 2)) numel1_S1
  let c0_i32 : BitVec 32 := 0#32
  let c0_i32_0 : BitVec 32 := 0#32
  let c0_i32_1 : BitVec 32 := 0#32
  ![v3.toNat, c0_i32.toNat, c0_i32_0.toNat]

def cc2_transform_3 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c3_i32 : BitVec 32 := 3#32
  let v1 : BitVec 32 := Scalar.addi v0 c3_i32
  let v2 : Index := Scalar.indexCast v1
  let v3 : BitVec 32 := pf.at 0 (Rect.unit (s := S16384) ![v2.toNat] S1.size (k2_off1_inb i 3)) numel1_S1
  let c0_i32 : BitVec 32 := 0#32
  let c0_i32_0 : BitVec 32 := 0#32
  let c0_i32_1 : BitVec 32 := 0#32
  ![v3.toNat, c0_i32.toNat, c0_i32_0.toNat]

def cc2_transform_4 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c4_i32 : BitVec 32 := 4#32
  let v1 : BitVec 32 := Scalar.addi v0 c4_i32
  let v2 : Index := Scalar.indexCast v1
  let v3 : BitVec 32 := pf.at 0 (Rect.unit (s := S16384) ![v2.toNat] S1.size (k2_off1_inb i 4)) numel1_S1
  let c0_i32 : BitVec 32 := 0#32
  let c0_i32_0 : BitVec 32 := 0#32
  let c0_i32_1 : BitVec 32 := 0#32
  ![v3.toNat, c0_i32.toNat, c0_i32_0.toNat]

def cc2_transform_5 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c5_i32 : BitVec 32 := 5#32
  let v1 : BitVec 32 := Scalar.addi v0 c5_i32
  let v2 : Index := Scalar.indexCast v1
  let v3 : BitVec 32 := pf.at 0 (Rect.unit (s := S16384) ![v2.toNat] S1.size (k2_off1_inb i 5)) numel1_S1
  let c0_i32 : BitVec 32 := 0#32
  let c0_i32_0 : BitVec 32 := 0#32
  let c0_i32_1 : BitVec 32 := 0#32
  ![v3.toNat, c0_i32.toNat, c0_i32_0.toNat]

def cc2_transform_6 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c6_i32 : BitVec 32 := 6#32
  let v1 : BitVec 32 := Scalar.addi v0 c6_i32
  let v2 : Index := Scalar.indexCast v1
  let v3 : BitVec 32 := pf.at 0 (Rect.unit (s := S16384) ![v2.toNat] S1.size (k2_off1_inb i 6)) numel1_S1
  let c0_i32 : BitVec 32 := 0#32
  let c0_i32_0 : BitVec 32 := 0#32
  let c0_i32_1 : BitVec 32 := 0#32
  ![v3.toNat, c0_i32.toNat, c0_i32_0.toNat]

def cc2_transform_7 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c7_i32 : BitVec 32 := 7#32
  let v1 : BitVec 32 := Scalar.addi v0 c7_i32
  let v2 : Index := Scalar.indexCast v1
  let v3 : BitVec 32 := pf.at 0 (Rect.unit (s := S16384) ![v2.toNat] S1.size (k2_off1_inb i 7)) numel1_S1
  let c0_i32 : BitVec 32 := 0#32
  let c0_i32_0 : BitVec 32 := 0#32
  let c0_i32_1 : BitVec 32 := 0#32
  ![v3.toNat, c0_i32.toNat, c0_i32_0.toNat]

def cc2_transform_8 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c8_i32 : BitVec 32 := 8#32
  let v1 : BitVec 32 := Scalar.addi v0 c8_i32
  let v2 : Index := Scalar.indexCast v1
  let v3 : BitVec 32 := pf.at 0 (Rect.unit (s := S16384) ![v2.toNat] S1.size (k2_off1_inb i 8)) numel1_S1
  let c0_i32 : BitVec 32 := 0#32
  let c0_i32_0 : BitVec 32 := 0#32
  let c0_i32_1 : BitVec 32 := 0#32
  ![v3.toNat, c0_i32.toNat, c0_i32_0.toNat]

def cc2_transform_9 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c9_i32 : BitVec 32 := 9#32
  let v1 : BitVec 32 := Scalar.addi v0 c9_i32
  let v2 : Index := Scalar.indexCast v1
  let v3 : BitVec 32 := pf.at 0 (Rect.unit (s := S16384) ![v2.toNat] S1.size (k2_off1_inb i 9)) numel1_S1
  let c0_i32 : BitVec 32 := 0#32
  let c0_i32_0 : BitVec 32 := 0#32
  let c0_i32_1 : BitVec 32 := 0#32
  ![v3.toNat, c0_i32.toNat, c0_i32_0.toNat]

def cc2_transform_10 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c10_i32 : BitVec 32 := 10#32
  let v1 : BitVec 32 := Scalar.addi v0 c10_i32
  let v2 : Index := Scalar.indexCast v1
  let v3 : BitVec 32 := pf.at 0 (Rect.unit (s := S16384) ![v2.toNat] S1.size (k2_off1_inb i 10)) numel1_S1
  let c0_i32 : BitVec 32 := 0#32
  let c0_i32_0 : BitVec 32 := 0#32
  let c0_i32_1 : BitVec 32 := 0#32
  ![v3.toNat, c0_i32.toNat, c0_i32_0.toNat]

def cc2_transform_11 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c11_i32 : BitVec 32 := 11#32
  let v1 : BitVec 32 := Scalar.addi v0 c11_i32
  let v2 : Index := Scalar.indexCast v1
  let v3 : BitVec 32 := pf.at 0 (Rect.unit (s := S16384) ![v2.toNat] S1.size (k2_off1_inb i 11)) numel1_S1
  let c0_i32 : BitVec 32 := 0#32
  let c0_i32_0 : BitVec 32 := 0#32
  let c0_i32_1 : BitVec 32 := 0#32
  ![v3.toNat, c0_i32.toNat, c0_i32_0.toNat]

def cc2_transform_12 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c12_i32 : BitVec 32 := 12#32
  let v1 : BitVec 32 := Scalar.addi v0 c12_i32
  let v2 : Index := Scalar.indexCast v1
  let v3 : BitVec 32 := pf.at 0 (Rect.unit (s := S16384) ![v2.toNat] S1.size (k2_off1_inb i 12)) numel1_S1
  let c0_i32 : BitVec 32 := 0#32
  let c0_i32_0 : BitVec 32 := 0#32
  let c0_i32_1 : BitVec 32 := 0#32
  ![v3.toNat, c0_i32.toNat, c0_i32_0.toNat]

def cc2_transform_13 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c13_i32 : BitVec 32 := 13#32
  let v1 : BitVec 32 := Scalar.addi v0 c13_i32
  let v2 : Index := Scalar.indexCast v1
  let v3 : BitVec 32 := pf.at 0 (Rect.unit (s := S16384) ![v2.toNat] S1.size (k2_off1_inb i 13)) numel1_S1
  let c0_i32 : BitVec 32 := 0#32
  let c0_i32_0 : BitVec 32 := 0#32
  let c0_i32_1 : BitVec 32 := 0#32
  ![v3.toNat, c0_i32.toNat, c0_i32_0.toNat]

def cc2_transform_14 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c14_i32 : BitVec 32 := 14#32
  let v1 : BitVec 32 := Scalar.addi v0 c14_i32
  let v2 : Index := Scalar.indexCast v1
  let v3 : BitVec 32 := pf.at 0 (Rect.unit (s := S16384) ![v2.toNat] S1.size (k2_off1_inb i 14)) numel1_S1
  let c0_i32 : BitVec 32 := 0#32
  let c0_i32_0 : BitVec 32 := 0#32
  let c0_i32_1 : BitVec 32 := 0#32
  ![v3.toNat, c0_i32.toNat, c0_i32_0.toNat]

def cc2_transform_15 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c15_i32 : BitVec 32 := 15#32
  let v1 : BitVec 32 := Scalar.addi v0 c15_i32
  let v2 : Index := Scalar.indexCast v1
  let v3 : BitVec 32 := pf.at 0 (Rect.unit (s := S16384) ![v2.toNat] S1.size (k2_off1_inb i 15)) numel1_S1
  let c0_i32 : BitVec 32 := 0#32
  let c0_i32_0 : BitVec 32 := 0#32
  let c0_i32_1 : BitVec 32 := 0#32
  ![v3.toNat, c0_i32.toNat, c0_i32_0.toNat]

def cc2_transform_16 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c16_i32 : BitVec 32 := 16#32
  let v1 : BitVec 32 := Scalar.addi v0 c16_i32
  let v2 : Index := Scalar.indexCast v1
  let v3 : BitVec 32 := pf.at 0 (Rect.unit (s := S16384) ![v2.toNat] S1.size (k2_off1_inb i 16)) numel1_S1
  let c0_i32 : BitVec 32 := 0#32
  let c0_i32_0 : BitVec 32 := 0#32
  let c0_i32_1 : BitVec 32 := 0#32
  ![v3.toNat, c0_i32.toNat, c0_i32_0.toNat]

def cc2_transform_17 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c17_i32 : BitVec 32 := 17#32
  let v1 : BitVec 32 := Scalar.addi v0 c17_i32
  let v2 : Index := Scalar.indexCast v1
  let v3 : BitVec 32 := pf.at 0 (Rect.unit (s := S16384) ![v2.toNat] S1.size (k2_off1_inb i 17)) numel1_S1
  let c0_i32 : BitVec 32 := 0#32
  let c0_i32_0 : BitVec 32 := 0#32
  let c0_i32_1 : BitVec 32 := 0#32
  ![v3.toNat, c0_i32.toNat, c0_i32_0.toNat]

def cc2_transform_18 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c18_i32 : BitVec 32 := 18#32
  let v1 : BitVec 32 := Scalar.addi v0 c18_i32
  let v2 : Index := Scalar.indexCast v1
  let v3 : BitVec 32 := pf.at 0 (Rect.unit (s := S16384) ![v2.toNat] S1.size (k2_off1_inb i 18)) numel1_S1
  let c0_i32 : BitVec 32 := 0#32
  let c0_i32_0 : BitVec 32 := 0#32
  let c0_i32_1 : BitVec 32 := 0#32
  ![v3.toNat, c0_i32.toNat, c0_i32_0.toNat]

def cc2_transform_19 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c19_i32 : BitVec 32 := 19#32
  let v1 : BitVec 32 := Scalar.addi v0 c19_i32
  let v2 : Index := Scalar.indexCast v1
  let v3 : BitVec 32 := pf.at 0 (Rect.unit (s := S16384) ![v2.toNat] S1.size (k2_off1_inb i 19)) numel1_S1
  let c0_i32 : BitVec 32 := 0#32
  let c0_i32_0 : BitVec 32 := 0#32
  let c0_i32_1 : BitVec 32 := 0#32
  ![v3.toNat, c0_i32.toNat, c0_i32_0.toNat]

def cc2_transform_20 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c20_i32 : BitVec 32 := 20#32
  let v1 : BitVec 32 := Scalar.addi v0 c20_i32
  let v2 : Index := Scalar.indexCast v1
  let v3 : BitVec 32 := pf.at 0 (Rect.unit (s := S16384) ![v2.toNat] S1.size (k2_off1_inb i 20)) numel1_S1
  let c0_i32 : BitVec 32 := 0#32
  let c0_i32_0 : BitVec 32 := 0#32
  let c0_i32_1 : BitVec 32 := 0#32
  ![v3.toNat, c0_i32.toNat, c0_i32_0.toNat]

def cc2_transform_21 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c21_i32 : BitVec 32 := 21#32
  let v1 : BitVec 32 := Scalar.addi v0 c21_i32
  let v2 : Index := Scalar.indexCast v1
  let v3 : BitVec 32 := pf.at 0 (Rect.unit (s := S16384) ![v2.toNat] S1.size (k2_off1_inb i 21)) numel1_S1
  let c0_i32 : BitVec 32 := 0#32
  let c0_i32_0 : BitVec 32 := 0#32
  let c0_i32_1 : BitVec 32 := 0#32
  ![v3.toNat, c0_i32.toNat, c0_i32_0.toNat]

def cc2_transform_22 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c22_i32 : BitVec 32 := 22#32
  let v1 : BitVec 32 := Scalar.addi v0 c22_i32
  let v2 : Index := Scalar.indexCast v1
  let v3 : BitVec 32 := pf.at 0 (Rect.unit (s := S16384) ![v2.toNat] S1.size (k2_off1_inb i 22)) numel1_S1
  let c0_i32 : BitVec 32 := 0#32
  let c0_i32_0 : BitVec 32 := 0#32
  let c0_i32_1 : BitVec 32 := 0#32
  ![v3.toNat, c0_i32.toNat, c0_i32_0.toNat]

def cc2_transform_23 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c23_i32 : BitVec 32 := 23#32
  let v1 : BitVec 32 := Scalar.addi v0 c23_i32
  let v2 : Index := Scalar.indexCast v1
  let v3 : BitVec 32 := pf.at 0 (Rect.unit (s := S16384) ![v2.toNat] S1.size (k2_off1_inb i 23)) numel1_S1
  let c0_i32 : BitVec 32 := 0#32
  let c0_i32_0 : BitVec 32 := 0#32
  let c0_i32_1 : BitVec 32 := 0#32
  ![v3.toNat, c0_i32.toNat, c0_i32_0.toNat]

def cc2_transform_24 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c24_i32 : BitVec 32 := 24#32
  let v1 : BitVec 32 := Scalar.addi v0 c24_i32
  let v2 : Index := Scalar.indexCast v1
  let v3 : BitVec 32 := pf.at 0 (Rect.unit (s := S16384) ![v2.toNat] S1.size (k2_off1_inb i 24)) numel1_S1
  let c0_i32 : BitVec 32 := 0#32
  let c0_i32_0 : BitVec 32 := 0#32
  let c0_i32_1 : BitVec 32 := 0#32
  ![v3.toNat, c0_i32.toNat, c0_i32_0.toNat]

def cc2_transform_25 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c25_i32 : BitVec 32 := 25#32
  let v1 : BitVec 32 := Scalar.addi v0 c25_i32
  let v2 : Index := Scalar.indexCast v1
  let v3 : BitVec 32 := pf.at 0 (Rect.unit (s := S16384) ![v2.toNat] S1.size (k2_off1_inb i 25)) numel1_S1
  let c0_i32 : BitVec 32 := 0#32
  let c0_i32_0 : BitVec 32 := 0#32
  let c0_i32_1 : BitVec 32 := 0#32
  ![v3.toNat, c0_i32.toNat, c0_i32_0.toNat]

def cc2_transform_26 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c26_i32 : BitVec 32 := 26#32
  let v1 : BitVec 32 := Scalar.addi v0 c26_i32
  let v2 : Index := Scalar.indexCast v1
  let v3 : BitVec 32 := pf.at 0 (Rect.unit (s := S16384) ![v2.toNat] S1.size (k2_off1_inb i 26)) numel1_S1
  let c0_i32 : BitVec 32 := 0#32
  let c0_i32_0 : BitVec 32 := 0#32
  let c0_i32_1 : BitVec 32 := 0#32
  ![v3.toNat, c0_i32.toNat, c0_i32_0.toNat]

def cc2_transform_27 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c27_i32 : BitVec 32 := 27#32
  let v1 : BitVec 32 := Scalar.addi v0 c27_i32
  let v2 : Index := Scalar.indexCast v1
  let v3 : BitVec 32 := pf.at 0 (Rect.unit (s := S16384) ![v2.toNat] S1.size (k2_off1_inb i 27)) numel1_S1
  let c0_i32 : BitVec 32 := 0#32
  let c0_i32_0 : BitVec 32 := 0#32
  let c0_i32_1 : BitVec 32 := 0#32
  ![v3.toNat, c0_i32.toNat, c0_i32_0.toNat]

def cc2_transform_28 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c28_i32 : BitVec 32 := 28#32
  let v1 : BitVec 32 := Scalar.addi v0 c28_i32
  let v2 : Index := Scalar.indexCast v1
  let v3 : BitVec 32 := pf.at 0 (Rect.unit (s := S16384) ![v2.toNat] S1.size (k2_off1_inb i 28)) numel1_S1
  let c0_i32 : BitVec 32 := 0#32
  let c0_i32_0 : BitVec 32 := 0#32
  let c0_i32_1 : BitVec 32 := 0#32
  ![v3.toNat, c0_i32.toNat, c0_i32_0.toNat]

def cc2_transform_29 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c29_i32 : BitVec 32 := 29#32
  let v1 : BitVec 32 := Scalar.addi v0 c29_i32
  let v2 : Index := Scalar.indexCast v1
  let v3 : BitVec 32 := pf.at 0 (Rect.unit (s := S16384) ![v2.toNat] S1.size (k2_off1_inb i 29)) numel1_S1
  let c0_i32 : BitVec 32 := 0#32
  let c0_i32_0 : BitVec 32 := 0#32
  let c0_i32_1 : BitVec 32 := 0#32
  ![v3.toNat, c0_i32.toNat, c0_i32_0.toNat]

def cc2_transform_30 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c30_i32 : BitVec 32 := 30#32
  let v1 : BitVec 32 := Scalar.addi v0 c30_i32
  let v2 : Index := Scalar.indexCast v1
  let v3 : BitVec 32 := pf.at 0 (Rect.unit (s := S16384) ![v2.toNat] S1.size (k2_off1_inb i 30)) numel1_S1
  let c0_i32 : BitVec 32 := 0#32
  let c0_i32_0 : BitVec 32 := 0#32
  let c0_i32_1 : BitVec 32 := 0#32
  ![v3.toNat, c0_i32.toNat, c0_i32_0.toNat]

def cc2_transform_31 (k2_off1_inb : ∀ i : grid2.Coords, ∀ (r : Fin 32), ∀ a, (k2_off1 i (BitVec.ofNat 32 r.val)) a + S1.size a ≤ S16384.size a) (numel1_S1 : S1.numel = 1) (pf : pre2.Contents (Elt F)) (i : grid2.Coords) : Fin 3 → Nat :=
  let arg0 : BitVec 32 := BitVec.ofNat 32 (i 0).val
  let c32_i32 : BitVec 32 := 32#32
  let v0 : BitVec 32 := Scalar.muli arg0 c32_i32
  let c31_i32 : BitVec 32 := 31#32
  let v1 : BitVec 32 := Scalar.addi v0 c31_i32
  let v2 : Index := Scalar.indexCast v1
  let v3 : BitVec 32 := pf.at 0 (Rect.unit (s := S16384) ![v2.toNat] S1.size (k2_off1_inb i 31)) numel1_S1
  let c0_i32 : BitVec 32 := 0#32
  let c0_i32_0 : BitVec 32 := 0#32
  let c0_i32_1 : BitVec 32 := 0#32
  ![v3.toNat, c0_i32.toNat, c0_i32_0.toNat]

def cc2_transform_32 (i : grid2.Coords) : Fin 3 → Nat :=
  let arg0 : BitVec 32 := BitVec.ofNat 32 (i 0).val
  let c256_i32 : BitVec 32 := 256#32
  let v0 : BitVec 32 := Scalar.divsi arg0 c256_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c256_i32 c0_i32_1
  let v7 : BitVec 32 := Scalar.extui v6
  let c0_i32_2 : BitVec 32 := 0#32
  let v8 : BitVec 1 := Scalar.cmpi .slt c256_i32 c0_i32_2
  let v9 : BitVec 32 := Scalar.extui v8
  let v10 : BitVec 32 := Scalar.subi v7 v9
  let v11 : BitVec 1 := Scalar.cmpi .ne v5 v10
  let v12 : BitVec 32 := Scalar.remsi arg0 c256_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c256_i32_4 : BitVec 32 := 256#32
  let c0_i32_5 : BitVec 32 := 0#32
  let v17 : BitVec 1 := Scalar.cmpi .eq c256_i32_4 c0_i32_5
  let c1_i32_6 : BitVec 32 := 1#32
  let v18 : BitVec 32 := Scalar.select v17 c1_i32_6 c256_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.divsi v26 c16_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c16_i32 c0_i32_12
  let v34 : BitVec 32 := Scalar.extui v33
  let c0_i32_13 : BitVec 32 := 0#32
  let v35 : BitVec 1 := Scalar.cmpi .slt c16_i32 c0_i32_13
  let v36 : BitVec 32 := Scalar.extui v35
  let v37 : BitVec 32 := Scalar.subi v34 v36
  let v38 : BitVec 1 := Scalar.cmpi .ne v32 v37
  let v39 : BitVec 32 := Scalar.remsi v26 c16_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c0_i32_16 : BitVec 32 := 0#32
  let c0_i32_17 : BitVec 32 := 0#32
  ![v16.toNat, v43.toNat, c0_i32_16.toNat]

def cc2_transform_33 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x1x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x1x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S1x1x256 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S1x1x256 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S1x1x256 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S1x1x256 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S1x1x256 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S1x1x256 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S1x1x256 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev stage2_17 : Fin 2 → Memref sig .tc .vmem S1x1x256 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true]

abbrev stage2_18 : Fin 2 → Memref sig .tc .vmem S1x1x256 .f32 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true]

abbrev stage2_19 : Fin 2 → Memref sig .tc .vmem S1x1x256 .f32 := fun | 0 => Memref.whole cc2_stg19_0 | 1 => Memref.whole cc2_stg19_1 | ⟨_ + 2, h⟩ => absurd h (Nat.not_lt.2 (Nat.le_add_left _ _))
abbrev sem2_19 : Fin 2 → DmaSem sig := fun | 0 => cc2_sem19_0 | 1 => cc2_sem19_1 | ⟨_ + 2, h⟩ => absurd h (Nat.not_lt.2 (Nat.le_add_left _ _))
abbrev reads2_19 : Fin grid2.rank → Bool := ![true]

abbrev stage2_20 : Fin 2 → Memref sig .tc .vmem S1x1x256 .f32 := fun | 0 => Memref.whole cc2_stg20_0 | 1 => Memref.whole cc2_stg20_1 | ⟨_ + 2, h⟩ => absurd h (Nat.not_lt.2 (Nat.le_add_left _ _))
abbrev sem2_20 : Fin 2 → DmaSem sig := fun | 0 => cc2_sem20_0 | 1 => cc2_sem20_1 | ⟨_ + 2, h⟩ => absurd h (Nat.not_lt.2 (Nat.le_add_left _ _))
abbrev reads2_20 : Fin grid2.rank → Bool := ![true]

abbrev stage2_21 : Fin 2 → Memref sig .tc .vmem S1x1x256 .f32 := fun | 0 => Memref.whole cc2_stg21_0 | 1 => Memref.whole cc2_stg21_1 | ⟨_ + 2, h⟩ => absurd h (Nat.not_lt.2 (Nat.le_add_left _ _))
abbrev sem2_21 : Fin 2 → DmaSem sig := fun | 0 => cc2_sem21_0 | 1 => cc2_sem21_1 | ⟨_ + 2, h⟩ => absurd h (Nat.not_lt.2 (Nat.le_add_left _ _))
abbrev reads2_21 : Fin grid2.rank → Bool := ![true]

abbrev stage2_22 : Fin 2 → Memref sig .tc .vmem S1x1x256 .f32 := fun | 0 => Memref.whole cc2_stg22_0 | 1 => Memref.whole cc2_stg22_1 | ⟨_ + 2, h⟩ => absurd h (Nat.not_lt.2 (Nat.le_add_left _ _))
abbrev sem2_22 : Fin 2 → DmaSem sig := fun | 0 => cc2_sem22_0 | 1 => cc2_sem22_1 | ⟨_ + 2, h⟩ => absurd h (Nat.not_lt.2 (Nat.le_add_left _ _))
abbrev reads2_22 : Fin grid2.rank → Bool := ![true]

abbrev stage2_23 : Fin 2 → Memref sig .tc .vmem S1x1x256 .f32 := fun | 0 => Memref.whole cc2_stg23_0 | 1 => Memref.whole cc2_stg23_1 | ⟨_ + 2, h⟩ => absurd h (Nat.not_lt.2 (Nat.le_add_left _ _))
abbrev sem2_23 : Fin 2 → DmaSem sig := fun | 0 => cc2_sem23_0 | 1 => cc2_sem23_1 | ⟨_ + 2, h⟩ => absurd h (Nat.not_lt.2 (Nat.le_add_left _ _))
abbrev reads2_23 : Fin grid2.rank → Bool := ![true]

abbrev stage2_24 : Fin 2 → Memref sig .tc .vmem S1x1x256 .f32 := fun | 0 => Memref.whole cc2_stg24_0 | 1 => Memref.whole cc2_stg24_1 | ⟨_ + 2, h⟩ => absurd h (Nat.not_lt.2 (Nat.le_add_left _ _))
abbrev sem2_24 : Fin 2 → DmaSem sig := fun | 0 => cc2_sem24_0 | 1 => cc2_sem24_1 | ⟨_ + 2, h⟩ => absurd h (Nat.not_lt.2 (Nat.le_add_left _ _))
abbrev reads2_24 : Fin grid2.rank → Bool := ![true]

abbrev stage2_25 : Fin 2 → Memref sig .tc .vmem S1x1x256 .f32 := fun | 0 => Memref.whole cc2_stg25_0 | 1 => Memref.whole cc2_stg25_1 | ⟨_ + 2, h⟩ => absurd h (Nat.not_lt.2 (Nat.le_add_left _ _))
abbrev sem2_25 : Fin 2 → DmaSem sig := fun | 0 => cc2_sem25_0 | 1 => cc2_sem25_1 | ⟨_ + 2, h⟩ => absurd h (Nat.not_lt.2 (Nat.le_add_left _ _))
abbrev reads2_25 : Fin grid2.rank → Bool := ![true]

abbrev stage2_26 : Fin 2 → Memref sig .tc .vmem S1x1x256 .f32 := fun | 0 => Memref.whole cc2_stg26_0 | 1 => Memref.whole cc2_stg26_1 | ⟨_ + 2, h⟩ => absurd h (Nat.not_lt.2 (Nat.le_add_left _ _))
abbrev sem2_26 : Fin 2 → DmaSem sig := fun | 0 => cc2_sem26_0 | 1 => cc2_sem26_1 | ⟨_ + 2, h⟩ => absurd h (Nat.not_lt.2 (Nat.le_add_left _ _))
abbrev reads2_26 : Fin grid2.rank → Bool := ![true]

abbrev stage2_27 : Fin 2 → Memref sig .tc .vmem S1x1x256 .f32 := fun | 0 => Memref.whole cc2_stg27_0 | 1 => Memref.whole cc2_stg27_1 | ⟨_ + 2, h⟩ => absurd h (Nat.not_lt.2 (Nat.le_add_left _ _))
abbrev sem2_27 : Fin 2 → DmaSem sig := fun | 0 => cc2_sem27_0 | 1 => cc2_sem27_1 | ⟨_ + 2, h⟩ => absurd h (Nat.not_lt.2 (Nat.le_add_left _ _))
abbrev reads2_27 : Fin grid2.rank → Bool := ![true]

abbrev stage2_28 : Fin 2 → Memref sig .tc .vmem S1x1x256 .f32 := fun | 0 => Memref.whole cc2_stg28_0 | 1 => Memref.whole cc2_stg28_1 | ⟨_ + 2, h⟩ => absurd h (Nat.not_lt.2 (Nat.le_add_left _ _))
abbrev sem2_28 : Fin 2 → DmaSem sig := fun | 0 => cc2_sem28_0 | 1 => cc2_sem28_1 | ⟨_ + 2, h⟩ => absurd h (Nat.not_lt.2 (Nat.le_add_left _ _))
abbrev reads2_28 : Fin grid2.rank → Bool := ![true]

abbrev stage2_29 : Fin 2 → Memref sig .tc .vmem S1x1x256 .f32 := fun | 0 => Memref.whole cc2_stg29_0 | 1 => Memref.whole cc2_stg29_1 | ⟨_ + 2, h⟩ => absurd h (Nat.not_lt.2 (Nat.le_add_left _ _))
abbrev sem2_29 : Fin 2 → DmaSem sig := fun | 0 => cc2_sem29_0 | 1 => cc2_sem29_1 | ⟨_ + 2, h⟩ => absurd h (Nat.not_lt.2 (Nat.le_add_left _ _))
abbrev reads2_29 : Fin grid2.rank → Bool := ![true]

abbrev stage2_30 : Fin 2 → Memref sig .tc .vmem S1x1x256 .f32 := fun | 0 => Memref.whole cc2_stg30_0 | 1 => Memref.whole cc2_stg30_1 | ⟨_ + 2, h⟩ => absurd h (Nat.not_lt.2 (Nat.le_add_left _ _))
abbrev sem2_30 : Fin 2 → DmaSem sig := fun | 0 => cc2_sem30_0 | 1 => cc2_sem30_1 | ⟨_ + 2, h⟩ => absurd h (Nat.not_lt.2 (Nat.le_add_left _ _))
abbrev reads2_30 : Fin grid2.rank → Bool := ![true]

abbrev stage2_31 : Fin 2 → Memref sig .tc .vmem S1x1x256 .f32 := fun | 0 => Memref.whole cc2_stg31_0 | 1 => Memref.whole cc2_stg31_1 | ⟨_ + 2, h⟩ => absurd h (Nat.not_lt.2 (Nat.le_add_left _ _))
abbrev sem2_31 : Fin 2 → DmaSem sig := fun | 0 => cc2_sem31_0 | 1 => cc2_sem31_1 | ⟨_ + 2, h⟩ => absurd h (Nat.not_lt.2 (Nat.le_add_left _ _))
abbrev reads2_31 : Fin grid2.rank → Bool := ![true]

abbrev stage2_32 : Fin 2 → Memref sig .tc .vmem S1x32x256 .f32 := fun | 0 => Memref.whole cc2_stg32_0 | 1 => Memref.whole cc2_stg32_1 | ⟨_ + 2, h⟩ => absurd h (Nat.not_lt.2 (Nat.le_add_left _ _))
abbrev sem2_32 : Fin 2 → DmaSem sig := fun | 0 => cc2_sem32_0 | 1 => cc2_sem32_1 | ⟨_ + 2, h⟩ => absurd h (Nat.not_lt.2 (Nat.le_add_left _ _))
abbrev reads2_32 : Fin grid2.rank → Bool := ![true]

abbrev stage2_33 : Fin 2 → Memref sig .tc .vmem S1x32x1 .f32 := fun | 0 => Memref.whole cc2_stg33_0 | 1 => Memref.whole cc2_stg33_1 | ⟨_ + 2, h⟩ => absurd h (Nat.not_lt.2 (Nat.le_add_left _ _))
abbrev sem2_33 : Fin 2 → DmaSem sig := fun | 0 => cc2_sem33_0 | 1 => cc2_sem33_1 | ⟨_ + 2, h⟩ => absurd h (Nat.not_lt.2 (Nat.le_add_left _ _))
abbrev reads2_33 : Fin grid2.rank → Bool := ![true]

abbrev grid3 : Pipeline.Grid := ⟨1, ![512], ![false]⟩

abbrev pre3 : Pipeline.Prefetch sig := ⟨1, ![main_v54.idx], fun | 0 => main_v54.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) (c0_i32 : BitVec 32) : Fin 1 → Nat :=
  let arg0 : BitVec 32 := BitVec.ofNat 32 (i 0).val
  let c32_i32 : BitVec 32 := 32#32
  let v0 : BitVec 32 := Scalar.muli arg0 c32_i32
  let v1 : BitVec 32 := Scalar.addi v0 c0_i32
  let v2 : Index := Scalar.indexCast v1
  ![v2.toNat]
def cc3_transform_0 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v2 : Index := Scalar.indexCast v1
  let v3 : BitVec 32 := pf.at 0 (Rect.unit (s := S16384) ![v2.toNat] S1.size (k3_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc3_transform_1 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.addi v0 c1_i32
  let v2 : Index := Scalar.indexCast v1
  let v3 : BitVec 32 := pf.at 0 (Rect.unit (s := S16384) ![v2.toNat] S1.size (k3_off1_inb i 1)) numel1_S1
  let c0_i32 : BitVec 32 := 0#32
  let c0_i32_0 : BitVec 32 := 0#32
  let c0_i32_1 : BitVec 32 := 0#32
  ![v3.toNat, c0_i32.toNat, c0_i32_0.toNat]

def cc3_transform_2 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c2_i32 : BitVec 32 := 2#32
  let v1 : BitVec 32 := Scalar.addi v0 c2_i32
  let v2 : Index := Scalar.indexCast v1
  let v3 : BitVec 32 := pf.at 0 (Rect.unit (s := S16384) ![v2.toNat] S1.size (k3_off1_inb i 2)) numel1_S1
  let c0_i32 : BitVec 32 := 0#32
  let c0_i32_0 : BitVec 32 := 0#32
  let c0_i32_1 : BitVec 32 := 0#32
  ![v3.toNat, c0_i32.toNat, c0_i32_0.toNat]

def cc3_transform_3 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c3_i32 : BitVec 32 := 3#32
  let v1 : BitVec 32 := Scalar.addi v0 c3_i32
  let v2 : Index := Scalar.indexCast v1
  let v3 : BitVec 32 := pf.at 0 (Rect.unit (s := S16384) ![v2.toNat] S1.size (k3_off1_inb i 3)) numel1_S1
  let c0_i32 : BitVec 32 := 0#32
  let c0_i32_0 : BitVec 32 := 0#32
  let c0_i32_1 : BitVec 32 := 0#32
  ![v3.toNat, c0_i32.toNat, c0_i32_0.toNat]

def cc3_transform_4 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c4_i32 : BitVec 32 := 4#32
  let v1 : BitVec 32 := Scalar.addi v0 c4_i32
  let v2 : Index := Scalar.indexCast v1
  let v3 : BitVec 32 := pf.at 0 (Rect.unit (s := S16384) ![v2.toNat] S1.size (k3_off1_inb i 4)) numel1_S1
  let c0_i32 : BitVec 32 := 0#32
  let c0_i32_0 : BitVec 32 := 0#32
  let c0_i32_1 : BitVec 32 := 0#32
  ![v3.toNat, c0_i32.toNat, c0_i32_0.toNat]

def cc3_transform_5 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c5_i32 : BitVec 32 := 5#32
  let v1 : BitVec 32 := Scalar.addi v0 c5_i32
  let v2 : Index := Scalar.indexCast v1
  let v3 : BitVec 32 := pf.at 0 (Rect.unit (s := S16384) ![v2.toNat] S1.size (k3_off1_inb i 5)) numel1_S1
  let c0_i32 : BitVec 32 := 0#32
  let c0_i32_0 : BitVec 32 := 0#32
  let c0_i32_1 : BitVec 32 := 0#32
  ![v3.toNat, c0_i32.toNat, c0_i32_0.toNat]

def cc3_transform_6 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c6_i32 : BitVec 32 := 6#32
  let v1 : BitVec 32 := Scalar.addi v0 c6_i32
  let v2 : Index := Scalar.indexCast v1
  let v3 : BitVec 32 := pf.at 0 (Rect.unit (s := S16384) ![v2.toNat] S1.size (k3_off1_inb i 6)) numel1_S1
  let c0_i32 : BitVec 32 := 0#32
  let c0_i32_0 : BitVec 32 := 0#32
  let c0_i32_1 : BitVec 32 := 0#32
  ![v3.toNat, c0_i32.toNat, c0_i32_0.toNat]

def cc3_transform_7 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c7_i32 : BitVec 32 := 7#32
  let v1 : BitVec 32 := Scalar.addi v0 c7_i32
  let v2 : Index := Scalar.indexCast v1
  let v3 : BitVec 32 := pf.at 0 (Rect.unit (s := S16384) ![v2.toNat] S1.size (k3_off1_inb i 7)) numel1_S1
  let c0_i32 : BitVec 32 := 0#32
  let c0_i32_0 : BitVec 32 := 0#32
  let c0_i32_1 : BitVec 32 := 0#32
  ![v3.toNat, c0_i32.toNat, c0_i32_0.toNat]

def cc3_transform_8 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c8_i32 : BitVec 32 := 8#32
  let v1 : BitVec 32 := Scalar.addi v0 c8_i32
  let v2 : Index := Scalar.indexCast v1
  let v3 : BitVec 32 := pf.at 0 (Rect.unit (s := S16384) ![v2.toNat] S1.size (k3_off1_inb i 8)) numel1_S1
  let c0_i32 : BitVec 32 := 0#32
  let c0_i32_0 : BitVec 32 := 0#32
  let c0_i32_1 : BitVec 32 := 0#32
  ![v3.toNat, c0_i32.toNat, c0_i32_0.toNat]

def cc3_transform_9 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c9_i32 : BitVec 32 := 9#32
  let v1 : BitVec 32 := Scalar.addi v0 c9_i32
  let v2 : Index := Scalar.indexCast v1
  let v3 : BitVec 32 := pf.at 0 (Rect.unit (s := S16384) ![v2.toNat] S1.size (k3_off1_inb i 9)) numel1_S1
  let c0_i32 : BitVec 32 := 0#32
  let c0_i32_0 : BitVec 32 := 0#32
  let c0_i32_1 : BitVec 32 := 0#32
  ![v3.toNat, c0_i32.toNat, c0_i32_0.toNat]

def cc3_transform_10 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c10_i32 : BitVec 32 := 10#32
  let v1 : BitVec 32 := Scalar.addi v0 c10_i32
  let v2 : Index := Scalar.indexCast v1
  let v3 : BitVec 32 := pf.at 0 (Rect.unit (s := S16384) ![v2.toNat] S1.size (k3_off1_inb i 10)) numel1_S1
  let c0_i32 : BitVec 32 := 0#32
  let c0_i32_0 : BitVec 32 := 0#32
  let c0_i32_1 : BitVec 32 := 0#32
  ![v3.toNat, c0_i32.toNat, c0_i32_0.toNat]

def cc3_transform_11 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c11_i32 : BitVec 32 := 11#32
  let v1 : BitVec 32 := Scalar.addi v0 c11_i32
  let v2 : Index := Scalar.indexCast v1
  let v3 : BitVec 32 := pf.at 0 (Rect.unit (s := S16384) ![v2.toNat] S1.size (k3_off1_inb i 11)) numel1_S1
  let c0_i32 : BitVec 32 := 0#32
  let c0_i32_0 : BitVec 32 := 0#32
  let c0_i32_1 : BitVec 32 := 0#32
  ![v3.toNat, c0_i32.toNat, c0_i32_0.toNat]

def cc3_transform_12 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c12_i32 : BitVec 32 := 12#32
  let v1 : BitVec 32 := Scalar.addi v0 c12_i32
  let v2 : Index := Scalar.indexCast v1
  let v3 : BitVec 32 := pf.at 0 (Rect.unit (s := S16384) ![v2.toNat] S1.size (k3_off1_inb i 12)) numel1_S1
  let c0_i32 : BitVec 32 := 0#32
  let c0_i32_0 : BitVec 32 := 0#32
  let c0_i32_1 : BitVec 32 := 0#32
  ![v3.toNat, c0_i32.toNat, c0_i32_0.toNat]

def cc3_transform_13 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c13_i32 : BitVec 32 := 13#32
  let v1 : BitVec 32 := Scalar.addi v0 c13_i32
  let v2 : Index := Scalar.indexCast v1
  let v3 : BitVec 32 := pf.at 0 (Rect.unit (s := S16384) ![v2.toNat] S1.size (k3_off1_inb i 13)) numel1_S1
  let c0_i32 : BitVec 32 := 0#32
  let c0_i32_0 : BitVec 32 := 0#32
  let c0_i32_1 : BitVec 32 := 0#32
  ![v3.toNat, c0_i32.toNat, c0_i32_0.toNat]

def cc3_transform_14 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c14_i32 : BitVec 32 := 14#32
  let v1 : BitVec 32 := Scalar.addi v0 c14_i32
  let v2 : Index := Scalar.indexCast v1
  let v3 : BitVec 32 := pf.at 0 (Rect.unit (s := S16384) ![v2.toNat] S1.size (k3_off1_inb i 14)) numel1_S1
  let c0_i32 : BitVec 32 := 0#32
  let c0_i32_0 : BitVec 32 := 0#32
  let c0_i32_1 : BitVec 32 := 0#32
  ![v3.toNat, c0_i32.toNat, c0_i32_0.toNat]

def cc3_transform_15 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c15_i32 : BitVec 32 := 15#32
  let v1 : BitVec 32 := Scalar.addi v0 c15_i32
  let v2 : Index := Scalar.indexCast v1
  let v3 : BitVec 32 := pf.at 0 (Rect.unit (s := S16384) ![v2.toNat] S1.size (k3_off1_inb i 15)) numel1_S1
  let c0_i32 : BitVec 32 := 0#32
  let c0_i32_0 : BitVec 32 := 0#32
  let c0_i32_1 : BitVec 32 := 0#32
  ![v3.toNat, c0_i32.toNat, c0_i32_0.toNat]

def cc3_transform_16 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c16_i32 : BitVec 32 := 16#32
  let v1 : BitVec 32 := Scalar.addi v0 c16_i32
  let v2 : Index := Scalar.indexCast v1
  let v3 : BitVec 32 := pf.at 0 (Rect.unit (s := S16384) ![v2.toNat] S1.size (k3_off1_inb i 16)) numel1_S1
  let c0_i32 : BitVec 32 := 0#32
  let c0_i32_0 : BitVec 32 := 0#32
  let c0_i32_1 : BitVec 32 := 0#32
  ![v3.toNat, c0_i32.toNat, c0_i32_0.toNat]

def cc3_transform_17 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c17_i32 : BitVec 32 := 17#32
  let v1 : BitVec 32 := Scalar.addi v0 c17_i32
  let v2 : Index := Scalar.indexCast v1
  let v3 : BitVec 32 := pf.at 0 (Rect.unit (s := S16384) ![v2.toNat] S1.size (k3_off1_inb i 17)) numel1_S1
  let c0_i32 : BitVec 32 := 0#32
  let c0_i32_0 : BitVec 32 := 0#32
  let c0_i32_1 : BitVec 32 := 0#32
  ![v3.toNat, c0_i32.toNat, c0_i32_0.toNat]

def cc3_transform_18 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c18_i32 : BitVec 32 := 18#32
  let v1 : BitVec 32 := Scalar.addi v0 c18_i32
  let v2 : Index := Scalar.indexCast v1
  let v3 : BitVec 32 := pf.at 0 (Rect.unit (s := S16384) ![v2.toNat] S1.size (k3_off1_inb i 18)) numel1_S1
  let c0_i32 : BitVec 32 := 0#32
  let c0_i32_0 : BitVec 32 := 0#32
  let c0_i32_1 : BitVec 32 := 0#32
  ![v3.toNat, c0_i32.toNat, c0_i32_0.toNat]

def cc3_transform_19 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c19_i32 : BitVec 32 := 19#32
  let v1 : BitVec 32 := Scalar.addi v0 c19_i32
  let v2 : Index := Scalar.indexCast v1
  let v3 : BitVec 32 := pf.at 0 (Rect.unit (s := S16384) ![v2.toNat] S1.size (k3_off1_inb i 19)) numel1_S1
  let c0_i32 : BitVec 32 := 0#32
  let c0_i32_0 : BitVec 32 := 0#32
  let c0_i32_1 : BitVec 32 := 0#32
  ![v3.toNat, c0_i32.toNat, c0_i32_0.toNat]

def cc3_transform_20 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c20_i32 : BitVec 32 := 20#32
  let v1 : BitVec 32 := Scalar.addi v0 c20_i32
  let v2 : Index := Scalar.indexCast v1
  let v3 : BitVec 32 := pf.at 0 (Rect.unit (s := S16384) ![v2.toNat] S1.size (k3_off1_inb i 20)) numel1_S1
  let c0_i32 : BitVec 32 := 0#32
  let c0_i32_0 : BitVec 32 := 0#32
  let c0_i32_1 : BitVec 32 := 0#32
  ![v3.toNat, c0_i32.toNat, c0_i32_0.toNat]

def cc3_transform_21 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c21_i32 : BitVec 32 := 21#32
  let v1 : BitVec 32 := Scalar.addi v0 c21_i32
  let v2 : Index := Scalar.indexCast v1
  let v3 : BitVec 32 := pf.at 0 (Rect.unit (s := S16384) ![v2.toNat] S1.size (k3_off1_inb i 21)) numel1_S1
  let c0_i32 : BitVec 32 := 0#32
  let c0_i32_0 : BitVec 32 := 0#32
  let c0_i32_1 : BitVec 32 := 0#32
  ![v3.toNat, c0_i32.toNat, c0_i32_0.toNat]

def cc3_transform_22 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c22_i32 : BitVec 32 := 22#32
  let v1 : BitVec 32 := Scalar.addi v0 c22_i32
  let v2 : Index := Scalar.indexCast v1
  let v3 : BitVec 32 := pf.at 0 (Rect.unit (s := S16384) ![v2.toNat] S1.size (k3_off1_inb i 22)) numel1_S1
  let c0_i32 : BitVec 32 := 0#32
  let c0_i32_0 : BitVec 32 := 0#32
  let c0_i32_1 : BitVec 32 := 0#32
  ![v3.toNat, c0_i32.toNat, c0_i32_0.toNat]

def cc3_transform_23 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c23_i32 : BitVec 32 := 23#32
  let v1 : BitVec 32 := Scalar.addi v0 c23_i32
  let v2 : Index := Scalar.indexCast v1
  let v3 : BitVec 32 := pf.at 0 (Rect.unit (s := S16384) ![v2.toNat] S1.size (k3_off1_inb i 23)) numel1_S1
  let c0_i32 : BitVec 32 := 0#32
  let c0_i32_0 : BitVec 32 := 0#32
  let c0_i32_1 : BitVec 32 := 0#32
  ![v3.toNat, c0_i32.toNat, c0_i32_0.toNat]

def cc3_transform_24 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c24_i32 : BitVec 32 := 24#32
  let v1 : BitVec 32 := Scalar.addi v0 c24_i32
  let v2 : Index := Scalar.indexCast v1
  let v3 : BitVec 32 := pf.at 0 (Rect.unit (s := S16384) ![v2.toNat] S1.size (k3_off1_inb i 24)) numel1_S1
  let c0_i32 : BitVec 32 := 0#32
  let c0_i32_0 : BitVec 32 := 0#32
  let c0_i32_1 : BitVec 32 := 0#32
  ![v3.toNat, c0_i32.toNat, c0_i32_0.toNat]

def cc3_transform_25 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c25_i32 : BitVec 32 := 25#32
  let v1 : BitVec 32 := Scalar.addi v0 c25_i32
  let v2 : Index := Scalar.indexCast v1
  let v3 : BitVec 32 := pf.at 0 (Rect.unit (s := S16384) ![v2.toNat] S1.size (k3_off1_inb i 25)) numel1_S1
  let c0_i32 : BitVec 32 := 0#32
  let c0_i32_0 : BitVec 32 := 0#32
  let c0_i32_1 : BitVec 32 := 0#32
  ![v3.toNat, c0_i32.toNat, c0_i32_0.toNat]

def cc3_transform_26 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c26_i32 : BitVec 32 := 26#32
  let v1 : BitVec 32 := Scalar.addi v0 c26_i32
  let v2 : Index := Scalar.indexCast v1
  let v3 : BitVec 32 := pf.at 0 (Rect.unit (s := S16384) ![v2.toNat] S1.size (k3_off1_inb i 26)) numel1_S1
  let c0_i32 : BitVec 32 := 0#32
  let c0_i32_0 : BitVec 32 := 0#32
  let c0_i32_1 : BitVec 32 := 0#32
  ![v3.toNat, c0_i32.toNat, c0_i32_0.toNat]

def cc3_transform_27 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c27_i32 : BitVec 32 := 27#32
  let v1 : BitVec 32 := Scalar.addi v0 c27_i32
  let v2 : Index := Scalar.indexCast v1
  let v3 : BitVec 32 := pf.at 0 (Rect.unit (s := S16384) ![v2.toNat] S1.size (k3_off1_inb i 27)) numel1_S1
  let c0_i32 : BitVec 32 := 0#32
  let c0_i32_0 : BitVec 32 := 0#32
  let c0_i32_1 : BitVec 32 := 0#32
  ![v3.toNat, c0_i32.toNat, c0_i32_0.toNat]

def cc3_transform_28 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c28_i32 : BitVec 32 := 28#32
  let v1 : BitVec 32 := Scalar.addi v0 c28_i32
  let v2 : Index := Scalar.indexCast v1
  let v3 : BitVec 32 := pf.at 0 (Rect.unit (s := S16384) ![v2.toNat] S1.size (k3_off1_inb i 28)) numel1_S1
  let c0_i32 : BitVec 32 := 0#32
  let c0_i32_0 : BitVec 32 := 0#32
  let c0_i32_1 : BitVec 32 := 0#32
  ![v3.toNat, c0_i32.toNat, c0_i32_0.toNat]

def cc3_transform_29 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c29_i32 : BitVec 32 := 29#32
  let v1 : BitVec 32 := Scalar.addi v0 c29_i32
  let v2 : Index := Scalar.indexCast v1
  let v3 : BitVec 32 := pf.at 0 (Rect.unit (s := S16384) ![v2.toNat] S1.size (k3_off1_inb i 29)) numel1_S1
  let c0_i32 : BitVec 32 := 0#32
  let c0_i32_0 : BitVec 32 := 0#32
  let c0_i32_1 : BitVec 32 := 0#32
  ![v3.toNat, c0_i32.toNat, c0_i32_0.toNat]

def cc3_transform_30 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c30_i32 : BitVec 32 := 30#32
  let v1 : BitVec 32 := Scalar.addi v0 c30_i32
  let v2 : Index := Scalar.indexCast v1
  let v3 : BitVec 32 := pf.at 0 (Rect.unit (s := S16384) ![v2.toNat] S1.size (k3_off1_inb i 30)) numel1_S1
  let c0_i32 : BitVec 32 := 0#32
  let c0_i32_0 : BitVec 32 := 0#32
  let c0_i32_1 : BitVec 32 := 0#32
  ![v3.toNat, c0_i32.toNat, c0_i32_0.toNat]

def cc3_transform_31 (k3_off1_inb : ∀ i : grid3.Coords, ∀ (r : Fin 32), ∀ a, (k3_off1 i (BitVec.ofNat 32 r.val)) a + S1.size a ≤ S16384.size a) (numel1_S1 : S1.numel = 1) (pf : pre3.Contents (Elt F)) (i : grid3.Coords) : Fin 3 → Nat :=
  let arg0 : BitVec 32 := BitVec.ofNat 32 (i 0).val
  let c32_i32 : BitVec 32 := 32#32
  let v0 : BitVec 32 := Scalar.muli arg0 c32_i32
  let c31_i32 : BitVec 32 := 31#32
  let v1 : BitVec 32 := Scalar.addi v0 c31_i32
  let v2 : Index := Scalar.indexCast v1
  let v3 : BitVec 32 := pf.at 0 (Rect.unit (s := S16384) ![v2.toNat] S1.size (k3_off1_inb i 31)) numel1_S1
  let c0_i32 : BitVec 32 := 0#32
  let c0_i32_0 : BitVec 32 := 0#32
  let c0_i32_1 : BitVec 32 := 0#32
  ![v3.toNat, c0_i32.toNat, c0_i32_0.toNat]

def cc3_transform_32 (i : grid3.Coords) : Fin 3 → Nat :=
  let arg0 : BitVec 32 := BitVec.ofNat 32 (i 0).val
  let c256_i32 : BitVec 32 := 256#32
  let v0 : BitVec 32 := Scalar.divsi arg0 c256_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c256_i32 c0_i32_1
  let v7 : BitVec 32 := Scalar.extui v6
  let c0_i32_2 : BitVec 32 := 0#32
  let v8 : BitVec 1 := Scalar.cmpi .slt c256_i32 c0_i32_2
  let v9 : BitVec 32 := Scalar.extui v8
  let v10 : BitVec 32 := Scalar.subi v7 v9
  let v11 : BitVec 1 := Scalar.cmpi .ne v5 v10
  let v12 : BitVec 32 := Scalar.remsi arg0 c256_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c256_i32_4 : BitVec 32 := 256#32
  let c0_i32_5 : BitVec 32 := 0#32
  let v17 : BitVec 1 := Scalar.cmpi .eq c256_i32_4 c0_i32_5
  let c1_i32_6 : BitVec 32 := 1#32
  let v18 : BitVec 32 := Scalar.select v17 c1_i32_6 c256_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.divsi v26 c16_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c16_i32 c0_i32_12
  let v34 : BitVec 32 := Scalar.extui v33
  let c0_i32_13 : BitVec 32 := 0#32
  let v35 : BitVec 1 := Scalar.cmpi .slt c16_i32 c0_i32_13
  let v36 : BitVec 32 := Scalar.extui v35
  let v37 : BitVec 32 := Scalar.subi v34 v36
  let v38 : BitVec 1 := Scalar.cmpi .ne v32 v37
  let v39 : BitVec 32 := Scalar.remsi v26 c16_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c0_i32_16 : BitVec 32 := 0#32
  let c0_i32_17 : BitVec 32 := 0#32
  ![v16.toNat, v43.toNat, c0_i32_16.toNat]

def cc3_transform_33 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1x300 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x300 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x300 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x300 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1x300 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x1x300 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x1x300 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x1x300 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1x1x300 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S1x1x300 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S1x1x300 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S1x1x300 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 2 → Memref sig .tc .vmem S1x1x300 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev stage3_13 : Fin 2 → Memref sig .tc .vmem S1x1x300 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

abbrev stage3_14 : Fin 2 → Memref sig .tc .vmem S1x1x300 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev stage3_15 : Fin 2 → Memref sig .tc .vmem S1x1x300 .f32 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true]

abbrev stage3_16 : Fin 2 → Memref sig .tc .vmem S1x1x300 .f32 := fun | 0 => Memref.whole cc3_stg16_0 | 1 => Memref.whole cc3_stg16_1 | ⟨_ + 2, h⟩ => absurd h (Nat.not_lt.2 (Nat.le_add_left _ _))
abbrev sem3_16 : Fin 2 → DmaSem sig := fun | 0 => cc3_sem16_0 | 1 => cc3_sem16_1 | ⟨_ + 2, h⟩ => absurd h (Nat.not_lt.2 (Nat.le_add_left _ _))
abbrev reads3_16 : Fin grid3.rank → Bool := ![true]

abbrev stage3_17 : Fin 2 → Memref sig .tc .vmem S1x1x300 .f32 := fun | 0 => Memref.whole cc3_stg17_0 | 1 => Memref.whole cc3_stg17_1 | ⟨_ + 2, h⟩ => absurd h (Nat.not_lt.2 (Nat.le_add_left _ _))
abbrev sem3_17 : Fin 2 → DmaSem sig := fun | 0 => cc3_sem17_0 | 1 => cc3_sem17_1 | ⟨_ + 2, h⟩ => absurd h (Nat.not_lt.2 (Nat.le_add_left _ _))
abbrev reads3_17 : Fin grid3.rank → Bool := ![true]

abbrev stage3_18 : Fin 2 → Memref sig .tc .vmem S1x1x300 .f32 := fun | 0 => Memref.whole cc3_stg18_0 | 1 => Memref.whole cc3_stg18_1 | ⟨_ + 2, h⟩ => absurd h (Nat.not_lt.2 (Nat.le_add_left _ _))
abbrev sem3_18 : Fin 2 → DmaSem sig := fun | 0 => cc3_sem18_0 | 1 => cc3_sem18_1 | ⟨_ + 2, h⟩ => absurd h (Nat.not_lt.2 (Nat.le_add_left _ _))
abbrev reads3_18 : Fin grid3.rank → Bool := ![true]

abbrev stage3_19 : Fin 2 → Memref sig .tc .vmem S1x1x300 .f32 := fun | 0 => Memref.whole cc3_stg19_0 | 1 => Memref.whole cc3_stg19_1 | ⟨_ + 2, h⟩ => absurd h (Nat.not_lt.2 (Nat.le_add_left _ _))
abbrev sem3_19 : Fin 2 → DmaSem sig := fun | 0 => cc3_sem19_0 | 1 => cc3_sem19_1 | ⟨_ + 2, h⟩ => absurd h (Nat.not_lt.2 (Nat.le_add_left _ _))
abbrev reads3_19 : Fin grid3.rank → Bool := ![true]

abbrev stage3_20 : Fin 2 → Memref sig .tc .vmem S1x1x300 .f32 := fun | 0 => Memref.whole cc3_stg20_0 | 1 => Memref.whole cc3_stg20_1 | ⟨_ + 2, h⟩ => absurd h (Nat.not_lt.2 (Nat.le_add_left _ _))
abbrev sem3_20 : Fin 2 → DmaSem sig := fun | 0 => cc3_sem20_0 | 1 => cc3_sem20_1 | ⟨_ + 2, h⟩ => absurd h (Nat.not_lt.2 (Nat.le_add_left _ _))
abbrev reads3_20 : Fin grid3.rank → Bool := ![true]

abbrev stage3_21 : Fin 2 → Memref sig .tc .vmem S1x1x300 .f32 := fun | 0 => Memref.whole cc3_stg21_0 | 1 => Memref.whole cc3_stg21_1 | ⟨_ + 2, h⟩ => absurd h (Nat.not_lt.2 (Nat.le_add_left _ _))
abbrev sem3_21 : Fin 2 → DmaSem sig := fun | 0 => cc3_sem21_0 | 1 => cc3_sem21_1 | ⟨_ + 2, h⟩ => absurd h (Nat.not_lt.2 (Nat.le_add_left _ _))
abbrev reads3_21 : Fin grid3.rank → Bool := ![true]

abbrev stage3_22 : Fin 2 → Memref sig .tc .vmem S1x1x300 .f32 := fun | 0 => Memref.whole cc3_stg22_0 | 1 => Memref.whole cc3_stg22_1 | ⟨_ + 2, h⟩ => absurd h (Nat.not_lt.2 (Nat.le_add_left _ _))
abbrev sem3_22 : Fin 2 → DmaSem sig := fun | 0 => cc3_sem22_0 | 1 => cc3_sem22_1 | ⟨_ + 2, h⟩ => absurd h (Nat.not_lt.2 (Nat.le_add_left _ _))
abbrev reads3_22 : Fin grid3.rank → Bool := ![true]

abbrev stage3_23 : Fin 2 → Memref sig .tc .vmem S1x1x300 .f32 := fun | 0 => Memref.whole cc3_stg23_0 | 1 => Memref.whole cc3_stg23_1 | ⟨_ + 2, h⟩ => absurd h (Nat.not_lt.2 (Nat.le_add_left _ _))
abbrev sem3_23 : Fin 2 → DmaSem sig := fun | 0 => cc3_sem23_0 | 1 => cc3_sem23_1 | ⟨_ + 2, h⟩ => absurd h (Nat.not_lt.2 (Nat.le_add_left _ _))
abbrev reads3_23 : Fin grid3.rank → Bool := ![true]

abbrev stage3_24 : Fin 2 → Memref sig .tc .vmem S1x1x300 .f32 := fun | 0 => Memref.whole cc3_stg24_0 | 1 => Memref.whole cc3_stg24_1 | ⟨_ + 2, h⟩ => absurd h (Nat.not_lt.2 (Nat.le_add_left _ _))
abbrev sem3_24 : Fin 2 → DmaSem sig := fun | 0 => cc3_sem24_0 | 1 => cc3_sem24_1 | ⟨_ + 2, h⟩ => absurd h (Nat.not_lt.2 (Nat.le_add_left _ _))
abbrev reads3_24 : Fin grid3.rank → Bool := ![true]

abbrev stage3_25 : Fin 2 → Memref sig .tc .vmem S1x1x300 .f32 := fun | 0 => Memref.whole cc3_stg25_0 | 1 => Memref.whole cc3_stg25_1 | ⟨_ + 2, h⟩ => absurd h (Nat.not_lt.2 (Nat.le_add_left _ _))
abbrev sem3_25 : Fin 2 → DmaSem sig := fun | 0 => cc3_sem25_0 | 1 => cc3_sem25_1 | ⟨_ + 2, h⟩ => absurd h (Nat.not_lt.2 (Nat.le_add_left _ _))
abbrev reads3_25 : Fin grid3.rank → Bool := ![true]

abbrev stage3_26 : Fin 2 → Memref sig .tc .vmem S1x1x300 .f32 := fun | 0 => Memref.whole cc3_stg26_0 | 1 => Memref.whole cc3_stg26_1 | ⟨_ + 2, h⟩ => absurd h (Nat.not_lt.2 (Nat.le_add_left _ _))
abbrev sem3_26 : Fin 2 → DmaSem sig := fun | 0 => cc3_sem26_0 | 1 => cc3_sem26_1 | ⟨_ + 2, h⟩ => absurd h (Nat.not_lt.2 (Nat.le_add_left _ _))
abbrev reads3_26 : Fin grid3.rank → Bool := ![true]

abbrev stage3_27 : Fin 2 → Memref sig .tc .vmem S1x1x300 .f32 := fun | 0 => Memref.whole cc3_stg27_0 | 1 => Memref.whole cc3_stg27_1 | ⟨_ + 2, h⟩ => absurd h (Nat.not_lt.2 (Nat.le_add_left _ _))
abbrev sem3_27 : Fin 2 → DmaSem sig := fun | 0 => cc3_sem27_0 | 1 => cc3_sem27_1 | ⟨_ + 2, h⟩ => absurd h (Nat.not_lt.2 (Nat.le_add_left _ _))
abbrev reads3_27 : Fin grid3.rank → Bool := ![true]

abbrev stage3_28 : Fin 2 → Memref sig .tc .vmem S1x1x300 .f32 := fun | 0 => Memref.whole cc3_stg28_0 | 1 => Memref.whole cc3_stg28_1 | ⟨_ + 2, h⟩ => absurd h (Nat.not_lt.2 (Nat.le_add_left _ _))
abbrev sem3_28 : Fin 2 → DmaSem sig := fun | 0 => cc3_sem28_0 | 1 => cc3_sem28_1 | ⟨_ + 2, h⟩ => absurd h (Nat.not_lt.2 (Nat.le_add_left _ _))
abbrev reads3_28 : Fin grid3.rank → Bool := ![true]

abbrev stage3_29 : Fin 2 → Memref sig .tc .vmem S1x1x300 .f32 := fun | 0 => Memref.whole cc3_stg29_0 | 1 => Memref.whole cc3_stg29_1 | ⟨_ + 2, h⟩ => absurd h (Nat.not_lt.2 (Nat.le_add_left _ _))
abbrev sem3_29 : Fin 2 → DmaSem sig := fun | 0 => cc3_sem29_0 | 1 => cc3_sem29_1 | ⟨_ + 2, h⟩ => absurd h (Nat.not_lt.2 (Nat.le_add_left _ _))
abbrev reads3_29 : Fin grid3.rank → Bool := ![true]

abbrev stage3_30 : Fin 2 → Memref sig .tc .vmem S1x1x300 .f32 := fun | 0 => Memref.whole cc3_stg30_0 | 1 => Memref.whole cc3_stg30_1 | ⟨_ + 2, h⟩ => absurd h (Nat.not_lt.2 (Nat.le_add_left _ _))
abbrev sem3_30 : Fin 2 → DmaSem sig := fun | 0 => cc3_sem30_0 | 1 => cc3_sem30_1 | ⟨_ + 2, h⟩ => absurd h (Nat.not_lt.2 (Nat.le_add_left _ _))
abbrev reads3_30 : Fin grid3.rank → Bool := ![true]

abbrev stage3_31 : Fin 2 → Memref sig .tc .vmem S1x1x300 .f32 := fun | 0 => Memref.whole cc3_stg31_0 | 1 => Memref.whole cc3_stg31_1 | ⟨_ + 2, h⟩ => absurd h (Nat.not_lt.2 (Nat.le_add_left _ _))
abbrev sem3_31 : Fin 2 → DmaSem sig := fun | 0 => cc3_sem31_0 | 1 => cc3_sem31_1 | ⟨_ + 2, h⟩ => absurd h (Nat.not_lt.2 (Nat.le_add_left _ _))
abbrev reads3_31 : Fin grid3.rank → Bool := ![true]

abbrev stage3_32 : Fin 2 → Memref sig .tc .vmem S1x32x300 .f32 := fun | 0 => Memref.whole cc3_stg32_0 | 1 => Memref.whole cc3_stg32_1 | ⟨_ + 2, h⟩ => absurd h (Nat.not_lt.2 (Nat.le_add_left _ _))
abbrev sem3_32 : Fin 2 → DmaSem sig := fun | 0 => cc3_sem32_0 | 1 => cc3_sem32_1 | ⟨_ + 2, h⟩ => absurd h (Nat.not_lt.2 (Nat.le_add_left _ _))
abbrev reads3_32 : Fin grid3.rank → Bool := ![true]

abbrev stage3_33 : Fin 2 → Memref sig .tc .vmem S1x32x1 .f32 := fun | 0 => Memref.whole cc3_stg33_0 | 1 => Memref.whole cc3_stg33_1 | ⟨_ + 2, h⟩ => absurd h (Nat.not_lt.2 (Nat.le_add_left _ _))
abbrev sem3_33 : Fin 2 → DmaSem sig := fun | 0 => cc3_sem33_0 | 1 => cc3_sem33_1 | ⟨_ + 2, h⟩ => absurd h (Nat.not_lt.2 (Nat.le_add_left _ _))
abbrev reads3_33 : Fin grid3.rank → Bool := ![true]

abbrev grid4 : Pipeline.Grid := ⟨1, ![512], ![false]⟩

abbrev pre4 : Pipeline.Prefetch sig := ⟨1, ![main_v66.idx], fun | 0 => main_v66.names | ⟨_ + 1, h⟩ => absurd h (Nat.not_lt.2 (Nat.le_add_left _ _)), fun | 0 => rfl | ⟨_ + 1, h⟩ => absurd h (Nat.not_lt.2 (Nat.le_add_left _ _))⟩

def k4_off1 (i : grid4.Coords) (c0_i32 : BitVec 32) : Fin 1 → Nat :=
  let arg0 : BitVec 32 := BitVec.ofNat 32 (i 0).val
  let c32_i32 : BitVec 32 := 32#32
  let v0 : BitVec 32 := Scalar.muli arg0 c32_i32
  let v1 : BitVec 32 := Scalar.addi v0 c0_i32
  let v2 : Index := Scalar.indexCast v1
  ![v2.toNat]
def cc4_transform_0 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v2 : Index := Scalar.indexCast v1
  let v3 : BitVec 32 := pf.at 0 (Rect.unit (s := S16384) ![v2.toNat] S1.size (k4_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc4_transform_1 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.addi v0 c1_i32
  let v2 : Index := Scalar.indexCast v1
  let v3 : BitVec 32 := pf.at 0 (Rect.unit (s := S16384) ![v2.toNat] S1.size (k4_off1_inb i 1)) numel1_S1
  let c0_i32 : BitVec 32 := 0#32
  let c0_i32_0 : BitVec 32 := 0#32
  let c0_i32_1 : BitVec 32 := 0#32
  ![v3.toNat, c0_i32.toNat, c0_i32_0.toNat]

def cc4_transform_2 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c2_i32 : BitVec 32 := 2#32
  let v1 : BitVec 32 := Scalar.addi v0 c2_i32
  let v2 : Index := Scalar.indexCast v1
  let v3 : BitVec 32 := pf.at 0 (Rect.unit (s := S16384) ![v2.toNat] S1.size (k4_off1_inb i 2)) numel1_S1
  let c0_i32 : BitVec 32 := 0#32
  let c0_i32_0 : BitVec 32 := 0#32
  let c0_i32_1 : BitVec 32 := 0#32
  ![v3.toNat, c0_i32.toNat, c0_i32_0.toNat]

def cc4_transform_3 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c3_i32 : BitVec 32 := 3#32
  let v1 : BitVec 32 := Scalar.addi v0 c3_i32
  let v2 : Index := Scalar.indexCast v1
  let v3 : BitVec 32 := pf.at 0 (Rect.unit (s := S16384) ![v2.toNat] S1.size (k4_off1_inb i 3)) numel1_S1
  let c0_i32 : BitVec 32 := 0#32
  let c0_i32_0 : BitVec 32 := 0#32
  let c0_i32_1 : BitVec 32 := 0#32
  ![v3.toNat, c0_i32.toNat, c0_i32_0.toNat]

def cc4_transform_4 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c4_i32 : BitVec 32 := 4#32
  let v1 : BitVec 32 := Scalar.addi v0 c4_i32
  let v2 : Index := Scalar.indexCast v1
  let v3 : BitVec 32 := pf.at 0 (Rect.unit (s := S16384) ![v2.toNat] S1.size (k4_off1_inb i 4)) numel1_S1
  let c0_i32 : BitVec 32 := 0#32
  let c0_i32_0 : BitVec 32 := 0#32
  let c0_i32_1 : BitVec 32 := 0#32
  ![v3.toNat, c0_i32.toNat, c0_i32_0.toNat]

def cc4_transform_5 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c5_i32 : BitVec 32 := 5#32
  let v1 : BitVec 32 := Scalar.addi v0 c5_i32
  let v2 : Index := Scalar.indexCast v1
  let v3 : BitVec 32 := pf.at 0 (Rect.unit (s := S16384) ![v2.toNat] S1.size (k4_off1_inb i 5)) numel1_S1
  let c0_i32 : BitVec 32 := 0#32
  let c0_i32_0 : BitVec 32 := 0#32
  let c0_i32_1 : BitVec 32 := 0#32
  ![v3.toNat, c0_i32.toNat, c0_i32_0.toNat]

def cc4_transform_6 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c6_i32 : BitVec 32 := 6#32
  let v1 : BitVec 32 := Scalar.addi v0 c6_i32
  let v2 : Index := Scalar.indexCast v1
  let v3 : BitVec 32 := pf.at 0 (Rect.unit (s := S16384) ![v2.toNat] S1.size (k4_off1_inb i 6)) numel1_S1
  let c0_i32 : BitVec 32 := 0#32
  let c0_i32_0 : BitVec 32 := 0#32
  let c0_i32_1 : BitVec 32 := 0#32
  ![v3.toNat, c0_i32.toNat, c0_i32_0.toNat]

def cc4_transform_7 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c7_i32 : BitVec 32 := 7#32
  let v1 : BitVec 32 := Scalar.addi v0 c7_i32
  let v2 : Index := Scalar.indexCast v1
  let v3 : BitVec 32 := pf.at 0 (Rect.unit (s := S16384) ![v2.toNat] S1.size (k4_off1_inb i 7)) numel1_S1
  let c0_i32 : BitVec 32 := 0#32
  let c0_i32_0 : BitVec 32 := 0#32
  let c0_i32_1 : BitVec 32 := 0#32
  ![v3.toNat, c0_i32.toNat, c0_i32_0.toNat]

def cc4_transform_8 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c8_i32 : BitVec 32 := 8#32
  let v1 : BitVec 32 := Scalar.addi v0 c8_i32
  let v2 : Index := Scalar.indexCast v1
  let v3 : BitVec 32 := pf.at 0 (Rect.unit (s := S16384) ![v2.toNat] S1.size (k4_off1_inb i 8)) numel1_S1
  let c0_i32 : BitVec 32 := 0#32
  let c0_i32_0 : BitVec 32 := 0#32
  let c0_i32_1 : BitVec 32 := 0#32
  ![v3.toNat, c0_i32.toNat, c0_i32_0.toNat]

def cc4_transform_9 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c9_i32 : BitVec 32 := 9#32
  let v1 : BitVec 32 := Scalar.addi v0 c9_i32
  let v2 : Index := Scalar.indexCast v1
  let v3 : BitVec 32 := pf.at 0 (Rect.unit (s := S16384) ![v2.toNat] S1.size (k4_off1_inb i 9)) numel1_S1
  let c0_i32 : BitVec 32 := 0#32
  let c0_i32_0 : BitVec 32 := 0#32
  let c0_i32_1 : BitVec 32 := 0#32
  ![v3.toNat, c0_i32.toNat, c0_i32_0.toNat]

def cc4_transform_10 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c10_i32 : BitVec 32 := 10#32
  let v1 : BitVec 32 := Scalar.addi v0 c10_i32
  let v2 : Index := Scalar.indexCast v1
  let v3 : BitVec 32 := pf.at 0 (Rect.unit (s := S16384) ![v2.toNat] S1.size (k4_off1_inb i 10)) numel1_S1
  let c0_i32 : BitVec 32 := 0#32
  let c0_i32_0 : BitVec 32 := 0#32
  let c0_i32_1 : BitVec 32 := 0#32
  ![v3.toNat, c0_i32.toNat, c0_i32_0.toNat]

def cc4_transform_11 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c11_i32 : BitVec 32 := 11#32
  let v1 : BitVec 32 := Scalar.addi v0 c11_i32
  let v2 : Index := Scalar.indexCast v1
  let v3 : BitVec 32 := pf.at 0 (Rect.unit (s := S16384) ![v2.toNat] S1.size (k4_off1_inb i 11)) numel1_S1
  let c0_i32 : BitVec 32 := 0#32
  let c0_i32_0 : BitVec 32 := 0#32
  let c0_i32_1 : BitVec 32 := 0#32
  ![v3.toNat, c0_i32.toNat, c0_i32_0.toNat]

def cc4_transform_12 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c12_i32 : BitVec 32 := 12#32
  let v1 : BitVec 32 := Scalar.addi v0 c12_i32
  let v2 : Index := Scalar.indexCast v1
  let v3 : BitVec 32 := pf.at 0 (Rect.unit (s := S16384) ![v2.toNat] S1.size (k4_off1_inb i 12)) numel1_S1
  let c0_i32 : BitVec 32 := 0#32
  let c0_i32_0 : BitVec 32 := 0#32
  let c0_i32_1 : BitVec 32 := 0#32
  ![v3.toNat, c0_i32.toNat, c0_i32_0.toNat]

def cc4_transform_13 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c13_i32 : BitVec 32 := 13#32
  let v1 : BitVec 32 := Scalar.addi v0 c13_i32
  let v2 : Index := Scalar.indexCast v1
  let v3 : BitVec 32 := pf.at 0 (Rect.unit (s := S16384) ![v2.toNat] S1.size (k4_off1_inb i 13)) numel1_S1
  let c0_i32 : BitVec 32 := 0#32
  let c0_i32_0 : BitVec 32 := 0#32
  let c0_i32_1 : BitVec 32 := 0#32
  ![v3.toNat, c0_i32.toNat, c0_i32_0.toNat]

def cc4_transform_14 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c14_i32 : BitVec 32 := 14#32
  let v1 : BitVec 32 := Scalar.addi v0 c14_i32
  let v2 : Index := Scalar.indexCast v1
  let v3 : BitVec 32 := pf.at 0 (Rect.unit (s := S16384) ![v2.toNat] S1.size (k4_off1_inb i 14)) numel1_S1
  let c0_i32 : BitVec 32 := 0#32
  let c0_i32_0 : BitVec 32 := 0#32
  let c0_i32_1 : BitVec 32 := 0#32
  ![v3.toNat, c0_i32.toNat, c0_i32_0.toNat]

def cc4_transform_15 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c15_i32 : BitVec 32 := 15#32
  let v1 : BitVec 32 := Scalar.addi v0 c15_i32
  let v2 : Index := Scalar.indexCast v1
  let v3 : BitVec 32 := pf.at 0 (Rect.unit (s := S16384) ![v2.toNat] S1.size (k4_off1_inb i 15)) numel1_S1
  let c0_i32 : BitVec 32 := 0#32
  let c0_i32_0 : BitVec 32 := 0#32
  let c0_i32_1 : BitVec 32 := 0#32
  ![v3.toNat, c0_i32.toNat, c0_i32_0.toNat]

def cc4_transform_16 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c16_i32 : BitVec 32 := 16#32
  let v1 : BitVec 32 := Scalar.addi v0 c16_i32
  let v2 : Index := Scalar.indexCast v1
  let v3 : BitVec 32 := pf.at 0 (Rect.unit (s := S16384) ![v2.toNat] S1.size (k4_off1_inb i 16)) numel1_S1
  let c0_i32 : BitVec 32 := 0#32
  let c0_i32_0 : BitVec 32 := 0#32
  let c0_i32_1 : BitVec 32 := 0#32
  ![v3.toNat, c0_i32.toNat, c0_i32_0.toNat]

def cc4_transform_17 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c17_i32 : BitVec 32 := 17#32
  let v1 : BitVec 32 := Scalar.addi v0 c17_i32
  let v2 : Index := Scalar.indexCast v1
  let v3 : BitVec 32 := pf.at 0 (Rect.unit (s := S16384) ![v2.toNat] S1.size (k4_off1_inb i 17)) numel1_S1
  let c0_i32 : BitVec 32 := 0#32
  let c0_i32_0 : BitVec 32 := 0#32
  let c0_i32_1 : BitVec 32 := 0#32
  ![v3.toNat, c0_i32.toNat, c0_i32_0.toNat]

def cc4_transform_18 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c18_i32 : BitVec 32 := 18#32
  let v1 : BitVec 32 := Scalar.addi v0 c18_i32
  let v2 : Index := Scalar.indexCast v1
  let v3 : BitVec 32 := pf.at 0 (Rect.unit (s := S16384) ![v2.toNat] S1.size (k4_off1_inb i 18)) numel1_S1
  let c0_i32 : BitVec 32 := 0#32
  let c0_i32_0 : BitVec 32 := 0#32
  let c0_i32_1 : BitVec 32 := 0#32
  ![v3.toNat, c0_i32.toNat, c0_i32_0.toNat]

def cc4_transform_19 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c19_i32 : BitVec 32 := 19#32
  let v1 : BitVec 32 := Scalar.addi v0 c19_i32
  let v2 : Index := Scalar.indexCast v1
  let v3 : BitVec 32 := pf.at 0 (Rect.unit (s := S16384) ![v2.toNat] S1.size (k4_off1_inb i 19)) numel1_S1
  let c0_i32 : BitVec 32 := 0#32
  let c0_i32_0 : BitVec 32 := 0#32
  let c0_i32_1 : BitVec 32 := 0#32
  ![v3.toNat, c0_i32.toNat, c0_i32_0.toNat]

def cc4_transform_20 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c20_i32 : BitVec 32 := 20#32
  let v1 : BitVec 32 := Scalar.addi v0 c20_i32
  let v2 : Index := Scalar.indexCast v1
  let v3 : BitVec 32 := pf.at 0 (Rect.unit (s := S16384) ![v2.toNat] S1.size (k4_off1_inb i 20)) numel1_S1
  let c0_i32 : BitVec 32 := 0#32
  let c0_i32_0 : BitVec 32 := 0#32
  let c0_i32_1 : BitVec 32 := 0#32
  ![v3.toNat, c0_i32.toNat, c0_i32_0.toNat]

def cc4_transform_21 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c21_i32 : BitVec 32 := 21#32
  let v1 : BitVec 32 := Scalar.addi v0 c21_i32
  let v2 : Index := Scalar.indexCast v1
  let v3 : BitVec 32 := pf.at 0 (Rect.unit (s := S16384) ![v2.toNat] S1.size (k4_off1_inb i 21)) numel1_S1
  let c0_i32 : BitVec 32 := 0#32
  let c0_i32_0 : BitVec 32 := 0#32
  let c0_i32_1 : BitVec 32 := 0#32
  ![v3.toNat, c0_i32.toNat, c0_i32_0.toNat]

def cc4_transform_22 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c22_i32 : BitVec 32 := 22#32
  let v1 : BitVec 32 := Scalar.addi v0 c22_i32
  let v2 : Index := Scalar.indexCast v1
  let v3 : BitVec 32 := pf.at 0 (Rect.unit (s := S16384) ![v2.toNat] S1.size (k4_off1_inb i 22)) numel1_S1
  let c0_i32 : BitVec 32 := 0#32
  let c0_i32_0 : BitVec 32 := 0#32
  let c0_i32_1 : BitVec 32 := 0#32
  ![v3.toNat, c0_i32.toNat, c0_i32_0.toNat]

def cc4_transform_23 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c23_i32 : BitVec 32 := 23#32
  let v1 : BitVec 32 := Scalar.addi v0 c23_i32
  let v2 : Index := Scalar.indexCast v1
  let v3 : BitVec 32 := pf.at 0 (Rect.unit (s := S16384) ![v2.toNat] S1.size (k4_off1_inb i 23)) numel1_S1
  let c0_i32 : BitVec 32 := 0#32
  let c0_i32_0 : BitVec 32 := 0#32
  let c0_i32_1 : BitVec 32 := 0#32
  ![v3.toNat, c0_i32.toNat, c0_i32_0.toNat]

def cc4_transform_24 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c24_i32 : BitVec 32 := 24#32
  let v1 : BitVec 32 := Scalar.addi v0 c24_i32
  let v2 : Index := Scalar.indexCast v1
  let v3 : BitVec 32 := pf.at 0 (Rect.unit (s := S16384) ![v2.toNat] S1.size (k4_off1_inb i 24)) numel1_S1
  let c0_i32 : BitVec 32 := 0#32
  let c0_i32_0 : BitVec 32 := 0#32
  let c0_i32_1 : BitVec 32 := 0#32
  ![v3.toNat, c0_i32.toNat, c0_i32_0.toNat]

def cc4_transform_25 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c25_i32 : BitVec 32 := 25#32
  let v1 : BitVec 32 := Scalar.addi v0 c25_i32
  let v2 : Index := Scalar.indexCast v1
  let v3 : BitVec 32 := pf.at 0 (Rect.unit (s := S16384) ![v2.toNat] S1.size (k4_off1_inb i 25)) numel1_S1
  let c0_i32 : BitVec 32 := 0#32
  let c0_i32_0 : BitVec 32 := 0#32
  let c0_i32_1 : BitVec 32 := 0#32
  ![v3.toNat, c0_i32.toNat, c0_i32_0.toNat]

def cc4_transform_26 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c26_i32 : BitVec 32 := 26#32
  let v1 : BitVec 32 := Scalar.addi v0 c26_i32
  let v2 : Index := Scalar.indexCast v1
  let v3 : BitVec 32 := pf.at 0 (Rect.unit (s := S16384) ![v2.toNat] S1.size (k4_off1_inb i 26)) numel1_S1
  let c0_i32 : BitVec 32 := 0#32
  let c0_i32_0 : BitVec 32 := 0#32
  let c0_i32_1 : BitVec 32 := 0#32
  ![v3.toNat, c0_i32.toNat, c0_i32_0.toNat]

def cc4_transform_27 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c27_i32 : BitVec 32 := 27#32
  let v1 : BitVec 32 := Scalar.addi v0 c27_i32
  let v2 : Index := Scalar.indexCast v1
  let v3 : BitVec 32 := pf.at 0 (Rect.unit (s := S16384) ![v2.toNat] S1.size (k4_off1_inb i 27)) numel1_S1
  let c0_i32 : BitVec 32 := 0#32
  let c0_i32_0 : BitVec 32 := 0#32
  let c0_i32_1 : BitVec 32 := 0#32
  ![v3.toNat, c0_i32.toNat, c0_i32_0.toNat]

def cc4_transform_28 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c28_i32 : BitVec 32 := 28#32
  let v1 : BitVec 32 := Scalar.addi v0 c28_i32
  let v2 : Index := Scalar.indexCast v1
  let v3 : BitVec 32 := pf.at 0 (Rect.unit (s := S16384) ![v2.toNat] S1.size (k4_off1_inb i 28)) numel1_S1
  let c0_i32 : BitVec 32 := 0#32
  let c0_i32_0 : BitVec 32 := 0#32
  let c0_i32_1 : BitVec 32 := 0#32
  ![v3.toNat, c0_i32.toNat, c0_i32_0.toNat]

def cc4_transform_29 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c29_i32 : BitVec 32 := 29#32
  let v1 : BitVec 32 := Scalar.addi v0 c29_i32
  let v2 : Index := Scalar.indexCast v1
  let v3 : BitVec 32 := pf.at 0 (Rect.unit (s := S16384) ![v2.toNat] S1.size (k4_off1_inb i 29)) numel1_S1
  let c0_i32 : BitVec 32 := 0#32
  let c0_i32_0 : BitVec 32 := 0#32
  let c0_i32_1 : BitVec 32 := 0#32
  ![v3.toNat, c0_i32.toNat, c0_i32_0.toNat]

def cc4_transform_30 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c30_i32 : BitVec 32 := 30#32
  let v1 : BitVec 32 := Scalar.addi v0 c30_i32
  let v2 : Index := Scalar.indexCast v1
  let v3 : BitVec 32 := pf.at 0 (Rect.unit (s := S16384) ![v2.toNat] S1.size (k4_off1_inb i 30)) numel1_S1
  let c0_i32 : BitVec 32 := 0#32
  let c0_i32_0 : BitVec 32 := 0#32
  let c0_i32_1 : BitVec 32 := 0#32
  ![v3.toNat, c0_i32.toNat, c0_i32_0.toNat]

def cc4_transform_31 (k4_off1_inb : ∀ i : grid4.Coords, ∀ (r : Fin 32), ∀ a, (k4_off1 i (BitVec.ofNat 32 r.val)) a + S1.size a ≤ S16384.size a) (numel1_S1 : S1.numel = 1) (pf : pre4.Contents (Elt F)) (i : grid4.Coords) : Fin 3 → Nat :=
  let arg0 : BitVec 32 := BitVec.ofNat 32 (i 0).val
  let c32_i32 : BitVec 32 := 32#32
  let v0 : BitVec 32 := Scalar.muli arg0 c32_i32
  let c31_i32 : BitVec 32 := 31#32
  let v1 : BitVec 32 := Scalar.addi v0 c31_i32
  let v2 : Index := Scalar.indexCast v1
  let v3 : BitVec 32 := pf.at 0 (Rect.unit (s := S16384) ![v2.toNat] S1.size (k4_off1_inb i 31)) numel1_S1
  let c0_i32 : BitVec 32 := 0#32
  let c0_i32_0 : BitVec 32 := 0#32
  let c0_i32_1 : BitVec 32 := 0#32
  ![v3.toNat, c0_i32.toNat, c0_i32_0.toNat]

def cc4_transform_32 (i : grid4.Coords) : Fin 3 → Nat :=
  let arg0 : BitVec 32 := BitVec.ofNat 32 (i 0).val
  let c256_i32 : BitVec 32 := 256#32
  let v0 : BitVec 32 := Scalar.divsi arg0 c256_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c256_i32 c0_i32_1
  let v7 : BitVec 32 := Scalar.extui v6
  let c0_i32_2 : BitVec 32 := 0#32
  let v8 : BitVec 1 := Scalar.cmpi .slt c256_i32 c0_i32_2
  let v9 : BitVec 32 := Scalar.extui v8
  let v10 : BitVec 32 := Scalar.subi v7 v9
  let v11 : BitVec 1 := Scalar.cmpi .ne v5 v10
  let v12 : BitVec 32 := Scalar.remsi arg0 c256_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c256_i32_4 : BitVec 32 := 256#32
  let c0_i32_5 : BitVec 32 := 0#32
  let v17 : BitVec 1 := Scalar.cmpi .eq c256_i32_4 c0_i32_5
  let c1_i32_6 : BitVec 32 := 1#32
  let v18 : BitVec 32 := Scalar.select v17 c1_i32_6 c256_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.divsi v26 c16_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c16_i32 c0_i32_12
  let v34 : BitVec 32 := Scalar.extui v33
  let c0_i32_13 : BitVec 32 := 0#32
  let v35 : BitVec 1 := Scalar.cmpi .slt c16_i32 c0_i32_13
  let v36 : BitVec 32 := Scalar.extui v35
  let v37 : BitVec 32 := Scalar.subi v34 v36
  let v38 : BitVec 1 := Scalar.cmpi .ne v32 v37
  let v39 : BitVec 32 := Scalar.remsi v26 c16_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c0_i32_16 : BitVec 32 := 0#32
  let c0_i32_17 : BitVec 32 := 0#32
  ![v16.toNat, v43.toNat, c0_i32_16.toNat]

def cc4_transform_33 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x1x300 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x1x300 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x1x300 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x1x300 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1x1x300 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1x1x300 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1x1x300 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S1x1x300 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1x1x300 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S1x1x300 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S1x1x300 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev stage4_11 : Fin 2 → Memref sig .tc .vmem S1x1x300 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

abbrev stage4_12 : Fin 2 → Memref sig .tc .vmem S1x1x300 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true]

abbrev stage4_13 : Fin 2 → Memref sig .tc .vmem S1x1x300 .f32 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true]

abbrev stage4_14 : Fin 2 → Memref sig .tc .vmem S1x1x300 .f32 := fun | 0 => Memref.whole cc4_stg14_0 | 1 => Memref.whole cc4_stg14_1 | ⟨_ + 2, h⟩ => absurd h (Nat.not_lt.2 (Nat.le_add_left _ _))
abbrev sem4_14 : Fin 2 → DmaSem sig := fun | 0 => cc4_sem14_0 | 1 => cc4_sem14_1 | ⟨_ + 2, h⟩ => absurd h (Nat.not_lt.2 (Nat.le_add_left _ _))
abbrev reads4_14 : Fin grid4.rank → Bool := ![true]

abbrev stage4_15 : Fin 2 → Memref sig .tc .vmem S1x1x300 .f32 := fun | 0 => Memref.whole cc4_stg15_0 | 1 => Memref.whole cc4_stg15_1 | ⟨_ + 2, h⟩ => absurd h (Nat.not_lt.2 (Nat.le_add_left _ _))
abbrev sem4_15 : Fin 2 → DmaSem sig := fun | 0 => cc4_sem15_0 | 1 => cc4_sem15_1 | ⟨_ + 2, h⟩ => absurd h (Nat.not_lt.2 (Nat.le_add_left _ _))
abbrev reads4_15 : Fin grid4.rank → Bool := ![true]

abbrev stage4_16 : Fin 2 → Memref sig .tc .vmem S1x1x300 .f32 := fun | 0 => Memref.whole cc4_stg16_0 | 1 => Memref.whole cc4_stg16_1 | ⟨_ + 2, h⟩ => absurd h (Nat.not_lt.2 (Nat.le_add_left _ _))
abbrev sem4_16 : Fin 2 → DmaSem sig := fun | 0 => cc4_sem16_0 | 1 => cc4_sem16_1 | ⟨_ + 2, h⟩ => absurd h (Nat.not_lt.2 (Nat.le_add_left _ _))
abbrev reads4_16 : Fin grid4.rank → Bool := ![true]

abbrev stage4_17 : Fin 2 → Memref sig .tc .vmem S1x1x300 .f32 := fun | 0 => Memref.whole cc4_stg17_0 | 1 => Memref.whole cc4_stg17_1 | ⟨_ + 2, h⟩ => absurd h (Nat.not_lt.2 (Nat.le_add_left _ _))
abbrev sem4_17 : Fin 2 → DmaSem sig := fun | 0 => cc4_sem17_0 | 1 => cc4_sem17_1 | ⟨_ + 2, h⟩ => absurd h (Nat.not_lt.2 (Nat.le_add_left _ _))
abbrev reads4_17 : Fin grid4.rank → Bool := ![true]

abbrev stage4_18 : Fin 2 → Memref sig .tc .vmem S1x1x300 .f32 := fun | 0 => Memref.whole cc4_stg18_0 | 1 => Memref.whole cc4_stg18_1 | ⟨_ + 2, h⟩ => absurd h (Nat.not_lt.2 (Nat.le_add_left _ _))
abbrev sem4_18 : Fin 2 → DmaSem sig := fun | 0 => cc4_sem18_0 | 1 => cc4_sem18_1 | ⟨_ + 2, h⟩ => absurd h (Nat.not_lt.2 (Nat.le_add_left _ _))
abbrev reads4_18 : Fin grid4.rank → Bool := ![true]

abbrev stage4_19 : Fin 2 → Memref sig .tc .vmem S1x1x300 .f32 := fun | 0 => Memref.whole cc4_stg19_0 | 1 => Memref.whole cc4_stg19_1 | ⟨_ + 2, h⟩ => absurd h (Nat.not_lt.2 (Nat.le_add_left _ _))
abbrev sem4_19 : Fin 2 → DmaSem sig := fun | 0 => cc4_sem19_0 | 1 => cc4_sem19_1 | ⟨_ + 2, h⟩ => absurd h (Nat.not_lt.2 (Nat.le_add_left _ _))
abbrev reads4_19 : Fin grid4.rank → Bool := ![true]

abbrev stage4_20 : Fin 2 → Memref sig .tc .vmem S1x1x300 .f32 := fun | 0 => Memref.whole cc4_stg20_0 | 1 => Memref.whole cc4_stg20_1 | ⟨_ + 2, h⟩ => absurd h (Nat.not_lt.2 (Nat.le_add_left _ _))
abbrev sem4_20 : Fin 2 → DmaSem sig := fun | 0 => cc4_sem20_0 | 1 => cc4_sem20_1 | ⟨_ + 2, h⟩ => absurd h (Nat.not_lt.2 (Nat.le_add_left _ _))
abbrev reads4_20 : Fin grid4.rank → Bool := ![true]

abbrev stage4_21 : Fin 2 → Memref sig .tc .vmem S1x1x300 .f32 := fun | 0 => Memref.whole cc4_stg21_0 | 1 => Memref.whole cc4_stg21_1 | ⟨_ + 2, h⟩ => absurd h (Nat.not_lt.2 (Nat.le_add_left _ _))
abbrev sem4_21 : Fin 2 → DmaSem sig := fun | 0 => cc4_sem21_0 | 1 => cc4_sem21_1 | ⟨_ + 2, h⟩ => absurd h (Nat.not_lt.2 (Nat.le_add_left _ _))
abbrev reads4_21 : Fin grid4.rank → Bool := ![true]

abbrev stage4_22 : Fin 2 → Memref sig .tc .vmem S1x1x300 .f32 := fun | 0 => Memref.whole cc4_stg22_0 | 1 => Memref.whole cc4_stg22_1 | ⟨_ + 2, h⟩ => absurd h (Nat.not_lt.2 (Nat.le_add_left _ _))
abbrev sem4_22 : Fin 2 → DmaSem sig := fun | 0 => cc4_sem22_0 | 1 => cc4_sem22_1 | ⟨_ + 2, h⟩ => absurd h (Nat.not_lt.2 (Nat.le_add_left _ _))
abbrev reads4_22 : Fin grid4.rank → Bool := ![true]

abbrev stage4_23 : Fin 2 → Memref sig .tc .vmem S1x1x300 .f32 := fun | 0 => Memref.whole cc4_stg23_0 | 1 => Memref.whole cc4_stg23_1 | ⟨_ + 2, h⟩ => absurd h (Nat.not_lt.2 (Nat.le_add_left _ _))
abbrev sem4_23 : Fin 2 → DmaSem sig := fun | 0 => cc4_sem23_0 | 1 => cc4_sem23_1 | ⟨_ + 2, h⟩ => absurd h (Nat.not_lt.2 (Nat.le_add_left _ _))
abbrev reads4_23 : Fin grid4.rank → Bool := ![true]

abbrev stage4_24 : Fin 2 → Memref sig .tc .vmem S1x1x300 .f32 := fun | 0 => Memref.whole cc4_stg24_0 | 1 => Memref.whole cc4_stg24_1 | ⟨_ + 2, h⟩ => absurd h (Nat.not_lt.2 (Nat.le_add_left _ _))
abbrev sem4_24 : Fin 2 → DmaSem sig := fun | 0 => cc4_sem24_0 | 1 => cc4_sem24_1 | ⟨_ + 2, h⟩ => absurd h (Nat.not_lt.2 (Nat.le_add_left _ _))
abbrev reads4_24 : Fin grid4.rank → Bool := ![true]

abbrev stage4_25 : Fin 2 → Memref sig .tc .vmem S1x1x300 .f32 := fun | 0 => Memref.whole cc4_stg25_0 | 1 => Memref.whole cc4_stg25_1 | ⟨_ + 2, h⟩ => absurd h (Nat.not_lt.2 (Nat.le_add_left _ _))
abbrev sem4_25 : Fin 2 → DmaSem sig := fun | 0 => cc4_sem25_0 | 1 => cc4_sem25_1 | ⟨_ + 2, h⟩ => absurd h (Nat.not_lt.2 (Nat.le_add_left _ _))
abbrev reads4_25 : Fin grid4.rank → Bool := ![true]

abbrev stage4_26 : Fin 2 → Memref sig .tc .vmem S1x1x300 .f32 := fun | 0 => Memref.whole cc4_stg26_0 | 1 => Memref.whole cc4_stg26_1 | ⟨_ + 2, h⟩ => absurd h (Nat.not_lt.2 (Nat.le_add_left _ _))
abbrev sem4_26 : Fin 2 → DmaSem sig := fun | 0 => cc4_sem26_0 | 1 => cc4_sem26_1 | ⟨_ + 2, h⟩ => absurd h (Nat.not_lt.2 (Nat.le_add_left _ _))
abbrev reads4_26 : Fin grid4.rank → Bool := ![true]

abbrev stage4_27 : Fin 2 → Memref sig .tc .vmem S1x1x300 .f32 := fun | 0 => Memref.whole cc4_stg27_0 | 1 => Memref.whole cc4_stg27_1 | ⟨_ + 2, h⟩ => absurd h (Nat.not_lt.2 (Nat.le_add_left _ _))
abbrev sem4_27 : Fin 2 → DmaSem sig := fun | 0 => cc4_sem27_0 | 1 => cc4_sem27_1 | ⟨_ + 2, h⟩ => absurd h (Nat.not_lt.2 (Nat.le_add_left _ _))
abbrev reads4_27 : Fin grid4.rank → Bool := ![true]

abbrev stage4_28 : Fin 2 → Memref sig .tc .vmem S1x1x300 .f32 := fun | 0 => Memref.whole cc4_stg28_0 | 1 => Memref.whole cc4_stg28_1 | ⟨_ + 2, h⟩ => absurd h (Nat.not_lt.2 (Nat.le_add_left _ _))
abbrev sem4_28 : Fin 2 → DmaSem sig := fun | 0 => cc4_sem28_0 | 1 => cc4_sem28_1 | ⟨_ + 2, h⟩ => absurd h (Nat.not_lt.2 (Nat.le_add_left _ _))
abbrev reads4_28 : Fin grid4.rank → Bool := ![true]

abbrev stage4_29 : Fin 2 → Memref sig .tc .vmem S1x1x300 .f32 := fun | 0 => Memref.whole cc4_stg29_0 | 1 => Memref.whole cc4_stg29_1 | ⟨_ + 2, h⟩ => absurd h (Nat.not_lt.2 (Nat.le_add_left _ _))
abbrev sem4_29 : Fin 2 → DmaSem sig := fun | 0 => cc4_sem29_0 | 1 => cc4_sem29_1 | ⟨_ + 2, h⟩ => absurd h (Nat.not_lt.2 (Nat.le_add_left _ _))
abbrev reads4_29 : Fin grid4.rank → Bool := ![true]

abbrev stage4_30 : Fin 2 → Memref sig .tc .vmem S1x1x300 .f32 := fun | 0 => Memref.whole cc4_stg30_0 | 1 => Memref.whole cc4_stg30_1 | ⟨_ + 2, h⟩ => absurd h (Nat.not_lt.2 (Nat.le_add_left _ _))
abbrev sem4_30 : Fin 2 → DmaSem sig := fun | 0 => cc4_sem30_0 | 1 => cc4_sem30_1 | ⟨_ + 2, h⟩ => absurd h (Nat.not_lt.2 (Nat.le_add_left _ _))
abbrev reads4_30 : Fin grid4.rank → Bool := ![true]

abbrev stage4_31 : Fin 2 → Memref sig .tc .vmem S1x1x300 .f32 := fun | 0 => Memref.whole cc4_stg31_0 | 1 => Memref.whole cc4_stg31_1 | ⟨_ + 2, h⟩ => absurd h (Nat.not_lt.2 (Nat.le_add_left _ _))
abbrev sem4_31 : Fin 2 → DmaSem sig := fun | 0 => cc4_sem31_0 | 1 => cc4_sem31_1 | ⟨_ + 2, h⟩ => absurd h (Nat.not_lt.2 (Nat.le_add_left _ _))
abbrev reads4_31 : Fin grid4.rank → Bool := ![true]

abbrev stage4_32 : Fin 2 → Memref sig .tc .vmem S1x32x300 .f32 := fun | 0 => Memref.whole cc4_stg32_0 | 1 => Memref.whole cc4_stg32_1 | ⟨_ + 2, h⟩ => absurd h (Nat.not_lt.2 (Nat.le_add_left _ _))
abbrev sem4_32 : Fin 2 → DmaSem sig := fun | 0 => cc4_sem32_0 | 1 => cc4_sem32_1 | ⟨_ + 2, h⟩ => absurd h (Nat.not_lt.2 (Nat.le_add_left _ _))
abbrev reads4_32 : Fin grid4.rank → Bool := ![true]

abbrev stage4_33 : Fin 2 → Memref sig .tc .vmem S1x32x1 .f32 := fun | 0 => Memref.whole cc4_stg33_0 | 1 => Memref.whole cc4_stg33_1 | ⟨_ + 2, h⟩ => absurd h (Nat.not_lt.2 (Nat.le_add_left _ _))
abbrev sem4_33 : Fin 2 → DmaSem sig := fun | 0 => cc4_sem33_0 | 1 => cc4_sem33_1 | ⟨_ + 2, h⟩ => absurd h (Nat.not_lt.2 (Nat.le_add_left _ _))
abbrev reads4_33 : Fin grid4.rank → Bool := ![true]

abbrev grid5 : Pipeline.Grid := ⟨1, ![512], ![false]⟩

abbrev pre5 : Pipeline.Prefetch sig := ⟨1, ![main_v78.idx], fun | 0 => main_v78.names | ⟨_ + 1, h⟩ => absurd h (Nat.not_lt.2 (Nat.le_add_left _ _)), fun | 0 => rfl | ⟨_ + 1, h⟩ => absurd h (Nat.not_lt.2 (Nat.le_add_left _ _))⟩

def k5_off1 (i : grid5.Coords) (c0_i32 : BitVec 32) : Fin 1 → Nat :=
  let arg0 : BitVec 32 := BitVec.ofNat 32 (i 0).val
  let c32_i32 : BitVec 32 := 32#32
  let v0 : BitVec 32 := Scalar.muli arg0 c32_i32
  let v1 : BitVec 32 := Scalar.addi v0 c0_i32
  let v2 : Index := Scalar.indexCast v1
  ![v2.toNat]
def cc5_transform_0 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v2 : Index := Scalar.indexCast v1
  let v3 : BitVec 32 := pf.at 0 (Rect.unit (s := S16384) ![v2.toNat] S1.size (k5_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc5_transform_1 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.addi v0 c1_i32
  let v2 : Index := Scalar.indexCast v1
  let v3 : BitVec 32 := pf.at 0 (Rect.unit (s := S16384) ![v2.toNat] S1.size (k5_off1_inb i 1)) numel1_S1
  let c0_i32 : BitVec 32 := 0#32
  let c0_i32_0 : BitVec 32 := 0#32
  let c0_i32_1 : BitVec 32 := 0#32
  ![v3.toNat, c0_i32.toNat, c0_i32_0.toNat]

def cc5_transform_2 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c2_i32 : BitVec 32 := 2#32
  let v1 : BitVec 32 := Scalar.addi v0 c2_i32
  let v2 : Index := Scalar.indexCast v1
  let v3 : BitVec 32 := pf.at 0 (Rect.unit (s := S16384) ![v2.toNat] S1.size (k5_off1_inb i 2)) numel1_S1
  let c0_i32 : BitVec 32 := 0#32
  let c0_i32_0 : BitVec 32 := 0#32
  let c0_i32_1 : BitVec 32 := 0#32
  ![v3.toNat, c0_i32.toNat, c0_i32_0.toNat]

def cc5_transform_3 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c3_i32 : BitVec 32 := 3#32
  let v1 : BitVec 32 := Scalar.addi v0 c3_i32
  let v2 : Index := Scalar.indexCast v1
  let v3 : BitVec 32 := pf.at 0 (Rect.unit (s := S16384) ![v2.toNat] S1.size (k5_off1_inb i 3)) numel1_S1
  let c0_i32 : BitVec 32 := 0#32
  let c0_i32_0 : BitVec 32 := 0#32
  let c0_i32_1 : BitVec 32 := 0#32
  ![v3.toNat, c0_i32.toNat, c0_i32_0.toNat]

def cc5_transform_4 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c4_i32 : BitVec 32 := 4#32
  let v1 : BitVec 32 := Scalar.addi v0 c4_i32
  let v2 : Index := Scalar.indexCast v1
  let v3 : BitVec 32 := pf.at 0 (Rect.unit (s := S16384) ![v2.toNat] S1.size (k5_off1_inb i 4)) numel1_S1
  let c0_i32 : BitVec 32 := 0#32
  let c0_i32_0 : BitVec 32 := 0#32
  let c0_i32_1 : BitVec 32 := 0#32
  ![v3.toNat, c0_i32.toNat, c0_i32_0.toNat]

def cc5_transform_5 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c5_i32 : BitVec 32 := 5#32
  let v1 : BitVec 32 := Scalar.addi v0 c5_i32
  let v2 : Index := Scalar.indexCast v1
  let v3 : BitVec 32 := pf.at 0 (Rect.unit (s := S16384) ![v2.toNat] S1.size (k5_off1_inb i 5)) numel1_S1
  let c0_i32 : BitVec 32 := 0#32
  let c0_i32_0 : BitVec 32 := 0#32
  let c0_i32_1 : BitVec 32 := 0#32
  ![v3.toNat, c0_i32.toNat, c0_i32_0.toNat]

def cc5_transform_6 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c6_i32 : BitVec 32 := 6#32
  let v1 : BitVec 32 := Scalar.addi v0 c6_i32
  let v2 : Index := Scalar.indexCast v1
  let v3 : BitVec 32 := pf.at 0 (Rect.unit (s := S16384) ![v2.toNat] S1.size (k5_off1_inb i 6)) numel1_S1
  let c0_i32 : BitVec 32 := 0#32
  let c0_i32_0 : BitVec 32 := 0#32
  let c0_i32_1 : BitVec 32 := 0#32
  ![v3.toNat, c0_i32.toNat, c0_i32_0.toNat]

def cc5_transform_7 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c7_i32 : BitVec 32 := 7#32
  let v1 : BitVec 32 := Scalar.addi v0 c7_i32
  let v2 : Index := Scalar.indexCast v1
  let v3 : BitVec 32 := pf.at 0 (Rect.unit (s := S16384) ![v2.toNat] S1.size (k5_off1_inb i 7)) numel1_S1
  let c0_i32 : BitVec 32 := 0#32
  let c0_i32_0 : BitVec 32 := 0#32
  let c0_i32_1 : BitVec 32 := 0#32
  ![v3.toNat, c0_i32.toNat, c0_i32_0.toNat]

def cc5_transform_8 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c8_i32 : BitVec 32 := 8#32
  let v1 : BitVec 32 := Scalar.addi v0 c8_i32
  let v2 : Index := Scalar.indexCast v1
  let v3 : BitVec 32 := pf.at 0 (Rect.unit (s := S16384) ![v2.toNat] S1.size (k5_off1_inb i 8)) numel1_S1
  let c0_i32 : BitVec 32 := 0#32
  let c0_i32_0 : BitVec 32 := 0#32
  let c0_i32_1 : BitVec 32 := 0#32
  ![v3.toNat, c0_i32.toNat, c0_i32_0.toNat]

def cc5_transform_9 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c9_i32 : BitVec 32 := 9#32
  let v1 : BitVec 32 := Scalar.addi v0 c9_i32
  let v2 : Index := Scalar.indexCast v1
  let v3 : BitVec 32 := pf.at 0 (Rect.unit (s := S16384) ![v2.toNat] S1.size (k5_off1_inb i 9)) numel1_S1
  let c0_i32 : BitVec 32 := 0#32
  let c0_i32_0 : BitVec 32 := 0#32
  let c0_i32_1 : BitVec 32 := 0#32
  ![v3.toNat, c0_i32.toNat, c0_i32_0.toNat]

def cc5_transform_10 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c10_i32 : BitVec 32 := 10#32
  let v1 : BitVec 32 := Scalar.addi v0 c10_i32
  let v2 : Index := Scalar.indexCast v1
  let v3 : BitVec 32 := pf.at 0 (Rect.unit (s := S16384) ![v2.toNat] S1.size (k5_off1_inb i 10)) numel1_S1
  let c0_i32 : BitVec 32 := 0#32
  let c0_i32_0 : BitVec 32 := 0#32
  let c0_i32_1 : BitVec 32 := 0#32
  ![v3.toNat, c0_i32.toNat, c0_i32_0.toNat]

def cc5_transform_11 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c11_i32 : BitVec 32 := 11#32
  let v1 : BitVec 32 := Scalar.addi v0 c11_i32
  let v2 : Index := Scalar.indexCast v1
  let v3 : BitVec 32 := pf.at 0 (Rect.unit (s := S16384) ![v2.toNat] S1.size (k5_off1_inb i 11)) numel1_S1
  let c0_i32 : BitVec 32 := 0#32
  let c0_i32_0 : BitVec 32 := 0#32
  let c0_i32_1 : BitVec 32 := 0#32
  ![v3.toNat, c0_i32.toNat, c0_i32_0.toNat]

def cc5_transform_12 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c12_i32 : BitVec 32 := 12#32
  let v1 : BitVec 32 := Scalar.addi v0 c12_i32
  let v2 : Index := Scalar.indexCast v1
  let v3 : BitVec 32 := pf.at 0 (Rect.unit (s := S16384) ![v2.toNat] S1.size (k5_off1_inb i 12)) numel1_S1
  let c0_i32 : BitVec 32 := 0#32
  let c0_i32_0 : BitVec 32 := 0#32
  let c0_i32_1 : BitVec 32 := 0#32
  ![v3.toNat, c0_i32.toNat, c0_i32_0.toNat]

def cc5_transform_13 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c13_i32 : BitVec 32 := 13#32
  let v1 : BitVec 32 := Scalar.addi v0 c13_i32
  let v2 : Index := Scalar.indexCast v1
  let v3 : BitVec 32 := pf.at 0 (Rect.unit (s := S16384) ![v2.toNat] S1.size (k5_off1_inb i 13)) numel1_S1
  let c0_i32 : BitVec 32 := 0#32
  let c0_i32_0 : BitVec 32 := 0#32
  let c0_i32_1 : BitVec 32 := 0#32
  ![v3.toNat, c0_i32.toNat, c0_i32_0.toNat]

def cc5_transform_14 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c14_i32 : BitVec 32 := 14#32
  let v1 : BitVec 32 := Scalar.addi v0 c14_i32
  let v2 : Index := Scalar.indexCast v1
  let v3 : BitVec 32 := pf.at 0 (Rect.unit (s := S16384) ![v2.toNat] S1.size (k5_off1_inb i 14)) numel1_S1
  let c0_i32 : BitVec 32 := 0#32
  let c0_i32_0 : BitVec 32 := 0#32
  let c0_i32_1 : BitVec 32 := 0#32
  ![v3.toNat, c0_i32.toNat, c0_i32_0.toNat]

def cc5_transform_15 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c15_i32 : BitVec 32 := 15#32
  let v1 : BitVec 32 := Scalar.addi v0 c15_i32
  let v2 : Index := Scalar.indexCast v1
  let v3 : BitVec 32 := pf.at 0 (Rect.unit (s := S16384) ![v2.toNat] S1.size (k5_off1_inb i 15)) numel1_S1
  let c0_i32 : BitVec 32 := 0#32
  let c0_i32_0 : BitVec 32 := 0#32
  let c0_i32_1 : BitVec 32 := 0#32
  ![v3.toNat, c0_i32.toNat, c0_i32_0.toNat]

def cc5_transform_16 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c16_i32 : BitVec 32 := 16#32
  let v1 : BitVec 32 := Scalar.addi v0 c16_i32
  let v2 : Index := Scalar.indexCast v1
  let v3 : BitVec 32 := pf.at 0 (Rect.unit (s := S16384) ![v2.toNat] S1.size (k5_off1_inb i 16)) numel1_S1
  let c0_i32 : BitVec 32 := 0#32
  let c0_i32_0 : BitVec 32 := 0#32
  let c0_i32_1 : BitVec 32 := 0#32
  ![v3.toNat, c0_i32.toNat, c0_i32_0.toNat]

def cc5_transform_17 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c17_i32 : BitVec 32 := 17#32
  let v1 : BitVec 32 := Scalar.addi v0 c17_i32
  let v2 : Index := Scalar.indexCast v1
  let v3 : BitVec 32 := pf.at 0 (Rect.unit (s := S16384) ![v2.toNat] S1.size (k5_off1_inb i 17)) numel1_S1
  let c0_i32 : BitVec 32 := 0#32
  let c0_i32_0 : BitVec 32 := 0#32
  let c0_i32_1 : BitVec 32 := 0#32
  ![v3.toNat, c0_i32.toNat, c0_i32_0.toNat]

def cc5_transform_18 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c18_i32 : BitVec 32 := 18#32
  let v1 : BitVec 32 := Scalar.addi v0 c18_i32
  let v2 : Index := Scalar.indexCast v1
  let v3 : BitVec 32 := pf.at 0 (Rect.unit (s := S16384) ![v2.toNat] S1.size (k5_off1_inb i 18)) numel1_S1
  let c0_i32 : BitVec 32 := 0#32
  let c0_i32_0 : BitVec 32 := 0#32
  let c0_i32_1 : BitVec 32 := 0#32
  ![v3.toNat, c0_i32.toNat, c0_i32_0.toNat]

def cc5_transform_19 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c19_i32 : BitVec 32 := 19#32
  let v1 : BitVec 32 := Scalar.addi v0 c19_i32
  let v2 : Index := Scalar.indexCast v1
  let v3 : BitVec 32 := pf.at 0 (Rect.unit (s := S16384) ![v2.toNat] S1.size (k5_off1_inb i 19)) numel1_S1
  let c0_i32 : BitVec 32 := 0#32
  let c0_i32_0 : BitVec 32 := 0#32
  let c0_i32_1 : BitVec 32 := 0#32
  ![v3.toNat, c0_i32.toNat, c0_i32_0.toNat]

def cc5_transform_20 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c20_i32 : BitVec 32 := 20#32
  let v1 : BitVec 32 := Scalar.addi v0 c20_i32
  let v2 : Index := Scalar.indexCast v1
  let v3 : BitVec 32 := pf.at 0 (Rect.unit (s := S16384) ![v2.toNat] S1.size (k5_off1_inb i 20)) numel1_S1
  let c0_i32 : BitVec 32 := 0#32
  let c0_i32_0 : BitVec 32 := 0#32
  let c0_i32_1 : BitVec 32 := 0#32
  ![v3.toNat, c0_i32.toNat, c0_i32_0.toNat]

def cc5_transform_21 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c21_i32 : BitVec 32 := 21#32
  let v1 : BitVec 32 := Scalar.addi v0 c21_i32
  let v2 : Index := Scalar.indexCast v1
  let v3 : BitVec 32 := pf.at 0 (Rect.unit (s := S16384) ![v2.toNat] S1.size (k5_off1_inb i 21)) numel1_S1
  let c0_i32 : BitVec 32 := 0#32
  let c0_i32_0 : BitVec 32 := 0#32
  let c0_i32_1 : BitVec 32 := 0#32
  ![v3.toNat, c0_i32.toNat, c0_i32_0.toNat]

def cc5_transform_22 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c22_i32 : BitVec 32 := 22#32
  let v1 : BitVec 32 := Scalar.addi v0 c22_i32
  let v2 : Index := Scalar.indexCast v1
  let v3 : BitVec 32 := pf.at 0 (Rect.unit (s := S16384) ![v2.toNat] S1.size (k5_off1_inb i 22)) numel1_S1
  let c0_i32 : BitVec 32 := 0#32
  let c0_i32_0 : BitVec 32 := 0#32
  let c0_i32_1 : BitVec 32 := 0#32
  ![v3.toNat, c0_i32.toNat, c0_i32_0.toNat]

def cc5_transform_23 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c23_i32 : BitVec 32 := 23#32
  let v1 : BitVec 32 := Scalar.addi v0 c23_i32
  let v2 : Index := Scalar.indexCast v1
  let v3 : BitVec 32 := pf.at 0 (Rect.unit (s := S16384) ![v2.toNat] S1.size (k5_off1_inb i 23)) numel1_S1
  let c0_i32 : BitVec 32 := 0#32
  let c0_i32_0 : BitVec 32 := 0#32
  let c0_i32_1 : BitVec 32 := 0#32
  ![v3.toNat, c0_i32.toNat, c0_i32_0.toNat]

def cc5_transform_24 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c24_i32 : BitVec 32 := 24#32
  let v1 : BitVec 32 := Scalar.addi v0 c24_i32
  let v2 : Index := Scalar.indexCast v1
  let v3 : BitVec 32 := pf.at 0 (Rect.unit (s := S16384) ![v2.toNat] S1.size (k5_off1_inb i 24)) numel1_S1
  let c0_i32 : BitVec 32 := 0#32
  let c0_i32_0 : BitVec 32 := 0#32
  let c0_i32_1 : BitVec 32 := 0#32
  ![v3.toNat, c0_i32.toNat, c0_i32_0.toNat]

def cc5_transform_25 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c25_i32 : BitVec 32 := 25#32
  let v1 : BitVec 32 := Scalar.addi v0 c25_i32
  let v2 : Index := Scalar.indexCast v1
  let v3 : BitVec 32 := pf.at 0 (Rect.unit (s := S16384) ![v2.toNat] S1.size (k5_off1_inb i 25)) numel1_S1
  let c0_i32 : BitVec 32 := 0#32
  let c0_i32_0 : BitVec 32 := 0#32
  let c0_i32_1 : BitVec 32 := 0#32
  ![v3.toNat, c0_i32.toNat, c0_i32_0.toNat]

def cc5_transform_26 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c26_i32 : BitVec 32 := 26#32
  let v1 : BitVec 32 := Scalar.addi v0 c26_i32
  let v2 : Index := Scalar.indexCast v1
  let v3 : BitVec 32 := pf.at 0 (Rect.unit (s := S16384) ![v2.toNat] S1.size (k5_off1_inb i 26)) numel1_S1
  let c0_i32 : BitVec 32 := 0#32
  let c0_i32_0 : BitVec 32 := 0#32
  let c0_i32_1 : BitVec 32 := 0#32
  ![v3.toNat, c0_i32.toNat, c0_i32_0.toNat]

def cc5_transform_27 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c27_i32 : BitVec 32 := 27#32
  let v1 : BitVec 32 := Scalar.addi v0 c27_i32
  let v2 : Index := Scalar.indexCast v1
  let v3 : BitVec 32 := pf.at 0 (Rect.unit (s := S16384) ![v2.toNat] S1.size (k5_off1_inb i 27)) numel1_S1
  let c0_i32 : BitVec 32 := 0#32
  let c0_i32_0 : BitVec 32 := 0#32
  let c0_i32_1 : BitVec 32 := 0#32
  ![v3.toNat, c0_i32.toNat, c0_i32_0.toNat]

def cc5_transform_28 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c28_i32 : BitVec 32 := 28#32
  let v1 : BitVec 32 := Scalar.addi v0 c28_i32
  let v2 : Index := Scalar.indexCast v1
  let v3 : BitVec 32 := pf.at 0 (Rect.unit (s := S16384) ![v2.toNat] S1.size (k5_off1_inb i 28)) numel1_S1
  let c0_i32 : BitVec 32 := 0#32
  let c0_i32_0 : BitVec 32 := 0#32
  let c0_i32_1 : BitVec 32 := 0#32
  ![v3.toNat, c0_i32.toNat, c0_i32_0.toNat]

def cc5_transform_29 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c29_i32 : BitVec 32 := 29#32
  let v1 : BitVec 32 := Scalar.addi v0 c29_i32
  let v2 : Index := Scalar.indexCast v1
  let v3 : BitVec 32 := pf.at 0 (Rect.unit (s := S16384) ![v2.toNat] S1.size (k5_off1_inb i 29)) numel1_S1
  let c0_i32 : BitVec 32 := 0#32
  let c0_i32_0 : BitVec 32 := 0#32
  let c0_i32_1 : BitVec 32 := 0#32
  ![v3.toNat, c0_i32.toNat, c0_i32_0.toNat]

def cc5_transform_30 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c30_i32 : BitVec 32 := 30#32
  let v1 : BitVec 32 := Scalar.addi v0 c30_i32
  let v2 : Index := Scalar.indexCast v1
  let v3 : BitVec 32 := pf.at 0 (Rect.unit (s := S16384) ![v2.toNat] S1.size (k5_off1_inb i 30)) numel1_S1
  let c0_i32 : BitVec 32 := 0#32
  let c0_i32_0 : BitVec 32 := 0#32
  let c0_i32_1 : BitVec 32 := 0#32
  ![v3.toNat, c0_i32.toNat, c0_i32_0.toNat]

def cc5_transform_31 (k5_off1_inb : ∀ i : grid5.Coords, ∀ (r : Fin 32), ∀ a, (k5_off1 i (BitVec.ofNat 32 r.val)) a + S1.size a ≤ S16384.size a) (numel1_S1 : S1.numel = 1) (pf : pre5.Contents (Elt F)) (i : grid5.Coords) : Fin 3 → Nat :=
  let arg0 : BitVec 32 := BitVec.ofNat 32 (i 0).val
  let c32_i32 : BitVec 32 := 32#32
  let v0 : BitVec 32 := Scalar.muli arg0 c32_i32
  let c31_i32 : BitVec 32 := 31#32
  let v1 : BitVec 32 := Scalar.addi v0 c31_i32
  let v2 : Index := Scalar.indexCast v1
  let v3 : BitVec 32 := pf.at 0 (Rect.unit (s := S16384) ![v2.toNat] S1.size (k5_off1_inb i 31)) numel1_S1
  let c0_i32 : BitVec 32 := 0#32
  let c0_i32_0 : BitVec 32 := 0#32
  let c0_i32_1 : BitVec 32 := 0#32
  ![v3.toNat, c0_i32.toNat, c0_i32_0.toNat]

def cc5_transform_32 (i : grid5.Coords) : Fin 3 → Nat :=
  let arg0 : BitVec 32 := BitVec.ofNat 32 (i 0).val
  let c256_i32 : BitVec 32 := 256#32
  let v0 : BitVec 32 := Scalar.divsi arg0 c256_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c256_i32 c0_i32_1
  let v7 : BitVec 32 := Scalar.extui v6
  let c0_i32_2 : BitVec 32 := 0#32
  let v8 : BitVec 1 := Scalar.cmpi .slt c256_i32 c0_i32_2
  let v9 : BitVec 32 := Scalar.extui v8
  let v10 : BitVec 32 := Scalar.subi v7 v9
  let v11 : BitVec 1 := Scalar.cmpi .ne v5 v10
  let v12 : BitVec 32 := Scalar.remsi arg0 c256_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c256_i32_4 : BitVec 32 := 256#32
  let c0_i32_5 : BitVec 32 := 0#32
  let v17 : BitVec 1 := Scalar.cmpi .eq c256_i32_4 c0_i32_5
  let c1_i32_6 : BitVec 32 := 1#32
  let v18 : BitVec 32 := Scalar.select v17 c1_i32_6 c256_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.divsi v26 c16_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c16_i32 c0_i32_12
  let v34 : BitVec 32 := Scalar.extui v33
  let c0_i32_13 : BitVec 32 := 0#32
  let v35 : BitVec 1 := Scalar.cmpi .slt c16_i32 c0_i32_13
  let v36 : BitVec 32 := Scalar.extui v35
  let v37 : BitVec 32 := Scalar.subi v34 v36
  let v38 : BitVec 1 := Scalar.cmpi .ne v32 v37
  let v39 : BitVec 32 := Scalar.remsi v26 c16_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c0_i32_16 : BitVec 32 := 0#32
  let c0_i32_17 : BitVec 32 := 0#32
  ![v16.toNat, v43.toNat, c0_i32_16.toNat]

def cc5_transform_33 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x1x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x1x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x1x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1x1x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S1x1x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S1x1x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S1x1x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S1x1x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S1x1x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S1x1x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev stage5_10 : Fin 2 → Memref sig .tc .vmem S1x1x128 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

abbrev stage5_11 : Fin 2 → Memref sig .tc .vmem S1x1x128 .f32 := fun | 0 => Memref.whole cc5_stg11_0 | 1 => Memref.whole cc5_stg11_1 | ⟨_ + 2, h⟩ => absurd h (Nat.not_lt.2 (Nat.le_add_left _ _))
abbrev sem5_11 : Fin 2 → DmaSem sig := fun | 0 => cc5_sem11_0 | 1 => cc5_sem11_1 | ⟨_ + 2, h⟩ => absurd h (Nat.not_lt.2 (Nat.le_add_left _ _))
abbrev reads5_11 : Fin grid5.rank → Bool := ![true]

abbrev stage5_12 : Fin 2 → Memref sig .tc .vmem S1x1x128 .f32 := fun | 0 => Memref.whole cc5_stg12_0 | 1 => Memref.whole cc5_stg12_1 | ⟨_ + 2, h⟩ => absurd h (Nat.not_lt.2 (Nat.le_add_left _ _))
abbrev sem5_12 : Fin 2 → DmaSem sig := fun | 0 => cc5_sem12_0 | 1 => cc5_sem12_1 | ⟨_ + 2, h⟩ => absurd h (Nat.not_lt.2 (Nat.le_add_left _ _))
abbrev reads5_12 : Fin grid5.rank → Bool := ![true]

abbrev stage5_13 : Fin 2 → Memref sig .tc .vmem S1x1x128 .f32 := fun | 0 => Memref.whole cc5_stg13_0 | 1 => Memref.whole cc5_stg13_1 | ⟨_ + 2, h⟩ => absurd h (Nat.not_lt.2 (Nat.le_add_left _ _))
abbrev sem5_13 : Fin 2 → DmaSem sig := fun | 0 => cc5_sem13_0 | 1 => cc5_sem13_1 | ⟨_ + 2, h⟩ => absurd h (Nat.not_lt.2 (Nat.le_add_left _ _))
abbrev reads5_13 : Fin grid5.rank → Bool := ![true]

abbrev stage5_14 : Fin 2 → Memref sig .tc .vmem S1x1x128 .f32 := fun | 0 => Memref.whole cc5_stg14_0 | 1 => Memref.whole cc5_stg14_1 | ⟨_ + 2, h⟩ => absurd h (Nat.not_lt.2 (Nat.le_add_left _ _))
abbrev sem5_14 : Fin 2 → DmaSem sig := fun | 0 => cc5_sem14_0 | 1 => cc5_sem14_1 | ⟨_ + 2, h⟩ => absurd h (Nat.not_lt.2 (Nat.le_add_left _ _))
abbrev reads5_14 : Fin grid5.rank → Bool := ![true]

abbrev stage5_15 : Fin 2 → Memref sig .tc .vmem S1x1x128 .f32 := fun | 0 => Memref.whole cc5_stg15_0 | 1 => Memref.whole cc5_stg15_1 | ⟨_ + 2, h⟩ => absurd h (Nat.not_lt.2 (Nat.le_add_left _ _))
abbrev sem5_15 : Fin 2 → DmaSem sig := fun | 0 => cc5_sem15_0 | 1 => cc5_sem15_1 | ⟨_ + 2, h⟩ => absurd h (Nat.not_lt.2 (Nat.le_add_left _ _))
abbrev reads5_15 : Fin grid5.rank → Bool := ![true]

abbrev stage5_16 : Fin 2 → Memref sig .tc .vmem S1x1x128 .f32 := fun | 0 => Memref.whole cc5_stg16_0 | 1 => Memref.whole cc5_stg16_1 | ⟨_ + 2, h⟩ => absurd h (Nat.not_lt.2 (Nat.le_add_left _ _))
abbrev sem5_16 : Fin 2 → DmaSem sig := fun | 0 => cc5_sem16_0 | 1 => cc5_sem16_1 | ⟨_ + 2, h⟩ => absurd h (Nat.not_lt.2 (Nat.le_add_left _ _))
abbrev reads5_16 : Fin grid5.rank → Bool := ![true]

abbrev stage5_17 : Fin 2 → Memref sig .tc .vmem S1x1x128 .f32 := fun | 0 => Memref.whole cc5_stg17_0 | 1 => Memref.whole cc5_stg17_1 | ⟨_ + 2, h⟩ => absurd h (Nat.not_lt.2 (Nat.le_add_left _ _))
abbrev sem5_17 : Fin 2 → DmaSem sig := fun | 0 => cc5_sem17_0 | 1 => cc5_sem17_1 | ⟨_ + 2, h⟩ => absurd h (Nat.not_lt.2 (Nat.le_add_left _ _))
abbrev reads5_17 : Fin grid5.rank → Bool := ![true]

abbrev stage5_18 : Fin 2 → Memref sig .tc .vmem S1x1x128 .f32 := fun | 0 => Memref.whole cc5_stg18_0 | 1 => Memref.whole cc5_stg18_1 | ⟨_ + 2, h⟩ => absurd h (Nat.not_lt.2 (Nat.le_add_left _ _))
abbrev sem5_18 : Fin 2 → DmaSem sig := fun | 0 => cc5_sem18_0 | 1 => cc5_sem18_1 | ⟨_ + 2, h⟩ => absurd h (Nat.not_lt.2 (Nat.le_add_left _ _))
abbrev reads5_18 : Fin grid5.rank → Bool := ![true]

abbrev stage5_19 : Fin 2 → Memref sig .tc .vmem S1x1x128 .f32 := fun | 0 => Memref.whole cc5_stg19_0 | 1 => Memref.whole cc5_stg19_1 | ⟨_ + 2, h⟩ => absurd h (Nat.not_lt.2 (Nat.le_add_left _ _))
abbrev sem5_19 : Fin 2 → DmaSem sig := fun | 0 => cc5_sem19_0 | 1 => cc5_sem19_1 | ⟨_ + 2, h⟩ => absurd h (Nat.not_lt.2 (Nat.le_add_left _ _))
abbrev reads5_19 : Fin grid5.rank → Bool := ![true]

abbrev stage5_20 : Fin 2 → Memref sig .tc .vmem S1x1x128 .f32 := fun | 0 => Memref.whole cc5_stg20_0 | 1 => Memref.whole cc5_stg20_1 | ⟨_ + 2, h⟩ => absurd h (Nat.not_lt.2 (Nat.le_add_left _ _))
abbrev sem5_20 : Fin 2 → DmaSem sig := fun | 0 => cc5_sem20_0 | 1 => cc5_sem20_1 | ⟨_ + 2, h⟩ => absurd h (Nat.not_lt.2 (Nat.le_add_left _ _))
abbrev reads5_20 : Fin grid5.rank → Bool := ![true]

abbrev stage5_21 : Fin 2 → Memref sig .tc .vmem S1x1x128 .f32 := fun | 0 => Memref.whole cc5_stg21_0 | 1 => Memref.whole cc5_stg21_1 | ⟨_ + 2, h⟩ => absurd h (Nat.not_lt.2 (Nat.le_add_left _ _))
abbrev sem5_21 : Fin 2 → DmaSem sig := fun | 0 => cc5_sem21_0 | 1 => cc5_sem21_1 | ⟨_ + 2, h⟩ => absurd h (Nat.not_lt.2 (Nat.le_add_left _ _))
abbrev reads5_21 : Fin grid5.rank → Bool := ![true]

abbrev stage5_22 : Fin 2 → Memref sig .tc .vmem S1x1x128 .f32 := fun | 0 => Memref.whole cc5_stg22_0 | 1 => Memref.whole cc5_stg22_1 | ⟨_ + 2, h⟩ => absurd h (Nat.not_lt.2 (Nat.le_add_left _ _))
abbrev sem5_22 : Fin 2 → DmaSem sig := fun | 0 => cc5_sem22_0 | 1 => cc5_sem22_1 | ⟨_ + 2, h⟩ => absurd h (Nat.not_lt.2 (Nat.le_add_left _ _))
abbrev reads5_22 : Fin grid5.rank → Bool := ![true]

abbrev stage5_23 : Fin 2 → Memref sig .tc .vmem S1x1x128 .f32 := fun | 0 => Memref.whole cc5_stg23_0 | 1 => Memref.whole cc5_stg23_1 | ⟨_ + 2, h⟩ => absurd h (Nat.not_lt.2 (Nat.le_add_left _ _))
abbrev sem5_23 : Fin 2 → DmaSem sig := fun | 0 => cc5_sem23_0 | 1 => cc5_sem23_1 | ⟨_ + 2, h⟩ => absurd h (Nat.not_lt.2 (Nat.le_add_left _ _))
abbrev reads5_23 : Fin grid5.rank → Bool := ![true]

abbrev stage5_24 : Fin 2 → Memref sig .tc .vmem S1x1x128 .f32 := fun | 0 => Memref.whole cc5_stg24_0 | 1 => Memref.whole cc5_stg24_1 | ⟨_ + 2, h⟩ => absurd h (Nat.not_lt.2 (Nat.le_add_left _ _))
abbrev sem5_24 : Fin 2 → DmaSem sig := fun | 0 => cc5_sem24_0 | 1 => cc5_sem24_1 | ⟨_ + 2, h⟩ => absurd h (Nat.not_lt.2 (Nat.le_add_left _ _))
abbrev reads5_24 : Fin grid5.rank → Bool := ![true]

abbrev stage5_25 : Fin 2 → Memref sig .tc .vmem S1x1x128 .f32 := fun | 0 => Memref.whole cc5_stg25_0 | 1 => Memref.whole cc5_stg25_1 | ⟨_ + 2, h⟩ => absurd h (Nat.not_lt.2 (Nat.le_add_left _ _))
abbrev sem5_25 : Fin 2 → DmaSem sig := fun | 0 => cc5_sem25_0 | 1 => cc5_sem25_1 | ⟨_ + 2, h⟩ => absurd h (Nat.not_lt.2 (Nat.le_add_left _ _))
abbrev reads5_25 : Fin grid5.rank → Bool := ![true]

abbrev stage5_26 : Fin 2 → Memref sig .tc .vmem S1x1x128 .f32 := fun | 0 => Memref.whole cc5_stg26_0 | 1 => Memref.whole cc5_stg26_1 | ⟨_ + 2, h⟩ => absurd h (Nat.not_lt.2 (Nat.le_add_left _ _))
abbrev sem5_26 : Fin 2 → DmaSem sig := fun | 0 => cc5_sem26_0 | 1 => cc5_sem26_1 | ⟨_ + 2, h⟩ => absurd h (Nat.not_lt.2 (Nat.le_add_left _ _))
abbrev reads5_26 : Fin grid5.rank → Bool := ![true]

abbrev stage5_27 : Fin 2 → Memref sig .tc .vmem S1x1x128 .f32 := fun | 0 => Memref.whole cc5_stg27_0 | 1 => Memref.whole cc5_stg27_1 | ⟨_ + 2, h⟩ => absurd h (Nat.not_lt.2 (Nat.le_add_left _ _))
abbrev sem5_27 : Fin 2 → DmaSem sig := fun | 0 => cc5_sem27_0 | 1 => cc5_sem27_1 | ⟨_ + 2, h⟩ => absurd h (Nat.not_lt.2 (Nat.le_add_left _ _))
abbrev reads5_27 : Fin grid5.rank → Bool := ![true]

abbrev stage5_28 : Fin 2 → Memref sig .tc .vmem S1x1x128 .f32 := fun | 0 => Memref.whole cc5_stg28_0 | 1 => Memref.whole cc5_stg28_1 | ⟨_ + 2, h⟩ => absurd h (Nat.not_lt.2 (Nat.le_add_left _ _))
abbrev sem5_28 : Fin 2 → DmaSem sig := fun | 0 => cc5_sem28_0 | 1 => cc5_sem28_1 | ⟨_ + 2, h⟩ => absurd h (Nat.not_lt.2 (Nat.le_add_left _ _))
abbrev reads5_28 : Fin grid5.rank → Bool := ![true]

abbrev stage5_29 : Fin 2 → Memref sig .tc .vmem S1x1x128 .f32 := fun | 0 => Memref.whole cc5_stg29_0 | 1 => Memref.whole cc5_stg29_1 | ⟨_ + 2, h⟩ => absurd h (Nat.not_lt.2 (Nat.le_add_left _ _))
abbrev sem5_29 : Fin 2 → DmaSem sig := fun | 0 => cc5_sem29_0 | 1 => cc5_sem29_1 | ⟨_ + 2, h⟩ => absurd h (Nat.not_lt.2 (Nat.le_add_left _ _))
abbrev reads5_29 : Fin grid5.rank → Bool := ![true]

abbrev stage5_30 : Fin 2 → Memref sig .tc .vmem S1x1x128 .f32 := fun | 0 => Memref.whole cc5_stg30_0 | 1 => Memref.whole cc5_stg30_1 | ⟨_ + 2, h⟩ => absurd h (Nat.not_lt.2 (Nat.le_add_left _ _))
abbrev sem5_30 : Fin 2 → DmaSem sig := fun | 0 => cc5_sem30_0 | 1 => cc5_sem30_1 | ⟨_ + 2, h⟩ => absurd h (Nat.not_lt.2 (Nat.le_add_left _ _))
abbrev reads5_30 : Fin grid5.rank → Bool := ![true]

abbrev stage5_31 : Fin 2 → Memref sig .tc .vmem S1x1x128 .f32 := fun | 0 => Memref.whole cc5_stg31_0 | 1 => Memref.whole cc5_stg31_1 | ⟨_ + 2, h⟩ => absurd h (Nat.not_lt.2 (Nat.le_add_left _ _))
abbrev sem5_31 : Fin 2 → DmaSem sig := fun | 0 => cc5_sem31_0 | 1 => cc5_sem31_1 | ⟨_ + 2, h⟩ => absurd h (Nat.not_lt.2 (Nat.le_add_left _ _))
abbrev reads5_31 : Fin grid5.rank → Bool := ![true]

abbrev stage5_32 : Fin 2 → Memref sig .tc .vmem S1x32x128 .f32 := fun | 0 => Memref.whole cc5_stg32_0 | 1 => Memref.whole cc5_stg32_1 | ⟨_ + 2, h⟩ => absurd h (Nat.not_lt.2 (Nat.le_add_left _ _))
abbrev sem5_32 : Fin 2 → DmaSem sig := fun | 0 => cc5_sem32_0 | 1 => cc5_sem32_1 | ⟨_ + 2, h⟩ => absurd h (Nat.not_lt.2 (Nat.le_add_left _ _))
abbrev reads5_32 : Fin grid5.rank → Bool := ![true]

abbrev stage5_33 : Fin 2 → Memref sig .tc .vmem S1x32x1 .f32 := fun | 0 => Memref.whole cc5_stg33_0 | 1 => Memref.whole cc5_stg33_1 | ⟨_ + 2, h⟩ => absurd h (Nat.not_lt.2 (Nat.le_add_left _ _))
abbrev sem5_33 : Fin 2 → DmaSem sig := fun | 0 => cc5_sem33_0 | 1 => cc5_sem33_1 | ⟨_ + 2, h⟩ => absurd h (Nat.not_lt.2 (Nat.le_add_left _ _))
abbrev reads5_33 : Fin grid5.rank → Bool := ![true]

abbrev grid6 : Pipeline.Grid := ⟨1, ![512], ![false]⟩

abbrev pre6 : Pipeline.Prefetch sig := ⟨1, ![main_v90.idx], fun | 0 => main_v90.names | ⟨_ + 1, h⟩ => absurd h (Nat.not_lt.2 (Nat.le_add_left _ _)), fun | 0 => rfl | ⟨_ + 1, h⟩ => absurd h (Nat.not_lt.2 (Nat.le_add_left _ _))⟩

def k6_off1 (i : grid6.Coords) (c0_i32 : BitVec 32) : Fin 1 → Nat :=
  let arg0 : BitVec 32 := BitVec.ofNat 32 (i 0).val
  let c32_i32 : BitVec 32 := 32#32
  let v0 : BitVec 32 := Scalar.muli arg0 c32_i32
  let v1 : BitVec 32 := Scalar.addi v0 c0_i32
  let v2 : Index := Scalar.indexCast v1
  ![v2.toNat]
def cc6_transform_0 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v2 : Index := Scalar.indexCast v1
  let v3 : BitVec 32 := pf.at 0 (Rect.unit (s := S16384) ![v2.toNat] S1.size (k6_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc6_transform_1 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.addi v0 c1_i32
  let v2 : Index := Scalar.indexCast v1
  let v3 : BitVec 32 := pf.at 0 (Rect.unit (s := S16384) ![v2.toNat] S1.size (k6_off1_inb i 1)) numel1_S1
  let c0_i32 : BitVec 32 := 0#32
  let c0_i32_0 : BitVec 32 := 0#32
  let c0_i32_1 : BitVec 32 := 0#32
  ![v3.toNat, c0_i32.toNat, c0_i32_0.toNat]

def cc6_transform_2 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c2_i32 : BitVec 32 := 2#32
  let v1 : BitVec 32 := Scalar.addi v0 c2_i32
  let v2 : Index := Scalar.indexCast v1
  let v3 : BitVec 32 := pf.at 0 (Rect.unit (s := S16384) ![v2.toNat] S1.size (k6_off1_inb i 2)) numel1_S1
  let c0_i32 : BitVec 32 := 0#32
  let c0_i32_0 : BitVec 32 := 0#32
  let c0_i32_1 : BitVec 32 := 0#32
  ![v3.toNat, c0_i32.toNat, c0_i32_0.toNat]

def cc6_transform_3 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c3_i32 : BitVec 32 := 3#32
  let v1 : BitVec 32 := Scalar.addi v0 c3_i32
  let v2 : Index := Scalar.indexCast v1
  let v3 : BitVec 32 := pf.at 0 (Rect.unit (s := S16384) ![v2.toNat] S1.size (k6_off1_inb i 3)) numel1_S1
  let c0_i32 : BitVec 32 := 0#32
  let c0_i32_0 : BitVec 32 := 0#32
  let c0_i32_1 : BitVec 32 := 0#32
  ![v3.toNat, c0_i32.toNat, c0_i32_0.toNat]

def cc6_transform_4 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c4_i32 : BitVec 32 := 4#32
  let v1 : BitVec 32 := Scalar.addi v0 c4_i32
  let v2 : Index := Scalar.indexCast v1
  let v3 : BitVec 32 := pf.at 0 (Rect.unit (s := S16384) ![v2.toNat] S1.size (k6_off1_inb i 4)) numel1_S1
  let c0_i32 : BitVec 32 := 0#32
  let c0_i32_0 : BitVec 32 := 0#32
  let c0_i32_1 : BitVec 32 := 0#32
  ![v3.toNat, c0_i32.toNat, c0_i32_0.toNat]

def cc6_transform_5 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c5_i32 : BitVec 32 := 5#32
  let v1 : BitVec 32 := Scalar.addi v0 c5_i32
  let v2 : Index := Scalar.indexCast v1
  let v3 : BitVec 32 := pf.at 0 (Rect.unit (s := S16384) ![v2.toNat] S1.size (k6_off1_inb i 5)) numel1_S1
  let c0_i32 : BitVec 32 := 0#32
  let c0_i32_0 : BitVec 32 := 0#32
  let c0_i32_1 : BitVec 32 := 0#32
  ![v3.toNat, c0_i32.toNat, c0_i32_0.toNat]

def cc6_transform_6 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c6_i32 : BitVec 32 := 6#32
  let v1 : BitVec 32 := Scalar.addi v0 c6_i32
  let v2 : Index := Scalar.indexCast v1
  let v3 : BitVec 32 := pf.at 0 (Rect.unit (s := S16384) ![v2.toNat] S1.size (k6_off1_inb i 6)) numel1_S1
  let c0_i32 : BitVec 32 := 0#32
  let c0_i32_0 : BitVec 32 := 0#32
  let c0_i32_1 : BitVec 32 := 0#32
  ![v3.toNat, c0_i32.toNat, c0_i32_0.toNat]

def cc6_transform_7 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c7_i32 : BitVec 32 := 7#32
  let v1 : BitVec 32 := Scalar.addi v0 c7_i32
  let v2 : Index := Scalar.indexCast v1
  let v3 : BitVec 32 := pf.at 0 (Rect.unit (s := S16384) ![v2.toNat] S1.size (k6_off1_inb i 7)) numel1_S1
  let c0_i32 : BitVec 32 := 0#32
  let c0_i32_0 : BitVec 32 := 0#32
  let c0_i32_1 : BitVec 32 := 0#32
  ![v3.toNat, c0_i32.toNat, c0_i32_0.toNat]

def cc6_transform_8 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c8_i32 : BitVec 32 := 8#32
  let v1 : BitVec 32 := Scalar.addi v0 c8_i32
  let v2 : Index := Scalar.indexCast v1
  let v3 : BitVec 32 := pf.at 0 (Rect.unit (s := S16384) ![v2.toNat] S1.size (k6_off1_inb i 8)) numel1_S1
  let c0_i32 : BitVec 32 := 0#32
  let c0_i32_0 : BitVec 32 := 0#32
  let c0_i32_1 : BitVec 32 := 0#32
  ![v3.toNat, c0_i32.toNat, c0_i32_0.toNat]

def cc6_transform_9 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c9_i32 : BitVec 32 := 9#32
  let v1 : BitVec 32 := Scalar.addi v0 c9_i32
  let v2 : Index := Scalar.indexCast v1
  let v3 : BitVec 32 := pf.at 0 (Rect.unit (s := S16384) ![v2.toNat] S1.size (k6_off1_inb i 9)) numel1_S1
  let c0_i32 : BitVec 32 := 0#32
  let c0_i32_0 : BitVec 32 := 0#32
  let c0_i32_1 : BitVec 32 := 0#32
  ![v3.toNat, c0_i32.toNat, c0_i32_0.toNat]

def cc6_transform_10 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c10_i32 : BitVec 32 := 10#32
  let v1 : BitVec 32 := Scalar.addi v0 c10_i32
  let v2 : Index := Scalar.indexCast v1
  let v3 : BitVec 32 := pf.at 0 (Rect.unit (s := S16384) ![v2.toNat] S1.size (k6_off1_inb i 10)) numel1_S1
  let c0_i32 : BitVec 32 := 0#32
  let c0_i32_0 : BitVec 32 := 0#32
  let c0_i32_1 : BitVec 32 := 0#32
  ![v3.toNat, c0_i32.toNat, c0_i32_0.toNat]

def cc6_transform_11 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c11_i32 : BitVec 32 := 11#32
  let v1 : BitVec 32 := Scalar.addi v0 c11_i32
  let v2 : Index := Scalar.indexCast v1
  let v3 : BitVec 32 := pf.at 0 (Rect.unit (s := S16384) ![v2.toNat] S1.size (k6_off1_inb i 11)) numel1_S1
  let c0_i32 : BitVec 32 := 0#32
  let c0_i32_0 : BitVec 32 := 0#32
  let c0_i32_1 : BitVec 32 := 0#32
  ![v3.toNat, c0_i32.toNat, c0_i32_0.toNat]

def cc6_transform_12 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c12_i32 : BitVec 32 := 12#32
  let v1 : BitVec 32 := Scalar.addi v0 c12_i32
  let v2 : Index := Scalar.indexCast v1
  let v3 : BitVec 32 := pf.at 0 (Rect.unit (s := S16384) ![v2.toNat] S1.size (k6_off1_inb i 12)) numel1_S1
  let c0_i32 : BitVec 32 := 0#32
  let c0_i32_0 : BitVec 32 := 0#32
  let c0_i32_1 : BitVec 32 := 0#32
  ![v3.toNat, c0_i32.toNat, c0_i32_0.toNat]

def cc6_transform_13 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c13_i32 : BitVec 32 := 13#32
  let v1 : BitVec 32 := Scalar.addi v0 c13_i32
  let v2 : Index := Scalar.indexCast v1
  let v3 : BitVec 32 := pf.at 0 (Rect.unit (s := S16384) ![v2.toNat] S1.size (k6_off1_inb i 13)) numel1_S1
  let c0_i32 : BitVec 32 := 0#32
  let c0_i32_0 : BitVec 32 := 0#32
  let c0_i32_1 : BitVec 32 := 0#32
  ![v3.toNat, c0_i32.toNat, c0_i32_0.toNat]

def cc6_transform_14 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c14_i32 : BitVec 32 := 14#32
  let v1 : BitVec 32 := Scalar.addi v0 c14_i32
  let v2 : Index := Scalar.indexCast v1
  let v3 : BitVec 32 := pf.at 0 (Rect.unit (s := S16384) ![v2.toNat] S1.size (k6_off1_inb i 14)) numel1_S1
  let c0_i32 : BitVec 32 := 0#32
  let c0_i32_0 : BitVec 32 := 0#32
  let c0_i32_1 : BitVec 32 := 0#32
  ![v3.toNat, c0_i32.toNat, c0_i32_0.toNat]

def cc6_transform_15 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c15_i32 : BitVec 32 := 15#32
  let v1 : BitVec 32 := Scalar.addi v0 c15_i32
  let v2 : Index := Scalar.indexCast v1
  let v3 : BitVec 32 := pf.at 0 (Rect.unit (s := S16384) ![v2.toNat] S1.size (k6_off1_inb i 15)) numel1_S1
  let c0_i32 : BitVec 32 := 0#32
  let c0_i32_0 : BitVec 32 := 0#32
  let c0_i32_1 : BitVec 32 := 0#32
  ![v3.toNat, c0_i32.toNat, c0_i32_0.toNat]

def cc6_transform_16 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c16_i32 : BitVec 32 := 16#32
  let v1 : BitVec 32 := Scalar.addi v0 c16_i32
  let v2 : Index := Scalar.indexCast v1
  let v3 : BitVec 32 := pf.at 0 (Rect.unit (s := S16384) ![v2.toNat] S1.size (k6_off1_inb i 16)) numel1_S1
  let c0_i32 : BitVec 32 := 0#32
  let c0_i32_0 : BitVec 32 := 0#32
  let c0_i32_1 : BitVec 32 := 0#32
  ![v3.toNat, c0_i32.toNat, c0_i32_0.toNat]

def cc6_transform_17 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c17_i32 : BitVec 32 := 17#32
  let v1 : BitVec 32 := Scalar.addi v0 c17_i32
  let v2 : Index := Scalar.indexCast v1
  let v3 : BitVec 32 := pf.at 0 (Rect.unit (s := S16384) ![v2.toNat] S1.size (k6_off1_inb i 17)) numel1_S1
  let c0_i32 : BitVec 32 := 0#32
  let c0_i32_0 : BitVec 32 := 0#32
  let c0_i32_1 : BitVec 32 := 0#32
  ![v3.toNat, c0_i32.toNat, c0_i32_0.toNat]

def cc6_transform_18 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c18_i32 : BitVec 32 := 18#32
  let v1 : BitVec 32 := Scalar.addi v0 c18_i32
  let v2 : Index := Scalar.indexCast v1
  let v3 : BitVec 32 := pf.at 0 (Rect.unit (s := S16384) ![v2.toNat] S1.size (k6_off1_inb i 18)) numel1_S1
  let c0_i32 : BitVec 32 := 0#32
  let c0_i32_0 : BitVec 32 := 0#32
  let c0_i32_1 : BitVec 32 := 0#32
  ![v3.toNat, c0_i32.toNat, c0_i32_0.toNat]

def cc6_transform_19 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c19_i32 : BitVec 32 := 19#32
  let v1 : BitVec 32 := Scalar.addi v0 c19_i32
  let v2 : Index := Scalar.indexCast v1
  let v3 : BitVec 32 := pf.at 0 (Rect.unit (s := S16384) ![v2.toNat] S1.size (k6_off1_inb i 19)) numel1_S1
  let c0_i32 : BitVec 32 := 0#32
  let c0_i32_0 : BitVec 32 := 0#32
  let c0_i32_1 : BitVec 32 := 0#32
  ![v3.toNat, c0_i32.toNat, c0_i32_0.toNat]

def cc6_transform_20 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c20_i32 : BitVec 32 := 20#32
  let v1 : BitVec 32 := Scalar.addi v0 c20_i32
  let v2 : Index := Scalar.indexCast v1
  let v3 : BitVec 32 := pf.at 0 (Rect.unit (s := S16384) ![v2.toNat] S1.size (k6_off1_inb i 20)) numel1_S1
  let c0_i32 : BitVec 32 := 0#32
  let c0_i32_0 : BitVec 32 := 0#32
  let c0_i32_1 : BitVec 32 := 0#32
  ![v3.toNat, c0_i32.toNat, c0_i32_0.toNat]

def cc6_transform_21 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c21_i32 : BitVec 32 := 21#32
  let v1 : BitVec 32 := Scalar.addi v0 c21_i32
  let v2 : Index := Scalar.indexCast v1
  let v3 : BitVec 32 := pf.at 0 (Rect.unit (s := S16384) ![v2.toNat] S1.size (k6_off1_inb i 21)) numel1_S1
  let c0_i32 : BitVec 32 := 0#32
  let c0_i32_0 : BitVec 32 := 0#32
  let c0_i32_1 : BitVec 32 := 0#32
  ![v3.toNat, c0_i32.toNat, c0_i32_0.toNat]

def cc6_transform_22 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c22_i32 : BitVec 32 := 22#32
  let v1 : BitVec 32 := Scalar.addi v0 c22_i32
  let v2 : Index := Scalar.indexCast v1
  let v3 : BitVec 32 := pf.at 0 (Rect.unit (s := S16384) ![v2.toNat] S1.size (k6_off1_inb i 22)) numel1_S1
  let c0_i32 : BitVec 32 := 0#32
  let c0_i32_0 : BitVec 32 := 0#32
  let c0_i32_1 : BitVec 32 := 0#32
  ![v3.toNat, c0_i32.toNat, c0_i32_0.toNat]

def cc6_transform_23 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c23_i32 : BitVec 32 := 23#32
  let v1 : BitVec 32 := Scalar.addi v0 c23_i32
  let v2 : Index := Scalar.indexCast v1
  let v3 : BitVec 32 := pf.at 0 (Rect.unit (s := S16384) ![v2.toNat] S1.size (k6_off1_inb i 23)) numel1_S1
  let c0_i32 : BitVec 32 := 0#32
  let c0_i32_0 : BitVec 32 := 0#32
  let c0_i32_1 : BitVec 32 := 0#32
  ![v3.toNat, c0_i32.toNat, c0_i32_0.toNat]

def cc6_transform_24 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c24_i32 : BitVec 32 := 24#32
  let v1 : BitVec 32 := Scalar.addi v0 c24_i32
  let v2 : Index := Scalar.indexCast v1
  let v3 : BitVec 32 := pf.at 0 (Rect.unit (s := S16384) ![v2.toNat] S1.size (k6_off1_inb i 24)) numel1_S1
  let c0_i32 : BitVec 32 := 0#32
  let c0_i32_0 : BitVec 32 := 0#32
  let c0_i32_1 : BitVec 32 := 0#32
  ![v3.toNat, c0_i32.toNat, c0_i32_0.toNat]

def cc6_transform_25 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c25_i32 : BitVec 32 := 25#32
  let v1 : BitVec 32 := Scalar.addi v0 c25_i32
  let v2 : Index := Scalar.indexCast v1
  let v3 : BitVec 32 := pf.at 0 (Rect.unit (s := S16384) ![v2.toNat] S1.size (k6_off1_inb i 25)) numel1_S1
  let c0_i32 : BitVec 32 := 0#32
  let c0_i32_0 : BitVec 32 := 0#32
  let c0_i32_1 : BitVec 32 := 0#32
  ![v3.toNat, c0_i32.toNat, c0_i32_0.toNat]

def cc6_transform_26 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c26_i32 : BitVec 32 := 26#32
  let v1 : BitVec 32 := Scalar.addi v0 c26_i32
  let v2 : Index := Scalar.indexCast v1
  let v3 : BitVec 32 := pf.at 0 (Rect.unit (s := S16384) ![v2.toNat] S1.size (k6_off1_inb i 26)) numel1_S1
  let c0_i32 : BitVec 32 := 0#32
  let c0_i32_0 : BitVec 32 := 0#32
  let c0_i32_1 : BitVec 32 := 0#32
  ![v3.toNat, c0_i32.toNat, c0_i32_0.toNat]

def cc6_transform_27 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c27_i32 : BitVec 32 := 27#32
  let v1 : BitVec 32 := Scalar.addi v0 c27_i32
  let v2 : Index := Scalar.indexCast v1
  let v3 : BitVec 32 := pf.at 0 (Rect.unit (s := S16384) ![v2.toNat] S1.size (k6_off1_inb i 27)) numel1_S1
  let c0_i32 : BitVec 32 := 0#32
  let c0_i32_0 : BitVec 32 := 0#32
  let c0_i32_1 : BitVec 32 := 0#32
  ![v3.toNat, c0_i32.toNat, c0_i32_0.toNat]

def cc6_transform_28 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c28_i32 : BitVec 32 := 28#32
  let v1 : BitVec 32 := Scalar.addi v0 c28_i32
  let v2 : Index := Scalar.indexCast v1
  let v3 : BitVec 32 := pf.at 0 (Rect.unit (s := S16384) ![v2.toNat] S1.size (k6_off1_inb i 28)) numel1_S1
  let c0_i32 : BitVec 32 := 0#32
  let c0_i32_0 : BitVec 32 := 0#32
  let c0_i32_1 : BitVec 32 := 0#32
  ![v3.toNat, c0_i32.toNat, c0_i32_0.toNat]

def cc6_transform_29 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c29_i32 : BitVec 32 := 29#32
  let v1 : BitVec 32 := Scalar.addi v0 c29_i32
  let v2 : Index := Scalar.indexCast v1
  let v3 : BitVec 32 := pf.at 0 (Rect.unit (s := S16384) ![v2.toNat] S1.size (k6_off1_inb i 29)) numel1_S1
  let c0_i32 : BitVec 32 := 0#32
  let c0_i32_0 : BitVec 32 := 0#32
  let c0_i32_1 : BitVec 32 := 0#32
  ![v3.toNat, c0_i32.toNat, c0_i32_0.toNat]

def cc6_transform_30 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c30_i32 : BitVec 32 := 30#32
  let v1 : BitVec 32 := Scalar.addi v0 c30_i32
  let v2 : Index := Scalar.indexCast v1
  let v3 : BitVec 32 := pf.at 0 (Rect.unit (s := S16384) ![v2.toNat] S1.size (k6_off1_inb i 30)) numel1_S1
  let c0_i32 : BitVec 32 := 0#32
  let c0_i32_0 : BitVec 32 := 0#32
  let c0_i32_1 : BitVec 32 := 0#32
  ![v3.toNat, c0_i32.toNat, c0_i32_0.toNat]

def cc6_transform_31 (k6_off1_inb : ∀ i : grid6.Coords, ∀ (r : Fin 32), ∀ a, (k6_off1 i (BitVec.ofNat 32 r.val)) a + S1.size a ≤ S16384.size a) (numel1_S1 : S1.numel = 1) (pf : pre6.Contents (Elt F)) (i : grid6.Coords) : Fin 3 → Nat :=
  let arg0 : BitVec 32 := BitVec.ofNat 32 (i 0).val
  let c32_i32 : BitVec 32 := 32#32
  let v0 : BitVec 32 := Scalar.muli arg0 c32_i32
  let c31_i32 : BitVec 32 := 31#32
  let v1 : BitVec 32 := Scalar.addi v0 c31_i32
  let v2 : Index := Scalar.indexCast v1
  let v3 : BitVec 32 := pf.at 0 (Rect.unit (s := S16384) ![v2.toNat] S1.size (k6_off1_inb i 31)) numel1_S1
  let c0_i32 : BitVec 32 := 0#32
  let c0_i32_0 : BitVec 32 := 0#32
  let c0_i32_1 : BitVec 32 := 0#32
  ![v3.toNat, c0_i32.toNat, c0_i32_0.toNat]

def cc6_transform_32 (i : grid6.Coords) : Fin 3 → Nat :=
  let arg0 : BitVec 32 := BitVec.ofNat 32 (i 0).val
  let c256_i32 : BitVec 32 := 256#32
  let v0 : BitVec 32 := Scalar.divsi arg0 c256_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c256_i32 c0_i32_1
  let v7 : BitVec 32 := Scalar.extui v6
  let c0_i32_2 : BitVec 32 := 0#32
  let v8 : BitVec 1 := Scalar.cmpi .slt c256_i32 c0_i32_2
  let v9 : BitVec 32 := Scalar.extui v8
  let v10 : BitVec 32 := Scalar.subi v7 v9
  let v11 : BitVec 1 := Scalar.cmpi .ne v5 v10
  let v12 : BitVec 32 := Scalar.remsi arg0 c256_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c256_i32_4 : BitVec 32 := 256#32
  let c0_i32_5 : BitVec 32 := 0#32
  let v17 : BitVec 1 := Scalar.cmpi .eq c256_i32_4 c0_i32_5
  let c1_i32_6 : BitVec 32 := 1#32
  let v18 : BitVec 32 := Scalar.select v17 c1_i32_6 c256_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.divsi v26 c16_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c16_i32 c0_i32_12
  let v34 : BitVec 32 := Scalar.extui v33
  let c0_i32_13 : BitVec 32 := 0#32
  let v35 : BitVec 1 := Scalar.cmpi .slt c16_i32 c0_i32_13
  let v36 : BitVec 32 := Scalar.extui v35
  let v37 : BitVec 32 := Scalar.subi v34 v36
  let v38 : BitVec 1 := Scalar.cmpi .ne v32 v37
  let v39 : BitVec 32 := Scalar.remsi v26 c16_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c0_i32_16 : BitVec 32 := 0#32
  let c0_i32_17 : BitVec 32 := 0#32
  ![v16.toNat, v43.toNat, c0_i32_16.toNat]

def cc6_transform_33 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x1x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x1x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1x1x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1x1x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S1x1x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S1x1x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S1x1x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S1x1x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S1x1x128 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev stage6_9 : Fin 2 → Memref sig .tc .vmem S1x1x128 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev stage6_10 : Fin 2 → Memref sig .tc .vmem S1x1x128 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true]

abbrev stage6_11 : Fin 2 → Memref sig .tc .vmem S1x1x128 .f32 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true]

abbrev stage6_12 : Fin 2 → Memref sig .tc .vmem S1x1x128 .f32 := fun | 0 => Memref.whole cc6_stg12_0 | 1 => Memref.whole cc6_stg12_1 | ⟨_ + 2, h⟩ => absurd h (Nat.not_lt.2 (Nat.le_add_left _ _))
abbrev sem6_12 : Fin 2 → DmaSem sig := fun | 0 => cc6_sem12_0 | 1 => cc6_sem12_1 | ⟨_ + 2, h⟩ => absurd h (Nat.not_lt.2 (Nat.le_add_left _ _))
abbrev reads6_12 : Fin grid6.rank → Bool := ![true]

abbrev stage6_13 : Fin 2 → Memref sig .tc .vmem S1x1x128 .f32 := fun | 0 => Memref.whole cc6_stg13_0 | 1 => Memref.whole cc6_stg13_1 | ⟨_ + 2, h⟩ => absurd h (Nat.not_lt.2 (Nat.le_add_left _ _))
abbrev sem6_13 : Fin 2 → DmaSem sig := fun | 0 => cc6_sem13_0 | 1 => cc6_sem13_1 | ⟨_ + 2, h⟩ => absurd h (Nat.not_lt.2 (Nat.le_add_left _ _))
abbrev reads6_13 : Fin grid6.rank → Bool := ![true]

abbrev stage6_14 : Fin 2 → Memref sig .tc .vmem S1x1x128 .f32 := fun | 0 => Memref.whole cc6_stg14_0 | 1 => Memref.whole cc6_stg14_1 | ⟨_ + 2, h⟩ => absurd h (Nat.not_lt.2 (Nat.le_add_left _ _))
abbrev sem6_14 : Fin 2 → DmaSem sig := fun | 0 => cc6_sem14_0 | 1 => cc6_sem14_1 | ⟨_ + 2, h⟩ => absurd h (Nat.not_lt.2 (Nat.le_add_left _ _))
abbrev reads6_14 : Fin grid6.rank → Bool := ![true]

abbrev stage6_15 : Fin 2 → Memref sig .tc .vmem S1x1x128 .f32 := fun | 0 => Memref.whole cc6_stg15_0 | 1 => Memref.whole cc6_stg15_1 | ⟨_ + 2, h⟩ => absurd h (Nat.not_lt.2 (Nat.le_add_left _ _))
abbrev sem6_15 : Fin 2 → DmaSem sig := fun | 0 => cc6_sem15_0 | 1 => cc6_sem15_1 | ⟨_ + 2, h⟩ => absurd h (Nat.not_lt.2 (Nat.le_add_left _ _))
abbrev reads6_15 : Fin grid6.rank → Bool := ![true]

abbrev stage6_16 : Fin 2 → Memref sig .tc .vmem S1x1x128 .f32 := fun | 0 => Memref.whole cc6_stg16_0 | 1 => Memref.whole cc6_stg16_1 | ⟨_ + 2, h⟩ => absurd h (Nat.not_lt.2 (Nat.le_add_left _ _))
abbrev sem6_16 : Fin 2 → DmaSem sig := fun | 0 => cc6_sem16_0 | 1 => cc6_sem16_1 | ⟨_ + 2, h⟩ => absurd h (Nat.not_lt.2 (Nat.le_add_left _ _))
abbrev reads6_16 : Fin grid6.rank → Bool := ![true]

abbrev stage6_17 : Fin 2 → Memref sig .tc .vmem S1x1x128 .f32 := fun | 0 => Memref.whole cc6_stg17_0 | 1 => Memref.whole cc6_stg17_1 | ⟨_ + 2, h⟩ => absurd h (Nat.not_lt.2 (Nat.le_add_left _ _))
abbrev sem6_17 : Fin 2 → DmaSem sig := fun | 0 => cc6_sem17_0 | 1 => cc6_sem17_1 | ⟨_ + 2, h⟩ => absurd h (Nat.not_lt.2 (Nat.le_add_left _ _))
abbrev reads6_17 : Fin grid6.rank → Bool := ![true]

abbrev stage6_18 : Fin 2 → Memref sig .tc .vmem S1x1x128 .f32 := fun | 0 => Memref.whole cc6_stg18_0 | 1 => Memref.whole cc6_stg18_1 | ⟨_ + 2, h⟩ => absurd h (Nat.not_lt.2 (Nat.le_add_left _ _))
abbrev sem6_18 : Fin 2 → DmaSem sig := fun | 0 => cc6_sem18_0 | 1 => cc6_sem18_1 | ⟨_ + 2, h⟩ => absurd h (Nat.not_lt.2 (Nat.le_add_left _ _))
abbrev reads6_18 : Fin grid6.rank → Bool := ![true]

abbrev stage6_19 : Fin 2 → Memref sig .tc .vmem S1x1x128 .f32 := fun | 0 => Memref.whole cc6_stg19_0 | 1 => Memref.whole cc6_stg19_1 | ⟨_ + 2, h⟩ => absurd h (Nat.not_lt.2 (Nat.le_add_left _ _))
abbrev sem6_19 : Fin 2 → DmaSem sig := fun | 0 => cc6_sem19_0 | 1 => cc6_sem19_1 | ⟨_ + 2, h⟩ => absurd h (Nat.not_lt.2 (Nat.le_add_left _ _))
abbrev reads6_19 : Fin grid6.rank → Bool := ![true]

abbrev stage6_20 : Fin 2 → Memref sig .tc .vmem S1x1x128 .f32 := fun | 0 => Memref.whole cc6_stg20_0 | 1 => Memref.whole cc6_stg20_1 | ⟨_ + 2, h⟩ => absurd h (Nat.not_lt.2 (Nat.le_add_left _ _))
abbrev sem6_20 : Fin 2 → DmaSem sig := fun | 0 => cc6_sem20_0 | 1 => cc6_sem20_1 | ⟨_ + 2, h⟩ => absurd h (Nat.not_lt.2 (Nat.le_add_left _ _))
abbrev reads6_20 : Fin grid6.rank → Bool := ![true]

abbrev stage6_21 : Fin 2 → Memref sig .tc .vmem S1x1x128 .f32 := fun | 0 => Memref.whole cc6_stg21_0 | 1 => Memref.whole cc6_stg21_1 | ⟨_ + 2, h⟩ => absurd h (Nat.not_lt.2 (Nat.le_add_left _ _))
abbrev sem6_21 : Fin 2 → DmaSem sig := fun | 0 => cc6_sem21_0 | 1 => cc6_sem21_1 | ⟨_ + 2, h⟩ => absurd h (Nat.not_lt.2 (Nat.le_add_left _ _))
abbrev reads6_21 : Fin grid6.rank → Bool := ![true]

abbrev stage6_22 : Fin 2 → Memref sig .tc .vmem S1x1x128 .f32 := fun | 0 => Memref.whole cc6_stg22_0 | 1 => Memref.whole cc6_stg22_1 | ⟨_ + 2, h⟩ => absurd h (Nat.not_lt.2 (Nat.le_add_left _ _))
abbrev sem6_22 : Fin 2 → DmaSem sig := fun | 0 => cc6_sem22_0 | 1 => cc6_sem22_1 | ⟨_ + 2, h⟩ => absurd h (Nat.not_lt.2 (Nat.le_add_left _ _))
abbrev reads6_22 : Fin grid6.rank → Bool := ![true]

abbrev stage6_23 : Fin 2 → Memref sig .tc .vmem S1x1x128 .f32 := fun | 0 => Memref.whole cc6_stg23_0 | 1 => Memref.whole cc6_stg23_1 | ⟨_ + 2, h⟩ => absurd h (Nat.not_lt.2 (Nat.le_add_left _ _))
abbrev sem6_23 : Fin 2 → DmaSem sig := fun | 0 => cc6_sem23_0 | 1 => cc6_sem23_1 | ⟨_ + 2, h⟩ => absurd h (Nat.not_lt.2 (Nat.le_add_left _ _))
abbrev reads6_23 : Fin grid6.rank → Bool := ![true]

abbrev stage6_24 : Fin 2 → Memref sig .tc .vmem S1x1x128 .f32 := fun | 0 => Memref.whole cc6_stg24_0 | 1 => Memref.whole cc6_stg24_1 | ⟨_ + 2, h⟩ => absurd h (Nat.not_lt.2 (Nat.le_add_left _ _))
abbrev sem6_24 : Fin 2 → DmaSem sig := fun | 0 => cc6_sem24_0 | 1 => cc6_sem24_1 | ⟨_ + 2, h⟩ => absurd h (Nat.not_lt.2 (Nat.le_add_left _ _))
abbrev reads6_24 : Fin grid6.rank → Bool := ![true]

abbrev stage6_25 : Fin 2 → Memref sig .tc .vmem S1x1x128 .f32 := fun | 0 => Memref.whole cc6_stg25_0 | 1 => Memref.whole cc6_stg25_1 | ⟨_ + 2, h⟩ => absurd h (Nat.not_lt.2 (Nat.le_add_left _ _))
abbrev sem6_25 : Fin 2 → DmaSem sig := fun | 0 => cc6_sem25_0 | 1 => cc6_sem25_1 | ⟨_ + 2, h⟩ => absurd h (Nat.not_lt.2 (Nat.le_add_left _ _))
abbrev reads6_25 : Fin grid6.rank → Bool := ![true]

abbrev stage6_26 : Fin 2 → Memref sig .tc .vmem S1x1x128 .f32 := fun | 0 => Memref.whole cc6_stg26_0 | 1 => Memref.whole cc6_stg26_1 | ⟨_ + 2, h⟩ => absurd h (Nat.not_lt.2 (Nat.le_add_left _ _))
abbrev sem6_26 : Fin 2 → DmaSem sig := fun | 0 => cc6_sem26_0 | 1 => cc6_sem26_1 | ⟨_ + 2, h⟩ => absurd h (Nat.not_lt.2 (Nat.le_add_left _ _))
abbrev reads6_26 : Fin grid6.rank → Bool := ![true]

abbrev stage6_27 : Fin 2 → Memref sig .tc .vmem S1x1x128 .f32 := fun | 0 => Memref.whole cc6_stg27_0 | 1 => Memref.whole cc6_stg27_1 | ⟨_ + 2, h⟩ => absurd h (Nat.not_lt.2 (Nat.le_add_left _ _))
abbrev sem6_27 : Fin 2 → DmaSem sig := fun | 0 => cc6_sem27_0 | 1 => cc6_sem27_1 | ⟨_ + 2, h⟩ => absurd h (Nat.not_lt.2 (Nat.le_add_left _ _))
abbrev reads6_27 : Fin grid6.rank → Bool := ![true]

abbrev stage6_28 : Fin 2 → Memref sig .tc .vmem S1x1x128 .f32 := fun | 0 => Memref.whole cc6_stg28_0 | 1 => Memref.whole cc6_stg28_1 | ⟨_ + 2, h⟩ => absurd h (Nat.not_lt.2 (Nat.le_add_left _ _))
abbrev sem6_28 : Fin 2 → DmaSem sig := fun | 0 => cc6_sem28_0 | 1 => cc6_sem28_1 | ⟨_ + 2, h⟩ => absurd h (Nat.not_lt.2 (Nat.le_add_left _ _))
abbrev reads6_28 : Fin grid6.rank → Bool := ![true]

abbrev stage6_29 : Fin 2 → Memref sig .tc .vmem S1x1x128 .f32 := fun | 0 => Memref.whole cc6_stg29_0 | 1 => Memref.whole cc6_stg29_1 | ⟨_ + 2, h⟩ => absurd h (Nat.not_lt.2 (Nat.le_add_left _ _))
abbrev sem6_29 : Fin 2 → DmaSem sig := fun | 0 => cc6_sem29_0 | 1 => cc6_sem29_1 | ⟨_ + 2, h⟩ => absurd h (Nat.not_lt.2 (Nat.le_add_left _ _))
abbrev reads6_29 : Fin grid6.rank → Bool := ![true]

abbrev stage6_30 : Fin 2 → Memref sig .tc .vmem S1x1x128 .f32 := fun | 0 => Memref.whole cc6_stg30_0 | 1 => Memref.whole cc6_stg30_1 | ⟨_ + 2, h⟩ => absurd h (Nat.not_lt.2 (Nat.le_add_left _ _))
abbrev sem6_30 : Fin 2 → DmaSem sig := fun | 0 => cc6_sem30_0 | 1 => cc6_sem30_1 | ⟨_ + 2, h⟩ => absurd h (Nat.not_lt.2 (Nat.le_add_left _ _))
abbrev reads6_30 : Fin grid6.rank → Bool := ![true]

abbrev stage6_31 : Fin 2 → Memref sig .tc .vmem S1x1x128 .f32 := fun | 0 => Memref.whole cc6_stg31_0 | 1 => Memref.whole cc6_stg31_1 | ⟨_ + 2, h⟩ => absurd h (Nat.not_lt.2 (Nat.le_add_left _ _))
abbrev sem6_31 : Fin 2 → DmaSem sig := fun | 0 => cc6_sem31_0 | 1 => cc6_sem31_1 | ⟨_ + 2, h⟩ => absurd h (Nat.not_lt.2 (Nat.le_add_left _ _))
abbrev reads6_31 : Fin grid6.rank → Bool := ![true]

abbrev stage6_32 : Fin 2 → Memref sig .tc .vmem S1x32x128 .f32 := fun | 0 => Memref.whole cc6_stg32_0 | 1 => Memref.whole cc6_stg32_1 | ⟨_ + 2, h⟩ => absurd h (Nat.not_lt.2 (Nat.le_add_left _ _))
abbrev sem6_32 : Fin 2 → DmaSem sig := fun | 0 => cc6_sem32_0 | 1 => cc6_sem32_1 | ⟨_ + 2, h⟩ => absurd h (Nat.not_lt.2 (Nat.le_add_left _ _))
abbrev reads6_32 : Fin grid6.rank → Bool := ![true]

abbrev stage6_33 : Fin 2 → Memref sig .tc .vmem S1x32x1 .f32 := fun | 0 => Memref.whole cc6_stg33_0 | 1 => Memref.whole cc6_stg33_1 | ⟨_ + 2, h⟩ => absurd h (Nat.not_lt.2 (Nat.le_add_left _ _))
abbrev sem6_33 : Fin 2 → DmaSem sig := fun | 0 => cc6_sem33_0 | 1 => cc6_sem33_1 | ⟨_ + 2, h⟩ => absurd h (Nat.not_lt.2 (Nat.le_add_left _ _))
abbrev reads6_33 : Fin grid6.rank → Bool := ![true]

abbrev grid7 : Pipeline.Grid := .none

abbrev stage7_0 : Fin 1 → Memref sig .tc .vmem S256x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))

abbrev stage7_1 : Fin 1 → Memref sig .tc .vmem S256x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))

abbrev stage7_2 : Fin 1 → Memref sig .tc .vmem S256x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))

abbrev stage7_3 : Fin 1 → Memref sig .tc .vmem S512x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))

abbrev stage7_4 : Fin 1 → Memref sig .tc .vmem S512x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))

abbrev stage7_5 : Fin 1 → Memref sig .tc .vmem S512x300 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))

abbrev stage7_6 : Fin 1 → Memref sig .tc .vmem S512x300 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))

abbrev stage7_7 : Fin 1 → Memref sig .tc .vmem S512x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))

abbrev stage7_8 : Fin 1 → Memref sig .tc .vmem S512x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))

abbrev stage7_9 : Fin 1 → Memref sig .tc .vmem S1x1 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
-- ==== KernelIdeal.lean ====
variable {F : FTy → Type} [FloatOps F] [Named F]
def κ : String → Option EReal := fun
  | "tenth" => some ((10⁻¹ : ℝ) : EReal)
  | _ => none
-- ==== ReferenceIdeal.lean ====
abbrev S30000x256 : Shape := ⟨2, ![30000, 256]⟩
abbrev S30000x300 : Shape := ⟨2, ![30000, 300]⟩
abbrev S30000x128 : Shape := ⟨2, ![30000, 128]⟩
abbrev S512x2 : Shape := ⟨2, ![512, 2]⟩
abbrev S12x16x512 : Shape := ⟨3, ![12, 16, 512]⟩
abbrev S512x1 : Shape := ⟨2, ![512, 1]⟩
abbrev S512 : Shape := ⟨1, ![512]⟩
abbrev S_ : Shape := ⟨0, ![]⟩
abbrev S512x256 : Shape := ⟨2, ![512, 256]⟩
abbrev S512x300 : Shape := ⟨2, ![512, 300]⟩
abbrev S512x128 : Shape := ⟨2, ![512, 128]⟩
abbrev S1x16x512 : Shape := ⟨3, ![1, 16, 512]⟩
abbrev S16x512 : Shape := ⟨2, ![16, 512]⟩
abbrev S8192 : Shape := ⟨1, ![8192]⟩
abbrev S8192x1 : Shape := ⟨2, ![8192, 1]⟩
abbrev S8192x256 : Shape := ⟨2, ![8192, 256]⟩
abbrev S16x512x256 : Shape := ⟨3, ![16, 512, 256]⟩
abbrev S16x1x512x256 : Shape := ⟨4, ![16, 1, 512, 256]⟩
abbrev S512x1x256 : Shape := ⟨3, ![512, 1, 256]⟩
abbrev S8192x300 : Shape := ⟨2, ![8192, 300]⟩
abbrev S16x512x300 : Shape := ⟨3, ![16, 512, 300]⟩
abbrev S16x1x512x300 : Shape := ⟨4, ![16, 1, 512, 300]⟩
abbrev S512x1x300 : Shape := ⟨3, ![512, 1, 300]⟩
abbrev S8192x128 : Shape := ⟨2, ![8192, 128]⟩
abbrev S16x512x128 : Shape := ⟨3, ![16, 512, 128]⟩
abbrev S16x1x512x128 : Shape := ⟨4, ![16, 1, 512, 128]⟩
abbrev S512x1x128 : Shape := ⟨3, ![512, 1, 128]⟩
abbrev S1x1x512x256 : Shape := ⟨4, ![1, 1, 512, 256]⟩
abbrev S16x1x512 : Shape := ⟨3, ![16, 1, 512]⟩
abbrev S1x512x1 : Shape := ⟨3, ![1, 512, 1]⟩
abbrev S16x512x512 : Shape := ⟨3, ![16, 512, 512]⟩
abbrev S1x1x512x300 : Shape := ⟨4, ![1, 1, 512, 300]⟩
abbrev S1x1x512x128 : Shape := ⟨4, ![1, 1, 512, 128]⟩

abbrev nBuf : Space → Nat
  | .hbm => 526
  | .vmem => 0
  | .smem => 0
  | _ => 0

abbrev hbmTy0_0 (i : Nat) : BufTy := match i % 128 with
  | 0 => ⟨S30000x256, .f32⟩
  | 1 => ⟨S30000x256, .f32⟩
  | 2 => ⟨S30000x300, .f32⟩
  | 3 => ⟨S30000x300, .f32⟩
  | 4 => ⟨S30000x128, .f32⟩
  | 5 => ⟨S30000x128, .f32⟩
  | 6 => ⟨S512x2, .i32⟩
  | 7 => ⟨S12x16x512, .i32⟩
  | 8 => ⟨S512x1, .i32⟩
  | 9 => ⟨S512, .i32⟩
  | 10 => ⟨S_, .i32⟩
  | 11 => ⟨S512, .i32⟩
  | 12 => ⟨S512, .i1⟩
  | 13 => ⟨S_, .i32⟩
  | 14 => ⟨S512, .i32⟩
  | 15 => ⟨S512, .i32⟩
  | 16 => ⟨S512, .i32⟩
  | 17 => ⟨S512x1, .i32⟩
  | 18 => ⟨S512x256, .f32⟩
  | 19 => ⟨S512x1, .i32⟩
  | 20 => ⟨S512, .i32⟩
  | 21 => ⟨S_, .i32⟩
  | 22 => ⟨S512, .i32⟩
  | 23 => ⟨S512, .i1⟩
  | 24 => ⟨S_, .i32⟩
  | 25 => ⟨S512, .i32⟩
  | 26 => ⟨S512, .i32⟩
  | 27 => ⟨S512, .i32⟩
  | 28 => ⟨S512x1, .i32⟩
  | 29 => ⟨S512x256, .f32⟩
  | 30 => ⟨S512x1, .i32⟩
  | 31 => ⟨S512, .i32⟩
  | 32 => ⟨S_, .i32⟩
  | 33 => ⟨S512, .i32⟩
  | 34 => ⟨S512, .i1⟩
  | 35 => ⟨S_, .i32⟩
  | 36 => ⟨S512, .i32⟩
  | 37 => ⟨S512, .i32⟩
  | 38 => ⟨S512, .i32⟩
  | 39 => ⟨S512x1, .i32⟩
  | 40 => ⟨S512x300, .f32⟩
  | 41 => ⟨S512x1, .i32⟩
  | 42 => ⟨S512, .i32⟩
  | 43 => ⟨S_, .i32⟩
  | 44 => ⟨S512, .i32⟩
  | 45 => ⟨S512, .i1⟩
  | 46 => ⟨S_, .i32⟩
  | 47 => ⟨S512, .i32⟩
  | 48 => ⟨S512, .i32⟩
  | 49 => ⟨S512, .i32⟩
  | 50 => ⟨S512x1, .i32⟩
  | 51 => ⟨S512x300, .f32⟩
  | 52 => ⟨S512x1, .i32⟩
  | 53 => ⟨S512, .i32⟩
  | 54 => ⟨S_, .i32⟩
  | 55 => ⟨S512, .i32⟩
  | 56 => ⟨S512, .i1⟩
  | 57 => ⟨S_, .i32⟩
  | 58 => ⟨S512, .i32⟩
  | 59 => ⟨S512, .i32⟩
  | 60 => ⟨S512, .i32⟩
  | 61 => ⟨S512x1, .i32⟩
  | 62 => ⟨S512x128, .f32⟩
  | 63 => ⟨S512x1, .i32⟩
  | 64 => ⟨S512, .i32⟩
  | 65 => ⟨S_, .i32⟩
  | 66 => ⟨S512, .i32⟩
  | 67 => ⟨S512, .i1⟩
  | 68 => ⟨S_, .i32⟩
  | 69 => ⟨S512, .i32⟩
  | 70 => ⟨S512, .i32⟩
  | 71 => ⟨S512, .i32⟩
  | 72 => ⟨S512x1, .i32⟩
  | 73 => ⟨S512x128, .f32⟩
  | 74 => ⟨S1x16x512, .i32⟩
  | 75 => ⟨S16x512, .i32⟩
  | 76 => ⟨S8192, .i32⟩
  | 77 => ⟨S_, .i32⟩
  | 78 => ⟨S8192, .i32⟩
  | 79 => ⟨S8192, .i1⟩
  | 80 => ⟨S_, .i32⟩
  | 81 => ⟨S8192, .i32⟩
  | 82 => ⟨S8192, .i32⟩
  | 83 => ⟨S8192, .i32⟩
  | 84 => ⟨S8192x1, .i32⟩
  | 85 => ⟨S8192x256, .f32⟩
  | 86 => ⟨S16x512x256, .f32⟩
  | 87 => ⟨S16x1x512x256, .f32⟩
  | 88 => ⟨S1x16x512, .i32⟩
  | 89 => ⟨S16x512, .i32⟩
  | 90 => ⟨S8192, .i32⟩
  | 91 => ⟨S_, .i32⟩
  | 92 => ⟨S8192, .i32⟩
  | 93 => ⟨S8192, .i1⟩
  | 94 => ⟨S_, .i32⟩
  | 95 => ⟨S8192, .i32⟩
  | 96 => ⟨S8192, .i32⟩
  | 97 => ⟨S8192, .i32⟩
  | 98 => ⟨S8192x1, .i32⟩
  | 99 => ⟨S8192x256, .f32⟩
  | 100 => ⟨S16x512x256, .f32⟩
  | 101 => ⟨S16x1x512x256, .f32⟩
  | 102 => ⟨S1x16x512, .i32⟩
  | 103 => ⟨S16x512, .i32⟩
  | 104 => ⟨S8192, .i32⟩
  | 105 => ⟨S_, .i32⟩
  | 106 => ⟨S8192, .i32⟩
  | 107 => ⟨S8192, .i1⟩
  | 108 => ⟨S_, .i32⟩
  | 109 => ⟨S8192, .i32⟩
  | 110 => ⟨S8192, .i32⟩
  | 111 => ⟨S8192, .i32⟩
  | 112 => ⟨S8192x1, .i32⟩
  | 113 => ⟨S8192x256, .f32⟩
  | 114 => ⟨S16x512x256, .f32⟩
  | 115 => ⟨S16x1x512x256, .f32⟩
  | 116 => ⟨S1x16x512, .i32⟩
  | 117 => ⟨S16x512, .i32⟩
  | 118 => ⟨S8192, .i32⟩
  | 119 => ⟨S_, .i32⟩
  | 120 => ⟨S8192, .i32⟩
  | 121 => ⟨S8192, .i1⟩
  | 122 => ⟨S_, .i32⟩
  | 123 => ⟨S8192, .i32⟩
  | 124 => ⟨S8192, .i32⟩
  | 125 => ⟨S8192, .i32⟩
  | 126 => ⟨S8192x1, .i32⟩
  | 127 => ⟨S8192x256, .f32⟩
  | _ => ⟨S30000x256, .f32⟩

abbrev hbmTy0_1 (i : Nat) : BufTy := match i % 128 with
  | 0 => ⟨S16x512x256, .f32⟩
  | 1 => ⟨S16x1x512x256, .f32⟩
  | 2 => ⟨S512x1x256, .f32⟩
  | 3 => ⟨S512x1x256, .f32⟩
  | 4 => ⟨S512x1x256, .f32⟩
  | 5 => ⟨S512x1x256, .f32⟩
  | 6 => ⟨S_, .f32⟩
  | 7 => ⟨S512x1, .f32⟩
  | 8 => ⟨S_, .f32⟩
  | 9 => ⟨S512x1, .f32⟩
  | 10 => ⟨S512x1, .f32⟩
  | 11 => ⟨S1x16x512, .i32⟩
  | 12 => ⟨S16x512, .i32⟩
  | 13 => ⟨S8192, .i32⟩
  | 14 => ⟨S_, .i32⟩
  | 15 => ⟨S8192, .i32⟩
  | 16 => ⟨S8192, .i1⟩
  | 17 => ⟨S_, .i32⟩
  | 18 => ⟨S8192, .i32⟩
  | 19 => ⟨S8192, .i32⟩
  | 20 => ⟨S8192, .i32⟩
  | 21 => ⟨S8192x1, .i32⟩
  | 22 => ⟨S8192x300, .f32⟩
  | 23 => ⟨S16x512x300, .f32⟩
  | 24 => ⟨S16x1x512x300, .f32⟩
  | 25 => ⟨S1x16x512, .i32⟩
  | 26 => ⟨S16x512, .i32⟩
  | 27 => ⟨S8192, .i32⟩
  | 28 => ⟨S_, .i32⟩
  | 29 => ⟨S8192, .i32⟩
  | 30 => ⟨S8192, .i1⟩
  | 31 => ⟨S_, .i32⟩
  | 32 => ⟨S8192, .i32⟩
  | 33 => ⟨S8192, .i32⟩
  | 34 => ⟨S8192, .i32⟩
  | 35 => ⟨S8192x1, .i32⟩
  | 36 => ⟨S8192x300, .f32⟩
  | 37 => ⟨S16x512x300, .f32⟩
  | 38 => ⟨S16x1x512x300, .f32⟩
  | 39 => ⟨S1x16x512, .i32⟩
  | 40 => ⟨S16x512, .i32⟩
  | 41 => ⟨S8192, .i32⟩
  | 42 => ⟨S_, .i32⟩
  | 43 => ⟨S8192, .i32⟩
  | 44 => ⟨S8192, .i1⟩
  | 45 => ⟨S_, .i32⟩
  | 46 => ⟨S8192, .i32⟩
  | 47 => ⟨S8192, .i32⟩
  | 48 => ⟨S8192, .i32⟩
  | 49 => ⟨S8192x1, .i32⟩
  | 50 => ⟨S8192x300, .f32⟩
  | 51 => ⟨S16x512x300, .f32⟩
  | 52 => ⟨S16x1x512x300, .f32⟩
  | 53 => ⟨S1x16x512, .i32⟩
  | 54 => ⟨S16x512, .i32⟩
  | 55 => ⟨S8192, .i32⟩
  | 56 => ⟨S_, .i32⟩
  | 57 => ⟨S8192, .i32⟩
  | 58 => ⟨S8192, .i1⟩
  | 59 => ⟨S_, .i32⟩
  | 60 => ⟨S8192, .i32⟩
  | 61 => ⟨S8192, .i32⟩
  | 62 => ⟨S8192, .i32⟩
  | 63 => ⟨S8192x1, .i32⟩
  | 64 => ⟨S8192x300, .f32⟩
  | 65 => ⟨S16x512x300, .f32⟩
  | 66 => ⟨S16x1x512x300, .f32⟩
  | 67 => ⟨S512x1x300, .f32⟩
  | 68 => ⟨S512x1x300, .f32⟩
  | 69 => ⟨S512x1x300, .f32⟩
  | 70 => ⟨S512x1x300, .f32⟩
  | 71 => ⟨S_, .f32⟩
  | 72 => ⟨S512x1, .f32⟩
  | 73 => ⟨S_, .f32⟩
  | 74 => ⟨S512x1, .f32⟩
  | 75 => ⟨S512x1, .f32⟩
  | 76 => ⟨S1x16x512, .i32⟩
  | 77 => ⟨S16x512, .i32⟩
  | 78 => ⟨S8192, .i32⟩
  | 79 => ⟨S_, .i32⟩
  | 80 => ⟨S8192, .i32⟩
  | 81 => ⟨S8192, .i1⟩
  | 82 => ⟨S_, .i32⟩
  | 83 => ⟨S8192, .i32⟩
  | 84 => ⟨S8192, .i32⟩
  | 85 => ⟨S8192, .i32⟩
  | 86 => ⟨S8192x1, .i32⟩
  | 87 => ⟨S8192x128, .f32⟩
  | 88 => ⟨S16x512x128, .f32⟩
  | 89 => ⟨S16x1x512x128, .f32⟩
  | 90 => ⟨S1x16x512, .i32⟩
  | 91 => ⟨S16x512, .i32⟩
  | 92 => ⟨S8192, .i32⟩
  | 93 => ⟨S_, .i32⟩
  | 94 => ⟨S8192, .i32⟩
  | 95 => ⟨S8192, .i1⟩
  | 96 => ⟨S_, .i32⟩
  | 97 => ⟨S8192, .i32⟩
  | 98 => ⟨S8192, .i32⟩
  | 99 => ⟨S8192, .i32⟩
  | 100 => ⟨S8192x1, .i32⟩
  | 101 => ⟨S8192x128, .f32⟩
  | 102 => ⟨S16x512x128, .f32⟩
  | 103 => ⟨S16x1x512x128, .f32⟩
  | 104 => ⟨S1x16x512, .i32⟩
  | 105 => ⟨S16x512, .i32⟩
  | 106 => ⟨S8192, .i32⟩
  | 107 => ⟨S_, .i32⟩
  | 108 => ⟨S8192, .i32⟩
  | 109 => ⟨S8192, .i1⟩
  | 110 => ⟨S_, .i32⟩
  | 111 => ⟨S8192, .i32⟩
  | 112 => ⟨S8192, .i32⟩
  | 113 => ⟨S8192, .i32⟩
  | 114 => ⟨S8192x1, .i32⟩
  | 115 => ⟨S8192x128, .f32⟩
  | 116 => ⟨S16x512x128, .f32⟩
  | 117 => ⟨S16x1x512x128, .f32⟩
  | 118 => ⟨S1x16x512, .i32⟩
  | 119 => ⟨S16x512, .i32⟩
  | 120 => ⟨S8192, .i32⟩
  | 121 => ⟨S_, .i32⟩
  | 122 => ⟨S8192, .i32⟩
  | 123 => ⟨S8192, .i1⟩
  | 124 => ⟨S_, .i32⟩
  | 125 => ⟨S8192, .i32⟩
  | 126 => ⟨S8192, .i32⟩
  | 127 => ⟨S8192, .i32⟩
  | _ => ⟨S30000x256, .f32⟩

abbrev hbmTy0_2 (i : Nat) : BufTy := match i % 128 with
  | 0 => ⟨S8192x1, .i32⟩
  | 1 => ⟨S8192x128, .f32⟩
  | 2 => ⟨S16x512x128, .f32⟩
  | 3 => ⟨S16x1x512x128, .f32⟩
  | 4 => ⟨S512x1x128, .f32⟩
  | 5 => ⟨S512x1x128, .f32⟩
  | 6 => ⟨S512x1x128, .f32⟩
  | 7 => ⟨S512x1x128, .f32⟩
  | 8 => ⟨S_, .f32⟩
  | 9 => ⟨S512x1, .f32⟩
  | 10 => ⟨S_, .f32⟩
  | 11 => ⟨S512x1, .f32⟩
  | 12 => ⟨S512x1, .f32⟩
  | 13 => ⟨S_, .f32⟩
  | 14 => ⟨S512x1, .f32⟩
  | 15 => ⟨S512x1, .f32⟩
  | 16 => ⟨S1x1x512x256, .f32⟩
  | 17 => ⟨S16x1x512x256, .f32⟩
  | 18 => ⟨S16x1x512x256, .f32⟩
  | 19 => ⟨S16x1x512x256, .f32⟩
  | 20 => ⟨S_, .f32⟩
  | 21 => ⟨S16x1x512, .f32⟩
  | 22 => ⟨S_, .f32⟩
  | 23 => ⟨S16x1x512, .f32⟩
  | 24 => ⟨S16x1x512, .f32⟩
  | 25 => ⟨S1x512x1, .f32⟩
  | 26 => ⟨S16x512x512, .f32⟩
  | 27 => ⟨S16x512x512, .f32⟩
  | 28 => ⟨S16x512x512, .f32⟩
  | 29 => ⟨S_, .f32⟩
  | 30 => ⟨S16x512x512, .f32⟩
  | 31 => ⟨S16x512x512, .f32⟩
  | 32 => ⟨S_, .f32⟩
  | 33 => ⟨S512x1, .f32⟩
  | 34 => ⟨S512x1, .f32⟩
  | 35 => ⟨S1x1x512x300, .f32⟩
  | 36 => ⟨S16x1x512x300, .f32⟩
  | 37 => ⟨S16x1x512x300, .f32⟩
  | 38 => ⟨S16x1x512x300, .f32⟩
  | 39 => ⟨S_, .f32⟩
  | 40 => ⟨S16x1x512, .f32⟩
  | 41 => ⟨S_, .f32⟩
  | 42 => ⟨S16x1x512, .f32⟩
  | 43 => ⟨S16x1x512, .f32⟩
  | 44 => ⟨S1x512x1, .f32⟩
  | 45 => ⟨S16x512x512, .f32⟩
  | 46 => ⟨S16x512x512, .f32⟩
  | 47 => ⟨S16x512x512, .f32⟩
  | 48 => ⟨S_, .f32⟩
  | 49 => ⟨S16x512x512, .f32⟩
  | 50 => ⟨S16x512x512, .f32⟩
  | 51 => ⟨S16x512x512, .f32⟩
  | 52 => ⟨S_, .f32⟩
  | 53 => ⟨S512x1, .f32⟩
  | 54 => ⟨S512x1, .f32⟩
  | 55 => ⟨S1x1x512x128, .f32⟩
  | 56 => ⟨S16x1x512x128, .f32⟩
  | 57 => ⟨S16x1x512x128, .f32⟩
  | 58 => ⟨S16x1x512x128, .f32⟩
  | 59 => ⟨S_, .f32⟩
  | 60 => ⟨S16x1x512, .f32⟩
  | 61 => ⟨S_, .f32⟩
  | 62 => ⟨S16x1x512, .f32⟩
  | 63 => ⟨S16x1x512, .f32⟩
  | 64 => ⟨S1x512x1, .f32⟩
  | 65 => ⟨S16x512x512, .f32⟩
  | 66 => ⟨S16x512x512, .f32⟩
  | 67 => ⟨S16x512x512, .f32⟩
  | 68 => ⟨S_, .f32⟩
  | 69 => ⟨S16x512x512, .f32⟩
  | 70 => ⟨S16x512x512, .f32⟩
  | 71 => ⟨S16x512x512, .f32⟩
  | 72 => ⟨S_, .f32⟩
  | 73 => ⟨S_, .f32⟩
  | 74 => ⟨S_, .f32⟩
  | 75 => ⟨S_, .f32⟩
  | 76 => ⟨S_, .f32⟩
  | 77 => ⟨S512x1, .f32⟩
  | 78 => ⟨S512x1, .f32⟩
  | 79 => ⟨S1x1x512x256, .f32⟩
  | 80 => ⟨S16x1x512x256, .f32⟩
  | 81 => ⟨S16x1x512x256, .f32⟩
  | 82 => ⟨S16x1x512x256, .f32⟩
  | 83 => ⟨S_, .f32⟩
  | 84 => ⟨S16x1x512, .f32⟩
  | 85 => ⟨S_, .f32⟩
  | 86 => ⟨S16x1x512, .f32⟩
  | 87 => ⟨S16x1x512, .f32⟩
  | 88 => ⟨S1x512x1, .f32⟩
  | 89 => ⟨S16x512x512, .f32⟩
  | 90 => ⟨S16x512x512, .f32⟩
  | 91 => ⟨S16x512x512, .f32⟩
  | 92 => ⟨S_, .f32⟩
  | 93 => ⟨S16x512x512, .f32⟩
  | 94 => ⟨S16x512x512, .f32⟩
  | 95 => ⟨S_, .f32⟩
  | 96 => ⟨S512x1, .f32⟩
  | 97 => ⟨S512x1, .f32⟩
  | 98 => ⟨S1x1x512x300, .f32⟩
  | 99 => ⟨S16x1x512x300, .f32⟩
  | 100 => ⟨S16x1x512x300, .f32⟩
  | 101 => ⟨S16x1x512x300, .f32⟩
  | 102 => ⟨S_, .f32⟩
  | 103 => ⟨S16x1x512, .f32⟩
  | 104 => ⟨S_, .f32⟩
  | 105 => ⟨S16x1x512, .f32⟩
  | 106 => ⟨S16x1x512, .f32⟩
  | 107 => ⟨S1x512x1, .f32⟩
  | 108 => ⟨S16x512x512, .f32⟩
  | 109 => ⟨S16x512x512, .f32⟩
  | 110 => ⟨S16x512x512, .f32⟩
  | 111 => ⟨S_, .f32⟩
  | 112 => ⟨S16x512x512, .f32⟩
  | 113 => ⟨S16x512x512, .f32⟩
  | 114 => ⟨S16x512x512, .f32⟩
  | 115 => ⟨S_, .f32⟩
  | 116 => ⟨S512x1, .f32⟩
  | 117 => ⟨S512x1, .f32⟩
  | 118 => ⟨S1x1x512x128, .f32⟩
  | 119 => ⟨S16x1x512x128, .f32⟩
  | 120 => ⟨S16x1x512x128, .f32⟩
  | 121 => ⟨S16x1x512x128, .f32⟩
  | 122 => ⟨S_, .f32⟩
  | 123 => ⟨S16x1x512, .f32⟩
  | 124 => ⟨S_, .f32⟩
  | 125 => ⟨S16x1x512, .f32⟩
  | 126 => ⟨S16x1x512, .f32⟩
  | 127 => ⟨S1x512x1, .f32⟩
  | _ => ⟨S30000x256, .f32⟩

abbrev hbmTy0_3 (i : Nat) : BufTy := match i % 128 with
  | 0 => ⟨S16x512x512, .f32⟩
  | 1 => ⟨S16x512x512, .f32⟩
  | 2 => ⟨S16x512x512, .f32⟩
  | 3 => ⟨S_, .f32⟩
  | 4 => ⟨S16x512x512, .f32⟩
  | 5 => ⟨S16x512x512, .f32⟩
  | 6 => ⟨S16x512x512, .f32⟩
  | 7 => ⟨S_, .f32⟩
  | 8 => ⟨S_, .f32⟩
  | 9 => ⟨S_, .f32⟩
  | 10 => ⟨S_, .f32⟩
  | 11 => ⟨S_, .f32⟩
  | 12 => ⟨S512x1, .f32⟩
  | 13 => ⟨S512x1, .f32⟩
  | 14 => ⟨S1x1x512x256, .f32⟩
  | 15 => ⟨S16x1x512x256, .f32⟩
  | 16 => ⟨S16x1x512x256, .f32⟩
  | 17 => ⟨S16x1x512x256, .f32⟩
  | 18 => ⟨S_, .f32⟩
  | 19 => ⟨S16x1x512, .f32⟩
  | 20 => ⟨S_, .f32⟩
  | 21 => ⟨S16x1x512, .f32⟩
  | 22 => ⟨S16x1x512, .f32⟩
  | 23 => ⟨S1x512x1, .f32⟩
  | 24 => ⟨S16x512x512, .f32⟩
  | 25 => ⟨S16x512x512, .f32⟩
  | 26 => ⟨S16x512x512, .f32⟩
  | 27 => ⟨S_, .f32⟩
  | 28 => ⟨S16x512x512, .f32⟩
  | 29 => ⟨S16x512x512, .f32⟩
  | 30 => ⟨S_, .f32⟩
  | 31 => ⟨S512x1, .f32⟩
  | 32 => ⟨S512x1, .f32⟩
  | 33 => ⟨S1x1x512x300, .f32⟩
  | 34 => ⟨S16x1x512x300, .f32⟩
  | 35 => ⟨S16x1x512x300, .f32⟩
  | 36 => ⟨S16x1x512x300, .f32⟩
  | 37 => ⟨S_, .f32⟩
  | 38 => ⟨S16x1x512, .f32⟩
  | 39 => ⟨S_, .f32⟩
  | 40 => ⟨S16x1x512, .f32⟩
  | 41 => ⟨S16x1x512, .f32⟩
  | 42 => ⟨S1x512x1, .f32⟩
  | 43 => ⟨S16x512x512, .f32⟩
  | 44 => ⟨S16x512x512, .f32⟩
  | 45 => ⟨S16x512x512, .f32⟩
  | 46 => ⟨S_, .f32⟩
  | 47 => ⟨S16x512x512, .f32⟩
  | 48 => ⟨S16x512x512, .f32⟩
  | 49 => ⟨S16x512x512, .f32⟩
  | 50 => ⟨S_, .f32⟩
  | 51 => ⟨S512x1, .f32⟩
  | 52 => ⟨S512x1, .f32⟩
  | 53 => ⟨S1x1x512x128, .f32⟩
  | 54 => ⟨S16x1x512x128, .f32⟩
  | 55 => ⟨S16x1x512x128, .f32⟩
  | 56 => ⟨S16x1x512x128, .f32⟩
  | 57 => ⟨S_, .f32⟩
  | 58 => ⟨S16x1x512, .f32⟩
  | 59 => ⟨S_, .f32⟩
  | 60 => ⟨S16x1x512, .f32⟩
  | 61 => ⟨S16x1x512, .f32⟩
  | 62 => ⟨S1x512x1, .f32⟩
  | 63 => ⟨S16x512x512, .f32⟩
  | 64 => ⟨S16x512x512, .f32⟩
  | 65 => ⟨S16x512x512, .f32⟩
  | 66 => ⟨S_, .f32⟩
  | 67 => ⟨S16x512x512, .f32⟩
  | 68 => ⟨S16x512x512, .f32⟩
  | 69 => ⟨S16x512x512, .f32⟩
  | 70 => ⟨S_, .f32⟩
  | 71 => ⟨S_, .f32⟩
  | 72 => ⟨S_, .f32⟩
  | 73 => ⟨S_, .f32⟩
  | 74 => ⟨S_, .f32⟩
  | 75 => ⟨S512x1, .f32⟩
  | 76 => ⟨S512x1, .f32⟩
  | 77 => ⟨S1x1x512x256, .f32⟩
  | 78 => ⟨S16x1x512x256, .f32⟩
  | 79 => ⟨S16x1x512x256, .f32⟩
  | 80 => ⟨S16x1x512x256, .f32⟩
  | 81 => ⟨S_, .f32⟩
  | 82 => ⟨S16x1x512, .f32⟩
  | 83 => ⟨S_, .f32⟩
  | 84 => ⟨S16x1x512, .f32⟩
  | 85 => ⟨S16x1x512, .f32⟩
  | 86 => ⟨S1x512x1, .f32⟩
  | 87 => ⟨S16x512x512, .f32⟩
  | 88 => ⟨S16x512x512, .f32⟩
  | 89 => ⟨S16x512x512, .f32⟩
  | 90 => ⟨S_, .f32⟩
  | 91 => ⟨S16x512x512, .f32⟩
  | 92 => ⟨S16x512x512, .f32⟩
  | 93 => ⟨S_, .f32⟩
  | 94 => ⟨S512x1, .f32⟩
  | 95 => ⟨S512x1, .f32⟩
  | 96 => ⟨S1x1x512x300, .f32⟩
  | 97 => ⟨S16x1x512x300, .f32⟩
  | 98 => ⟨S16x1x512x300, .f32⟩
  | 99 => ⟨S16x1x512x300, .f32⟩
  | 100 => ⟨S_, .f32⟩
  | 101 => ⟨S16x1x512, .f32⟩
  | 102 => ⟨S_, .f32⟩
  | 103 => ⟨S16x1x512, .f32⟩
  | 104 => ⟨S16x1x512, .f32⟩
  | 105 => ⟨S1x512x1, .f32⟩
  | 106 => ⟨S16x512x512, .f32⟩
  | 107 => ⟨S16x512x512, .f32⟩
  | 108 => ⟨S16x512x512, .f32⟩
  | 109 => ⟨S_, .f32⟩
  | 110 => ⟨S16x512x512, .f32⟩
  | 111 => ⟨S16x512x512, .f32⟩
  | 112 => ⟨S16x512x512, .f32⟩
  | 113 => ⟨S_, .f32⟩
  | 114 => ⟨S512x1, .f32⟩
  | 115 => ⟨S512x1, .f32⟩
  | 116 => ⟨S1x1x512x128, .f32⟩
  | 117 => ⟨S16x1x512x128, .f32⟩
  | 118 => ⟨S16x1x512x128, .f32⟩
  | 119 => ⟨S16x1x512x128, .f32⟩
  | 120 => ⟨S_, .f32⟩
  | 121 => ⟨S16x1x512, .f32⟩
  | 122 => ⟨S_, .f32⟩
  | 123 => ⟨S16x1x512, .f32⟩
  | 124 => ⟨S16x1x512, .f32⟩
  | 125 => ⟨S1x512x1, .f32⟩
  | 126 => ⟨S16x512x512, .f32⟩
  | 127 => ⟨S16x512x512, .f32⟩
  | _ => ⟨S30000x256, .f32⟩

abbrev hbmTy0_4 (i : Nat) : BufTy := match i % 128 with
  | 0 => ⟨S16x512x512, .f32⟩
  | 1 => ⟨S_, .f32⟩
  | 2 => ⟨S16x512x512, .f32⟩
  | 3 => ⟨S16x512x512, .f32⟩
  | 4 => ⟨S16x512x512, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | _ => ⟨S30000x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S30000x256, .f32⟩

abbrev bufTy : (tb : Table) → Fin (tcTables nBuf tb) → BufTy
  | .hbm, ⟨i, _⟩ => hbmTy i
  | _, _ => ⟨S30000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_7 : Ref sig .tc := ⟨.hbm, 54, rfl⟩
abbrev main_v38 : Ref sig .tc := ⟨.hbm, 55, rfl⟩
abbrev main_v39 : Ref sig .tc := ⟨.hbm, 56, rfl⟩
abbrev main_c_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_9 : Ref sig .tc := ⟨.hbm, 65, rfl⟩
abbrev main_v47 : Ref sig .tc := ⟨.hbm, 66, rfl⟩
abbrev main_v48 : Ref sig .tc := ⟨.hbm, 67, rfl⟩
abbrev main_c_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_11 : Ref sig .tc := ⟨.hbm, 77, rfl⟩
abbrev main_v57 : Ref sig .tc := ⟨.hbm, 78, rfl⟩
abbrev main_v58 : Ref sig .tc := ⟨.hbm, 79, rfl⟩
abbrev main_c_12 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_c_13 : Ref sig .tc := ⟨.hbm, 91, rfl⟩
abbrev main_v69 : Ref sig .tc := ⟨.hbm, 92, rfl⟩
abbrev main_v70 : Ref sig .tc := ⟨.hbm, 93, rfl⟩
abbrev main_c_14 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_c_15 : Ref sig .tc := ⟨.hbm, 105, rfl⟩
abbrev main_v81 : Ref sig .tc := ⟨.hbm, 106, rfl⟩
abbrev main_v82 : Ref sig .tc := ⟨.hbm, 107, rfl⟩
abbrev main_c_16 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_c_17 : Ref sig .tc := ⟨.hbm, 119, rfl⟩
abbrev main_v93 : Ref sig .tc := ⟨.hbm, 120, rfl⟩
abbrev main_v94 : Ref sig .tc := ⟨.hbm, 121, rfl⟩
abbrev main_c_18 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_cst : Ref sig .tc := ⟨.hbm, 134, rfl⟩
abbrev main_v106 : Ref sig .tc := ⟨.hbm, 135, rfl⟩
abbrev main_cst_19 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_c_20 : Ref sig .tc := ⟨.hbm, 142, rfl⟩
abbrev main_v112 : Ref sig .tc := ⟨.hbm, 143, rfl⟩
abbrev main_v113 : Ref sig .tc := ⟨.hbm, 144, rfl⟩
abbrev main_c_21 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_c_22 : Ref sig .tc := ⟨.hbm, 156, rfl⟩
abbrev main_v124 : Ref sig .tc := ⟨.hbm, 157, rfl⟩
abbrev main_v125 : Ref sig .tc := ⟨.hbm, 158, rfl⟩
abbrev main_c_23 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_c_24 : Ref sig .tc := ⟨.hbm, 170, rfl⟩
abbrev main_v136 : Ref sig .tc := ⟨.hbm, 171, rfl⟩
abbrev main_v137 : Ref sig .tc := ⟨.hbm, 172, rfl⟩
abbrev main_c_25 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_c_26 : Ref sig .tc := ⟨.hbm, 184, rfl⟩
abbrev main_v148 : Ref sig .tc := ⟨.hbm, 185, rfl⟩
abbrev main_v149 : Ref sig .tc := ⟨.hbm, 186, rfl⟩
abbrev main_c_27 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_cst_28 : Ref sig .tc := ⟨.hbm, 199, rfl⟩
abbrev main_v161 : Ref sig .tc := ⟨.hbm, 200, rfl⟩
abbrev main_cst_29 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_c_30 : Ref sig .tc := ⟨.hbm, 207, rfl⟩
abbrev main_v167 : Ref sig .tc := ⟨.hbm, 208, rfl⟩
abbrev main_v168 : Ref sig .tc := ⟨.hbm, 209, rfl⟩
abbrev main_c_31 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_c_32 : Ref sig .tc := ⟨.hbm, 221, rfl⟩
abbrev main_v179 : Ref sig .tc := ⟨.hbm, 222, rfl⟩
abbrev main_v180 : Ref sig .tc := ⟨.hbm, 223, rfl⟩
abbrev main_c_33 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_c_34 : Ref sig .tc := ⟨.hbm, 235, rfl⟩
abbrev main_v191 : Ref sig .tc := ⟨.hbm, 236, rfl⟩
abbrev main_v192 : Ref sig .tc := ⟨.hbm, 237, rfl⟩
abbrev main_c_35 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_c_36 : Ref sig .tc := ⟨.hbm, 249, rfl⟩
abbrev main_v203 : Ref sig .tc := ⟨.hbm, 250, rfl⟩
abbrev main_v204 : Ref sig .tc := ⟨.hbm, 251, rfl⟩
abbrev main_c_37 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_v215 : Ref sig .tc := ⟨.hbm, 263, rfl⟩
abbrev main_cst_38 : Ref sig .tc := ⟨.hbm, 264, rfl⟩
abbrev main_v216 : Ref sig .tc := ⟨.hbm, 265, rfl⟩
abbrev main_cst_39 : Ref sig .tc := ⟨.hbm, 266, rfl⟩
abbrev main_v217 : Ref sig .tc := ⟨.hbm, 267, rfl⟩
abbrev main_v218 : Ref sig .tc := ⟨.hbm, 268, rfl⟩
abbrev main_cst_40 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_cst_41 : Ref sig .tc := ⟨.hbm, 276, rfl⟩
abbrev main_v225 : Ref sig .tc := ⟨.hbm, 277, rfl⟩
abbrev main_cst_42 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_call0_cst : Ref sig .tc := ⟨.hbm, 285, rfl⟩
abbrev main_call0_v0 : Ref sig .tc := ⟨.hbm, 286, rfl⟩
abbrev main_v232 : Ref sig .tc := ⟨.hbm, 287, rfl⟩
abbrev main_cst_43 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_v236 : Ref sig .tc := ⟨.hbm, 292, rfl⟩
abbrev main_v237 : Ref sig .tc := ⟨.hbm, 293, rfl⟩
abbrev main_v238 : Ref sig .tc := ⟨.hbm, 294, rfl⟩
abbrev main_cst_44 : Ref sig .tc := ⟨.hbm, 295, rfl⟩
abbrev main_v239 : Ref sig .tc := ⟨.hbm, 296, rfl⟩
abbrev main_cst_45 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_v244 : Ref sig .tc := ⟨.hbm, 302, rfl⟩
abbrev main_v245 : Ref sig .tc := ⟨.hbm, 303, rfl⟩
abbrev main_call1_cst : Ref sig .tc := ⟨.hbm, 304, rfl⟩
abbrev main_call1_v0 : Ref sig .tc := ⟨.hbm, 305, rfl⟩
abbrev main_v246 : Ref sig .tc := ⟨.hbm, 306, rfl⟩
abbrev main_v247 : Ref sig .tc := ⟨.hbm, 307, rfl⟩
abbrev main_cst_46 : Ref sig .tc := ⟨.hbm, 308, rfl⟩
abbrev main_v248 : Ref sig .tc := ⟨.hbm, 309, rfl⟩
abbrev main_v249 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_cst_47 : Ref sig .tc := ⟨.hbm, 315, rfl⟩
abbrev main_v254 : Ref sig .tc := ⟨.hbm, 316, rfl⟩
abbrev main_cst_48 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_v260 : Ref sig .tc := ⟨.hbm, 323, rfl⟩
abbrev main_call2_cst : Ref sig .tc := ⟨.hbm, 324, rfl⟩
abbrev main_call2_v0 : Ref sig .tc := ⟨.hbm, 325, rfl⟩
abbrev main_v261 : Ref sig .tc := ⟨.hbm, 326, rfl⟩
abbrev main_v262 : Ref sig .tc := ⟨.hbm, 327, rfl⟩
abbrev main_cst_49 : Ref sig .tc := ⟨.hbm, 328, rfl⟩
abbrev main_v263 : Ref sig .tc := ⟨.hbm, 329, rfl⟩
abbrev main_cst_50 : Ref sig .tc := ⟨.hbm, 330, rfl⟩
abbrev main_v264 : Ref sig .tc := ⟨.hbm, 331, rfl⟩
abbrev main_cst_51 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_v268 : Ref sig .tc := ⟨.hbm, 336, rfl⟩
abbrev main_v269 : Ref sig .tc := ⟨.hbm, 337, rfl⟩
abbrev main_v270 : Ref sig .tc := ⟨.hbm, 338, rfl⟩
abbrev main_cst_52 : Ref sig .tc := ⟨.hbm, 339, rfl⟩
abbrev main_v271 : Ref sig .tc := ⟨.hbm, 340, rfl⟩
abbrev main_cst_53 : Ref sig .tc := ⟨.hbm, 341, rfl⟩
abbrev main_v272 : Ref sig .tc := ⟨.hbm, 342, rfl⟩
abbrev main_v273 : Ref sig .tc := ⟨.hbm, 343, rfl⟩
abbrev main_v274 : Ref sig .tc := ⟨.hbm, 344, rfl⟩
abbrev main_v275 : Ref sig .tc := ⟨.hbm, 345, rfl⟩
abbrev main_v276 : Ref sig .tc := ⟨.hbm, 346, rfl⟩
abbrev main_v277 : Ref sig .tc := ⟨.hbm, 347, rfl⟩
abbrev main_call3_cst : Ref sig .tc := ⟨.hbm, 348, rfl⟩
abbrev main_call3_v0 : Ref sig .tc := ⟨.hbm, 349, rfl⟩
abbrev main_v278 : Ref sig .tc := ⟨.hbm, 350, rfl⟩
abbrev main_cst_54 : Ref sig .tc := ⟨.hbm, 351, rfl⟩
abbrev main_v279 : Ref sig .tc := ⟨.hbm, 352, rfl⟩
abbrev main_v280 : Ref sig .tc := ⟨.hbm, 353, rfl⟩
abbrev main_v281 : Ref sig .tc := ⟨.hbm, 354, rfl⟩
abbrev main_v282 : Ref sig .tc := ⟨.hbm, 355, rfl⟩
abbrev main_v283 : Ref sig .tc := ⟨.hbm, 356, rfl⟩
abbrev main_v284 : Ref sig .tc := ⟨.hbm, 357, rfl⟩
abbrev main_cst_55 : Ref sig .tc := ⟨.hbm, 358, rfl⟩
abbrev main_v285 : Ref sig .tc := ⟨.hbm, 359, rfl⟩
abbrev main_cst_56 : Ref sig .tc := ⟨.hbm, 360, rfl⟩
abbrev main_v286 : Ref sig .tc := ⟨.hbm, 361, rfl⟩
abbrev main_v287 : Ref sig .tc := ⟨.hbm, 362, rfl⟩
abbrev main_v288 : Ref sig .tc := ⟨.hbm, 363, rfl⟩
abbrev main_v289 : Ref sig .tc := ⟨.hbm, 364, rfl⟩
abbrev main_v290 : Ref sig .tc := ⟨.hbm, 365, rfl⟩
abbrev main_v291 : Ref sig .tc := ⟨.hbm, 366, rfl⟩
abbrev main_call4_cst : Ref sig .tc := ⟨.hbm, 367, rfl⟩
abbrev main_call4_v0 : Ref sig .tc := ⟨.hbm, 368, rfl⟩
abbrev main_v292 : Ref sig .tc := ⟨.hbm, 369, rfl⟩
abbrev main_v293 : Ref sig .tc := ⟨.hbm, 370, rfl⟩
abbrev main_cst_57 : Ref sig .tc := ⟨.hbm, 371, rfl⟩
abbrev main_v294 : Ref sig .tc := ⟨.hbm, 372, rfl⟩
abbrev main_v295 : Ref sig .tc := ⟨.hbm, 373, rfl⟩
abbrev main_v296 : Ref sig .tc := ⟨.hbm, 374, rfl⟩
abbrev main_v297 : Ref sig .tc := ⟨.hbm, 375, rfl⟩
abbrev main_v298 : Ref sig .tc := ⟨.hbm, 376, rfl⟩
abbrev main_v299 : Ref sig .tc := ⟨.hbm, 377, rfl⟩
abbrev main_cst_58 : Ref sig .tc := ⟨.hbm, 378, rfl⟩
abbrev main_v300 : Ref sig .tc := ⟨.hbm, 379, rfl⟩
abbrev main_cst_59 : Ref sig .tc := ⟨.hbm, 380, rfl⟩
abbrev main_v301 : Ref sig .tc := ⟨.hbm, 381, rfl⟩
abbrev main_v302 : Ref sig .tc := ⟨.hbm, 382, rfl⟩
abbrev main_v303 : Ref sig .tc := ⟨.hbm, 383, rfl⟩
abbrev main_v304 : Ref sig .tc := ⟨.hbm, 384, rfl⟩
abbrev main_v305 : Ref sig .tc := ⟨.hbm, 385, rfl⟩
abbrev main_v306 : Ref sig .tc := ⟨.hbm, 386, rfl⟩
abbrev main_call5_cst : Ref sig .tc := ⟨.hbm, 387, rfl⟩
abbrev main_call5_v0 : Ref sig .tc := ⟨.hbm, 388, rfl⟩
abbrev main_v307 : Ref sig .tc := ⟨.hbm, 389, rfl⟩
abbrev main_v308 : Ref sig .tc := ⟨.hbm, 390, rfl⟩
abbrev main_cst_60 : Ref sig .tc := ⟨.hbm, 391, rfl⟩
abbrev main_v309 : Ref sig .tc := ⟨.hbm, 392, rfl⟩
abbrev main_cst_61 : Ref sig .tc := ⟨.hbm, 393, rfl⟩
abbrev main_v310 : Ref sig .tc := ⟨.hbm, 394, rfl⟩
abbrev main_cst_62 : Ref sig .tc := ⟨.hbm, 395, rfl⟩
abbrev main_v311 : Ref sig .tc := ⟨.hbm, 396, rfl⟩
abbrev main_v312 : Ref sig .tc := ⟨.hbm, 397, rfl⟩
abbrev main_v313 : Ref sig .tc := ⟨.hbm, 398, rfl⟩
abbrev main_v314 : Ref sig .tc := ⟨.hbm, 399, rfl⟩
abbrev main_v315 : Ref sig .tc := ⟨.hbm, 400, rfl⟩
abbrev main_v316 : Ref sig .tc := ⟨.hbm, 401, rfl⟩
abbrev main_cst_63 : Ref sig .tc := ⟨.hbm, 402, rfl⟩
abbrev main_v317 : Ref sig .tc := ⟨.hbm, 403, rfl⟩
abbrev main_cst_64 : Ref sig .tc := ⟨.hbm, 404, rfl⟩
abbrev main_v318 : Ref sig .tc := ⟨.hbm, 405, rfl⟩
abbrev main_v319 : Ref sig .tc := ⟨.hbm, 406, rfl⟩
abbrev main_v320 : Ref sig .tc := ⟨.hbm, 407, rfl⟩
abbrev main_v321 : Ref sig .tc := ⟨.hbm, 408, rfl⟩
abbrev main_v322 : Ref sig .tc := ⟨.hbm, 409, rfl⟩
abbrev main_v323 : Ref sig .tc := ⟨.hbm, 410, rfl⟩
abbrev main_call6_cst : Ref sig .tc := ⟨.hbm, 411, rfl⟩
abbrev main_call6_v0 : Ref sig .tc := ⟨.hbm, 412, rfl⟩
abbrev main_v324 : Ref sig .tc := ⟨.hbm, 413, rfl⟩
abbrev main_cst_65 : Ref sig .tc := ⟨.hbm, 414, rfl⟩
abbrev main_v325 : Ref sig .tc := ⟨.hbm, 415, rfl⟩
abbrev main_v326 : Ref sig .tc := ⟨.hbm, 416, rfl⟩
abbrev main_v327 : Ref sig .tc := ⟨.hbm, 417, rfl⟩
abbrev main_v328 : Ref sig .tc := ⟨.hbm, 418, rfl⟩
abbrev main_v329 : Ref sig .tc := ⟨.hbm, 419, rfl⟩
abbrev main_v330 : Ref sig .tc := ⟨.hbm, 420, rfl⟩
abbrev main_cst_66 : Ref sig .tc := ⟨.hbm, 421, rfl⟩
abbrev main_v331 : Ref sig .tc := ⟨.hbm, 422, rfl⟩
abbrev main_cst_67 : Ref sig .tc := ⟨.hbm, 423, rfl⟩
abbrev main_v332 : Ref sig .tc := ⟨.hbm, 424, rfl⟩
abbrev main_v333 : Ref sig .tc := ⟨.hbm, 425, rfl⟩
abbrev main_v334 : Ref sig .tc := ⟨.hbm, 426, rfl⟩
abbrev main_v335 : Ref sig .tc := ⟨.hbm, 427, rfl⟩
abbrev main_v336 : Ref sig .tc := ⟨.hbm, 428, rfl⟩
abbrev main_v337 : Ref sig .tc := ⟨.hbm, 429, rfl⟩
abbrev main_call7_cst : Ref sig .tc := ⟨.hbm, 430, rfl⟩
abbrev main_call7_v0 : Ref sig .tc := ⟨.hbm, 431, rfl⟩
abbrev main_v338 : Ref sig .tc := ⟨.hbm, 432, rfl⟩
abbrev main_v339 : Ref sig .tc := ⟨.hbm, 433, rfl⟩
abbrev main_cst_68 : Ref sig .tc := ⟨.hbm, 434, rfl⟩
abbrev main_v340 : Ref sig .tc := ⟨.hbm, 435, rfl⟩
abbrev main_v341 : Ref sig .tc := ⟨.hbm, 436, rfl⟩
abbrev main_v342 : Ref sig .tc := ⟨.hbm, 437, rfl⟩
abbrev main_v343 : Ref sig .tc := ⟨.hbm, 438, rfl⟩
abbrev main_v344 : Ref sig .tc := ⟨.hbm, 439, rfl⟩
abbrev main_v345 : Ref sig .tc := ⟨.hbm, 440, rfl⟩
abbrev main_cst_69 : Ref sig .tc := ⟨.hbm, 441, rfl⟩
abbrev main_v346 : Ref sig .tc := ⟨.hbm, 442, rfl⟩
abbrev main_cst_70 : Ref sig .tc := ⟨.hbm, 443, rfl⟩
abbrev main_v347 : Ref sig .tc := ⟨.hbm, 444, rfl⟩
abbrev main_v348 : Ref sig .tc := ⟨.hbm, 445, rfl⟩
abbrev main_v349 : Ref sig .tc := ⟨.hbm, 446, rfl⟩
abbrev main_v350 : Ref sig .tc := ⟨.hbm, 447, rfl⟩
abbrev main_v351 : Ref sig .tc := ⟨.hbm, 448, rfl⟩
abbrev main_v352 : Ref sig .tc := ⟨.hbm, 449, rfl⟩
abbrev main_call8_cst : Ref sig .tc := ⟨.hbm, 450, rfl⟩
abbrev main_call8_v0 : Ref sig .tc := ⟨.hbm, 451, rfl⟩
abbrev main_v353 : Ref sig .tc := ⟨.hbm, 452, rfl⟩
abbrev main_v354 : Ref sig .tc := ⟨.hbm, 453, rfl⟩
abbrev main_cst_71 : Ref sig .tc := ⟨.hbm, 454, rfl⟩
abbrev main_v355 : Ref sig .tc := ⟨.hbm, 455, rfl⟩
abbrev main_cst_72 : Ref sig .tc := ⟨.hbm, 456, rfl⟩
abbrev main_v356 : Ref sig .tc := ⟨.hbm, 457, rfl⟩
abbrev main_cst_73 : Ref sig .tc := ⟨.hbm, 458, rfl⟩
abbrev main_v357 : Ref sig .tc := ⟨.hbm, 459, rfl⟩
abbrev main_v358 : Ref sig .tc := ⟨.hbm, 460, rfl⟩
abbrev main_v359 : Ref sig .tc := ⟨.hbm, 461, rfl⟩
abbrev main_v360 : Ref sig .tc := ⟨.hbm, 462, rfl⟩
abbrev main_v361 : Ref sig .tc := ⟨.hbm, 463, rfl⟩
abbrev main_v362 : Ref sig .tc := ⟨.hbm, 464, rfl⟩
abbrev main_cst_74 : Ref sig .tc := ⟨.hbm, 465, rfl⟩
abbrev main_v363 : Ref sig .tc := ⟨.hbm, 466, rfl⟩
abbrev main_cst_75 : Ref sig .tc := ⟨.hbm, 467, rfl⟩
abbrev main_v364 : Ref sig .tc := ⟨.hbm, 468, rfl⟩
abbrev main_v365 : Ref sig .tc := ⟨.hbm, 469, rfl⟩
abbrev main_v366 : Ref sig .tc := ⟨.hbm, 470, rfl⟩
abbrev main_v367 : Ref sig .tc := ⟨.hbm, 471, rfl⟩
abbrev main_v368 : Ref sig .tc := ⟨.hbm, 472, rfl⟩
abbrev main_v369 : Ref sig .tc := ⟨.hbm, 473, rfl⟩
abbrev main_call9_cst : Ref sig .tc := ⟨.hbm, 474, rfl⟩
abbrev main_call9_v0 : Ref sig .tc := ⟨.hbm, 475, rfl⟩
abbrev main_v370 : Ref sig .tc := ⟨.hbm, 476, rfl⟩
abbrev main_cst_76 : Ref sig .tc := ⟨.hbm, 477, rfl⟩
abbrev main_v371 : Ref sig .tc := ⟨.hbm, 478, rfl⟩
abbrev main_v372 : Ref sig .tc := ⟨.hbm, 479, rfl⟩
abbrev main_v373 : Ref sig .tc := ⟨.hbm, 480, rfl⟩
abbrev main_v374 : Ref sig .tc := ⟨.hbm, 481, rfl⟩
abbrev main_v375 : Ref sig .tc := ⟨.hbm, 482, rfl⟩
abbrev main_v376 : Ref sig .tc := ⟨.hbm, 483, rfl⟩
abbrev main_cst_77 : Ref sig .tc := ⟨.hbm, 484, rfl⟩
abbrev main_v377 : Ref sig .tc := ⟨.hbm, 485, rfl⟩
abbrev main_cst_78 : Ref sig .tc := ⟨.hbm, 486, rfl⟩
abbrev main_v378 : Ref sig .tc := ⟨.hbm, 487, rfl⟩
abbrev main_v379 : Ref sig .tc := ⟨.hbm, 488, rfl⟩
abbrev main_v380 : Ref sig .tc := ⟨.hbm, 489, rfl⟩
abbrev main_v381 : Ref sig .tc := ⟨.hbm, 490, rfl⟩
abbrev main_v382 : Ref sig .tc := ⟨.hbm, 491, rfl⟩
abbrev main_v383 : Ref sig .tc := ⟨.hbm, 492, rfl⟩
abbrev main_call10_cst : Ref sig .tc := ⟨.hbm, 493, rfl⟩
abbrev main_call10_v0 : Ref sig .tc := ⟨.hbm, 494, rfl⟩
abbrev main_v384 : Ref sig .tc := ⟨.hbm, 495, rfl⟩
abbrev main_v385 : Ref sig .tc := ⟨.hbm, 496, rfl⟩
abbrev main_cst_79 : Ref sig .tc := ⟨.hbm, 497, rfl⟩
abbrev main_v386 : Ref sig .tc := ⟨.hbm, 498, rfl⟩
abbrev main_v387 : Ref sig .tc := ⟨.hbm, 499, rfl⟩
abbrev main_v388 : Ref sig .tc := ⟨.hbm, 500, rfl⟩
abbrev main_v389 : Ref sig .tc := ⟨.hbm, 501, rfl⟩
abbrev main_v390 : Ref sig .tc := ⟨.hbm, 502, rfl⟩
abbrev main_v391 : Ref sig .tc := ⟨.hbm, 503, rfl⟩
abbrev main_cst_80 : Ref sig .tc := ⟨.hbm, 504, rfl⟩
abbrev main_v392 : Ref sig .tc := ⟨.hbm, 505, rfl⟩
abbrev main_cst_81 : Ref sig .tc := ⟨.hbm, 506, rfl⟩
abbrev main_v393 : Ref sig .tc := ⟨.hbm, 507, rfl⟩
abbrev main_v394 : Ref sig .tc := ⟨.hbm, 508, rfl⟩
abbrev main_v395 : Ref sig .tc := ⟨.hbm, 509, rfl⟩
abbrev main_v396 : Ref sig .tc := ⟨.hbm, 510, rfl⟩
abbrev main_v397 : Ref sig .tc := ⟨.hbm, 511, rfl⟩
abbrev main_v398 : Ref sig .tc := ⟨.hbm, 512, rfl⟩
abbrev main_call11_cst : Ref sig .tc := ⟨.hbm, 513, rfl⟩
abbrev main_call11_v0 : Ref sig .tc := ⟨.hbm, 514, rfl⟩
abbrev main_v399 : Ref sig .tc := ⟨.hbm, 515, rfl⟩
abbrev main_v400 : Ref sig .tc := ⟨.hbm, 516, rfl⟩
abbrev main_cst_82 : Ref sig .tc := ⟨.hbm, 517, rfl⟩
abbrev main_v401 : Ref sig .tc := ⟨.hbm, 518, rfl⟩
abbrev main_cst_83 : Ref sig .tc := ⟨.hbm, 519, rfl⟩
abbrev main_v402 : Ref sig .tc := ⟨.hbm, 520, rfl⟩
abbrev main_v403 : Ref sig .tc := ⟨.hbm, 521, rfl⟩
abbrev main_v404 : Ref sig .tc := ⟨.hbm, 522, rfl⟩
abbrev main_v405 : Ref sig .tc := ⟨.hbm, 523, rfl⟩
abbrev main_cst_84 : Ref sig .tc := ⟨.hbm, 524, rfl⟩
abbrev main_v406 : Ref sig .tc := ⟨.hbm, 525, rfl⟩

abbrev nD : Nat := 1
abbrev τ : Topo := Topo.v7x

variable {F : FTy → Type} [FloatOps F]
-- ==== Proof.Range.lean ====
/-
  What the precondition says of the two index arrays: every entry names a row of the tables.
-/
module

public import proofs.«01_k».proof.Pre_rows_exist
public import Idealize.ShloMosaic.Lib.ReduceAll
public import Idealize.ShloMosaic.Lib.WordCmp

@[expose] public section

noncomputable section

namespace Cert.Proof.Range

open Idealize.ShloMosaic
open Cert.Pre_rows_exist

/-- A word that is signed at least 0 and below 30000 is below 30000 unsigned. -/
theorem lt_of_cmp {w : BitVec 32} (h : IntOp.andi (IntOp.cmpi .sge w 0#32) (IntOp.cmpi .slt w 30000#32) = 1#1) : w.toNat < 30000 := by
  obtain ⟨h0, h1⟩ := IntOp.andi_eq_one.1 h
  have h0' : (0#32).sle w = true := by
    cases hc : (0#32).sle w
    · exact absurd h0 (by rw [show IntOp.cmpi .sge w 0#32 = BitVec.ofBool ((0#32).sle w) from rfl, hc]; decide)
    · rfl
  have h1' : w.slt 30000#32 = true := by
    cases hc : w.slt 30000#32
    · exact absurd h1 (by rw [show IntOp.cmpi .slt w 30000#32 = BitVec.ofBool (w.slt 30000#32) from rfl, hc]; decide)
    · rfl
  rw [BitVec.sle_eq_decide] at h0'
  rw [BitVec.slt_eq_decide] at h1'
  simp at h0' h1'
  have := BitVec.toInt_eq_toNat_cond w
  split at this <;> omega

/-- The side conditions the predicate's operations state. -/
theorem facts : Cert.Pre_rows_exist.Facts where
  bcast_S_S512x2 := by decide
  reducesTo_S512x2_S_d0_1 := by decide
  h_S_ := by decide
  bcast_S_S12x16x512 := by decide
  reducesTo_S12x16x512_S_d0_1_2 := by decide

variable [Facts]
variable {F : FTy → Type} [FloatOps F]

/-- The precondition bounds every entry of the pairs and of the twelve tables. -/
theorem rows (x0 x1 : FVec F S30000x256 .f32) (x2 x3 : FVec F S30000x300 .f32) (x4 x5 : FVec F S30000x128 .f32)
    (x6 : IVec S512x2 32) (x7 : IVec S12x16x512 32) (h : fn x0 x1 x2 x3 x4 x5 x6 x7 = fun _ => 1#1) :
    (∀ j, (x6 j).toNat < 30000) ∧ ∀ j, (x7 j).toNat < 30000 := by
  have h0 := congrFun h (fun a => a.elim0)
  obtain ⟨h6, h7⟩ := IntOp.andi_eq_one.1 h0
  haveI : Subsingleton S_.Idx := ⟨fun a b => funext fun i => i.elim0⟩
  exact ⟨fun j => lt_of_cmp (Host.reduce_andi_all _ _ _ _ _ h6 j), fun j => lt_of_cmp (Host.reduce_andi_all _ _ _ _ _ h7 j)⟩

end Cert.Proof.Range

end
-- ==== Proof.Region.lean ====
/-
  A kernel region of @main in general: a pipeline with prefetched tables whose input windows may share an array, whose body
  reads its input blocks, leaves them in place and writes its output blocks. Its proof data, its body obligation from the
  body's triple, and its segment between two valuations of the core's unscoped buffers.
-/
module

public import Idealize.ShloMosaic.Lib.Pipeline.FrameBody
public import Idealize.ShloMosaic.Lib.Pipeline.RegionsLoop
public import Idealize.ShloMosaic.Lib.Pipeline.RegionArraysT
public import Idealize.ShloMosaic.Lib.Pipeline.FrameSuffix
public import Idealize.ShloMosaic.Lib.Tactic

@[expose] public section

noncomputable section

namespace Cert.Proof.Region

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation BodyObligationLoose RegionSeg PCfg PLaunchFacts₀ shareOf arrRef scopedRest prefHeld pin ucRefs fill_of_clip_none)

variable {nD : Nat} {τ : Topo} {sig : RefSig} {Val : EltTy → Type} [∀ e, Nonempty (Val e)]
variable {Λ₀ : Idealize.SL.Sem.Labels}

local notation "𝕄" => MT nD τ sig Unit Val ℕ (UR sig nD τ) ℕ

section Data

variable (cfg : Pipeline.Cfg sig Λ₀) (c : Dev nD)

/-- The block of its array that window `w`'s staging buffer holds at point `t`. -/
def held (A : (w : Fin cfg.W) → Buf Val ((cfg.win w).arr.view.loc (c.tc : Thread nD τ))) (w : Fin cfg.W) (t : Fin cfg.N) :
    (cfg.win w).block.Idx → Val (cfg.win w).elt :=
  (cfg.win w).fill (cfg.grid.coords t) (fun _ => Classical.arbitrary _) (((cfg.win w).blk t).view.read Val (A w))

/-- The proof data of such a region: arrays `A` at entry, input blocks left in place, output blocks at `out`, invariant `Φ`. -/
def dat (A : (w : Fin cfg.W) → Buf Val ((cfg.win w).arr.view.loc (c.tc : Thread nD τ)))
    (out : (w : Fin cfg.W) → Fin cfg.N → (cfg.win w).block.Idx → Val (cfg.win w).elt) (Φ : sProp 𝕄) :
    Dat τ Val Unit ℕ (UR sig nD τ) ℕ cfg c where
  A := A
  after w t := if (cfg.win w).isOut then out w t else held cfg c A w t
  Φ _ := Φ
  q w := shareOf cfg.spec w
  owed _ := 0

variable {cfg c}
variable (A : (w : Fin cfg.W) → Buf Val ((cfg.win w).arr.view.loc (c.tc : Thread nD τ)))
    (out : (w : Fin cfg.W) → Fin cfg.N → (cfg.win w).block.Idx → Val (cfg.win w).elt)
variable (Φ : sProp (MT nD τ sig Unit Val ℕ (UR sig nD τ) ℕ))

/-- What the body leaves in an input window: its block. -/
theorem after_in (w : Fin cfg.W) (hw : (cfg.win w).isOut = false) (t : Fin cfg.N) :
    (dat cfg c A out Φ).after w t = held cfg c A w t := by
  show (if (cfg.win w).isOut then out w t else held cfg c A w t) = _
  rw [hw]; rfl

/-- What the body leaves in an output window. -/
theorem after_out (w : Fin cfg.W) (hw : (cfg.win w).isOut = true) (t : Fin cfg.N) :
    (dat cfg c A out Φ).after w t = out w t := by
  show (if (cfg.win w).isOut then out w t else held cfg c A w t) = _
  rw [hw]; rfl

/-- An input window's staging buffer holds its block at every point, whether or not it was fetched there. -/
theorem before_in (hidle : ∀ w i, cfg.idle w i = false) (hclip : ∀ w (i : cfg.grid.Coords) a, (cfg.win w).clip i a = none)
    (w : Fin cfg.W) (hw : (cfg.win w).isOut = false) (t : Fin cfg.N) (d : (cfg.win w).block.Idx → Val (cfg.win w).elt) :
    (dat cfg c A out Φ).before w t d = held cfg c A w t := by
  rw [(dat cfg c A out Φ).before_in_eq_fetched w hw (hidle w)
    (fun t t' _ => funext fun a => (hclip w _ a).trans (hclip w _ a).symm)
    (fun t => by rw [after_in A out Φ w hw t]; unfold held; exact Pipeline.Window.cut_fill _ _ _ _) t d]
  unfold Dat.fetched held
  exact fill_of_clip_none w _ (hclip w _) _ _ _

/-- A window's hold before the body: an input's block, anything in an output. -/
def holdPre (t : Fin cfg.N) (w : Fin cfg.W) : sProp 𝕄 :=
  match (cfg.win w).isOut with
  | true => iprop(∃ d, owns (c.tc : Thread nD τ) ((cfg.win w).stage (cfg.slots t w)) fullShare d)
  | false => owns (c.tc : Thread nD τ) ((cfg.win w).stage (cfg.slots t w)) fullShare (held cfg c A w t)

/-- A window's hold after the body: an input's block, an output's result. -/
def holdPost (t : Fin cfg.N) (w : Fin cfg.W) : sProp 𝕄 :=
  match (cfg.win w).isOut with
  | true => owns (c.tc : Thread nD τ) ((cfg.win w).stage (cfg.slots t w)) fullShare (out w t)
  | false => owns (c.tc : Thread nD τ) ((cfg.win w).stage (cfg.slots t w)) fullShare (held cfg c A w t)

/-- Before a point, an input window holds its fetched block. -/
theorem holdPre_in (t : Fin cfg.N) (w : Fin cfg.W) (hw : (cfg.win w).isOut = false) :
    (holdPre A t w : sProp 𝕄) = owns (c.tc : Thread nD τ) ((cfg.win w).stage (cfg.slots t w)) fullShare (held cfg c A w t) := by
  unfold holdPre; rw [hw]

/-- Before a point, an output window may hold anything. -/
theorem holdPre_out (t : Fin cfg.N) (w : Fin cfg.W) (hw : (cfg.win w).isOut = true) :
    (holdPre A t w : sProp 𝕄) = iprop(∃ d, owns (c.tc : Thread nD τ) ((cfg.win w).stage (cfg.slots t w)) fullShare d) := by
  unfold holdPre; rw [hw]

/-- After a point, an input window still holds its fetched block. -/
theorem holdPost_in (t : Fin cfg.N) (w : Fin cfg.W) (hw : (cfg.win w).isOut = false) :
    (holdPost A out t w : sProp 𝕄) = owns (c.tc : Thread nD τ) ((cfg.win w).stage (cfg.slots t w)) fullShare (held cfg c A w t) := by
  unfold holdPost; rw [hw]

/-- After a point, an output window holds what the point stored. -/
theorem holdPost_out (t : Fin cfg.N) (w : Fin cfg.W) (hw : (cfg.win w).isOut = true) :
    (holdPost A out t w : sProp 𝕄) = owns (c.tc : Thread nD τ) ((cfg.win w).stage (cfg.slots t w)) fullShare (out w t) := by
  unfold holdPost; rw [hw]

/-- The body obligation from the body's triple at every point over the windows' staging buffers alone. -/
theorem obligation (defs₀ : Defs nD τ sig Val Λ₀) (𝒱₀ : Variants)
    (hidle : ∀ w i, cfg.idle w i = false) (hclip : ∀ w (i : cfg.grid.Coords) a, (cfg.win w).clip i a = none)
    (htriple : ∀ t : Fin cfg.N, (bigSep Finset.univ fun w => holdPre A t w)
      ⊢ wp frame (wpE defs₀ 𝒱₀ (c.tc : Thread nD τ) none) Set.univ (defs₀ .tc cfg.body (cfg.bodyArgs t (cfg.slots t)))
          fun _ => (bigSep Finset.univ fun w => holdPost A out t w : sProp 𝕄)) :
    BodyObligation (dat cfg c A out Φ) defs₀ 𝒱₀ () Set.univ := fun t => by
  have hpre1 : ∀ w, iprop(∃ d, owns (c.tc : Thread nD τ) ((cfg.win w).stage (cfg.slots t w)) fullShare ((dat cfg c A out Φ).before w t d))
      ⊢ (holdPre A t w : sProp 𝕄) := fun w => by
    cases hw : (cfg.win w).isOut
    · rw [holdPre_in A t w hw]
      iintro ⟨%d, H⟩
      rw [before_in A out Φ hidle hclip w hw t d]
      iexact H
    · rw [holdPre_out A t w hw]
      iintro ⟨%d, H⟩
      iexists _; iexact H
  have hpost1 : ∀ w, (holdPost A out t w : sProp 𝕄)
      ⊢ owns (c.tc : Thread nD τ) ((cfg.win w).stage (cfg.slots t w)) fullShare ((dat cfg c A out Φ).after w t) := fun w => by
    cases hw : (cfg.win w).isOut
    · rw [after_in A out Φ w hw t, holdPost_in A out t w hw]
    · rw [after_out A out Φ w hw t, holdPost_out A out t w hw]
  have hpre : (bigSep Finset.univ fun w => iprop(∃ d, owns (c.tc : Thread nD τ) ((cfg.win w).stage (cfg.slots t w)) fullShare ((dat cfg c A out Φ).before w t d)) : sProp 𝕄)
      ⊢ bigSep Finset.univ fun w => holdPre A t w := bigSep_mono fun w _ => hpre1 w
  have hpost : (bigSep Finset.univ fun w => holdPost A out t w : sProp 𝕄)
      ⊢ bigSep Finset.univ fun w => owns (c.tc : Thread nD τ) ((cfg.win w).stage (cfg.slots t w)) fullShare ((dat cfg c A out Φ).after w t) :=
    bigSep_mono fun w _ => hpost1 w
  have hrun : iprop((Φ ∗ (dat cfg c A out Φ).owesAt () t.castSucc)
        ∗ bigSep Finset.univ fun w => iprop(∃ d, owns (c.tc : Thread nD τ) ((cfg.win w).stage (cfg.slots t w)) fullShare ((dat cfg c A out Φ).before w t d)))
      ⊢ wp frame (wpE defs₀ 𝒱₀ (c.tc : Thread nD τ) none) Set.univ (defs₀ .tc cfg.body (cfg.bodyArgs t (cfg.slots t)))
          fun _ => iprop((Φ ∗ (dat cfg c A out Φ).owesAt () t.castSucc)
            ∗ bigSep Finset.univ fun w => owns (c.tc : Thread nD τ) ((cfg.win w).stage (cfg.slots t w)) fullShare ((dat cfg c A out Φ).after w t)) :=
    (sep_mono .rfl (hpre.trans ((htriple t).trans (wp_mono _ _ _ fun _ => hpost)))).trans (wp_frame_l _ _ _)
  simp only [hidle]
  refine (show _ ⊢ _ from ?_).trans (hrun.trans (wp_mono _ _ _ fun _ => ?_))
  · exact sep_assoc.2
  · exact sep_assoc.1

end Data

section Segment

variable {P : Type} [Fintype P] [DecidableEq P] (pcs : P → PCfg sig Λ₀ Val) (a : (p : P) → (pcs p).Adm)
  (pdats : (p : P) → (c : Dev nD) → Dat τ Val Unit ℕ (UR sig nD τ) ℕ (pin pcs a p) c)
  (defs₀ : Defs nD τ sig Val Λ₀) (𝒱₀ : Variants)

/-- What rides beside the buffers: the core owes nothing. -/
abbrev rest (c : Dev nD) : sProp 𝕄 := iprop(∃ W, owes (c.tc : Thread nD τ) (0 : CellTallies nD τ sig Unit) W)

/-- The invariant of such a region: the scoped buffers no window stages and the prefetched tables, whole. -/
abbrev inv (p : P) (c : Dev nD) : sProp 𝕄 :=
  iprop(scopedRest (pcs p).spec c ∗ prefHeld (pcs p).pre c (fun _ => fullShare) (a p).1)

/-- Pipeline `p`'s region between two valuations of the unscoped buffers: entered at `V`, which has the arrays and the tables
    at what the proof data name, left at `V'`, which has the arrays at their final contents and agrees with `V` elsewhere. -/
def seg (p : P) (kit : PLaunchFacts₀ (nD := nD) (τ := τ) pcs p)
    (hbody : ∀ c, BodyObligationLoose (pdats p c) defs₀ 𝒱₀ () Set.univ)
    (hΦ : ∀ c t, (pdats p c).Φ t = inv pcs a p c)
    (hq : ∀ c w, (pdats p c).q w = shareOf (pin pcs a p).spec w)
    (howed : ∀ c t, (pdats p c).owed t = 0) (hrec : ∀ c t, (pdats p c).recorded t = Set.univ)
    (V V' : Dev nD → Valuation τ sig Val)
    (hA : ∀ c w, (pdats p c).A w = V c (Proc.devRef .tc (arrRef (pin pcs a p).spec w)))
    (hT : ∀ c k, (a p).1 k = V c (Proc.devRef .tc ((pcs p).pre.ref k)))
    (hF : ∀ c w, (pdats p c).arrAt w (pin pcs a p).N = V' c (Proc.devRef .tc (arrRef (pin pcs a p).spec w)))
    (hrest : ∀ c (b : Ref sig .tc), b ∉ Finset.univ.image (arrRef (pin pcs a p).spec) → V' c (Proc.devRef .tc b) = V c (Proc.devRef .tc b)) :
    RegionSeg pcs a pdats () defs₀ 𝒱₀ (fun _ => ∅) (fun _ _ => 0) p where
  win := kit.win
  block_pos := kit.block_pos
  stage_whole := kit.stage_whole
  K := PEmpty
  osem k := k.elim
  ho := Pipeline.OwnSemFacts.none _
  hbody := hbody
  hwaits := Pipeline.hwaits_of_owed_zero pcs a pdats () _ _ p howed
  pre c := iprop(StableHlo.held (c.tc : Thread nD τ) (ucRefs τ sig) (V c) ∗ rest c)
  post c := iprop(StableHlo.held (c.tc : Thread nD τ) (ucRefs τ sig) (V' c) ∗ rest c)
  X _ := iprop(emp)
  Y c := prefHeld (pcs p).pre c (fun _ => fullShare) (a p).1
  Z c := Pipeline.unscopedRestP (pcs p).pre (pin pcs a p).spec c fun b => V c (Proc.devRef .tc b)
  hentry c := by
    rw [← Pipeline.unscopedBufs_held c (V c)]
    have hsplit := Pipeline.arrays_of_unscopedBufs_shared pcs a pdats kit.win kit.sharedIn kit.arr_whole c
      (fun w _ => hq c w) (fun b => V c (Proc.devRef .tc b)) (hA c)
    have hpf : (prefHeld (pcs p).pre c (fun _ => fullShare) (fun k => V c (Proc.devRef .tc ((pcs p).pre.ref k))) : sProp 𝕄)
        = prefHeld (pcs p).pre c (fun _ => fullShare) (a p).1 := by
      congr 1; exact funext fun k => (hT c k).symm
    have hr := Pipeline.unscopedRest_split (Ix := Unit) (Name := ℕ) (U := UR sig nD τ) (Lvl := ℕ) (Val := Val) kit.pre c (fun b => V c (Proc.devRef .tc b))
    rw [hpf] at hr
    iintro ⟨⟨Hub, HO⟩, -, -⟩
    ihave H := (hsplit.trans (sep_mono .rfl (Entails.of_eq hr))) $$ Hub
    icases H with ⟨Ha, Ht, Hz⟩
    imodintro
    isplitl [Ha]; · iexact Ha
    isplitl [Ht]; · iexact Ht
    isplitl [HO]
    · unfold Pipeline.Dat.owesAt Pipeline.owesWithin Pipeline.Dat.bound
      rw [howed c 0, hrec c]
      icases HO with ⟨%W, HO⟩; iexists W; isplitr; · ipureintro; exact fun _ _ => Or.inl trivial
      iexact HO
    isplitr; · iempintro
    iexact Hz
  hin c := by
    rw [hΦ c]
    iintro ⟨-, Ht, Hr⟩
    isplitl [Hr] <;> iassumption
  hout c := by
    rw [hΦ c, Pipeline.ownSems0_none]
    iintro ⟨Hr, Ht⟩
    isplitl [Ht]; · iexact Ht
    isplitr; · iempintro
    iexact Hr
  hexit c := by
    rw [← Pipeline.unscopedBufs_held c (V' c)]
    have hjoin := Pipeline.unscopedBufs_of_arrays_shared pcs a kit.win kit.sharedIn kit.arr_whole c pdats
      (fun w _ => hq c w) (fun b => V c (Proc.devRef .tc b)) (fun b => V' c (Proc.devRef .tc b))
      ((pdats p c).arrAt · (pin pcs a p).N) (hF c) (hrest c)
    have hpf : (prefHeld (pcs p).pre c (fun _ => fullShare) (fun k => V c (Proc.devRef .tc ((pcs p).pre.ref k))) : sProp 𝕄)
        = prefHeld (pcs p).pre c (fun _ => fullShare) (a p).1 := by
      congr 1; exact funext fun k => (hT c k).symm
    have hr := Pipeline.unscopedRest_split (Ix := Unit) (Name := ℕ) (U := UR sig nD τ) (Lvl := ℕ) (Val := Val) kit.pre c (fun b => V c (Proc.devRef .tc b))
    rw [hpf] at hr
    iintro ⟨Ha, HO, HY, HZ⟩
    imodintro
    isplitr [HO]
    · iapply (show iprop((pdats p c).arrays ((pdats p c).arrAt · (pin pcs a p).N) ∗ (prefHeld (pcs p).pre c (fun _ => fullShare) (a p).1
          ∗ Pipeline.unscopedRestP (pcs p).pre (pin pcs a p).spec c fun b => V c (Proc.devRef .tc b))) ⊢ _ from
        (sep_mono .rfl (Entails.of_eq hr.symm)).trans hjoin)
      isplitl [Ha]; · iexact Ha
      isplitl [HY] <;> iassumption
    · unfold Pipeline.Dat.owesAt Pipeline.owesWithin
      rw [howed c]
      icases HO with ⟨%W, -, HO⟩; iexists W; iexact HO

/-- The buffers as region `p` leaves them, entered at `V`: its arrays at their final contents. -/
def leave (p : P) (V : Dev nD → Valuation τ sig Val) (c : Dev nD) : Valuation τ sig Val :=
  Pipeline.withArrays (pin pcs a p).spec c (V c) fun w => (pdats p c).arrAt w (pin pcs a p).N

/-- A buffer that is no array of the region is left as it was. -/
theorem leave_of_ne (p : P) (V : Dev nD → Valuation τ sig Val) (c : Dev nD) (b : Ref sig .tc) (hb : ∀ w, arrRef (pin pcs a p).spec w ≠ b) :
    leave pcs a pdats p V c (Proc.devRef .tc b) = V c (Proc.devRef .tc b) :=
  Pipeline.withArrays_of_ne _ c (V c) _ b hb

/-- Pipeline `p`'s region from the valuation `V` to the one it leaves. -/
def segOf (p : P) (kit : PLaunchFacts₀ (nD := nD) (τ := τ) pcs p)
    (hbody : ∀ c, BodyObligation (pdats p c) defs₀ 𝒱₀ () Set.univ)
    (hΦ : ∀ c t, (pdats p c).Φ t = inv pcs a p c)
    (hq : ∀ c w, (pdats p c).q w = shareOf (pin pcs a p).spec w)
    (howed : ∀ c t, (pdats p c).owed t = 0) (hrec : ∀ c t, (pdats p c).recorded t = Set.univ)
    (V : Dev nD → Valuation τ sig Val)
    (hA : ∀ c w, (pdats p c).A w = V c (Proc.devRef .tc (arrRef (pin pcs a p).spec w)))
    (hT : ∀ c k, (a p).1 k = V c (Proc.devRef .tc ((pcs p).pre.ref k))) :
    RegionSeg pcs a pdats () defs₀ 𝒱₀ (fun _ => ∅) (fun _ _ => 0) p :=
  seg pcs a pdats defs₀ 𝒱₀ p kit (fun c => (hbody c).loose) hΦ hq howed hrec V (leave pcs a pdats p V) hA hT
    (fun c w => (Dat.withArrays_arrAt (pdats p c) kit.sharedIn (V c) (hA c) w).symm)
    (fun c b hb => leave_of_ne pcs a pdats p V c b fun w e => hb (Finset.mem_image.mpr ⟨w, Finset.mem_univ _, e⟩))

end Segment

end Cert.Proof.Region

end
-- ==== Proof.Host.lean ====
/-
  The host's arithmetic on values: the flattened index tables, the seed table, the paired row arrays and the joined distances,
  each as one function of its operands, with the entries a flattened table holds.
-/
module

public import Idealize.ShloMosaic.Lib.Pipeline.Value

@[expose] public section

noncomputable section

namespace Cert.Proof.Host

open Idealize.ShloMosaic

abbrev Ids : Shape := ⟨3, ![12, 16, 512]⟩
abbrev Ids1 : Shape := ⟨3, ![1, 16, 512]⟩
abbrev Ids0 : Shape := ⟨2, ![16, 512]⟩
abbrev Ids2 : Shape := ⟨3, ![2, 16, 512]⟩
abbrev Ids4 : Shape := ⟨4, ![2, 16, 16, 32]⟩
abbrev Flat : Shape := ⟨1, ![16384]⟩
abbrev Pairs : Shape := ⟨2, ![512, 2]⟩
abbrev Pairs1 : Shape := ⟨2, ![512, 1]⟩
abbrev Seed : Shape := ⟨1, ![512]⟩
abbrev Seeds : Shape := ⟨1, ![1024]⟩
abbrev Rows (D : ℕ) : Shape := ⟨2, ![512, D]⟩
abbrev Rows1 (D : ℕ) : Shape := ⟨3, ![1, 512, D]⟩
abbrev Rows2 (D : ℕ) : Shape := ⟨3, ![2, 512, D]⟩
abbrev Table (D : ℕ) : Shape := ⟨2, ![30000, D]⟩
abbrev Table3 (D : ℕ) : Shape := ⟨3, ![30000, 1, D]⟩
abbrev Column : Shape := ⟨3, ![512, 32, 1]⟩
abbrev Long : Shape := ⟨1, ![32768]⟩
abbrev Dists : Shape := ⟨2, ![256, 128]⟩

variable {α : Type}

/-- One slab is a slice of the twelve. -/
theorem slices_ids (p : Fin 12) : Ids.Slices ![p.val, 0, 0] Ids1 := by revert p; decide
/-- The two shapes of this reshape have the same number of entries. -/
theorem casts_ids : Ids1.ShapeCasts Ids0 := by decide
/-- A slab of indices gains a leading axis. -/
theorem bcast_ids : Ids0.BroadcastsInDim Ids1 (![1, 2] : Fin 2 → Fin Ids1.rank) := by decide
/-- Two slabs of indices join along the first axis. -/
theorem concats_ids : Shape.Concatenates [Ids1, Ids1] Ids2 0 := by decide
/-- The two shapes of this reshape have the same number of entries. -/
theorem casts_ids4 : Ids2.ShapeCasts Ids4 := by decide
/-- The joined slabs may have their middle axes exchanged. -/
theorem transposes_ids : Ids4.Transposes [0, 2, 1, 3] Ids4 := by decide
/-- The two shapes of this reshape have the same number of entries. -/
theorem casts_flat : Ids4.ShapeCasts Flat := by decide

/-- Table `p` of the twelve. -/
def pick (p : Fin 12) (x : Ids.Idx → α) : Ids0.Idx → α :=
  shapeCast Ids0 (extractStridedSlice Ids1 ![p.val, 0, 0] x (slices_ids p)) casts_ids

/-- Tables `p` and `q` in the kernel's order: side, column group, row, column in the group. -/
def flat (p q : Fin 12) (x : Ids.Idx → α) : Flat.Idx → α :=
  shapeCast Flat (transpose Ids4 [0, 2, 1, 3] (shapeCast Ids4 (concatenate Ids2 0
    [⟨Ids1, broadcastInDim Ids1 ![1, 2] bcast_ids (pick p x)⟩, ⟨Ids1, broadcastInDim Ids1 ![1, 2] bcast_ids (pick q x)⟩] concats_ids) casts_ids4)
    transposes_ids) casts_flat

/-- One side is a slice of the pairs. -/
theorem slices_pairs (s : Fin 2) : Pairs.Slices ![0, s.val] Pairs1 := by revert s; decide
/-- The two shapes of this reshape have the same number of entries. -/
theorem casts_pairs : Pairs1.ShapeCasts Seed := by decide
/-- The two sides of the pairs join. -/
theorem concats_seeds : Shape.Concatenates [Seed, Seed] Seeds 0 := by decide

/-- Column `s` of the pairs. -/
def side (s : Fin 2) (x : Pairs.Idx → α) : Seed.Idx → α :=
  shapeCast Seed (extractStridedSlice Pairs1 ![0, s.val] x (slices_pairs s)) casts_pairs

/-- The pairs' first column, then their second. -/
def seeds (x : Pairs.Idx → α) : Seeds.Idx → α :=
  concatenate Seeds 0 [⟨Seed, side 0 x⟩, ⟨Seed, side 1 x⟩] concats_seeds

/-- The two shapes of this reshape have the same number of entries. -/
theorem casts_table (D : ℕ) : (Table D).ShapeCasts (Table3 D) := by
  unfold Shape.ShapeCasts; simp [Shape.numel, Fin.prod_univ_succ]

/-- A table with a unit axis between its rows and columns. -/
def table {D : ℕ} (x : (Table D).Idx → α) : (Table3 D).Idx → α := shapeCast (Table3 D) x (casts_table D)

/-- A table of rows gains a leading axis. -/
theorem bcast_rows (D : ℕ) : (Rows D).BroadcastsInDim (Rows1 D) (![1, 2] : Fin 2 → Fin (Rows1 D).rank) := by
  refine ⟨(by decide : Function.Injective (![1, 2] : Fin 2 → Fin 3)), fun a => ?_⟩
  fin_cases a
  · exact Or.inr rfl
  · exact Or.inr rfl

/-- Two tables of rows join along the first axis. -/
theorem concats_rows (D : ℕ) : Shape.Concatenates [Rows1 D, Rows1 D] (Rows2 D) 0 := by
  refine ⟨by simp, fun s hs => ?_, by simp⟩
  simp at hs
  subst hs
  refine ⟨rfl, fun b hb => ?_⟩
  fin_cases b
  · exact absurd rfl hb
  · rfl
  · rfl

/-- Two arrays of rows, one above the other. -/
def stack {D : ℕ} (x y : (Rows D).Idx → α) : (Rows2 D).Idx → α :=
  concatenate (Rows2 D) 0 [⟨Rows1 D, broadcastInDim (Rows1 D) ![1, 2] (bcast_rows D) x⟩, ⟨Rows1 D, broadcastInDim (Rows1 D) ![1, 2] (bcast_rows D) y⟩] (concats_rows D)

/-- The two shapes of this reshape have the same number of entries. -/
theorem casts_column : Column.ShapeCasts Flat := by decide
/-- Two columns of distances join. -/
theorem concats_long : Shape.Concatenates [Flat, Flat] Long 0 := by decide
/-- The two shapes of this reshape have the same number of entries. -/
theorem casts_long : Long.ShapeCasts Dists := by decide

/-- Two columns of sums, end to end, as 256 rows of 128. -/
def join (x y : Column.Idx → α) : Dists.Idx → α :=
  shapeCast Dists (concatenate Long 0 [⟨Flat, shapeCast Flat x casts_column⟩, ⟨Flat, shapeCast Flat y casts_column⟩] concats_long) casts_long

end Cert.Proof.Host

end
-- ==== Proof.HostApply.lean ====
/-
  What each of the host's functions holds at an index: the entry of the operand it is.
-/
module

public import proofs.«01_k».proof.Proof.Host
public import Idealize.ShloMosaic.Lib.Pointwise.Index

@[expose] public section

noncomputable section

namespace Cert.Proof.Host

open Idealize.ShloMosaic

variable {α : Type}

/-- A table of the twelve at a row and column. -/
theorem pick_apply (p : Fin 12) (x : Ids.Idx → α) (k : Fin 16) (l : Fin 512) : pick p x (ix2 k l) = x (ix3 p k l) := by
  unfold pick
  refine (shapeCast_apply _ casts_ids (ix2 k l) (ix3 (0 : Fin 1) k l) ?_).trans ?_
  · rw [Shape.rowMajor_val_three, Shape.rowMajor_val_two]; simp
  · refine extractStridedSlice_apply _ x _ _ _ fun a => ?_
    fin_cases a <;> simp [ix3]

/-- Two tables stacked, at a side, a row and a column. -/
theorem stackIds_apply (x y : Ids0.Idx → α) (s : Fin 2) (k : Fin 16) (l : Fin 512) :
    concatenate Ids2 0 [⟨Ids1, broadcastInDim Ids1 ![1, 2] bcast_ids x⟩, ⟨Ids1, broadcastInDim Ids1 ![1, 2] bcast_ids y⟩] concats_ids (ix3 s k l)
      = if s = 0 then x (ix2 k l) else y (ix2 k l) := by
  fin_cases s
  · refine (concatenate_pair_apply_left (t := Ids2) 0 _ _ concats_ids _ rfl (ix3 (0 : Fin 1) k l) fun b => ?_).trans ?_
    · fin_cases b <;> rfl
    · refine broadcastInDim_apply _ bcast_ids x _ (ix2 k l) fun a => ?_
      fin_cases a <;> rfl
  · refine (concatenate_pair_apply_right (t := Ids2) 0 _ _ concats_ids _ rfl rfl (ix3 (0 : Fin 1) k l) (fun b hb => ?_) ?_).trans ?_
    · fin_cases b
      · exact absurd rfl hb
      · rfl
      · rfl
    · rfl
    · refine broadcastInDim_apply _ bcast_ids y _ (ix2 k l) fun a => ?_
      fin_cases a <;> rfl

/-- The position of a side, a column group, a row and a column of the group in a flattened table. -/
def place (s : Fin 2) (g k : Fin 16) (r : Fin 32) : Fin 16384 :=
  ⟨((s.val * 16 + g.val) * 16 + k.val) * 32 + r.val, by omega⟩

/-- A column from its group and its place in the group. -/
def column (g : Fin 16) (r : Fin 32) : Fin 512 := ⟨g.val * 32 + r.val, by omega⟩

/-- A flattened table at a place. -/
theorem flat_apply (p q : Fin 12) (x : Ids.Idx → α) (s : Fin 2) (g k : Fin 16) (r : Fin 32) :
    flat p q x (ix1 (place s g k r)) = x (ix3 (if s = 0 then p else q) k (column g r)) := by
  unfold flat
  refine (shapeCast_apply _ casts_flat _ (ix4 s g k r) ?_).trans ?_
  · rw [Shape.rowMajor_val_four, Shape.rowMajor_val_one]; simp [place, ix4, ix1]
  refine (transpose_apply _ _ transposes_ids _ (ix4 s k g r) fun b => ?_).trans ?_
  · fin_cases b <;> rfl
  refine (shapeCast_apply _ casts_ids4 _ (ix3 s k (column g r)) ?_).trans ?_
  · rw [Shape.rowMajor_val_four, Shape.rowMajor_val_three]; simp [column, ix4, ix3]; omega
  rw [stackIds_apply, pick_apply, pick_apply]
  split <;> rfl

/-- Every position of a flattened table is a place. -/
theorem exists_place (n : Fin 16384) : ∃ s g k r, n = place s g k r :=
  ⟨⟨n.val / 8192, by omega⟩, ⟨n.val / 512 % 16, by omega⟩, ⟨n.val / 32 % 16, by omega⟩, ⟨n.val % 32, by omega⟩, by
    apply Fin.ext; simp only [place]; omega⟩

/-- What holds of every entry of the twelve tables holds of every entry of a flattened one. -/
theorem flat_forall {P : α → Prop} (p q : Fin 12) (x : Ids.Idx → α) (h : ∀ j, P (x j)) (n : Flat.Idx) : P (flat p q x n) := by
  rw [eq_ix1 n]
  obtain ⟨s, g, k, r, hn⟩ := exists_place (n 0)
  rw [show (n 0 : Fin 16384) = place s g k r from hn, flat_apply]
  exact h _

/-- One column of the pairs. -/
theorem side_apply (s : Fin 2) (x : Pairs.Idx → α) (l : Fin 512) : side s x (ix1 l) = x (ix2 l s) := by
  unfold side
  refine (shapeCast_apply _ casts_pairs _ (ix2 l (0 : Fin 1)) ?_).trans ?_
  · rw [Shape.rowMajor_val_two, Shape.rowMajor_val_one]; simp [ix2, ix1]
  · refine extractStridedSlice_apply _ x _ _ _ fun a => ?_
    fin_cases a <;> simp [ix2]

/-- The position of a side and a pair in the seed table. -/
def seat (s : Fin 2) (l : Fin 512) : Fin 1024 := ⟨512 * s.val + l.val, by omega⟩

/-- Every position of the seed table is a seat. -/
theorem exists_seat (n : Fin 1024) : ∃ s l, n = seat s l :=
  ⟨⟨n.val / 512, by omega⟩, ⟨n.val % 512, by omega⟩, by apply Fin.ext; simp only [seat]; omega⟩

/-- The seed table at side `s`, pair `l`. -/
theorem seeds_apply (x : Pairs.Idx → α) (s : Fin 2) (l : Fin 512) : seeds x (ix1 (seat s l)) = x (ix2 l s) := by
  unfold seeds
  fin_cases s
  · refine (concatenate_pair_apply_left (t := Seeds) 0 _ _ concats_seeds _ rfl (ix1 l) fun b => ?_).trans (side_apply 0 x l)
    fin_cases b; simp [ix1, seat]
  · refine (concatenate_pair_apply_right (t := Seeds) 0 _ _ concats_seeds _ rfl rfl (ix1 l) (fun b hb => ?_) ?_).trans (side_apply 1 x l)
    · fin_cases b; exact absurd rfl hb
    · simp [ix1, seat]; omega

/-- What holds of every entry of the pairs holds of every entry of the seed table. -/
theorem seeds_forall {P : α → Prop} (x : Pairs.Idx → α) (h : ∀ j, P (x j)) (n : Seeds.Idx) : P (seeds x n) := by
  rw [eq_ix1 n]
  obtain ⟨s, l, hn⟩ := exists_seat (n 0)
  rw [show (n 0 : Fin 1024) = seat s l from hn, seeds_apply]
  exact h _

/-- A table's row under the unit axis. -/
theorem table_apply {D : ℕ} (x : (Table D).Idx → α) (n : Fin 30000) (d : Fin D) : table x (ix3 n (0 : Fin 1) d) = x (ix2 n d) := by
  refine shapeCast_apply _ (casts_table D) _ (ix2 n d) ?_
  rw [Shape.rowMajor_val_two, Shape.rowMajor_val_three]; show n.val * D + d.val = (n.val * 1 + 0) * D + d.val; simp

/-- Two arrays of rows stacked, at a side, a row and a coordinate. -/
theorem stack_apply {D : ℕ} (x y : (Rows D).Idx → α) (s : Fin 2) (l : Fin 512) (d : Fin D) :
    stack x y (ix3 s l d) = if s = 0 then x (ix2 l d) else y (ix2 l d) := by
  unfold stack
  have hb : ∀ z : (Rows D).Idx → α, broadcastInDim (Rows1 D) ![1, 2] (bcast_rows D) z (ix3 (0 : Fin 1) l d) = z (ix2 l d) := fun z => by
    refine broadcastInDim_apply _ (bcast_rows D) z _ (ix2 l d) fun a => ?_
    fin_cases a
    · rfl
    · show d.val = if D = 1 then 0 else d.val
      split
      · have := d.isLt; omega
      · rfl
  fin_cases s
  · refine (concatenate_pair_apply_left (t := Rows2 D) 0 _ _ (concats_rows D) _ rfl (ix3 (0 : Fin 1) l d) fun b => ?_).trans (hb x)
    fin_cases b <;> rfl
  · refine (concatenate_pair_apply_right (t := Rows2 D) 0 _ _ (concats_rows D) _ rfl rfl (ix3 (0 : Fin 1) l d) (fun b hb => ?_) rfl).trans (hb y)
    fin_cases b
    · exact absurd rfl hb
    · rfl
    · rfl

end Cert.Proof.Host

end
-- ==== Proof.Ideal.Stretch.lean ====
/-
  What each host stretch leaves in the buffers the calls read: the index tables, the row tables and the arrays between the calls,
  each as a function of the buffers the stretch starts from.
-/
module

public import proofs.«01_k».proof.Proof.Host
public import proofs.«01_k».proof.Proof.Gen.KernelIdeal.Launch
public import Idealize.ShloMosaic.Lib.StableHlo.Run

@[expose] public section

set_option maxRecDepth 10000
set_option maxHeartbeats 4000000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Proof Cert.KernelIdeal.Gen

variable {F : FTy → Type} [FloatOps F] [Named F] (V : Valuation τ sig (Elt F))

/-- The seed table. -/
theorem seeds_of : (StableHlo.after hostOps0 V (Proc.devRef .tc main_v4) : (⟨_, _⟩ : BufTy).Contents (Elt F)) = Host.seeds (V (Proc.devRef .tc main_arg6)) := by
  simp only [hostOps0]
  after_results_simp
  rfl

/-- Table 0 as the gather call reads it. -/
theorem table0_0 : (StableHlo.after hostOps0 V (Proc.devRef .tc main_v5) : (⟨_, _⟩ : BufTy).Contents (Elt F)) = Host.table (V (Proc.devRef .tc main_arg0)) := by
  simp only [hostOps0]
  after_results_simp
  rfl

/-- Table 1 as the gather call reads it. -/
theorem table0_1 : (StableHlo.after hostOps0 V (Proc.devRef .tc main_v6) : (⟨_, _⟩ : BufTy).Contents (Elt F)) = Host.table (V (Proc.devRef .tc main_arg1)) := by
  simp only [hostOps0]
  after_results_simp
  rfl

/-- Table 2 as the gather call reads it. -/
theorem table0_2 : (StableHlo.after hostOps0 V (Proc.devRef .tc main_v7) : (⟨_, _⟩ : BufTy).Contents (Elt F)) = Host.table (V (Proc.devRef .tc main_arg2)) := by
  simp only [hostOps0]
  after_results_simp
  rfl

/-- Table 3 as the gather call reads it. -/
theorem table0_3 : (StableHlo.after hostOps0 V (Proc.devRef .tc main_v8) : (⟨_, _⟩ : BufTy).Contents (Elt F)) = Host.table (V (Proc.devRef .tc main_arg3)) := by
  simp only [hostOps0]
  after_results_simp
  rfl

/-- Table 4 as the gather call reads it. -/
theorem table0_4 : (StableHlo.after hostOps0 V (Proc.devRef .tc main_v9) : (⟨_, _⟩ : BufTy).Contents (Elt F)) = Host.table (V (Proc.devRef .tc main_arg4)) := by
  simp only [hostOps0]
  after_results_simp
  rfl

/-- Table 5 as the gather call reads it. -/
theorem table0_5 : (StableHlo.after hostOps0 V (Proc.devRef .tc main_v10) : (⟨_, _⟩ : BufTy).Contents (Elt F)) = Host.table (V (Proc.devRef .tc main_arg5)) := by
  simp only [hostOps0]
  after_results_simp
  rfl

/-- The gathered rows of group 0, one side above the other. -/
theorem stack_0 : (StableHlo.after hostOps1 V (Proc.devRef .tc main_v14) : (⟨_, _⟩ : BufTy).Contents (Elt F)) = Host.stack (V (Proc.devRef .tc main_v11_0)) (V (Proc.devRef .tc main_v11_1)) := by
  simp only [hostOps1]
  after_results_simp
  rfl

/-- The gathered rows of group 1, one side above the other. -/
theorem stack_1 : (StableHlo.after hostOps1 V (Proc.devRef .tc main_v17) : (⟨_, _⟩ : BufTy).Contents (Elt F)) = Host.stack (V (Proc.devRef .tc main_v11_2)) (V (Proc.devRef .tc main_v11_3)) := by
  simp only [hostOps1]
  after_results_simp
  rfl

/-- The gathered rows of group 2, one side above the other. -/
theorem stack_2 : (StableHlo.after hostOps1 V (Proc.devRef .tc main_v20) : (⟨_, _⟩ : BufTy).Contents (Elt F)) = Host.stack (V (Proc.devRef .tc main_v11_4)) (V (Proc.devRef .tc main_v11_5)) := by
  simp only [hostOps1]
  after_results_simp
  rfl

/-- The index table of distance call 1. -/
theorem flat_1 : (StableHlo.after hostOps1 V (Proc.devRef .tc main_v30) : (⟨_, _⟩ : BufTy).Contents (Elt F)) = Host.flat 0 3 (V (Proc.devRef .tc main_arg7)) := by
  simp only [hostOps1]
  after_results_simp
  rfl

/-- The row table of distance call 1. -/
theorem table_1 : (StableHlo.after hostOps1 V (Proc.devRef .tc main_v31) : (⟨_, _⟩ : BufTy).Contents (Elt F)) = Host.table (V (Proc.devRef .tc main_arg0)) := by
  simp only [hostOps1]
  after_results_simp
  rfl

/-- The index table of distance call 2. -/
theorem flat_2 : (StableHlo.after hostOps2 V (Proc.devRef .tc main_v42) : (⟨_, _⟩ : BufTy).Contents (Elt F)) = Host.flat 1 2 (V (Proc.devRef .tc main_arg7)) := by
  simp only [hostOps2]
  after_results_simp
  rfl

/-- The row table of distance call 2. -/
theorem table_2 : (StableHlo.after hostOps2 V (Proc.devRef .tc main_v43) : (⟨_, _⟩ : BufTy).Contents (Elt F)) = Host.table (V (Proc.devRef .tc main_arg1)) := by
  simp only [hostOps2]
  after_results_simp
  rfl

/-- The index table of distance call 3. -/
theorem flat_3 : (StableHlo.after hostOps3 V (Proc.devRef .tc main_v54) : (⟨_, _⟩ : BufTy).Contents (Elt F)) = Host.flat 4 7 (V (Proc.devRef .tc main_arg7)) := by
  simp only [hostOps3]
  after_results_simp
  rfl

/-- The row table of distance call 3. -/
theorem table_3 : (StableHlo.after hostOps3 V (Proc.devRef .tc main_v55) : (⟨_, _⟩ : BufTy).Contents (Elt F)) = Host.table (V (Proc.devRef .tc main_arg2)) := by
  simp only [hostOps3]
  after_results_simp
  rfl

/-- The index table of distance call 4. -/
theorem flat_4 : (StableHlo.after hostOps4 V (Proc.devRef .tc main_v66) : (⟨_, _⟩ : BufTy).Contents (Elt F)) = Host.flat 5 6 (V (Proc.devRef .tc main_arg7)) := by
  simp only [hostOps4]
  after_results_simp
  rfl

/-- The row table of distance call 4. -/
theorem table_4 : (StableHlo.after hostOps4 V (Proc.devRef .tc main_v67) : (⟨_, _⟩ : BufTy).Contents (Elt F)) = Host.table (V (Proc.devRef .tc main_arg3)) := by
  simp only [hostOps4]
  after_results_simp
  rfl

/-- The index table of distance call 5. -/
theorem flat_5 : (StableHlo.after hostOps5 V (Proc.devRef .tc main_v78) : (⟨_, _⟩ : BufTy).Contents (Elt F)) = Host.flat 8 11 (V (Proc.devRef .tc main_arg7)) := by
  simp only [hostOps5]
  after_results_simp
  rfl

/-- The row table of distance call 5. -/
theorem table_5 : (StableHlo.after hostOps5 V (Proc.devRef .tc main_v79) : (⟨_, _⟩ : BufTy).Contents (Elt F)) = Host.table (V (Proc.devRef .tc main_arg4)) := by
  simp only [hostOps5]
  after_results_simp
  rfl

/-- The index table of distance call 6. -/
theorem flat_6 : (StableHlo.after hostOps6 V (Proc.devRef .tc main_v90) : (⟨_, _⟩ : BufTy).Contents (Elt F)) = Host.flat 9 10 (V (Proc.devRef .tc main_arg7)) := by
  simp only [hostOps6]
  after_results_simp
  rfl

/-- The row table of distance call 6. -/
theorem table_6 : (StableHlo.after hostOps6 V (Proc.devRef .tc main_v91) : (⟨_, _⟩ : BufTy).Contents (Elt F)) = Host.table (V (Proc.devRef .tc main_arg5)) := by
  simp only [hostOps6]
  after_results_simp
  rfl

/-- The distances of group 0. -/
theorem join_0 : (StableHlo.after hostOps7 V (Proc.devRef .tc main_v96) : (⟨_, _⟩ : BufTy).Contents (Elt F)) = Host.join (V (Proc.devRef .tc main_v32)) (V (Proc.devRef .tc main_v44)) := by
  simp only [hostOps7]
  after_results_simp
  rfl

/-- The distances of group 1. -/
theorem join_1 : (StableHlo.after hostOps7 V (Proc.devRef .tc main_v100) : (⟨_, _⟩ : BufTy).Contents (Elt F)) = Host.join (V (Proc.devRef .tc main_v56)) (V (Proc.devRef .tc main_v68)) := by
  simp only [hostOps7]
  after_results_simp
  rfl

/-- The distances of group 2. -/
theorem join_2 : (StableHlo.after hostOps7 V (Proc.devRef .tc main_v104) : (⟨_, _⟩ : BufTy).Contents (Elt F)) = Host.join (V (Proc.devRef .tc main_v80)) (V (Proc.devRef .tc main_v92)) := by
  simp only [hostOps7]
  after_results_simp
  rfl

/-- The result: the reduction's one element. -/
theorem result_of : (StableHlo.after hostOps8 V (Proc.devRef .tc main_v106) : (⟨_, _⟩ : BufTy).Contents (Elt F)) = shapeCast S_ (V (Proc.devRef .tc main_v105)) shapeCasts_S1x1_S_ := by
  simp only [hostOps8]
  after_results_simp
  rfl

end Cert.KernelIdeal.Run

end
-- ==== Proof.Ideal.Tables.lean ====
/-
  The prefetched index tables of the calls, as the host stretches leave them from the launch's memory, and that they name rows
  of the tables they index when every entry of the two index arguments does.
-/
module

public import proofs.«01_k».proof.Proof.HostApply
public import proofs.«01_k».proof.Proof.Ideal.Stretch
public import proofs.«01_k».proof.Proof.Gen.KernelIdeal.Launch
public import proofs.«01_k».proof.Proof.Gen.KernelIdeal.Regions

@[expose] public section

set_option maxRecDepth 10000
set_option maxHeartbeats 4000000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Proof Cert.KernelIdeal.Gen

variable {F : FTy → Type} [FloatOps F] [Named F]

/-- A word below 30000 names a row of a table of 30000 rows. -/
theorem names_row {w : BitVec 32} (h : w.toNat < 30000) (D : ℕ) :
    ∀ a : Fin 3, ((![w.toNat, 0, 0] : Fin 3 → ℕ) a + 1) * (![1, 1, D] : Fin 3 → ℕ) a ≤ (![30000, 1, D] : Fin 3 → ℕ) a := by
  intro a
  fin_cases a
  · show (w.toNat + 1) * 1 ≤ 30000
    omega
  · show (0 + 1) * 1 ≤ 1
    omega
  · show (0 + 1) * D ≤ D
    omega

variable (m : (ℓ : Loc nD τ sig) → Buf (Elt F) ℓ)

/-- Every entry of the index arguments names a row of the tables. -/
def Rows : Prop :=
  (∀ j, ((m (0, Proc.devRef .tc main_arg6) : (⟨_, _⟩ : BufTy).Contents (Elt F)) j : BitVec 32).toNat < 30000)
    ∧ ∀ j, ((m (0, Proc.devRef .tc main_arg7) : (⟨_, _⟩ : BufTy).Contents (Elt F)) j : BitVec 32).toNat < 30000

/-- The prefetched table of call 0. -/
def tab0 : pre0.Contents (Elt F) := fun k => StableHlo.after hostOps0 (V0 m 0) (Proc.devRef .tc (pre0.ref k))

/-- Every entry of the seed table names a row. -/
theorem tab0_lt (h : Rows m) (n : Shape.Idx _) : ((tab0 m 0 : (⟨_, _⟩ : BufTy).Contents (Elt F)) n : BitVec 32).toNat < 30000 := by
  rw [show (tab0 m 0 : (⟨_, _⟩ : BufTy).Contents (Elt F)) = Host.seeds (V0 m 0 (Proc.devRef .tc main_arg6)) from seeds_of (V0 m 0)]
  exact Host.seeds_forall (P := fun w : BitVec 32 => w.toNat < 30000) _ h.1 n

/-- Every window's block at every point of the gather call is a row of its table. -/
theorem tab0_ok (h : Rows m) : ok0 (tab0 m) := by
  unfold ok0
  repeat' apply And.intro
  all_goals first
    | exact fun i => ⟨names_row (tab0_lt m h _) 256, .inl rfl⟩
    | exact fun i => ⟨names_row (tab0_lt m h _) 300, .inl rfl⟩
    | exact fun i => ⟨names_row (tab0_lt m h _) 128, .inl rfl⟩

/-- The prefetched table of call 1. -/
def tab1 : pre1.Contents (Elt F) := fun k => StableHlo.after hostOps1 (V0 m 0) (Proc.devRef .tc (pre1.ref k))

/-- Every entry of call 1's table names a row. -/
theorem tab1_lt (h : Rows m) (n : Shape.Idx _) : ((tab1 m 0 : (⟨_, _⟩ : BufTy).Contents (Elt F)) n : BitVec 32).toNat < 30000 := by
  rw [show (tab1 m 0 : (⟨_, _⟩ : BufTy).Contents (Elt F)) = Host.flat 0 3 (V0 m 0 (Proc.devRef .tc main_arg7)) from flat_1 (V0 m 0)]
  exact Host.flat_forall (P := fun w : BitVec 32 => w.toNat < 30000) 0 3 _ h.2 n

/-- Every window's block at every point of call 1 is a row of its table. -/
theorem tab1_ok (h : Rows m) : ok1 (tab1 m) := by
  unfold ok1
  repeat' apply And.intro
  all_goals exact fun i => ⟨names_row (tab1_lt m h _) 256, .inl rfl⟩

/-- The prefetched table of call 2. -/
def tab2 : pre2.Contents (Elt F) := fun k => StableHlo.after hostOps2 (V0 m 0) (Proc.devRef .tc (pre2.ref k))

/-- Every entry of call 2's table names a row. -/
theorem tab2_lt (h : Rows m) (n : Shape.Idx _) : ((tab2 m 0 : (⟨_, _⟩ : BufTy).Contents (Elt F)) n : BitVec 32).toNat < 30000 := by
  rw [show (tab2 m 0 : (⟨_, _⟩ : BufTy).Contents (Elt F)) = Host.flat 1 2 (V0 m 0 (Proc.devRef .tc main_arg7)) from flat_2 (V0 m 0)]
  exact Host.flat_forall (P := fun w : BitVec 32 => w.toNat < 30000) 1 2 _ h.2 n

/-- Every window's block at every point of call 2 is a row of its table. -/
theorem tab2_ok (h : Rows m) : ok2 (tab2 m) := by
  unfold ok2
  repeat' apply And.intro
  all_goals exact fun i => ⟨names_row (tab2_lt m h _) 256, .inl rfl⟩

/-- The prefetched table of call 3. -/
def tab3 : pre3.Contents (Elt F) := fun k => StableHlo.after hostOps3 (V0 m 0) (Proc.devRef .tc (pre3.ref k))

/-- Every entry of call 3's table names a row. -/
theorem tab3_lt (h : Rows m) (n : Shape.Idx _) : ((tab3 m 0 : (⟨_, _⟩ : BufTy).Contents (Elt F)) n : BitVec 32).toNat < 30000 := by
  rw [show (tab3 m 0 : (⟨_, _⟩ : BufTy).Contents (Elt F)) = Host.flat 4 7 (V0 m 0 (Proc.devRef .tc main_arg7)) from flat_3 (V0 m 0)]
  exact Host.flat_forall (P := fun w : BitVec 32 => w.toNat < 30000) 4 7 _ h.2 n

/-- Every window's block at every point of call 3 is a row of its table. -/
theorem tab3_ok (h : Rows m) : ok3 (tab3 m) := by
  unfold ok3
  repeat' apply And.intro
  all_goals exact fun i => ⟨names_row (tab3_lt m h _) 300, .inl rfl⟩

/-- The prefetched table of call 4. -/
def tab4 : pre4.Contents (Elt F) := fun k => StableHlo.after hostOps4 (V0 m 0) (Proc.devRef .tc (pre4.ref k))

/-- Every entry of call 4's table names a row. -/
theorem tab4_lt (h : Rows m) (n : Shape.Idx _) : ((tab4 m 0 : (⟨_, _⟩ : BufTy).Contents (Elt F)) n : BitVec 32).toNat < 30000 := by
  rw [show (tab4 m 0 : (⟨_, _⟩ : BufTy).Contents (Elt F)) = Host.flat 5 6 (V0 m 0 (Proc.devRef .tc main_arg7)) from flat_4 (V0 m 0)]
  exact Host.flat_forall (P := fun w : BitVec 32 => w.toNat < 30000) 5 6 _ h.2 n

/-- Every window's block at every point of call 4 is a row of its table. -/
theorem tab4_ok (h : Rows m) : ok4 (tab4 m) := by
  unfold ok4
  repeat' apply And.intro
  all_goals exact fun i => ⟨names_row (tab4_lt m h _) 300, .inl rfl⟩

/-- The prefetched table of call 5. -/
def tab5 : pre5.Contents (Elt F) := fun k => StableHlo.after hostOps5 (V0 m 0) (Proc.devRef .tc (pre5.ref k))

/-- Every entry of call 5's table names a row. -/
theorem tab5_lt (h : Rows m) (n : Shape.Idx _) : ((tab5 m 0 : (⟨_, _⟩ : BufTy).Contents (Elt F)) n : BitVec 32).toNat < 30000 := by
  rw [show (tab5 m 0 : (⟨_, _⟩ : BufTy).Contents (Elt F)) = Host.flat 8 11 (V0 m 0 (Proc.devRef .tc main_arg7)) from flat_5 (V0 m 0)]
  exact Host.flat_forall (P := fun w : BitVec 32 => w.toNat < 30000) 8 11 _ h.2 n

/-- Every window's block at every point of call 5 is a row of its table. -/
theorem tab5_ok (h : Rows m) : ok5 (tab5 m) := by
  unfold ok5
  repeat' apply And.intro
  all_goals exact fun i => ⟨names_row (tab5_lt m h _) 128, .inl rfl⟩

/-- The prefetched table of call 6. -/
def tab6 : pre6.Contents (Elt F) := fun k => StableHlo.after hostOps6 (V0 m 0) (Proc.devRef .tc (pre6.ref k))

/-- Every entry of call 6's table names a row. -/
theorem tab6_lt (h : Rows m) (n : Shape.Idx _) : ((tab6 m 0 : (⟨_, _⟩ : BufTy).Contents (Elt F)) n : BitVec 32).toNat < 30000 := by
  rw [show (tab6 m 0 : (⟨_, _⟩ : BufTy).Contents (Elt F)) = Host.flat 9 10 (V0 m 0 (Proc.devRef .tc main_arg7)) from flat_6 (V0 m 0)]
  exact Host.flat_forall (P := fun w : BitVec 32 => w.toNat < 30000) 9 10 _ h.2 n

/-- Every window's block at every point of call 6 is a row of its table. -/
theorem tab6_ok (h : Rows m) : ok6 (tab6 m) := by
  unfold ok6
  repeat' apply And.intro
  all_goals exact fun i => ⟨names_row (tab6_lt m h _) 128, .inl rfl⟩

/-- The admissible tables of the eight calls. -/
def adm (h : Rows m) : (p : Fin 8) → (pcfgs (F := F) p).Adm := fun
  | ⟨0, _⟩ => ⟨tab0 m, tab0_ok m h⟩
  | ⟨1, _⟩ => ⟨tab1 m, tab1_ok m h⟩
  | ⟨2, _⟩ => ⟨tab2 m, tab2_ok m h⟩
  | ⟨3, _⟩ => ⟨tab3 m, tab3_ok m h⟩
  | ⟨4, _⟩ => ⟨tab4 m, tab4_ok m h⟩
  | ⟨5, _⟩ => ⟨tab5 m, tab5_ok m h⟩
  | ⟨6, _⟩ => ⟨tab6 m, tab6_ok m h⟩
  | ⟨7, _⟩ => cfg7.toPCfg_adm

end Cert.KernelIdeal.Run

end
-- ==== Proof.Steps.lean ====
/-
  What single loads and stores of a kernel body do to staging buffers held as vectors, and from those two whole body
  patterns: loading a family of one-row blocks, and copying one-row blocks into the rows of an eight-row block.
-/
module

public import Idealize.ShloMosaic.Lib.Tactic
public import Idealize.ShloMosaic.Lib.Memref
public import Idealize.ShloMosaic.Lib.Pipeline.FrameBody

@[expose] public section

noncomputable section

namespace Cert.Proof.Steps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {F : FTy → Type} [FloatOps F]
variable {Λ : Idealize.SL.Sem.Labels}

local notation "𝕄" => MT nD τ sig Unit (Elt F) ℕ (UR sig nD τ) ℕ

variable {defs : Defs nD τ sig (Elt F) Λ} (𝒱 : Variants) (c : Dev nD) (E : Set ℕ)
variable {s : Shape} {e : EltTy} {α : Type} {Q : α → sProp (MT nD τ sig Unit (Elt F) ℕ (UR sig nD τ) ℕ)}

/-- A load through a rectangle of a memref held as a vector reads that vector on the rectangle. -/
theorem wp_load_owns {m : Memref sig .tc .vmem s e} {r : Rect s} {hl : m.view.LoadsAt r.toLoadRect}
    {k : (r.shape.Idx → Elt F e) → Prog (TpuEff nD τ sig (Elt F) Λ .tc) α} {q : PosShare TreeShare} {x : s.Idx → Elt F e} :
    (owns (c.tc : Thread nD τ) m q x : sProp 𝕄)
      ⊢ iprop((owns (c.tc : Thread nD τ) m q x -∗ wp frame (wpE defs 𝒱 (c.tc : Thread nD τ) none) E (k fun j => x (r.emb j)) Q)
        -∗ wp frame (wpE defs 𝒱 (c.tc : Thread nD τ) none) E (.op (.load m r.toLoadRect hl) k) Q) := by
  unfold owns
  iintro ⟨%f, %hf, H⟩ Hk
  subst hf
  iapply (wp_load_rect (defs := defs) 𝒱 (c.tc : Thread nD τ) none E (S := m.view.set) (f := f) (q := q) (hl := hl) (k := k) (Q := Q)
    (View.set_slice_subset _ _)) $$ H
  iintro H
  iapply Hk
  iexists f
  isplitr; · ipureintro; rfl
  iexact H

/-- A vector with the elements of a rectangle replaced. -/
def put (r : Rect s) (w : r.shape.Idx → Elt F e) (x : s.Idx → Elt F e) : s.Idx → Elt F e :=
  fun y => open Classical in if h : ∃ j, r.emb j = y then w h.choose else x y

/-- A stored block is read back at its own places. -/
theorem put_emb (r : Rect s) (w : r.shape.Idx → Elt F e) (x : s.Idx → Elt F e) (j : r.shape.Idx) : put r w x (r.emb j) = w j := by
  unfold put
  have h : ∃ j', r.emb j' = r.emb j := ⟨j, rfl⟩
  rw [dif_pos h]
  exact congrArg w (r.emb.injective h.choose_spec)

/-- Storing a block changes nothing outside it. -/
theorem put_of_not (r : Rect s) (w : r.shape.Idx → Elt F e) (x : s.Idx → Elt F e) (y : s.Idx) (h : ¬ ∃ j, r.emb j = y) : put r w x y = x y := by
  unfold put; rw [dif_neg h]

/-- An unmasked store through a rectangle of a memref held as a vector replaces the vector's elements there. -/
theorem wp_store_owns {m : Memref sig .tc .vmem s e} {r : Rect s} {w : r.shape.Idx → Elt F e}
    {hx : (m.access r).Stores Finset.univ} {hm : Finset.univ = Finset.univ ∨ ∀ a, r.stride a = 1}
    {k : PUnit → Prog (TpuEff nD τ sig (Elt F) Λ .tc) α} {x : s.Idx → Elt F e} :
    (owns (c.tc : Thread nD τ) m fullShare x : sProp 𝕄)
      ⊢ iprop((owns (c.tc : Thread nD τ) m fullShare (put r w x) -∗ wp frame (wpE defs 𝒱 (c.tc : Thread nD τ) none) E (k ⟨⟩) Q)
        -∗ wp frame (wpE defs 𝒱 (c.tc : Thread nD τ) none) E (.op (.store m r w Finset.univ hx hm) k) Q) := by
  unfold owns
  iintro ⟨%f, %hf, H⟩ Hk
  subst hf
  iapply (wp_store (defs := defs) 𝒱 (c.tc : Thread nD τ) none E (S := m.view.set) (f := f) (hx := hx) (hm := hm) (w := w) (k := k) (Q := Q)
    (View.set_slice_subset _ _)) $$ H
  iintro H
  iapply Hk
  iexists _
  isplitr
  swap
  · iexact H
  ipureintro
  funext y
  by_cases h : ∃ j, r.emb j = y
  · obtain ⟨j, rfl⟩ := h
    rw [put_emb]; exact View.read_slice_write_emb r f w (Finset.mem_univ j)
  · rw [put_of_not r w _ y h]
    exact View.read_slice_write_of_not_mem r f w Finset.univ fun hm => h (by
      obtain ⟨j, -, hj⟩ := Finset.mem_map.mp hm; exact ⟨j, hj⟩)

/-- A family of assertions beside one more, as a right-nested separating conjunction. -/
def stars : (n : ℕ) → (Fin n → sProp 𝕄) → sProp 𝕄 → sProp 𝕄
  | 0, _, R => R
  | n + 1, f, R => iprop(f 0 ∗ stars n (fun i => f i.succ) R)

/-- A family over 34 windows: the first 32, then the last two. -/
theorem bigSep_34 (Φ : Fin 34 → sProp 𝕄) :
    bigSep Finset.univ Φ = stars 32 (fun i => Φ (i.castLE (by decide))) iprop(Φ 32 ∗ Φ 33) :=
  bigSep_univ_eq_bigSepL (List.finRange 34) (by decide) (List.nodup_finRange 34) Φ

/-- Window `8 k + i` of 54. -/
abbrev nth54 (k : Fin 6) (i : Fin 8) : Fin 54 := ⟨8 * k.val + i.val, by omega⟩

/-- A family over 54 windows: six eights, then the last six. -/
theorem bigSep_54 (Φ : Fin 54 → sProp 𝕄) :
    bigSep Finset.univ Φ = stars 8 (fun i => Φ (nth54 0 i)) (stars 8 (fun i => Φ (nth54 1 i)) (stars 8 (fun i => Φ (nth54 2 i))
      (stars 8 (fun i => Φ (nth54 3 i)) (stars 8 (fun i => Φ (nth54 4 i)) (stars 8 (fun i => Φ (nth54 5 i))
        iprop(Φ 48 ∗ Φ 49 ∗ Φ 50 ∗ Φ 51 ∗ Φ 52 ∗ Φ 53)))))) :=
  bigSep_univ_eq_bigSepL (List.finRange 54) (by decide) (List.nodup_finRange 54) Φ

/-- The last assertion apart from the family. -/
theorem stars_split (n : ℕ) (f : Fin n → sProp 𝕄) (R : sProp 𝕄) : stars n f R = iprop(stars n f iprop(emp) ∗ R) := by
  induction n with
  | zero => exact (BI.equiv_iff.mp BI.emp_sep).symm
  | succ n ih =>
    unfold stars
    rw [ih (fun i => f i.succ)]
    exact (BI.equiv_iff.mp ⟨BI.sep_assoc, BI.sep_assoc'⟩).symm

/-- The same, each eight apart. -/
theorem bigSep_54' (Φ : Fin 54 → sProp 𝕄) :
    bigSep Finset.univ Φ = iprop(stars 8 (fun i => Φ (nth54 0 i)) iprop(emp) ∗ stars 8 (fun i => Φ (nth54 1 i)) iprop(emp) ∗ stars 8 (fun i => Φ (nth54 2 i)) iprop(emp)
      ∗ stars 8 (fun i => Φ (nth54 3 i)) iprop(emp) ∗ stars 8 (fun i => Φ (nth54 4 i)) iprop(emp) ∗ stars 8 (fun i => Φ (nth54 5 i)) iprop(emp)
      ∗ Φ 48 ∗ Φ 49 ∗ Φ 50 ∗ Φ 51 ∗ Φ 52 ∗ Φ 53) := by
  rw [bigSep_54, stars_split 8 _ (stars _ _ _), stars_split 8 _ (stars _ _ (stars _ _ (stars _ _ (stars _ _ _)))), stars_split 8 _ (stars _ _ (stars _ _ (stars _ _ _))),
    stars_split 8 _ (stars _ _ (stars _ _ _)), stars_split 8 _ (stars _ _ _), stars_split 8 _ iprop(Φ 48 ∗ _)]

/-- The one-row block's shape. -/
abbrev Row (D : ℕ) : Shape := ⟨3, ![1, 1, D]⟩

/-- The rectangle that is the whole of a one-row block. -/
abbrev rowAll (D : ℕ) : Rect (Row D) := Rect.unit (s := Row D) ![0, 0, 0] (Row D).size (by intro a; fin_cases a <;> simp)

/-- A unit-step rectangle at offset zero embeds each index as itself. -/
theorem unit_zero_emb (s : Shape) (off : Fin s.rank → ℕ) (h0 : ∀ a, off a = 0) (inb) (j : s.Idx) : (Rect.unit (s := s) off s.size inb).emb j = j :=
  funext fun a => Fin.ext (by
    rw [Rect.emb_apply]
    show off a + 1 * (j a).val = (j a).val
    rw [h0 a]; omega)

/-- A load of a whole memref held as a vector reads the vector. -/
theorem wp_load_all {m : Memref sig .tc .vmem s e} {off : Fin s.rank → ℕ} (h0 : ∀ a, off a = 0) {inb} {hl : m.view.LoadsAt (Rect.unit (s := s) off s.size inb).toLoadRect}
    {k : (s.Idx → Elt F e) → Prog (TpuEff nD τ sig (Elt F) Λ .tc) α} {q : PosShare TreeShare} {x : s.Idx → Elt F e} :
    (owns (c.tc : Thread nD τ) m q x : sProp 𝕄)
      ⊢ iprop((owns (c.tc : Thread nD τ) m q x -∗ wp frame (wpE defs 𝒱 (c.tc : Thread nD τ) none) E (k x) Q)
        -∗ wp frame (wpE defs 𝒱 (c.tc : Thread nD τ) none) E (.op (.load m (Rect.unit (s := s) off s.size inb).toLoadRect hl) k) Q) := by
  have h := wp_load_owns (defs := defs) 𝒱 c E (m := m) (r := Rect.unit (s := s) off s.size inb) (hl := hl) (k := k) (q := q) (x := x) (Q := Q)
  rwa [show (fun j => x ((Rect.unit (s := s) off s.size inb).emb j)) = x from funext fun j => congrArg x (unit_zero_emb s off h0 inb j)] at h

/-- A store of a whole memref leaves it holding the vector stored. -/
theorem wp_store_all {m : Memref sig .tc .vmem s e} {off : Fin s.rank → ℕ} (h0 : ∀ a, off a = 0) {inb} {w : s.Idx → Elt F e}
    {hx : (m.access (Rect.unit (s := s) off s.size inb)).Stores Finset.univ} {hm}
    {k : PUnit → Prog (TpuEff nD τ sig (Elt F) Λ .tc) α} {x : s.Idx → Elt F e} :
    (owns (c.tc : Thread nD τ) m fullShare x : sProp 𝕄)
      ⊢ iprop((owns (c.tc : Thread nD τ) m fullShare w -∗ wp frame (wpE defs 𝒱 (c.tc : Thread nD τ) none) E (k ⟨⟩) Q)
        -∗ wp frame (wpE defs 𝒱 (c.tc : Thread nD τ) none) E (.op (.store m (Rect.unit (s := s) off s.size inb) w Finset.univ hx hm) k) Q) := by
  have h := wp_store_owns (defs := defs) 𝒱 c E (m := m) (r := Rect.unit (s := s) off s.size inb) (w := w) (hx := hx) (hm := hm) (k := k) (x := x) (Q := Q)
  rwa [show put (Rect.unit (s := s) off s.size inb) w x = w from funext fun j => by
    have := put_emb (Rect.unit (s := s) off s.size inb) w x j
    rwa [unit_zero_emb s off h0 inb j] at this] at h

/-- The program that loads a family of one-row blocks whole, in order, and continues with what it read. -/
def loadAll {D : ℕ} (hD : 0 < (Row D).numel) : (n : ℕ) → (Fin n → Memref sig .tc .vmem (Row D) .f32)
    → ((Fin n → Vec F (Row D) .f32) → Prog (TpuEff nD τ sig (Elt F) Λ .tc) α) → Prog (TpuEff nD τ sig (Elt F) Λ .tc) α
  | 0, _, k => k fun i => i.elim0
  | n + 1, a, k => .op (.load (a 0) (rowAll D).toLoadRect (View.loadsAt_vmem hD)) fun x =>
      loadAll hD n (fun i => a i.succ) fun xs => k (Fin.cons x xs)

/-- Loading a family of one-row blocks reads what they hold and changes none of them. -/
theorem wp_loadAll {D : ℕ} (hD : 0 < (Row D).numel) (n : ℕ) (a : Fin n → Memref sig .tc .vmem (Row D) .f32) (x : Fin n → Vec F (Row D) .f32)
    (k : (Fin n → Vec F (Row D) .f32) → Prog (TpuEff nD τ sig (Elt F) Λ .tc) α) (R : sProp 𝕄) :
    stars n (fun i => owns (c.tc : Thread nD τ) (a i) fullShare (x i)) R
      ⊢ iprop((stars n (fun i => owns (c.tc : Thread nD τ) (a i) fullShare (x i)) R -∗ wp frame (wpE defs 𝒱 (c.tc : Thread nD τ) none) E (k x) Q)
        -∗ wp frame (wpE defs 𝒱 (c.tc : Thread nD τ) none) E (loadAll hD n a k) Q) := by
  induction n with
  | zero =>
    iintro H Hk
    rw [show x = fun i => i.elim0 from funext fun i => i.elim0]
    iapply Hk; iexact H
  | succ n ih =>
    unfold loadAll stars
    iintro ⟨H0, H⟩ Hk
    iapply (wp_load_all (defs := defs) 𝒱 c E (x := x 0) (by intro a; fin_cases a <;> rfl)) $$ H0
    iintro H0
    iapply (ih (fun i => a i.succ) (fun i => x i.succ) _) $$ H
    iintro H
    rw [show (Fin.cons (x 0) fun i => x i.succ : Fin (n + 1) → Vec F (Row D) .f32) = x from Fin.cons_self_tail x]
    iapply Hk
    isplitl [H0] <;> iassumption

end Cert.Proof.Steps

end
-- ==== Proof.Gather.lean ====
/-
  One grid point of the gather call, for rows of any width: eight one-row blocks are copied into the eight rows of a tile,
  each row of the tile loaded (and not used) before it is stored. What the program of one table does to its tile.
-/
module

public import proofs.«01_k».proof.Proof.Steps
public import Idealize.ShloMosaic.Lib.Pipeline.Value

@[expose] public section

noncomputable section

namespace Cert.Proof.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Steps

variable {F : FTy → Type} [FloatOps F]

/-- The eight-row tile, one of its rows as a matrix, and a row as a vector. -/
abbrev Tile (D : ℕ) : Shape := ⟨2, ![8, D]⟩
abbrev Line (D : ℕ) : Shape := ⟨2, ![1, D]⟩
abbrev Flat (D : ℕ) : Shape := ⟨1, ![D]⟩

/-- The two shapes of this reshape have the same number of entries. -/
theorem casts_row (D : ℕ) : (Row D).ShapeCasts (Flat D) := by
  unfold Shape.ShapeCasts; simp [Shape.numel, Fin.prod_univ_succ]

/-- The two shapes of this reshape have the same number of entries. -/
theorem casts_flat (D : ℕ) : (Flat D).ShapeCasts (Line D) := by
  unfold Shape.ShapeCasts; simp [Shape.numel, Fin.prod_univ_succ]

/-- Row k of a tile of eight lies inside the tile. -/
theorem row_inb (D : ℕ) (k : Fin 8) : ∀ a, (![k.val, 0] : Fin 2 → ℕ) a + (Line D).size a ≤ (Tile D).size a := by
  intro a
  fin_cases a
  · show k.val + 1 ≤ 8; omega
  · show 0 + D ≤ D; omega

/-- The rectangle that is row `k` of a tile. -/
abbrev rowOf (D : ℕ) (k : Fin 8) : Rect (Tile D) := Rect.unit (s := Tile D) ![k.val, 0] (Line D).size (row_inb D k)

/-- A one-row block as a row of a tile. -/
abbrev asLine {D : ℕ} (x : Vec F (Row D) .f32) : Vec F (Line D) .f32 := shapeCast (Line D) (shapeCast (Flat D) x (casts_row D)) (casts_flat D)

/-- The index of a one-row block at column `d`. -/
def rowAt {D : ℕ} (d : Fin D) : (Row D).Idx := fun a => match a with
  | ⟨0, _⟩ => ⟨0, Nat.one_pos⟩
  | ⟨1, _⟩ => ⟨0, Nat.one_pos⟩
  | ⟨2, _⟩ => d

/-- A row reshaped to a line keeps its entries. -/
theorem asLine_apply {D : ℕ} (x : Vec F (Row D) .f32) (j : (Line D).Idx) : asLine x j = x (rowAt (j 1)) := by
  unfold asLine
  have h0 : (j 0).val = 0 := by have := (j 0).isLt; simp at this; omega
  rw [shapeCast_apply _ (casts_flat D) j (fun a => match a with | ⟨0, _⟩ => j 1) (by
    rw [Shape.rowMajor_val_one, Shape.rowMajor_val_two, h0]
    show (j 1).val = 0 * D + (j 1).val
    omega)]
  exact shapeCast_apply _ (casts_row D) _ (rowAt (j 1)) (by
    rw [Shape.rowMajor_val_one, Shape.rowMajor_val_three]
    show (0 * 1 + 0) * D + (j 1).val = (j 1).val
    omega)

/-- The row of an index of a tile. -/
def rowNo {D : ℕ} (j : (Tile D).Idx) : Fin 8 := j 0

/-- A tile whose row `k` is block `k`. -/
def tile {D : ℕ} (xs : Fin 8 → Vec F (Row D) .f32) : Vec F (Tile D) .f32 := fun j => xs (rowNo j) (rowAt (j 1))

/-- A tile after some of its rows have been stored. -/
def putRows {D : ℕ} (xs : Fin 8 → Vec F (Row D) .f32) : List (Fin 8) → Vec F (Tile D) .f32 → Vec F (Tile D) .f32
  | [], y => y
  | k :: ks, y => putRows xs ks (put (e := .f32) (rowOf D k) (asLine (xs k)) y)

/-- Storing one row of a tile changes exactly that row. -/
theorem put_row_apply {D : ℕ} (x : Vec F (Row D) .f32) (k : Fin 8) (y : Vec F (Tile D) .f32) (j : (Tile D).Idx) :
    put (e := .f32) (rowOf D k) (asLine x) y j = if rowNo j = k then x (rowAt (j 1)) else y j := by
  by_cases h : rowNo j = k
  · rw [if_pos h]
    let i : (rowOf D k).shape.Idx := fun a => match a with
      | ⟨0, _⟩ => ⟨0, Nat.one_pos⟩
      | ⟨1, _⟩ => j 1
    have hi : (rowOf D k).emb i = j := funext fun a => Fin.ext (by
      rw [Rect.emb_apply]
      match a with
      | ⟨0, _⟩ => show k.val + 1 * 0 = (rowNo j).val; rw [h]; omega
      | ⟨1, _⟩ => show 0 + 1 * (j 1).val = (j 1).val; omega)
    have hp := put_emb (e := .f32) (rowOf D k) (asLine x) y i
    rw [hi] at hp
    rw [hp]
    exact asLine_apply x i
  · rw [if_neg h]
    refine put_of_not _ _ _ _ ?_
    rintro ⟨i, hi⟩
    refine h (Fin.ext ?_)
    rw [← hi]
    have h0 : (i 0).val = 0 := by have : (i 0).val < 1 := (i 0).isLt; omega
    show k.val + 1 * (i 0).val = k.val
    rw [h0]; omega

/-- Storing the listed rows of a tile changes exactly those rows. -/
theorem putRows_apply {D : ℕ} (xs : Fin 8 → Vec F (Row D) .f32) (ks : List (Fin 8)) (y : Vec F (Tile D) .f32) (j : (Tile D).Idx) :
    putRows xs ks y j = if rowNo j ∈ ks then tile xs j else y j := by
  induction ks generalizing y with
  | nil => rw [putRows, if_neg List.not_mem_nil]
  | cons k ks ih =>
    rw [putRows, ih, put_row_apply]
    by_cases h1 : rowNo j ∈ ks
    · rw [if_pos h1, if_pos (List.mem_cons_of_mem _ h1)]
    · rw [if_neg h1]
      by_cases h2 : rowNo j = k
      · rw [if_pos h2, if_pos (by rw [h2]; exact List.mem_cons_self), ← h2]; rfl
      · rw [if_neg h2, if_neg (by
          intro hm; rcases List.mem_cons.mp hm with hm | hm
          · exact h2 hm
          · exact h1 hm)]

/-- All eight rows, in the order the program stores them. -/
abbrev allRows : List (Fin 8) := [0, 1, 2, 3, 4, 5, 6, 7]

/-- Storing all eight rows leaves the tile of the rows. -/
theorem putRows_all {D : ℕ} (xs : Fin 8 → Vec F (Row D) .f32) (y : Vec F (Tile D) .f32) : putRows xs allRows y = tile xs :=
  funext fun j => by rw [putRows_apply, if_pos (by have : ∀ i : Fin 8, i ∈ allRows := by decide
                                                   exact this (rowNo j))]

variable {nD : Nat} {τ : Topo} {sig : RefSig} {Λ : Idealize.SL.Sem.Labels} {α : Type}

/-- The program of one table: for each row, the block loaded, the tile's row loaded, the tile's row stored. -/
def copyRows {D : ℕ} (hr : 0 < (Row D).numel) (hl : 0 < (Line D).numel) (a : Fin 8 → Memref sig .tc .vmem (Row D) .f32)
    (o : Memref sig .tc .vmem (Tile D) .f32) : List (Fin 8) → Prog (TpuEff nD τ sig (Elt F) Λ .tc) α → Prog (TpuEff nD τ sig (Elt F) Λ .tc) α
  | [], k => k
  | i :: is, k =>
    .op (.load (a i) (rowAll D).toLoadRect (View.loadsAt_vmem hr)) fun x =>
    .op (.load o (rowOf D i).toLoadRect (View.loadsAt_vmem hl)) fun _ =>
    .op (.store o (rowOf D i) (asLine x) Finset.univ (View.stores_vmem_bits_univ hl rfl) (.inl rfl)) fun _ =>
    copyRows hr hl a o is k

local notation "𝕄" => MT nD τ sig Unit (Elt F) ℕ (UR sig nD τ) ℕ

/-- One member of a family of assertions, and the way back. -/
theorem stars_access (n : ℕ) (f : Fin n → sProp 𝕄) (i : Fin n) : stars n f iprop(emp) ⊢ iprop(f i ∗ (f i -∗ stars n f iprop(emp))) := by
  induction n with
  | zero => exact i.elim0
  | succ n ih =>
    unfold stars
    refine Fin.cases ?_ (fun i => ?_) i
    · iintro ⟨H0, H⟩
      isplitl [H0]; · iexact H0
      iintro H0
      isplitl [H0] <;> iassumption
    · iintro ⟨H0, H⟩
      ihave H2 := (ih (fun i => f i.succ) i) $$ H
      icases H2 with ⟨Hi, Hb⟩
      isplitl [Hi]; · iexact Hi
      iintro Hi
      isplitl [H0]; · iexact H0
      iapply Hb; iexact Hi

variable {defs : Defs nD τ sig (Elt F) Λ} (𝒱 : Variants) (c : Dev nD) (E : Set ℕ)
variable {Q : α → sProp (MT nD τ sig Unit (Elt F) ℕ (UR sig nD τ) ℕ)}

/-- The program of one table stores the rows it lists and leaves the blocks as they were. -/
theorem wp_copyRows {D : ℕ} (hr : 0 < (Row D).numel) (hl : 0 < (Line D).numel) (a : Fin 8 → Memref sig .tc .vmem (Row D) .f32)
    (o : Memref sig .tc .vmem (Tile D) .f32) (xs : Fin 8 → Vec F (Row D) .f32) (ks : List (Fin 8)) (k : Prog (TpuEff nD τ sig (Elt F) Λ .tc) α)
    (y : Vec F (Tile D) .f32) :
    stars 8 (fun i => owns (c.tc : Thread nD τ) (a i) fullShare (xs i)) iprop(emp)
      ⊢ iprop(owns (c.tc : Thread nD τ) o fullShare y
        -∗ (stars 8 (fun i => owns (c.tc : Thread nD τ) (a i) fullShare (xs i)) iprop(emp) -∗ owns (c.tc : Thread nD τ) o fullShare (putRows xs ks y)
            -∗ wp frame (wpE defs 𝒱 (c.tc : Thread nD τ) none) E k Q)
        -∗ wp frame (wpE defs 𝒱 (c.tc : Thread nD τ) none) E (copyRows hr hl a o ks k) Q) := by
  induction ks generalizing y with
  | nil =>
    iintro Ha Ho Hk
    unfold copyRows putRows
    iapply Hk $$ Ha
    iexact Ho
  | cons i is ih =>
    unfold copyRows
    iintro Ha Ho Hk
    ihave H2 := (stars_access 8 _ i) $$ Ha
    icases H2 with ⟨Hi, Hb⟩
    iapply (wp_load_all (defs := defs) 𝒱 c E (x := xs i) (by intro a; fin_cases a <;> rfl)) $$ Hi
    iintro Hi
    ihave Ha := Hb $$ Hi
    iapply (wp_load_owns (defs := defs) 𝒱 c E (x := y)) $$ Ho
    iintro Ho
    iapply (wp_store_owns (defs := defs) 𝒱 c E (x := y)) $$ Ho
    iintro Ho
    iapply (ih _) $$ Ha Ho
    iexact Hk

/-- All eight rows: the tile ends as the blocks' rows whatever it held. -/
theorem wp_copyAll {D : ℕ} (hr : 0 < (Row D).numel) (hl : 0 < (Line D).numel) (a : Fin 8 → Memref sig .tc .vmem (Row D) .f32)
    (o : Memref sig .tc .vmem (Tile D) .f32) (xs : Fin 8 → Vec F (Row D) .f32) (k : Prog (TpuEff nD τ sig (Elt F) Λ .tc) α) :
    stars 8 (fun i => owns (c.tc : Thread nD τ) (a i) fullShare (xs i)) iprop(emp)
      ⊢ iprop((∃ d, owns (c.tc : Thread nD τ) o fullShare d)
        -∗ (stars 8 (fun i => owns (c.tc : Thread nD τ) (a i) fullShare (xs i)) iprop(emp) -∗ owns (c.tc : Thread nD τ) o fullShare (tile xs)
            -∗ wp frame (wpE defs 𝒱 (c.tc : Thread nD τ) none) E k Q)
        -∗ wp frame (wpE defs 𝒱 (c.tc : Thread nD τ) none) E (copyRows hr hl a o allRows k) Q) := by
  iintro Ha ⟨%d, Ho⟩ Hk
  iapply (wp_copyRows (defs := defs) 𝒱 c E hr hl a o xs allRows k d) $$ Ha Ho
  rw [putRows_all]
  iexact Hk

end Cert.Proof.Gather

end
-- ==== Proof.Ideal.Body0.lean ====
/-
  The gather call: which staging buffers its program reads and writes at a point, and that a point leaves the gathered rows.
-/
module

public import proofs.«01_k».proof.Proof.Region
public import proofs.«01_k».proof.Proof.Gather
public import proofs.«01_k».proof.Proof.Gen.KernelIdeal.Launch

@[expose] public section

set_option maxRecDepth 10000
set_option maxHeartbeats 4000000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Proof Cert.Proof.Steps Cert.KernelIdeal.Gen

variable {F : FTy → Type} [FloatOps F] [Named F]

local notation "𝕄" => MT nD τ sig Unit (Elt F) ℕ (UR sig nD τ) ℕ

variable (a : (pcfg0 (F := F)).Adm) (c : Dev nD) (A : (w : Fin (cfg0 a).W) → Buf (Elt F) (((cfg0 a).win w).arr.view.loc (c.tc : Thread nD τ)))

/-- Table 0's eight one-row staging buffers at a point, and the rows in them. -/
def mems0_0 (t : Fin (cfg0 a).N) : Fin 8 → Memref sig .tc .vmem (Row 256) .f32 :=
  ![(spec0_0.stage ((cfg0 a).slots t 0)), (spec0_1.stage ((cfg0 a).slots t 1)), (spec0_2.stage ((cfg0 a).slots t 2)), (spec0_3.stage ((cfg0 a).slots t 3)), (spec0_4.stage ((cfg0 a).slots t 4)), (spec0_5.stage ((cfg0 a).slots t 5)), (spec0_6.stage ((cfg0 a).slots t 6)), (spec0_7.stage ((cfg0 a).slots t 7))]
def rows0_0 (t : Fin (cfg0 a).N) : Fin 8 → Vec F (Row 256) .f32 :=
  ![(Region.held (cfg0 a) c A 0 t), (Region.held (cfg0 a) c A 1 t), (Region.held (cfg0 a) c A 2 t), (Region.held (cfg0 a) c A 3 t), (Region.held (cfg0 a) c A 4 t), (Region.held (cfg0 a) c A 5 t), (Region.held (cfg0 a) c A 6 t), (Region.held (cfg0 a) c A 7 t)]

/-- Table 1's eight one-row staging buffers at a point, and the rows in them. -/
def mems0_1 (t : Fin (cfg0 a).N) : Fin 8 → Memref sig .tc .vmem (Row 256) .f32 :=
  ![(spec0_8.stage ((cfg0 a).slots t 8)), (spec0_9.stage ((cfg0 a).slots t 9)), (spec0_10.stage ((cfg0 a).slots t 10)), (spec0_11.stage ((cfg0 a).slots t 11)), (spec0_12.stage ((cfg0 a).slots t 12)), (spec0_13.stage ((cfg0 a).slots t 13)), (spec0_14.stage ((cfg0 a).slots t 14)), (spec0_15.stage ((cfg0 a).slots t 15))]
def rows0_1 (t : Fin (cfg0 a).N) : Fin 8 → Vec F (Row 256) .f32 :=
  ![(Region.held (cfg0 a) c A 8 t), (Region.held (cfg0 a) c A 9 t), (Region.held (cfg0 a) c A 10 t), (Region.held (cfg0 a) c A 11 t), (Region.held (cfg0 a) c A 12 t), (Region.held (cfg0 a) c A 13 t), (Region.held (cfg0 a) c A 14 t), (Region.held (cfg0 a) c A 15 t)]

/-- Table 2's eight one-row staging buffers at a point, and the rows in them. -/
def mems0_2 (t : Fin (cfg0 a).N) : Fin 8 → Memref sig .tc .vmem (Row 300) .f32 :=
  ![(spec0_16.stage ((cfg0 a).slots t 16)), (spec0_17.stage ((cfg0 a).slots t 17)), (spec0_18.stage ((cfg0 a).slots t 18)), (spec0_19.stage ((cfg0 a).slots t 19)), (spec0_20.stage ((cfg0 a).slots t 20)), (spec0_21.stage ((cfg0 a).slots t 21)), (spec0_22.stage ((cfg0 a).slots t 22)), (spec0_23.stage ((cfg0 a).slots t 23))]
def rows0_2 (t : Fin (cfg0 a).N) : Fin 8 → Vec F (Row 300) .f32 :=
  ![(Region.held (cfg0 a) c A 16 t), (Region.held (cfg0 a) c A 17 t), (Region.held (cfg0 a) c A 18 t), (Region.held (cfg0 a) c A 19 t), (Region.held (cfg0 a) c A 20 t), (Region.held (cfg0 a) c A 21 t), (Region.held (cfg0 a) c A 22 t), (Region.held (cfg0 a) c A 23 t)]

/-- Table 3's eight one-row staging buffers at a point, and the rows in them. -/
def mems0_3 (t : Fin (cfg0 a).N) : Fin 8 → Memref sig .tc .vmem (Row 300) .f32 :=
  ![(spec0_24.stage ((cfg0 a).slots t 24)), (spec0_25.stage ((cfg0 a).slots t 25)), (spec0_26.stage ((cfg0 a).slots t 26)), (spec0_27.stage ((cfg0 a).slots t 27)), (spec0_28.stage ((cfg0 a).slots t 28)), (spec0_29.stage ((cfg0 a).slots t 29)), (spec0_30.stage ((cfg0 a).slots t 30)), (spec0_31.stage ((cfg0 a).slots t 31))]
def rows0_3 (t : Fin (cfg0 a).N) : Fin 8 → Vec F (Row 300) .f32 :=
  ![(Region.held (cfg0 a) c A 24 t), (Region.held (cfg0 a) c A 25 t), (Region.held (cfg0 a) c A 26 t), (Region.held (cfg0 a) c A 27 t), (Region.held (cfg0 a) c A 28 t), (Region.held (cfg0 a) c A 29 t), (Region.held (cfg0 a) c A 30 t), (Region.held (cfg0 a) c A 31 t)]

/-- Table 4's eight one-row staging buffers at a point, and the rows in them. -/
def mems0_4 (t : Fin (cfg0 a).N) : Fin 8 → Memref sig .tc .vmem (Row 128) .f32 :=
  ![(spec0_32.stage ((cfg0 a).slots t 32)), (spec0_33.stage ((cfg0 a).slots t 33)), (spec0_34.stage ((cfg0 a).slots t 34)), (spec0_35.stage ((cfg0 a).slots t 35)), (spec0_36.stage ((cfg0 a).slots t 36)), (spec0_37.stage ((cfg0 a).slots t 37)), (spec0_38.stage ((cfg0 a).slots t 38)), (spec0_39.stage ((cfg0 a).slots t 39))]
def rows0_4 (t : Fin (cfg0 a).N) : Fin 8 → Vec F (Row 128) .f32 :=
  ![(Region.held (cfg0 a) c A 32 t), (Region.held (cfg0 a) c A 33 t), (Region.held (cfg0 a) c A 34 t), (Region.held (cfg0 a) c A 35 t), (Region.held (cfg0 a) c A 36 t), (Region.held (cfg0 a) c A 37 t), (Region.held (cfg0 a) c A 38 t), (Region.held (cfg0 a) c A 39 t)]

/-- Table 5's eight one-row staging buffers at a point, and the rows in them. -/
def mems0_5 (t : Fin (cfg0 a).N) : Fin 8 → Memref sig .tc .vmem (Row 128) .f32 :=
  ![(spec0_40.stage ((cfg0 a).slots t 40)), (spec0_41.stage ((cfg0 a).slots t 41)), (spec0_42.stage ((cfg0 a).slots t 42)), (spec0_43.stage ((cfg0 a).slots t 43)), (spec0_44.stage ((cfg0 a).slots t 44)), (spec0_45.stage ((cfg0 a).slots t 45)), (spec0_46.stage ((cfg0 a).slots t 46)), (spec0_47.stage ((cfg0 a).slots t 47))]
def rows0_5 (t : Fin (cfg0 a).N) : Fin 8 → Vec F (Row 128) .f32 :=
  ![(Region.held (cfg0 a) c A 40 t), (Region.held (cfg0 a) c A 41 t), (Region.held (cfg0 a) c A 42 t), (Region.held (cfg0 a) c A 43 t), (Region.held (cfg0 a) c A 44 t), (Region.held (cfg0 a) c A 45 t), (Region.held (cfg0 a) c A 46 t), (Region.held (cfg0 a) c A 47 t)]

/-- What a point leaves in the six output blocks. -/
def out0 : (w : Fin (cfg0 a).W) → Fin (cfg0 a).N → ((cfg0 a).win w).block.Idx → Elt F ((cfg0 a).win w).elt :=
  Function.update (Function.update (Function.update (Function.update (Function.update (Function.update (fun w t => Region.held (cfg0 a) c A w t) 48 (fun t => Gather.tile (rows0_0 a c A t))) 49 (fun t => Gather.tile (rows0_1 a c A t))) 50 (fun t => Gather.tile (rows0_2 a c A t))) 51 (fun t => Gather.tile (rows0_3 a c A t))) 52 (fun t => Gather.tile (rows0_4 a c A t))) 53 (fun t => Gather.tile (rows0_5 a c A t))

/-- The program of a point is the six tables' copies in turn, over the point's staging buffers. -/
theorem prog0 (t : Fin (cfg0 a).N) : defs₀ (F := F) .tc (cfg0 a).body ((cfg0 a).bodyArgs t ((cfg0 a).slots t))
    = Gather.copyRows h_S1x1x256 h_S1x256 (mems0_0 a t) (spec0_48.stage ((cfg0 a).slots t 48)) Gather.allRows
      (Gather.copyRows h_S1x1x256 h_S1x256 (mems0_1 a t) (spec0_49.stage ((cfg0 a).slots t 49)) Gather.allRows
      (Gather.copyRows h_S1x1x300 h_S1x300 (mems0_2 a t) (spec0_50.stage ((cfg0 a).slots t 50)) Gather.allRows
      (Gather.copyRows h_S1x1x300 h_S1x300 (mems0_3 a t) (spec0_51.stage ((cfg0 a).slots t 51)) Gather.allRows
      (Gather.copyRows h_S1x1x128 h_S1x128 (mems0_4 a t) (spec0_52.stage ((cfg0 a).slots t 52)) Gather.allRows
      (Gather.copyRows h_S1x1x128 h_S1x128 (mems0_5 a t) (spec0_53.stage ((cfg0 a).slots t 53)) Gather.allRows
      (.ret ⟨⟩)))))) := by
  unfold defs₀; rw [Defs.onTc_tc]; rfl

/-- A point runs from the windows' blocks, and leaves the inputs as they were and the outputs at the gathered rows. -/
theorem triple0 (𝒱 : Variants) (t : Fin (cfg0 a).N) : (bigSep Finset.univ fun w => Region.holdPre A t w)
      ⊢ wp frame (wpE (defs₀ (F := F)) 𝒱 (c.tc : Thread nD τ) none) Set.univ (defs₀ (F := F) .tc (cfg0 a).body ((cfg0 a).bodyArgs t ((cfg0 a).slots t)))
          fun _ => (bigSep Finset.univ fun w => Region.holdPost A (out0 a c A) t w : sProp 𝕄) := by
  have hp0 : ∀ i : Fin 8, (Region.holdPre A t (nth54 0 i) : sProp 𝕄) = owns (c.tc : Thread nD τ) (mems0_0 a t i) fullShare (rows0_0 a c A t i) := by
    intro i; fin_cases i <;> rfl
  have hp1 : ∀ i : Fin 8, (Region.holdPre A t (nth54 1 i) : sProp 𝕄) = owns (c.tc : Thread nD τ) (mems0_1 a t i) fullShare (rows0_1 a c A t i) := by
    intro i; fin_cases i <;> rfl
  have hp2 : ∀ i : Fin 8, (Region.holdPre A t (nth54 2 i) : sProp 𝕄) = owns (c.tc : Thread nD τ) (mems0_2 a t i) fullShare (rows0_2 a c A t i) := by
    intro i; fin_cases i <;> rfl
  have hp3 : ∀ i : Fin 8, (Region.holdPre A t (nth54 3 i) : sProp 𝕄) = owns (c.tc : Thread nD τ) (mems0_3 a t i) fullShare (rows0_3 a c A t i) := by
    intro i; fin_cases i <;> rfl
  have hp4 : ∀ i : Fin 8, (Region.holdPre A t (nth54 4 i) : sProp 𝕄) = owns (c.tc : Thread nD τ) (mems0_4 a t i) fullShare (rows0_4 a c A t i) := by
    intro i; fin_cases i <;> rfl
  have hp5 : ∀ i : Fin 8, (Region.holdPre A t (nth54 5 i) : sProp 𝕄) = owns (c.tc : Thread nD τ) (mems0_5 a t i) fullShare (rows0_5 a c A t i) := by
    intro i; fin_cases i <;> rfl
  have hq0 : ∀ i : Fin 8, (Region.holdPost A (out0 a c A) t (nth54 0 i) : sProp 𝕄) = owns (c.tc : Thread nD τ) (mems0_0 a t i) fullShare (rows0_0 a c A t i) := by
    intro i; fin_cases i <;> rfl
  have hq1 : ∀ i : Fin 8, (Region.holdPost A (out0 a c A) t (nth54 1 i) : sProp 𝕄) = owns (c.tc : Thread nD τ) (mems0_1 a t i) fullShare (rows0_1 a c A t i) := by
    intro i; fin_cases i <;> rfl
  have hq2 : ∀ i : Fin 8, (Region.holdPost A (out0 a c A) t (nth54 2 i) : sProp 𝕄) = owns (c.tc : Thread nD τ) (mems0_2 a t i) fullShare (rows0_2 a c A t i) := by
    intro i; fin_cases i <;> rfl
  have hq3 : ∀ i : Fin 8, (Region.holdPost A (out0 a c A) t (nth54 3 i) : sProp 𝕄) = owns (c.tc : Thread nD τ) (mems0_3 a t i) fullShare (rows0_3 a c A t i) := by
    intro i; fin_cases i <;> rfl
  have hq4 : ∀ i : Fin 8, (Region.holdPost A (out0 a c A) t (nth54 4 i) : sProp 𝕄) = owns (c.tc : Thread nD τ) (mems0_4 a t i) fullShare (rows0_4 a c A t i) := by
    intro i; fin_cases i <;> rfl
  have hq5 : ∀ i : Fin 8, (Region.holdPost A (out0 a c A) t (nth54 5 i) : sProp 𝕄) = owns (c.tc : Thread nD τ) (mems0_5 a t i) fullShare (rows0_5 a c A t i) := by
    intro i; fin_cases i <;> rfl
  have hx0 : (Region.holdPre A t 48 : sProp 𝕄) = iprop(∃ d, owns (c.tc : Thread nD τ) (spec0_48.stage ((cfg0 a).slots t 48)) fullShare d) := rfl
  have hy0 : (Region.holdPost A (out0 a c A) t 48 : sProp 𝕄) = owns (c.tc : Thread nD τ) (spec0_48.stage ((cfg0 a).slots t 48)) fullShare (Gather.tile (rows0_0 a c A t)) := rfl
  have hx1 : (Region.holdPre A t 49 : sProp 𝕄) = iprop(∃ d, owns (c.tc : Thread nD τ) (spec0_49.stage ((cfg0 a).slots t 49)) fullShare d) := rfl
  have hy1 : (Region.holdPost A (out0 a c A) t 49 : sProp 𝕄) = owns (c.tc : Thread nD τ) (spec0_49.stage ((cfg0 a).slots t 49)) fullShare (Gather.tile (rows0_1 a c A t)) := rfl
  have hx2 : (Region.holdPre A t 50 : sProp 𝕄) = iprop(∃ d, owns (c.tc : Thread nD τ) (spec0_50.stage ((cfg0 a).slots t 50)) fullShare d) := rfl
  have hy2 : (Region.holdPost A (out0 a c A) t 50 : sProp 𝕄) = owns (c.tc : Thread nD τ) (spec0_50.stage ((cfg0 a).slots t 50)) fullShare (Gather.tile (rows0_2 a c A t)) := rfl
  have hx3 : (Region.holdPre A t 51 : sProp 𝕄) = iprop(∃ d, owns (c.tc : Thread nD τ) (spec0_51.stage ((cfg0 a).slots t 51)) fullShare d) := rfl
  have hy3 : (Region.holdPost A (out0 a c A) t 51 : sProp 𝕄) = owns (c.tc : Thread nD τ) (spec0_51.stage ((cfg0 a).slots t 51)) fullShare (Gather.tile (rows0_3 a c A t)) := rfl
  have hx4 : (Region.holdPre A t 52 : sProp 𝕄) = iprop(∃ d, owns (c.tc : Thread nD τ) (spec0_52.stage ((cfg0 a).slots t 52)) fullShare d) := rfl
  have hy4 : (Region.holdPost A (out0 a c A) t 52 : sProp 𝕄) = owns (c.tc : Thread nD τ) (spec0_52.stage ((cfg0 a).slots t 52)) fullShare (Gather.tile (rows0_4 a c A t)) := rfl
  have hx5 : (Region.holdPre A t 53 : sProp 𝕄) = iprop(∃ d, owns (c.tc : Thread nD τ) (spec0_53.stage ((cfg0 a).slots t 53)) fullShare d) := rfl
  have hy5 : (Region.holdPost A (out0 a c A) t 53 : sProp 𝕄) = owns (c.tc : Thread nD τ) (spec0_53.stage ((cfg0 a).slots t 53)) fullShare (Gather.tile (rows0_5 a c A t)) := rfl
  rw [prog0]
  refine (Entails.of_eq (bigSep_54' _)).trans ?_
  refine BIBase.Entails.trans ?_ (wp_mono _ _ _ fun _ => (Entails.of_eq (bigSep_54' _).symm))
  rw [funext hp0, funext hp1, funext hp2, funext hp3, funext hp4, funext hp5, funext hq0, funext hq1, funext hq2, funext hq3, funext hq4, funext hq5,
    hx0, hy0, hx1, hy1, hx2, hy2, hx3, hy3, hx4, hy4, hx5, hy5]
  iintro ⟨H0, H1, H2, H3, H4, H5, O0, O1, O2, O3, O4, O5⟩
  iapply (Gather.wp_copyAll (defs := defs₀ (F := F)) 𝒱 c Set.univ h_S1x1x256 h_S1x256 (mems0_0 a t) (spec0_48.stage ((cfg0 a).slots t 48)) (rows0_0 a c A t)) $$ H0 O0
  iintro H0 O0
  iapply (Gather.wp_copyAll (defs := defs₀ (F := F)) 𝒱 c Set.univ h_S1x1x256 h_S1x256 (mems0_1 a t) (spec0_49.stage ((cfg0 a).slots t 49)) (rows0_1 a c A t)) $$ H1 O1
  iintro H1 O1
  iapply (Gather.wp_copyAll (defs := defs₀ (F := F)) 𝒱 c Set.univ h_S1x1x300 h_S1x300 (mems0_2 a t) (spec0_50.stage ((cfg0 a).slots t 50)) (rows0_2 a c A t)) $$ H2 O2
  iintro H2 O2
  iapply (Gather.wp_copyAll (defs := defs₀ (F := F)) 𝒱 c Set.univ h_S1x1x300 h_S1x300 (mems0_3 a t) (spec0_51.stage ((cfg0 a).slots t 51)) (rows0_3 a c A t)) $$ H3 O3
  iintro H3 O3
  iapply (Gather.wp_copyAll (defs := defs₀ (F := F)) 𝒱 c Set.univ h_S1x1x128 h_S1x128 (mems0_4 a t) (spec0_52.stage ((cfg0 a).slots t 52)) (rows0_4 a c A t)) $$ H4 O4
  iintro H4 O4
  iapply (Gather.wp_copyAll (defs := defs₀ (F := F)) 𝒱 c Set.univ h_S1x1x128 h_S1x128 (mems0_5 a t) (spec0_53.stage ((cfg0 a).slots t 53)) (rows0_5 a c A t)) $$ H5 O5
  iintro H5 O5
  rw [wp_ret]
  imodintro
  isplitl [H0]; · iexact H0
  isplitl [H1]; · iexact H1
  isplitl [H2]; · iexact H2
  isplitl [H3]; · iexact H3
  isplitl [H4]; · iexact H4
  isplitl [H5]; · iexact H5
  isplitl [O0]; · iexact O0
  isplitl [O1]; · iexact O1
  isplitl [O2]; · iexact O2
  isplitl [O3]; · iexact O3
  isplitl [O4]; · iexact O4
  iexact O5

end Cert.KernelIdeal.Run

end
-- ==== Proof.Dist.lean ====
/-
  One grid point of a distance call, for rows of any width: 32 one-row blocks are stacked, subtracted from a 32-row block,
  and the sums of the absolute differences along each row are stored. What the point's program leaves, and what it does.
-/
module

public import proofs.«01_k».proof.Proof.Steps
public import Idealize.ShloMosaic.Lib.Pipeline.Value

@[expose] public section

noncomputable section

namespace Cert.Proof.Dist

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Steps

variable {F : FTy → Type} [FloatOps F]

/-- A 32-row block, the 32 rows as a matrix, one row as a matrix, and the column of sums at its three ranks. -/
abbrev Blk (D : ℕ) : Shape := ⟨3, ![1, 32, D]⟩
abbrev Mat (D : ℕ) : Shape := ⟨2, ![32, D]⟩
abbrev Line (D : ℕ) : Shape := ⟨2, ![1, D]⟩
abbrev Sums : Shape := ⟨1, ![32]⟩
abbrev Col : Shape := ⟨2, ![32, 1]⟩
abbrev OutBlk : Shape := ⟨3, ![1, 32, 1]⟩

/-- The two shapes of this reshape have the same number of entries. -/
theorem casts_row (D : ℕ) : (Row D).ShapeCasts (Line D) := by
  unfold Shape.ShapeCasts; simp [Shape.numel, Fin.prod_univ_succ]

/-- The two shapes of this reshape have the same number of entries. -/
theorem casts_blk (D : ℕ) : (Blk D).ShapeCasts (Mat D) := by
  unfold Shape.ShapeCasts; simp [Shape.numel, Fin.prod_univ_succ]

/-- The lines' entries sum along the last axis. -/
theorem reduces_mat (D : ℕ) : (Mat D).Reduces [1] Sums := by
  refine ⟨rfl, by decide, fun b => ?_⟩
  fin_cases b; rfl

/-- The two shapes of this reshape have the same number of entries. -/
theorem casts_sums : Sums.ShapeCasts Col := by decide
/-- The two shapes of this reshape have the same number of entries. -/
theorem casts_col : Col.ShapeCasts OutBlk := by decide

/-- Thirty-two rows join to the matrix of a point. -/
theorem concats (D : ℕ) (f : Fin 32 → (Line D).Idx → F .f32) :
    Shape.Concatenates ((List.ofFn fun n : Fin 32 => (⟨Line D, f n⟩ : (s : Shape) × (s.Idx → F .f32))).map (·.1)) (Mat D) 0 := by
  have h : (List.ofFn fun n : Fin 32 => (⟨Line D, f n⟩ : (s : Shape) × (s.Idx → F .f32))).map (·.1) = List.replicate 32 (Line D) := by
    rw [List.map_ofFn]; exact List.ofFn_const 32 (Line D)
  rw [h]
  refine ⟨by simp, fun s hs => ?_, by simp⟩
  rw [List.eq_of_mem_replicate hs]
  refine ⟨rfl, fun b hb => ?_⟩
  fin_cases b
  · exact absurd rfl hb
  · rfl

/-- The column a point stores from the 32 one-row blocks and the 32-row block. -/
def sums {D : ℕ} (xs : Fin 32 → Vec F (Row D) .f32) (y : Vec F (Blk D) .f32) : Vec F OutBlk .f32 :=
  shapeCast OutBlk (shapeCast Col (multiReduction (F := F) (φ := .f32) .add [1] Sums
    (absf (subf (concatenate (Mat D) 0 (List.ofFn fun i : Fin 32 => (⟨Line D, shapeCast (Line D) (xs i) (casts_row D)⟩ : (s : Shape) × (s.Idx → F .f32)))
      (concats D _)) (shapeCast (Mat D) y (casts_blk D)))) 0x00000000#32 (reduces_mat D) (.inl rfl) rfl) casts_sums) casts_col

variable {nD : Nat} {τ : Topo} {sig : RefSig} {Λ : Idealize.SL.Sem.Labels}

/-- One point's program. -/
def prog {D : ℕ} (hr : 0 < (Row D).numel) (hb : 0 < (Blk D).numel) (ho : 0 < OutBlk.numel) (a : Fin 32 → Memref sig .tc .vmem (Row D) .f32)
    (b : Memref sig .tc .vmem (Blk D) .f32) (o : Memref sig .tc .vmem OutBlk .f32) : Prog (TpuEff nD τ sig (Elt F) Λ .tc) PUnit :=
  loadAll hr 32 a fun xs =>
    .op (.load b (Rect.unit (s := Blk D) ![0, 0, 0] (Blk D).size (by intro a; fin_cases a <;> simp)).toLoadRect (View.loadsAt_vmem hb)) fun y =>
    .op (.load o (Rect.unit (s := OutBlk) ![0, 0, 0] OutBlk.size (by decide)).toLoadRect (View.loadsAt_vmem ho)) fun _ =>
    .op (.store o (Rect.unit (s := OutBlk) ![0, 0, 0] OutBlk.size (by decide)) (sums xs y) Finset.univ (View.stores_vmem_bits_univ ho rfl) (.inl rfl)) fun _ =>
    .ret ⟨⟩

local notation "𝕄" => MT nD τ sig Unit (Elt F) ℕ (UR sig nD τ) ℕ

variable {defs : Defs nD τ sig (Elt F) Λ} (𝒱 : Variants) (c : Dev nD) (E : Set ℕ)

/-- One point's triple: the input blocks as they were, the output block at the sums. -/
theorem triple {D : ℕ} (hr : 0 < (Row D).numel) (hb : 0 < (Blk D).numel) (ho : 0 < OutBlk.numel) (a : Fin 32 → Memref sig .tc .vmem (Row D) .f32)
    (b : Memref sig .tc .vmem (Blk D) .f32) (o : Memref sig .tc .vmem OutBlk .f32) (xs : Fin 32 → Vec F (Row D) .f32) (y : Vec F (Blk D) .f32) :
    stars 32 (fun i => owns (c.tc : Thread nD τ) (a i) fullShare (xs i)) iprop(owns (c.tc : Thread nD τ) b fullShare y ∗ ∃ d, owns (c.tc : Thread nD τ) o fullShare d)
      ⊢ wp frame (wpE defs 𝒱 (c.tc : Thread nD τ) none) E (prog hr hb ho a b o) fun _ =>
        (stars 32 (fun i => owns (c.tc : Thread nD τ) (a i) fullShare (xs i)) iprop(owns (c.tc : Thread nD τ) b fullShare y ∗ owns (c.tc : Thread nD τ) o fullShare (sums xs y)) : sProp 𝕄) := by
  unfold prog
  have hs : ∀ R : sProp 𝕄, stars 32 (fun i => owns (c.tc : Thread nD τ) (a i) fullShare (xs i)) R
      = iprop(stars 32 (fun i => owns (c.tc : Thread nD τ) (a i) fullShare (xs i)) iprop(emp) ∗ R) := stars_split 32 _
  rw [hs iprop(_ ∗ owns (c.tc : Thread nD τ) o fullShare (sums xs y))]
  iintro H
  iapply (wp_loadAll (defs := defs) 𝒱 c E hr 32 a xs _ _) $$ H
  iintro H
  ihave H2 := (Entails.of_eq (hs iprop(owns (c.tc : Thread nD τ) b fullShare y ∗ ∃ d, owns (c.tc : Thread nD τ) o fullShare d))) $$ H
  icases H2 with ⟨Ha, Hb, %d, Ho⟩
  iapply (wp_load_all (defs := defs) 𝒱 c E (x := y) (by intro a; fin_cases a <;> rfl)) $$ Hb
  iintro Hb
  iapply (wp_load_all (defs := defs) 𝒱 c E (x := d) (by intro a; fin_cases a <;> rfl)) $$ Ho
  iintro Ho
  iapply (wp_store_all (defs := defs) 𝒱 c E (x := d) (by intro a; fin_cases a <;> rfl)) $$ Ho
  iintro Ho
  rw [wp_ret]
  imodintro
  isplitl [Ha]; · iexact Ha
  isplitl [Hb] <;> iassumption

end Cert.Proof.Dist

end
-- ==== Proof.Ideal.Body1.lean ====
/-
  Distance call 1: which staging buffers its program reads and writes at a point, and that a point leaves the row sums.
-/
module

public import proofs.«01_k».proof.Proof.Region
public import proofs.«01_k».proof.Proof.Dist
public import proofs.«01_k».proof.Proof.Gen.KernelIdeal.Launch

@[expose] public section

set_option maxRecDepth 10000
set_option maxHeartbeats 4000000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Proof Cert.Proof.Steps Cert.KernelIdeal.Gen

variable {F : FTy → Type} [FloatOps F] [Named F]

local notation "𝕄" => MT nD τ sig Unit (Elt F) ℕ (UR sig nD τ) ℕ

variable (a : (pcfg1 (F := F)).Adm) (c : Dev nD) (A : (w : Fin (cfg1 a).W) → Buf (Elt F) (((cfg1 a).win w).arr.view.loc (c.tc : Thread nD τ)))

/-- The staging buffers of the 32 one-row blocks at a point. -/
def mems1 (t : Fin (cfg1 a).N) : Fin 32 → Memref sig .tc .vmem (Row 256) .f32 :=
  ![(spec1_0.stage ((cfg1 a).slots t 0)), (spec1_1.stage ((cfg1 a).slots t 1)), (spec1_2.stage ((cfg1 a).slots t 2)), (spec1_3.stage ((cfg1 a).slots t 3)), (spec1_4.stage ((cfg1 a).slots t 4)), (spec1_5.stage ((cfg1 a).slots t 5)), (spec1_6.stage ((cfg1 a).slots t 6)), (spec1_7.stage ((cfg1 a).slots t 7)), (spec1_8.stage ((cfg1 a).slots t 8)), (spec1_9.stage ((cfg1 a).slots t 9)), (spec1_10.stage ((cfg1 a).slots t 10)), (spec1_11.stage ((cfg1 a).slots t 11)), (spec1_12.stage ((cfg1 a).slots t 12)), (spec1_13.stage ((cfg1 a).slots t 13)), (spec1_14.stage ((cfg1 a).slots t 14)), (spec1_15.stage ((cfg1 a).slots t 15)), (spec1_16.stage ((cfg1 a).slots t 16)), (spec1_17.stage ((cfg1 a).slots t 17)), (spec1_18.stage ((cfg1 a).slots t 18)), (spec1_19.stage ((cfg1 a).slots t 19)), (spec1_20.stage ((cfg1 a).slots t 20)), (spec1_21.stage ((cfg1 a).slots t 21)), (spec1_22.stage ((cfg1 a).slots t 22)), (spec1_23.stage ((cfg1 a).slots t 23)), (spec1_24.stage ((cfg1 a).slots t 24)), (spec1_25.stage ((cfg1 a).slots t 25)), (spec1_26.stage ((cfg1 a).slots t 26)), (spec1_27.stage ((cfg1 a).slots t 27)), (spec1_28.stage ((cfg1 a).slots t 28)), (spec1_29.stage ((cfg1 a).slots t 29)), (spec1_30.stage ((cfg1 a).slots t 30)), (spec1_31.stage ((cfg1 a).slots t 31))]

/-- The 32 one-row blocks at a point. -/
def rows1 (t : Fin (cfg1 a).N) : Fin 32 → Vec F (Row 256) .f32 :=
  ![(Region.held (cfg1 a) c A 0 t), (Region.held (cfg1 a) c A 1 t), (Region.held (cfg1 a) c A 2 t), (Region.held (cfg1 a) c A 3 t), (Region.held (cfg1 a) c A 4 t), (Region.held (cfg1 a) c A 5 t), (Region.held (cfg1 a) c A 6 t), (Region.held (cfg1 a) c A 7 t), (Region.held (cfg1 a) c A 8 t), (Region.held (cfg1 a) c A 9 t), (Region.held (cfg1 a) c A 10 t), (Region.held (cfg1 a) c A 11 t), (Region.held (cfg1 a) c A 12 t), (Region.held (cfg1 a) c A 13 t), (Region.held (cfg1 a) c A 14 t), (Region.held (cfg1 a) c A 15 t), (Region.held (cfg1 a) c A 16 t), (Region.held (cfg1 a) c A 17 t), (Region.held (cfg1 a) c A 18 t), (Region.held (cfg1 a) c A 19 t), (Region.held (cfg1 a) c A 20 t), (Region.held (cfg1 a) c A 21 t), (Region.held (cfg1 a) c A 22 t), (Region.held (cfg1 a) c A 23 t), (Region.held (cfg1 a) c A 24 t), (Region.held (cfg1 a) c A 25 t), (Region.held (cfg1 a) c A 26 t), (Region.held (cfg1 a) c A 27 t), (Region.held (cfg1 a) c A 28 t), (Region.held (cfg1 a) c A 29 t), (Region.held (cfg1 a) c A 30 t), (Region.held (cfg1 a) c A 31 t)]

/-- What a point leaves in the output block. -/
def out1 : (w : Fin (cfg1 a).W) → Fin (cfg1 a).N → ((cfg1 a).win w).block.Idx → Elt F ((cfg1 a).win w).elt :=
  Function.update (fun w t => Region.held (cfg1 a) c A w t) 33 (fun t => Dist.sums (rows1 a c A t) (Region.held (cfg1 a) c A 32 t))

/-- The program of a point is the distance program over the point's staging buffers. -/
theorem prog1 (t : Fin (cfg1 a).N) : defs₀ (F := F) .tc (cfg1 a).body ((cfg1 a).bodyArgs t ((cfg1 a).slots t))
    = Dist.prog h_S1x1x256 h_S1x32x256 h_S1x32x1 (mems1 a t) (spec1_32.stage ((cfg1 a).slots t 32)) (spec1_33.stage ((cfg1 a).slots t 33)) := by
  unfold defs₀; rw [Defs.onTc_tc]; rfl

/-- A point runs from the windows' blocks, and leaves the inputs as they were and the output at the row sums. -/
theorem triple1 (𝒱 : Variants) (t : Fin (cfg1 a).N) : (bigSep Finset.univ fun w => Region.holdPre A t w)
      ⊢ wp frame (wpE (defs₀ (F := F)) 𝒱 (c.tc : Thread nD τ) none) Set.univ (defs₀ (F := F) .tc (cfg1 a).body ((cfg1 a).bodyArgs t ((cfg1 a).slots t)))
          fun _ => (bigSep Finset.univ fun w => Region.holdPost A (out1 a c A) t w : sProp 𝕄) := by
  have hin : ∀ i : Fin 32, (Region.holdPre A t (i.castLE (show 32 ≤ 34 by decide)) : sProp 𝕄) = owns (c.tc : Thread nD τ) (mems1 a t i) fullShare (rows1 a c A t i) := by
    intro i; fin_cases i <;> rfl
  have hout : ∀ i : Fin 32, (Region.holdPost A (out1 a c A) t (i.castLE (show 32 ≤ 34 by decide)) : sProp 𝕄) = owns (c.tc : Thread nD τ) (mems1 a t i) fullShare (rows1 a c A t i) := by
    intro i; fin_cases i <;> rfl
  rw [prog1]
  refine (Entails.of_eq (bigSep_34 _)).trans ?_
  rw [funext hin]
  refine (Dist.triple (defs := defs₀ (F := F)) 𝒱 c Set.univ h_S1x1x256 h_S1x32x256 h_S1x32x1 (mems1 a t) (spec1_32.stage ((cfg1 a).slots t 32)) (spec1_33.stage ((cfg1 a).slots t 33))
    (rows1 a c A t) (Region.held (cfg1 a) c A 32 t)).trans (wp_mono _ _ _ fun _ => ?_)
  refine BIBase.Entails.trans ?_ (Entails.of_eq (bigSep_34 _).symm)
  rw [funext hout]
  exact .rfl

end Cert.KernelIdeal.Run

end
-- ==== Proof.Ideal.Body2.lean ====
/-
  Distance call 2: which staging buffers its program reads and writes at a point, and that a point leaves the row sums.
-/
module

public import proofs.«01_k».proof.Proof.Region
public import proofs.«01_k».proof.Proof.Dist
public import proofs.«01_k».proof.Proof.Gen.KernelIdeal.Launch

@[expose] public section

set_option maxRecDepth 10000
set_option maxHeartbeats 4000000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Proof Cert.Proof.Steps Cert.KernelIdeal.Gen

variable {F : FTy → Type} [FloatOps F] [Named F]

local notation "𝕄" => MT nD τ sig Unit (Elt F) ℕ (UR sig nD τ) ℕ

variable (a : (pcfg2 (F := F)).Adm) (c : Dev nD) (A : (w : Fin (cfg2 a).W) → Buf (Elt F) (((cfg2 a).win w).arr.view.loc (c.tc : Thread nD τ)))

/-- The staging buffers of the 32 one-row blocks at a point. -/
def mems2 (t : Fin (cfg2 a).N) : Fin 32 → Memref sig .tc .vmem (Row 256) .f32 :=
  ![(spec2_0.stage ((cfg2 a).slots t 0)), (spec2_1.stage ((cfg2 a).slots t 1)), (spec2_2.stage ((cfg2 a).slots t 2)), (spec2_3.stage ((cfg2 a).slots t 3)), (spec2_4.stage ((cfg2 a).slots t 4)), (spec2_5.stage ((cfg2 a).slots t 5)), (spec2_6.stage ((cfg2 a).slots t 6)), (spec2_7.stage ((cfg2 a).slots t 7)), (spec2_8.stage ((cfg2 a).slots t 8)), (spec2_9.stage ((cfg2 a).slots t 9)), (spec2_10.stage ((cfg2 a).slots t 10)), (spec2_11.stage ((cfg2 a).slots t 11)), (spec2_12.stage ((cfg2 a).slots t 12)), (spec2_13.stage ((cfg2 a).slots t 13)), (spec2_14.stage ((cfg2 a).slots t 14)), (spec2_15.stage ((cfg2 a).slots t 15)), (spec2_16.stage ((cfg2 a).slots t 16)), (spec2_17.stage ((cfg2 a).slots t 17)), (spec2_18.stage ((cfg2 a).slots t 18)), (spec2_19.stage ((cfg2 a).slots t 19)), (spec2_20.stage ((cfg2 a).slots t 20)), (spec2_21.stage ((cfg2 a).slots t 21)), (spec2_22.stage ((cfg2 a).slots t 22)), (spec2_23.stage ((cfg2 a).slots t 23)), (spec2_24.stage ((cfg2 a).slots t 24)), (spec2_25.stage ((cfg2 a).slots t 25)), (spec2_26.stage ((cfg2 a).slots t 26)), (spec2_27.stage ((cfg2 a).slots t 27)), (spec2_28.stage ((cfg2 a).slots t 28)), (spec2_29.stage ((cfg2 a).slots t 29)), (spec2_30.stage ((cfg2 a).slots t 30)), (spec2_31.stage ((cfg2 a).slots t 31))]

/-- The 32 one-row blocks at a point. -/
def rows2 (t : Fin (cfg2 a).N) : Fin 32 → Vec F (Row 256) .f32 :=
  ![(Region.held (cfg2 a) c A 0 t), (Region.held (cfg2 a) c A 1 t), (Region.held (cfg2 a) c A 2 t), (Region.held (cfg2 a) c A 3 t), (Region.held (cfg2 a) c A 4 t), (Region.held (cfg2 a) c A 5 t), (Region.held (cfg2 a) c A 6 t), (Region.held (cfg2 a) c A 7 t), (Region.held (cfg2 a) c A 8 t), (Region.held (cfg2 a) c A 9 t), (Region.held (cfg2 a) c A 10 t), (Region.held (cfg2 a) c A 11 t), (Region.held (cfg2 a) c A 12 t), (Region.held (cfg2 a) c A 13 t), (Region.held (cfg2 a) c A 14 t), (Region.held (cfg2 a) c A 15 t), (Region.held (cfg2 a) c A 16 t), (Region.held (cfg2 a) c A 17 t), (Region.held (cfg2 a) c A 18 t), (Region.held (cfg2 a) c A 19 t), (Region.held (cfg2 a) c A 20 t), (Region.held (cfg2 a) c A 21 t), (Region.held (cfg2 a) c A 22 t), (Region.held (cfg2 a) c A 23 t), (Region.held (cfg2 a) c A 24 t), (Region.held (cfg2 a) c A 25 t), (Region.held (cfg2 a) c A 26 t), (Region.held (cfg2 a) c A 27 t), (Region.held (cfg2 a) c A 28 t), (Region.held (cfg2 a) c A 29 t), (Region.held (cfg2 a) c A 30 t), (Region.held (cfg2 a) c A 31 t)]

/-- What a point leaves in the output block. -/
def out2 : (w : Fin (cfg2 a).W) → Fin (cfg2 a).N → ((cfg2 a).win w).block.Idx → Elt F ((cfg2 a).win w).elt :=
  Function.update (fun w t => Region.held (cfg2 a) c A w t) 33 (fun t => Dist.sums (rows2 a c A t) (Region.held (cfg2 a) c A 32 t))

/-- The program of a point is the distance program over the point's staging buffers. -/
theorem prog2 (t : Fin (cfg2 a).N) : defs₀ (F := F) .tc (cfg2 a).body ((cfg2 a).bodyArgs t ((cfg2 a).slots t))
    = Dist.prog h_S1x1x256 h_S1x32x256 h_S1x32x1 (mems2 a t) (spec2_32.stage ((cfg2 a).slots t 32)) (spec2_33.stage ((cfg2 a).slots t 33)) := by
  unfold defs₀; rw [Defs.onTc_tc]; rfl

/-- A point runs from the windows' blocks, and leaves the inputs as they were and the output at the row sums. -/
theorem triple2 (𝒱 : Variants) (t : Fin (cfg2 a).N) : (bigSep Finset.univ fun w => Region.holdPre A t w)
      ⊢ wp frame (wpE (defs₀ (F := F)) 𝒱 (c.tc : Thread nD τ) none) Set.univ (defs₀ (F := F) .tc (cfg2 a).body ((cfg2 a).bodyArgs t ((cfg2 a).slots t)))
          fun _ => (bigSep Finset.univ fun w => Region.holdPost A (out2 a c A) t w : sProp 𝕄) := by
  have hin : ∀ i : Fin 32, (Region.holdPre A t (i.castLE (show 32 ≤ 34 by decide)) : sProp 𝕄) = owns (c.tc : Thread nD τ) (mems2 a t i) fullShare (rows2 a c A t i) := by
    intro i; fin_cases i <;> rfl
  have hout : ∀ i : Fin 32, (Region.holdPost A (out2 a c A) t (i.castLE (show 32 ≤ 34 by decide)) : sProp 𝕄) = owns (c.tc : Thread nD τ) (mems2 a t i) fullShare (rows2 a c A t i) := by
    intro i; fin_cases i <;> rfl
  rw [prog2]
  refine (Entails.of_eq (bigSep_34 _)).trans ?_
  rw [funext hin]
  refine (Dist.triple (defs := defs₀ (F := F)) 𝒱 c Set.univ h_S1x1x256 h_S1x32x256 h_S1x32x1 (mems2 a t) (spec2_32.stage ((cfg2 a).slots t 32)) (spec2_33.stage ((cfg2 a).slots t 33))
    (rows2 a c A t) (Region.held (cfg2 a) c A 32 t)).trans (wp_mono _ _ _ fun _ => ?_)
  refine BIBase.Entails.trans ?_ (Entails.of_eq (bigSep_34 _).symm)
  rw [funext hout]
  exact .rfl

end Cert.KernelIdeal.Run

end
-- ==== Proof.Ideal.Body3.lean ====
/-
  Distance call 3: which staging buffers its program reads and writes at a point, and that a point leaves the row sums.
-/
module

public import proofs.«01_k».proof.Proof.Region
public import proofs.«01_k».proof.Proof.Dist
public import proofs.«01_k».proof.Proof.Gen.KernelIdeal.Launch

@[expose] public section

set_option maxRecDepth 10000
set_option maxHeartbeats 4000000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Proof Cert.Proof.Steps Cert.KernelIdeal.Gen

variable {F : FTy → Type} [FloatOps F] [Named F]

local notation "𝕄" => MT nD τ sig Unit (Elt F) ℕ (UR sig nD τ) ℕ

variable (a : (pcfg3 (F := F)).Adm) (c : Dev nD) (A : (w : Fin (cfg3 a).W) → Buf (Elt F) (((cfg3 a).win w).arr.view.loc (c.tc : Thread nD τ)))

/-- The staging buffers of the 32 one-row blocks at a point. -/
def mems3 (t : Fin (cfg3 a).N) : Fin 32 → Memref sig .tc .vmem (Row 300) .f32 :=
  ![(spec3_0.stage ((cfg3 a).slots t 0)), (spec3_1.stage ((cfg3 a).slots t 1)), (spec3_2.stage ((cfg3 a).slots t 2)), (spec3_3.stage ((cfg3 a).slots t 3)), (spec3_4.stage ((cfg3 a).slots t 4)), (spec3_5.stage ((cfg3 a).slots t 5)), (spec3_6.stage ((cfg3 a).slots t 6)), (spec3_7.stage ((cfg3 a).slots t 7)), (spec3_8.stage ((cfg3 a).slots t 8)), (spec3_9.stage ((cfg3 a).slots t 9)), (spec3_10.stage ((cfg3 a).slots t 10)), (spec3_11.stage ((cfg3 a).slots t 11)), (spec3_12.stage ((cfg3 a).slots t 12)), (spec3_13.stage ((cfg3 a).slots t 13)), (spec3_14.stage ((cfg3 a).slots t 14)), (spec3_15.stage ((cfg3 a).slots t 15)), (spec3_16.stage ((cfg3 a).slots t 16)), (spec3_17.stage ((cfg3 a).slots t 17)), (spec3_18.stage ((cfg3 a).slots t 18)), (spec3_19.stage ((cfg3 a).slots t 19)), (spec3_20.stage ((cfg3 a).slots t 20)), (spec3_21.stage ((cfg3 a).slots t 21)), (spec3_22.stage ((cfg3 a).slots t 22)), (spec3_23.stage ((cfg3 a).slots t 23)), (spec3_24.stage ((cfg3 a).slots t 24)), (spec3_25.stage ((cfg3 a).slots t 25)), (spec3_26.stage ((cfg3 a).slots t 26)), (spec3_27.stage ((cfg3 a).slots t 27)), (spec3_28.stage ((cfg3 a).slots t 28)), (spec3_29.stage ((cfg3 a).slots t 29)), (spec3_30.stage ((cfg3 a).slots t 30)), (spec3_31.stage ((cfg3 a).slots t 31))]

/-- The 32 one-row blocks at a point. -/
def rows3 (t : Fin (cfg3 a).N) : Fin 32 → Vec F (Row 300) .f32 :=
  ![(Region.held (cfg3 a) c A 0 t), (Region.held (cfg3 a) c A 1 t), (Region.held (cfg3 a) c A 2 t), (Region.held (cfg3 a) c A 3 t), (Region.held (cfg3 a) c A 4 t), (Region.held (cfg3 a) c A 5 t), (Region.held (cfg3 a) c A 6 t), (Region.held (cfg3 a) c A 7 t), (Region.held (cfg3 a) c A 8 t), (Region.held (cfg3 a) c A 9 t), (Region.held (cfg3 a) c A 10 t), (Region.held (cfg3 a) c A 11 t), (Region.held (cfg3 a) c A 12 t), (Region.held (cfg3 a) c A 13 t), (Region.held (cfg3 a) c A 14 t), (Region.held (cfg3 a) c A 15 t), (Region.held (cfg3 a) c A 16 t), (Region.held (cfg3 a) c A 17 t), (Region.held (cfg3 a) c A 18 t), (Region.held (cfg3 a) c A 19 t), (Region.held (cfg3 a) c A 20 t), (Region.held (cfg3 a) c A 21 t), (Region.held (cfg3 a) c A 22 t), (Region.held (cfg3 a) c A 23 t), (Region.held (cfg3 a) c A 24 t), (Region.held (cfg3 a) c A 25 t), (Region.held (cfg3 a) c A 26 t), (Region.held (cfg3 a) c A 27 t), (Region.held (cfg3 a) c A 28 t), (Region.held (cfg3 a) c A 29 t), (Region.held (cfg3 a) c A 30 t), (Region.held (cfg3 a) c A 31 t)]

/-- What a point leaves in the output block. -/
def out3 : (w : Fin (cfg3 a).W) → Fin (cfg3 a).N → ((cfg3 a).win w).block.Idx → Elt F ((cfg3 a).win w).elt :=
  Function.update (fun w t => Region.held (cfg3 a) c A w t) 33 (fun t => Dist.sums (rows3 a c A t) (Region.held (cfg3 a) c A 32 t))

/-- The program of a point is the distance program over the point's staging buffers. -/
theorem prog3 (t : Fin (cfg3 a).N) : defs₀ (F := F) .tc (cfg3 a).body ((cfg3 a).bodyArgs t ((cfg3 a).slots t))
    = Dist.prog h_S1x1x300 h_S1x32x300 h_S1x32x1 (mems3 a t) (spec3_32.stage ((cfg3 a).slots t 32)) (spec3_33.stage ((cfg3 a).slots t 33)) := by
  unfold defs₀; rw [Defs.onTc_tc]; rfl

/-- A point runs from the windows' blocks, and leaves the inputs as they were and the output at the row sums. -/
theorem triple3 (𝒱 : Variants) (t : Fin (cfg3 a).N) : (bigSep Finset.univ fun w => Region.holdPre A t w)
      ⊢ wp frame (wpE (defs₀ (F := F)) 𝒱 (c.tc : Thread nD τ) none) Set.univ (defs₀ (F := F) .tc (cfg3 a).body ((cfg3 a).bodyArgs t ((cfg3 a).slots t)))
          fun _ => (bigSep Finset.univ fun w => Region.holdPost A (out3 a c A) t w : sProp 𝕄) := by
  have hin : ∀ i : Fin 32, (Region.holdPre A t (i.castLE (show 32 ≤ 34 by decide)) : sProp 𝕄) = owns (c.tc : Thread nD τ) (mems3 a t i) fullShare (rows3 a c A t i) := by
    intro i; fin_cases i <;> rfl
  have hout : ∀ i : Fin 32, (Region.holdPost A (out3 a c A) t (i.castLE (show 32 ≤ 34 by decide)) : sProp 𝕄) = owns (c.tc : Thread nD τ) (mems3 a t i) fullShare (rows3 a c A t i) := by
    intro i; fin_cases i <;> rfl
  rw [prog3]
  refine (Entails.of_eq (bigSep_34 _)).trans ?_
  rw [funext hin]
  refine (Dist.triple (defs := defs₀ (F := F)) 𝒱 c Set.univ h_S1x1x300 h_S1x32x300 h_S1x32x1 (mems3 a t) (spec3_32.stage ((cfg3 a).slots t 32)) (spec3_33.stage ((cfg3 a).slots t 33))
    (rows3 a c A t) (Region.held (cfg3 a) c A 32 t)).trans (wp_mono _ _ _ fun _ => ?_)
  refine BIBase.Entails.trans ?_ (Entails.of_eq (bigSep_34 _).symm)
  rw [funext hout]
  exact .rfl

end Cert.KernelIdeal.Run

end
-- ==== Proof.Ideal.Body4.lean ====
/-
  Distance call 4: which staging buffers its program reads and writes at a point, and that a point leaves the row sums.
-/
module

public import proofs.«01_k».proof.Proof.Region
public import proofs.«01_k».proof.Proof.Dist
public import proofs.«01_k».proof.Proof.Gen.KernelIdeal.Launch

@[expose] public section

set_option maxRecDepth 10000
set_option maxHeartbeats 4000000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Proof Cert.Proof.Steps Cert.KernelIdeal.Gen

variable {F : FTy → Type} [FloatOps F] [Named F]

local notation "𝕄" => MT nD τ sig Unit (Elt F) ℕ (UR sig nD τ) ℕ

variable (a : (pcfg4 (F := F)).Adm) (c : Dev nD) (A : (w : Fin (cfg4 a).W) → Buf (Elt F) (((cfg4 a).win w).arr.view.loc (c.tc : Thread nD τ)))

/-- The staging buffers of the 32 one-row blocks at a point. -/
def mems4 (t : Fin (cfg4 a).N) : Fin 32 → Memref sig .tc .vmem (Row 300) .f32 :=
  ![(spec4_0.stage ((cfg4 a).slots t 0)), (spec4_1.stage ((cfg4 a).slots t 1)), (spec4_2.stage ((cfg4 a).slots t 2)), (spec4_3.stage ((cfg4 a).slots t 3)), (spec4_4.stage ((cfg4 a).slots t 4)), (spec4_5.stage ((cfg4 a).slots t 5)), (spec4_6.stage ((cfg4 a).slots t 6)), (spec4_7.stage ((cfg4 a).slots t 7)), (spec4_8.stage ((cfg4 a).slots t 8)), (spec4_9.stage ((cfg4 a).slots t 9)), (spec4_10.stage ((cfg4 a).slots t 10)), (spec4_11.stage ((cfg4 a).slots t 11)), (spec4_12.stage ((cfg4 a).slots t 12)), (spec4_13.stage ((cfg4 a).slots t 13)), (spec4_14.stage ((cfg4 a).slots t 14)), (spec4_15.stage ((cfg4 a).slots t 15)), (spec4_16.stage ((cfg4 a).slots t 16)), (spec4_17.stage ((cfg4 a).slots t 17)), (spec4_18.stage ((cfg4 a).slots t 18)), (spec4_19.stage ((cfg4 a).slots t 19)), (spec4_20.stage ((cfg4 a).slots t 20)), (spec4_21.stage ((cfg4 a).slots t 21)), (spec4_22.stage ((cfg4 a).slots t 22)), (spec4_23.stage ((cfg4 a).slots t 23)), (spec4_24.stage ((cfg4 a).slots t 24)), (spec4_25.stage ((cfg4 a).slots t 25)), (spec4_26.stage ((cfg4 a).slots t 26)), (spec4_27.stage ((cfg4 a).slots t 27)), (spec4_28.stage ((cfg4 a).slots t 28)), (spec4_29.stage ((cfg4 a).slots t 29)), (spec4_30.stage ((cfg4 a).slots t 30)), (spec4_31.stage ((cfg4 a).slots t 31))]

/-- The 32 one-row blocks at a point. -/
def rows4 (t : Fin (cfg4 a).N) : Fin 32 → Vec F (Row 300) .f32 :=
  ![(Region.held (cfg4 a) c A 0 t), (Region.held (cfg4 a) c A 1 t), (Region.held (cfg4 a) c A 2 t), (Region.held (cfg4 a) c A 3 t), (Region.held (cfg4 a) c A 4 t), (Region.held (cfg4 a) c A 5 t), (Region.held (cfg4 a) c A 6 t), (Region.held (cfg4 a) c A 7 t), (Region.held (cfg4 a) c A 8 t), (Region.held (cfg4 a) c A 9 t), (Region.held (cfg4 a) c A 10 t), (Region.held (cfg4 a) c A 11 t), (Region.held (cfg4 a) c A 12 t), (Region.held (cfg4 a) c A 13 t), (Region.held (cfg4 a) c A 14 t), (Region.held (cfg4 a) c A 15 t), (Region.held (cfg4 a) c A 16 t), (Region.held (cfg4 a) c A 17 t), (Region.held (cfg4 a) c A 18 t), (Region.held (cfg4 a) c A 19 t), (Region.held (cfg4 a) c A 20 t), (Region.held (cfg4 a) c A 21 t), (Region.held (cfg4 a) c A 22 t), (Region.held (cfg4 a) c A 23 t), (Region.held (cfg4 a) c A 24 t), (Region.held (cfg4 a) c A 25 t), (Region.held (cfg4 a) c A 26 t), (Region.held (cfg4 a) c A 27 t), (Region.held (cfg4 a) c A 28 t), (Region.held (cfg4 a) c A 29 t), (Region.held (cfg4 a) c A 30 t), (Region.held (cfg4 a) c A 31 t)]

/-- What a point leaves in the output block. -/
def out4 : (w : Fin (cfg4 a).W) → Fin (cfg4 a).N → ((cfg4 a).win w).block.Idx → Elt F ((cfg4 a).win w).elt :=
  Function.update (fun w t => Region.held (cfg4 a) c A w t) 33 (fun t => Dist.sums (rows4 a c A t) (Region.held (cfg4 a) c A 32 t))

/-- The program of a point is the distance program over the point's staging buffers. -/
theorem prog4 (t : Fin (cfg4 a).N) : defs₀ (F := F) .tc (cfg4 a).body ((cfg4 a).bodyArgs t ((cfg4 a).slots t))
    = Dist.prog h_S1x1x300 h_S1x32x300 h_S1x32x1 (mems4 a t) (spec4_32.stage ((cfg4 a).slots t 32)) (spec4_33.stage ((cfg4 a).slots t 33)) := by
  unfold defs₀; rw [Defs.onTc_tc]; rfl

/-- A point runs from the windows' blocks, and leaves the inputs as they were and the output at the row sums. -/
theorem triple4 (𝒱 : Variants) (t : Fin (cfg4 a).N) : (bigSep Finset.univ fun w => Region.holdPre A t w)
      ⊢ wp frame (wpE (defs₀ (F := F)) 𝒱 (c.tc : Thread nD τ) none) Set.univ (defs₀ (F := F) .tc (cfg4 a).body ((cfg4 a).bodyArgs t ((cfg4 a).slots t)))
          fun _ => (bigSep Finset.univ fun w => Region.holdPost A (out4 a c A) t w : sProp 𝕄) := by
  have hin : ∀ i : Fin 32, (Region.holdPre A t (i.castLE (show 32 ≤ 34 by decide)) : sProp 𝕄) = owns (c.tc : Thread nD τ) (mems4 a t i) fullShare (rows4 a c A t i) := by
    intro i; fin_cases i <;> rfl
  have hout : ∀ i : Fin 32, (Region.holdPost A (out4 a c A) t (i.castLE (show 32 ≤ 34 by decide)) : sProp 𝕄) = owns (c.tc : Thread nD τ) (mems4 a t i) fullShare (rows4 a c A t i) := by
    intro i; fin_cases i <;> rfl
  rw [prog4]
  refine (Entails.of_eq (bigSep_34 _)).trans ?_
  rw [funext hin]
  refine (Dist.triple (defs := defs₀ (F := F)) 𝒱 c Set.univ h_S1x1x300 h_S1x32x300 h_S1x32x1 (mems4 a t) (spec4_32.stage ((cfg4 a).slots t 32)) (spec4_33.stage ((cfg4 a).slots t 33))
    (rows4 a c A t) (Region.held (cfg4 a) c A 32 t)).trans (wp_mono _ _ _ fun _ => ?_)
  refine BIBase.Entails.trans ?_ (Entails.of_eq (bigSep_34 _).symm)
  rw [funext hout]
  exact .rfl

end Cert.KernelIdeal.Run

end
-- ==== Proof.Ideal.Body5.lean ====
/-
  Distance call 5: which staging buffers its program reads and writes at a point, and that a point leaves the row sums.
-/
module

public import proofs.«01_k».proof.Proof.Region
public import proofs.«01_k».proof.Proof.Dist
public import proofs.«01_k».proof.Proof.Gen.KernelIdeal.Launch

@[expose] public section

set_option maxRecDepth 10000
set_option maxHeartbeats 4000000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Proof Cert.Proof.Steps Cert.KernelIdeal.Gen

variable {F : FTy → Type} [FloatOps F] [Named F]

local notation "𝕄" => MT nD τ sig Unit (Elt F) ℕ (UR sig nD τ) ℕ

variable (a : (pcfg5 (F := F)).Adm) (c : Dev nD) (A : (w : Fin (cfg5 a).W) → Buf (Elt F) (((cfg5 a).win w).arr.view.loc (c.tc : Thread nD τ)))

/-- The staging buffers of the 32 one-row blocks at a point. -/
def mems5 (t : Fin (cfg5 a).N) : Fin 32 → Memref sig .tc .vmem (Row 128) .f32 :=
  ![(spec5_0.stage ((cfg5 a).slots t 0)), (spec5_1.stage ((cfg5 a).slots t 1)), (spec5_2.stage ((cfg5 a).slots t 2)), (spec5_3.stage ((cfg5 a).slots t 3)), (spec5_4.stage ((cfg5 a).slots t 4)), (spec5_5.stage ((cfg5 a).slots t 5)), (spec5_6.stage ((cfg5 a).slots t 6)), (spec5_7.stage ((cfg5 a).slots t 7)), (spec5_8.stage ((cfg5 a).slots t 8)), (spec5_9.stage ((cfg5 a).slots t 9)), (spec5_10.stage ((cfg5 a).slots t 10)), (spec5_11.stage ((cfg5 a).slots t 11)), (spec5_12.stage ((cfg5 a).slots t 12)), (spec5_13.stage ((cfg5 a).slots t 13)), (spec5_14.stage ((cfg5 a).slots t 14)), (spec5_15.stage ((cfg5 a).slots t 15)), (spec5_16.stage ((cfg5 a).slots t 16)), (spec5_17.stage ((cfg5 a).slots t 17)), (spec5_18.stage ((cfg5 a).slots t 18)), (spec5_19.stage ((cfg5 a).slots t 19)), (spec5_20.stage ((cfg5 a).slots t 20)), (spec5_21.stage ((cfg5 a).slots t 21)), (spec5_22.stage ((cfg5 a).slots t 22)), (spec5_23.stage ((cfg5 a).slots t 23)), (spec5_24.stage ((cfg5 a).slots t 24)), (spec5_25.stage ((cfg5 a).slots t 25)), (spec5_26.stage ((cfg5 a).slots t 26)), (spec5_27.stage ((cfg5 a).slots t 27)), (spec5_28.stage ((cfg5 a).slots t 28)), (spec5_29.stage ((cfg5 a).slots t 29)), (spec5_30.stage ((cfg5 a).slots t 30)), (spec5_31.stage ((cfg5 a).slots t 31))]

/-- The 32 one-row blocks at a point. -/
def rows5 (t : Fin (cfg5 a).N) : Fin 32 → Vec F (Row 128) .f32 :=
  ![(Region.held (cfg5 a) c A 0 t), (Region.held (cfg5 a) c A 1 t), (Region.held (cfg5 a) c A 2 t), (Region.held (cfg5 a) c A 3 t), (Region.held (cfg5 a) c A 4 t), (Region.held (cfg5 a) c A 5 t), (Region.held (cfg5 a) c A 6 t), (Region.held (cfg5 a) c A 7 t), (Region.held (cfg5 a) c A 8 t), (Region.held (cfg5 a) c A 9 t), (Region.held (cfg5 a) c A 10 t), (Region.held (cfg5 a) c A 11 t), (Region.held (cfg5 a) c A 12 t), (Region.held (cfg5 a) c A 13 t), (Region.held (cfg5 a) c A 14 t), (Region.held (cfg5 a) c A 15 t), (Region.held (cfg5 a) c A 16 t), (Region.held (cfg5 a) c A 17 t), (Region.held (cfg5 a) c A 18 t), (Region.held (cfg5 a) c A 19 t), (Region.held (cfg5 a) c A 20 t), (Region.held (cfg5 a) c A 21 t), (Region.held (cfg5 a) c A 22 t), (Region.held (cfg5 a) c A 23 t), (Region.held (cfg5 a) c A 24 t), (Region.held (cfg5 a) c A 25 t), (Region.held (cfg5 a) c A 26 t), (Region.held (cfg5 a) c A 27 t), (Region.held (cfg5 a) c A 28 t), (Region.held (cfg5 a) c A 29 t), (Region.held (cfg5 a) c A 30 t), (Region.held (cfg5 a) c A 31 t)]

/-- What a point leaves in the output block. -/
def out5 : (w : Fin (cfg5 a).W) → Fin (cfg5 a).N → ((cfg5 a).win w).block.Idx → Elt F ((cfg5 a).win w).elt :=
  Function.update (fun w t => Region.held (cfg5 a) c A w t) 33 (fun t => Dist.sums (rows5 a c A t) (Region.held (cfg5 a) c A 32 t))

/-- The program of a point is the distance program over the point's staging buffers. -/
theorem prog5 (t : Fin (cfg5 a).N) : defs₀ (F := F) .tc (cfg5 a).body ((cfg5 a).bodyArgs t ((cfg5 a).slots t))
    = Dist.prog h_S1x1x128 h_S1x32x128 h_S1x32x1 (mems5 a t) (spec5_32.stage ((cfg5 a).slots t 32)) (spec5_33.stage ((cfg5 a).slots t 33)) := by
  unfold defs₀; rw [Defs.onTc_tc]; rfl

/-- A point runs from the windows' blocks, and leaves the inputs as they were and the output at the row sums. -/
theorem triple5 (𝒱 : Variants) (t : Fin (cfg5 a).N) : (bigSep Finset.univ fun w => Region.holdPre A t w)
      ⊢ wp frame (wpE (defs₀ (F := F)) 𝒱 (c.tc : Thread nD τ) none) Set.univ (defs₀ (F := F) .tc (cfg5 a).body ((cfg5 a).bodyArgs t ((cfg5 a).slots t)))
          fun _ => (bigSep Finset.univ fun w => Region.holdPost A (out5 a c A) t w : sProp 𝕄) := by
  have hin : ∀ i : Fin 32, (Region.holdPre A t (i.castLE (show 32 ≤ 34 by decide)) : sProp 𝕄) = owns (c.tc : Thread nD τ) (mems5 a t i) fullShare (rows5 a c A t i) := by
    intro i; fin_cases i <;> rfl
  have hout : ∀ i : Fin 32, (Region.holdPost A (out5 a c A) t (i.castLE (show 32 ≤ 34 by decide)) : sProp 𝕄) = owns (c.tc : Thread nD τ) (mems5 a t i) fullShare (rows5 a c A t i) := by
    intro i; fin_cases i <;> rfl
  rw [prog5]
  refine (Entails.of_eq (bigSep_34 _)).trans ?_
  rw [funext hin]
  refine (Dist.triple (defs := defs₀ (F := F)) 𝒱 c Set.univ h_S1x1x128 h_S1x32x128 h_S1x32x1 (mems5 a t) (spec5_32.stage ((cfg5 a).slots t 32)) (spec5_33.stage ((cfg5 a).slots t 33))
    (rows5 a c A t) (Region.held (cfg5 a) c A 32 t)).trans (wp_mono _ _ _ fun _ => ?_)
  refine BIBase.Entails.trans ?_ (Entails.of_eq (bigSep_34 _).symm)
  rw [funext hout]
  exact .rfl

end Cert.KernelIdeal.Run

end
-- ==== Proof.Ideal.Body6.lean ====
/-
  Distance call 6: which staging buffers its program reads and writes at a point, and that a point leaves the row sums.
-/
module

public import proofs.«01_k».proof.Proof.Region
public import proofs.«01_k».proof.Proof.Dist
public import proofs.«01_k».proof.Proof.Gen.KernelIdeal.Launch

@[expose] public section

set_option maxRecDepth 10000
set_option maxHeartbeats 4000000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Proof Cert.Proof.Steps Cert.KernelIdeal.Gen

variable {F : FTy → Type} [FloatOps F] [Named F]

local notation "𝕄" => MT nD τ sig Unit (Elt F) ℕ (UR sig nD τ) ℕ

variable (a : (pcfg6 (F := F)).Adm) (c : Dev nD) (A : (w : Fin (cfg6 a).W) → Buf (Elt F) (((cfg6 a).win w).arr.view.loc (c.tc : Thread nD τ)))

/-- The staging buffers of the 32 one-row blocks at a point. -/
def mems6 (t : Fin (cfg6 a).N) : Fin 32 → Memref sig .tc .vmem (Row 128) .f32 :=
  ![(spec6_0.stage ((cfg6 a).slots t 0)), (spec6_1.stage ((cfg6 a).slots t 1)), (spec6_2.stage ((cfg6 a).slots t 2)), (spec6_3.stage ((cfg6 a).slots t 3)), (spec6_4.stage ((cfg6 a).slots t 4)), (spec6_5.stage ((cfg6 a).slots t 5)), (spec6_6.stage ((cfg6 a).slots t 6)), (spec6_7.stage ((cfg6 a).slots t 7)), (spec6_8.stage ((cfg6 a).slots t 8)), (spec6_9.stage ((cfg6 a).slots t 9)), (spec6_10.stage ((cfg6 a).slots t 10)), (spec6_11.stage ((cfg6 a).slots t 11)), (spec6_12.stage ((cfg6 a).slots t 12)), (spec6_13.stage ((cfg6 a).slots t 13)), (spec6_14.stage ((cfg6 a).slots t 14)), (spec6_15.stage ((cfg6 a).slots t 15)), (spec6_16.stage ((cfg6 a).slots t 16)), (spec6_17.stage ((cfg6 a).slots t 17)), (spec6_18.stage ((cfg6 a).slots t 18)), (spec6_19.stage ((cfg6 a).slots t 19)), (spec6_20.stage ((cfg6 a).slots t 20)), (spec6_21.stage ((cfg6 a).slots t 21)), (spec6_22.stage ((cfg6 a).slots t 22)), (spec6_23.stage ((cfg6 a).slots t 23)), (spec6_24.stage ((cfg6 a).slots t 24)), (spec6_25.stage ((cfg6 a).slots t 25)), (spec6_26.stage ((cfg6 a).slots t 26)), (spec6_27.stage ((cfg6 a).slots t 27)), (spec6_28.stage ((cfg6 a).slots t 28)), (spec6_29.stage ((cfg6 a).slots t 29)), (spec6_30.stage ((cfg6 a).slots t 30)), (spec6_31.stage ((cfg6 a).slots t 31))]

/-- The 32 one-row blocks at a point. -/
def rows6 (t : Fin (cfg6 a).N) : Fin 32 → Vec F (Row 128) .f32 :=
  ![(Region.held (cfg6 a) c A 0 t), (Region.held (cfg6 a) c A 1 t), (Region.held (cfg6 a) c A 2 t), (Region.held (cfg6 a) c A 3 t), (Region.held (cfg6 a) c A 4 t), (Region.held (cfg6 a) c A 5 t), (Region.held (cfg6 a) c A 6 t), (Region.held (cfg6 a) c A 7 t), (Region.held (cfg6 a) c A 8 t), (Region.held (cfg6 a) c A 9 t), (Region.held (cfg6 a) c A 10 t), (Region.held (cfg6 a) c A 11 t), (Region.held (cfg6 a) c A 12 t), (Region.held (cfg6 a) c A 13 t), (Region.held (cfg6 a) c A 14 t), (Region.held (cfg6 a) c A 15 t), (Region.held (cfg6 a) c A 16 t), (Region.held (cfg6 a) c A 17 t), (Region.held (cfg6 a) c A 18 t), (Region.held (cfg6 a) c A 19 t), (Region.held (cfg6 a) c A 20 t), (Region.held (cfg6 a) c A 21 t), (Region.held (cfg6 a) c A 22 t), (Region.held (cfg6 a) c A 23 t), (Region.held (cfg6 a) c A 24 t), (Region.held (cfg6 a) c A 25 t), (Region.held (cfg6 a) c A 26 t), (Region.held (cfg6 a) c A 27 t), (Region.held (cfg6 a) c A 28 t), (Region.held (cfg6 a) c A 29 t), (Region.held (cfg6 a) c A 30 t), (Region.held (cfg6 a) c A 31 t)]

/-- What a point leaves in the output block. -/
def out6 : (w : Fin (cfg6 a).W) → Fin (cfg6 a).N → ((cfg6 a).win w).block.Idx → Elt F ((cfg6 a).win w).elt :=
  Function.update (fun w t => Region.held (cfg6 a) c A w t) 33 (fun t => Dist.sums (rows6 a c A t) (Region.held (cfg6 a) c A 32 t))

/-- The program of a point is the distance program over the point's staging buffers. -/
theorem prog6 (t : Fin (cfg6 a).N) : defs₀ (F := F) .tc (cfg6 a).body ((cfg6 a).bodyArgs t ((cfg6 a).slots t))
    = Dist.prog h_S1x1x128 h_S1x32x128 h_S1x32x1 (mems6 a t) (spec6_32.stage ((cfg6 a).slots t 32)) (spec6_33.stage ((cfg6 a).slots t 33)) := by
  unfold defs₀; rw [Defs.onTc_tc]; rfl

/-- A point runs from the windows' blocks, and leaves the inputs as they were and the output at the row sums. -/
theorem triple6 (𝒱 : Variants) (t : Fin (cfg6 a).N) : (bigSep Finset.univ fun w => Region.holdPre A t w)
      ⊢ wp frame (wpE (defs₀ (F := F)) 𝒱 (c.tc : Thread nD τ) none) Set.univ (defs₀ (F := F) .tc (cfg6 a).body ((cfg6 a).bodyArgs t ((cfg6 a).slots t)))
          fun _ => (bigSep Finset.univ fun w => Region.holdPost A (out6 a c A) t w : sProp 𝕄) := by
  have hin : ∀ i : Fin 32, (Region.holdPre A t (i.castLE (show 32 ≤ 34 by decide)) : sProp 𝕄) = owns (c.tc : Thread nD τ) (mems6 a t i) fullShare (rows6 a c A t i) := by
    intro i; fin_cases i <;> rfl
  have hout : ∀ i : Fin 32, (Region.holdPost A (out6 a c A) t (i.castLE (show 32 ≤ 34 by decide)) : sProp 𝕄) = owns (c.tc : Thread nD τ) (mems6 a t i) fullShare (rows6 a c A t i) := by
    intro i; fin_cases i <;> rfl
  rw [prog6]
  refine (Entails.of_eq (bigSep_34 _)).trans ?_
  rw [funext hin]
  refine (Dist.triple (defs := defs₀ (F := F)) 𝒱 c Set.univ h_S1x1x128 h_S1x32x128 h_S1x32x1 (mems6 a t) (spec6_32.stage ((cfg6 a).slots t 32)) (spec6_33.stage ((cfg6 a).slots t 33))
    (rows6 a c A t) (Region.held (cfg6 a) c A 32 t)).trans (wp_mono _ _ _ fun _ => ?_)
  refine BIBase.Entails.trans ?_ (Entails.of_eq (bigSep_34 _).symm)
  rw [funext hout]
  exact .rfl

end Cert.KernelIdeal.Run

end
-- ==== Proof.Reduce.lean ====
/-
  The reduction call's body, for rows of three widths: three groups, each two 512-row matrices and a matrix of distances; for
  each group the sums of the absolute row differences, taken 64 at a time against every distance, clipped at zero and summed.
  What the body leaves in its one element, and that the body's program leaves it.
-/
module

public import proofs.«01_k».proof.Proof.Steps
public import Idealize.ShloMosaic.Lib.Pipeline.Value

@[expose] public section

noncomputable section

namespace Cert.Proof.Reduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Steps

variable {F : FTy → Type} [FloatOps F]

abbrev Rows (D : ℕ) : Shape := ⟨2, ![512, D]⟩
abbrev Sums : Shape := ⟨1, ![512]⟩
abbrev Col : Shape := ⟨2, ![512, 1]⟩
abbrev Bands : Shape := ⟨3, ![8, 64, 1]⟩
abbrev Band3 : Shape := ⟨3, ![1, 64, 1]⟩
abbrev Band2 : Shape := ⟨2, ![64, 1]⟩
abbrev BandUp : Shape := ⟨3, ![64, 1, 1]⟩
abbrev Dists : Shape := ⟨2, ![256, 128]⟩
abbrev Dists3 : Shape := ⟨3, ![1, 256, 128]⟩
abbrev Cube : Shape := ⟨3, ![64, 256, 128]⟩
abbrev Cube4 : Shape := ⟨4, ![1, 64, 256, 128]⟩
abbrev One1 : Shape := ⟨1, ![1]⟩
abbrev One2 : Shape := ⟨2, ![1, 1]⟩
abbrev One4 : Shape := ⟨4, ![1, 1, 1, 1]⟩

/-- The lines' entries sum along the last axis. -/
theorem reduces_rows (D : ℕ) : (Rows D).Reduces [1] Sums := by
  refine ⟨rfl, by decide, fun b => ?_⟩
  fin_cases b; rfl

/-- The two shapes of this reshape have the same number of entries. -/
theorem casts_self (s : Shape) : s.ShapeCasts s := rfl
/-- The two shapes of this reshape have the same number of entries. -/
theorem casts_sums : Sums.ShapeCasts Col := by decide
/-- The two shapes of this reshape have the same number of entries. -/
theorem casts_col : Col.ShapeCasts Bands := by decide
/-- The two shapes of this reshape have the same number of entries. -/
theorem casts_dists : Dists.ShapeCasts Dists3 := by decide
/-- The two shapes of this reshape have the same number of entries. -/
theorem casts_band : Band3.ShapeCasts Band2 := by decide
/-- The two shapes of this reshape have the same number of entries. -/
theorem casts_bandUp : Band2.ShapeCasts BandUp := by decide
/-- The two shapes of this reshape have the same number of entries. -/
theorem casts_cube : Cube.ShapeCasts Cube4 := by decide
/-- The two shapes of this reshape have the same number of entries. -/
theorem casts_one : One1.ShapeCasts One4 := by decide
/-- The comparisons sum over three axes to one number. -/
theorem reduces_cube : Cube4.Reduces [1, 2, 3] One1 := by decide
/-- A band is repeated along the comparisons. -/
theorem broadcasts_band : BandUp.Broadcasts Cube := by decide
/-- The distances are repeated along the anchors. -/
theorem broadcasts_dists : Dists3.Broadcasts Cube := by decide
/-- One band is a slice of the eight. -/
theorem slices_bands (t : Fin 8) : Bands.Slices ![t.val, 0, 0] Band3 := by revert t; decide
/-- The position of the one sum lies inside its array. -/
theorem inpos : ∀ a, (![0, 0, 0, 0] : Fin 4 → ℕ) a < One4.size a := by decide

/-- The sums of the absolute row differences, as eight bands of 64. -/
def bands {D : ℕ} (x y : Vec F (Rows D) .f32) : FVec F Bands .f32 :=
  shapeCast Bands (shapeCast Col (multiReduction (F := F) (φ := .f32) .add [1] Sums
    (absf (subf (shapeCast (Rows D) x (casts_self _)) (shapeCast (Rows D) y (casts_self _)))) 0x00000000#32 (reduces_rows D) (.inl rfl) rfl) casts_sums) casts_col

/-- The distances under a leading axis. -/
def dists (d : Vec F Dists .f32) : FVec F Dists3 .f32 := shapeCast Dists3 (shapeCast Dists d (casts_self _)) casts_dists

/-- One band's total. -/
def term (tenth margin : F .f32) (M : FVec F Bands .f32) (d : FVec F Dists3 .f32) (t : Fin 8) : F .f32 :=
  extractAt ![0, 0, 0, 0] (shapeCast One4 (multiReduction (F := F) (φ := .f32) .add [1, 2, 3] One1
    (shapeCast Cube4 (maximumf (addf (broadcast Cube margin) (mulf (subf
      (broadcastTo Cube (shapeCast BandUp (shapeCast Band2 (extractStridedSlice Band3 ![t.val, 0, 0] M (slices_bands t)) casts_band) casts_bandUp) broadcasts_band)
      (broadcastTo Cube d broadcasts_dists)) (broadcast Cube tenth))) (broadcast Cube (Scalar.ofBits .f32 0x00000000#32))) casts_cube)
    0x00000000#32 reduces_cube (.inl rfl) rfl) casts_one) inpos

/-- A group's bands added to an accumulator, in order. -/
def group (tenth margin : F .f32) (M : FVec F Bands .f32) (d : FVec F Dists3 .f32) (acc : F .f32) : F .f32 :=
  [(0 : Fin 8), 1, 2, 3, 4, 5, 6, 7].foldl (fun s t => Scalar.addf s (term tenth margin M d t)) acc

/-- What the body stores. -/
def loss {A B C : ℕ} (tenth : F .f32) (dx dn dO : Vec F Dists .f32) (x0 x1 : Vec F (Rows A) .f32) (n0 n1 : Vec F (Rows B) .f32) (o0 o1 : Vec F (Rows C) .f32) :
    Vec F One2 .f32 :=
  broadcast One2 (Scalar.mulf
    (group tenth (Scalar.ofBits .f32 0x3F99999A#32) (bands o0 o1) (dists dO)
      (group tenth (Scalar.ofBits .f32 0x3F99999A#32) (bands n0 n1) (dists dn)
        (group tenth (Scalar.ofBits .f32 0x40400000#32) (bands x0 x1) (dists dx) (Scalar.ofBits .f32 0x00000000#32))))
    (Scalar.ofBits .f32 0x33800000#32))

variable {nD : Nat} {τ : Topo} {sig : RefSig} {Λ : Idealize.SL.Sem.Labels}

/-- A load of a whole matrix. -/
abbrev loadMat {α : Type} {n k : ℕ} (hn : 0 < (⟨2, ![n, k]⟩ : Shape).numel) (m : Memref sig .tc .vmem ⟨2, ![n, k]⟩ .f32)
    (f : Vec F ⟨2, ![n, k]⟩ .f32 → Prog (TpuEff nD τ sig (Elt F) Λ .tc) α) : Prog (TpuEff nD τ sig (Elt F) Λ .tc) α :=
  .op (.load m (Rect.unit (s := ⟨2, ![n, k]⟩) ![0, 0] (⟨2, ![n, k]⟩ : Shape).size (by intro a; fin_cases a <;> simp)).toLoadRect (View.loadsAt_vmem hn)) f

/-- The body's program. -/
def prog {A B C : ℕ} (tenth : F .f32) (hd : 0 < Dists.numel) (hA : 0 < (Rows A).numel) (hB : 0 < (Rows B).numel) (hC : 0 < (Rows C).numel) (h1 : 0 < One2.numel)
    (dx dn dO : Memref sig .tc .vmem Dists .f32) (x0 x1 : Memref sig .tc .vmem (Rows A) .f32) (n0 n1 : Memref sig .tc .vmem (Rows B) .f32)
    (o0 o1 : Memref sig .tc .vmem (Rows C) .f32) (out : Memref sig .tc .vmem One2 .f32) : Prog (TpuEff nD τ sig (Elt F) Λ .tc) PUnit :=
  loadMat hA x0 fun x0 => loadMat hA x1 fun x1 => loadMat hd dx fun dx =>
  loadMat hB n0 fun n0 => loadMat hB n1 fun n1 => loadMat hd dn fun dn =>
  loadMat hC o0 fun o0 => loadMat hC o1 fun o1 => loadMat hd dO fun dO =>
  loadMat h1 out fun _ =>
  .op (.store out (Rect.unit (s := One2) ![0, 0] One2.size (by intro a; fin_cases a <;> simp)) (loss tenth dx dn dO x0 x1 n0 n1 o0 o1) Finset.univ
    (View.stores_vmem_bits_univ h1 rfl) (.inl rfl)) fun _ =>
  .ret ⟨⟩

local notation "𝕄" => MT nD τ sig Unit (Elt F) ℕ (UR sig nD τ) ℕ

variable {defs : Defs nD τ sig (Elt F) Λ} (𝒱 : Variants) (c : Dev nD) (E : Set ℕ)

/-- The body's triple: the nine inputs as they were, the output's element at the loss. -/
theorem triple {A B C : ℕ} (tenth : F .f32) (hd : 0 < Dists.numel) (hA : 0 < (Rows A).numel) (hB : 0 < (Rows B).numel) (hC : 0 < (Rows C).numel) (h1 : 0 < One2.numel)
    (dx dn dO : Memref sig .tc .vmem Dists .f32) (x0 x1 : Memref sig .tc .vmem (Rows A) .f32) (n0 n1 : Memref sig .tc .vmem (Rows B) .f32)
    (o0 o1 : Memref sig .tc .vmem (Rows C) .f32) (out : Memref sig .tc .vmem One2 .f32)
    (vdx vdn vdO : Vec F Dists .f32) (vx0 vx1 : Vec F (Rows A) .f32) (vn0 vn1 : Vec F (Rows B) .f32) (vo0 vo1 : Vec F (Rows C) .f32) :
    iprop(owns (c.tc : Thread nD τ) dx fullShare vdx ∗ owns (c.tc : Thread nD τ) dn fullShare vdn ∗ owns (c.tc : Thread nD τ) dO fullShare vdO
      ∗ owns (c.tc : Thread nD τ) x0 fullShare vx0 ∗ owns (c.tc : Thread nD τ) x1 fullShare vx1 ∗ owns (c.tc : Thread nD τ) n0 fullShare vn0
      ∗ owns (c.tc : Thread nD τ) n1 fullShare vn1 ∗ owns (c.tc : Thread nD τ) o0 fullShare vo0 ∗ owns (c.tc : Thread nD τ) o1 fullShare vo1
      ∗ ∃ d, owns (c.tc : Thread nD τ) out fullShare d)
      ⊢ wp frame (wpE defs 𝒱 (c.tc : Thread nD τ) none) E (prog tenth hd hA hB hC h1 dx dn dO x0 x1 n0 n1 o0 o1 out) fun _ =>
        (iprop(owns (c.tc : Thread nD τ) dx fullShare vdx ∗ owns (c.tc : Thread nD τ) dn fullShare vdn ∗ owns (c.tc : Thread nD τ) dO fullShare vdO
          ∗ owns (c.tc : Thread nD τ) x0 fullShare vx0 ∗ owns (c.tc : Thread nD τ) x1 fullShare vx1 ∗ owns (c.tc : Thread nD τ) n0 fullShare vn0
          ∗ owns (c.tc : Thread nD τ) n1 fullShare vn1 ∗ owns (c.tc : Thread nD τ) o0 fullShare vo0 ∗ owns (c.tc : Thread nD τ) o1 fullShare vo1
          ∗ owns (c.tc : Thread nD τ) out fullShare (loss tenth vdx vdn vdO vx0 vx1 vn0 vn1 vo0 vo1)) : sProp 𝕄) := by
  unfold prog
  iintro ⟨Hdx, Hdn, Hdo, Hx0, Hx1, Hn0, Hn1, Ho0, Ho1, %d, Hout⟩
  iapply (wp_load_all (defs := defs) 𝒱 c E (x := vx0) (by intro a; fin_cases a <;> rfl)) $$ Hx0
  iintro Hx0
  iapply (wp_load_all (defs := defs) 𝒱 c E (x := vx1) (by intro a; fin_cases a <;> rfl)) $$ Hx1
  iintro Hx1
  iapply (wp_load_all (defs := defs) 𝒱 c E (x := vdx) (by intro a; fin_cases a <;> rfl)) $$ Hdx
  iintro Hdx
  iapply (wp_load_all (defs := defs) 𝒱 c E (x := vn0) (by intro a; fin_cases a <;> rfl)) $$ Hn0
  iintro Hn0
  iapply (wp_load_all (defs := defs) 𝒱 c E (x := vn1) (by intro a; fin_cases a <;> rfl)) $$ Hn1
  iintro Hn1
  iapply (wp_load_all (defs := defs) 𝒱 c E (x := vdn) (by intro a; fin_cases a <;> rfl)) $$ Hdn
  iintro Hdn
  iapply (wp_load_all (defs := defs) 𝒱 c E (x := vo0) (by intro a; fin_cases a <;> rfl)) $$ Ho0
  iintro Ho0
  iapply (wp_load_all (defs := defs) 𝒱 c E (x := vo1) (by intro a; fin_cases a <;> rfl)) $$ Ho1
  iintro Ho1
  iapply (wp_load_all (defs := defs) 𝒱 c E (x := vdO) (by intro a; fin_cases a <;> rfl)) $$ Hdo
  iintro Hdo
  iapply (wp_load_all (defs := defs) 𝒱 c E (x := d) (by intro a; fin_cases a <;> rfl)) $$ Hout
  iintro Hout
  iapply (wp_store_all (defs := defs) 𝒱 c E (x := d) (by intro a; fin_cases a <;> rfl)) $$ Hout
  iintro Hout
  rw [wp_ret]
  imodintro
  iframe

end Cert.Proof.Reduce

end
-- ==== Proof.Ideal.Body7.lean ====
/-
  The reduction call: which staging buffers its program reads and writes, and that it leaves the loss.
-/
module

public import proofs.«01_k».proof.Proof.Region
public import proofs.«01_k».proof.Proof.Reduce
public import proofs.«01_k».proof.Proof.Gen.KernelIdeal.Launch

@[expose] public section

set_option maxRecDepth 10000
set_option maxHeartbeats 4000000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Proof Cert.Proof.Steps Cert.KernelIdeal.Gen

variable {F : FTy → Type} [FloatOps F] [Named F]

local notation "𝕄" => MT nD τ sig Unit (Elt F) ℕ (UR sig nD τ) ℕ

variable (c : Dev nD) (A : (w : Fin cfg7.W) → Buf (Elt F) ((cfg7.win w).arr.view.loc (c.tc : Thread nD τ)))

/-- What the call leaves in its output block. -/
def out7 : (w : Fin cfg7.W) → Fin cfg7.N → (cfg7.win w).block.Idx → Elt F (cfg7.win w).elt :=
  Function.update (fun w t => Region.held cfg7 c A w t) 9 (fun t => Reduce.loss (Named.named κ "tenth" 0x3DCCCCCD#32)
    (Region.held cfg7 c A 0 t) (Region.held cfg7 c A 1 t) (Region.held cfg7 c A 2 t) (Region.held cfg7 c A 3 t) (Region.held cfg7 c A 4 t)
    (Region.held cfg7 c A 5 t) (Region.held cfg7 c A 6 t) (Region.held cfg7 c A 7 t) (Region.held cfg7 c A 8 t))

/-- The program of the call is the reduction program over its staging buffers. -/
theorem prog7 (t : Fin cfg7.N) : defs₀ (F := F) .tc cfg7.body (cfg7.bodyArgs t (cfg7.slots t))
    = Reduce.prog (Named.named κ "tenth" 0x3DCCCCCD#32) h_S256x128 h_S512x256 h_S512x300 h_S512x128 h_S1x1
      (win7_0.stage (cfg7.slots t 0)) (win7_1.stage (cfg7.slots t 1)) (win7_2.stage (cfg7.slots t 2)) (win7_3.stage (cfg7.slots t 3)) (win7_4.stage (cfg7.slots t 4))
      (win7_5.stage (cfg7.slots t 5)) (win7_6.stage (cfg7.slots t 6)) (win7_7.stage (cfg7.slots t 7)) (win7_8.stage (cfg7.slots t 8)) (win7_9.stage (cfg7.slots t 9)) := by
  unfold defs₀; rw [Defs.onTc_tc]; rfl

/-- The call runs from the windows' blocks, and leaves the inputs as they were and the output at the loss. -/
theorem triple7 (𝒱 : Variants) (t : Fin cfg7.N) : (bigSep Finset.univ fun w => Region.holdPre A t w)
      ⊢ wp frame (wpE (defs₀ (F := F)) 𝒱 (c.tc : Thread nD τ) none) Set.univ (defs₀ (F := F) .tc cfg7.body (cfg7.bodyArgs t (cfg7.slots t)))
          fun _ => (bigSep Finset.univ fun w => Region.holdPost A (out7 c A) t w : sProp 𝕄) := by
  rw [prog7]
  refine (Entails.of_eq (bigSep_W7 _)).trans ?_
  refine BIBase.Entails.trans ?_ (wp_mono _ _ _ fun _ => (Entails.of_eq (bigSep_W7 _).symm))
  exact Reduce.triple (defs := defs₀ (F := F)) 𝒱 c Set.univ (Named.named κ "tenth" 0x3DCCCCCD#32) h_S256x128 h_S512x256 h_S512x300 h_S512x128 h_S1x1 _ _ _ _ _ _ _ _ _ _ _ _ _ _ _ _ _ _ _

end Cert.KernelIdeal.Run

end
-- ==== Proof.Ideal.Vals.lean ====
/-
  What the buffers hold between the items of the program, from the launch's memory to the end: each host stretch's results, and
  each call's arrays at their final contents.
-/
module

public import proofs.«01_k».proof.Proof.Region
public import proofs.«01_k».proof.Proof.Ideal.Tables
public import proofs.«01_k».proof.Proof.Ideal.Body0
public import proofs.«01_k».proof.Proof.Ideal.Body1
public import proofs.«01_k».proof.Proof.Ideal.Body2
public import proofs.«01_k».proof.Proof.Ideal.Body3
public import proofs.«01_k».proof.Proof.Ideal.Body4
public import proofs.«01_k».proof.Proof.Ideal.Body5
public import proofs.«01_k».proof.Proof.Ideal.Body6
public import proofs.«01_k».proof.Proof.Ideal.Body7
public import proofs.«01_k».proof.Proof.Gen.KernelIdeal.Launch

@[expose] public section

set_option maxRecDepth 10000
set_option maxHeartbeats 4000000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Proof Cert.KernelIdeal.Gen

variable {F : FTy → Type} [FloatOps F] [Named F]
variable (m : (ℓ : Loc nD τ sig) → Buf (Elt F) ℓ) (h : Rows m)

/-- The buffers when the gather call is entered. -/
def W1 (c : Dev nD) : Valuation τ sig (Elt F) := StableHlo.after hostOps0 (V0 m c)

/-- The arrays of the gather call when it is entered. -/
def in0 (c : Dev nD) (w : Fin (cfg0 (F := F) ⟨tab0 m, tab0_ok m h⟩).W) : Buf (Elt F) (((cfg0 (F := F) ⟨tab0 m, tab0_ok m h⟩).win w).arr.view.loc (c.tc : Thread nD τ)) :=
  W1 m c (Proc.devRef .tc (arrRef (cfg0 (F := F) ⟨tab0 m, tab0_ok m h⟩).spec w))

/-- The proof data of the gather call. -/
def dat0 (c : Dev nD) : Dat τ (Elt F) Unit ℕ (UR sig nD τ) ℕ (cfg0 (F := F) ⟨tab0 m, tab0_ok m h⟩) c :=
  Region.dat (cfg0 (F := F) ⟨tab0 m, tab0_ok m h⟩) c (in0 m h c) (out0 ⟨tab0 m, tab0_ok m h⟩ c (in0 m h c)) (Region.inv (pcfgs (F := F)) (adm m h) 0 c)

/-- The buffers when the gather call is left. -/
def W2 (c : Dev nD) : Valuation τ sig (Elt F) := withArrays spec0 c (W1 m c) fun w => (dat0 m h c).arrAt w (cfg0 (F := F) ⟨tab0 m, tab0_ok m h⟩).N

/-- The buffers when distance call 1 is entered. -/
def W3 (c : Dev nD) : Valuation τ sig (Elt F) := StableHlo.after hostOps1 (W2 m h c)

/-- The arrays of distance call 1 when it is entered. -/
def in1 (c : Dev nD) (w : Fin (cfg1 (F := F) ⟨tab1 m, tab1_ok m h⟩).W) : Buf (Elt F) (((cfg1 (F := F) ⟨tab1 m, tab1_ok m h⟩).win w).arr.view.loc (c.tc : Thread nD τ)) :=
  W3 m h c (Proc.devRef .tc (arrRef (cfg1 (F := F) ⟨tab1 m, tab1_ok m h⟩).spec w))

/-- The proof data of distance call 1. -/
def dat1 (c : Dev nD) : Dat τ (Elt F) Unit ℕ (UR sig nD τ) ℕ (cfg1 (F := F) ⟨tab1 m, tab1_ok m h⟩) c :=
  Region.dat (cfg1 (F := F) ⟨tab1 m, tab1_ok m h⟩) c (in1 m h c) (out1 ⟨tab1 m, tab1_ok m h⟩ c (in1 m h c)) (Region.inv (pcfgs (F := F)) (adm m h) 1 c)

/-- The buffers when distance call 1 is left. -/
def W4 (c : Dev nD) : Valuation τ sig (Elt F) := withArrays spec1 c (W3 m h c) fun w => (dat1 m h c).arrAt w (cfg1 (F := F) ⟨tab1 m, tab1_ok m h⟩).N

/-- The buffers when distance call 2 is entered. -/
def W5 (c : Dev nD) : Valuation τ sig (Elt F) := StableHlo.after hostOps2 (W4 m h c)

/-- The arrays of distance call 2 when it is entered. -/
def in2 (c : Dev nD) (w : Fin (cfg2 (F := F) ⟨tab2 m, tab2_ok m h⟩).W) : Buf (Elt F) (((cfg2 (F := F) ⟨tab2 m, tab2_ok m h⟩).win w).arr.view.loc (c.tc : Thread nD τ)) :=
  W5 m h c (Proc.devRef .tc (arrRef (cfg2 (F := F) ⟨tab2 m, tab2_ok m h⟩).spec w))

/-- The proof data of distance call 2. -/
def dat2 (c : Dev nD) : Dat τ (Elt F) Unit ℕ (UR sig nD τ) ℕ (cfg2 (F := F) ⟨tab2 m, tab2_ok m h⟩) c :=
  Region.dat (cfg2 (F := F) ⟨tab2 m, tab2_ok m h⟩) c (in2 m h c) (out2 ⟨tab2 m, tab2_ok m h⟩ c (in2 m h c)) (Region.inv (pcfgs (F := F)) (adm m h) 2 c)

/-- The buffers when distance call 2 is left. -/
def W6 (c : Dev nD) : Valuation τ sig (Elt F) := withArrays spec2 c (W5 m h c) fun w => (dat2 m h c).arrAt w (cfg2 (F := F) ⟨tab2 m, tab2_ok m h⟩).N

/-- The buffers when distance call 3 is entered. -/
def W7 (c : Dev nD) : Valuation τ sig (Elt F) := StableHlo.after hostOps3 (W6 m h c)

/-- The arrays of distance call 3 when it is entered. -/
def in3 (c : Dev nD) (w : Fin (cfg3 (F := F) ⟨tab3 m, tab3_ok m h⟩).W) : Buf (Elt F) (((cfg3 (F := F) ⟨tab3 m, tab3_ok m h⟩).win w).arr.view.loc (c.tc : Thread nD τ)) :=
  W7 m h c (Proc.devRef .tc (arrRef (cfg3 (F := F) ⟨tab3 m, tab3_ok m h⟩).spec w))

/-- The proof data of distance call 3. -/
def dat3 (c : Dev nD) : Dat τ (Elt F) Unit ℕ (UR sig nD τ) ℕ (cfg3 (F := F) ⟨tab3 m, tab3_ok m h⟩) c :=
  Region.dat (cfg3 (F := F) ⟨tab3 m, tab3_ok m h⟩) c (in3 m h c) (out3 ⟨tab3 m, tab3_ok m h⟩ c (in3 m h c)) (Region.inv (pcfgs (F := F)) (adm m h) 3 c)

/-- The buffers when distance call 3 is left. -/
def W8 (c : Dev nD) : Valuation τ sig (Elt F) := withArrays spec3 c (W7 m h c) fun w => (dat3 m h c).arrAt w (cfg3 (F := F) ⟨tab3 m, tab3_ok m h⟩).N

/-- The buffers when distance call 4 is entered. -/
def W9 (c : Dev nD) : Valuation τ sig (Elt F) := StableHlo.after hostOps4 (W8 m h c)

/-- The arrays of distance call 4 when it is entered. -/
def in4 (c : Dev nD) (w : Fin (cfg4 (F := F) ⟨tab4 m, tab4_ok m h⟩).W) : Buf (Elt F) (((cfg4 (F := F) ⟨tab4 m, tab4_ok m h⟩).win w).arr.view.loc (c.tc : Thread nD τ)) :=
  W9 m h c (Proc.devRef .tc (arrRef (cfg4 (F := F) ⟨tab4 m, tab4_ok m h⟩).spec w))

/-- The proof data of distance call 4. -/
def dat4 (c : Dev nD) : Dat τ (Elt F) Unit ℕ (UR sig nD τ) ℕ (cfg4 (F := F) ⟨tab4 m, tab4_ok m h⟩) c :=
  Region.dat (cfg4 (F := F) ⟨tab4 m, tab4_ok m h⟩) c (in4 m h c) (out4 ⟨tab4 m, tab4_ok m h⟩ c (in4 m h c)) (Region.inv (pcfgs (F := F)) (adm m h) 4 c)

/-- The buffers when distance call 4 is left. -/
def W10 (c : Dev nD) : Valuation τ sig (Elt F) := withArrays spec4 c (W9 m h c) fun w => (dat4 m h c).arrAt w (cfg4 (F := F) ⟨tab4 m, tab4_ok m h⟩).N

/-- The buffers when distance call 5 is entered. -/
def W11 (c : Dev nD) : Valuation τ sig (Elt F) := StableHlo.after hostOps5 (W10 m h c)

/-- The arrays of distance call 5 when it is entered. -/
def in5 (c : Dev nD) (w : Fin (cfg5 (F := F) ⟨tab5 m, tab5_ok m h⟩).W) : Buf (Elt F) (((cfg5 (F := F) ⟨tab5 m, tab5_ok m h⟩).win w).arr.view.loc (c.tc : Thread nD τ)) :=
  W11 m h c (Proc.devRef .tc (arrRef (cfg5 (F := F) ⟨tab5 m, tab5_ok m h⟩).spec w))

/-- The proof data of distance call 5. -/
def dat5 (c : Dev nD) : Dat τ (Elt F) Unit ℕ (UR sig nD τ) ℕ (cfg5 (F := F) ⟨tab5 m, tab5_ok m h⟩) c :=
  Region.dat (cfg5 (F := F) ⟨tab5 m, tab5_ok m h⟩) c (in5 m h c) (out5 ⟨tab5 m, tab5_ok m h⟩ c (in5 m h c)) (Region.inv (pcfgs (F := F)) (adm m h) 5 c)

/-- The buffers when distance call 5 is left. -/
def W12 (c : Dev nD) : Valuation τ sig (Elt F) := withArrays spec5 c (W11 m h c) fun w => (dat5 m h c).arrAt w (cfg5 (F := F) ⟨tab5 m, tab5_ok m h⟩).N

/-- The buffers when distance call 6 is entered. -/
def W13 (c : Dev nD) : Valuation τ sig (Elt F) := StableHlo.after hostOps6 (W12 m h c)

/-- The arrays of distance call 6 when it is entered. -/
def in6 (c : Dev nD) (w : Fin (cfg6 (F := F) ⟨tab6 m, tab6_ok m h⟩).W) : Buf (Elt F) (((cfg6 (F := F) ⟨tab6 m, tab6_ok m h⟩).win w).arr.view.loc (c.tc : Thread nD τ)) :=
  W13 m h c (Proc.devRef .tc (arrRef (cfg6 (F := F) ⟨tab6 m, tab6_ok m h⟩).spec w))

/-- The proof data of distance call 6. -/
def dat6 (c : Dev nD) : Dat τ (Elt F) Unit ℕ (UR sig nD τ) ℕ (cfg6 (F := F) ⟨tab6 m, tab6_ok m h⟩) c :=
  Region.dat (cfg6 (F := F) ⟨tab6 m, tab6_ok m h⟩) c (in6 m h c) (out6 ⟨tab6 m, tab6_ok m h⟩ c (in6 m h c)) (Region.inv (pcfgs (F := F)) (adm m h) 6 c)

/-- The buffers when distance call 6 is left. -/
def W14 (c : Dev nD) : Valuation τ sig (Elt F) := withArrays spec6 c (W13 m h c) fun w => (dat6 m h c).arrAt w (cfg6 (F := F) ⟨tab6 m, tab6_ok m h⟩).N

/-- The buffers when the reduction call is entered. -/
def W15 (c : Dev nD) : Valuation τ sig (Elt F) := StableHlo.after hostOps7 (W14 m h c)

/-- The arrays of the reduction call when it is entered. -/
def in7 (c : Dev nD) (w : Fin cfg7.W) : Buf (Elt F) ((cfg7.win w).arr.view.loc (c.tc : Thread nD τ)) :=
  W15 m h c (Proc.devRef .tc (arrRef cfg7.spec w))

/-- The proof data of the reduction call. -/
def dat7 (c : Dev nD) : Dat τ (Elt F) Unit ℕ (UR sig nD τ) ℕ cfg7 c :=
  Region.dat cfg7 c (in7 m h c) (out7 c (in7 m h c)) (Region.inv (pcfgs (F := F)) (adm m h) 7 c)

/-- The buffers when the reduction call is left. -/
def W16 (c : Dev nD) : Valuation τ sig (Elt F) := withArrays spec7 c (W15 m h c) fun w => (dat7 m h c).arrAt w cfg7.N

/-- The buffers at the end. -/
def W17 (c : Dev nD) : Valuation τ sig (Elt F) := StableHlo.after hostOps8 (W16 m h c)

/-- The proof data of the eight calls. -/
def pdats : (p : Fin 8) → (c : Dev nD) → Dat τ (Elt F) Unit ℕ (UR sig nD τ) ℕ (pin (pcfgs (F := F)) (adm m h) p) c := fun
  | ⟨0, _⟩ => dat0 m h
  | ⟨1, _⟩ => dat1 m h
  | ⟨2, _⟩ => dat2 m h
  | ⟨3, _⟩ => dat3 m h
  | ⟨4, _⟩ => dat4 m h
  | ⟨5, _⟩ => dat5 m h
  | ⟨6, _⟩ => dat6 m h
  | ⟨7, _⟩ => dat7 m h

/-- Host stretch 0 keeps what it does not write. -/
theorem host0_keeps (c : Dev nD) (r : Ref sig .tc) (hr : r ∉ hostOps0_W) : W1 m c (Proc.devRef .tc r) = V0 m c (Proc.devRef .tc r) :=
  StableHlo.after_of_writes_sub hostOps0 _ hostOps0_writes hr

/-- The gather call keeps what is no array of it. -/
theorem call0_keeps (c : Dev nD) (r : Ref sig .tc) (hr : ∀ w, arrRef spec0 w ≠ r) : W2 m h c (Proc.devRef .tc r) = W1 m c (Proc.devRef .tc r) :=
  withArrays_of_ne spec0 c _ _ r hr

/-- Host stretch 1 keeps what it does not write. -/
theorem host1_keeps (c : Dev nD) (r : Ref sig .tc) (hr : r ∉ hostOps1_W) : W3 m h c (Proc.devRef .tc r) = W2 m h c (Proc.devRef .tc r) :=
  StableHlo.after_of_writes_sub hostOps1 _ hostOps1_writes hr

/-- Distance call 1 keeps what is no array of it. -/
theorem call1_keeps (c : Dev nD) (r : Ref sig .tc) (hr : ∀ w, arrRef spec1 w ≠ r) : W4 m h c (Proc.devRef .tc r) = W3 m h c (Proc.devRef .tc r) :=
  withArrays_of_ne spec1 c _ _ r hr

/-- Host stretch 2 keeps what it does not write. -/
theorem host2_keeps (c : Dev nD) (r : Ref sig .tc) (hr : r ∉ hostOps2_W) : W5 m h c (Proc.devRef .tc r) = W4 m h c (Proc.devRef .tc r) :=
  StableHlo.after_of_writes_sub hostOps2 _ hostOps2_writes hr

/-- Distance call 2 keeps what is no array of it. -/
theorem call2_keeps (c : Dev nD) (r : Ref sig .tc) (hr : ∀ w, arrRef spec2 w ≠ r) : W6 m h c (Proc.devRef .tc r) = W5 m h c (Proc.devRef .tc r) :=
  withArrays_of_ne spec2 c _ _ r hr

/-- Host stretch 3 keeps what it does not write. -/
theorem host3_keeps (c : Dev nD) (r : Ref sig .tc) (hr : r ∉ hostOps3_W) : W7 m h c (Proc.devRef .tc r) = W6 m h c (Proc.devRef .tc r) :=
  StableHlo.after_of_writes_sub hostOps3 _ hostOps3_writes hr

/-- Distance call 3 keeps what is no array of it. -/
theorem call3_keeps (c : Dev nD) (r : Ref sig .tc) (hr : ∀ w, arrRef spec3 w ≠ r) : W8 m h c (Proc.devRef .tc r) = W7 m h c (Proc.devRef .tc r) :=
  withArrays_of_ne spec3 c _ _ r hr

/-- Host stretch 4 keeps what it does not write. -/
theorem host4_keeps (c : Dev nD) (r : Ref sig .tc) (hr : r ∉ hostOps4_W) : W9 m h c (Proc.devRef .tc r) = W8 m h c (Proc.devRef .tc r) :=
  StableHlo.after_of_writes_sub hostOps4 _ hostOps4_writes hr

/-- Distance call 4 keeps what is no array of it. -/
theorem call4_keeps (c : Dev nD) (r : Ref sig .tc) (hr : ∀ w, arrRef spec4 w ≠ r) : W10 m h c (Proc.devRef .tc r) = W9 m h c (Proc.devRef .tc r) :=
  withArrays_of_ne spec4 c _ _ r hr

/-- Host stretch 5 keeps what it does not write. -/
theorem host5_keeps (c : Dev nD) (r : Ref sig .tc) (hr : r ∉ hostOps5_W) : W11 m h c (Proc.devRef .tc r) = W10 m h c (Proc.devRef .tc r) :=
  StableHlo.after_of_writes_sub hostOps5 _ hostOps5_writes hr

/-- Distance call 5 keeps what is no array of it. -/
theorem call5_keeps (c : Dev nD) (r : Ref sig .tc) (hr : ∀ w, arrRef spec5 w ≠ r) : W12 m h c (Proc.devRef .tc r) = W11 m h c (Proc.devRef .tc r) :=
  withArrays_of_ne spec5 c _ _ r hr

/-- Host stretch 6 keeps what it does not write. -/
theorem host6_keeps (c : Dev nD) (r : Ref sig .tc) (hr : r ∉ hostOps6_W) : W13 m h c (Proc.devRef .tc r) = W12 m h c (Proc.devRef .tc r) :=
  StableHlo.after_of_writes_sub hostOps6 _ hostOps6_writes hr

/-- Distance call 6 keeps what is no array of it. -/
theorem call6_keeps (c : Dev nD) (r : Ref sig .tc) (hr : ∀ w, arrRef spec6 w ≠ r) : W14 m h c (Proc.devRef .tc r) = W13 m h c (Proc.devRef .tc r) :=
  withArrays_of_ne spec6 c _ _ r hr

/-- Host stretch 7 keeps what it does not write. -/
theorem host7_keeps (c : Dev nD) (r : Ref sig .tc) (hr : r ∉ hostOps7_W) : W15 m h c (Proc.devRef .tc r) = W14 m h c (Proc.devRef .tc r) :=
  StableHlo.after_of_writes_sub hostOps7 _ hostOps7_writes hr

/-- The reduction call keeps what is no array of it. -/
theorem call7_keeps (c : Dev nD) (r : Ref sig .tc) (hr : ∀ w, arrRef spec7 w ≠ r) : W16 m h c (Proc.devRef .tc r) = W15 m h c (Proc.devRef .tc r) :=
  withArrays_of_ne spec7 c _ _ r hr

/-- Host stretch 8 keeps what it does not write. -/
theorem host8_keeps (c : Dev nD) (r : Ref sig .tc) (hr : r ∉ hostOps8_W) : W17 m h c (Proc.devRef .tc r) = W16 m h c (Proc.devRef .tc r) :=
  StableHlo.after_of_writes_sub hostOps8 _ hostOps8_writes hr

/-- A buffer that no host stretch writes and that is no array of a call. -/
def Untouched (r : Ref sig .tc) : Prop :=
  r ∉ hostOps0_W ∧ r ∉ hostOps1_W ∧ r ∉ hostOps2_W ∧ r ∉ hostOps3_W ∧ r ∉ hostOps4_W ∧ r ∉ hostOps5_W ∧ r ∉ hostOps6_W ∧ r ∉ hostOps7_W ∧ r ∉ hostOps8_W
    ∧ (∀ w, arrRef spec0 w ≠ r) ∧ (∀ w, arrRef spec1 w ≠ r) ∧ (∀ w, arrRef spec2 w ≠ r) ∧ (∀ w, arrRef spec3 w ≠ r) ∧ (∀ w, arrRef spec4 w ≠ r) ∧ (∀ w, arrRef spec5 w ≠ r) ∧ (∀ w, arrRef spec6 w ≠ r) ∧ (∀ w, arrRef spec7 w ≠ r)

instance (r : Ref sig .tc) : Decidable (Untouched r) := by unfold Untouched; infer_instance

/-- At boundary 1 an untouched array holds what it was launched with. -/
theorem W1_of (c : Dev nD) (r : Ref sig .tc) (hr : Untouched r) : W1 m c (Proc.devRef .tc r) = V0 m c (Proc.devRef .tc r) :=
  (host0_keeps m c r hr.1)

/-- At boundary 2 an untouched array holds what it was launched with. -/
theorem W2_of (c : Dev nD) (r : Ref sig .tc) (hr : Untouched r) : W2 m h c (Proc.devRef .tc r) = V0 m c (Proc.devRef .tc r) :=
  (call0_keeps m h c r hr.2.2.2.2.2.2.2.2.2.1).trans (W1_of m c r hr)

/-- At boundary 3 an untouched array holds what it was launched with. -/
theorem W3_of (c : Dev nD) (r : Ref sig .tc) (hr : Untouched r) : W3 m h c (Proc.devRef .tc r) = V0 m c (Proc.devRef .tc r) :=
  (host1_keeps m h c r hr.2.1).trans (W2_of m h c r hr)

/-- At boundary 4 an untouched array holds what it was launched with. -/
theorem W4_of (c : Dev nD) (r : Ref sig .tc) (hr : Untouched r) : W4 m h c (Proc.devRef .tc r) = V0 m c (Proc.devRef .tc r) :=
  (call1_keeps m h c r hr.2.2.2.2.2.2.2.2.2.2.1).trans (W3_of m h c r hr)

/-- At boundary 5 an untouched array holds what it was launched with. -/
theorem W5_of (c : Dev nD) (r : Ref sig .tc) (hr : Untouched r) : W5 m h c (Proc.devRef .tc r) = V0 m c (Proc.devRef .tc r) :=
  (host2_keeps m h c r hr.2.2.1).trans (W4_of m h c r hr)

/-- At boundary 6 an untouched array holds what it was launched with. -/
theorem W6_of (c : Dev nD) (r : Ref sig .tc) (hr : Untouched r) : W6 m h c (Proc.devRef .tc r) = V0 m c (Proc.devRef .tc r) :=
  (call2_keeps m h c r hr.2.2.2.2.2.2.2.2.2.2.2.1).trans (W5_of m h c r hr)

/-- At boundary 7 an untouched array holds what it was launched with. -/
theorem W7_of (c : Dev nD) (r : Ref sig .tc) (hr : Untouched r) : W7 m h c (Proc.devRef .tc r) = V0 m c (Proc.devRef .tc r) :=
  (host3_keeps m h c r hr.2.2.2.1).trans (W6_of m h c r hr)

/-- At boundary 8 an untouched array holds what it was launched with. -/
theorem W8_of (c : Dev nD) (r : Ref sig .tc) (hr : Untouched r) : W8 m h c (Proc.devRef .tc r) = V0 m c (Proc.devRef .tc r) :=
  (call3_keeps m h c r hr.2.2.2.2.2.2.2.2.2.2.2.2.1).trans (W7_of m h c r hr)

/-- At boundary 9 an untouched array holds what it was launched with. -/
theorem W9_of (c : Dev nD) (r : Ref sig .tc) (hr : Untouched r) : W9 m h c (Proc.devRef .tc r) = V0 m c (Proc.devRef .tc r) :=
  (host4_keeps m h c r hr.2.2.2.2.1).trans (W8_of m h c r hr)

/-- At boundary 10 an untouched array holds what it was launched with. -/
theorem W10_of (c : Dev nD) (r : Ref sig .tc) (hr : Untouched r) : W10 m h c (Proc.devRef .tc r) = V0 m c (Proc.devRef .tc r) :=
  (call4_keeps m h c r hr.2.2.2.2.2.2.2.2.2.2.2.2.2.1).trans (W9_of m h c r hr)

/-- At boundary 11 an untouched array holds what it was launched with. -/
theorem W11_of (c : Dev nD) (r : Ref sig .tc) (hr : Untouched r) : W11 m h c (Proc.devRef .tc r) = V0 m c (Proc.devRef .tc r) :=
  (host5_keeps m h c r hr.2.2.2.2.2.1).trans (W10_of m h c r hr)

/-- At boundary 12 an untouched array holds what it was launched with. -/
theorem W12_of (c : Dev nD) (r : Ref sig .tc) (hr : Untouched r) : W12 m h c (Proc.devRef .tc r) = V0 m c (Proc.devRef .tc r) :=
  (call5_keeps m h c r hr.2.2.2.2.2.2.2.2.2.2.2.2.2.2.1).trans (W11_of m h c r hr)

/-- At boundary 13 an untouched array holds what it was launched with. -/
theorem W13_of (c : Dev nD) (r : Ref sig .tc) (hr : Untouched r) : W13 m h c (Proc.devRef .tc r) = V0 m c (Proc.devRef .tc r) :=
  (host6_keeps m h c r hr.2.2.2.2.2.2.1).trans (W12_of m h c r hr)

/-- At boundary 14 an untouched array holds what it was launched with. -/
theorem W14_of (c : Dev nD) (r : Ref sig .tc) (hr : Untouched r) : W14 m h c (Proc.devRef .tc r) = V0 m c (Proc.devRef .tc r) :=
  (call6_keeps m h c r hr.2.2.2.2.2.2.2.2.2.2.2.2.2.2.2.1).trans (W13_of m h c r hr)

/-- At boundary 15 an untouched array holds what it was launched with. -/
theorem W15_of (c : Dev nD) (r : Ref sig .tc) (hr : Untouched r) : W15 m h c (Proc.devRef .tc r) = V0 m c (Proc.devRef .tc r) :=
  (host7_keeps m h c r hr.2.2.2.2.2.2.2.1).trans (W14_of m h c r hr)

/-- At boundary 16 an untouched array holds what it was launched with. -/
theorem W16_of (c : Dev nD) (r : Ref sig .tc) (hr : Untouched r) : W16 m h c (Proc.devRef .tc r) = V0 m c (Proc.devRef .tc r) :=
  (call7_keeps m h c r hr.2.2.2.2.2.2.2.2.2.2.2.2.2.2.2.2).trans (W15_of m h c r hr)

/-- At boundary 17 an untouched array holds what it was launched with. -/
theorem W17_of (c : Dev nD) (r : Ref sig .tc) (hr : Untouched r) : W17 m h c (Proc.devRef .tc r) = V0 m c (Proc.devRef .tc r) :=
  (host8_keeps m h c r hr.2.2.2.2.2.2.2.2.1).trans (W16_of m h c r hr)

/-- No stretch or launch writes argument 0. -/
theorem arg0_untouched : Untouched main_arg0 := by decide

/-- No stretch or launch writes argument 1. -/
theorem arg1_untouched : Untouched main_arg1 := by decide

/-- No stretch or launch writes argument 2. -/
theorem arg2_untouched : Untouched main_arg2 := by decide

/-- No stretch or launch writes argument 3. -/
theorem arg3_untouched : Untouched main_arg3 := by decide

/-- No stretch or launch writes argument 4. -/
theorem arg4_untouched : Untouched main_arg4 := by decide

/-- No stretch or launch writes argument 5. -/
theorem arg5_untouched : Untouched main_arg5 := by decide

/-- No stretch or launch writes argument 6. -/
theorem arg6_untouched : Untouched main_arg6 := by decide

/-- No stretch or launch writes argument 7. -/
theorem arg7_untouched : Untouched main_arg7 := by decide

end Cert.KernelIdeal.Run

end
-- ==== Proof.Ideal.Whole.lean ====
/-
  The run of the whole program from a memory whose indices name rows: it ends, its arguments unchanged, its result at the last
  stretch's value, every semaphore at zero.
-/
module

public import proofs.«01_k».proof.Proof.Ideal.Vals
public import proofs.«01_k».proof.Proof.Gen.KernelIdeal.Launch
public import Idealize.ShloMosaic.Lib.Pipeline.Regions

@[expose] public section

set_option maxRecDepth 10000
set_option maxHeartbeats 4000000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Proof Cert.KernelIdeal.Gen

variable {F : FTy → Type} [FloatOps F] [Named F]
variable (m : (ℓ : Loc nD τ sig) → Buf (Elt F) ℓ) (h : Rows m)

local notation "𝕄" => MT nD τ sig Unit (Elt F) ℕ (UR sig nD τ) ℕ

/-- The gather call is entered with its table as prefetched. -/
theorem tab0_entry (c : Dev nD) : ∀ k, tab0 m k = W1 m c (Proc.devRef .tc (pre0.ref k)) := by
  intro k
  obtain rfl : c = 0 := Subsingleton.elim _ _
  rfl

/-- The body obligation of the gather call. -/
theorem body0 (c : Dev nD) : BodyObligation (dat0 m h c) (defs₀ (F := F)) .none () Set.univ :=
  Region.obligation (in0 m h c) (out0 ⟨tab0 m, tab0_ok m h⟩ c (in0 m h c)) _ defs₀ .none (fun _ _ => rfl) (fun _ _ _ => rfl) fun t => triple0 ⟨tab0 m, tab0_ok m h⟩ c (in0 m h c) .none t

/-- The gather call as a segment of the program. -/
def call0 : RegionSeg (pcfgs (F := F)) (adm m h) (pdats m h) () defs₀ .none (fun _ => ∅) (fun _ _ => 0) 0 :=
  Region.segOf (pcfgs (F := F)) (adm m h) (pdats m h) defs₀ .none 0 launch₀0 (fun c => body0 m h c) (fun _ _ => rfl) (fun _ _ => rfl)
    (fun _ _ => rfl) (fun _ _ => rfl) (W1 m) (fun _ _ => rfl) (fun c k => tab0_entry m c k)

/-- The distance call 1 is entered with its table as prefetched. -/
theorem tab1_entry (c : Dev nD) : ∀ k, tab1 m k = W3 m h c (Proc.devRef .tc (pre1.ref k)) := by
  intro k
  obtain rfl : c = 0 := Subsingleton.elim _ _
  fin_cases k
  exact (flat_1 (V0 m 0)).trans ((congrArg (Host.flat 0 3) (W2_of m h 0 main_arg7 arg7_untouched).symm).trans (flat_1 (W2 m h 0)).symm)

/-- The body obligation of the distance call 1. -/
theorem body1 (c : Dev nD) : BodyObligation (dat1 m h c) (defs₀ (F := F)) .none () Set.univ :=
  Region.obligation (in1 m h c) (out1 ⟨tab1 m, tab1_ok m h⟩ c (in1 m h c)) _ defs₀ .none (fun _ _ => rfl) (fun _ _ _ => rfl) fun t => triple1 ⟨tab1 m, tab1_ok m h⟩ c (in1 m h c) .none t

/-- The distance call 1 as a segment of the program. -/
def call1 : RegionSeg (pcfgs (F := F)) (adm m h) (pdats m h) () defs₀ .none (fun _ => ∅) (fun _ _ => 0) 1 :=
  Region.segOf (pcfgs (F := F)) (adm m h) (pdats m h) defs₀ .none 1 launch₀1 (fun c => body1 m h c) (fun _ _ => rfl) (fun _ _ => rfl)
    (fun _ _ => rfl) (fun _ _ => rfl) (W3 m h) (fun _ _ => rfl) (fun c k => tab1_entry m h c k)

/-- The distance call 2 is entered with its table as prefetched. -/
theorem tab2_entry (c : Dev nD) : ∀ k, tab2 m k = W5 m h c (Proc.devRef .tc (pre2.ref k)) := by
  intro k
  obtain rfl : c = 0 := Subsingleton.elim _ _
  fin_cases k
  exact (flat_2 (V0 m 0)).trans ((congrArg (Host.flat 1 2) (W4_of m h 0 main_arg7 arg7_untouched).symm).trans (flat_2 (W4 m h 0)).symm)

/-- The body obligation of the distance call 2. -/
theorem body2 (c : Dev nD) : BodyObligation (dat2 m h c) (defs₀ (F := F)) .none () Set.univ :=
  Region.obligation (in2 m h c) (out2 ⟨tab2 m, tab2_ok m h⟩ c (in2 m h c)) _ defs₀ .none (fun _ _ => rfl) (fun _ _ _ => rfl) fun t => triple2 ⟨tab2 m, tab2_ok m h⟩ c (in2 m h c) .none t

/-- The distance call 2 as a segment of the program. -/
def call2 : RegionSeg (pcfgs (F := F)) (adm m h) (pdats m h) () defs₀ .none (fun _ => ∅) (fun _ _ => 0) 2 :=
  Region.segOf (pcfgs (F := F)) (adm m h) (pdats m h) defs₀ .none 2 launch₀2 (fun c => body2 m h c) (fun _ _ => rfl) (fun _ _ => rfl)
    (fun _ _ => rfl) (fun _ _ => rfl) (W5 m h) (fun _ _ => rfl) (fun c k => tab2_entry m h c k)

/-- The distance call 3 is entered with its table as prefetched. -/
theorem tab3_entry (c : Dev nD) : ∀ k, tab3 m k = W7 m h c (Proc.devRef .tc (pre3.ref k)) := by
  intro k
  obtain rfl : c = 0 := Subsingleton.elim _ _
  fin_cases k
  exact (flat_3 (V0 m 0)).trans ((congrArg (Host.flat 4 7) (W6_of m h 0 main_arg7 arg7_untouched).symm).trans (flat_3 (W6 m h 0)).symm)

/-- The body obligation of the distance call 3. -/
theorem body3 (c : Dev nD) : BodyObligation (dat3 m h c) (defs₀ (F := F)) .none () Set.univ :=
  Region.obligation (in3 m h c) (out3 ⟨tab3 m, tab3_ok m h⟩ c (in3 m h c)) _ defs₀ .none (fun _ _ => rfl) (fun _ _ _ => rfl) fun t => triple3 ⟨tab3 m, tab3_ok m h⟩ c (in3 m h c) .none t

/-- The distance call 3 as a segment of the program. -/
def call3 : RegionSeg (pcfgs (F := F)) (adm m h) (pdats m h) () defs₀ .none (fun _ => ∅) (fun _ _ => 0) 3 :=
  Region.segOf (pcfgs (F := F)) (adm m h) (pdats m h) defs₀ .none 3 launch₀3 (fun c => body3 m h c) (fun _ _ => rfl) (fun _ _ => rfl)
    (fun _ _ => rfl) (fun _ _ => rfl) (W7 m h) (fun _ _ => rfl) (fun c k => tab3_entry m h c k)

/-- The distance call 4 is entered with its table as prefetched. -/
theorem tab4_entry (c : Dev nD) : ∀ k, tab4 m k = W9 m h c (Proc.devRef .tc (pre4.ref k)) := by
  intro k
  obtain rfl : c = 0 := Subsingleton.elim _ _
  fin_cases k
  exact (flat_4 (V0 m 0)).trans ((congrArg (Host.flat 5 6) (W8_of m h 0 main_arg7 arg7_untouched).symm).trans (flat_4 (W8 m h 0)).symm)

/-- The body obligation of the distance call 4. -/
theorem body4 (c : Dev nD) : BodyObligation (dat4 m h c) (defs₀ (F := F)) .none () Set.univ :=
  Region.obligation (in4 m h c) (out4 ⟨tab4 m, tab4_ok m h⟩ c (in4 m h c)) _ defs₀ .none (fun _ _ => rfl) (fun _ _ _ => rfl) fun t => triple4 ⟨tab4 m, tab4_ok m h⟩ c (in4 m h c) .none t

/-- The distance call 4 as a segment of the program. -/
def call4 : RegionSeg (pcfgs (F := F)) (adm m h) (pdats m h) () defs₀ .none (fun _ => ∅) (fun _ _ => 0) 4 :=
  Region.segOf (pcfgs (F := F)) (adm m h) (pdats m h) defs₀ .none 4 launch₀4 (fun c => body4 m h c) (fun _ _ => rfl) (fun _ _ => rfl)
    (fun _ _ => rfl) (fun _ _ => rfl) (W9 m h) (fun _ _ => rfl) (fun c k => tab4_entry m h c k)

/-- The distance call 5 is entered with its table as prefetched. -/
theorem tab5_entry (c : Dev nD) : ∀ k, tab5 m k = W11 m h c (Proc.devRef .tc (pre5.ref k)) := by
  intro k
  obtain rfl : c = 0 := Subsingleton.elim _ _
  fin_cases k
  exact (flat_5 (V0 m 0)).trans ((congrArg (Host.flat 8 11) (W10_of m h 0 main_arg7 arg7_untouched).symm).trans (flat_5 (W10 m h 0)).symm)

/-- The body obligation of the distance call 5. -/
theorem body5 (c : Dev nD) : BodyObligation (dat5 m h c) (defs₀ (F := F)) .none () Set.univ :=
  Region.obligation (in5 m h c) (out5 ⟨tab5 m, tab5_ok m h⟩ c (in5 m h c)) _ defs₀ .none (fun _ _ => rfl) (fun _ _ _ => rfl) fun t => triple5 ⟨tab5 m, tab5_ok m h⟩ c (in5 m h c) .none t

/-- The distance call 5 as a segment of the program. -/
def call5 : RegionSeg (pcfgs (F := F)) (adm m h) (pdats m h) () defs₀ .none (fun _ => ∅) (fun _ _ => 0) 5 :=
  Region.segOf (pcfgs (F := F)) (adm m h) (pdats m h) defs₀ .none 5 launch₀5 (fun c => body5 m h c) (fun _ _ => rfl) (fun _ _ => rfl)
    (fun _ _ => rfl) (fun _ _ => rfl) (W11 m h) (fun _ _ => rfl) (fun c k => tab5_entry m h c k)

/-- The distance call 6 is entered with its table as prefetched. -/
theorem tab6_entry (c : Dev nD) : ∀ k, tab6 m k = W13 m h c (Proc.devRef .tc (pre6.ref k)) := by
  intro k
  obtain rfl : c = 0 := Subsingleton.elim _ _
  fin_cases k
  exact (flat_6 (V0 m 0)).trans ((congrArg (Host.flat 9 10) (W12_of m h 0 main_arg7 arg7_untouched).symm).trans (flat_6 (W12 m h 0)).symm)

/-- The body obligation of the distance call 6. -/
theorem body6 (c : Dev nD) : BodyObligation (dat6 m h c) (defs₀ (F := F)) .none () Set.univ :=
  Region.obligation (in6 m h c) (out6 ⟨tab6 m, tab6_ok m h⟩ c (in6 m h c)) _ defs₀ .none (fun _ _ => rfl) (fun _ _ _ => rfl) fun t => triple6 ⟨tab6 m, tab6_ok m h⟩ c (in6 m h c) .none t

/-- The distance call 6 as a segment of the program. -/
def call6 : RegionSeg (pcfgs (F := F)) (adm m h) (pdats m h) () defs₀ .none (fun _ => ∅) (fun _ _ => 0) 6 :=
  Region.segOf (pcfgs (F := F)) (adm m h) (pdats m h) defs₀ .none 6 launch₀6 (fun c => body6 m h c) (fun _ _ => rfl) (fun _ _ => rfl)
    (fun _ _ => rfl) (fun _ _ => rfl) (W13 m h) (fun _ _ => rfl) (fun c k => tab6_entry m h c k)

/-- The body obligation of the reduction call. -/
theorem body7 (c : Dev nD) : BodyObligation (dat7 m h c) (defs₀ (F := F)) .none () Set.univ :=
  Region.obligation (in7 m h c) (out7 c (in7 m h c)) _ defs₀ .none (fun _ _ => rfl) (fun w _ _ => by fin_cases w <;> rfl) fun t => triple7 c (in7 m h c) .none t

/-- The reduction call as a segment of the program. -/
def call7 : RegionSeg (pcfgs (F := F)) (adm m h) (pdats m h) () defs₀ .none (fun _ => ∅) (fun _ _ => 0) 7 :=
  Region.segOf (pcfgs (F := F)) (adm m h) (pdats m h) defs₀ .none 7 launch7.to₀ (fun c => body7 m h c) (fun _ _ => rfl) (fun _ _ => rfl)
    (fun _ _ => rfl) (fun _ _ => rfl) (W15 m h) (fun _ _ => rfl) (fun c k => k.elim0)

/-- Host stretch 0 as a segment of the program. -/
def stretch0 : HostSeg (Ix := Unit) (Name := ℕ) (U := UR sig nD τ) (Lvl := ℕ) (pcfgs (F := F)) defs₀ .none (fun _ => ∅) (fun _ _ => 0) :=
  HostSeg.ofOps _ _ _ _ _ (ucRefs τ sig) hostOps0 (fun op ho => sub_ucRefs op ((List.forall_iff_forall_mem.mp hostOps0_sub) op ho))
    (fun op ho => (List.forall_iff_forall_mem.mp hostOps0_fresh) op ho) (V0 m) Region.rest

/-- Host stretch 1 as a segment of the program. -/
def stretch1 : HostSeg (Ix := Unit) (Name := ℕ) (U := UR sig nD τ) (Lvl := ℕ) (pcfgs (F := F)) defs₀ .none (fun _ => ∅) (fun _ _ => 0) :=
  HostSeg.ofOps _ _ _ _ _ (ucRefs τ sig) hostOps1 (fun op ho => sub_ucRefs op ((List.forall_iff_forall_mem.mp hostOps1_sub) op ho))
    (fun op ho => (List.forall_iff_forall_mem.mp hostOps1_fresh) op ho) (W2 m h) Region.rest

/-- Host stretch 2 as a segment of the program. -/
def stretch2 : HostSeg (Ix := Unit) (Name := ℕ) (U := UR sig nD τ) (Lvl := ℕ) (pcfgs (F := F)) defs₀ .none (fun _ => ∅) (fun _ _ => 0) :=
  HostSeg.ofOps _ _ _ _ _ (ucRefs τ sig) hostOps2 (fun op ho => sub_ucRefs op ((List.forall_iff_forall_mem.mp hostOps2_sub) op ho))
    (fun op ho => (List.forall_iff_forall_mem.mp hostOps2_fresh) op ho) (W4 m h) Region.rest

/-- Host stretch 3 as a segment of the program. -/
def stretch3 : HostSeg (Ix := Unit) (Name := ℕ) (U := UR sig nD τ) (Lvl := ℕ) (pcfgs (F := F)) defs₀ .none (fun _ => ∅) (fun _ _ => 0) :=
  HostSeg.ofOps _ _ _ _ _ (ucRefs τ sig) hostOps3 (fun op ho => sub_ucRefs op ((List.forall_iff_forall_mem.mp hostOps3_sub) op ho))
    (fun op ho => (List.forall_iff_forall_mem.mp hostOps3_fresh) op ho) (W6 m h) Region.rest

/-- Host stretch 4 as a segment of the program. -/
def stretch4 : HostSeg (Ix := Unit) (Name := ℕ) (U := UR sig nD τ) (Lvl := ℕ) (pcfgs (F := F)) defs₀ .none (fun _ => ∅) (fun _ _ => 0) :=
  HostSeg.ofOps _ _ _ _ _ (ucRefs τ sig) hostOps4 (fun op ho => sub_ucRefs op ((List.forall_iff_forall_mem.mp hostOps4_sub) op ho))
    (fun op ho => (List.forall_iff_forall_mem.mp hostOps4_fresh) op ho) (W8 m h) Region.rest

/-- Host stretch 5 as a segment of the program. -/
def stretch5 : HostSeg (Ix := Unit) (Name := ℕ) (U := UR sig nD τ) (Lvl := ℕ) (pcfgs (F := F)) defs₀ .none (fun _ => ∅) (fun _ _ => 0) :=
  HostSeg.ofOps _ _ _ _ _ (ucRefs τ sig) hostOps5 (fun op ho => sub_ucRefs op ((List.forall_iff_forall_mem.mp hostOps5_sub) op ho))
    (fun op ho => (List.forall_iff_forall_mem.mp hostOps5_fresh) op ho) (W10 m h) Region.rest

/-- Host stretch 6 as a segment of the program. -/
def stretch6 : HostSeg (Ix := Unit) (Name := ℕ) (U := UR sig nD τ) (Lvl := ℕ) (pcfgs (F := F)) defs₀ .none (fun _ => ∅) (fun _ _ => 0) :=
  HostSeg.ofOps _ _ _ _ _ (ucRefs τ sig) hostOps6 (fun op ho => sub_ucRefs op ((List.forall_iff_forall_mem.mp hostOps6_sub) op ho))
    (fun op ho => (List.forall_iff_forall_mem.mp hostOps6_fresh) op ho) (W12 m h) Region.rest

/-- Host stretch 7 as a segment of the program. -/
def stretch7 : HostSeg (Ix := Unit) (Name := ℕ) (U := UR sig nD τ) (Lvl := ℕ) (pcfgs (F := F)) defs₀ .none (fun _ => ∅) (fun _ _ => 0) :=
  HostSeg.ofOps _ _ _ _ _ (ucRefs τ sig) hostOps7 (fun op ho => sub_ucRefs op ((List.forall_iff_forall_mem.mp hostOps7_sub) op ho))
    (fun op ho => (List.forall_iff_forall_mem.mp hostOps7_fresh) op ho) (W14 m h) Region.rest

/-- Host stretch 8 as a segment of the program. -/
def stretch8 : HostSeg (Ix := Unit) (Name := ℕ) (U := UR sig nD τ) (Lvl := ℕ) (pcfgs (F := F)) defs₀ .none (fun _ => ∅) (fun _ _ => 0) :=
  HostSeg.ofOps _ _ _ _ _ (ucRefs τ sig) hostOps8 (fun op ho => sub_ucRefs op ((List.forall_iff_forall_mem.mp hostOps8_sub) op ho))
    (fun op ho => (List.forall_iff_forall_mem.mp hostOps8_fresh) op ho) (W16 m h) Region.rest

/-- The program as its segments. -/
def items (c : Dev nD) : List (Seg (pcfgs (F := F)) (adm m h) (pdats m h) () defs₀ .none (fun _ => ∅) (fun _ _ => 0)) :=
  [.host (stretch0 m), .region (call0 m h), .host (stretch1 m h), .region (call1 m h), .host (stretch2 m h), .region (call2 m h), .host (stretch3 m h), .region (call3 m h), .host (stretch4 m h), .region (call4 m h), .host (stretch5 m h), .region (call5 m h), .host (stretch6 m h), .region (call6 m h), .host (stretch7 m h), .region (call7 m h), .host (stretch8 m h)]

/-- What a final state holds on a core: the result at its value and the arguments as launched. -/
def Ends (c : Dev nD) (s : MemSt nD τ sig (Elt F)) : Prop :=
  s.mem ((c.tc : Thread nD τ).loc main_v106) = W17 m h c (Proc.devRef .tc main_v106)
    ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7)

set_option backward.isDefEq.respectTransparency.types false in
/-- Every weakly fair execution ends, with the result at its value, the arguments as launched and every semaphore at zero. -/
theorem run (ρ : Dev nD → PrngReg) : θ_run defs (onTc (τ := τ) (main (F := F))) ⟨m, fun _ => 0, ρ⟩
    fun r => (∀ c, Ends m h c r.2) ∧ r.2.sem = fun _ => 0 := by
  refine θ_run_regions_kit_dev_sems (pcfgs (F := F)) (adm m h) (pdats m h) () (cellOf_inj (adm m h)) emb₁ defs₀ .none (fun _ => ∅) (fun _ _ => 0) m ρ main
    (items m h)
    (fun c Q => by
      rewrite [main_chain c, Seg.run_eq_chain, show (items m h c).map Seg.prog = [StableHlo.seq hostOps0, Prog.lift (.customCall (Pipeline.entry 0) ()), StableHlo.seq hostOps1, Prog.lift (.customCall (Pipeline.entry 1) ()), StableHlo.seq hostOps2, Prog.lift (.customCall (Pipeline.entry 2) ()), StableHlo.seq hostOps3, Prog.lift (.customCall (Pipeline.entry 3) ()), StableHlo.seq hostOps4, Prog.lift (.customCall (Pipeline.entry 4) ()), StableHlo.seq hostOps5, Prog.lift (.customCall (Pipeline.entry 5) ()), StableHlo.seq hostOps6, Prog.lift (.customCall (Pipeline.entry 6) ()), StableHlo.seq hostOps7, Prog.lift (.customCall (Pipeline.entry 7) ()), StableHlo.seq hostOps8] from rfl]
      dsimp (config := { failIfUnchanged := false }) only
      exact .rfl)
    (fun c => by simp only [items, Seg.pipes_host, Seg.pipes_region, Seg.pipes_nil]; decide) 0 (fun _ _ => rfl) (fun _ => BI.emp)
    (initOf (cells (pin (pcfgs (F := F)) (adm m h)) (cellOf_inj (adm m h))) (launchToks (pin (pcfgs (F := F)) (adm m h)) (cellOf_inj (adm m h)))) ?_
    (T₀ := fun c => iprop(StableHlo.held (c : Thread nD τ) (ucRefs τ sig) (V0 m c) ∗ Region.rest c))
    (Tₙ := fun c => StableHlo.held (c : Thread nD τ) (ucRefs τ sig) (W17 m h c))
    (hch := fun c => ⟨.rfl, .rfl, .rfl, .rfl, .rfl, .rfl, .rfl, .rfl, .rfl, .rfl, .rfl, .rfl, .rfl, .rfl, .rfl, .rfl, .rfl, .rfl⟩)
    (hinit := ?_) (QY := fun c s => Ends m h c s) (hfin := fun c s' => ?_)
    (hQ := fun _ hq hz => ⟨hq, funext fun g => hz g (.inr (regions_no_unscoped g.2))⟩)
  · iintro Hu
    imodintro
    isplitl [Hu]
    · iapply (show (ownU _ : sProp 𝕄) ⊢ BI.own (emb₁ (initOf (cells (pin (pcfgs (F := F)) (adm m h)) (cellOf_inj (adm m h))) (launchToks (pin (pcfgs (F := F)) (adm m h)) (cellOf_inj (adm m h))))) from .rfl)
      iexact Hu
    · iapply (show (BI.emp : sProp 𝕄) ⊢ bigSep Finset.univ (fun _ : Dev nD => (BI.emp : sProp 𝕄)) from by rw [BI.bigSep_emp_const])
      iempintro
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ launchCred (0 : Dev nD → CellTallies nD τ sig Unit) c ∗ prngReg c (ρ c) ∗ BI.emp))
        ⊢ (bigSep Finset.univ fun c : Dev nD => iprop(StableHlo.held (c : Thread nD τ) (ucRefs τ sig) (V0 m c) ∗ Region.rest c) : sProp 𝕄) := by
      have one : ∀ c : Dev nD, iprop(unscopedBufs c (fun b => m ((c.tc : Thread nD τ).loc b)) ∗ unscopedSems0 c
          ∗ owes (c.tc : Thread nD τ) (0 : CellTallies nD τ sig Unit) ∅ ∗ launchCred (0 : Dev nD → CellTallies nD τ sig Unit) c ∗ prngReg c (ρ c) ∗ BI.emp)
          ⊢ (iprop(StableHlo.held (c : Thread nD τ) (ucRefs τ sig) (V0 m c) ∗ Region.rest c) : sProp 𝕄) := fun c => by
        rw [← unscopedBufs_held (Ix := Unit) (Name := ℕ) (U := UR sig nD τ) (Lvl := ℕ) c (V0 m c)]
        iintro ⟨Hb, -, HO, -⟩
        isplitl [Hb]; · iexact Hb
        iexists _; iexact HO
      exact bigSep_mono fun c _ => one c
    iintro ⟨H, -⟩
    imodintro
    iapply hsplit
    iexact H
  · unfold StableHlo.held
    iintro ⟨Hh, HSI⟩
    ihave Hr := (pointsTo_read_all (ucRefs τ sig) (fun b => ((c : Thread nD τ).1, b)) (W17 m h c) s') $$ [Hh HSI]
    · isplitl [Hh] <;> iassumption
    icases Hr with ⟨%hv, HSI⟩
    imodintro
    isplitr
    · ipureintro
      exact ⟨hv (Proc.devRef .tc main_v106) (Finset.mem_filter.mpr ⟨StableHlo.devRef_mem_tcRefs main_v106, by decide⟩),
        (hv (Proc.devRef .tc main_arg0) (Finset.mem_filter.mpr ⟨StableHlo.devRef_mem_tcRefs main_arg0, by decide⟩)).trans (W17_of m h c main_arg0 arg0_untouched), (hv (Proc.devRef .tc main_arg1) (Finset.mem_filter.mpr ⟨StableHlo.devRef_mem_tcRefs main_arg1, by decide⟩)).trans (W17_of m h c main_arg1 arg1_untouched), (hv (Proc.devRef .tc main_arg2) (Finset.mem_filter.mpr ⟨StableHlo.devRef_mem_tcRefs main_arg2, by decide⟩)).trans (W17_of m h c main_arg2 arg2_untouched), (hv (Proc.devRef .tc main_arg3) (Finset.mem_filter.mpr ⟨StableHlo.devRef_mem_tcRefs main_arg3, by decide⟩)).trans (W17_of m h c main_arg3 arg3_untouched), (hv (Proc.devRef .tc main_arg4) (Finset.mem_filter.mpr ⟨StableHlo.devRef_mem_tcRefs main_arg4, by decide⟩)).trans (W17_of m h c main_arg4 arg4_untouched), (hv (Proc.devRef .tc main_arg5) (Finset.mem_filter.mpr ⟨StableHlo.devRef_mem_tcRefs main_arg5, by decide⟩)).trans (W17_of m h c main_arg5 arg5_untouched), (hv (Proc.devRef .tc main_arg6) (Finset.mem_filter.mpr ⟨StableHlo.devRef_mem_tcRefs main_arg6, by decide⟩)).trans (W17_of m h c main_arg6 arg6_untouched), (hv (Proc.devRef .tc main_arg7) (Finset.mem_filter.mpr ⟨StableHlo.devRef_mem_tcRefs main_arg7, by decide⟩)).trans (W17_of m h c main_arg7 arg7_untouched)⟩
    · iexact HSI

end Cert.KernelIdeal.Run

end
-- ==== Proof.Plain.Body7.lean ====
/-
  The reduction call: which staging buffers its program reads and writes, and that it leaves the loss.
-/
module

public import proofs.«01_k».proof.Proof.Region
public import proofs.«01_k».proof.Proof.Reduce
public import proofs.«01_k».proof.Proof.Gen.Kernel.Launch

@[expose] public section

set_option maxRecDepth 10000
set_option maxHeartbeats 4000000

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Proof Cert.Proof.Steps Cert.Kernel.Gen

variable {F : FTy → Type} [FloatOps F]

local notation "𝕄" => MT nD τ sig Unit (Elt F) ℕ (UR sig nD τ) ℕ

variable (c : Dev nD) (A : (w : Fin cfg7.W) → Buf (Elt F) ((cfg7.win w).arr.view.loc (c.tc : Thread nD τ)))

/-- What the call leaves in its output block. -/
def out7 : (w : Fin cfg7.W) → Fin cfg7.N → (cfg7.win w).block.Idx → Elt F (cfg7.win w).elt :=
  Function.update (fun w t => Region.held cfg7 c A w t) 9 (fun t => Reduce.loss (Scalar.ofBits .f32 0x3DCCCCCD#32)
    (Region.held cfg7 c A 0 t) (Region.held cfg7 c A 1 t) (Region.held cfg7 c A 2 t) (Region.held cfg7 c A 3 t) (Region.held cfg7 c A 4 t)
    (Region.held cfg7 c A 5 t) (Region.held cfg7 c A 6 t) (Region.held cfg7 c A 7 t) (Region.held cfg7 c A 8 t))

/-- The program of the call is the reduction program over its staging buffers. -/
theorem prog7 (t : Fin cfg7.N) : defs₀ (F := F) .tc cfg7.body (cfg7.bodyArgs t (cfg7.slots t))
    = Reduce.prog (Scalar.ofBits .f32 0x3DCCCCCD#32) h_S256x128 h_S512x256 h_S512x300 h_S512x128 h_S1x1
      (win7_0.stage (cfg7.slots t 0)) (win7_1.stage (cfg7.slots t 1)) (win7_2.stage (cfg7.slots t 2)) (win7_3.stage (cfg7.slots t 3)) (win7_4.stage (cfg7.slots t 4))
      (win7_5.stage (cfg7.slots t 5)) (win7_6.stage (cfg7.slots t 6)) (win7_7.stage (cfg7.slots t 7)) (win7_8.stage (cfg7.slots t 8)) (win7_9.stage (cfg7.slots t 9)) := by
  unfold defs₀; rw [Defs.onTc_tc]; rfl

/-- The call runs from the windows' blocks, and leaves the inputs as they were and the output at the loss. -/
theorem triple7 (𝒱 : Variants) (t : Fin cfg7.N) : (bigSep Finset.univ fun w => Region.holdPre A t w)
      ⊢ wp frame (wpE (defs₀ (F := F)) 𝒱 (c.tc : Thread nD τ) none) Set.univ (defs₀ (F := F) .tc cfg7.body (cfg7.bodyArgs t (cfg7.slots t)))
          fun _ => (bigSep Finset.univ fun w => Region.holdPost A (out7 c A) t w : sProp 𝕄) := by
  rw [prog7]
  refine (Entails.of_eq (bigSep_W7 _)).trans ?_
  refine BIBase.Entails.trans ?_ (wp_mono _ _ _ fun _ => (Entails.of_eq (bigSep_W7 _).symm))
  exact Reduce.triple (defs := defs₀ (F := F)) 𝒱 c Set.univ (Scalar.ofBits .f32 0x3DCCCCCD#32) h_S256x128 h_S512x256 h_S512x300 h_S512x128 h_S1x1 _ _ _ _ _ _ _ _ _ _ _ _ _ _ _ _ _ _ _

end Cert.Kernel.Run

end
-- ==== Proof.Frames.lean ====
/-
  The frames of the three programs and the idealization's ledger: the runs of the two kernels under the precondition and the
  generated run of the reference, read at the claims' statements.
-/
module

public import proofs.«01_k».proof.Defs
public import proofs.«01_k».proof.Proof.Range
public import proofs.«01_k».proof.Proof.Ideal.Whole
public import proofs.«01_k».proof.Proof.Plain.Whole
public import proofs.«01_k».proof.Proof.Gen.ReferenceIdeal.Run
public import Idealize.ShloMosaic.Lib.Quiescent

@[expose] public section

noncomputable section

namespace Cert.Proof

open Idealize.ShloMosaic Idealize.SL.Sem

/-- The precondition bounds the kernel's indices. -/
theorem rows_Kernel (m : (ℓ : Loc Cert.Kernel.nD Cert.Kernel.τ Cert.Kernel.sig) → Buf (Elt Bits) ℓ)
    (hm : Cert.Pre_Kernel (hPre_rows_exist := Range.facts) m) : Cert.Kernel.Run.Rows m :=
  letI := Range.facts
  Range.rows _ _ _ _ _ _ _ _ (hm 0)

/-- The precondition bounds the idealized kernel's indices. -/
theorem rows_KernelIdeal (m : (ℓ : Loc Cert.KernelIdeal.nD Cert.KernelIdeal.τ Cert.KernelIdeal.sig) → Buf (Elt Ideal) ℓ)
    (hm : Cert.Pre_KernelIdeal (hPre_rows_exist := Range.facts) m) : Cert.KernelIdeal.Run.Rows m :=
  letI := Range.facts
  Range.rows _ _ _ _ _ _ _ _ (hm 0)

/-- The kernel's frame. -/
theorem frame_Kernel : Cert.quiescent_Kernel (hKernel := Cert.Kernel.Gen.facts) (hPre_rows_exist := Range.facts) := fun m g hm =>
  (θ_run _ _ _).mono (fun _ hr => ⟨fun c => (hr.1 c).2, hr.2⟩) (Cert.Kernel.Run.run m (rows_Kernel m hm) g)

/-- The idealized kernel's frame. -/
theorem frame_KernelIdeal : Cert.quiescent_KernelIdeal (hKernelIdeal := Cert.KernelIdeal.Gen.facts) (hPre_rows_exist := Range.facts) := fun m g hm =>
  (θ_run _ _ _).mono (fun _ hr => ⟨fun c => (hr.1 c).2, hr.2⟩) (Cert.KernelIdeal.Run.run m (rows_KernelIdeal m hm) g)

/-- The reference's frame. -/
theorem frame_ReferenceIdeal : Cert.quiescent_ReferenceIdeal (hReferenceIdeal := Cert.ReferenceIdeal.Gen.facts) := fun m g _ =>
  (θ_run _ _ _).mono (fun r hr => ⟨fun c => (hr c).2, sem_eq_zero_of_no_sems rfl r.2⟩) (Cert.ReferenceIdeal.Value.run m g)

/-- The idealization replaces one constant by its name, whose value the table of names gives. -/
theorem preserves : Cert.preserves_Kernel_KernelIdeal := IdealRules.named_const.statement _ _ _ _ _ rfl

end Cert.Proof

end
-- ==== Proof.Value.Algebra.lean ====
/-
  The mathematics of the loss on the extended reals: sums of absolute differences, the clipped comparison of two such sums,
  and that one total scaled once equals the mean of four means.
-/
module

public import Idealize.ShloMosaic.PureOps.Ideal.Laws
public import Idealize.ShloMosaic.Lib.Pointwise.Index

@[expose] public section

noncomputable section

namespace Cert.Proof.Value

open Idealize.ShloMosaic

/-- The absolute value as the model takes it. -/
def mag (x : EReal) : EReal := max x (-x)

/-- The sum of the absolute differences of two rows. -/
def gap {D : ℕ} (u v : Fin D → EReal) : EReal := ∑ d, mag (u d - v d)

/-- One tenth. -/
def tenth : EReal := ((10⁻¹ : ℝ) : EReal)

/-- A margin plus a tenth of the excess of one distance over another, clipped at zero. -/
def hinge (margin m d : EReal) : EReal := max (margin + (m - d) * tenth) 0

/-- Every clipped comparison of 512 distances with 16 times 512 others, summed. -/
def share (margin : EReal) (m : Fin 512 → EReal) (d : Fin 16 → Fin 512 → EReal) : EReal :=
  ∑ a, ∑ k, ∑ l, hinge margin (m a) (d k l)

/-- The absolute difference does not depend on the order. -/
theorem mag_comm (u v : EReal) : mag (u - v) = mag (v - u) := by
  unfold mag
  induction u using EReal.rec <;> induction v using EReal.rec
  all_goals first
    | rfl
    | (rename_i a b
       rw [← EReal.coe_sub, ← EReal.coe_sub, ← EReal.coe_neg, ← EReal.coe_neg, neg_sub, neg_sub]
       exact max_comm _ _)
    | simp [EReal.coe_sub_bot]

/-- Nor does the sum of the absolute differences. -/
theorem gap_comm {D : ℕ} (u v : Fin D → EReal) : gap u v = gap v u :=
  Finset.sum_congr rfl fun d _ => mag_comm (u d) (v d)

/-- The slope is nonnegative. -/
theorem tenth_nonneg : 0 ≤ tenth := EReal.coe_nonneg.mpr (by norm_num)

/-- The slope is finite. -/
theorem tenth_ne_top : tenth ≠ ⊤ := EReal.coe_ne_top _

/-- The word of ten is ten. -/
theorem bits_ten : Ideal.ofBits .f32 0x41200000#32 = ((10 : ℝ) : EReal) := by
  simp [Ideal.ofBits, Ideal.ieee]
  norm_num
  rw [← EReal.coe_mul]
  congr 1
  norm_num

/-- The word of four is four. -/
theorem bits_four : Ideal.ofBits .f32 0x40800000#32 = ((4 : ℝ) : EReal) := by
  simp [Ideal.ofBits, Ideal.ieee]
  norm_num
  rw [← EReal.coe_mul]
  congr 1
  norm_num

/-- The word of the number of comparisons of one mean is that number. -/
theorem bits_count : Ideal.ofBits .f32 0x4A800000#32 = ((4194304 : ℝ) : EReal) := by
  simp [Ideal.ofBits, Ideal.ieee]
  norm_num
  rw [← EReal.coe_mul]
  congr 1
  norm_num

/-- The word of the kernel's scale is its exact value. -/
theorem bits_scale : Ideal.ofBits .f32 0x33800000#32 = ((16777216⁻¹ : ℝ) : EReal) := by
  simp [Ideal.ofBits, Ideal.ieee]
  norm_num
  rw [← EReal.coe_mul]
  congr 1
  norm_num

/-- Dividing both distances by ten and subtracting in turn is the kernel's clipped comparison. -/
theorem hinge_eq (margin m d : EReal) :
    max ((margin + Ideal.div m (Ideal.ofBits .f32 0x41200000#32)) - Ideal.div d (Ideal.ofBits .f32 0x41200000#32)) 0 = hinge margin m d := by
  have h (x : EReal) : Ideal.div x ((10 : ℝ) : EReal) = x * tenth := by
    rw [Ideal.div_coe (by norm_num), tenth, one_div]
  unfold hinge
  rw [bits_ten, h, h, sub_eq_add_neg, sub_eq_add_neg, EReal.right_distrib_of_nonneg_of_ne_top tenth_nonneg tenth_ne_top, EReal.neg_mul, add_assoc]

/-- A mean over the comparisons in the reference's order, of three groups added pointwise, is the three groups' shares scaled. -/
theorem mean_eq (h : Fin 16 → Fin 512 → Fin 512 → EReal)
    (mx mn mo : Fin 512 → EReal) (dx dn dO : Fin 16 → Fin 512 → EReal) (gx gn go : EReal)
    (hh : ∀ k a l, h k a l = (hinge gx (mx a) (dx k l) + hinge gn (mn a) (dn k l)) + hinge go (mo a) (dO k l)) :
    ∑ k, ∑ a, ∑ l, h k a l = (share gx mx dx + share gn mn dn) + share go mo dO := by
  unfold share
  simp only [hh]
  rw [Finset.sum_comm]
  simp only [Finset.sum_add_distrib]

/-- Four means averaged are one total scaled once. -/
theorem scale_eq (a b c d : EReal) :
    Ideal.div (((Ideal.div a (Ideal.ofBits .f32 0x4A800000#32) + Ideal.div b (Ideal.ofBits .f32 0x4A800000#32)) + Ideal.div c (Ideal.ofBits .f32 0x4A800000#32))
      + Ideal.div d (Ideal.ofBits .f32 0x4A800000#32)) (Ideal.ofBits .f32 0x40800000#32)
      = (((a + b) + c) + d) * Ideal.ofBits .f32 0x33800000#32 := by
  have h (x : EReal) : Ideal.div x ((4194304 : ℝ) : EReal) = x * ((1 / 4194304 : ℝ) : EReal) := Ideal.div_coe (by norm_num) x
  have h0 : (0 : EReal) ≤ ((1 / 4194304 : ℝ) : EReal) := EReal.coe_nonneg.mpr (by norm_num)
  have ht : ((1 / 4194304 : ℝ) : EReal) ≠ ⊤ := EReal.coe_ne_top _
  rw [bits_count, bits_four, bits_scale, h, h, h, h, Ideal.div_coe (by norm_num), ← EReal.right_distrib_of_nonneg_of_ne_top h0 ht,
    ← EReal.right_distrib_of_nonneg_of_ne_top h0 ht, ← EReal.right_distrib_of_nonneg_of_ne_top h0 ht, mul_assoc, ← EReal.coe_mul]
  congr 2
  norm_num

end Cert.Proof.Value

end
-- ==== Proof.Value.Held.lean ====
/-
  What a staging buffer holds at a grid point, entry by entry, and what an array ends as when the points' blocks tile it.
-/
module

public import proofs.«01_k».proof.Proof.Region
public import Idealize.ShloMosaic.Lib.Pipeline.Value
public import Idealize.ShloMosaic.Lib.Pipeline.ValueKit

@[expose] public section

noncomputable section

namespace Cert.Proof.Value

open Idealize.ShloMosaic Idealize.ShloMosaic.TcCoe
open Idealize.SL Idealize.SL.RA Idealize.SL.BI
open Idealize.ShloMosaic.Rounds Idealize.ShloMosaic.Pipeline
open Cert.Proof

variable {nD : Nat} {τ : Topo} {sig : RefSig} {Val : EltTy → Type} [∀ e, Nonempty (Val e)] {Λ₀ : Idealize.SL.Sem.Labels}
variable {cfg : Pipeline.Cfg sig Λ₀} {c : Dev nD}

/-- An entry of the block held at a point is the array's entry at the block's place in it. -/
theorem held_eq (A : (w : Fin cfg.W) → Buf Val ((cfg.win w).arr.view.loc (c.tc : Thread nD τ))) (w : Fin cfg.W) (t : Fin cfg.N)
    (hclip : ∀ a, (cfg.win w).clip (cfg.grid.coords t) a = none) (hk : (cfg.win w).kind = .blocked)
    (y : (cfg.win w).block.Idx) (j : (cfg.win w).shape.Idx)
    (hj : ∀ a, (j a).val = (cfg.win w).index t a * (cfg.win w).size a + (y a).val) :
    Region.held cfg c A w t y = _root_.cast (congrArg Val (cfg.win w).arr.view.elt_eq) (A w ((cfg.win w).arr.view.emb j)) := by
  have hm : (cfg.win w).moved (cfg.grid.coords t) y = true :=
    ((cfg.win w).moved_iff _ y).mpr fun a => by have := (y a).isLt; unfold Window.xsize; rw [hclip a]; exact this
  unfold Region.held Window.fill
  rw [dif_pos hm, View.read_apply]
  have he : ((cfg.win w).rect t).emb (fun a => ⟨(y a).val, ((cfg.win w).moved_iff _ y).mp hm a⟩) = j :=
    funext fun a => Fin.ext (by rw [hj a]; exact (cfg.win w).rect_emb_val t _ a hk)
  rw [← he]
  rfl

/-- A block's place in the array, from the block's index and the entry's place in the block. -/
theorem blk_emb_eq (w : Fin cfg.W) (t : Fin cfg.N) (hk : (cfg.win w).kind = .blocked)
    (y : ((cfg.win w).xblock (cfg.grid.coords t)).Idx) (j : (cfg.win w).shape.Idx)
    (hj : ∀ a, (j a).val = (cfg.win w).index t a * (cfg.win w).size a + (y a).val) :
    ((cfg.win w).blk t).view.emb y = (cfg.win w).arr.view.emb j := by
  have he : ((cfg.win w).rect t).emb y = j := funext fun a => Fin.ext (by rw [hj a]; exact (cfg.win w).rect_emb_val t _ a hk)
  rw [← he]
  rfl

/-- The row of a table that an index names. -/
def named (x : BitVec 32) : Fin 30000 := ⟨x.toNat % 30000, Nat.mod_lt _ (by decide)⟩

/-- An index in range is the number of the row it names. -/
theorem named_val (x : BitVec 32) (hx : x.toNat < 30000) : x.toNat = (named x).val := (Nat.mod_eq_of_lt hx).symm

end Cert.Proof.Value

end
-- ==== Proof.Value.Join.lean ====
/-
  The distances two calls leave, laid side by side for the reduction: a sum over all of them is the sum over the one call's and
  the other's, and a sum over one call's column runs over the side, the negative and the row of the training set.
-/
module

public import proofs.«01_k».proof.Proof.HostApply
public import proofs.«01_k».proof.Proof.Value.Algebra

@[expose] public section

noncomputable section

namespace Cert.Proof.Value

open Idealize.ShloMosaic Idealize.ShloMosaic.TcCoe
open Cert.Proof

/-- A sum over a reshaped array is the sum over the array. -/
theorem sum_cast {s t : Shape} {α : Type} (x : s.Idx → α) (h : s.ShapeCasts t) (f : α → EReal) :
    ∑ j : t.Idx, f (shapeCast t x h j) = ∑ i : s.Idx, f (x i) :=
  Fintype.sum_equiv (Shape.reshapeEquiv h) _ _ fun _ => rfl

/-- A sum over a range of twice a length is the sum over its halves. -/
theorem sum_two (n N : ℕ) (h : N = n + n) (f : Fin N → EReal) :
    ∑ a, f a = (∑ a : Fin n, f ⟨a.val, by omega⟩) + ∑ a : Fin n, f ⟨n + a.val, by omega⟩ := by
  subst h
  exact Fin.sum_univ_add f

/-- A sum over two vectors laid end to end is the sum over the one and the other. -/
theorem sum_concat {α : Type} (n N : ℕ) (h : N = n + n) (x y : (⟨1, ![n]⟩ : Shape).Idx → α)
    (hc : Shape.Concatenates [⟨1, ![n]⟩, ⟨1, ![n]⟩] (⟨1, ![N]⟩ : Shape) 0) (f : α → EReal) :
    ∑ j : (⟨1, ![N]⟩ : Shape).Idx, f (concatenate (⟨1, ![N]⟩ : Shape) 0 [⟨⟨1, ![n]⟩, x⟩, ⟨⟨1, ![n]⟩, y⟩] hc j) = (∑ i, f (x i)) + ∑ i, f (y i) := by
  rw [sum_idx1, sum_two n N h, sum_idx1, sum_idx1]
  congr 1
  · refine Finset.sum_congr rfl fun a _ => congrArg f ?_
    exact concatenate_pair_apply_left (t := ⟨1, ![N]⟩) (s₁ := ⟨1, ![n]⟩) (s₂ := ⟨1, ![n]⟩) 0 _ _ hc _ rfl (ix1 a) (by intro b; fin_cases b; rfl)
  · refine Finset.sum_congr rfl fun a _ => congrArg f ?_
    exact concatenate_pair_apply_right (t := ⟨1, ![N]⟩) (s₁ := ⟨1, ![n]⟩) (s₂ := ⟨1, ![n]⟩) 0 _ _ hc _ rfl rfl (ix1 a)
      (by intro b hb; fin_cases b; exact absurd rfl hb) (Nat.add_comm _ _)

/-- A sum over the joined distances is the sum over the one call's and the other's. -/
theorem sum_join {α : Type} (x y : Host.Column.Idx → α) (f : α → EReal) :
    ∑ j : Host.Dists.Idx, f (Host.join x y j) = (∑ i : Host.Column.Idx, f (x i)) + ∑ i : Host.Column.Idx, f (y i) := by
  unfold Host.join
  refine (sum_cast _ Host.casts_long f).trans ((sum_concat 16384 32768 rfl _ _ Host.concats_long f).trans ?_)
  rw [sum_cast, sum_cast]

/-- The grid point of a distance call that handles side `s`, group `g` of the training rows, negative `k`. -/
def point (s : Fin 2) (g k : Fin 16) : Fin 512 := ⟨(s.val * 16 + g.val) * 16 + k.val, by omega⟩

/-- Every grid point is one such. -/
theorem exists_point (i : Fin 512) : ∃ s g k, i = point s g k :=
  ⟨⟨i.val / 256, by omega⟩, ⟨i.val / 16 % 16, by omega⟩, ⟨i.val % 16, by omega⟩, Fin.ext (by show i.val = _; simp only [point]; omega)⟩

/-- A sum over a call's column runs over the sides, the negatives and the rows of the training set. -/
theorem sum_column (F : Host.Column.Idx → EReal) (G : Fin 2 → Fin 16 → Fin 512 → EReal)
    (h : ∀ s g k r, F (ix3 (point s g k) r 0) = G s k (Host.column g r)) :
    ∑ i : Host.Column.Idx, F i = (∑ k, ∑ l, G 0 k l) + ∑ k, ∑ l, G 1 k l := by
  have h1 : ∑ i : Host.Column.Idx, F i = ∑ i : Fin 512, ∑ r : Fin 32, F (ix3 i r 0) := by
    rw [sum_idx3]
    refine Finset.sum_congr rfl fun i _ => Finset.sum_congr rfl fun r _ => Fin.sum_univ_one _
  have h2 : ∀ f : Fin 512 → EReal, ∑ i, f i = ∑ s : Fin 2, ∑ g : Fin 16, ∑ k : Fin 16, f (point s g k) := by
    intro f
    rw [← Fintype.sum_equiv (finProdFinEquiv (m := 32) (n := 16)) (fun x => f (finProdFinEquiv x)) f (fun _ => rfl), Fintype.sum_prod_type,
      ← Fintype.sum_equiv (finProdFinEquiv (m := 2) (n := 16)) (fun x => ∑ k : Fin 16, f (finProdFinEquiv (finProdFinEquiv x, k))) _ (fun _ => rfl),
      Fintype.sum_prod_type]
    refine Finset.sum_congr rfl fun s _ => Finset.sum_congr rfl fun g _ => Finset.sum_congr rfl fun k _ => congrArg f (Fin.ext ?_)
    show k.val + 16 * (g.val + 16 * s.val) = (s.val * 16 + g.val) * 16 + k.val
    omega
  have h3 : ∀ f : Fin 512 → EReal, ∑ l, f l = ∑ g : Fin 16, ∑ r : Fin 32, f (Host.column g r) := by
    intro f
    rw [← Fintype.sum_equiv (finProdFinEquiv (m := 16) (n := 32)) (fun x => f (finProdFinEquiv x)) f (fun _ => rfl), Fintype.sum_prod_type]
    refine Finset.sum_congr rfl fun g _ => Finset.sum_congr rfl fun r _ => congrArg f (Fin.ext ?_)
    show r.val + 32 * g.val = g.val * 32 + r.val
    omega
  have h4 : ∀ s : Fin 2, ∑ g : Fin 16, ∑ k : Fin 16, ∑ r : Fin 32, F (ix3 (point s g k) r 0) = ∑ k, ∑ l, G s k l := by
    intro s
    rw [Finset.sum_comm]
    refine Finset.sum_congr rfl fun k _ => ?_
    rw [h3]
    exact Finset.sum_congr rfl fun g _ => Finset.sum_congr rfl fun r _ => h s g k r
  rw [h1, h2, Fin.sum_univ_two, h4, h4]

end Cert.Proof.Value

end
-- ==== Proof.Value.Spec.lean ====
/-
  The value both programs end with, as one expression in the tables and the index arguments, and the kernel's order of its sums.
-/
module

public import proofs.«01_k».proof.Proof.Value.Algebra
public import proofs.«01_k».proof.Proof.Value.Held
public import proofs.«01_k».proof.Proof.Value.Join

@[expose] public section

set_option maxRecDepth 10000

noncomputable section

namespace Cert.Proof.Value

open Idealize.ShloMosaic Idealize.ShloMosaic.Pipeline
open Cert.Proof

/-- A table of rows of width `D`. -/
abbrev Tab (D : ℕ) : Type := (⟨2, ![30000, D]⟩ : Shape).Idx → EReal
/-- The seed pairs. -/
abbrev Seeds : Type := (⟨2, ![512, 2]⟩ : Shape).Idx → BitVec 32
/-- The sampled indices. -/
abbrev Samples : Type := (⟨3, ![12, 16, 512]⟩ : Shape).Idx → BitVec 32

variable {D : ℕ}

/-- The row of a seed pair's side. -/
def trainRow (T : Tab D) (x6 : Seeds) (o : Fin 2) (l : Fin 512) : Fin D → EReal := fun d => T (ix2 (named (x6 (ix2 l o))) d)

/-- The gaps of the seed pairs, side against side. -/
def pairs (T0 T1 : Tab D) (x6 : Seeds) : Fin 512 → EReal := fun a => gap (trainRow T0 x6 0 a) (trainRow T1 x6 1 a)

/-- The gaps of a batch of samples from the train rows of a side. -/
def samples (T B : Tab D) (x6 : Seeds) (x7 : Samples) (o : Fin 2) (p : Fin 12) : Fin 16 → Fin 512 → EReal :=
  fun k l => gap (trainRow T x6 o l) (fun d => B (ix2 (named (x7 (ix3 p k l))) d))

/-- One side and one sampled end: the three groups' shares. -/
def quarter (mx mn mo : Fin 512 → EReal) (dx dn dO : Fin 16 → Fin 512 → EReal) : EReal :=
  (share (Ideal.ofBits .f32 0x40400000#32) mx dx + share (Ideal.ofBits .f32 0x3F99999A#32) mn dn) + share (Ideal.ofBits .f32 0x3F99999A#32) mo dO

/-- The loss of the tables at the index arguments. -/
def lossAt (A0 A1 : Tab 256) (A2 A3 : Tab 300) (A4 A5 : Tab 128) (x6 : Seeds) (x7 : Samples) : EReal :=
  (((quarter (pairs A0 A1 x6) (pairs A2 A3 x6) (pairs A4 A5 x6) (samples A0 A0 x6 x7 0 0) (samples A2 A2 x6 x7 0 4) (samples A4 A4 x6 x7 0 8)
    + quarter (pairs A0 A1 x6) (pairs A2 A3 x6) (pairs A4 A5 x6) (samples A0 A1 x6 x7 0 1) (samples A2 A3 x6 x7 0 5) (samples A4 A5 x6 x7 0 9))
    + quarter (pairs A0 A1 x6) (pairs A2 A3 x6) (pairs A4 A5 x6) (samples A1 A1 x6 x7 1 2) (samples A3 A3 x6 x7 1 6) (samples A5 A5 x6 x7 1 10))
    + quarter (pairs A0 A1 x6) (pairs A2 A3 x6) (pairs A4 A5 x6) (samples A1 A0 x6 x7 1 3) (samples A3 A2 x6 x7 1 7) (samples A5 A4 x6 x7 1 11))
    * Ideal.ofBits .f32 0x33800000#32

/-- A distance the kernel computes at a place is the sample's gap from the train row of the place's side. -/
theorem samples_of (T0 T1 B : Tab D) (x6 : Seeds) (x7 : Samples) (p q : Fin 12) (s : Fin 2) (k : Fin 16) (l : Fin 512) (z : EReal) (u : Fin D → EReal)
    (hz : z = gap (fun d => B (ix2 (named (x7 (ix3 (if s = 0 then p else q) k l))) d)) u)
    (hu : ∀ d, u d = if s = 0 then T0 (ix2 (named (x6 (ix2 l 0))) d) else T1 (ix2 (named (x6 (ix2 l 1))) d)) :
    z = (if s = 0 then samples T0 B x6 x7 0 p else samples T1 B x6 x7 1 q) k l := by
  rw [hz, gap_comm]
  by_cases hs : s = 0
  · simp only [hs, if_true] at hu ⊢
    exact congrArg₂ gap (funext hu) rfl
  · simp only [hs, if_false] at hu ⊢
    exact congrArg₂ gap (funext hu) rfl

/-- A group's hinges over the joined distances are the shares of its four batches. -/
theorem group_sum (x y : Host.Column.Idx → EReal) (G H : Fin 2 → Fin 16 → Fin 512 → EReal)
    (hx : ∀ s g k r, x (ix3 (point s g k) r 0) = G s k (Host.column g r)) (hy : ∀ s g k r, y (ix3 (point s g k) r 0) = H s k (Host.column g r))
    (margin : EReal) (m : Fin 512 → EReal) :
    ∑ a : Fin 512, ∑ j : Host.Dists.Idx, hinge margin (m a) (Host.join x y j)
      = (share margin m (G 0) + share margin m (G 1)) + (share margin m (H 0) + share margin m (H 1)) := by
  have hcol : ∀ a, ∑ j : Host.Dists.Idx, hinge margin (m a) (Host.join x y j)
      = ((∑ k, ∑ l, hinge margin (m a) (G 0 k l)) + ∑ k, ∑ l, hinge margin (m a) (G 1 k l))
        + ((∑ k, ∑ l, hinge margin (m a) (H 0 k l)) + ∑ k, ∑ l, hinge margin (m a) (H 1 k l)) := fun a => by
    rw [sum_join x y (hinge margin (m a)),
      sum_column (fun i => hinge margin (m a) (x i)) (fun s k l => hinge margin (m a) (G s k l)) fun s g k r => congrArg _ (hx s g k r),
      sum_column (fun i => hinge margin (m a) (y i)) (fun s k l => hinge margin (m a) (H s k l)) fun s g k r => congrArg _ (hy s g k r)]
  simp only [hcol, Finset.sum_add_distrib]
  rfl

/-- The kernel's order of the shares is the reference's. -/
theorem regroup (gx gn : EReal) (mx mn mo : Fin 512 → EReal) (x0 x1 x2 x3 n0 n1 n2 n3 o0 o1 o2 o3 : Fin 16 → Fin 512 → EReal) :
    (((share gx mx x0 + share gx mx x3) + (share gx mx x1 + share gx mx x2)) + ((share gn mn n0 + share gn mn n3) + (share gn mn n1 + share gn mn n2)))
        + ((share gn mo o0 + share gn mo o3) + (share gn mo o1 + share gn mo o2))
      = ((((share gx mx x0 + share gn mn n0) + share gn mo o0) + ((share gx mx x1 + share gn mn n1) + share gn mo o1))
        + ((share gx mx x2 + share gn mn n2) + share gn mo o2)) + ((share gx mx x3 + share gn mn n3) + share gn mo o3) := by
  generalize share gx mx x0 = a0, share gx mx x1 = a1, share gx mx x2 = a2, share gx mx x3 = a3
  generalize share gn mn n0 = b0, share gn mn n1 = b1, share gn mn n2 = b2, share gn mn n3 = b3
  generalize share gn mo o0 = c0, share gn mo o1 = c1, share gn mo o2 = c2, share gn mo o3 = c3
  ac_rfl

end Cert.Proof.Value

end
-- ==== Proof.Value.Body.lean ====
/-
  What one grid point computes, on the extended reals: a distance call's sums, and the reduction call's loss, read entry by entry.
-/
module

public import proofs.«01_k».proof.Proof.Reduce
public import proofs.«01_k».proof.Proof.Dist
public import proofs.«01_k».proof.Proof.Gather
public import proofs.«01_k».proof.Proof.Value.Algebra
public import Idealize.ShloMosaic.Lib.Pointwise

@[expose] public section

noncomputable section

namespace Cert.Proof.Value

open Idealize.ShloMosaic Idealize.ShloMosaic.TcCoe
open Cert.Proof

/-- Entry `r` of a distance point's column: the sum of the absolute differences of its block `r` and row `r` of the 32-row block. -/
theorem sums_apply {D : ℕ} (xs : Fin 32 → Vec Ideal (Steps.Row D) .f32) (y : Vec Ideal (Dist.Blk D) .f32) (r : Fin 32) :
    Dist.sums xs y (ix3 0 r 0) = gap (fun d : Fin D => xs r (ix3 0 0 d)) (fun d => y (ix3 0 r d)) := by
  unfold Dist.sums
  rw [shapeCast_apply _ Dist.casts_col (ix3 0 r 0) (ix2 r 0) (by
      rw [Shape.rowMajor_val_two, Shape.rowMajor_val_three]
      show r.val * 1 + 0 = (0 * 32 + r.val) * 1 + 0
      omega),
    shapeCast_apply _ Dist.casts_sums (ix2 r 0) (ix1 r) (by
      rw [Shape.rowMajor_val_one, Shape.rowMajor_val_two]
      show r.val = r.val * 1 + 0
      omega)]
  refine (Ideal.reduceAdd_r2_a1 (Dist.reduces_mat D) _ _).trans ?_
  refine Finset.sum_congr rfl fun d _ => ?_
  show mag (_ - _) = mag (_ - _)
  congr 2
  · refine (concatenate_ofFn_unit_apply (t := Dist.Mat D) (s₁ := Dist.Line D) 0 (fun i => shapeCast (Dist.Line D) (xs i) (Dist.casts_row D))
      (Dist.concats (F := Ideal) D _) rfl rfl _ r rfl (ix2 0 d) (by
      intro b hb
      fin_cases b
      · exact absurd rfl hb
      · rfl)).trans ?_
    exact shapeCast_apply _ _ _ _ (by
      rw [Shape.rowMajor_val_two, Shape.rowMajor_val_three]
      show (0 * 1 + 0) * D + d.val = 0 * D + d.val
      omega)
  · exact shapeCast_apply _ _ _ _ (by
      rw [Shape.rowMajor_val_two, Shape.rowMajor_val_three]
      show (0 * 32 + r.val) * D + d.val = r.val * D + d.val
      rw [Nat.zero_mul, Nat.zero_add])

/-- Row `a` lies in band `t` at place `b`. -/
def inBand (t : Fin 8) (b : Fin 64) : Fin 512 := ⟨64 * t.val + b.val, by omega⟩

/-- A band's entry is the sum of the absolute differences of the two matrices' row there. -/
theorem bands_apply {D : ℕ} (x y : Vec Ideal (Reduce.Rows D) .f32) (t : Fin 8) (b : Fin 64) :
    Reduce.bands x y (ix3 t b 0) = gap (fun d : Fin D => x (ix2 (inBand t b) d)) (fun d => y (ix2 (inBand t b) d)) := by
  unfold Reduce.bands
  rw [shapeCast_apply _ Reduce.casts_col (ix3 t b 0) (ix2 (inBand t b) 0) (by
      rw [Shape.rowMajor_val_two, Shape.rowMajor_val_three]
      show (64 * t.val + b.val) * 1 + 0 = (t.val * 64 + b.val) * 1 + 0
      omega),
    shapeCast_apply _ Reduce.casts_sums (ix2 (inBand t b) 0) (ix1 (inBand t b)) (by
      rw [Shape.rowMajor_val_one, Shape.rowMajor_val_two]
      show (inBand t b).val = (inBand t b).val * 1 + 0
      omega)]
  refine (Ideal.reduceAdd_r2_a1 (Reduce.reduces_rows D) _ _).trans ?_
  refine Finset.sum_congr rfl fun d _ => ?_
  show mag (_ - _) = mag (_ - _)
  congr 2 <;> exact shapeCast_apply _ _ _ _ rfl

/-- The distances under a leading axis are the distances. -/
theorem dists_apply (d : Vec Ideal Reduce.Dists .f32) (p : Fin 256) (q : Fin 128) : Reduce.dists d (ix3 0 p q) = d (ix2 p q) := by
  unfold Reduce.dists
  rw [shapeCast_apply _ Reduce.casts_dists (ix3 0 p q) (ix2 p q) (by
      rw [Shape.rowMajor_val_two, Shape.rowMajor_val_three]
      show p.val * 128 + q.val = (0 * 256 + p.val) * 128 + q.val
      omega)]
  exact shapeCast_apply _ _ _ _ rfl

/-- One band's total is the clipped comparisons of its 64 sums with every distance. -/
theorem term_apply (margin : EReal) (M : FVec Ideal Reduce.Bands .f32) (d : FVec Ideal Reduce.Dists3 .f32) (t : Fin 8) :
    Reduce.term (F := Ideal) tenth margin M d t = ∑ b : Fin 64, ∑ p : Fin 256, ∑ q : Fin 128, hinge margin (M (ix3 t b 0)) (d (ix3 0 p q)) := by
  unfold Reduce.term
  rw [extractAt_eq, shapeCast_apply _ Reduce.casts_one _ (ix1 0) (by
      rw [Shape.rowMajor_val_one, Shape.rowMajor_val_four]
      rfl)]
  refine (Ideal.reduceAdd_total Reduce.reduces_cube (by intro b; fin_cases b; rfl) _ _).trans ?_
  rw [sum_idx4]
  rw [Fin.sum_univ_one]
  refine Finset.sum_congr rfl fun b _ => Finset.sum_congr rfl fun p _ => Finset.sum_congr rfl fun q _ => ?_
  rw [shapeCast_apply _ Reduce.casts_cube (ix4 0 b p q) (ix3 b p q) (by
      rw [Shape.rowMajor_val_three, Shape.rowMajor_val_four]
      show (b.val * 256 + p.val) * 128 + q.val = ((0 * 64 + b.val) * 256 + p.val) * 128 + q.val
      omega)]
  show max (margin + (_ - _) * tenth) (Ideal.ofBits .f32 0x00000000#32) = _
  rw [Ideal.ofBits_zero_f32]
  unfold hinge
  congr 4
  · rw [broadcastTo_apply _ Reduce.broadcasts_band (ix3 b p q) (ix3 b 0 0) (by intro a; fin_cases a <;> rfl),
      shapeCast_apply _ Reduce.casts_bandUp (ix3 b 0 0) (ix2 b 0) (by
        rw [Shape.rowMajor_val_two, Shape.rowMajor_val_three]
        show b.val * 1 + 0 = (b.val * 1 + 0) * 1 + 0
        omega),
      shapeCast_apply _ Reduce.casts_band (ix2 b 0) (ix3 0 b 0) (by
        rw [Shape.rowMajor_val_two, Shape.rowMajor_val_three]
        show (0 * 64 + b.val) * 1 + 0 = b.val * 1 + 0
        omega)]
    exact extractStridedSlice_apply _ _ _ _ _ (by intro a; fin_cases a <;> simp [ix3])
  · exact broadcastTo_apply _ Reduce.broadcasts_dists (ix3 b p q) (ix3 0 p q) (by intro a; fin_cases a <;> rfl)

/-- A sum over the 512 rows, band by band. -/
theorem sum_bands (f : Fin 512 → EReal) : ∑ t : Fin 8, ∑ b : Fin 64, f (inBand t b) = ∑ a, f a := by
  rw [← Fintype.sum_prod_type']
  refine Fintype.sum_equiv (finProdFinEquiv (m := 8) (n := 64)) _ _ fun x => congrArg f (Fin.ext ?_)
  show 64 * x.1.val + x.2.val = x.2.val + 64 * x.1.val
  omega

/-- A group adds to its accumulator the clipped comparisons of its 512 sums with every distance. -/
theorem group_apply {D : ℕ} (margin acc : EReal) (x y : Vec Ideal (Reduce.Rows D) .f32) (d : Vec Ideal Reduce.Dists .f32) :
    Reduce.group (F := Ideal) tenth margin (Reduce.bands x y) (Reduce.dists d) acc
      = acc + ∑ a : Fin 512, ∑ j : Reduce.Dists.Idx, hinge margin (gap (fun e : Fin D => x (ix2 a e)) (fun e => y (ix2 a e))) (d j) := by
  have h : ∀ t, Reduce.term (F := Ideal) tenth margin (Reduce.bands x y) (Reduce.dists d) t
      = ∑ b : Fin 64, (fun a => ∑ j : Reduce.Dists.Idx, hinge margin (gap (fun e : Fin D => x (ix2 a e)) (fun e => y (ix2 a e))) (d j)) (inBand t b) := by
    intro t
    rw [term_apply]
    refine Finset.sum_congr rfl fun b _ => ?_
    show _ = ∑ j : Reduce.Dists.Idx, _
    rw [sum_idx2]
    refine Finset.sum_congr rfl fun p _ => Finset.sum_congr rfl fun q _ => ?_
    rw [bands_apply, dists_apply]
  rw [← sum_bands, Fin.sum_univ_eight]
  unfold Reduce.group
  simp only [List.foldl_cons, List.foldl_nil, h, Ideal.scalar_addf_def]
  simp only [add_assoc]

/-- What the reduction call's body leaves. -/
theorem loss_apply {A B C : ℕ} (dx dn dO : Vec Ideal Reduce.Dists .f32) (x0 x1 : Vec Ideal (Reduce.Rows A) .f32)
    (n0 n1 : Vec Ideal (Reduce.Rows B) .f32) (o0 o1 : Vec Ideal (Reduce.Rows C) .f32) (j : Reduce.One2.Idx) :
    Reduce.loss (F := Ideal) tenth dx dn dO x0 x1 n0 n1 o0 o1 j
      = (((∑ a : Fin 512, ∑ i : Reduce.Dists.Idx, hinge (Ideal.ofBits .f32 0x40400000#32) (gap (fun e : Fin A => x0 (ix2 a e)) (fun e => x1 (ix2 a e))) (dx i))
        + ∑ a : Fin 512, ∑ i : Reduce.Dists.Idx, hinge (Ideal.ofBits .f32 0x3F99999A#32) (gap (fun e : Fin B => n0 (ix2 a e)) (fun e => n1 (ix2 a e))) (dn i))
        + ∑ a : Fin 512, ∑ i : Reduce.Dists.Idx, hinge (Ideal.ofBits .f32 0x3F99999A#32) (gap (fun e : Fin C => o0 (ix2 a e)) (fun e => o1 (ix2 a e))) (dO i))
        * Ideal.ofBits .f32 0x33800000#32 := by
  show Scalar.mulf (Reduce.group (F := Ideal) tenth _ _ _ _) _ = _
  rw [group_apply, group_apply, group_apply]
  show ((((Ideal.ofBits .f32 0x00000000#32 : EReal) + _) + _) + _) * _ = _
  rw [Ideal.ofBits_zero_f32, zero_add]
  rfl

end Cert.Proof.Value

end
-- ==== Proof.Value.Call0.lean ====
/-
  The gather call over extended reals: what its blocks hold at a grid point, and what its six output arrays end as.
-/
module

public import proofs.«01_k».proof.Proof.Value.Held
public import proofs.«01_k».proof.Proof.Value.Body
public import proofs.«01_k».proof.Proof.Value.Join
public import proofs.«01_k».proof.Proof.Ideal.Vals
public import Idealize.ShloMosaic.Lib.Pipeline.Covers

@[expose] public section

set_option maxRecDepth 10000
set_option maxHeartbeats 4000000

noncomputable section

namespace Cert.Proof.Value

open Idealize.ShloMosaic Idealize.ShloMosaic.TcCoe
open Idealize.SL Idealize.SL.RA Idealize.SL.BI
open Idealize.ShloMosaic.Rounds Idealize.ShloMosaic.Pipeline
open Cert.Proof Cert.KernelIdeal.Gen Cert.KernelIdeal.Run
open Cert.KernelIdeal hiding ix0 ix1 ix2 ix3 ix4 ix5 ix6

variable (a : (pcfg0 (F := Ideal)).Adm) (c : Dev nD) (V : Valuation τ sig (Elt Ideal))

/-- The arrays of the call in a valuation. -/
abbrev arrs0 : (w : Fin (cfg0 a).W) → Buf (Elt Ideal) (((cfg0 a).win w).arr.view.loc (c.tc : Thread nD τ)) :=
  fun w => V (Proc.devRef .tc (arrRef (cfg0 a).spec w))

/-- A pair from its point and its row in the point's tile. -/
def pair (t : Fin 64) (r : Fin 8) : Fin 512 := ⟨t.val * 8 + r.val, by omega⟩

/-- Every pair is a row of some point's tile. -/
theorem exists_pair (l : Fin 512) : ∃ t r, l = pair t r :=
  ⟨⟨l.val / 8, by omega⟩, ⟨l.val % 8, by omega⟩, Fin.ext (by show l.val = l.val / 8 * 8 + l.val % 8; omega)⟩

/-- A grid point's coordinate is the point's number. -/
theorem coord0 (t : Fin grid0.N) : ((grid0.coords t) 0).val = t.val := by
  refine (Grid.coords_val (G := grid0) t 0 (S := 1) (B := 64) (by decide) rfl).trans ?_
  have : t.val < 64 := t.isLt
  omega

/-- The seed table's entry read at a point for row `r` of side `s`. -/
theorem entry0 (pf : pre0.Contents (Elt Ideal)) (t : Fin grid0.N) (q : Fin 64) (ht : t.val = q.val) (s : Fin 2) (r : Fin 8) :
    pf.at 0 (Rect.unit (s := S1024) (k0_off1 (grid0.coords t) (BitVec.ofNat 32 (512 * s.val)) (BitVec.ofNat 32 r.val)) S1.size (k0_off1_inb (grid0.coords t) s r)) numel1_S1
      = (pf 0 : S1024.Idx → BitVec 32) (ix1 (Host.seat s (pair q r))) := by
  refine congrArg (pf 0 : S1024.Idx → BitVec 32) (funext fun b => Fin.ext ?_)
  fin_cases b
  refine (Rect.emb_apply _ _ _).trans ?_
  show k0_off1 (grid0.coords t) (BitVec.ofNat 32 (512 * s.val)) (BitVec.ofNat 32 r.val) 0 + 1 * 0 = 512 * s.val + (q.val * 8 + r.val)
  rw [k0_off1_eq, coord0]
  show 512 * s.val + 8 * t.val + r.val + 1 * 0 = _
  omega

/-- A row's place in a table of one-row blocks, coordinate by coordinate. -/
theorem row_place {D : ℕ} (w : Fin 30000) (d : Fin D) (x : ℕ) (hx : x = w.val) (b : Fin 3) :
    ((ix3 w (0 : Fin 1) d : (⟨3, ![30000, 1, D]⟩ : Shape).Idx) b).val
      = (![x, 0, 0] : Fin 3 → ℕ) b * (![1, 1, D] : Fin 3 → ℕ) b + ((ix3 (0 : Fin 1) (0 : Fin 1) d : (⟨3, ![1, 1, D]⟩ : Shape).Idx) b).val := by
  fin_cases b
  · show w.val = x * 1 + 0; omega
  · rfl
  · show d.val = 0 * D + d.val; omega

/-- The block of output 0 a point writes. -/
theorem outIndex0_0 : ∀ t : Fin grid0.N, cc0_transform_48 (grid0.coords t) = ![t.val, 0] := by
  decide +kernel

/-- Table 0's one-row block at a point, entry by entry: the row that the seed table names. -/
theorem rows0_0_apply (t : Fin (cfg0 a).N) (q : Fin 64) (ht : t.val = q.val) (r : Fin 8) (d : Fin 256) (w : Fin 30000)
    (hw : ((a.1 0 : S1024.Idx → BitVec 32) (ix1 (Host.seat 0 (pair q r)))).toNat = w.val) :
    rows0_0 a c (arrs0 a c V) t r (ix3 0 0 d) = (V (Proc.devRef .tc main_v5) : S30000x1x256.Idx → EReal) (ix3 w 0 d) := by
  have he : (a.1.at 0 (Rect.unit (s := S1024) (k0_off1 (grid0.coords t) (BitVec.ofNat 32 (512 * (0 : Fin 2).val)) (BitVec.ofNat 32 r.val)) S1.size (k0_off1_inb (grid0.coords t) 0 r)) numel1_S1).toNat = w.val := by
    rw [entry0 a.1 t q ht 0 r]
    exact hw
  clear hw
  fin_cases r
  all_goals
    simp only [rows0_0, Fin.mk_zero, Fin.mk_one, Fin.reduceFinMk, Fin.isValue, Matrix.cons_val]
    refine held_eq (arrs0 a c V) _ t (fun _ => rfl) rfl _ _ ?_
    exact row_place w d _ he

/-- The call's output 0: every point's tile at the point's place. -/
theorem array0_0 (Φ) : (Region.dat (cfg0 a) c (arrs0 a c V) (out0 a c (arrs0 a c V)) Φ).arrAt 48 (cfg0 a).N
    = ((fun j => rows0_0 a c (arrs0 a c V) ⟨(j 0).val / 8, Nat.div_lt_of_lt_mul (j 0).isLt⟩ ⟨(j 0).val % 8, Nat.mod_lt _ (by decide)⟩ (ix3 0 0 (j 1))) : S512x256.Idx → EReal) := by
  have hcov : ((cfg0 a).win 48).Covers := by
    refine Window.covers_of_index_surj (w := (cfg0 a).win 48) rfl (by decide : ∀ b : Fin 2, 0 < (![8, 256] : Fin 2 → ℕ) b) ?_
    intro β
    have h0 : (β (0 : Fin 2)).val < 64 := lt_of_lt_of_eq (β (0 : Fin 2)).isLt (show (512 + 8 - 1) / 8 = 64 from rfl)
    have h1 : (β (1 : Fin 2)).val < 1 := lt_of_lt_of_eq (β (1 : Fin 2)).isLt (show (256 + 256 - 1) / 256 = 1 from rfl)
    refine ⟨⟨(β (0 : Fin 2)).val, h0⟩, fun b => ?_⟩
    show cc0_transform_48 (grid0.coords ⟨(β (0 : Fin 2)).val, h0⟩) b = _
    rw [outIndex0_0]
    fin_cases b
    · rfl
    · show 0 = (β (1 : Fin 2)).val; omega
  refine Dat.arrAt_eq_of_covers _ 48 _ hcov (fun t hf y => ?_)
  have h64 : t.val < 64 := t.isLt
  have h0 : (y (0 : Fin 2)).val < 8 := (y (0 : Fin 2)).isLt
  have hj : ((cfg0 a).win 48).arr.view.emb (ix2 (n0 := 512) (n1 := 256) (pair ⟨t.val, h64⟩ ⟨(y (0 : Fin 2)).val, h0⟩) (y (1 : Fin 2))) = (((cfg0 a).win 48).blk t).view.emb y := by
    refine (blk_emb_eq 48 t rfl y _ fun b => ?_).symm
    show _ = cc0_transform_48 (grid0.coords t) b * _ + _
    rw [outIndex0_0 t]
    fin_cases b
    · rfl
    · show (y (1 : Fin 2)).val = 0 * 256 + (y (1 : Fin 2)).val; omega
  rw [← hj, Region.after_out _ _ _ 48 rfl]
  have hu : out0 a c (arrs0 a c V) 48 = fun t => Gather.tile (rows0_0 a c (arrs0 a c V) t) := rfl
  rw [hu]
  have ht : (⟨(pair ⟨t.val, h64⟩ ⟨(y (0 : Fin 2)).val, h0⟩).val / 8, Nat.div_lt_of_lt_mul (pair ⟨t.val, h64⟩ ⟨(y (0 : Fin 2)).val, h0⟩).isLt⟩ : Fin (cfg0 a).N) = t :=
    Fin.ext (by show (t.val * 8 + (y (0 : Fin 2)).val) / 8 = t.val; omega)
  have hr : (⟨(pair ⟨t.val, h64⟩ ⟨(y (0 : Fin 2)).val, h0⟩).val % 8, Nat.mod_lt _ (by decide)⟩ : Fin 8) = ⟨(y (0 : Fin 2)).val, h0⟩ :=
    Fin.ext (by show (t.val * 8 + (y (0 : Fin 2)).val) % 8 = (y (0 : Fin 2)).val; omega)
  show rows0_0 a c (arrs0 a c V) t ⟨(y (0 : Fin 2)).val, h0⟩ (Gather.rowAt (y (1 : Fin 2)))
    = rows0_0 a c (arrs0 a c V) ⟨(pair ⟨t.val, h64⟩ ⟨(y (0 : Fin 2)).val, h0⟩).val / 8, _⟩ ⟨(pair ⟨t.val, h64⟩ ⟨(y (0 : Fin 2)).val, h0⟩).val % 8, _⟩ (ix3 0 0 (y (1 : Fin 2)))
  rw [ht, hr]
  refine congrArg (rows0_0 a c (arrs0 a c V) t ⟨(y (0 : Fin 2)).val, h0⟩) (funext fun b => ?_)
  fin_cases b <;> rfl

/-- Output 0 of the call when it is left: the row of the table that the pair's index names. -/
theorem W2_0_apply (m : (ℓ : Loc nD τ sig) → Buf (Elt Ideal) ℓ) (h : Rows m) (l : Fin 512) (d : Fin 256) :
    (W2 m h 0 (Proc.devRef .tc main_v11_0) : S512x256.Idx → EReal) (ix2 l d)
      = (V0 m 0 (Proc.devRef .tc main_arg0) : S30000x256.Idx → EReal)
          (ix2 (named ((V0 m 0 (Proc.devRef .tc main_arg6) : S512x2.Idx → BitVec 32) (ix2 l 0))) d) := by
  have hout : W2 m h 0 (Proc.devRef .tc main_v11_0) = (dat0 m h 0).arrAt 48 (cfg0 (F := Ideal) ⟨tab0 m, tab0_ok m h⟩).N :=
    Dat.withArrays_arrAt (dat0 m h 0) sharedIn0 (W1 m 0) (fun _ => rfl) 48
  obtain ⟨q, r, rfl⟩ := exists_pair l
  have hids : (tab0 m 0 : S1024.Idx → BitVec 32) (ix1 (Host.seat 0 (pair q r)))
      = (V0 m 0 (Proc.devRef .tc main_arg6) : S512x2.Idx → BitVec 32) (ix2 (pair q r) 0) :=
    (congrFun (seeds_of (V0 m 0)) _).trans (Host.seeds_apply _ 0 _)
  have htab : W1 m 0 (Proc.devRef .tc main_v5) = Host.table (V0 m 0 (Proc.devRef .tc main_arg0)) := table0_0 (V0 m 0)
  refine (congrFun hout _).trans ((congrFun (array0_0 ⟨tab0 m, tab0_ok m h⟩ 0 (W1 m 0) _) _).trans ?_)
  have hr : (⟨(pair q r).val % 8, Nat.mod_lt _ (by decide)⟩ : Fin 8) = r :=
    Fin.ext (by show (q.val * 8 + r.val) % 8 = r.val; omega)
  show rows0_0 _ 0 _ ⟨(pair q r).val / 8, _⟩ ⟨(pair q r).val % 8, _⟩ (ix3 0 0 d) = _
  rw [hr]
  refine (rows0_0_apply ⟨tab0 m, tab0_ok m h⟩ 0 (W1 m 0) _ q ?_ r d _ ((congrArg BitVec.toNat hids).trans (named_val _ (h.1 _)))).trans ?_
  · show (q.val * 8 + r.val) / 8 = q.val; omega
  rw [htab]
  exact Host.table_apply _ _ d

/-- The block of output 1 a point writes. -/
theorem outIndex0_1 : ∀ t : Fin grid0.N, cc0_transform_49 (grid0.coords t) = ![t.val, 0] := by
  decide +kernel

/-- Table 1's one-row block at a point, entry by entry: the row that the seed table names. -/
theorem rows0_1_apply (t : Fin (cfg0 a).N) (q : Fin 64) (ht : t.val = q.val) (r : Fin 8) (d : Fin 256) (w : Fin 30000)
    (hw : ((a.1 0 : S1024.Idx → BitVec 32) (ix1 (Host.seat 1 (pair q r)))).toNat = w.val) :
    rows0_1 a c (arrs0 a c V) t r (ix3 0 0 d) = (V (Proc.devRef .tc main_v6) : S30000x1x256.Idx → EReal) (ix3 w 0 d) := by
  have he : (a.1.at 0 (Rect.unit (s := S1024) (k0_off1 (grid0.coords t) (BitVec.ofNat 32 (512 * (1 : Fin 2).val)) (BitVec.ofNat 32 r.val)) S1.size (k0_off1_inb (grid0.coords t) 1 r)) numel1_S1).toNat = w.val := by
    rw [entry0 a.1 t q ht 1 r]
    exact hw
  clear hw
  fin_cases r
  all_goals
    simp only [rows0_1, Fin.mk_zero, Fin.mk_one, Fin.reduceFinMk, Fin.isValue, Matrix.cons_val]
    refine held_eq (arrs0 a c V) _ t (fun _ => rfl) rfl _ _ ?_
    exact row_place w d _ he

/-- The call's output 1: every point's tile at the point's place. -/
theorem array0_1 (Φ) : (Region.dat (cfg0 a) c (arrs0 a c V) (out0 a c (arrs0 a c V)) Φ).arrAt 49 (cfg0 a).N
    = ((fun j => rows0_1 a c (arrs0 a c V) ⟨(j 0).val / 8, Nat.div_lt_of_lt_mul (j 0).isLt⟩ ⟨(j 0).val % 8, Nat.mod_lt _ (by decide)⟩ (ix3 0 0 (j 1))) : S512x256.Idx → EReal) := by
  have hcov : ((cfg0 a).win 49).Covers := by
    refine Window.covers_of_index_surj (w := (cfg0 a).win 49) rfl (by decide : ∀ b : Fin 2, 0 < (![8, 256] : Fin 2 → ℕ) b) ?_
    intro β
    have h0 : (β (0 : Fin 2)).val < 64 := lt_of_lt_of_eq (β (0 : Fin 2)).isLt (show (512 + 8 - 1) / 8 = 64 from rfl)
    have h1 : (β (1 : Fin 2)).val < 1 := lt_of_lt_of_eq (β (1 : Fin 2)).isLt (show (256 + 256 - 1) / 256 = 1 from rfl)
    refine ⟨⟨(β (0 : Fin 2)).val, h0⟩, fun b => ?_⟩
    show cc0_transform_49 (grid0.coords ⟨(β (0 : Fin 2)).val, h0⟩) b = _
    rw [outIndex0_1]
    fin_cases b
    · rfl
    · show 0 = (β (1 : Fin 2)).val; omega
  refine Dat.arrAt_eq_of_covers _ 49 _ hcov (fun t hf y => ?_)
  have h64 : t.val < 64 := t.isLt
  have h0 : (y (0 : Fin 2)).val < 8 := (y (0 : Fin 2)).isLt
  have hj : ((cfg0 a).win 49).arr.view.emb (ix2 (n0 := 512) (n1 := 256) (pair ⟨t.val, h64⟩ ⟨(y (0 : Fin 2)).val, h0⟩) (y (1 : Fin 2))) = (((cfg0 a).win 49).blk t).view.emb y := by
    refine (blk_emb_eq 49 t rfl y _ fun b => ?_).symm
    show _ = cc0_transform_49 (grid0.coords t) b * _ + _
    rw [outIndex0_1 t]
    fin_cases b
    · rfl
    · show (y (1 : Fin 2)).val = 0 * 256 + (y (1 : Fin 2)).val; omega
  rw [← hj, Region.after_out _ _ _ 49 rfl]
  have hu : out0 a c (arrs0 a c V) 49 = fun t => Gather.tile (rows0_1 a c (arrs0 a c V) t) := rfl
  rw [hu]
  have ht : (⟨(pair ⟨t.val, h64⟩ ⟨(y (0 : Fin 2)).val, h0⟩).val / 8, Nat.div_lt_of_lt_mul (pair ⟨t.val, h64⟩ ⟨(y (0 : Fin 2)).val, h0⟩).isLt⟩ : Fin (cfg0 a).N) = t :=
    Fin.ext (by show (t.val * 8 + (y (0 : Fin 2)).val) / 8 = t.val; omega)
  have hr : (⟨(pair ⟨t.val, h64⟩ ⟨(y (0 : Fin 2)).val, h0⟩).val % 8, Nat.mod_lt _ (by decide)⟩ : Fin 8) = ⟨(y (0 : Fin 2)).val, h0⟩ :=
    Fin.ext (by show (t.val * 8 + (y (0 : Fin 2)).val) % 8 = (y (0 : Fin 2)).val; omega)
  show rows0_1 a c (arrs0 a c V) t ⟨(y (0 : Fin 2)).val, h0⟩ (Gather.rowAt (y (1 : Fin 2)))
    = rows0_1 a c (arrs0 a c V) ⟨(pair ⟨t.val, h64⟩ ⟨(y (0 : Fin 2)).val, h0⟩).val / 8, _⟩ ⟨(pair ⟨t.val, h64⟩ ⟨(y (0 : Fin 2)).val, h0⟩).val % 8, _⟩ (ix3 0 0 (y (1 : Fin 2)))
  rw [ht, hr]
  refine congrArg (rows0_1 a c (arrs0 a c V) t ⟨(y (0 : Fin 2)).val, h0⟩) (funext fun b => ?_)
  fin_cases b <;> rfl

/-- Output 1 of the call when it is left: the row of the table that the pair's index names. -/
theorem W2_1_apply (m : (ℓ : Loc nD τ sig) → Buf (Elt Ideal) ℓ) (h : Rows m) (l : Fin 512) (d : Fin 256) :
    (W2 m h 0 (Proc.devRef .tc main_v11_1) : S512x256.Idx → EReal) (ix2 l d)
      = (V0 m 0 (Proc.devRef .tc main_arg1) : S30000x256.Idx → EReal)
          (ix2 (named ((V0 m 0 (Proc.devRef .tc main_arg6) : S512x2.Idx → BitVec 32) (ix2 l 1))) d) := by
  have hout : W2 m h 0 (Proc.devRef .tc main_v11_1) = (dat0 m h 0).arrAt 49 (cfg0 (F := Ideal) ⟨tab0 m, tab0_ok m h⟩).N :=
    Dat.withArrays_arrAt (dat0 m h 0) sharedIn0 (W1 m 0) (fun _ => rfl) 49
  obtain ⟨q, r, rfl⟩ := exists_pair l
  have hids : (tab0 m 0 : S1024.Idx → BitVec 32) (ix1 (Host.seat 1 (pair q r)))
      = (V0 m 0 (Proc.devRef .tc main_arg6) : S512x2.Idx → BitVec 32) (ix2 (pair q r) 1) :=
    (congrFun (seeds_of (V0 m 0)) _).trans (Host.seeds_apply _ 1 _)
  have htab : W1 m 0 (Proc.devRef .tc main_v6) = Host.table (V0 m 0 (Proc.devRef .tc main_arg1)) := table0_1 (V0 m 0)
  refine (congrFun hout _).trans ((congrFun (array0_1 ⟨tab0 m, tab0_ok m h⟩ 0 (W1 m 0) _) _).trans ?_)
  have hr : (⟨(pair q r).val % 8, Nat.mod_lt _ (by decide)⟩ : Fin 8) = r :=
    Fin.ext (by show (q.val * 8 + r.val) % 8 = r.val; omega)
  show rows0_1 _ 0 _ ⟨(pair q r).val / 8, _⟩ ⟨(pair q r).val % 8, _⟩ (ix3 0 0 d) = _
  rw [hr]
  refine (rows0_1_apply ⟨tab0 m, tab0_ok m h⟩ 0 (W1 m 0) _ q ?_ r d _ ((congrArg BitVec.toNat hids).trans (named_val _ (h.1 _)))).trans ?_
  · show (q.val * 8 + r.val) / 8 = q.val; omega
  rw [htab]
  exact Host.table_apply _ _ d

/-- The block of output 2 a point writes. -/
theorem outIndex0_2 : ∀ t : Fin grid0.N, cc0_transform_50 (grid0.coords t) = ![t.val, 0] := by
  decide +kernel

/-- Table 2's one-row block at a point, entry by entry: the row that the seed table names. -/
theorem rows0_2_apply (t : Fin (cfg0 a).N) (q : Fin 64) (ht : t.val = q.val) (r : Fin 8) (d : Fin 300) (w : Fin 30000)
    (hw : ((a.1 0 : S1024.Idx → BitVec 32) (ix1 (Host.seat 0 (pair q r)))).toNat = w.val) :
    rows0_2 a c (arrs0 a c V) t r (ix3 0 0 d) = (V (Proc.devRef .tc main_v7) : S30000x1x300.Idx → EReal) (ix3 w 0 d) := by
  have he : (a.1.at 0 (Rect.unit (s := S1024) (k0_off1 (grid0.coords t) (BitVec.ofNat 32 (512 * (0 : Fin 2).val)) (BitVec.ofNat 32 r.val)) S1.size (k0_off1_inb (grid0.coords t) 0 r)) numel1_S1).toNat = w.val := by
    rw [entry0 a.1 t q ht 0 r]
    exact hw
  clear hw
  fin_cases r
  all_goals
    simp only [rows0_2, Fin.mk_zero, Fin.mk_one, Fin.reduceFinMk, Fin.isValue, Matrix.cons_val]
    refine held_eq (arrs0 a c V) _ t (fun _ => rfl) rfl _ _ ?_
    exact row_place w d _ he

/-- The call's output 2: every point's tile at the point's place. -/
theorem array0_2 (Φ) : (Region.dat (cfg0 a) c (arrs0 a c V) (out0 a c (arrs0 a c V)) Φ).arrAt 50 (cfg0 a).N
    = ((fun j => rows0_2 a c (arrs0 a c V) ⟨(j 0).val / 8, Nat.div_lt_of_lt_mul (j 0).isLt⟩ ⟨(j 0).val % 8, Nat.mod_lt _ (by decide)⟩ (ix3 0 0 (j 1))) : S512x300.Idx → EReal) := by
  have hcov : ((cfg0 a).win 50).Covers := by
    refine Window.covers_of_index_surj (w := (cfg0 a).win 50) rfl (by decide : ∀ b : Fin 2, 0 < (![8, 300] : Fin 2 → ℕ) b) ?_
    intro β
    have h0 : (β (0 : Fin 2)).val < 64 := lt_of_lt_of_eq (β (0 : Fin 2)).isLt (show (512 + 8 - 1) / 8 = 64 from rfl)
    have h1 : (β (1 : Fin 2)).val < 1 := lt_of_lt_of_eq (β (1 : Fin 2)).isLt (show (300 + 300 - 1) / 300 = 1 from rfl)
    refine ⟨⟨(β (0 : Fin 2)).val, h0⟩, fun b => ?_⟩
    show cc0_transform_50 (grid0.coords ⟨(β (0 : Fin 2)).val, h0⟩) b = _
    rw [outIndex0_2]
    fin_cases b
    · rfl
    · show 0 = (β (1 : Fin 2)).val; omega
  refine Dat.arrAt_eq_of_covers _ 50 _ hcov (fun t hf y => ?_)
  have h64 : t.val < 64 := t.isLt
  have h0 : (y (0 : Fin 2)).val < 8 := (y (0 : Fin 2)).isLt
  have hj : ((cfg0 a).win 50).arr.view.emb (ix2 (n0 := 512) (n1 := 300) (pair ⟨t.val, h64⟩ ⟨(y (0 : Fin 2)).val, h0⟩) (y (1 : Fin 2))) = (((cfg0 a).win 50).blk t).view.emb y := by
    refine (blk_emb_eq 50 t rfl y _ fun b => ?_).symm
    show _ = cc0_transform_50 (grid0.coords t) b * _ + _
    rw [outIndex0_2 t]
    fin_cases b
    · rfl
    · show (y (1 : Fin 2)).val = 0 * 300 + (y (1 : Fin 2)).val; omega
  rw [← hj, Region.after_out _ _ _ 50 rfl]
  have hu : out0 a c (arrs0 a c V) 50 = fun t => Gather.tile (rows0_2 a c (arrs0 a c V) t) := rfl
  rw [hu]
  have ht : (⟨(pair ⟨t.val, h64⟩ ⟨(y (0 : Fin 2)).val, h0⟩).val / 8, Nat.div_lt_of_lt_mul (pair ⟨t.val, h64⟩ ⟨(y (0 : Fin 2)).val, h0⟩).isLt⟩ : Fin (cfg0 a).N) = t :=
    Fin.ext (by show (t.val * 8 + (y (0 : Fin 2)).val) / 8 = t.val; omega)
  have hr : (⟨(pair ⟨t.val, h64⟩ ⟨(y (0 : Fin 2)).val, h0⟩).val % 8, Nat.mod_lt _ (by decide)⟩ : Fin 8) = ⟨(y (0 : Fin 2)).val, h0⟩ :=
    Fin.ext (by show (t.val * 8 + (y (0 : Fin 2)).val) % 8 = (y (0 : Fin 2)).val; omega)
  show rows0_2 a c (arrs0 a c V) t ⟨(y (0 : Fin 2)).val, h0⟩ (Gather.rowAt (y (1 : Fin 2)))
    = rows0_2 a c (arrs0 a c V) ⟨(pair ⟨t.val, h64⟩ ⟨(y (0 : Fin 2)).val, h0⟩).val / 8, _⟩ ⟨(pair ⟨t.val, h64⟩ ⟨(y (0 : Fin 2)).val, h0⟩).val % 8, _⟩ (ix3 0 0 (y (1 : Fin 2)))
  rw [ht, hr]
  refine congrArg (rows0_2 a c (arrs0 a c V) t ⟨(y (0 : Fin 2)).val, h0⟩) (funext fun b => ?_)
  fin_cases b <;> rfl

/-- Output 2 of the call when it is left: the row of the table that the pair's index names. -/
theorem W2_2_apply (m : (ℓ : Loc nD τ sig) → Buf (Elt Ideal) ℓ) (h : Rows m) (l : Fin 512) (d : Fin 300) :
    (W2 m h 0 (Proc.devRef .tc main_v11_2) : S512x300.Idx → EReal) (ix2 l d)
      = (V0 m 0 (Proc.devRef .tc main_arg2) : S30000x300.Idx → EReal)
          (ix2 (named ((V0 m 0 (Proc.devRef .tc main_arg6) : S512x2.Idx → BitVec 32) (ix2 l 0))) d) := by
  have hout : W2 m h 0 (Proc.devRef .tc main_v11_2) = (dat0 m h 0).arrAt 50 (cfg0 (F := Ideal) ⟨tab0 m, tab0_ok m h⟩).N :=
    Dat.withArrays_arrAt (dat0 m h 0) sharedIn0 (W1 m 0) (fun _ => rfl) 50
  obtain ⟨q, r, rfl⟩ := exists_pair l
  have hids : (tab0 m 0 : S1024.Idx → BitVec 32) (ix1 (Host.seat 0 (pair q r)))
      = (V0 m 0 (Proc.devRef .tc main_arg6) : S512x2.Idx → BitVec 32) (ix2 (pair q r) 0) :=
    (congrFun (seeds_of (V0 m 0)) _).trans (Host.seeds_apply _ 0 _)
  have htab : W1 m 0 (Proc.devRef .tc main_v7) = Host.table (V0 m 0 (Proc.devRef .tc main_arg2)) := table0_2 (V0 m 0)
  refine (congrFun hout _).trans ((congrFun (array0_2 ⟨tab0 m, tab0_ok m h⟩ 0 (W1 m 0) _) _).trans ?_)
  have hr : (⟨(pair q r).val % 8, Nat.mod_lt _ (by decide)⟩ : Fin 8) = r :=
    Fin.ext (by show (q.val * 8 + r.val) % 8 = r.val; omega)
  show rows0_2 _ 0 _ ⟨(pair q r).val / 8, _⟩ ⟨(pair q r).val % 8, _⟩ (ix3 0 0 d) = _
  rw [hr]
  refine (rows0_2_apply ⟨tab0 m, tab0_ok m h⟩ 0 (W1 m 0) _ q ?_ r d _ ((congrArg BitVec.toNat hids).trans (named_val _ (h.1 _)))).trans ?_
  · show (q.val * 8 + r.val) / 8 = q.val; omega
  rw [htab]
  exact Host.table_apply _ _ d

/-- The block of output 3 a point writes. -/
theorem outIndex0_3 : ∀ t : Fin grid0.N, cc0_transform_51 (grid0.coords t) = ![t.val, 0] := by
  decide +kernel

/-- Table 3's one-row block at a point, entry by entry: the row that the seed table names. -/
theorem rows0_3_apply (t : Fin (cfg0 a).N) (q : Fin 64) (ht : t.val = q.val) (r : Fin 8) (d : Fin 300) (w : Fin 30000)
    (hw : ((a.1 0 : S1024.Idx → BitVec 32) (ix1 (Host.seat 1 (pair q r)))).toNat = w.val) :
    rows0_3 a c (arrs0 a c V) t r (ix3 0 0 d) = (V (Proc.devRef .tc main_v8) : S30000x1x300.Idx → EReal) (ix3 w 0 d) := by
  have he : (a.1.at 0 (Rect.unit (s := S1024) (k0_off1 (grid0.coords t) (BitVec.ofNat 32 (512 * (1 : Fin 2).val)) (BitVec.ofNat 32 r.val)) S1.size (k0_off1_inb (grid0.coords t) 1 r)) numel1_S1).toNat = w.val := by
    rw [entry0 a.1 t q ht 1 r]
    exact hw
  clear hw
  fin_cases r
  all_goals
    simp only [rows0_3, Fin.mk_zero, Fin.mk_one, Fin.reduceFinMk, Fin.isValue, Matrix.cons_val]
    refine held_eq (arrs0 a c V) _ t (fun _ => rfl) rfl _ _ ?_
    exact row_place w d _ he

/-- The call's output 3: every point's tile at the point's place. -/
theorem array0_3 (Φ) : (Region.dat (cfg0 a) c (arrs0 a c V) (out0 a c (arrs0 a c V)) Φ).arrAt 51 (cfg0 a).N
    = ((fun j => rows0_3 a c (arrs0 a c V) ⟨(j 0).val / 8, Nat.div_lt_of_lt_mul (j 0).isLt⟩ ⟨(j 0).val % 8, Nat.mod_lt _ (by decide)⟩ (ix3 0 0 (j 1))) : S512x300.Idx → EReal) := by
  have hcov : ((cfg0 a).win 51).Covers := by
    refine Window.covers_of_index_surj (w := (cfg0 a).win 51) rfl (by decide : ∀ b : Fin 2, 0 < (![8, 300] : Fin 2 → ℕ) b) ?_
    intro β
    have h0 : (β (0 : Fin 2)).val < 64 := lt_of_lt_of_eq (β (0 : Fin 2)).isLt (show (512 + 8 - 1) / 8 = 64 from rfl)
    have h1 : (β (1 : Fin 2)).val < 1 := lt_of_lt_of_eq (β (1 : Fin 2)).isLt (show (300 + 300 - 1) / 300 = 1 from rfl)
    refine ⟨⟨(β (0 : Fin 2)).val, h0⟩, fun b => ?_⟩
    show cc0_transform_51 (grid0.coords ⟨(β (0 : Fin 2)).val, h0⟩) b = _
    rw [outIndex0_3]
    fin_cases b
    · rfl
    · show 0 = (β (1 : Fin 2)).val; omega
  refine Dat.arrAt_eq_of_covers _ 51 _ hcov (fun t hf y => ?_)
  have h64 : t.val < 64 := t.isLt
  have h0 : (y (0 : Fin 2)).val < 8 := (y (0 : Fin 2)).isLt
  have hj : ((cfg0 a).win 51).arr.view.emb (ix2 (n0 := 512) (n1 := 300) (pair ⟨t.val, h64⟩ ⟨(y (0 : Fin 2)).val, h0⟩) (y (1 : Fin 2))) = (((cfg0 a).win 51).blk t).view.emb y := by
    refine (blk_emb_eq 51 t rfl y _ fun b => ?_).symm
    show _ = cc0_transform_51 (grid0.coords t) b * _ + _
    rw [outIndex0_3 t]
    fin_cases b
    · rfl
    · show (y (1 : Fin 2)).val = 0 * 300 + (y (1 : Fin 2)).val; omega
  rw [← hj, Region.after_out _ _ _ 51 rfl]
  have hu : out0 a c (arrs0 a c V) 51 = fun t => Gather.tile (rows0_3 a c (arrs0 a c V) t) := rfl
  rw [hu]
  have ht : (⟨(pair ⟨t.val, h64⟩ ⟨(y (0 : Fin 2)).val, h0⟩).val / 8, Nat.div_lt_of_lt_mul (pair ⟨t.val, h64⟩ ⟨(y (0 : Fin 2)).val, h0⟩).isLt⟩ : Fin (cfg0 a).N) = t :=
    Fin.ext (by show (t.val * 8 + (y (0 : Fin 2)).val) / 8 = t.val; omega)
  have hr : (⟨(pair ⟨t.val, h64⟩ ⟨(y (0 : Fin 2)).val, h0⟩).val % 8, Nat.mod_lt _ (by decide)⟩ : Fin 8) = ⟨(y (0 : Fin 2)).val, h0⟩ :=
    Fin.ext (by show (t.val * 8 + (y (0 : Fin 2)).val) % 8 = (y (0 : Fin 2)).val; omega)
  show rows0_3 a c (arrs0 a c V) t ⟨(y (0 : Fin 2)).val, h0⟩ (Gather.rowAt (y (1 : Fin 2)))
    = rows0_3 a c (arrs0 a c V) ⟨(pair ⟨t.val, h64⟩ ⟨(y (0 : Fin 2)).val, h0⟩).val / 8, _⟩ ⟨(pair ⟨t.val, h64⟩ ⟨(y (0 : Fin 2)).val, h0⟩).val % 8, _⟩ (ix3 0 0 (y (1 : Fin 2)))
  rw [ht, hr]
  refine congrArg (rows0_3 a c (arrs0 a c V) t ⟨(y (0 : Fin 2)).val, h0⟩) (funext fun b => ?_)
  fin_cases b <;> rfl

/-- Output 3 of the call when it is left: the row of the table that the pair's index names. -/
theorem W2_3_apply (m : (ℓ : Loc nD τ sig) → Buf (Elt Ideal) ℓ) (h : Rows m) (l : Fin 512) (d : Fin 300) :
    (W2 m h 0 (Proc.devRef .tc main_v11_3) : S512x300.Idx → EReal) (ix2 l d)
      = (V0 m 0 (Proc.devRef .tc main_arg3) : S30000x300.Idx → EReal)
          (ix2 (named ((V0 m 0 (Proc.devRef .tc main_arg6) : S512x2.Idx → BitVec 32) (ix2 l 1))) d) := by
  have hout : W2 m h 0 (Proc.devRef .tc main_v11_3) = (dat0 m h 0).arrAt 51 (cfg0 (F := Ideal) ⟨tab0 m, tab0_ok m h⟩).N :=
    Dat.withArrays_arrAt (dat0 m h 0) sharedIn0 (W1 m 0) (fun _ => rfl) 51
  obtain ⟨q, r, rfl⟩ := exists_pair l
  have hids : (tab0 m 0 : S1024.Idx → BitVec 32) (ix1 (Host.seat 1 (pair q r)))
      = (V0 m 0 (Proc.devRef .tc main_arg6) : S512x2.Idx → BitVec 32) (ix2 (pair q r) 1) :=
    (congrFun (seeds_of (V0 m 0)) _).trans (Host.seeds_apply _ 1 _)
  have htab : W1 m 0 (Proc.devRef .tc main_v8) = Host.table (V0 m 0 (Proc.devRef .tc main_arg3)) := table0_3 (V0 m 0)
  refine (congrFun hout _).trans ((congrFun (array0_3 ⟨tab0 m, tab0_ok m h⟩ 0 (W1 m 0) _) _).trans ?_)
  have hr : (⟨(pair q r).val % 8, Nat.mod_lt _ (by decide)⟩ : Fin 8) = r :=
    Fin.ext (by show (q.val * 8 + r.val) % 8 = r.val; omega)
  show rows0_3 _ 0 _ ⟨(pair q r).val / 8, _⟩ ⟨(pair q r).val % 8, _⟩ (ix3 0 0 d) = _
  rw [hr]
  refine (rows0_3_apply ⟨tab0 m, tab0_ok m h⟩ 0 (W1 m 0) _ q ?_ r d _ ((congrArg BitVec.toNat hids).trans (named_val _ (h.1 _)))).trans ?_
  · show (q.val * 8 + r.val) / 8 = q.val; omega
  rw [htab]
  exact Host.table_apply _ _ d

/-- The block of output 4 a point writes. -/
theorem outIndex0_4 : ∀ t : Fin grid0.N, cc0_transform_52 (grid0.coords t) = ![t.val, 0] := by
  decide +kernel

/-- Table 4's one-row block at a point, entry by entry: the row that the seed table names. -/
theorem rows0_4_apply (t : Fin (cfg0 a).N) (q : Fin 64) (ht : t.val = q.val) (r : Fin 8) (d : Fin 128) (w : Fin 30000)
    (hw : ((a.1 0 : S1024.Idx → BitVec 32) (ix1 (Host.seat 0 (pair q r)))).toNat = w.val) :
    rows0_4 a c (arrs0 a c V) t r (ix3 0 0 d) = (V (Proc.devRef .tc main_v9) : S30000x1x128.Idx → EReal) (ix3 w 0 d) := by
  have he : (a.1.at 0 (Rect.unit (s := S1024) (k0_off1 (grid0.coords t) (BitVec.ofNat 32 (512 * (0 : Fin 2).val)) (BitVec.ofNat 32 r.val)) S1.size (k0_off1_inb (grid0.coords t) 0 r)) numel1_S1).toNat = w.val := by
    rw [entry0 a.1 t q ht 0 r]
    exact hw
  clear hw
  fin_cases r
  all_goals
    simp only [rows0_4, Fin.mk_zero, Fin.mk_one, Fin.reduceFinMk, Fin.isValue, Matrix.cons_val]
    refine held_eq (arrs0 a c V) _ t (fun _ => rfl) rfl _ _ ?_
    exact row_place w d _ he

/-- The call's output 4: every point's tile at the point's place. -/
theorem array0_4 (Φ) : (Region.dat (cfg0 a) c (arrs0 a c V) (out0 a c (arrs0 a c V)) Φ).arrAt 52 (cfg0 a).N
    = ((fun j => rows0_4 a c (arrs0 a c V) ⟨(j 0).val / 8, Nat.div_lt_of_lt_mul (j 0).isLt⟩ ⟨(j 0).val % 8, Nat.mod_lt _ (by decide)⟩ (ix3 0 0 (j 1))) : S512x128.Idx → EReal) := by
  have hcov : ((cfg0 a).win 52).Covers := by
    refine Window.covers_of_index_surj (w := (cfg0 a).win 52) rfl (by decide : ∀ b : Fin 2, 0 < (![8, 128] : Fin 2 → ℕ) b) ?_
    intro β
    have h0 : (β (0 : Fin 2)).val < 64 := lt_of_lt_of_eq (β (0 : Fin 2)).isLt (show (512 + 8 - 1) / 8 = 64 from rfl)
    have h1 : (β (1 : Fin 2)).val < 1 := lt_of_lt_of_eq (β (1 : Fin 2)).isLt (show (128 + 128 - 1) / 128 = 1 from rfl)
    refine ⟨⟨(β (0 : Fin 2)).val, h0⟩, fun b => ?_⟩
    show cc0_transform_52 (grid0.coords ⟨(β (0 : Fin 2)).val, h0⟩) b = _
    rw [outIndex0_4]
    fin_cases b
    · rfl
    · show 0 = (β (1 : Fin 2)).val; omega
  refine Dat.arrAt_eq_of_covers _ 52 _ hcov (fun t hf y => ?_)
  have h64 : t.val < 64 := t.isLt
  have h0 : (y (0 : Fin 2)).val < 8 := (y (0 : Fin 2)).isLt
  have hj : ((cfg0 a).win 52).arr.view.emb (ix2 (n0 := 512) (n1 := 128) (pair ⟨t.val, h64⟩ ⟨(y (0 : Fin 2)).val, h0⟩) (y (1 : Fin 2))) = (((cfg0 a).win 52).blk t).view.emb y := by
    refine (blk_emb_eq 52 t rfl y _ fun b => ?_).symm
    show _ = cc0_transform_52 (grid0.coords t) b * _ + _
    rw [outIndex0_4 t]
    fin_cases b
    · rfl
    · show (y (1 : Fin 2)).val = 0 * 128 + (y (1 : Fin 2)).val; omega
  rw [← hj, Region.after_out _ _ _ 52 rfl]
  have hu : out0 a c (arrs0 a c V) 52 = fun t => Gather.tile (rows0_4 a c (arrs0 a c V) t) := rfl
  rw [hu]
  have ht : (⟨(pair ⟨t.val, h64⟩ ⟨(y (0 : Fin 2)).val, h0⟩).val / 8, Nat.div_lt_of_lt_mul (pair ⟨t.val, h64⟩ ⟨(y (0 : Fin 2)).val, h0⟩).isLt⟩ : Fin (cfg0 a).N) = t :=
    Fin.ext (by show (t.val * 8 + (y (0 : Fin 2)).val) / 8 = t.val; omega)
  have hr : (⟨(pair ⟨t.val, h64⟩ ⟨(y (0 : Fin 2)).val, h0⟩).val % 8, Nat.mod_lt _ (by decide)⟩ : Fin 8) = ⟨(y (0 : Fin 2)).val, h0⟩ :=
    Fin.ext (by show (t.val * 8 + (y (0 : Fin 2)).val) % 8 = (y (0 : Fin 2)).val; omega)
  show rows0_4 a c (arrs0 a c V) t ⟨(y (0 : Fin 2)).val, h0⟩ (Gather.rowAt (y (1 : Fin 2)))
    = rows0_4 a c (arrs0 a c V) ⟨(pair ⟨t.val, h64⟩ ⟨(y (0 : Fin 2)).val, h0⟩).val / 8, _⟩ ⟨(pair ⟨t.val, h64⟩ ⟨(y (0 : Fin 2)).val, h0⟩).val % 8, _⟩ (ix3 0 0 (y (1 : Fin 2)))
  rw [ht, hr]
  refine congrArg (rows0_4 a c (arrs0 a c V) t ⟨(y (0 : Fin 2)).val, h0⟩) (funext fun b => ?_)
  fin_cases b <;> rfl

/-- Output 4 of the call when it is left: the row of the table that the pair's index names. -/
theorem W2_4_apply (m : (ℓ : Loc nD τ sig) → Buf (Elt Ideal) ℓ) (h : Rows m) (l : Fin 512) (d : Fin 128) :
    (W2 m h 0 (Proc.devRef .tc main_v11_4) : S512x128.Idx → EReal) (ix2 l d)
      = (V0 m 0 (Proc.devRef .tc main_arg4) : S30000x128.Idx → EReal)
          (ix2 (named ((V0 m 0 (Proc.devRef .tc main_arg6) : S512x2.Idx → BitVec 32) (ix2 l 0))) d) := by
  have hout : W2 m h 0 (Proc.devRef .tc main_v11_4) = (dat0 m h 0).arrAt 52 (cfg0 (F := Ideal) ⟨tab0 m, tab0_ok m h⟩).N :=
    Dat.withArrays_arrAt (dat0 m h 0) sharedIn0 (W1 m 0) (fun _ => rfl) 52
  obtain ⟨q, r, rfl⟩ := exists_pair l
  have hids : (tab0 m 0 : S1024.Idx → BitVec 32) (ix1 (Host.seat 0 (pair q r)))
      = (V0 m 0 (Proc.devRef .tc main_arg6) : S512x2.Idx → BitVec 32) (ix2 (pair q r) 0) :=
    (congrFun (seeds_of (V0 m 0)) _).trans (Host.seeds_apply _ 0 _)
  have htab : W1 m 0 (Proc.devRef .tc main_v9) = Host.table (V0 m 0 (Proc.devRef .tc main_arg4)) := table0_4 (V0 m 0)
  refine (congrFun hout _).trans ((congrFun (array0_4 ⟨tab0 m, tab0_ok m h⟩ 0 (W1 m 0) _) _).trans ?_)
  have hr : (⟨(pair q r).val % 8, Nat.mod_lt _ (by decide)⟩ : Fin 8) = r :=
    Fin.ext (by show (q.val * 8 + r.val) % 8 = r.val; omega)
  show rows0_4 _ 0 _ ⟨(pair q r).val / 8, _⟩ ⟨(pair q r).val % 8, _⟩ (ix3 0 0 d) = _
  rw [hr]
  refine (rows0_4_apply ⟨tab0 m, tab0_ok m h⟩ 0 (W1 m 0) _ q ?_ r d _ ((congrArg BitVec.toNat hids).trans (named_val _ (h.1 _)))).trans ?_
  · show (q.val * 8 + r.val) / 8 = q.val; omega
  rw [htab]
  exact Host.table_apply _ _ d

/-- The block of output 5 a point writes. -/
theorem outIndex0_5 : ∀ t : Fin grid0.N, cc0_transform_53 (grid0.coords t) = ![t.val, 0] := by
  decide +kernel

/-- Table 5's one-row block at a point, entry by entry: the row that the seed table names. -/
theorem rows0_5_apply (t : Fin (cfg0 a).N) (q : Fin 64) (ht : t.val = q.val) (r : Fin 8) (d : Fin 128) (w : Fin 30000)
    (hw : ((a.1 0 : S1024.Idx → BitVec 32) (ix1 (Host.seat 1 (pair q r)))).toNat = w.val) :
    rows0_5 a c (arrs0 a c V) t r (ix3 0 0 d) = (V (Proc.devRef .tc main_v10) : S30000x1x128.Idx → EReal) (ix3 w 0 d) := by
  have he : (a.1.at 0 (Rect.unit (s := S1024) (k0_off1 (grid0.coords t) (BitVec.ofNat 32 (512 * (1 : Fin 2).val)) (BitVec.ofNat 32 r.val)) S1.size (k0_off1_inb (grid0.coords t) 1 r)) numel1_S1).toNat = w.val := by
    rw [entry0 a.1 t q ht 1 r]
    exact hw
  clear hw
  fin_cases r
  all_goals
    simp only [rows0_5, Fin.mk_zero, Fin.mk_one, Fin.reduceFinMk, Fin.isValue, Matrix.cons_val]
    refine held_eq (arrs0 a c V) _ t (fun _ => rfl) rfl _ _ ?_
    exact row_place w d _ he

/-- The call's output 5: every point's tile at the point's place. -/
theorem array0_5 (Φ) : (Region.dat (cfg0 a) c (arrs0 a c V) (out0 a c (arrs0 a c V)) Φ).arrAt 53 (cfg0 a).N
    = ((fun j => rows0_5 a c (arrs0 a c V) ⟨(j 0).val / 8, Nat.div_lt_of_lt_mul (j 0).isLt⟩ ⟨(j 0).val % 8, Nat.mod_lt _ (by decide)⟩ (ix3 0 0 (j 1))) : S512x128.Idx → EReal) := by
  have hcov : ((cfg0 a).win 53).Covers := by
    refine Window.covers_of_index_surj (w := (cfg0 a).win 53) rfl (by decide : ∀ b : Fin 2, 0 < (![8, 128] : Fin 2 → ℕ) b) ?_
    intro β
    have h0 : (β (0 : Fin 2)).val < 64 := lt_of_lt_of_eq (β (0 : Fin 2)).isLt (show (512 + 8 - 1) / 8 = 64 from rfl)
    have h1 : (β (1 : Fin 2)).val < 1 := lt_of_lt_of_eq (β (1 : Fin 2)).isLt (show (128 + 128 - 1) / 128 = 1 from rfl)
    refine ⟨⟨(β (0 : Fin 2)).val, h0⟩, fun b => ?_⟩
    show cc0_transform_53 (grid0.coords ⟨(β (0 : Fin 2)).val, h0⟩) b = _
    rw [outIndex0_5]
    fin_cases b
    · rfl
    · show 0 = (β (1 : Fin 2)).val; omega
  refine Dat.arrAt_eq_of_covers _ 53 _ hcov (fun t hf y => ?_)
  have h64 : t.val < 64 := t.isLt
  have h0 : (y (0 : Fin 2)).val < 8 := (y (0 : Fin 2)).isLt
  have hj : ((cfg0 a).win 53).arr.view.emb (ix2 (n0 := 512) (n1 := 128) (pair ⟨t.val, h64⟩ ⟨(y (0 : Fin 2)).val, h0⟩) (y (1 : Fin 2))) = (((cfg0 a).win 53).blk t).view.emb y := by
    refine (blk_emb_eq 53 t rfl y _ fun b => ?_).symm
    show _ = cc0_transform_53 (grid0.coords t) b * _ + _
    rw [outIndex0_5 t]
    fin_cases b
    · rfl
    · show (y (1 : Fin 2)).val = 0 * 128 + (y (1 : Fin 2)).val; omega
  rw [← hj, Region.after_out _ _ _ 53 rfl]
  have hu : out0 a c (arrs0 a c V) 53 = fun t => Gather.tile (rows0_5 a c (arrs0 a c V) t) := rfl
  rw [hu]
  have ht : (⟨(pair ⟨t.val, h64⟩ ⟨(y (0 : Fin 2)).val, h0⟩).val / 8, Nat.div_lt_of_lt_mul (pair ⟨t.val, h64⟩ ⟨(y (0 : Fin 2)).val, h0⟩).isLt⟩ : Fin (cfg0 a).N) = t :=
    Fin.ext (by show (t.val * 8 + (y (0 : Fin 2)).val) / 8 = t.val; omega)
  have hr : (⟨(pair ⟨t.val, h64⟩ ⟨(y (0 : Fin 2)).val, h0⟩).val % 8, Nat.mod_lt _ (by decide)⟩ : Fin 8) = ⟨(y (0 : Fin 2)).val, h0⟩ :=
    Fin.ext (by show (t.val * 8 + (y (0 : Fin 2)).val) % 8 = (y (0 : Fin 2)).val; omega)
  show rows0_5 a c (arrs0 a c V) t ⟨(y (0 : Fin 2)).val, h0⟩ (Gather.rowAt (y (1 : Fin 2)))
    = rows0_5 a c (arrs0 a c V) ⟨(pair ⟨t.val, h64⟩ ⟨(y (0 : Fin 2)).val, h0⟩).val / 8, _⟩ ⟨(pair ⟨t.val, h64⟩ ⟨(y (0 : Fin 2)).val, h0⟩).val % 8, _⟩ (ix3 0 0 (y (1 : Fin 2)))
  rw [ht, hr]
  refine congrArg (rows0_5 a c (arrs0 a c V) t ⟨(y (0 : Fin 2)).val, h0⟩) (funext fun b => ?_)
  fin_cases b <;> rfl

/-- Output 5 of the call when it is left: the row of the table that the pair's index names. -/
theorem W2_5_apply (m : (ℓ : Loc nD τ sig) → Buf (Elt Ideal) ℓ) (h : Rows m) (l : Fin 512) (d : Fin 128) :
    (W2 m h 0 (Proc.devRef .tc main_v11_5) : S512x128.Idx → EReal) (ix2 l d)
      = (V0 m 0 (Proc.devRef .tc main_arg5) : S30000x128.Idx → EReal)
          (ix2 (named ((V0 m 0 (Proc.devRef .tc main_arg6) : S512x2.Idx → BitVec 32) (ix2 l 1))) d) := by
  have hout : W2 m h 0 (Proc.devRef .tc main_v11_5) = (dat0 m h 0).arrAt 53 (cfg0 (F := Ideal) ⟨tab0 m, tab0_ok m h⟩).N :=
    Dat.withArrays_arrAt (dat0 m h 0) sharedIn0 (W1 m 0) (fun _ => rfl) 53
  obtain ⟨q, r, rfl⟩ := exists_pair l
  have hids : (tab0 m 0 : S1024.Idx → BitVec 32) (ix1 (Host.seat 1 (pair q r)))
      = (V0 m 0 (Proc.devRef .tc main_arg6) : S512x2.Idx → BitVec 32) (ix2 (pair q r) 1) :=
    (congrFun (seeds_of (V0 m 0)) _).trans (Host.seeds_apply _ 1 _)
  have htab : W1 m 0 (Proc.devRef .tc main_v10) = Host.table (V0 m 0 (Proc.devRef .tc main_arg5)) := table0_5 (V0 m 0)
  refine (congrFun hout _).trans ((congrFun (array0_5 ⟨tab0 m, tab0_ok m h⟩ 0 (W1 m 0) _) _).trans ?_)
  have hr : (⟨(pair q r).val % 8, Nat.mod_lt _ (by decide)⟩ : Fin 8) = r :=
    Fin.ext (by show (q.val * 8 + r.val) % 8 = r.val; omega)
  show rows0_5 _ 0 _ ⟨(pair q r).val / 8, _⟩ ⟨(pair q r).val % 8, _⟩ (ix3 0 0 d) = _
  rw [hr]
  refine (rows0_5_apply ⟨tab0 m, tab0_ok m h⟩ 0 (W1 m 0) _ q ?_ r d _ ((congrArg BitVec.toNat hids).trans (named_val _ (h.1 _)))).trans ?_
  · show (q.val * 8 + r.val) / 8 = q.val; omega
  rw [htab]
  exact Host.table_apply _ _ d

end Cert.Proof.Value
-- ==== Proof.Value.Call1.lean ====
/-
  Distance call 1 over extended reals: what its blocks hold at a grid point, and what its output array ends as.
-/
module

public import proofs.«01_k».proof.Proof.Value.Held
public import proofs.«01_k».proof.Proof.Value.Body
public import proofs.«01_k».proof.Proof.Value.Join
public import proofs.«01_k».proof.Proof.Ideal.Vals
public import Idealize.ShloMosaic.Lib.Pipeline.Covers

@[expose] public section

set_option maxRecDepth 10000
set_option maxHeartbeats 4000000

noncomputable section

namespace Cert.Proof.Value

open Idealize.ShloMosaic Idealize.ShloMosaic.TcCoe
open Idealize.SL Idealize.SL.RA Idealize.SL.BI
open Idealize.ShloMosaic.Rounds Idealize.ShloMosaic.Pipeline
open Cert.Proof Cert.KernelIdeal.Gen Cert.KernelIdeal.Run
open Cert.KernelIdeal hiding ix0 ix1 ix2 ix3 ix4 ix5 ix6

variable (a : (pcfg1 (F := Ideal)).Adm) (c : Dev nD) (V : Valuation τ sig (Elt Ideal))

/-- The arrays of the call in a valuation. -/
abbrev arrs1 : (w : Fin (cfg1 a).W) → Buf (Elt Ideal) (((cfg1 a).win w).arr.view.loc (c.tc : Thread nD τ)) :=
  fun w => V (Proc.devRef .tc (arrRef (cfg1 a).spec w))

/-- The table's entry read at a point for block `r`. -/
theorem entry1 (pf : pre1.Contents (Elt Ideal)) (i : grid1.Coords) (r : Fin 32) (n : Fin 16384) (hn : n.val = 32 * (i 0).val + r.val) :
    pf.at 0 (Rect.unit (s := S16384) (k1_off1 i (BitVec.ofNat 32 r.val)) S1.size (k1_off1_inb i r)) numel1_S1
      = (pf 0 : S16384.Idx → BitVec 32) (ix1 n) := by
  refine congrArg (pf 0 : S16384.Idx → BitVec 32) (funext fun b => Fin.ext ?_)
  fin_cases b
  refine (Rect.emb_apply _ _ _).trans ?_
  show k1_off1 i (BitVec.ofNat 32 r.val) 0 + 1 * 0 = n.val
  rw [k1_off1_eq, hn]
  rfl

/-- A one-row block at a point, entry by entry: the table's row that the table of places names. -/
theorem rows1_apply (t : Fin (cfg1 a).N) (r : Fin 32) (d : Fin 256) (w : Fin 30000) (n : Fin 16384) (hn : n.val = 32 * t.val + r.val)
    (hw : ((a.1 0 : S16384.Idx → BitVec 32) (ix1 n)).toNat = w.val) :
    rows1 a c (arrs1 a c V) t r (ix3 0 0 d) = (V (Proc.devRef .tc main_v31) : S30000x1x256.Idx → EReal) (ix3 w 0 d) := by
  have ht : ((grid1.coords t) 0).val = t.val := by
    refine (Grid.coords_val (G := grid1) t 0 (S := 1) (B := 512) (by decide) rfl).trans ?_
    have : t.val < 512 := t.isLt
    omega
  have he : (a.1.at 0 (Rect.unit (s := S16384) (k1_off1 (grid1.coords t) (BitVec.ofNat 32 r.val)) S1.size (k1_off1_inb _ r)) numel1_S1).toNat = w.val := by
    rw [entry1 a.1 _ r n (by rw [ht]; exact hn)]
    exact hw
  have hc : ∀ x : ℕ, x = w.val → ∀ b : Fin 3, ((ix3 w (0 : Fin 1) d : S30000x1x256.Idx) b).val = (![x, 0, 0] : Fin 3 → ℕ) b * (![1, 1, 256] : Fin 3 → ℕ) b + ((ix3 (0 : Fin 1) (0 : Fin 1) d : S1x1x256.Idx) b).val := by
    intro x hx b
    fin_cases b
    · show w.val = x * 1 + 0; omega
    · rfl
    · show d.val = 0 * 256 + d.val; omega
  clear hn
  fin_cases r
  all_goals
    simp only [rows1, Fin.mk_zero, Fin.mk_one, Fin.reduceFinMk, Fin.isValue, Matrix.cons_val]
    refine held_eq (arrs1 a c V) _ t (fun _ => rfl) rfl _ _ ?_
    exact hc _ he

/-- The block of train rows a point reads. -/
theorem index1 : ∀ t : Fin grid1.N, cc1_transform_32 (grid1.coords t) = ![t.val / 256, t.val % 256 / 16, 0] := by
  decide +kernel

/-- The block of the output a point writes. -/
theorem outIndex1 : ∀ t : Fin grid1.N, cc1_transform_33 (grid1.coords t) = ![t.val, 0, 0] := by
  decide +kernel

/-- The block of train rows at a point, entry by entry. -/
theorem side1_apply (t : Fin (cfg1 a).N) (s : Fin 2) (g k : Fin 16) (ht : t.val = (point s g k).val) (r : Fin 32) (d : Fin 256) :
    Region.held (cfg1 a) c (arrs1 a c V) 32 t (ix3 (n0 := 1) (n1 := 32) (n2 := 256) 0 r d)
      = (V (Proc.devRef .tc main_v14) : S2x512x256.Idx → EReal) (ix3 s (Host.column g r) d) := by
  have hp : t.val = (s.val * 16 + g.val) * 16 + k.val := ht
  have h1 : t.val / 256 = s.val := by omega
  have h2 : t.val % 256 / 16 = g.val := by omega
  refine held_eq (arrs1 a c V) 32 t (fun _ => rfl) rfl _ _ ?_
  intro b
  show _ = cc1_transform_32 (grid1.coords t) b * _ + _
  rw [index1 t, h1, h2]
  fin_cases b
  · show s.val = s.val * 1 + 0; omega
  · show g.val * 32 + r.val = g.val * 32 + r.val; rfl
  · show d.val = 0 * 256 + d.val; omega

/-- The call's output array: every point's row sums at the point's place. -/
theorem array1 (Φ) : (Region.dat (cfg1 a) c (arrs1 a c V) (out1 a c (arrs1 a c V)) Φ).arrAt 33 (cfg1 a).N
    = ((fun j => Dist.sums (rows1 a c (arrs1 a c V) ⟨(j 0).val, (j 0).isLt⟩)
        (Region.held (cfg1 a) c (arrs1 a c V) 32 ⟨(j 0).val, (j 0).isLt⟩) (ix3 0 (j 1) 0)) : S512x32x1.Idx → EReal) := by
  have hcov : ((cfg1 a).win 33).Covers := by
    refine Window.covers_of_index_surj (w := (cfg1 a).win 33) rfl (by decide : ∀ b : Fin 3, 0 < (![1, 32, 1] : Fin 3 → ℕ) b) ?_
    intro β
    have h0 : (β (0 : Fin 3)).val < 512 := lt_of_lt_of_eq (β (0 : Fin 3)).isLt (show (512 + 1 - 1) / 1 = 512 from rfl)
    have h1 : (β (1 : Fin 3)).val < 1 := lt_of_lt_of_eq (β (1 : Fin 3)).isLt (show (32 + 32 - 1) / 32 = 1 from rfl)
    have h2 : (β (2 : Fin 3)).val < 1 := lt_of_lt_of_eq (β (2 : Fin 3)).isLt (show (1 + 1 - 1) / 1 = 1 from rfl)
    refine ⟨⟨(β (0 : Fin 3)).val, h0⟩, fun b => ?_⟩
    show cc1_transform_33 (grid1.coords ⟨(β (0 : Fin 3)).val, h0⟩) b = _
    rw [outIndex1]
    fin_cases b
    · rfl
    · show 0 = (β (1 : Fin 3)).val; omega
    · show 0 = (β (2 : Fin 3)).val; omega
  refine Dat.arrAt_eq_of_covers _ 33 _ hcov (fun t hf y => ?_)
  have hj : ((cfg1 a).win 33).arr.view.emb (ix3 (n0 := 512) (n1 := 32) (n2 := 1) ⟨t.val, t.isLt⟩ (y (1 : Fin 3)) (y (2 : Fin 3))) = (((cfg1 a).win 33).blk t).view.emb y := by
    refine (blk_emb_eq 33 t rfl y _ fun b => ?_).symm
    show _ = cc1_transform_33 (grid1.coords t) b * _ + _
    rw [outIndex1 t]
    have h0 : (y (0 : Fin 3)).val < 1 := (y (0 : Fin 3)).isLt
    fin_cases b
    · show t.val = t.val * 1 + (y (0 : Fin 3)).val; omega
    · show (y (1 : Fin 3)).val = 0 * 32 + (y (1 : Fin 3)).val; omega
    · show (y (2 : Fin 3)).val = 0 * 1 + (y (2 : Fin 3)).val; omega
  rw [← hj, Region.after_out _ _ _ 33 rfl]
  have hy : y = (ix3 (n0 := 1) (n1 := 32) (n2 := 1) 0 (y (1 : Fin 3)) 0 : S1x32x1.Idx) := by
    funext b
    refine Fin.ext ?_
    have h0 : (y (0 : Fin 3)).val < 1 := (y (0 : Fin 3)).isLt
    have h2 : (y (2 : Fin 3)).val < 1 := (y (2 : Fin 3)).isLt
    fin_cases b
    · show (y (0 : Fin 3)).val = 0; omega
    · rfl
    · show (y (2 : Fin 3)).val = 0; omega
  have hu : out1 a c (arrs1 a c V) 33 = fun t => Dist.sums (rows1 a c (arrs1 a c V) t) (Region.held (cfg1 a) c (arrs1 a c V) 32 t) :=
    Function.update_self ..
  rw [hu]
  exact congrArg (Dist.sums (rows1 a c (arrs1 a c V) t) (Region.held (cfg1 a) c (arrs1 a c V) 32 t)) hy

/-- The call's output at a place: the gap between the table's row the place names and the train row of its side and column. -/
theorem call1_apply (Φ) (s : Fin 2) (g k : Fin 16) (r : Fin 32) (w : Fin 30000)
    (hw : ((a.1 0 : S16384.Idx → BitVec 32) (ix1 (Host.place s g k r))).toNat = w.val) :
    ((Region.dat (cfg1 a) c (arrs1 a c V) (out1 a c (arrs1 a c V)) Φ).arrAt 33 (cfg1 a).N : S512x32x1.Idx → EReal) (ix3 (point s g k) r 0)
      = gap (fun d => (V (Proc.devRef .tc main_v31) : S30000x1x256.Idx → EReal) (ix3 w 0 d))
          (fun d => (V (Proc.devRef .tc main_v14) : S2x512x256.Idx → EReal) (ix3 s (Host.column g r) d)) := by
  refine (congrFun (array1 a c V Φ) _).trans ((sums_apply _ _ r).trans ?_)
  refine congrArg₂ gap (funext fun d => ?_) (funext fun d => ?_)
  · refine rows1_apply a c V _ r d w (Host.place s g k r) ?_ hw
    show ((s.val * 16 + g.val) * 16 + k.val) * 32 + r.val = 32 * ((s.val * 16 + g.val) * 16 + k.val) + r.val
    omega
  · exact side1_apply a c V _ s g k rfl r d

variable (m : (ℓ : Loc nD τ sig) → Buf (Elt Ideal) ℓ) (h : Rows m)

/-- The output of call 1 when it is left: the gap between the row of the table that the batch names and the train row. -/
theorem W4_apply (s : Fin 2) (g k : Fin 16) (r : Fin 32) :
    (W4 m h 0 (Proc.devRef .tc main_v32) : S512x32x1.Idx → EReal) (ix3 (point s g k) r 0)
      = gap (fun d => (V0 m 0 (Proc.devRef .tc main_arg0) : S30000x256.Idx → EReal)
            (ix2 (named ((V0 m 0 (Proc.devRef .tc main_arg7) : S12x16x512.Idx → BitVec 32) (ix3 (if s = 0 then 0 else 3) k (Host.column g r)))) d))
          (fun d => (W3 m h 0 (Proc.devRef .tc main_v14) : S2x512x256.Idx → EReal) (ix3 s (Host.column g r) d)) := by
  have hout : W4 m h 0 (Proc.devRef .tc main_v32) = (dat1 m h 0).arrAt 33 (cfg1 (F := Ideal) ⟨tab1 m, tab1_ok m h⟩).N :=
    Dat.withArrays_arrAt (dat1 m h 0) sharedIn1 (W3 m h 0) (fun _ => rfl) 33
  have hids : (tab1 m 0 : S16384.Idx → BitVec 32) (ix1 (Host.place s g k r))
      = (V0 m 0 (Proc.devRef .tc main_arg7) : S12x16x512.Idx → BitVec 32) (ix3 (if s = 0 then 0 else 3) k (Host.column g r)) :=
    (congrFun (flat_1 (V0 m 0)) _).trans (Host.flat_apply 0 3 _ s g k r)
  have htab : W3 m h 0 (Proc.devRef .tc main_v31) = Host.table (V0 m 0 (Proc.devRef .tc main_arg0)) :=
    (table_1 (W2 m h 0)).trans (congrArg Host.table (W2_of m h 0 main_arg0 (by decide)))
  refine (congrFun hout _).trans ((call1_apply ⟨tab1 m, tab1_ok m h⟩ 0 (W3 m h 0) _ s g k r _
    ((congrArg BitVec.toNat hids).trans (named_val _ (h.2 _)))).trans ?_)
  refine congrArg₂ gap (funext fun d => ?_) rfl
  rw [htab]
  exact Host.table_apply _ _ d

/-- Call 1 leaves the train rows it reads as they were. -/
theorem W4_side (c : Dev nD) : W4 m h c (Proc.devRef .tc main_v14) = W3 m h c (Proc.devRef .tc main_v14) :=
  (Dat.withArrays_arrAt (dat1 m h c) sharedIn1 (W3 m h c) (fun _ => rfl) 32).trans ((dat1 m h c).arrAt_in 32 rfl _)

end Cert.Proof.Value
-- ==== Proof.Value.Call2.lean ====
/-
  Distance call 2 over extended reals: what its blocks hold at a grid point, and what its output array ends as.
-/
module

public import proofs.«01_k».proof.Proof.Value.Held
public import proofs.«01_k».proof.Proof.Value.Body
public import proofs.«01_k».proof.Proof.Value.Join
public import proofs.«01_k».proof.Proof.Ideal.Vals
public import Idealize.ShloMosaic.Lib.Pipeline.Covers

@[expose] public section

set_option maxRecDepth 10000
set_option maxHeartbeats 4000000

noncomputable section

namespace Cert.Proof.Value

open Idealize.ShloMosaic Idealize.ShloMosaic.TcCoe
open Idealize.SL Idealize.SL.RA Idealize.SL.BI
open Idealize.ShloMosaic.Rounds Idealize.ShloMosaic.Pipeline
open Cert.Proof Cert.KernelIdeal.Gen Cert.KernelIdeal.Run
open Cert.KernelIdeal hiding ix0 ix1 ix2 ix3 ix4 ix5 ix6

variable (a : (pcfg2 (F := Ideal)).Adm) (c : Dev nD) (V : Valuation τ sig (Elt Ideal))

/-- The arrays of the call in a valuation. -/
abbrev arrs2 : (w : Fin (cfg2 a).W) → Buf (Elt Ideal) (((cfg2 a).win w).arr.view.loc (c.tc : Thread nD τ)) :=
  fun w => V (Proc.devRef .tc (arrRef (cfg2 a).spec w))

/-- The table's entry read at a point for block `r`. -/
theorem entry2 (pf : pre2.Contents (Elt Ideal)) (i : grid2.Coords) (r : Fin 32) (n : Fin 16384) (hn : n.val = 32 * (i 0).val + r.val) :
    pf.at 0 (Rect.unit (s := S16384) (k2_off1 i (BitVec.ofNat 32 r.val)) S1.size (k2_off1_inb i r)) numel1_S1
      = (pf 0 : S16384.Idx → BitVec 32) (ix1 n) := by
  refine congrArg (pf 0 : S16384.Idx → BitVec 32) (funext fun b => Fin.ext ?_)
  fin_cases b
  refine (Rect.emb_apply _ _ _).trans ?_
  show k2_off1 i (BitVec.ofNat 32 r.val) 0 + 1 * 0 = n.val
  rw [k2_off1_eq, hn]
  rfl

/-- A one-row block at a point, entry by entry: the table's row that the table of places names. -/
theorem rows2_apply (t : Fin (cfg2 a).N) (r : Fin 32) (d : Fin 256) (w : Fin 30000) (n : Fin 16384) (hn : n.val = 32 * t.val + r.val)
    (hw : ((a.1 0 : S16384.Idx → BitVec 32) (ix1 n)).toNat = w.val) :
    rows2 a c (arrs2 a c V) t r (ix3 0 0 d) = (V (Proc.devRef .tc main_v43) : S30000x1x256.Idx → EReal) (ix3 w 0 d) := by
  have ht : ((grid2.coords t) 0).val = t.val := by
    refine (Grid.coords_val (G := grid2) t 0 (S := 1) (B := 512) (by decide) rfl).trans ?_
    have : t.val < 512 := t.isLt
    omega
  have he : (a.1.at 0 (Rect.unit (s := S16384) (k2_off1 (grid2.coords t) (BitVec.ofNat 32 r.val)) S1.size (k2_off1_inb _ r)) numel1_S1).toNat = w.val := by
    rw [entry2 a.1 _ r n (by rw [ht]; exact hn)]
    exact hw
  have hc : ∀ x : ℕ, x = w.val → ∀ b : Fin 3, ((ix3 w (0 : Fin 1) d : S30000x1x256.Idx) b).val = (![x, 0, 0] : Fin 3 → ℕ) b * (![1, 1, 256] : Fin 3 → ℕ) b + ((ix3 (0 : Fin 1) (0 : Fin 1) d : S1x1x256.Idx) b).val := by
    intro x hx b
    fin_cases b
    · show w.val = x * 1 + 0; omega
    · rfl
    · show d.val = 0 * 256 + d.val; omega
  clear hn
  fin_cases r
  all_goals
    simp only [rows2, Fin.mk_zero, Fin.mk_one, Fin.reduceFinMk, Fin.isValue, Matrix.cons_val]
    refine held_eq (arrs2 a c V) _ t (fun _ => rfl) rfl _ _ ?_
    exact hc _ he

/-- The block of train rows a point reads. -/
theorem index2 : ∀ t : Fin grid2.N, cc2_transform_32 (grid2.coords t) = ![t.val / 256, t.val % 256 / 16, 0] := by
  decide +kernel

/-- The block of the output a point writes. -/
theorem outIndex2 : ∀ t : Fin grid2.N, cc2_transform_33 (grid2.coords t) = ![t.val, 0, 0] := by
  decide +kernel

/-- The block of train rows at a point, entry by entry. -/
theorem side2_apply (t : Fin (cfg2 a).N) (s : Fin 2) (g k : Fin 16) (ht : t.val = (point s g k).val) (r : Fin 32) (d : Fin 256) :
    Region.held (cfg2 a) c (arrs2 a c V) 32 t (ix3 (n0 := 1) (n1 := 32) (n2 := 256) 0 r d)
      = (V (Proc.devRef .tc main_v14) : S2x512x256.Idx → EReal) (ix3 s (Host.column g r) d) := by
  have hp : t.val = (s.val * 16 + g.val) * 16 + k.val := ht
  have h1 : t.val / 256 = s.val := by omega
  have h2 : t.val % 256 / 16 = g.val := by omega
  refine held_eq (arrs2 a c V) 32 t (fun _ => rfl) rfl _ _ ?_
  intro b
  show _ = cc2_transform_32 (grid2.coords t) b * _ + _
  rw [index2 t, h1, h2]
  fin_cases b
  · show s.val = s.val * 1 + 0; omega
  · show g.val * 32 + r.val = g.val * 32 + r.val; rfl
  · show d.val = 0 * 256 + d.val; omega

/-- The call's output array: every point's row sums at the point's place. -/
theorem array2 (Φ) : (Region.dat (cfg2 a) c (arrs2 a c V) (out2 a c (arrs2 a c V)) Φ).arrAt 33 (cfg2 a).N
    = ((fun j => Dist.sums (rows2 a c (arrs2 a c V) ⟨(j 0).val, (j 0).isLt⟩)
        (Region.held (cfg2 a) c (arrs2 a c V) 32 ⟨(j 0).val, (j 0).isLt⟩) (ix3 0 (j 1) 0)) : S512x32x1.Idx → EReal) := by
  have hcov : ((cfg2 a).win 33).Covers := by
    refine Window.covers_of_index_surj (w := (cfg2 a).win 33) rfl (by decide : ∀ b : Fin 3, 0 < (![1, 32, 1] : Fin 3 → ℕ) b) ?_
    intro β
    have h0 : (β (0 : Fin 3)).val < 512 := lt_of_lt_of_eq (β (0 : Fin 3)).isLt (show (512 + 1 - 1) / 1 = 512 from rfl)
    have h1 : (β (1 : Fin 3)).val < 1 := lt_of_lt_of_eq (β (1 : Fin 3)).isLt (show (32 + 32 - 1) / 32 = 1 from rfl)
    have h2 : (β (2 : Fin 3)).val < 1 := lt_of_lt_of_eq (β (2 : Fin 3)).isLt (show (1 + 1 - 1) / 1 = 1 from rfl)
    refine ⟨⟨(β (0 : Fin 3)).val, h0⟩, fun b => ?_⟩
    show cc2_transform_33 (grid2.coords ⟨(β (0 : Fin 3)).val, h0⟩) b = _
    rw [outIndex2]
    fin_cases b
    · rfl
    · show 0 = (β (1 : Fin 3)).val; omega
    · show 0 = (β (2 : Fin 3)).val; omega
  refine Dat.arrAt_eq_of_covers _ 33 _ hcov (fun t hf y => ?_)
  have hj : ((cfg2 a).win 33).arr.view.emb (ix3 (n0 := 512) (n1 := 32) (n2 := 1) ⟨t.val, t.isLt⟩ (y (1 : Fin 3)) (y (2 : Fin 3))) = (((cfg2 a).win 33).blk t).view.emb y := by
    refine (blk_emb_eq 33 t rfl y _ fun b => ?_).symm
    show _ = cc2_transform_33 (grid2.coords t) b * _ + _
    rw [outIndex2 t]
    have h0 : (y (0 : Fin 3)).val < 1 := (y (0 : Fin 3)).isLt
    fin_cases b
    · show t.val = t.val * 1 + (y (0 : Fin 3)).val; omega
    · show (y (1 : Fin 3)).val = 0 * 32 + (y (1 : Fin 3)).val; omega
    · show (y (2 : Fin 3)).val = 0 * 1 + (y (2 : Fin 3)).val; omega
  rw [← hj, Region.after_out _ _ _ 33 rfl]
  have hy : y = (ix3 (n0 := 1) (n1 := 32) (n2 := 1) 0 (y (1 : Fin 3)) 0 : S1x32x1.Idx) := by
    funext b
    refine Fin.ext ?_
    have h0 : (y (0 : Fin 3)).val < 1 := (y (0 : Fin 3)).isLt
    have h2 : (y (2 : Fin 3)).val < 1 := (y (2 : Fin 3)).isLt
    fin_cases b
    · show (y (0 : Fin 3)).val = 0; omega
    · rfl
    · show (y (2 : Fin 3)).val = 0; omega
  have hu : out2 a c (arrs2 a c V) 33 = fun t => Dist.sums (rows2 a c (arrs2 a c V) t) (Region.held (cfg2 a) c (arrs2 a c V) 32 t) :=
    Function.update_self ..
  rw [hu]
  exact congrArg (Dist.sums (rows2 a c (arrs2 a c V) t) (Region.held (cfg2 a) c (arrs2 a c V) 32 t)) hy

/-- The call's output at a place: the gap between the table's row the place names and the train row of its side and column. -/
theorem call2_apply (Φ) (s : Fin 2) (g k : Fin 16) (r : Fin 32) (w : Fin 30000)
    (hw : ((a.1 0 : S16384.Idx → BitVec 32) (ix1 (Host.place s g k r))).toNat = w.val) :
    ((Region.dat (cfg2 a) c (arrs2 a c V) (out2 a c (arrs2 a c V)) Φ).arrAt 33 (cfg2 a).N : S512x32x1.Idx → EReal) (ix3 (point s g k) r 0)
      = gap (fun d => (V (Proc.devRef .tc main_v43) : S30000x1x256.Idx → EReal) (ix3 w 0 d))
          (fun d => (V (Proc.devRef .tc main_v14) : S2x512x256.Idx → EReal) (ix3 s (Host.column g r) d)) := by
  refine (congrFun (array2 a c V Φ) _).trans ((sums_apply _ _ r).trans ?_)
  refine congrArg₂ gap (funext fun d => ?_) (funext fun d => ?_)
  · refine rows2_apply a c V _ r d w (Host.place s g k r) ?_ hw
    show ((s.val * 16 + g.val) * 16 + k.val) * 32 + r.val = 32 * ((s.val * 16 + g.val) * 16 + k.val) + r.val
    omega
  · exact side2_apply a c V _ s g k rfl r d

variable (m : (ℓ : Loc nD τ sig) → Buf (Elt Ideal) ℓ) (h : Rows m)

/-- The output of call 2 when it is left: the gap between the row of the table that the batch names and the train row. -/
theorem W6_apply (s : Fin 2) (g k : Fin 16) (r : Fin 32) :
    (W6 m h 0 (Proc.devRef .tc main_v44) : S512x32x1.Idx → EReal) (ix3 (point s g k) r 0)
      = gap (fun d => (V0 m 0 (Proc.devRef .tc main_arg1) : S30000x256.Idx → EReal)
            (ix2 (named ((V0 m 0 (Proc.devRef .tc main_arg7) : S12x16x512.Idx → BitVec 32) (ix3 (if s = 0 then 1 else 2) k (Host.column g r)))) d))
          (fun d => (W5 m h 0 (Proc.devRef .tc main_v14) : S2x512x256.Idx → EReal) (ix3 s (Host.column g r) d)) := by
  have hout : W6 m h 0 (Proc.devRef .tc main_v44) = (dat2 m h 0).arrAt 33 (cfg2 (F := Ideal) ⟨tab2 m, tab2_ok m h⟩).N :=
    Dat.withArrays_arrAt (dat2 m h 0) sharedIn2 (W5 m h 0) (fun _ => rfl) 33
  have hids : (tab2 m 0 : S16384.Idx → BitVec 32) (ix1 (Host.place s g k r))
      = (V0 m 0 (Proc.devRef .tc main_arg7) : S12x16x512.Idx → BitVec 32) (ix3 (if s = 0 then 1 else 2) k (Host.column g r)) :=
    (congrFun (flat_2 (V0 m 0)) _).trans (Host.flat_apply 1 2 _ s g k r)
  have htab : W5 m h 0 (Proc.devRef .tc main_v43) = Host.table (V0 m 0 (Proc.devRef .tc main_arg1)) :=
    (table_2 (W4 m h 0)).trans (congrArg Host.table (W4_of m h 0 main_arg1 (by decide)))
  refine (congrFun hout _).trans ((call2_apply ⟨tab2 m, tab2_ok m h⟩ 0 (W5 m h 0) _ s g k r _
    ((congrArg BitVec.toNat hids).trans (named_val _ (h.2 _)))).trans ?_)
  refine congrArg₂ gap (funext fun d => ?_) rfl
  rw [htab]
  exact Host.table_apply _ _ d

/-- Call 2 leaves the train rows it reads as they were. -/
theorem W6_side (c : Dev nD) : W6 m h c (Proc.devRef .tc main_v14) = W5 m h c (Proc.devRef .tc main_v14) :=
  (Dat.withArrays_arrAt (dat2 m h c) sharedIn2 (W5 m h c) (fun _ => rfl) 32).trans ((dat2 m h c).arrAt_in 32 rfl _)

end Cert.Proof.Value
-- ==== Proof.Value.Call3.lean ====
/-
  Distance call 3 over extended reals: what its blocks hold at a grid point, and what its output array ends as.
-/
module

public import proofs.«01_k».proof.Proof.Value.Held
public import proofs.«01_k».proof.Proof.Value.Body
public import proofs.«01_k».proof.Proof.Value.Join
public import proofs.«01_k».proof.Proof.Ideal.Vals
public import Idealize.ShloMosaic.Lib.Pipeline.Covers

@[expose] public section

set_option maxRecDepth 10000
set_option maxHeartbeats 4000000

noncomputable section

namespace Cert.Proof.Value

open Idealize.ShloMosaic Idealize.ShloMosaic.TcCoe
open Idealize.SL Idealize.SL.RA Idealize.SL.BI
open Idealize.ShloMosaic.Rounds Idealize.ShloMosaic.Pipeline
open Cert.Proof Cert.KernelIdeal.Gen Cert.KernelIdeal.Run
open Cert.KernelIdeal hiding ix0 ix1 ix2 ix3 ix4 ix5 ix6

variable (a : (pcfg3 (F := Ideal)).Adm) (c : Dev nD) (V : Valuation τ sig (Elt Ideal))

/-- The arrays of the call in a valuation. -/
abbrev arrs3 : (w : Fin (cfg3 a).W) → Buf (Elt Ideal) (((cfg3 a).win w).arr.view.loc (c.tc : Thread nD τ)) :=
  fun w => V (Proc.devRef .tc (arrRef (cfg3 a).spec w))

/-- The table's entry read at a point for block `r`. -/
theorem entry3 (pf : pre3.Contents (Elt Ideal)) (i : grid3.Coords) (r : Fin 32) (n : Fin 16384) (hn : n.val = 32 * (i 0).val + r.val) :
    pf.at 0 (Rect.unit (s := S16384) (k3_off1 i (BitVec.ofNat 32 r.val)) S1.size (k3_off1_inb i r)) numel1_S1
      = (pf 0 : S16384.Idx → BitVec 32) (ix1 n) := by
  refine congrArg (pf 0 : S16384.Idx → BitVec 32) (funext fun b => Fin.ext ?_)
  fin_cases b
  refine (Rect.emb_apply _ _ _).trans ?_
  show k3_off1 i (BitVec.ofNat 32 r.val) 0 + 1 * 0 = n.val
  rw [k3_off1_eq, hn]
  rfl

/-- A one-row block at a point, entry by entry: the table's row that the table of places names. -/
theorem rows3_apply (t : Fin (cfg3 a).N) (r : Fin 32) (d : Fin 300) (w : Fin 30000) (n : Fin 16384) (hn : n.val = 32 * t.val + r.val)
    (hw : ((a.1 0 : S16384.Idx → BitVec 32) (ix1 n)).toNat = w.val) :
    rows3 a c (arrs3 a c V) t r (ix3 0 0 d) = (V (Proc.devRef .tc main_v55) : S30000x1x300.Idx → EReal) (ix3 w 0 d) := by
  have ht : ((grid3.coords t) 0).val = t.val := by
    refine (Grid.coords_val (G := grid3) t 0 (S := 1) (B := 512) (by decide) rfl).trans ?_
    have : t.val < 512 := t.isLt
    omega
  have he : (a.1.at 0 (Rect.unit (s := S16384) (k3_off1 (grid3.coords t) (BitVec.ofNat 32 r.val)) S1.size (k3_off1_inb _ r)) numel1_S1).toNat = w.val := by
    rw [entry3 a.1 _ r n (by rw [ht]; exact hn)]
    exact hw
  have hc : ∀ x : ℕ, x = w.val → ∀ b : Fin 3, ((ix3 w (0 : Fin 1) d : S30000x1x300.Idx) b).val = (![x, 0, 0] : Fin 3 → ℕ) b * (![1, 1, 300] : Fin 3 → ℕ) b + ((ix3 (0 : Fin 1) (0 : Fin 1) d : S1x1x300.Idx) b).val := by
    intro x hx b
    fin_cases b
    · show w.val = x * 1 + 0; omega
    · rfl
    · show d.val = 0 * 300 + d.val; omega
  clear hn
  fin_cases r
  all_goals
    simp only [rows3, Fin.mk_zero, Fin.mk_one, Fin.reduceFinMk, Fin.isValue, Matrix.cons_val]
    refine held_eq (arrs3 a c V) _ t (fun _ => rfl) rfl _ _ ?_
    exact hc _ he

/-- The block of train rows a point reads. -/
theorem index3 : ∀ t : Fin grid3.N, cc3_transform_32 (grid3.coords t) = ![t.val / 256, t.val % 256 / 16, 0] := by
  decide +kernel

/-- The block of the output a point writes. -/
theorem outIndex3 : ∀ t : Fin grid3.N, cc3_transform_33 (grid3.coords t) = ![t.val, 0, 0] := by
  decide +kernel

/-- The block of train rows at a point, entry by entry. -/
theorem side3_apply (t : Fin (cfg3 a).N) (s : Fin 2) (g k : Fin 16) (ht : t.val = (point s g k).val) (r : Fin 32) (d : Fin 300) :
    Region.held (cfg3 a) c (arrs3 a c V) 32 t (ix3 (n0 := 1) (n1 := 32) (n2 := 300) 0 r d)
      = (V (Proc.devRef .tc main_v17) : S2x512x300.Idx → EReal) (ix3 s (Host.column g r) d) := by
  have hp : t.val = (s.val * 16 + g.val) * 16 + k.val := ht
  have h1 : t.val / 256 = s.val := by omega
  have h2 : t.val % 256 / 16 = g.val := by omega
  refine held_eq (arrs3 a c V) 32 t (fun _ => rfl) rfl _ _ ?_
  intro b
  show _ = cc3_transform_32 (grid3.coords t) b * _ + _
  rw [index3 t, h1, h2]
  fin_cases b
  · show s.val = s.val * 1 + 0; omega
  · show g.val * 32 + r.val = g.val * 32 + r.val; rfl
  · show d.val = 0 * 300 + d.val; omega

/-- The call's output array: every point's row sums at the point's place. -/
theorem array3 (Φ) : (Region.dat (cfg3 a) c (arrs3 a c V) (out3 a c (arrs3 a c V)) Φ).arrAt 33 (cfg3 a).N
    = ((fun j => Dist.sums (rows3 a c (arrs3 a c V) ⟨(j 0).val, (j 0).isLt⟩)
        (Region.held (cfg3 a) c (arrs3 a c V) 32 ⟨(j 0).val, (j 0).isLt⟩) (ix3 0 (j 1) 0)) : S512x32x1.Idx → EReal) := by
  have hcov : ((cfg3 a).win 33).Covers := by
    refine Window.covers_of_index_surj (w := (cfg3 a).win 33) rfl (by decide : ∀ b : Fin 3, 0 < (![1, 32, 1] : Fin 3 → ℕ) b) ?_
    intro β
    have h0 : (β (0 : Fin 3)).val < 512 := lt_of_lt_of_eq (β (0 : Fin 3)).isLt (show (512 + 1 - 1) / 1 = 512 from rfl)
    have h1 : (β (1 : Fin 3)).val < 1 := lt_of_lt_of_eq (β (1 : Fin 3)).isLt (show (32 + 32 - 1) / 32 = 1 from rfl)
    have h2 : (β (2 : Fin 3)).val < 1 := lt_of_lt_of_eq (β (2 : Fin 3)).isLt (show (1 + 1 - 1) / 1 = 1 from rfl)
    refine ⟨⟨(β (0 : Fin 3)).val, h0⟩, fun b => ?_⟩
    show cc3_transform_33 (grid3.coords ⟨(β (0 : Fin 3)).val, h0⟩) b = _
    rw [outIndex3]
    fin_cases b
    · rfl
    · show 0 = (β (1 : Fin 3)).val; omega
    · show 0 = (β (2 : Fin 3)).val; omega
  refine Dat.arrAt_eq_of_covers _ 33 _ hcov (fun t hf y => ?_)
  have hj : ((cfg3 a).win 33).arr.view.emb (ix3 (n0 := 512) (n1 := 32) (n2 := 1) ⟨t.val, t.isLt⟩ (y (1 : Fin 3)) (y (2 : Fin 3))) = (((cfg3 a).win 33).blk t).view.emb y := by
    refine (blk_emb_eq 33 t rfl y _ fun b => ?_).symm
    show _ = cc3_transform_33 (grid3.coords t) b * _ + _
    rw [outIndex3 t]
    have h0 : (y (0 : Fin 3)).val < 1 := (y (0 : Fin 3)).isLt
    fin_cases b
    · show t.val = t.val * 1 + (y (0 : Fin 3)).val; omega
    · show (y (1 : Fin 3)).val = 0 * 32 + (y (1 : Fin 3)).val; omega
    · show (y (2 : Fin 3)).val = 0 * 1 + (y (2 : Fin 3)).val; omega
  rw [← hj, Region.after_out _ _ _ 33 rfl]
  have hy : y = (ix3 (n0 := 1) (n1 := 32) (n2 := 1) 0 (y (1 : Fin 3)) 0 : S1x32x1.Idx) := by
    funext b
    refine Fin.ext ?_
    have h0 : (y (0 : Fin 3)).val < 1 := (y (0 : Fin 3)).isLt
    have h2 : (y (2 : Fin 3)).val < 1 := (y (2 : Fin 3)).isLt
    fin_cases b
    · show (y (0 : Fin 3)).val = 0; omega
    · rfl
    · show (y (2 : Fin 3)).val = 0; omega
  have hu : out3 a c (arrs3 a c V) 33 = fun t => Dist.sums (rows3 a c (arrs3 a c V) t) (Region.held (cfg3 a) c (arrs3 a c V) 32 t) :=
    Function.update_self ..
  rw [hu]
  exact congrArg (Dist.sums (rows3 a c (arrs3 a c V) t) (Region.held (cfg3 a) c (arrs3 a c V) 32 t)) hy

/-- The call's output at a place: the gap between the table's row the place names and the train row of its side and column. -/
theorem call3_apply (Φ) (s : Fin 2) (g k : Fin 16) (r : Fin 32) (w : Fin 30000)
    (hw : ((a.1 0 : S16384.Idx → BitVec 32) (ix1 (Host.place s g k r))).toNat = w.val) :
    ((Region.dat (cfg3 a) c (arrs3 a c V) (out3 a c (arrs3 a c V)) Φ).arrAt 33 (cfg3 a).N : S512x32x1.Idx → EReal) (ix3 (point s g k) r 0)
      = gap (fun d => (V (Proc.devRef .tc main_v55) : S30000x1x300.Idx → EReal) (ix3 w 0 d))
          (fun d => (V (Proc.devRef .tc main_v17) : S2x512x300.Idx → EReal) (ix3 s (Host.column g r) d)) := by
  refine (congrFun (array3 a c V Φ) _).trans ((sums_apply _ _ r).trans ?_)
  refine congrArg₂ gap (funext fun d => ?_) (funext fun d => ?_)
  · refine rows3_apply a c V _ r d w (Host.place s g k r) ?_ hw
    show ((s.val * 16 + g.val) * 16 + k.val) * 32 + r.val = 32 * ((s.val * 16 + g.val) * 16 + k.val) + r.val
    omega
  · exact side3_apply a c V _ s g k rfl r d

variable (m : (ℓ : Loc nD τ sig) → Buf (Elt Ideal) ℓ) (h : Rows m)

/-- The output of call 3 when it is left: the gap between the row of the table that the batch names and the train row. -/
theorem W8_apply (s : Fin 2) (g k : Fin 16) (r : Fin 32) :
    (W8 m h 0 (Proc.devRef .tc main_v56) : S512x32x1.Idx → EReal) (ix3 (point s g k) r 0)
      = gap (fun d => (V0 m 0 (Proc.devRef .tc main_arg2) : S30000x300.Idx → EReal)
            (ix2 (named ((V0 m 0 (Proc.devRef .tc main_arg7) : S12x16x512.Idx → BitVec 32) (ix3 (if s = 0 then 4 else 7) k (Host.column g r)))) d))
          (fun d => (W7 m h 0 (Proc.devRef .tc main_v17) : S2x512x300.Idx → EReal) (ix3 s (Host.column g r) d)) := by
  have hout : W8 m h 0 (Proc.devRef .tc main_v56) = (dat3 m h 0).arrAt 33 (cfg3 (F := Ideal) ⟨tab3 m, tab3_ok m h⟩).N :=
    Dat.withArrays_arrAt (dat3 m h 0) sharedIn3 (W7 m h 0) (fun _ => rfl) 33
  have hids : (tab3 m 0 : S16384.Idx → BitVec 32) (ix1 (Host.place s g k r))
      = (V0 m 0 (Proc.devRef .tc main_arg7) : S12x16x512.Idx → BitVec 32) (ix3 (if s = 0 then 4 else 7) k (Host.column g r)) :=
    (congrFun (flat_3 (V0 m 0)) _).trans (Host.flat_apply 4 7 _ s g k r)
  have htab : W7 m h 0 (Proc.devRef .tc main_v55) = Host.table (V0 m 0 (Proc.devRef .tc main_arg2)) :=
    (table_3 (W6 m h 0)).trans (congrArg Host.table (W6_of m h 0 main_arg2 (by decide)))
  refine (congrFun hout _).trans ((call3_apply ⟨tab3 m, tab3_ok m h⟩ 0 (W7 m h 0) _ s g k r _
    ((congrArg BitVec.toNat hids).trans (named_val _ (h.2 _)))).trans ?_)
  refine congrArg₂ gap (funext fun d => ?_) rfl
  rw [htab]
  exact Host.table_apply _ _ d

/-- Call 3 leaves the train rows it reads as they were. -/
theorem W8_side (c : Dev nD) : W8 m h c (Proc.devRef .tc main_v17) = W7 m h c (Proc.devRef .tc main_v17) :=
  (Dat.withArrays_arrAt (dat3 m h c) sharedIn3 (W7 m h c) (fun _ => rfl) 32).trans ((dat3 m h c).arrAt_in 32 rfl _)

end Cert.Proof.Value
-- ==== Proof.Value.Call4.lean ====
/-
  Distance call 4 over extended reals: what its blocks hold at a grid point, and what its output array ends as.
-/
module

public import proofs.«01_k».proof.Proof.Value.Held
public import proofs.«01_k».proof.Proof.Value.Body
public import proofs.«01_k».proof.Proof.Value.Join
public import proofs.«01_k».proof.Proof.Ideal.Vals
public import Idealize.ShloMosaic.Lib.Pipeline.Covers

@[expose] public section

set_option maxRecDepth 10000
set_option maxHeartbeats 4000000

noncomputable section

namespace Cert.Proof.Value

open Idealize.ShloMosaic Idealize.ShloMosaic.TcCoe
open Idealize.SL Idealize.SL.RA Idealize.SL.BI
open Idealize.ShloMosaic.Rounds Idealize.ShloMosaic.Pipeline
open Cert.Proof Cert.KernelIdeal.Gen Cert.KernelIdeal.Run
open Cert.KernelIdeal hiding ix0 ix1 ix2 ix3 ix4 ix5 ix6

variable (a : (pcfg4 (F := Ideal)).Adm) (c : Dev nD) (V : Valuation τ sig (Elt Ideal))

/-- The arrays of the call in a valuation. -/
abbrev arrs4 : (w : Fin (cfg4 a).W) → Buf (Elt Ideal) (((cfg4 a).win w).arr.view.loc (c.tc : Thread nD τ)) :=
  fun w => V (Proc.devRef .tc (arrRef (cfg4 a).spec w))

/-- The table's entry read at a point for block `r`. -/
theorem entry4 (pf : pre4.Contents (Elt Ideal)) (i : grid4.Coords) (r : Fin 32) (n : Fin 16384) (hn : n.val = 32 * (i 0).val + r.val) :
    pf.at 0 (Rect.unit (s := S16384) (k4_off1 i (BitVec.ofNat 32 r.val)) S1.size (k4_off1_inb i r)) numel1_S1
      = (pf 0 : S16384.Idx → BitVec 32) (ix1 n) := by
  refine congrArg (pf 0 : S16384.Idx → BitVec 32) (funext fun b => Fin.ext ?_)
  fin_cases b
  refine (Rect.emb_apply _ _ _).trans ?_
  show k4_off1 i (BitVec.ofNat 32 r.val) 0 + 1 * 0 = n.val
  rw [k4_off1_eq, hn]
  rfl

/-- A one-row block at a point, entry by entry: the table's row that the table of places names. -/
theorem rows4_apply (t : Fin (cfg4 a).N) (r : Fin 32) (d : Fin 300) (w : Fin 30000) (n : Fin 16384) (hn : n.val = 32 * t.val + r.val)
    (hw : ((a.1 0 : S16384.Idx → BitVec 32) (ix1 n)).toNat = w.val) :
    rows4 a c (arrs4 a c V) t r (ix3 0 0 d) = (V (Proc.devRef .tc main_v67) : S30000x1x300.Idx → EReal) (ix3 w 0 d) := by
  have ht : ((grid4.coords t) 0).val = t.val := by
    refine (Grid.coords_val (G := grid4) t 0 (S := 1) (B := 512) (by decide) rfl).trans ?_
    have : t.val < 512 := t.isLt
    omega
  have he : (a.1.at 0 (Rect.unit (s := S16384) (k4_off1 (grid4.coords t) (BitVec.ofNat 32 r.val)) S1.size (k4_off1_inb _ r)) numel1_S1).toNat = w.val := by
    rw [entry4 a.1 _ r n (by rw [ht]; exact hn)]
    exact hw
  have hc : ∀ x : ℕ, x = w.val → ∀ b : Fin 3, ((ix3 w (0 : Fin 1) d : S30000x1x300.Idx) b).val = (![x, 0, 0] : Fin 3 → ℕ) b * (![1, 1, 300] : Fin 3 → ℕ) b + ((ix3 (0 : Fin 1) (0 : Fin 1) d : S1x1x300.Idx) b).val := by
    intro x hx b
    fin_cases b
    · show w.val = x * 1 + 0; omega
    · rfl
    · show d.val = 0 * 300 + d.val; omega
  clear hn
  fin_cases r
  all_goals
    simp only [rows4, Fin.mk_zero, Fin.mk_one, Fin.reduceFinMk, Fin.isValue, Matrix.cons_val]
    refine held_eq (arrs4 a c V) _ t (fun _ => rfl) rfl _ _ ?_
    exact hc _ he

/-- The block of train rows a point reads. -/
theorem index4 : ∀ t : Fin grid4.N, cc4_transform_32 (grid4.coords t) = ![t.val / 256, t.val % 256 / 16, 0] := by
  decide +kernel

/-- The block of the output a point writes. -/
theorem outIndex4 : ∀ t : Fin grid4.N, cc4_transform_33 (grid4.coords t) = ![t.val, 0, 0] := by
  decide +kernel

/-- The block of train rows at a point, entry by entry. -/
theorem side4_apply (t : Fin (cfg4 a).N) (s : Fin 2) (g k : Fin 16) (ht : t.val = (point s g k).val) (r : Fin 32) (d : Fin 300) :
    Region.held (cfg4 a) c (arrs4 a c V) 32 t (ix3 (n0 := 1) (n1 := 32) (n2 := 300) 0 r d)
      = (V (Proc.devRef .tc main_v17) : S2x512x300.Idx → EReal) (ix3 s (Host.column g r) d) := by
  have hp : t.val = (s.val * 16 + g.val) * 16 + k.val := ht
  have h1 : t.val / 256 = s.val := by omega
  have h2 : t.val % 256 / 16 = g.val := by omega
  refine held_eq (arrs4 a c V) 32 t (fun _ => rfl) rfl _ _ ?_
  intro b
  show _ = cc4_transform_32 (grid4.coords t) b * _ + _
  rw [index4 t, h1, h2]
  fin_cases b
  · show s.val = s.val * 1 + 0; omega
  · show g.val * 32 + r.val = g.val * 32 + r.val; rfl
  · show d.val = 0 * 300 + d.val; omega

/-- The call's output array: every point's row sums at the point's place. -/
theorem array4 (Φ) : (Region.dat (cfg4 a) c (arrs4 a c V) (out4 a c (arrs4 a c V)) Φ).arrAt 33 (cfg4 a).N
    = ((fun j => Dist.sums (rows4 a c (arrs4 a c V) ⟨(j 0).val, (j 0).isLt⟩)
        (Region.held (cfg4 a) c (arrs4 a c V) 32 ⟨(j 0).val, (j 0).isLt⟩) (ix3 0 (j 1) 0)) : S512x32x1.Idx → EReal) := by
  have hcov : ((cfg4 a).win 33).Covers := by
    refine Window.covers_of_index_surj (w := (cfg4 a).win 33) rfl (by decide : ∀ b : Fin 3, 0 < (![1, 32, 1] : Fin 3 → ℕ) b) ?_
    intro β
    have h0 : (β (0 : Fin 3)).val < 512 := lt_of_lt_of_eq (β (0 : Fin 3)).isLt (show (512 + 1 - 1) / 1 = 512 from rfl)
    have h1 : (β (1 : Fin 3)).val < 1 := lt_of_lt_of_eq (β (1 : Fin 3)).isLt (show (32 + 32 - 1) / 32 = 1 from rfl)
    have h2 : (β (2 : Fin 3)).val < 1 := lt_of_lt_of_eq (β (2 : Fin 3)).isLt (show (1 + 1 - 1) / 1 = 1 from rfl)
    refine ⟨⟨(β (0 : Fin 3)).val, h0⟩, fun b => ?_⟩
    show cc4_transform_33 (grid4.coords ⟨(β (0 : Fin 3)).val, h0⟩) b = _
    rw [outIndex4]
    fin_cases b
    · rfl
    · show 0 = (β (1 : Fin 3)).val; omega
    · show 0 = (β (2 : Fin 3)).val; omega
  refine Dat.arrAt_eq_of_covers _ 33 _ hcov (fun t hf y => ?_)
  have hj : ((cfg4 a).win 33).arr.view.emb (ix3 (n0 := 512) (n1 := 32) (n2 := 1) ⟨t.val, t.isLt⟩ (y (1 : Fin 3)) (y (2 : Fin 3))) = (((cfg4 a).win 33).blk t).view.emb y := by
    refine (blk_emb_eq 33 t rfl y _ fun b => ?_).symm
    show _ = cc4_transform_33 (grid4.coords t) b * _ + _
    rw [outIndex4 t]
    have h0 : (y (0 : Fin 3)).val < 1 := (y (0 : Fin 3)).isLt
    fin_cases b
    · show t.val = t.val * 1 + (y (0 : Fin 3)).val; omega
    · show (y (1 : Fin 3)).val = 0 * 32 + (y (1 : Fin 3)).val; omega
    · show (y (2 : Fin 3)).val = 0 * 1 + (y (2 : Fin 3)).val; omega
  rw [← hj, Region.after_out _ _ _ 33 rfl]
  have hy : y = (ix3 (n0 := 1) (n1 := 32) (n2 := 1) 0 (y (1 : Fin 3)) 0 : S1x32x1.Idx) := by
    funext b
    refine Fin.ext ?_
    have h0 : (y (0 : Fin 3)).val < 1 := (y (0 : Fin 3)).isLt
    have h2 : (y (2 : Fin 3)).val < 1 := (y (2 : Fin 3)).isLt
    fin_cases b
    · show (y (0 : Fin 3)).val = 0; omega
    · rfl
    · show (y (2 : Fin 3)).val = 0; omega
  have hu : out4 a c (arrs4 a c V) 33 = fun t => Dist.sums (rows4 a c (arrs4 a c V) t) (Region.held (cfg4 a) c (arrs4 a c V) 32 t) :=
    Function.update_self ..
  rw [hu]
  exact congrArg (Dist.sums (rows4 a c (arrs4 a c V) t) (Region.held (cfg4 a) c (arrs4 a c V) 32 t)) hy

/-- The call's output at a place: the gap between the table's row the place names and the train row of its side and column. -/
theorem call4_apply (Φ) (s : Fin 2) (g k : Fin 16) (r : Fin 32) (w : Fin 30000)
    (hw : ((a.1 0 : S16384.Idx → BitVec 32) (ix1 (Host.place s g k r))).toNat = w.val) :
    ((Region.dat (cfg4 a) c (arrs4 a c V) (out4 a c (arrs4 a c V)) Φ).arrAt 33 (cfg4 a).N : S512x32x1.Idx → EReal) (ix3 (point s g k) r 0)
      = gap (fun d => (V (Proc.devRef .tc main_v67) : S30000x1x300.Idx → EReal) (ix3 w 0 d))
          (fun d => (V (Proc.devRef .tc main_v17) : S2x512x300.Idx → EReal) (ix3 s (Host.column g r) d)) := by
  refine (congrFun (array4 a c V Φ) _).trans ((sums_apply _ _ r).trans ?_)
  refine congrArg₂ gap (funext fun d => ?_) (funext fun d => ?_)
  · refine rows4_apply a c V _ r d w (Host.place s g k r) ?_ hw
    show ((s.val * 16 + g.val) * 16 + k.val) * 32 + r.val = 32 * ((s.val * 16 + g.val) * 16 + k.val) + r.val
    omega
  · exact side4_apply a c V _ s g k rfl r d

variable (m : (ℓ : Loc nD τ sig) → Buf (Elt Ideal) ℓ) (h : Rows m)

/-- The output of call 4 when it is left: the gap between the row of the table that the batch names and the train row. -/
theorem W10_apply (s : Fin 2) (g k : Fin 16) (r : Fin 32) :
    (W10 m h 0 (Proc.devRef .tc main_v68) : S512x32x1.Idx → EReal) (ix3 (point s g k) r 0)
      = gap (fun d => (V0 m 0 (Proc.devRef .tc main_arg3) : S30000x300.Idx → EReal)
            (ix2 (named ((V0 m 0 (Proc.devRef .tc main_arg7) : S12x16x512.Idx → BitVec 32) (ix3 (if s = 0 then 5 else 6) k (Host.column g r)))) d))
          (fun d => (W9 m h 0 (Proc.devRef .tc main_v17) : S2x512x300.Idx → EReal) (ix3 s (Host.column g r) d)) := by
  have hout : W10 m h 0 (Proc.devRef .tc main_v68) = (dat4 m h 0).arrAt 33 (cfg4 (F := Ideal) ⟨tab4 m, tab4_ok m h⟩).N :=
    Dat.withArrays_arrAt (dat4 m h 0) sharedIn4 (W9 m h 0) (fun _ => rfl) 33
  have hids : (tab4 m 0 : S16384.Idx → BitVec 32) (ix1 (Host.place s g k r))
      = (V0 m 0 (Proc.devRef .tc main_arg7) : S12x16x512.Idx → BitVec 32) (ix3 (if s = 0 then 5 else 6) k (Host.column g r)) :=
    (congrFun (flat_4 (V0 m 0)) _).trans (Host.flat_apply 5 6 _ s g k r)
  have htab : W9 m h 0 (Proc.devRef .tc main_v67) = Host.table (V0 m 0 (Proc.devRef .tc main_arg3)) :=
    (table_4 (W8 m h 0)).trans (congrArg Host.table (W8_of m h 0 main_arg3 (by decide)))
  refine (congrFun hout _).trans ((call4_apply ⟨tab4 m, tab4_ok m h⟩ 0 (W9 m h 0) _ s g k r _
    ((congrArg BitVec.toNat hids).trans (named_val _ (h.2 _)))).trans ?_)
  refine congrArg₂ gap (funext fun d => ?_) rfl
  rw [htab]
  exact Host.table_apply _ _ d

/-- Call 4 leaves the train rows it reads as they were. -/
theorem W10_side (c : Dev nD) : W10 m h c (Proc.devRef .tc main_v17) = W9 m h c (Proc.devRef .tc main_v17) :=
  (Dat.withArrays_arrAt (dat4 m h c) sharedIn4 (W9 m h c) (fun _ => rfl) 32).trans ((dat4 m h c).arrAt_in 32 rfl _)

end Cert.Proof.Value
-- ==== Proof.Value.Call5.lean ====
/-
  Distance call 5 over extended reals: what its blocks hold at a grid point, and what its output array ends as.
-/
module

public import proofs.«01_k».proof.Proof.Value.Held
public import proofs.«01_k».proof.Proof.Value.Body
public import proofs.«01_k».proof.Proof.Value.Join
public import proofs.«01_k».proof.Proof.Ideal.Vals
public import Idealize.ShloMosaic.Lib.Pipeline.Covers

@[expose] public section

set_option maxRecDepth 10000
set_option maxHeartbeats 4000000

noncomputable section

namespace Cert.Proof.Value

open Idealize.ShloMosaic Idealize.ShloMosaic.TcCoe
open Idealize.SL Idealize.SL.RA Idealize.SL.BI
open Idealize.ShloMosaic.Rounds Idealize.ShloMosaic.Pipeline
open Cert.Proof Cert.KernelIdeal.Gen Cert.KernelIdeal.Run
open Cert.KernelIdeal hiding ix0 ix1 ix2 ix3 ix4 ix5 ix6

variable (a : (pcfg5 (F := Ideal)).Adm) (c : Dev nD) (V : Valuation τ sig (Elt Ideal))

/-- The arrays of the call in a valuation. -/
abbrev arrs5 : (w : Fin (cfg5 a).W) → Buf (Elt Ideal) (((cfg5 a).win w).arr.view.loc (c.tc : Thread nD τ)) :=
  fun w => V (Proc.devRef .tc (arrRef (cfg5 a).spec w))

/-- The table's entry read at a point for block `r`. -/
theorem entry5 (pf : pre5.Contents (Elt Ideal)) (i : grid5.Coords) (r : Fin 32) (n : Fin 16384) (hn : n.val = 32 * (i 0).val + r.val) :
    pf.at 0 (Rect.unit (s := S16384) (k5_off1 i (BitVec.ofNat 32 r.val)) S1.size (k5_off1_inb i r)) numel1_S1
      = (pf 0 : S16384.Idx → BitVec 32) (ix1 n) := by
  refine congrArg (pf 0 : S16384.Idx → BitVec 32) (funext fun b => Fin.ext ?_)
  fin_cases b
  refine (Rect.emb_apply _ _ _).trans ?_
  show k5_off1 i (BitVec.ofNat 32 r.val) 0 + 1 * 0 = n.val
  rw [k5_off1_eq, hn]
  rfl

/-- A one-row block at a point, entry by entry: the table's row that the table of places names. -/
theorem rows5_apply (t : Fin (cfg5 a).N) (r : Fin 32) (d : Fin 128) (w : Fin 30000) (n : Fin 16384) (hn : n.val = 32 * t.val + r.val)
    (hw : ((a.1 0 : S16384.Idx → BitVec 32) (ix1 n)).toNat = w.val) :
    rows5 a c (arrs5 a c V) t r (ix3 0 0 d) = (V (Proc.devRef .tc main_v79) : S30000x1x128.Idx → EReal) (ix3 w 0 d) := by
  have ht : ((grid5.coords t) 0).val = t.val := by
    refine (Grid.coords_val (G := grid5) t 0 (S := 1) (B := 512) (by decide) rfl).trans ?_
    have : t.val < 512 := t.isLt
    omega
  have he : (a.1.at 0 (Rect.unit (s := S16384) (k5_off1 (grid5.coords t) (BitVec.ofNat 32 r.val)) S1.size (k5_off1_inb _ r)) numel1_S1).toNat = w.val := by
    rw [entry5 a.1 _ r n (by rw [ht]; exact hn)]
    exact hw
  have hc : ∀ x : ℕ, x = w.val → ∀ b : Fin 3, ((ix3 w (0 : Fin 1) d : S30000x1x128.Idx) b).val = (![x, 0, 0] : Fin 3 → ℕ) b * (![1, 1, 128] : Fin 3 → ℕ) b + ((ix3 (0 : Fin 1) (0 : Fin 1) d : S1x1x128.Idx) b).val := by
    intro x hx b
    fin_cases b
    · show w.val = x * 1 + 0; omega
    · rfl
    · show d.val = 0 * 128 + d.val; omega
  clear hn
  fin_cases r
  all_goals
    simp only [rows5, Fin.mk_zero, Fin.mk_one, Fin.reduceFinMk, Fin.isValue, Matrix.cons_val]
    refine held_eq (arrs5 a c V) _ t (fun _ => rfl) rfl _ _ ?_
    exact hc _ he

/-- The block of train rows a point reads. -/
theorem index5 : ∀ t : Fin grid5.N, cc5_transform_32 (grid5.coords t) = ![t.val / 256, t.val % 256 / 16, 0] := by
  decide +kernel

/-- The block of the output a point writes. -/
theorem outIndex5 : ∀ t : Fin grid5.N, cc5_transform_33 (grid5.coords t) = ![t.val, 0, 0] := by
  decide +kernel

/-- The block of train rows at a point, entry by entry. -/
theorem side5_apply (t : Fin (cfg5 a).N) (s : Fin 2) (g k : Fin 16) (ht : t.val = (point s g k).val) (r : Fin 32) (d : Fin 128) :
    Region.held (cfg5 a) c (arrs5 a c V) 32 t (ix3 (n0 := 1) (n1 := 32) (n2 := 128) 0 r d)
      = (V (Proc.devRef .tc main_v20) : S2x512x128.Idx → EReal) (ix3 s (Host.column g r) d) := by
  have hp : t.val = (s.val * 16 + g.val) * 16 + k.val := ht
  have h1 : t.val / 256 = s.val := by omega
  have h2 : t.val % 256 / 16 = g.val := by omega
  refine held_eq (arrs5 a c V) 32 t (fun _ => rfl) rfl _ _ ?_
  intro b
  show _ = cc5_transform_32 (grid5.coords t) b * _ + _
  rw [index5 t, h1, h2]
  fin_cases b
  · show s.val = s.val * 1 + 0; omega
  · show g.val * 32 + r.val = g.val * 32 + r.val; rfl
  · show d.val = 0 * 128 + d.val; omega

/-- The call's output array: every point's row sums at the point's place. -/
theorem array5 (Φ) : (Region.dat (cfg5 a) c (arrs5 a c V) (out5 a c (arrs5 a c V)) Φ).arrAt 33 (cfg5 a).N
    = ((fun j => Dist.sums (rows5 a c (arrs5 a c V) ⟨(j 0).val, (j 0).isLt⟩)
        (Region.held (cfg5 a) c (arrs5 a c V) 32 ⟨(j 0).val, (j 0).isLt⟩) (ix3 0 (j 1) 0)) : S512x32x1.Idx → EReal) := by
  have hcov : ((cfg5 a).win 33).Covers := by
    refine Window.covers_of_index_surj (w := (cfg5 a).win 33) rfl (by decide : ∀ b : Fin 3, 0 < (![1, 32, 1] : Fin 3 → ℕ) b) ?_
    intro β
    have h0 : (β (0 : Fin 3)).val < 512 := lt_of_lt_of_eq (β (0 : Fin 3)).isLt (show (512 + 1 - 1) / 1 = 512 from rfl)
    have h1 : (β (1 : Fin 3)).val < 1 := lt_of_lt_of_eq (β (1 : Fin 3)).isLt (show (32 + 32 - 1) / 32 = 1 from rfl)
    have h2 : (β (2 : Fin 3)).val < 1 := lt_of_lt_of_eq (β (2 : Fin 3)).isLt (show (1 + 1 - 1) / 1 = 1 from rfl)
    refine ⟨⟨(β (0 : Fin 3)).val, h0⟩, fun b => ?_⟩
    show cc5_transform_33 (grid5.coords ⟨(β (0 : Fin 3)).val, h0⟩) b = _
    rw [outIndex5]
    fin_cases b
    · rfl
    · show 0 = (β (1 : Fin 3)).val; omega
    · show 0 = (β (2 : Fin 3)).val; omega
  refine Dat.arrAt_eq_of_covers _ 33 _ hcov (fun t hf y => ?_)
  have hj : ((cfg5 a).win 33).arr.view.emb (ix3 (n0 := 512) (n1 := 32) (n2 := 1) ⟨t.val, t.isLt⟩ (y (1 : Fin 3)) (y (2 : Fin 3))) = (((cfg5 a).win 33).blk t).view.emb y := by
    refine (blk_emb_eq 33 t rfl y _ fun b => ?_).symm
    show _ = cc5_transform_33 (grid5.coords t) b * _ + _
    rw [outIndex5 t]
    have h0 : (y (0 : Fin 3)).val < 1 := (y (0 : Fin 3)).isLt
    fin_cases b
    · show t.val = t.val * 1 + (y (0 : Fin 3)).val; omega
    · show (y (1 : Fin 3)).val = 0 * 32 + (y (1 : Fin 3)).val; omega
    · show (y (2 : Fin 3)).val = 0 * 1 + (y (2 : Fin 3)).val; omega
  rw [← hj, Region.after_out _ _ _ 33 rfl]
  have hy : y = (ix3 (n0 := 1) (n1 := 32) (n2 := 1) 0 (y (1 : Fin 3)) 0 : S1x32x1.Idx) := by
    funext b
    refine Fin.ext ?_
    have h0 : (y (0 : Fin 3)).val < 1 := (y (0 : Fin 3)).isLt
    have h2 : (y (2 : Fin 3)).val < 1 := (y (2 : Fin 3)).isLt
    fin_cases b
    · show (y (0 : Fin 3)).val = 0; omega
    · rfl
    · show (y (2 : Fin 3)).val = 0; omega
  have hu : out5 a c (arrs5 a c V) 33 = fun t => Dist.sums (rows5 a c (arrs5 a c V) t) (Region.held (cfg5 a) c (arrs5 a c V) 32 t) :=
    Function.update_self ..
  rw [hu]
  exact congrArg (Dist.sums (rows5 a c (arrs5 a c V) t) (Region.held (cfg5 a) c (arrs5 a c V) 32 t)) hy

/-- The call's output at a place: the gap between the table's row the place names and the train row of its side and column. -/
theorem call5_apply (Φ) (s : Fin 2) (g k : Fin 16) (r : Fin 32) (w : Fin 30000)
    (hw : ((a.1 0 : S16384.Idx → BitVec 32) (ix1 (Host.place s g k r))).toNat = w.val) :
    ((Region.dat (cfg5 a) c (arrs5 a c V) (out5 a c (arrs5 a c V)) Φ).arrAt 33 (cfg5 a).N : S512x32x1.Idx → EReal) (ix3 (point s g k) r 0)
      = gap (fun d => (V (Proc.devRef .tc main_v79) : S30000x1x128.Idx → EReal) (ix3 w 0 d))
          (fun d => (V (Proc.devRef .tc main_v20) : S2x512x128.Idx → EReal) (ix3 s (Host.column g r) d)) := by
  refine (congrFun (array5 a c V Φ) _).trans ((sums_apply _ _ r).trans ?_)
  refine congrArg₂ gap (funext fun d => ?_) (funext fun d => ?_)
  · refine rows5_apply a c V _ r d w (Host.place s g k r) ?_ hw
    show ((s.val * 16 + g.val) * 16 + k.val) * 32 + r.val = 32 * ((s.val * 16 + g.val) * 16 + k.val) + r.val
    omega
  · exact side5_apply a c V _ s g k rfl r d

variable (m : (ℓ : Loc nD τ sig) → Buf (Elt Ideal) ℓ) (h : Rows m)

/-- The output of call 5 when it is left: the gap between the row of the table that the batch names and the train row. -/
theorem W12_apply (s : Fin 2) (g k : Fin 16) (r : Fin 32) :
    (W12 m h 0 (Proc.devRef .tc main_v80) : S512x32x1.Idx → EReal) (ix3 (point s g k) r 0)
      = gap (fun d => (V0 m 0 (Proc.devRef .tc main_arg4) : S30000x128.Idx → EReal)
            (ix2 (named ((V0 m 0 (Proc.devRef .tc main_arg7) : S12x16x512.Idx → BitVec 32) (ix3 (if s = 0 then 8 else 11) k (Host.column g r)))) d))
          (fun d => (W11 m h 0 (Proc.devRef .tc main_v20) : S2x512x128.Idx → EReal) (ix3 s (Host.column g r) d)) := by
  have hout : W12 m h 0 (Proc.devRef .tc main_v80) = (dat5 m h 0).arrAt 33 (cfg5 (F := Ideal) ⟨tab5 m, tab5_ok m h⟩).N :=
    Dat.withArrays_arrAt (dat5 m h 0) sharedIn5 (W11 m h 0) (fun _ => rfl) 33
  have hids : (tab5 m 0 : S16384.Idx → BitVec 32) (ix1 (Host.place s g k r))
      = (V0 m 0 (Proc.devRef .tc main_arg7) : S12x16x512.Idx → BitVec 32) (ix3 (if s = 0 then 8 else 11) k (Host.column g r)) :=
    (congrFun (flat_5 (V0 m 0)) _).trans (Host.flat_apply 8 11 _ s g k r)
  have htab : W11 m h 0 (Proc.devRef .tc main_v79) = Host.table (V0 m 0 (Proc.devRef .tc main_arg4)) :=
    (table_5 (W10 m h 0)).trans (congrArg Host.table (W10_of m h 0 main_arg4 (by decide)))
  refine (congrFun hout _).trans ((call5_apply ⟨tab5 m, tab5_ok m h⟩ 0 (W11 m h 0) _ s g k r _
    ((congrArg BitVec.toNat hids).trans (named_val _ (h.2 _)))).trans ?_)
  refine congrArg₂ gap (funext fun d => ?_) rfl
  rw [htab]
  exact Host.table_apply _ _ d

/-- Call 5 leaves the train rows it reads as they were. -/
theorem W12_side (c : Dev nD) : W12 m h c (Proc.devRef .tc main_v20) = W11 m h c (Proc.devRef .tc main_v20) :=
  (Dat.withArrays_arrAt (dat5 m h c) sharedIn5 (W11 m h c) (fun _ => rfl) 32).trans ((dat5 m h c).arrAt_in 32 rfl _)

end Cert.Proof.Value
-- ==== Proof.Value.Call6.lean ====
/-
  Distance call 6 over extended reals: what its blocks hold at a grid point, and what its output array ends as.
-/
module

public import proofs.«01_k».proof.Proof.Value.Held
public import proofs.«01_k».proof.Proof.Value.Body
public import proofs.«01_k».proof.Proof.Value.Join
public import proofs.«01_k».proof.Proof.Ideal.Vals
public import Idealize.ShloMosaic.Lib.Pipeline.Covers

@[expose] public section

set_option maxRecDepth 10000
set_option maxHeartbeats 4000000

noncomputable section

namespace Cert.Proof.Value

open Idealize.ShloMosaic Idealize.ShloMosaic.TcCoe
open Idealize.SL Idealize.SL.RA Idealize.SL.BI
open Idealize.ShloMosaic.Rounds Idealize.ShloMosaic.Pipeline
open Cert.Proof Cert.KernelIdeal.Gen Cert.KernelIdeal.Run
open Cert.KernelIdeal hiding ix0 ix1 ix2 ix3 ix4 ix5 ix6

variable (a : (pcfg6 (F := Ideal)).Adm) (c : Dev nD) (V : Valuation τ sig (Elt Ideal))

/-- The arrays of the call in a valuation. -/
abbrev arrs6 : (w : Fin (cfg6 a).W) → Buf (Elt Ideal) (((cfg6 a).win w).arr.view.loc (c.tc : Thread nD τ)) :=
  fun w => V (Proc.devRef .tc (arrRef (cfg6 a).spec w))

/-- The table's entry read at a point for block `r`. -/
theorem entry6 (pf : pre6.Contents (Elt Ideal)) (i : grid6.Coords) (r : Fin 32) (n : Fin 16384) (hn : n.val = 32 * (i 0).val + r.val) :
    pf.at 0 (Rect.unit (s := S16384) (k6_off1 i (BitVec.ofNat 32 r.val)) S1.size (k6_off1_inb i r)) numel1_S1
      = (pf 0 : S16384.Idx → BitVec 32) (ix1 n) := by
  refine congrArg (pf 0 : S16384.Idx → BitVec 32) (funext fun b => Fin.ext ?_)
  fin_cases b
  refine (Rect.emb_apply _ _ _).trans ?_
  show k6_off1 i (BitVec.ofNat 32 r.val) 0 + 1 * 0 = n.val
  rw [k6_off1_eq, hn]
  rfl

/-- A one-row block at a point, entry by entry: the table's row that the table of places names. -/
theorem rows6_apply (t : Fin (cfg6 a).N) (r : Fin 32) (d : Fin 128) (w : Fin 30000) (n : Fin 16384) (hn : n.val = 32 * t.val + r.val)
    (hw : ((a.1 0 : S16384.Idx → BitVec 32) (ix1 n)).toNat = w.val) :
    rows6 a c (arrs6 a c V) t r (ix3 0 0 d) = (V (Proc.devRef .tc main_v91) : S30000x1x128.Idx → EReal) (ix3 w 0 d) := by
  have ht : ((grid6.coords t) 0).val = t.val := by
    refine (Grid.coords_val (G := grid6) t 0 (S := 1) (B := 512) (by decide) rfl).trans ?_
    have : t.val < 512 := t.isLt
    omega
  have he : (a.1.at 0 (Rect.unit (s := S16384) (k6_off1 (grid6.coords t) (BitVec.ofNat 32 r.val)) S1.size (k6_off1_inb _ r)) numel1_S1).toNat = w.val := by
    rw [entry6 a.1 _ r n (by rw [ht]; exact hn)]
    exact hw
  have hc : ∀ x : ℕ, x = w.val → ∀ b : Fin 3, ((ix3 w (0 : Fin 1) d : S30000x1x128.Idx) b).val = (![x, 0, 0] : Fin 3 → ℕ) b * (![1, 1, 128] : Fin 3 → ℕ) b + ((ix3 (0 : Fin 1) (0 : Fin 1) d : S1x1x128.Idx) b).val := by
    intro x hx b
    fin_cases b
    · show w.val = x * 1 + 0; omega
    · rfl
    · show d.val = 0 * 128 + d.val; omega
  clear hn
  fin_cases r
  all_goals
    simp only [rows6, Fin.mk_zero, Fin.mk_one, Fin.reduceFinMk, Fin.isValue, Matrix.cons_val]
    refine held_eq (arrs6 a c V) _ t (fun _ => rfl) rfl _ _ ?_
    exact hc _ he

/-- The block of train rows a point reads. -/
theorem index6 : ∀ t : Fin grid6.N, cc6_transform_32 (grid6.coords t) = ![t.val / 256, t.val % 256 / 16, 0] := by
  decide +kernel

/-- The block of the output a point writes. -/
theorem outIndex6 : ∀ t : Fin grid6.N, cc6_transform_33 (grid6.coords t) = ![t.val, 0, 0] := by
  decide +kernel

/-- The block of train rows at a point, entry by entry. -/
theorem side6_apply (t : Fin (cfg6 a).N) (s : Fin 2) (g k : Fin 16) (ht : t.val = (point s g k).val) (r : Fin 32) (d : Fin 128) :
    Region.held (cfg6 a) c (arrs6 a c V) 32 t (ix3 (n0 := 1) (n1 := 32) (n2 := 128) 0 r d)
      = (V (Proc.devRef .tc main_v20) : S2x512x128.Idx → EReal) (ix3 s (Host.column g r) d) := by
  have hp : t.val = (s.val * 16 + g.val) * 16 + k.val := ht
  have h1 : t.val / 256 = s.val := by omega
  have h2 : t.val % 256 / 16 = g.val := by omega
  refine held_eq (arrs6 a c V) 32 t (fun _ => rfl) rfl _ _ ?_
  intro b
  show _ = cc6_transform_32 (grid6.coords t) b * _ + _
  rw [index6 t, h1, h2]
  fin_cases b
  · show s.val = s.val * 1 + 0; omega
  · show g.val * 32 + r.val = g.val * 32 + r.val; rfl
  · show d.val = 0 * 128 + d.val; omega

/-- The call's output array: every point's row sums at the point's place. -/
theorem array6 (Φ) : (Region.dat (cfg6 a) c (arrs6 a c V) (out6 a c (arrs6 a c V)) Φ).arrAt 33 (cfg6 a).N
    = ((fun j => Dist.sums (rows6 a c (arrs6 a c V) ⟨(j 0).val, (j 0).isLt⟩)
        (Region.held (cfg6 a) c (arrs6 a c V) 32 ⟨(j 0).val, (j 0).isLt⟩) (ix3 0 (j 1) 0)) : S512x32x1.Idx → EReal) := by
  have hcov : ((cfg6 a).win 33).Covers := by
    refine Window.covers_of_index_surj (w := (cfg6 a).win 33) rfl (by decide : ∀ b : Fin 3, 0 < (![1, 32, 1] : Fin 3 → ℕ) b) ?_
    intro β
    have h0 : (β (0 : Fin 3)).val < 512 := lt_of_lt_of_eq (β (0 : Fin 3)).isLt (show (512 + 1 - 1) / 1 = 512 from rfl)
    have h1 : (β (1 : Fin 3)).val < 1 := lt_of_lt_of_eq (β (1 : Fin 3)).isLt (show (32 + 32 - 1) / 32 = 1 from rfl)
    have h2 : (β (2 : Fin 3)).val < 1 := lt_of_lt_of_eq (β (2 : Fin 3)).isLt (show (1 + 1 - 1) / 1 = 1 from rfl)
    refine ⟨⟨(β (0 : Fin 3)).val, h0⟩, fun b => ?_⟩
    show cc6_transform_33 (grid6.coords ⟨(β (0 : Fin 3)).val, h0⟩) b = _
    rw [outIndex6]
    fin_cases b
    · rfl
    · show 0 = (β (1 : Fin 3)).val; omega
    · show 0 = (β (2 : Fin 3)).val; omega
  refine Dat.arrAt_eq_of_covers _ 33 _ hcov (fun t hf y => ?_)
  have hj : ((cfg6 a).win 33).arr.view.emb (ix3 (n0 := 512) (n1 := 32) (n2 := 1) ⟨t.val, t.isLt⟩ (y (1 : Fin 3)) (y (2 : Fin 3))) = (((cfg6 a).win 33).blk t).view.emb y := by
    refine (blk_emb_eq 33 t rfl y _ fun b => ?_).symm
    show _ = cc6_transform_33 (grid6.coords t) b * _ + _
    rw [outIndex6 t]
    have h0 : (y (0 : Fin 3)).val < 1 := (y (0 : Fin 3)).isLt
    fin_cases b
    · show t.val = t.val * 1 + (y (0 : Fin 3)).val; omega
    · show (y (1 : Fin 3)).val = 0 * 32 + (y (1 : Fin 3)).val; omega
    · show (y (2 : Fin 3)).val = 0 * 1 + (y (2 : Fin 3)).val; omega
  rw [← hj, Region.after_out _ _ _ 33 rfl]
  have hy : y = (ix3 (n0 := 1) (n1 := 32) (n2 := 1) 0 (y (1 : Fin 3)) 0 : S1x32x1.Idx) := by
    funext b
    refine Fin.ext ?_
    have h0 : (y (0 : Fin 3)).val < 1 := (y (0 : Fin 3)).isLt
    have h2 : (y (2 : Fin 3)).val < 1 := (y (2 : Fin 3)).isLt
    fin_cases b
    · show (y (0 : Fin 3)).val = 0; omega
    · rfl
    · show (y (2 : Fin 3)).val = 0; omega
  have hu : out6 a c (arrs6 a c V) 33 = fun t => Dist.sums (rows6 a c (arrs6 a c V) t) (Region.held (cfg6 a) c (arrs6 a c V) 32 t) :=
    Function.update_self ..
  rw [hu]
  exact congrArg (Dist.sums (rows6 a c (arrs6 a c V) t) (Region.held (cfg6 a) c (arrs6 a c V) 32 t)) hy

/-- The call's output at a place: the gap between the table's row the place names and the train row of its side and column. -/
theorem call6_apply (Φ) (s : Fin 2) (g k : Fin 16) (r : Fin 32) (w : Fin 30000)
    (hw : ((a.1 0 : S16384.Idx → BitVec 32) (ix1 (Host.place s g k r))).toNat = w.val) :
    ((Region.dat (cfg6 a) c (arrs6 a c V) (out6 a c (arrs6 a c V)) Φ).arrAt 33 (cfg6 a).N : S512x32x1.Idx → EReal) (ix3 (point s g k) r 0)
      = gap (fun d => (V (Proc.devRef .tc main_v91) : S30000x1x128.Idx → EReal) (ix3 w 0 d))
          (fun d => (V (Proc.devRef .tc main_v20) : S2x512x128.Idx → EReal) (ix3 s (Host.column g r) d)) := by
  refine (congrFun (array6 a c V Φ) _).trans ((sums_apply _ _ r).trans ?_)
  refine congrArg₂ gap (funext fun d => ?_) (funext fun d => ?_)
  · refine rows6_apply a c V _ r d w (Host.place s g k r) ?_ hw
    show ((s.val * 16 + g.val) * 16 + k.val) * 32 + r.val = 32 * ((s.val * 16 + g.val) * 16 + k.val) + r.val
    omega
  · exact side6_apply a c V _ s g k rfl r d

variable (m : (ℓ : Loc nD τ sig) → Buf (Elt Ideal) ℓ) (h : Rows m)

/-- The output of call 6 when it is left: the gap between the row of the table that the batch names and the train row. -/
theorem W14_apply (s : Fin 2) (g k : Fin 16) (r : Fin 32) :
    (W14 m h 0 (Proc.devRef .tc main_v92) : S512x32x1.Idx → EReal) (ix3 (point s g k) r 0)
      = gap (fun d => (V0 m 0 (Proc.devRef .tc main_arg5) : S30000x128.Idx → EReal)
            (ix2 (named ((V0 m 0 (Proc.devRef .tc main_arg7) : S12x16x512.Idx → BitVec 32) (ix3 (if s = 0 then 9 else 10) k (Host.column g r)))) d))
          (fun d => (W13 m h 0 (Proc.devRef .tc main_v20) : S2x512x128.Idx → EReal) (ix3 s (Host.column g r) d)) := by
  have hout : W14 m h 0 (Proc.devRef .tc main_v92) = (dat6 m h 0).arrAt 33 (cfg6 (F := Ideal) ⟨tab6 m, tab6_ok m h⟩).N :=
    Dat.withArrays_arrAt (dat6 m h 0) sharedIn6 (W13 m h 0) (fun _ => rfl) 33
  have hids : (tab6 m 0 : S16384.Idx → BitVec 32) (ix1 (Host.place s g k r))
      = (V0 m 0 (Proc.devRef .tc main_arg7) : S12x16x512.Idx → BitVec 32) (ix3 (if s = 0 then 9 else 10) k (Host.column g r)) :=
    (congrFun (flat_6 (V0 m 0)) _).trans (Host.flat_apply 9 10 _ s g k r)
  have htab : W13 m h 0 (Proc.devRef .tc main_v91) = Host.table (V0 m 0 (Proc.devRef .tc main_arg5)) :=
    (table_6 (W12 m h 0)).trans (congrArg Host.table (W12_of m h 0 main_arg5 (by decide)))
  refine (congrFun hout _).trans ((call6_apply ⟨tab6 m, tab6_ok m h⟩ 0 (W13 m h 0) _ s g k r _
    ((congrArg BitVec.toNat hids).trans (named_val _ (h.2 _)))).trans ?_)
  refine congrArg₂ gap (funext fun d => ?_) rfl
  rw [htab]
  exact Host.table_apply _ _ d

/-- Call 6 leaves the train rows it reads as they were. -/
theorem W14_side (c : Dev nD) : W14 m h c (Proc.devRef .tc main_v20) = W13 m h c (Proc.devRef .tc main_v20) :=
  (Dat.withArrays_arrAt (dat6 m h c) sharedIn6 (W13 m h c) (fun _ => rfl) 32).trans ((dat6 m h c).arrAt_in 32 rfl _)

end Cert.Proof.Value
-- ==== Proof.Value.Call7.lean ====
/-
  The reduction call over extended reals: its one output is the loss of the arrays it is given.
-/
module

public import proofs.«01_k».proof.Proof.Value.Held
public import proofs.«01_k».proof.Proof.Value.Body
public import proofs.«01_k».proof.Proof.Value.Join
public import proofs.«01_k».proof.Proof.Ideal.Vals
public import Idealize.ShloMosaic.Lib.Pipeline.Covers

@[expose] public section

set_option maxRecDepth 10000
set_option maxHeartbeats 4000000

noncomputable section

namespace Cert.Proof.Value

open Idealize.ShloMosaic Idealize.ShloMosaic.TcCoe
open Idealize.SL Idealize.SL.RA Idealize.SL.BI
open Idealize.ShloMosaic.Rounds Idealize.ShloMosaic.Pipeline
open Cert.Proof Cert.KernelIdeal.Gen Cert.KernelIdeal.Run
open Cert.KernelIdeal hiding ix0 ix1 ix2 ix3 ix4 ix5 ix6

variable (c : Dev nD) (V : Valuation τ sig (Elt Ideal))

/-- The arrays of the call in a valuation. -/
abbrev arrs7 : (w : Fin cfg7.W) → Buf (Elt Ideal) ((cfg7.win w).arr.view.loc (c.tc : Thread nD τ)) :=
  fun w => V (Proc.devRef .tc (arrRef cfg7.spec w))

/-- The loss of the call's arrays. -/
def lossOf : S1x1.Idx → EReal :=
  Reduce.loss (F := Ideal) (A := 256) (B := 300) (C := 128) tenth (V (Proc.devRef .tc main_v96)) (V (Proc.devRef .tc main_v100)) (V (Proc.devRef .tc main_v104))
    (V (Proc.devRef .tc main_v11_0)) (V (Proc.devRef .tc main_v11_1)) (V (Proc.devRef .tc main_v11_2)) (V (Proc.devRef .tc main_v11_3))
    (V (Proc.devRef .tc main_v11_4)) (V (Proc.devRef .tc main_v11_5))

/-- An entry's place in a window that is its whole array. -/
theorem whole_place (x n : ℕ) : x = 0 * n + x := by omega

/-- What the call leaves in its output block is the loss of its arrays. -/
theorem out7_apply (t : Fin cfg7.N) (j : S1x1.Idx) : (out7 c (arrs7 c V) 9 t : S1x1.Idx → EReal) j = lossOf V j := by
  have hu : (out7 c (arrs7 c V) 9 t : S1x1.Idx → EReal) = Reduce.loss (F := Ideal) (Named.named κ "tenth" 0x3DCCCCCD#32)
    (Region.held cfg7 c (arrs7 c V) 0 t) (Region.held cfg7 c (arrs7 c V) 1 t) (Region.held cfg7 c (arrs7 c V) 2 t) (Region.held cfg7 c (arrs7 c V) 3 t) (Region.held cfg7 c (arrs7 c V) 4 t)
    (Region.held cfg7 c (arrs7 c V) 5 t) (Region.held cfg7 c (arrs7 c V) 6 t) (Region.held cfg7 c (arrs7 c V) 7 t) (Region.held cfg7 c (arrs7 c V) 8 t) := rfl
  have hten : (Named.named κ "tenth" 0x3DCCCCCD#32 : Ideal .f32) = tenth := rfl
  have e0 : (Region.held cfg7 c (arrs7 c V) 0 t : S256x128.Idx → EReal) = V (Proc.devRef .tc main_v96) :=
    funext fun y => held_eq (arrs7 c V) 0 t (fun _ => rfl) rfl y y fun a => whole_place _ _
  have e1 : (Region.held cfg7 c (arrs7 c V) 1 t : S256x128.Idx → EReal) = V (Proc.devRef .tc main_v100) :=
    funext fun y => held_eq (arrs7 c V) 1 t (fun _ => rfl) rfl y y fun a => whole_place _ _
  have e2 : (Region.held cfg7 c (arrs7 c V) 2 t : S256x128.Idx → EReal) = V (Proc.devRef .tc main_v104) :=
    funext fun y => held_eq (arrs7 c V) 2 t (fun _ => rfl) rfl y y fun a => whole_place _ _
  have e3 : (Region.held cfg7 c (arrs7 c V) 3 t : S512x256.Idx → EReal) = V (Proc.devRef .tc main_v11_0) :=
    funext fun y => held_eq (arrs7 c V) 3 t (fun _ => rfl) rfl y y fun a => whole_place _ _
  have e4 : (Region.held cfg7 c (arrs7 c V) 4 t : S512x256.Idx → EReal) = V (Proc.devRef .tc main_v11_1) :=
    funext fun y => held_eq (arrs7 c V) 4 t (fun _ => rfl) rfl y y fun a => whole_place _ _
  have e5 : (Region.held cfg7 c (arrs7 c V) 5 t : S512x300.Idx → EReal) = V (Proc.devRef .tc main_v11_2) :=
    funext fun y => held_eq (arrs7 c V) 5 t (fun _ => rfl) rfl y y fun a => whole_place _ _
  have e6 : (Region.held cfg7 c (arrs7 c V) 6 t : S512x300.Idx → EReal) = V (Proc.devRef .tc main_v11_3) :=
    funext fun y => held_eq (arrs7 c V) 6 t (fun _ => rfl) rfl y y fun a => whole_place _ _
  have e7 : (Region.held cfg7 c (arrs7 c V) 7 t : S512x128.Idx → EReal) = V (Proc.devRef .tc main_v11_4) :=
    funext fun y => held_eq (arrs7 c V) 7 t (fun _ => rfl) rfl y y fun a => whole_place _ _
  have e8 : (Region.held cfg7 c (arrs7 c V) 8 t : S512x128.Idx → EReal) = V (Proc.devRef .tc main_v11_5) :=
    funext fun y => held_eq (arrs7 c V) 8 t (fun _ => rfl) rfl y y fun a => whole_place _ _
  rw [hu, hten]
  unfold lossOf
  exact congrFun (by rw [e0, e1, e2, e3, e4, e5, e6, e7, e8]) j

/-- The call's output array. -/
theorem array7 (Φ) : (Region.dat cfg7 c (arrs7 c V) (out7 c (arrs7 c V)) Φ).arrAt 9 cfg7.N = lossOf V := by
  have hcov : (cfg7.win 9).Covers := by
    refine Window.covers_of_index_surj (w := cfg7.win 9) rfl (by decide : ∀ b : Fin 2, 0 < (![1, 1] : Fin 2 → ℕ) b) ?_
    intro β
    have h0 : (β (0 : Fin 2)).val < 1 := lt_of_lt_of_eq (β (0 : Fin 2)).isLt (show (1 + 1 - 1) / 1 = 1 from rfl)
    have h1 : (β (1 : Fin 2)).val < 1 := lt_of_lt_of_eq (β (1 : Fin 2)).isLt (show (1 + 1 - 1) / 1 = 1 from rfl)
    refine ⟨⟨0, Nat.one_pos⟩, fun b => ?_⟩
    fin_cases b
    · show 0 = (β (0 : Fin 2)).val; omega
    · show 0 = (β (1 : Fin 2)).val; omega
  refine Dat.arrAt_eq_of_covers _ 9 _ hcov (fun t hf y => ?_)
  have hj : (cfg7.win 9).arr.view.emb (ix2 (n0 := 1) (n1 := 1) (y (0 : Fin 2)) (y (1 : Fin 2))) = ((cfg7.win 9).blk t).view.emb y := by
    refine (blk_emb_eq 9 t rfl y _ fun b => ?_).symm
    fin_cases b
    · exact whole_place _ _
    · exact whole_place _ _
  rw [← hj, Region.after_out _ _ _ 9 rfl]
  refine (out7_apply c V t _).trans (congrArg (lossOf V) (funext fun b => ?_))
  fin_cases b <;> rfl

/-- The kernel's result is the loss of the arrays the reduction call is given. -/
theorem W17_apply (m : (ℓ : Loc nD τ sig) → Buf (Elt Ideal) ℓ) (h : Rows m) (j : S_.Idx) :
    (W17 m h 0 (Proc.devRef .tc main_v106) : S_.Idx → EReal) j = lossOf (W15 m h 0) (ix2 0 0) := by
  have hout : W16 m h 0 (Proc.devRef .tc main_v105) = (dat7 m h 0).arrAt 9 cfg7.N :=
    Dat.withArrays_arrAt (dat7 m h 0) (by decide) (W15 m h 0) (fun _ => rfl) 9
  refine (congrFun (result_of (W16 m h 0)) j).trans ((shapeCast_apply _ _ j (ix2 (n0 := 1) (n1 := 1) 0 0) ?_).trans ?_)
  · have h0 : (S1x1.rowMajor (ix2 (n0 := 1) (n1 := 1) 0 0)).val < 1 := lt_of_lt_of_eq (Fin.isLt _) (by decide)
    have h1 : (S_.rowMajor j).val < 1 := lt_of_lt_of_eq (Fin.isLt _) (by decide)
    exact (Nat.lt_one_iff.mp h0).trans (Nat.lt_one_iff.mp h1).symm
  · exact (congrFun hout _).trans (congrFun (array7 0 (W15 m h 0) _) _)

end Cert.Proof.Value
-- ==== Proof.Value.Kernel.lean ====
/-
  The kernel's result over extended reals, from the launch's arguments: the calls' arrays followed from call to call.
-/
module

public import proofs.«01_k».proof.Proof.Value.Spec
public import proofs.«01_k».proof.Proof.Value.Call0
public import proofs.«01_k».proof.Proof.Value.Call1
public import proofs.«01_k».proof.Proof.Value.Call2
public import proofs.«01_k».proof.Proof.Value.Call3
public import proofs.«01_k».proof.Proof.Value.Call4
public import proofs.«01_k».proof.Proof.Value.Call5
public import proofs.«01_k».proof.Proof.Value.Call6
public import proofs.«01_k».proof.Proof.Value.Call7

@[expose] public section

set_option maxRecDepth 10000
set_option maxHeartbeats 4000000

noncomputable section

namespace Cert.Proof.Value

open Idealize.ShloMosaic Idealize.ShloMosaic.TcCoe
open Idealize.SL Idealize.SL.RA Idealize.SL.BI
open Idealize.ShloMosaic.Rounds Idealize.ShloMosaic.Pipeline
open Cert.Proof Cert.KernelIdeal.Gen Cert.KernelIdeal.Run
open Cert.KernelIdeal hiding ix0 ix1 ix2 ix3 ix4 ix5 ix6

variable (m : (ℓ : Loc nD τ sig) → Buf (Elt Ideal) ℓ) (h : Rows m)

/-- The arguments at launch, as tables and index arrays. -/
abbrev a0 : Tab 256 := V0 m 0 (Proc.devRef .tc main_arg0)
abbrev a1 : Tab 256 := V0 m 0 (Proc.devRef .tc main_arg1)
abbrev a2 : Tab 300 := V0 m 0 (Proc.devRef .tc main_arg2)
abbrev a3 : Tab 300 := V0 m 0 (Proc.devRef .tc main_arg3)
abbrev a4 : Tab 128 := V0 m 0 (Proc.devRef .tc main_arg4)
abbrev a5 : Tab 128 := V0 m 0 (Proc.devRef .tc main_arg5)
abbrev a6 : Seeds := V0 m 0 (Proc.devRef .tc main_arg6)
abbrev a7 : Samples := V0 m 0 (Proc.devRef .tc main_arg7)

/-- Stretch 1 and call 1 pass over what neither writes. -/
theorem pass1 (r : Ref sig .tc) (h1 : r ∉ hostOps1_W) (h2 : ∀ w, arrRef spec1 w ≠ r) :
    W4 m h 0 (Proc.devRef .tc r) = W2 m h 0 (Proc.devRef .tc r) :=
  (call1_keeps m h 0 r h2).trans (host1_keeps m h 0 r h1)

/-- Stretch 2 and call 2 pass over what neither writes. -/
theorem pass2 (r : Ref sig .tc) (h1 : r ∉ hostOps2_W) (h2 : ∀ w, arrRef spec2 w ≠ r) :
    W6 m h 0 (Proc.devRef .tc r) = W4 m h 0 (Proc.devRef .tc r) :=
  (call2_keeps m h 0 r h2).trans (host2_keeps m h 0 r h1)

/-- Stretch 3 and call 3 pass over what neither writes. -/
theorem pass3 (r : Ref sig .tc) (h1 : r ∉ hostOps3_W) (h2 : ∀ w, arrRef spec3 w ≠ r) :
    W8 m h 0 (Proc.devRef .tc r) = W6 m h 0 (Proc.devRef .tc r) :=
  (call3_keeps m h 0 r h2).trans (host3_keeps m h 0 r h1)

/-- Stretch 4 and call 4 pass over what neither writes. -/
theorem pass4 (r : Ref sig .tc) (h1 : r ∉ hostOps4_W) (h2 : ∀ w, arrRef spec4 w ≠ r) :
    W10 m h 0 (Proc.devRef .tc r) = W8 m h 0 (Proc.devRef .tc r) :=
  (call4_keeps m h 0 r h2).trans (host4_keeps m h 0 r h1)

/-- Stretch 5 and call 5 pass over what neither writes. -/
theorem pass5 (r : Ref sig .tc) (h1 : r ∉ hostOps5_W) (h2 : ∀ w, arrRef spec5 w ≠ r) :
    W12 m h 0 (Proc.devRef .tc r) = W10 m h 0 (Proc.devRef .tc r) :=
  (call5_keeps m h 0 r h2).trans (host5_keeps m h 0 r h1)

/-- Stretch 6 and call 6 pass over what neither writes. -/
theorem pass6 (r : Ref sig .tc) (h1 : r ∉ hostOps6_W) (h2 : ∀ w, arrRef spec6 w ≠ r) :
    W14 m h 0 (Proc.devRef .tc r) = W12 m h 0 (Proc.devRef .tc r) :=
  (call6_keeps m h 0 r h2).trans (host6_keeps m h 0 r h1)

/-- The stacked train rows of group 0, entry by entry. -/
theorem stack14 (s : Fin 2) (l : Fin 512) (d : Fin 256) : (W3 m h 0 (Proc.devRef .tc main_v14) : S2x512x256.Idx → EReal) (ix3 s l d)
    = if s = 0 then a0 m (ix2 (named (a6 m (ix2 l 0))) d) else a1 m (ix2 (named (a6 m (ix2 l 1))) d) := by
  refine (congrFun (stack_0 (W2 m h 0)) _).trans ((Host.stack_apply _ _ s l d).trans ?_)
  exact if_congr Iff.rfl (W2_0_apply m h l d) (W2_1_apply m h l d)

/-- The stacked train rows of group 1, entry by entry. -/
theorem stack17 (s : Fin 2) (l : Fin 512) (d : Fin 300) : (W3 m h 0 (Proc.devRef .tc main_v17) : S2x512x300.Idx → EReal) (ix3 s l d)
    = if s = 0 then a2 m (ix2 (named (a6 m (ix2 l 0))) d) else a3 m (ix2 (named (a6 m (ix2 l 1))) d) := by
  refine (congrFun (stack_1 (W2 m h 0)) _).trans ((Host.stack_apply _ _ s l d).trans ?_)
  exact if_congr Iff.rfl (W2_2_apply m h l d) (W2_3_apply m h l d)

/-- The stacked train rows of group 2, entry by entry. -/
theorem stack20 (s : Fin 2) (l : Fin 512) (d : Fin 128) : (W3 m h 0 (Proc.devRef .tc main_v20) : S2x512x128.Idx → EReal) (ix3 s l d)
    = if s = 0 then a4 m (ix2 (named (a6 m (ix2 l 0))) d) else a5 m (ix2 (named (a6 m (ix2 l 1))) d) := by
  refine (congrFun (stack_2 (W2 m h 0)) _).trans ((Host.stack_apply _ _ s l d).trans ?_)
  exact if_congr Iff.rfl (W2_4_apply m h l d) (W2_5_apply m h l d)

/-- The train rows call 1 reads are those stacked before the first. -/
theorem rows_at1 : W3 m h 0 (Proc.devRef .tc main_v14) = W3 m h 0 (Proc.devRef .tc main_v14) :=
  rfl

/-- Call 1's distances are its two batches' gaps. -/
theorem dist1 (s : Fin 2) (g k : Fin 16) (r : Fin 32) : (W4 m h 0 (Proc.devRef .tc main_v32) : Host.Column.Idx → EReal) (ix3 (point s g k) r 0)
    = (fun s : Fin 2 => if s = 0 then samples (a0 m) (a0 m) (a6 m) (a7 m) 0 0 else samples (a1 m) (a0 m) (a6 m) (a7 m) 1 3) s k (Host.column g r) :=
  samples_of (a0 m) (a1 m) (a0 m) (a6 m) (a7 m) 0 3 s k (Host.column g r) _ _ (W4_apply m h s g k r)
    fun d => (congrFun (rows_at1 m h) _).trans (stack14 m h s (Host.column g r) d)

/-- The train rows call 2 reads are those stacked before the first. -/
theorem rows_at2 : W5 m h 0 (Proc.devRef .tc main_v14) = W3 m h 0 (Proc.devRef .tc main_v14) :=
  (host2_keeps m h 0 main_v14 (by decide)).trans (W4_side m h 0)

/-- Call 2's distances are its two batches' gaps. -/
theorem dist2 (s : Fin 2) (g k : Fin 16) (r : Fin 32) : (W6 m h 0 (Proc.devRef .tc main_v44) : Host.Column.Idx → EReal) (ix3 (point s g k) r 0)
    = (fun s : Fin 2 => if s = 0 then samples (a0 m) (a1 m) (a6 m) (a7 m) 0 1 else samples (a1 m) (a1 m) (a6 m) (a7 m) 1 2) s k (Host.column g r) :=
  samples_of (a0 m) (a1 m) (a1 m) (a6 m) (a7 m) 1 2 s k (Host.column g r) _ _ (W6_apply m h s g k r)
    fun d => (congrFun (rows_at2 m h) _).trans (stack14 m h s (Host.column g r) d)

/-- The train rows call 3 reads are those stacked before the first. -/
theorem rows_at3 : W7 m h 0 (Proc.devRef .tc main_v17) = W3 m h 0 (Proc.devRef .tc main_v17) :=
  (host3_keeps m h 0 main_v17 (by decide)).trans ((pass2 m h main_v17 (by decide) (by decide)).trans (call1_keeps m h 0 main_v17 (by decide)))

/-- Call 3's distances are its two batches' gaps. -/
theorem dist3 (s : Fin 2) (g k : Fin 16) (r : Fin 32) : (W8 m h 0 (Proc.devRef .tc main_v56) : Host.Column.Idx → EReal) (ix3 (point s g k) r 0)
    = (fun s : Fin 2 => if s = 0 then samples (a2 m) (a2 m) (a6 m) (a7 m) 0 4 else samples (a3 m) (a2 m) (a6 m) (a7 m) 1 7) s k (Host.column g r) :=
  samples_of (a2 m) (a3 m) (a2 m) (a6 m) (a7 m) 4 7 s k (Host.column g r) _ _ (W8_apply m h s g k r)
    fun d => (congrFun (rows_at3 m h) _).trans (stack17 m h s (Host.column g r) d)

/-- The train rows call 4 reads are those stacked before the first. -/
theorem rows_at4 : W9 m h 0 (Proc.devRef .tc main_v17) = W3 m h 0 (Proc.devRef .tc main_v17) :=
  (host4_keeps m h 0 main_v17 (by decide)).trans ((W8_side m h 0).trans (rows_at3 m h))

/-- Call 4's distances are its two batches' gaps. -/
theorem dist4 (s : Fin 2) (g k : Fin 16) (r : Fin 32) : (W10 m h 0 (Proc.devRef .tc main_v68) : Host.Column.Idx → EReal) (ix3 (point s g k) r 0)
    = (fun s : Fin 2 => if s = 0 then samples (a2 m) (a3 m) (a6 m) (a7 m) 0 5 else samples (a3 m) (a3 m) (a6 m) (a7 m) 1 6) s k (Host.column g r) :=
  samples_of (a2 m) (a3 m) (a3 m) (a6 m) (a7 m) 5 6 s k (Host.column g r) _ _ (W10_apply m h s g k r)
    fun d => (congrFun (rows_at4 m h) _).trans (stack17 m h s (Host.column g r) d)

/-- The train rows call 5 reads are those stacked before the first. -/
theorem rows_at5 : W11 m h 0 (Proc.devRef .tc main_v20) = W3 m h 0 (Proc.devRef .tc main_v20) :=
  (host5_keeps m h 0 main_v20 (by decide)).trans ((pass4 m h main_v20 (by decide) (by decide)).trans ((pass3 m h main_v20 (by decide) (by decide)).trans ((pass2 m h main_v20 (by decide) (by decide)).trans (call1_keeps m h 0 main_v20 (by decide)))))

/-- Call 5's distances are its two batches' gaps. -/
theorem dist5 (s : Fin 2) (g k : Fin 16) (r : Fin 32) : (W12 m h 0 (Proc.devRef .tc main_v80) : Host.Column.Idx → EReal) (ix3 (point s g k) r 0)
    = (fun s : Fin 2 => if s = 0 then samples (a4 m) (a4 m) (a6 m) (a7 m) 0 8 else samples (a5 m) (a4 m) (a6 m) (a7 m) 1 11) s k (Host.column g r) :=
  samples_of (a4 m) (a5 m) (a4 m) (a6 m) (a7 m) 8 11 s k (Host.column g r) _ _ (W12_apply m h s g k r)
    fun d => (congrFun (rows_at5 m h) _).trans (stack20 m h s (Host.column g r) d)

/-- The train rows call 6 reads are those stacked before the first. -/
theorem rows_at6 : W13 m h 0 (Proc.devRef .tc main_v20) = W3 m h 0 (Proc.devRef .tc main_v20) :=
  (host6_keeps m h 0 main_v20 (by decide)).trans ((W12_side m h 0).trans (rows_at5 m h))

/-- Call 6's distances are its two batches' gaps. -/
theorem dist6 (s : Fin 2) (g k : Fin 16) (r : Fin 32) : (W14 m h 0 (Proc.devRef .tc main_v92) : Host.Column.Idx → EReal) (ix3 (point s g k) r 0)
    = (fun s : Fin 2 => if s = 0 then samples (a4 m) (a5 m) (a6 m) (a7 m) 0 9 else samples (a5 m) (a5 m) (a6 m) (a7 m) 1 10) s k (Host.column g r) :=
  samples_of (a4 m) (a5 m) (a5 m) (a6 m) (a7 m) 9 10 s k (Host.column g r) _ _ (W14_apply m h s g k r)
    fun d => (congrFun (rows_at6 m h) _).trans (stack20 m h s (Host.column g r) d)

/-- Call 1's distances are untouched until the last stretch. -/
theorem last1 : W14 m h 0 (Proc.devRef .tc main_v32) = W4 m h 0 (Proc.devRef .tc main_v32) :=
  (pass6 m h main_v32 (by decide) (by decide)).trans ((pass5 m h main_v32 (by decide) (by decide)).trans ((pass4 m h main_v32 (by decide) (by decide)).trans ((pass3 m h main_v32 (by decide) (by decide)).trans ((pass2 m h main_v32 (by decide) (by decide))))))

/-- Call 2's distances are untouched until the last stretch. -/
theorem last2 : W14 m h 0 (Proc.devRef .tc main_v44) = W6 m h 0 (Proc.devRef .tc main_v44) :=
  (pass6 m h main_v44 (by decide) (by decide)).trans ((pass5 m h main_v44 (by decide) (by decide)).trans ((pass4 m h main_v44 (by decide) (by decide)).trans ((pass3 m h main_v44 (by decide) (by decide)))))

/-- Call 3's distances are untouched until the last stretch. -/
theorem last3 : W14 m h 0 (Proc.devRef .tc main_v56) = W8 m h 0 (Proc.devRef .tc main_v56) :=
  (pass6 m h main_v56 (by decide) (by decide)).trans ((pass5 m h main_v56 (by decide) (by decide)).trans ((pass4 m h main_v56 (by decide) (by decide))))

/-- Call 4's distances are untouched until the last stretch. -/
theorem last4 : W14 m h 0 (Proc.devRef .tc main_v68) = W10 m h 0 (Proc.devRef .tc main_v68) :=
  (pass6 m h main_v68 (by decide) (by decide)).trans ((pass5 m h main_v68 (by decide) (by decide)))

/-- Call 5's distances are untouched until the last stretch. -/
theorem last5 : W14 m h 0 (Proc.devRef .tc main_v80) = W12 m h 0 (Proc.devRef .tc main_v80) :=
  (pass6 m h main_v80 (by decide) (by decide))

/-- Call 6's distances are untouched until the last stretch. -/
theorem last6 : W14 m h 0 (Proc.devRef .tc main_v92) = W14 m h 0 (Proc.devRef .tc main_v92) :=
  rfl

/-- The train rows of table 0 at the reduction call. -/
theorem train0 (l : Fin 512) : (fun d => (W15 m h 0 (Proc.devRef .tc main_v11_0) : S512x256.Idx → EReal) (ix2 l d)) = trainRow (a0 m) (a6 m) 0 l :=
  funext fun d => (congrFun ((host7_keeps m h 0 main_v11_0 (by decide)).trans ((pass6 m h main_v11_0 (by decide) (by decide)).trans ((pass5 m h main_v11_0 (by decide) (by decide)).trans ((pass4 m h main_v11_0 (by decide) (by decide)).trans ((pass3 m h main_v11_0 (by decide) (by decide)).trans ((pass2 m h main_v11_0 (by decide) (by decide)).trans ((pass1 m h main_v11_0 (by decide) (by decide))))))))) _).trans (W2_0_apply m h l d)

/-- The train rows of table 1 at the reduction call. -/
theorem train1 (l : Fin 512) : (fun d => (W15 m h 0 (Proc.devRef .tc main_v11_1) : S512x256.Idx → EReal) (ix2 l d)) = trainRow (a1 m) (a6 m) 1 l :=
  funext fun d => (congrFun ((host7_keeps m h 0 main_v11_1 (by decide)).trans ((pass6 m h main_v11_1 (by decide) (by decide)).trans ((pass5 m h main_v11_1 (by decide) (by decide)).trans ((pass4 m h main_v11_1 (by decide) (by decide)).trans ((pass3 m h main_v11_1 (by decide) (by decide)).trans ((pass2 m h main_v11_1 (by decide) (by decide)).trans ((pass1 m h main_v11_1 (by decide) (by decide))))))))) _).trans (W2_1_apply m h l d)

/-- The train rows of table 2 at the reduction call. -/
theorem train2 (l : Fin 512) : (fun d => (W15 m h 0 (Proc.devRef .tc main_v11_2) : S512x300.Idx → EReal) (ix2 l d)) = trainRow (a2 m) (a6 m) 0 l :=
  funext fun d => (congrFun ((host7_keeps m h 0 main_v11_2 (by decide)).trans ((pass6 m h main_v11_2 (by decide) (by decide)).trans ((pass5 m h main_v11_2 (by decide) (by decide)).trans ((pass4 m h main_v11_2 (by decide) (by decide)).trans ((pass3 m h main_v11_2 (by decide) (by decide)).trans ((pass2 m h main_v11_2 (by decide) (by decide)).trans ((pass1 m h main_v11_2 (by decide) (by decide))))))))) _).trans (W2_2_apply m h l d)

/-- The train rows of table 3 at the reduction call. -/
theorem train3 (l : Fin 512) : (fun d => (W15 m h 0 (Proc.devRef .tc main_v11_3) : S512x300.Idx → EReal) (ix2 l d)) = trainRow (a3 m) (a6 m) 1 l :=
  funext fun d => (congrFun ((host7_keeps m h 0 main_v11_3 (by decide)).trans ((pass6 m h main_v11_3 (by decide) (by decide)).trans ((pass5 m h main_v11_3 (by decide) (by decide)).trans ((pass4 m h main_v11_3 (by decide) (by decide)).trans ((pass3 m h main_v11_3 (by decide) (by decide)).trans ((pass2 m h main_v11_3 (by decide) (by decide)).trans ((pass1 m h main_v11_3 (by decide) (by decide))))))))) _).trans (W2_3_apply m h l d)

/-- The train rows of table 4 at the reduction call. -/
theorem train4 (l : Fin 512) : (fun d => (W15 m h 0 (Proc.devRef .tc main_v11_4) : S512x128.Idx → EReal) (ix2 l d)) = trainRow (a4 m) (a6 m) 0 l :=
  funext fun d => (congrFun ((host7_keeps m h 0 main_v11_4 (by decide)).trans ((pass6 m h main_v11_4 (by decide) (by decide)).trans ((pass5 m h main_v11_4 (by decide) (by decide)).trans ((pass4 m h main_v11_4 (by decide) (by decide)).trans ((pass3 m h main_v11_4 (by decide) (by decide)).trans ((pass2 m h main_v11_4 (by decide) (by decide)).trans ((pass1 m h main_v11_4 (by decide) (by decide))))))))) _).trans (W2_4_apply m h l d)

/-- The train rows of table 5 at the reduction call. -/
theorem train5 (l : Fin 512) : (fun d => (W15 m h 0 (Proc.devRef .tc main_v11_5) : S512x128.Idx → EReal) (ix2 l d)) = trainRow (a5 m) (a6 m) 1 l :=
  funext fun d => (congrFun ((host7_keeps m h 0 main_v11_5 (by decide)).trans ((pass6 m h main_v11_5 (by decide) (by decide)).trans ((pass5 m h main_v11_5 (by decide) (by decide)).trans ((pass4 m h main_v11_5 (by decide) (by decide)).trans ((pass3 m h main_v11_5 (by decide) (by decide)).trans ((pass2 m h main_v11_5 (by decide) (by decide)).trans ((pass1 m h main_v11_5 (by decide) (by decide))))))))) _).trans (W2_5_apply m h l d)

/-- Group 0's hinges are its four batches' shares. -/
theorem group0 : (∑ a : Fin 512, ∑ j : Reduce.Dists.Idx, hinge (Ideal.ofBits .f32 0x40400000#32)
      (gap (fun e : Fin 256 => (W15 m h 0 (Proc.devRef .tc main_v11_0) : S512x256.Idx → EReal) (ix2 a e)) (fun e => (W15 m h 0 (Proc.devRef .tc main_v11_1) : S512x256.Idx → EReal) (ix2 a e)))
      ((W15 m h 0 (Proc.devRef .tc main_v96) : Reduce.Dists.Idx → EReal) j))
    = (share (Ideal.ofBits .f32 0x40400000#32) (pairs (a0 m) (a1 m) (a6 m)) (samples (a0 m) (a0 m) (a6 m) (a7 m) 0 0) + share (Ideal.ofBits .f32 0x40400000#32) (pairs (a0 m) (a1 m) (a6 m)) (samples (a1 m) (a0 m) (a6 m) (a7 m) 1 3))
      + (share (Ideal.ofBits .f32 0x40400000#32) (pairs (a0 m) (a1 m) (a6 m)) (samples (a0 m) (a1 m) (a6 m) (a7 m) 0 1) + share (Ideal.ofBits .f32 0x40400000#32) (pairs (a0 m) (a1 m) (a6 m)) (samples (a1 m) (a1 m) (a6 m) (a7 m) 1 2)) := by
  have hj : (W15 m h 0 (Proc.devRef .tc main_v96) : Reduce.Dists.Idx → EReal)
      = Host.join (W4 m h 0 (Proc.devRef .tc main_v32) : Host.Column.Idx → EReal) (W6 m h 0 (Proc.devRef .tc main_v44) : Host.Column.Idx → EReal) :=
    (join_0 (W14 m h 0)).trans (congrArg₂ Host.join (last1 m h) (last2 m h))
  refine Eq.trans ?_ (group_sum _ _ _ _ (dist1 m h) (dist2 m h) (Ideal.ofBits .f32 0x40400000#32) (pairs (a0 m) (a1 m) (a6 m)))
  rw [hj]
  refine Finset.sum_congr rfl fun a _ => Finset.sum_congr rfl fun j _ => ?_
  rw [train0 m h a, train1 m h a]
  rfl

/-- Group 1's hinges are its four batches' shares. -/
theorem group1 : (∑ a : Fin 512, ∑ j : Reduce.Dists.Idx, hinge (Ideal.ofBits .f32 0x3F99999A#32)
      (gap (fun e : Fin 300 => (W15 m h 0 (Proc.devRef .tc main_v11_2) : S512x300.Idx → EReal) (ix2 a e)) (fun e => (W15 m h 0 (Proc.devRef .tc main_v11_3) : S512x300.Idx → EReal) (ix2 a e)))
      ((W15 m h 0 (Proc.devRef .tc main_v100) : Reduce.Dists.Idx → EReal) j))
    = (share (Ideal.ofBits .f32 0x3F99999A#32) (pairs (a2 m) (a3 m) (a6 m)) (samples (a2 m) (a2 m) (a6 m) (a7 m) 0 4) + share (Ideal.ofBits .f32 0x3F99999A#32) (pairs (a2 m) (a3 m) (a6 m)) (samples (a3 m) (a2 m) (a6 m) (a7 m) 1 7))
      + (share (Ideal.ofBits .f32 0x3F99999A#32) (pairs (a2 m) (a3 m) (a6 m)) (samples (a2 m) (a3 m) (a6 m) (a7 m) 0 5) + share (Ideal.ofBits .f32 0x3F99999A#32) (pairs (a2 m) (a3 m) (a6 m)) (samples (a3 m) (a3 m) (a6 m) (a7 m) 1 6)) := by
  have hj : (W15 m h 0 (Proc.devRef .tc main_v100) : Reduce.Dists.Idx → EReal)
      = Host.join (W8 m h 0 (Proc.devRef .tc main_v56) : Host.Column.Idx → EReal) (W10 m h 0 (Proc.devRef .tc main_v68) : Host.Column.Idx → EReal) :=
    (join_1 (W14 m h 0)).trans (congrArg₂ Host.join (last3 m h) (last4 m h))
  refine Eq.trans ?_ (group_sum _ _ _ _ (dist3 m h) (dist4 m h) (Ideal.ofBits .f32 0x3F99999A#32) (pairs (a2 m) (a3 m) (a6 m)))
  rw [hj]
  refine Finset.sum_congr rfl fun a _ => Finset.sum_congr rfl fun j _ => ?_
  rw [train2 m h a, train3 m h a]
  rfl

/-- Group 2's hinges are its four batches' shares. -/
theorem group2 : (∑ a : Fin 512, ∑ j : Reduce.Dists.Idx, hinge (Ideal.ofBits .f32 0x3F99999A#32)
      (gap (fun e : Fin 128 => (W15 m h 0 (Proc.devRef .tc main_v11_4) : S512x128.Idx → EReal) (ix2 a e)) (fun e => (W15 m h 0 (Proc.devRef .tc main_v11_5) : S512x128.Idx → EReal) (ix2 a e)))
      ((W15 m h 0 (Proc.devRef .tc main_v104) : Reduce.Dists.Idx → EReal) j))
    = (share (Ideal.ofBits .f32 0x3F99999A#32) (pairs (a4 m) (a5 m) (a6 m)) (samples (a4 m) (a4 m) (a6 m) (a7 m) 0 8) + share (Ideal.ofBits .f32 0x3F99999A#32) (pairs (a4 m) (a5 m) (a6 m)) (samples (a5 m) (a4 m) (a6 m) (a7 m) 1 11))
      + (share (Ideal.ofBits .f32 0x3F99999A#32) (pairs (a4 m) (a5 m) (a6 m)) (samples (a4 m) (a5 m) (a6 m) (a7 m) 0 9) + share (Ideal.ofBits .f32 0x3F99999A#32) (pairs (a4 m) (a5 m) (a6 m)) (samples (a5 m) (a5 m) (a6 m) (a7 m) 1 10)) := by
  have hj : (W15 m h 0 (Proc.devRef .tc main_v104) : Reduce.Dists.Idx → EReal)
      = Host.join (W12 m h 0 (Proc.devRef .tc main_v80) : Host.Column.Idx → EReal) (W14 m h 0 (Proc.devRef .tc main_v92) : Host.Column.Idx → EReal) :=
    (join_2 (W14 m h 0)).trans (congrArg₂ Host.join (last5 m h) (last6 m h))
  refine Eq.trans ?_ (group_sum _ _ _ _ (dist5 m h) (dist6 m h) (Ideal.ofBits .f32 0x3F99999A#32) (pairs (a4 m) (a5 m) (a6 m)))
  rw [hj]
  refine Finset.sum_congr rfl fun a _ => Finset.sum_congr rfl fun j _ => ?_
  rw [train4 m h a, train5 m h a]
  rfl

/-- The kernel's result is the loss of the tables at the index arguments. -/
theorem kernel_value (j : S_.Idx) : (W17 m h 0 (Proc.devRef .tc main_v106) : S_.Idx → EReal) j
    = lossAt (a0 m) (a1 m) (a2 m) (a3 m) (a4 m) (a5 m) (a6 m) (a7 m) := by
  refine (W17_apply m h j).trans ?_
  unfold lossOf
  rw [loss_apply, group0 m h, group1 m h, group2 m h, regroup]
  rfl

end Cert.Proof.Value
-- ==== Proof.Value.Ref.lean ====
/-
  The reference's operations over extended reals, entry by entry, for rows of any width.
-/
module

public import proofs.«01_k».proof.Proof.Value.Algebra
public import proofs.«01_k».proof.Proof.Value.Held
public import proofs.«01_k».proof.Proof.Value.Join
public import proofs.«01_k».proof.Proof.Value.Spec
public import Idealize.ShloMosaic.Lib.Pointwise
public import Idealize.ShloMosaic.Lib.IdealHost
public import Idealize.ShloMosaic.Lib.Routing.Ops

@[expose] public section

set_option maxRecDepth 10000

noncomputable section

namespace Cert.Proof.Value

open Idealize.ShloMosaic Idealize.ShloMosaic.Pipeline

/-- The shape of one number. -/
abbrev Point : Shape := ⟨0, ![]⟩

variable {D : ℕ}

/-- An index in range stays as it is where a negative one would be counted from the end. -/
theorem wrap_apply {t : Shape} (ids : t.Idx → BitVec 32) (b0 b1 : Point.BroadcastsInDim t ![]) (j : t.Idx) (hj : (ids j).toNat < 30000) :
    select (cmpi .slt ids (broadcastInDim t ![] b0 (constantI Point 32 0#32))) (addi ids (broadcastInDim t ![] b1 (constantI Point 32 30000#32))) ids j
      = BitVec.ofNat 32 (named (ids j)).val := by
  have h0 : cmpi .slt ids (broadcastInDim t ![] b0 (constantI Point 32 0#32)) j = 0#1 := by
    show BitVec.ofBool ((ids j).slt 0#32) = 0#1
    have : (ids j).slt 0#32 = false := by
      rw [BitVec.slt_eq_decide]
      refine decide_eq_false ?_
      rw [BitVec.toInt_eq_toNat_of_lt (by omega)]
      simp
    rw [this]; rfl
  have hs : select (cmpi .slt ids (broadcastInDim t ![] b0 (constantI Point 32 0#32))) (addi ids (broadcastInDim t ![] b1 (constantI Point 32 30000#32))) ids j = ids j := by
    unfold select
    rw [h0]; rfl
  rw [hs, ← named_val _ hj, BitVec.ofNat_toNat, BitVec.setWidth_eq]

/-- Rows of a table fetched by indices in range. -/
theorem fetch_apply {n : ℕ} (d : GatherDims (⟨2, ![30000, D]⟩ : Shape) ⟨2, ![n, 1]⟩ ⟨2, ![n, D]⟩) (hoff : d.offsetDims = [1])
    (hcoll : d.collapsedSliceDims = [0]) (hob : d.operandBatchingDims = []) (hsim : d.startIndexMap = [0]) (hivd : d.indexVectorDim = 1)
    (x : (⟨2, ![30000, D]⟩ : Shape).Idx → EReal) (ids : (⟨1, ![n]⟩ : Shape).Idx → BitVec 32)
    (b0 b1 : Point.BroadcastsInDim ⟨1, ![n]⟩ ![]) (b2 : (⟨1, ![n]⟩ : Shape).BroadcastsInDim ⟨2, ![n, 1]⟩ ![0]) (hids : ∀ j, (ids j).toNat < 30000)
    (c : Fin n) (y : Fin D) :
    Host.gather d x (broadcastInDim ⟨2, ![n, 1]⟩ ![0] b2
        (select (cmpi .slt ids (broadcastInDim ⟨1, ![n]⟩ ![] b0 (constantI Point 32 0#32))) (addi ids (broadcastInDim ⟨1, ![n]⟩ ![] b1 (constantI Point 32 30000#32))) ids)) (ix2 c y)
      = x (ix2 (named (ids (ix1 c))) y) := by
  refine Idealize.ShloMosaic.Routing.gather_row d hoff hcoll hob hsim hivd x _ c y _ ?_ (by norm_num)
  refine (broadcastInDim_apply _ b2 _ _ (ix1 c) fun a => ?_).trans (wrap_apply ids b0 b1 (ix1 c) (hids _))
  fin_cases a
  show c.val = if n = 1 then 0 else c.val
  have := c.isLt
  split_ifs <;> omega

/-- A batch's fetched rows, split into the batch's own rows and columns. -/
theorem batch_apply (x : (⟨2, ![8192, D]⟩ : Shape).Idx → EReal) (hs : (⟨2, ![8192, D]⟩ : Shape).ShapeCasts ⟨3, ![16, 512, D]⟩) (k : Fin 16) (l : Fin 512) (d : Fin D) :
    shapeCast (⟨3, ![16, 512, D]⟩ : Shape) x hs (ix3 k l d) = x (ix2 ⟨k.val * 512 + l.val, by omega⟩ d) := by
  refine shapeCast_apply x hs _ _ ?_
  rw [Shape.rowMajor_val_two, Shape.rowMajor_val_three]
  rfl

/-- A column of the seed pairs. -/
theorem seedIds_apply (o : Fin 2) (x : (⟨2, ![512, 2]⟩ : Shape).Idx → BitVec 32) (hs : (⟨2, ![512, 2]⟩ : Shape).Slices ![0, o.val] ⟨2, ![512, 1]⟩)
    (hc : (⟨2, ![512, 1]⟩ : Shape).ShapeCasts ⟨1, ![512]⟩) (l : Fin 512) :
    shapeCast (⟨1, ![512]⟩ : Shape) (extractStridedSlice ⟨2, ![512, 1]⟩ ![0, o.val] x hs) hc (ix1 l) = x (ix2 l o) := by
  refine (shapeCast_apply _ hc _ (ix2 l (0 : Fin 1)) ?_).trans (extractStridedSlice_apply _ x hs _ _ fun a => ?_)
  · rw [Shape.rowMajor_val_two, Shape.rowMajor_val_one]; simp [ix2, ix1]
  · fin_cases a
    · show l.val = 0 + l.val; omega
    · rfl

/-- A batch of the sampled indices, laid out in one row. -/
theorem batchIds_apply (p : Fin 12) (x : (⟨3, ![12, 16, 512]⟩ : Shape).Idx → BitVec 32) (hs : (⟨3, ![12, 16, 512]⟩ : Shape).Slices ![p.val, 0, 0] ⟨3, ![1, 16, 512]⟩)
    (hc : (⟨3, ![1, 16, 512]⟩ : Shape).ShapeCasts ⟨2, ![16, 512]⟩) (hd : (⟨2, ![16, 512]⟩ : Shape).ShapeCasts ⟨1, ![8192]⟩) (k : Fin 16) (l : Fin 512) :
    shapeCast (⟨1, ![8192]⟩ : Shape) (shapeCast (⟨2, ![16, 512]⟩ : Shape) (extractStridedSlice ⟨3, ![1, 16, 512]⟩ ![p.val, 0, 0] x hs) hc) hd
      (ix1 ⟨k.val * 512 + l.val, by omega⟩) = x (ix3 p k l) := by
  refine (shapeCast_apply _ hd _ (ix2 k l) ?_).trans ((shapeCast_apply _ hc _ (ix3 (0 : Fin 1) k l) ?_).trans (extractStridedSlice_apply _ x hs _ _ fun a => ?_))
  · rw [Shape.rowMajor_val_two, Shape.rowMajor_val_one]; rfl
  · rw [Shape.rowMajor_val_three, Shape.rowMajor_val_two]; simp [ix2, ix3]
  · fin_cases a
    · rfl
    · show k.val = 0 + k.val; omega
    · show l.val = 0 + l.val; omega

/-- Everything in one row of a batch comes from the batch, so a bound on all the samples bounds it. -/
theorem exists_flat (j : (⟨1, ![8192]⟩ : Shape).Idx) : ∃ (k : Fin 16) (l : Fin 512), j = ix1 ⟨k.val * 512 + l.val, by omega⟩ := by
  have hj : (j 0).val < 8192 := (j 0).isLt
  refine ⟨⟨(j 0).val / 512, by omega⟩, ⟨(j 0).val % 512, by omega⟩, funext fun a => ?_⟩
  fin_cases a
  exact Fin.ext (by show (j 0).val = (j 0).val / 512 * 512 + (j 0).val % 512; omega)

/-- The mean gap of the two train rows of a pair. -/
theorem pairGap_apply (x y : (⟨2, ![512, D]⟩ : Shape).Idx → EReal) (b0 b1 : (⟨2, ![512, D]⟩ : Shape).BroadcastsInDim ⟨3, ![512, 1, D]⟩ ![0, 2])
    (hr : (⟨3, ![512, 1, D]⟩ : Shape).ReducesTo [2] ⟨2, ![512, 1]⟩) (hp : 0 < Point.numel) (b2 : Point.BroadcastsInDim ⟨2, ![512, 1]⟩ ![]) (l : Fin 512) :
    (Host.divf (F := Ideal) (φ := .f32) (Host.reduceAdd (F := Ideal) (φ := .f32) (Host.absf (subf (broadcastInDim ⟨3, ![512, 1, D]⟩ ![0, 2] b0 x) (broadcastInDim ⟨3, ![512, 1, D]⟩ ![0, 2] b1 y)))
        (constant Point .f32 0x00000000#32) hr hp) (broadcastInDim ⟨2, ![512, 1]⟩ ![] b2 (constant Point .f32 0x41200000#32))) (ix2 l 0)
      = Ideal.div (gap (fun d => x (ix2 l d)) (fun d => y (ix2 l d))) (Ideal.ofBits .f32 0x41200000#32) := by
  refine congrArg (fun z => Ideal.div z (Ideal.ofBits .f32 0x41200000#32)) ?_
  rw [Host.reduceAdd_apply]
  refine (Ideal.hostReduceAdd_r3_a2 hr _ _ _).trans ?_
  show Ideal.ofBits .f32 0x00000000#32 + _ = _
  rw [Ideal.ofBits_zero_f32, zero_add]
  refine Finset.sum_congr rfl fun d _ => ?_
  have hb : ∀ (z : (⟨2, ![512, D]⟩ : Shape).Idx → EReal) (b : (⟨2, ![512, D]⟩ : Shape).BroadcastsInDim ⟨3, ![512, 1, D]⟩ ![0, 2]),
      broadcastInDim (⟨3, ![512, 1, D]⟩ : Shape) ![0, 2] b z (ix3 l 0 d) = z (ix2 l d) := fun z b => by
    refine broadcastInDim_apply _ b z _ _ fun a => ?_
    fin_cases a
    · rfl
    · show d.val = if D = 1 then 0 else d.val
      have := d.isLt
      split_ifs <;> omega
  exact congrArg₂ (fun u v => mag (u - v)) (hb x b0) (hb y b1)

/-- The mean gap of a train row and a sampled row. -/
theorem sampleGap_apply (x : (⟨2, ![512, D]⟩ : Shape).Idx → EReal) (y : (⟨3, ![16, 512, D]⟩ : Shape).Idx → EReal)
    (b0 : (⟨2, ![512, D]⟩ : Shape).BroadcastsInDim ⟨4, ![1, 1, 512, D]⟩ ![2, 3]) (b1 : (⟨4, ![1, 1, 512, D]⟩ : Shape).BroadcastsInDim ⟨4, ![16, 1, 512, D]⟩ ![0, 1, 2, 3])
    (b2 : (⟨3, ![16, 512, D]⟩ : Shape).BroadcastsInDim ⟨4, ![16, 1, 512, D]⟩ ![0, 2, 3])
    (hr : (⟨4, ![16, 1, 512, D]⟩ : Shape).ReducesTo [3] ⟨3, ![16, 1, 512]⟩) (hp : 0 < Point.numel) (b3 : Point.BroadcastsInDim ⟨3, ![16, 1, 512]⟩ ![]) (k : Fin 16) (l : Fin 512) :
    (Host.divf (F := Ideal) (φ := .f32) (Host.reduceAdd (F := Ideal) (φ := .f32) (Host.absf (subf (broadcastInDim ⟨4, ![16, 1, 512, D]⟩ ![0, 1, 2, 3] b1 (broadcastInDim ⟨4, ![1, 1, 512, D]⟩ ![2, 3] b0 x))
          (broadcastInDim ⟨4, ![16, 1, 512, D]⟩ ![0, 2, 3] b2 y)))
        (constant Point .f32 0x00000000#32) hr hp) (broadcastInDim ⟨3, ![16, 1, 512]⟩ ![] b3 (constant Point .f32 0x41200000#32))) (ix3 k 0 l)
      = Ideal.div (gap (fun d => x (ix2 l d)) (fun d => y (ix3 k l d))) (Ideal.ofBits .f32 0x41200000#32) := by
  refine congrArg (fun z => Ideal.div z (Ideal.ofBits .f32 0x41200000#32)) ?_
  rw [Host.reduceAdd_apply]
  refine (Ideal.hostReduceAdd_r4_a3 hr _ _ _).trans ?_
  show Ideal.ofBits .f32 0x00000000#32 + _ = _
  rw [Ideal.ofBits_zero_f32, zero_add]
  refine Finset.sum_congr rfl fun d _ => ?_
  have hd : d.val = if D = 1 then 0 else d.val := by
    have := d.isLt
    split_ifs <;> omega
  have hx : broadcastInDim (⟨4, ![16, 1, 512, D]⟩ : Shape) ![0, 1, 2, 3] b1 (broadcastInDim ⟨4, ![1, 1, 512, D]⟩ ![2, 3] b0 x) (ix4 k 0 l d) = x (ix2 l d) := by
    refine (broadcastInDim_apply _ b1 _ _ (ix4 (0 : Fin 1) (0 : Fin 1) l d) fun a => ?_).trans (broadcastInDim_apply _ b0 x _ _ fun a => ?_)
    · fin_cases a
      · rfl
      · rfl
      · rfl
      · exact hd
    · fin_cases a
      · rfl
      · exact hd
  have hy : broadcastInDim (⟨4, ![16, 1, 512, D]⟩ : Shape) ![0, 2, 3] b2 y (ix4 k 0 l d) = y (ix3 k l d) := by
    refine broadcastInDim_apply _ b2 y _ _ fun a => ?_
    fin_cases a
    · rfl
    · rfl
    · exact hd
  exact congrArg₂ (fun u v => mag (u - v)) hx hy

/-- One comparison's hinge before the constants are folded. -/
theorem compare_apply (g : BitVec 32) (mp : (⟨2, ![512, 1]⟩ : Shape).Idx → EReal) (dn : (⟨3, ![16, 1, 512]⟩ : Shape).Idx → EReal)
    (b0 : Point.BroadcastsInDim ⟨2, ![512, 1]⟩ ![]) (b1 : (⟨2, ![512, 1]⟩ : Shape).BroadcastsInDim ⟨3, ![1, 512, 1]⟩ ![1, 2])
    (b2 : (⟨3, ![1, 512, 1]⟩ : Shape).BroadcastsInDim ⟨3, ![16, 512, 512]⟩ ![0, 1, 2]) (b3 : (⟨3, ![16, 1, 512]⟩ : Shape).BroadcastsInDim ⟨3, ![16, 512, 512]⟩ ![0, 1, 2])
    (b4 : Point.BroadcastsInDim ⟨3, ![16, 512, 512]⟩ ![]) (k : Fin 16) (a l : Fin 512) :
    (maximumf (F := Ideal) (φ := .f32) (subf (broadcastInDim ⟨3, ![16, 512, 512]⟩ ![0, 1, 2] b2 (broadcastInDim ⟨3, ![1, 512, 1]⟩ ![1, 2] b1
        (addf (broadcastInDim ⟨2, ![512, 1]⟩ ![] b0 (constant Point .f32 g)) mp))) (broadcastInDim ⟨3, ![16, 512, 512]⟩ ![0, 1, 2] b3 dn))
        (broadcastInDim ⟨3, ![16, 512, 512]⟩ ![] b4 (constant Point .f32 0x00000000#32))) (ix3 k a l)
      = max ((Ideal.ofBits .f32 g + mp (ix2 a 0)) - dn (ix3 k 0 l)) 0 := by
  have hm : ∀ z : (⟨2, ![512, 1]⟩ : Shape).Idx → EReal,
      broadcastInDim (⟨3, ![16, 512, 512]⟩ : Shape) ![0, 1, 2] b2 (broadcastInDim ⟨3, ![1, 512, 1]⟩ ![1, 2] b1 z) (ix3 k a l) = z (ix2 a 0) := fun z => by
    refine (broadcastInDim_apply _ b2 _ _ (ix3 (0 : Fin 1) a (0 : Fin 1)) fun c => ?_).trans (broadcastInDim_apply _ b1 z _ _ fun c => ?_) <;> fin_cases c <;> rfl
  have hd : broadcastInDim (⟨3, ![16, 512, 512]⟩ : Shape) ![0, 1, 2] b3 dn (ix3 k a l) = dn (ix3 k 0 l) := by
    refine broadcastInDim_apply _ b3 dn _ _ fun c => ?_
    fin_cases c <;> rfl
  refine (congrArg₂ (fun u v : EReal => max (u - v) (Ideal.ofBits .f32 0x00000000#32)) (hm _) hd).trans ?_
  rw [Ideal.ofBits_zero_f32]
  rfl

/-- A sum over an array of rank 3, axis by axis. -/
theorem total_apply (x : (⟨3, ![16, 512, 512]⟩ : Shape).Idx → EReal) (hr : (⟨3, ![16, 512, 512]⟩ : Shape).ReducesTo [0, 1, 2] Point) (hp : 0 < Point.numel) (j : Point.Idx) :
    (Host.divf (F := Ideal) (φ := .f32) (Host.reduceAdd (F := Ideal) (φ := .f32) x (constant Point .f32 0x00000000#32) hr hp) (constant Point .f32 0x4A800000#32)) j
      = Ideal.div (∑ k : Fin 16, ∑ a : Fin 512, ∑ l : Fin 512, x (ix3 k a l)) (Ideal.ofBits .f32 0x4A800000#32) := by
  refine congrArg (fun z => Ideal.div z (Ideal.ofBits .f32 0x4A800000#32)) ?_
  rw [Host.reduceAdd_apply]
  refine (Ideal.hostReduceAdd_total hr (fun b => b.elim0) _ _ _).trans ?_
  show Ideal.ofBits .f32 0x00000000#32 + _ = _
  rw [Ideal.ofBits_zero_f32, zero_add]
  exact sum_idx3 _

/-- The reference's train rows of a side. -/
theorem train_at (d : GatherDims (⟨2, ![30000, D]⟩ : Shape) ⟨2, ![512, 1]⟩ ⟨2, ![512, D]⟩) (hoff : d.offsetDims = [1])
    (hcoll : d.collapsedSliceDims = [0]) (hob : d.operandBatchingDims = []) (hsim : d.startIndexMap = [0]) (hivd : d.indexVectorDim = 1)
    (T : Tab D) (x6 : Seeds) (h6 : ∀ j, (x6 j).toNat < 30000) (o : Fin 2) (ids : (⟨1, ![512]⟩ : Shape).Idx → BitVec 32) (hids : ∀ l, ids (ix1 l) = x6 (ix2 l o))
    (b0 b1 : Point.BroadcastsInDim ⟨1, ![512]⟩ ![]) (b2 : (⟨1, ![512]⟩ : Shape).BroadcastsInDim ⟨2, ![512, 1]⟩ ![0]) (l : Fin 512) (y : Fin D) :
    Host.gather d T (broadcastInDim ⟨2, ![512, 1]⟩ ![0] b2
        (select (cmpi .slt ids (broadcastInDim ⟨1, ![512]⟩ ![] b0 (constantI Point 32 0#32))) (addi ids (broadcastInDim ⟨1, ![512]⟩ ![] b1 (constantI Point 32 30000#32))) ids)) (ix2 l y)
      = trainRow T x6 o l y := by
  refine (fetch_apply d hoff hcoll hob hsim hivd T ids b0 b1 b2 (fun j => ?_) l y).trans ?_
  · have hj : j = ix1 (j 0) := funext fun a => by fin_cases a; rfl
    rw [hj]
    exact (congrArg BitVec.toNat (hids (j 0))).trans_lt (h6 _)
  · rw [hids]; rfl

/-- The reference's mean gaps of the seed pairs. -/
theorem pairs_at (T0 T1 : Tab D) (x6 : Seeds) (x y : (⟨2, ![512, D]⟩ : Shape).Idx → EReal)
    (hx : ∀ l d, x (ix2 l d) = trainRow T0 x6 0 l d) (hy : ∀ l d, y (ix2 l d) = trainRow T1 x6 1 l d)
    (b0 b1 : (⟨2, ![512, D]⟩ : Shape).BroadcastsInDim ⟨3, ![512, 1, D]⟩ ![0, 2])
    (hr : (⟨3, ![512, 1, D]⟩ : Shape).ReducesTo [2] ⟨2, ![512, 1]⟩) (hp : 0 < Point.numel) (b2 : Point.BroadcastsInDim ⟨2, ![512, 1]⟩ ![]) (l : Fin 512) :
    (Host.divf (F := Ideal) (φ := .f32) (Host.reduceAdd (F := Ideal) (φ := .f32) (Host.absf (subf (broadcastInDim ⟨3, ![512, 1, D]⟩ ![0, 2] b0 x) (broadcastInDim ⟨3, ![512, 1, D]⟩ ![0, 2] b1 y)))
        (constant Point .f32 0x00000000#32) hr hp) (broadcastInDim ⟨2, ![512, 1]⟩ ![] b2 (constant Point .f32 0x41200000#32))) (ix2 l 0)
      = Ideal.div (pairs T0 T1 x6 l) (Ideal.ofBits .f32 0x41200000#32) :=
  (pairGap_apply x y b0 b1 hr hp b2 l).trans
    (congrArg (fun z => Ideal.div z (Ideal.ofBits .f32 0x41200000#32)) (congrArg₂ gap (funext (hx l)) (funext (hy l))))

/-- The reference's mean gaps of a batch of samples. -/
theorem samples_at (g : GatherDims (⟨2, ![30000, D]⟩ : Shape) ⟨2, ![8192, 1]⟩ ⟨2, ![8192, D]⟩) (hoff : g.offsetDims = [1])
    (hcoll : g.collapsedSliceDims = [0]) (hob : g.operandBatchingDims = []) (hsim : g.startIndexMap = [0]) (hivd : g.indexVectorDim = 1)
    (T B : Tab D) (x6 : Seeds) (x7 : Samples) (h7 : ∀ j, (x7 j).toNat < 30000) (o : Fin 2) (p : Fin 12)
    (x : (⟨2, ![512, D]⟩ : Shape).Idx → EReal) (hx : ∀ l d, x (ix2 l d) = trainRow T x6 o l d)
    (ids : (⟨1, ![8192]⟩ : Shape).Idx → BitVec 32) (hids : ∀ (k : Fin 16) (l : Fin 512), ids (ix1 ⟨k.val * 512 + l.val, by omega⟩) = x7 (ix3 p k l))
    (c0 c1 : Point.BroadcastsInDim ⟨1, ![8192]⟩ ![]) (c2 : (⟨1, ![8192]⟩ : Shape).BroadcastsInDim ⟨2, ![8192, 1]⟩ ![0])
    (hs : (⟨2, ![8192, D]⟩ : Shape).ShapeCasts ⟨3, ![16, 512, D]⟩)
    (b0 : (⟨2, ![512, D]⟩ : Shape).BroadcastsInDim ⟨4, ![1, 1, 512, D]⟩ ![2, 3]) (b1 : (⟨4, ![1, 1, 512, D]⟩ : Shape).BroadcastsInDim ⟨4, ![16, 1, 512, D]⟩ ![0, 1, 2, 3])
    (b2 : (⟨3, ![16, 512, D]⟩ : Shape).BroadcastsInDim ⟨4, ![16, 1, 512, D]⟩ ![0, 2, 3])
    (hr : (⟨4, ![16, 1, 512, D]⟩ : Shape).ReducesTo [3] ⟨3, ![16, 1, 512]⟩) (hp : 0 < Point.numel) (b3 : Point.BroadcastsInDim ⟨3, ![16, 1, 512]⟩ ![]) (k : Fin 16) (l : Fin 512) :
    (Host.divf (F := Ideal) (φ := .f32) (Host.reduceAdd (F := Ideal) (φ := .f32) (Host.absf (subf (broadcastInDim ⟨4, ![16, 1, 512, D]⟩ ![0, 1, 2, 3] b1 (broadcastInDim ⟨4, ![1, 1, 512, D]⟩ ![2, 3] b0 x))
          (broadcastInDim ⟨4, ![16, 1, 512, D]⟩ ![0, 2, 3] b2 (shapeCast (⟨3, ![16, 512, D]⟩ : Shape) (Host.gather g B (broadcastInDim ⟨2, ![8192, 1]⟩ ![0] c2
        (select (cmpi .slt ids (broadcastInDim ⟨1, ![8192]⟩ ![] c0 (constantI Point 32 0#32))) (addi ids (broadcastInDim ⟨1, ![8192]⟩ ![] c1 (constantI Point 32 30000#32))) ids))) hs))))
        (constant Point .f32 0x00000000#32) hr hp) (broadcastInDim ⟨3, ![16, 1, 512]⟩ ![] b3 (constant Point .f32 0x41200000#32))) (ix3 k 0 l)
      = Ideal.div (samples T B x6 x7 o p k l) (Ideal.ofBits .f32 0x41200000#32) := by
  refine (sampleGap_apply x _ b0 b1 b2 hr hp b3 k l).trans
    (congrArg (fun z => Ideal.div z (Ideal.ofBits .f32 0x41200000#32)) (congrArg₂ gap (funext (hx l)) (funext fun d => ?_)))
  refine (batch_apply _ hs k l d).trans ((fetch_apply g hoff hcoll hob hsim hivd B ids c0 c1 c2 (fun j => ?_) _ d).trans ?_)
  · obtain ⟨k', l', rfl⟩ := exists_flat j
    exact (congrArg BitVec.toNat (hids k' l')).trans_lt (h7 _)
  · rw [hids]

/-- One comparison of the reference is one hinge. -/
theorem compare_at (g : BitVec 32) (mp : (⟨2, ![512, 1]⟩ : Shape).Idx → EReal) (dn : (⟨3, ![16, 1, 512]⟩ : Shape).Idx → EReal)
    (u : Fin 512 → EReal) (v : Fin 16 → Fin 512 → EReal) (hm : ∀ a, mp (ix2 a 0) = Ideal.div (u a) (Ideal.ofBits .f32 0x41200000#32))
    (hd : ∀ k l, dn (ix3 k 0 l) = Ideal.div (v k l) (Ideal.ofBits .f32 0x41200000#32))
    (b0 : Point.BroadcastsInDim ⟨2, ![512, 1]⟩ ![]) (b1 : (⟨2, ![512, 1]⟩ : Shape).BroadcastsInDim ⟨3, ![1, 512, 1]⟩ ![1, 2])
    (b2 : (⟨3, ![1, 512, 1]⟩ : Shape).BroadcastsInDim ⟨3, ![16, 512, 512]⟩ ![0, 1, 2]) (b3 : (⟨3, ![16, 1, 512]⟩ : Shape).BroadcastsInDim ⟨3, ![16, 512, 512]⟩ ![0, 1, 2])
    (b4 : Point.BroadcastsInDim ⟨3, ![16, 512, 512]⟩ ![]) (k : Fin 16) (a l : Fin 512) :
    (maximumf (F := Ideal) (φ := .f32) (subf (broadcastInDim ⟨3, ![16, 512, 512]⟩ ![0, 1, 2] b2 (broadcastInDim ⟨3, ![1, 512, 1]⟩ ![1, 2] b1
        (addf (broadcastInDim ⟨2, ![512, 1]⟩ ![] b0 (constant Point .f32 g)) mp))) (broadcastInDim ⟨3, ![16, 512, 512]⟩ ![0, 1, 2] b3 dn))
        (broadcastInDim ⟨3, ![16, 512, 512]⟩ ![] b4 (constant Point .f32 0x00000000#32))) (ix3 k a l)
      = hinge (Ideal.ofBits .f32 g) (u a) (v k l) := by
  rw [compare_apply g mp dn b0 b1 b2 b3 b4 k a l, hm, hd]
  exact hinge_eq _ _ _

/-- A mean of three groups' comparisons added pointwise. -/
theorem quarter_at (x y z : (⟨3, ![16, 512, 512]⟩ : Shape).Idx → EReal) (mx mn mo : Fin 512 → EReal) (dx dn dO : Fin 16 → Fin 512 → EReal)
    (hx : ∀ k a l, x (ix3 k a l) = hinge (Ideal.ofBits .f32 0x40400000#32) (mx a) (dx k l))
    (hy : ∀ k a l, y (ix3 k a l) = hinge (Ideal.ofBits .f32 0x3F99999A#32) (mn a) (dn k l))
    (hz : ∀ k a l, z (ix3 k a l) = hinge (Ideal.ofBits .f32 0x3F99999A#32) (mo a) (dO k l))
    (hr : (⟨3, ![16, 512, 512]⟩ : Shape).ReducesTo [0, 1, 2] Point) (hp : 0 < Point.numel) (j : Point.Idx) :
    (Host.divf (F := Ideal) (φ := .f32) (Host.reduceAdd (F := Ideal) (φ := .f32) (addf (F := Ideal) (φ := .f32) (addf (F := Ideal) (φ := .f32) x y) z) (constant Point .f32 0x00000000#32) hr hp)
        (constant Point .f32 0x4A800000#32)) j = Ideal.div (quarter mx mn mo dx dn dO) (Ideal.ofBits .f32 0x4A800000#32) := by
  refine (total_apply _ hr hp j).trans (congrArg (fun z => Ideal.div z (Ideal.ofBits .f32 0x4A800000#32)) ?_)
  refine mean_eq (fun k a l => addf (F := Ideal) (φ := .f32) (addf (F := Ideal) (φ := .f32) x y) z (ix3 k a l)) mx mn mo dx dn dO _ _ _ fun k a l => ?_
  exact congrArg₂ (fun u v : EReal => u + v) (congrArg₂ (fun u v : EReal => u + v) (hx k a l) (hy k a l)) (hz k a l)

end Cert.Proof.Value

end
-- ==== Proof.Value.Reference.lean ====
/-
  The reference's result over extended reals, from the launch's arguments.
-/
module

public import proofs.«01_k».proof.Proof.Value.Ref
public import proofs.«01_k».proof.Proof.Gen.ReferenceIdeal.Run

@[expose] public section

set_option maxRecDepth 10000
set_option maxHeartbeats 4000000

noncomputable section

namespace Cert.Proof.Value

open Idealize.ShloMosaic Idealize.ShloMosaic.TcCoe Idealize.ShloMosaic.Pipeline
open Cert.ReferenceIdeal Cert.ReferenceIdeal.Gen Cert.ReferenceIdeal.Value

variable (V : Valuation τ sig (Elt Ideal))

/-- The reference's arguments, as tables and index arrays. -/
abbrev r0 : Tab 256 := V (Proc.devRef .tc main_arg0)
abbrev r1 : Tab 256 := V (Proc.devRef .tc main_arg1)
abbrev r2 : Tab 300 := V (Proc.devRef .tc main_arg2)
abbrev r3 : Tab 300 := V (Proc.devRef .tc main_arg3)
abbrev r4 : Tab 128 := V (Proc.devRef .tc main_arg4)
abbrev r5 : Tab 128 := V (Proc.devRef .tc main_arg5)
abbrev r6 : Seeds := V (Proc.devRef .tc main_arg6)
abbrev r7 : Samples := V (Proc.devRef .tc main_arg7)

variable (h6 : ∀ j, (r6 V j).toNat < 30000)
include h6

/-- The train rows of table 0. -/
theorem rows_of0 (l : Fin 512) (d : Fin 256) : (res_main_v8 V : S512x256.Idx → EReal) (ix2 l d) = trainRow (r0 V) (r6 V) 0 l d :=
  train_at gather_S30000x256_S512x1_S512x256_1_0_n_n_0_1_1256 rfl rfl rfl rfl rfl (r0 V) (r6 V) h6 0 (res_main_v1 V)
    (fun l => seedIds_apply 0 (r6 V) _ _ l) _ _ _ l d

/-- The train rows of table 1. -/
theorem rows_of1 (l : Fin 512) (d : Fin 256) : (res_main_v17 V : S512x256.Idx → EReal) (ix2 l d) = trainRow (r1 V) (r6 V) 1 l d :=
  train_at gather_S30000x256_S512x1_S512x256_1_0_n_n_0_1_1256 rfl rfl rfl rfl rfl (r1 V) (r6 V) h6 1 (res_main_v10 V)
    (fun l => seedIds_apply 1 (r6 V) _ _ l) _ _ _ l d

/-- The train rows of table 2. -/
theorem rows_of2 (l : Fin 512) (d : Fin 300) : (res_main_v26 V : S512x300.Idx → EReal) (ix2 l d) = trainRow (r2 V) (r6 V) 0 l d :=
  train_at gather_S30000x300_S512x1_S512x300_1_0_n_n_0_1_1300 rfl rfl rfl rfl rfl (r2 V) (r6 V) h6 0 (res_main_v19 V)
    (fun l => seedIds_apply 0 (r6 V) _ _ l) _ _ _ l d

/-- The train rows of table 3. -/
theorem rows_of3 (l : Fin 512) (d : Fin 300) : (res_main_v35 V : S512x300.Idx → EReal) (ix2 l d) = trainRow (r3 V) (r6 V) 1 l d :=
  train_at gather_S30000x300_S512x1_S512x300_1_0_n_n_0_1_1300 rfl rfl rfl rfl rfl (r3 V) (r6 V) h6 1 (res_main_v28 V)
    (fun l => seedIds_apply 1 (r6 V) _ _ l) _ _ _ l d

/-- The train rows of table 4. -/
theorem rows_of4 (l : Fin 512) (d : Fin 128) : (res_main_v44 V : S512x128.Idx → EReal) (ix2 l d) = trainRow (r4 V) (r6 V) 0 l d :=
  train_at gather_S30000x128_S512x1_S512x128_1_0_n_n_0_1_1128 rfl rfl rfl rfl rfl (r4 V) (r6 V) h6 0 (res_main_v37 V)
    (fun l => seedIds_apply 0 (r6 V) _ _ l) _ _ _ l d

/-- The train rows of table 5. -/
theorem rows_of5 (l : Fin 512) (d : Fin 128) : (res_main_v53 V : S512x128.Idx → EReal) (ix2 l d) = trainRow (r5 V) (r6 V) 1 l d :=
  train_at gather_S30000x128_S512x1_S512x128_1_0_n_n_0_1_1128 rfl rfl rfl rfl rfl (r5 V) (r6 V) h6 1 (res_main_v46 V)
    (fun l => seedIds_apply 1 (r6 V) _ _ l) _ _ _ l d

/-- The pairs' mean gaps of group 0. -/
theorem pairs_of0 (l : Fin 512) : (res_main_v108 V : S512x1.Idx → EReal) (ix2 l 0) = Ideal.div (pairs (r0 V) (r1 V) (r6 V) l) (Ideal.ofBits .f32 0x41200000#32) :=
  pairs_at (r0 V) (r1 V) (r6 V) _ _ (rows_of0 V h6) (rows_of1 V h6) _ _ _ _ _ l

/-- The pairs' mean gaps of group 1. -/
theorem pairs_of1 (l : Fin 512) : (res_main_v163 V : S512x1.Idx → EReal) (ix2 l 0) = Ideal.div (pairs (r2 V) (r3 V) (r6 V) l) (Ideal.ofBits .f32 0x41200000#32) :=
  pairs_at (r2 V) (r3 V) (r6 V) _ _ (rows_of2 V h6) (rows_of3 V h6) _ _ _ _ _ l

/-- The pairs' mean gaps of group 2. -/
theorem pairs_of2 (l : Fin 512) : (res_main_v218 V : S512x1.Idx → EReal) (ix2 l 0) = Ideal.div (pairs (r4 V) (r5 V) (r6 V) l) (Ideal.ofBits .f32 0x41200000#32) :=
  pairs_at (r4 V) (r5 V) (r6 V) _ _ (rows_of4 V h6) (rows_of5 V h6) _ _ _ _ _ l

omit h6 in
/-- The indices of batch 0. -/
theorem ids_of0 (k : Fin 16) (l : Fin 512) : (res_main_v56 V : S8192.Idx → BitVec 32) (ix1 ⟨k.val * 512 + l.val, by omega⟩) = r7 V (ix3 0 k l) :=
  batchIds_apply 0 (r7 V) _ _ _ k l

omit h6 in
/-- The indices of batch 1. -/
theorem ids_of1 (k : Fin 16) (l : Fin 512) : (res_main_v68 V : S8192.Idx → BitVec 32) (ix1 ⟨k.val * 512 + l.val, by omega⟩) = r7 V (ix3 1 k l) :=
  batchIds_apply 1 (r7 V) _ _ _ k l

omit h6 in
/-- The indices of batch 2. -/
theorem ids_of2 (k : Fin 16) (l : Fin 512) : (res_main_v80 V : S8192.Idx → BitVec 32) (ix1 ⟨k.val * 512 + l.val, by omega⟩) = r7 V (ix3 2 k l) :=
  batchIds_apply 2 (r7 V) _ _ _ k l

omit h6 in
/-- The indices of batch 3. -/
theorem ids_of3 (k : Fin 16) (l : Fin 512) : (res_main_v92 V : S8192.Idx → BitVec 32) (ix1 ⟨k.val * 512 + l.val, by omega⟩) = r7 V (ix3 3 k l) :=
  batchIds_apply 3 (r7 V) _ _ _ k l

omit h6 in
/-- The indices of batch 4. -/
theorem ids_of4 (k : Fin 16) (l : Fin 512) : (res_main_v111 V : S8192.Idx → BitVec 32) (ix1 ⟨k.val * 512 + l.val, by omega⟩) = r7 V (ix3 4 k l) :=
  batchIds_apply 4 (r7 V) _ _ _ k l

omit h6 in
/-- The indices of batch 5. -/
theorem ids_of5 (k : Fin 16) (l : Fin 512) : (res_main_v123 V : S8192.Idx → BitVec 32) (ix1 ⟨k.val * 512 + l.val, by omega⟩) = r7 V (ix3 5 k l) :=
  batchIds_apply 5 (r7 V) _ _ _ k l

omit h6 in
/-- The indices of batch 6. -/
theorem ids_of6 (k : Fin 16) (l : Fin 512) : (res_main_v135 V : S8192.Idx → BitVec 32) (ix1 ⟨k.val * 512 + l.val, by omega⟩) = r7 V (ix3 6 k l) :=
  batchIds_apply 6 (r7 V) _ _ _ k l

omit h6 in
/-- The indices of batch 7. -/
theorem ids_of7 (k : Fin 16) (l : Fin 512) : (res_main_v147 V : S8192.Idx → BitVec 32) (ix1 ⟨k.val * 512 + l.val, by omega⟩) = r7 V (ix3 7 k l) :=
  batchIds_apply 7 (r7 V) _ _ _ k l

omit h6 in
/-- The indices of batch 8. -/
theorem ids_of8 (k : Fin 16) (l : Fin 512) : (res_main_v166 V : S8192.Idx → BitVec 32) (ix1 ⟨k.val * 512 + l.val, by omega⟩) = r7 V (ix3 8 k l) :=
  batchIds_apply 8 (r7 V) _ _ _ k l

omit h6 in
/-- The indices of batch 9. -/
theorem ids_of9 (k : Fin 16) (l : Fin 512) : (res_main_v178 V : S8192.Idx → BitVec 32) (ix1 ⟨k.val * 512 + l.val, by omega⟩) = r7 V (ix3 9 k l) :=
  batchIds_apply 9 (r7 V) _ _ _ k l

omit h6 in
/-- The indices of batch 10. -/
theorem ids_of10 (k : Fin 16) (l : Fin 512) : (res_main_v190 V : S8192.Idx → BitVec 32) (ix1 ⟨k.val * 512 + l.val, by omega⟩) = r7 V (ix3 10 k l) :=
  batchIds_apply 10 (r7 V) _ _ _ k l

omit h6 in
/-- The indices of batch 11. -/
theorem ids_of11 (k : Fin 16) (l : Fin 512) : (res_main_v202 V : S8192.Idx → BitVec 32) (ix1 ⟨k.val * 512 + l.val, by omega⟩) = r7 V (ix3 11 k l) :=
  batchIds_apply 11 (r7 V) _ _ _ k l

variable (h7 : ∀ j, (r7 V j).toNat < 30000)
include h7

/-- Mean 0 of the reference: side 0's train rows against the three groups' batches. -/
theorem mean0 (j : S_.Idx) : (res_main_v264 V : S_.Idx → EReal) j
    = Ideal.div (quarter (pairs (r0 V) (r1 V) (r6 V)) (pairs (r2 V) (r3 V) (r6 V)) (pairs (r4 V) (r5 V) (r6 V))
        (samples (r0 V) (r0 V) (r6 V) (r7 V) 0 0) (samples (r2 V) (r2 V) (r6 V) (r7 V) 0 4) (samples (r4 V) (r4 V) (r6 V) (r7 V) 0 8)) (Ideal.ofBits .f32 0x4A800000#32) := by
  unfold res_main_v264
  refine quarter_at _ _ _ _ _ _ _ _ _ (fun k a l => ?_) (fun k a l => ?_) (fun k a l => ?_) _ _ j
  · refine compare_at 0x40400000#32 _ _ _ (samples (r0 V) (r0 V) (r6 V) (r7 V) 0 0) (pairs_of0 V h6) (fun k l => ?_) _ _ _ _ _ k a l
    exact samples_at gather_S30000x256_S8192x1_S8192x256_1_0_n_n_0_1_1256 rfl rfl rfl rfl rfl (r0 V) (r0 V) (r6 V) (r7 V) h7 0 0 _ (rows_of0 V h6) _ (ids_of0 V) _ _ _ _ _ _ _ _ _ _ k l
  · refine compare_at 0x3F99999A#32 _ _ _ (samples (r2 V) (r2 V) (r6 V) (r7 V) 0 4) (pairs_of1 V h6) (fun k l => ?_) _ _ _ _ _ k a l
    exact samples_at gather_S30000x300_S8192x1_S8192x300_1_0_n_n_0_1_1300 rfl rfl rfl rfl rfl (r2 V) (r2 V) (r6 V) (r7 V) h7 0 4 _ (rows_of2 V h6) _ (ids_of4 V) _ _ _ _ _ _ _ _ _ _ k l
  · refine compare_at 0x3F99999A#32 _ _ _ (samples (r4 V) (r4 V) (r6 V) (r7 V) 0 8) (pairs_of2 V h6) (fun k l => ?_) _ _ _ _ _ k a l
    exact samples_at gather_S30000x128_S8192x1_S8192x128_1_0_n_n_0_1_1128 rfl rfl rfl rfl rfl (r4 V) (r4 V) (r6 V) (r7 V) h7 0 8 _ (rows_of4 V h6) _ (ids_of8 V) _ _ _ _ _ _ _ _ _ _ k l

/-- Mean 1 of the reference: side 0's train rows against the three groups' batches. -/
theorem mean1 (j : S_.Idx) : (res_main_v310 V : S_.Idx → EReal) j
    = Ideal.div (quarter (pairs (r0 V) (r1 V) (r6 V)) (pairs (r2 V) (r3 V) (r6 V)) (pairs (r4 V) (r5 V) (r6 V))
        (samples (r0 V) (r1 V) (r6 V) (r7 V) 0 1) (samples (r2 V) (r3 V) (r6 V) (r7 V) 0 5) (samples (r4 V) (r5 V) (r6 V) (r7 V) 0 9)) (Ideal.ofBits .f32 0x4A800000#32) := by
  unfold res_main_v310
  refine quarter_at _ _ _ _ _ _ _ _ _ (fun k a l => ?_) (fun k a l => ?_) (fun k a l => ?_) _ _ j
  · refine compare_at 0x40400000#32 _ _ _ (samples (r0 V) (r1 V) (r6 V) (r7 V) 0 1) (pairs_of0 V h6) (fun k l => ?_) _ _ _ _ _ k a l
    exact samples_at gather_S30000x256_S8192x1_S8192x256_1_0_n_n_0_1_1256 rfl rfl rfl rfl rfl (r0 V) (r1 V) (r6 V) (r7 V) h7 0 1 _ (rows_of0 V h6) _ (ids_of1 V) _ _ _ _ _ _ _ _ _ _ k l
  · refine compare_at 0x3F99999A#32 _ _ _ (samples (r2 V) (r3 V) (r6 V) (r7 V) 0 5) (pairs_of1 V h6) (fun k l => ?_) _ _ _ _ _ k a l
    exact samples_at gather_S30000x300_S8192x1_S8192x300_1_0_n_n_0_1_1300 rfl rfl rfl rfl rfl (r2 V) (r3 V) (r6 V) (r7 V) h7 0 5 _ (rows_of2 V h6) _ (ids_of5 V) _ _ _ _ _ _ _ _ _ _ k l
  · refine compare_at 0x3F99999A#32 _ _ _ (samples (r4 V) (r5 V) (r6 V) (r7 V) 0 9) (pairs_of2 V h6) (fun k l => ?_) _ _ _ _ _ k a l
    exact samples_at gather_S30000x128_S8192x1_S8192x128_1_0_n_n_0_1_1128 rfl rfl rfl rfl rfl (r4 V) (r5 V) (r6 V) (r7 V) h7 0 9 _ (rows_of4 V h6) _ (ids_of9 V) _ _ _ _ _ _ _ _ _ _ k l

/-- Mean 2 of the reference: side 1's train rows against the three groups' batches. -/
theorem mean2 (j : S_.Idx) : (res_main_v356 V : S_.Idx → EReal) j
    = Ideal.div (quarter (pairs (r0 V) (r1 V) (r6 V)) (pairs (r2 V) (r3 V) (r6 V)) (pairs (r4 V) (r5 V) (r6 V))
        (samples (r1 V) (r1 V) (r6 V) (r7 V) 1 2) (samples (r3 V) (r3 V) (r6 V) (r7 V) 1 6) (samples (r5 V) (r5 V) (r6 V) (r7 V) 1 10)) (Ideal.ofBits .f32 0x4A800000#32) := by
  unfold res_main_v356
  refine quarter_at _ _ _ _ _ _ _ _ _ (fun k a l => ?_) (fun k a l => ?_) (fun k a l => ?_) _ _ j
  · refine compare_at 0x40400000#32 _ _ _ (samples (r1 V) (r1 V) (r6 V) (r7 V) 1 2) (pairs_of0 V h6) (fun k l => ?_) _ _ _ _ _ k a l
    exact samples_at gather_S30000x256_S8192x1_S8192x256_1_0_n_n_0_1_1256 rfl rfl rfl rfl rfl (r1 V) (r1 V) (r6 V) (r7 V) h7 1 2 _ (rows_of1 V h6) _ (ids_of2 V) _ _ _ _ _ _ _ _ _ _ k l
  · refine compare_at 0x3F99999A#32 _ _ _ (samples (r3 V) (r3 V) (r6 V) (r7 V) 1 6) (pairs_of1 V h6) (fun k l => ?_) _ _ _ _ _ k a l
    exact samples_at gather_S30000x300_S8192x1_S8192x300_1_0_n_n_0_1_1300 rfl rfl rfl rfl rfl (r3 V) (r3 V) (r6 V) (r7 V) h7 1 6 _ (rows_of3 V h6) _ (ids_of6 V) _ _ _ _ _ _ _ _ _ _ k l
  · refine compare_at 0x3F99999A#32 _ _ _ (samples (r5 V) (r5 V) (r6 V) (r7 V) 1 10) (pairs_of2 V h6) (fun k l => ?_) _ _ _ _ _ k a l
    exact samples_at gather_S30000x128_S8192x1_S8192x128_1_0_n_n_0_1_1128 rfl rfl rfl rfl rfl (r5 V) (r5 V) (r6 V) (r7 V) h7 1 10 _ (rows_of5 V h6) _ (ids_of10 V) _ _ _ _ _ _ _ _ _ _ k l

/-- Mean 3 of the reference: side 1's train rows against the three groups' batches. -/
theorem mean3 (j : S_.Idx) : (res_main_v402 V : S_.Idx → EReal) j
    = Ideal.div (quarter (pairs (r0 V) (r1 V) (r6 V)) (pairs (r2 V) (r3 V) (r6 V)) (pairs (r4 V) (r5 V) (r6 V))
        (samples (r1 V) (r0 V) (r6 V) (r7 V) 1 3) (samples (r3 V) (r2 V) (r6 V) (r7 V) 1 7) (samples (r5 V) (r4 V) (r6 V) (r7 V) 1 11)) (Ideal.ofBits .f32 0x4A800000#32) := by
  unfold res_main_v402
  refine quarter_at _ _ _ _ _ _ _ _ _ (fun k a l => ?_) (fun k a l => ?_) (fun k a l => ?_) _ _ j
  · refine compare_at 0x40400000#32 _ _ _ (samples (r1 V) (r0 V) (r6 V) (r7 V) 1 3) (pairs_of0 V h6) (fun k l => ?_) _ _ _ _ _ k a l
    exact samples_at gather_S30000x256_S8192x1_S8192x256_1_0_n_n_0_1_1256 rfl rfl rfl rfl rfl (r1 V) (r0 V) (r6 V) (r7 V) h7 1 3 _ (rows_of1 V h6) _ (ids_of3 V) _ _ _ _ _ _ _ _ _ _ k l
  · refine compare_at 0x3F99999A#32 _ _ _ (samples (r3 V) (r2 V) (r6 V) (r7 V) 1 7) (pairs_of1 V h6) (fun k l => ?_) _ _ _ _ _ k a l
    exact samples_at gather_S30000x300_S8192x1_S8192x300_1_0_n_n_0_1_1300 rfl rfl rfl rfl rfl (r3 V) (r2 V) (r6 V) (r7 V) h7 1 7 _ (rows_of3 V h6) _ (ids_of7 V) _ _ _ _ _ _ _ _ _ _ k l
  · refine compare_at 0x3F99999A#32 _ _ _ (samples (r5 V) (r4 V) (r6 V) (r7 V) 1 11) (pairs_of2 V h6) (fun k l => ?_) _ _ _ _ _ k a l
    exact samples_at gather_S30000x128_S8192x1_S8192x128_1_0_n_n_0_1_1128 rfl rfl rfl rfl rfl (r5 V) (r4 V) (r6 V) (r7 V) h7 1 11 _ (rows_of5 V h6) _ (ids_of11 V) _ _ _ _ _ _ _ _ _ _ k l

/-- The reference's result is the loss of the tables at the index arguments. -/
theorem reference_value (j : S_.Idx) :
    (Host.divf (F := Ideal) (φ := .f32) (addf (F := Ideal) (φ := .f32) (addf (F := Ideal) (φ := .f32) (addf (F := Ideal) (φ := .f32) (res_main_v264 V) (res_main_v310 V)) (res_main_v356 V)) (res_main_v402 V)) (constant S_ .f32 0x40800000#32) : S_.Idx → EReal) j
      = lossAt (r0 V) (r1 V) (r2 V) (r3 V) (r4 V) (r5 V) (r6 V) (r7 V) := by
  refine Eq.trans (congrArg (fun z => Ideal.div z (Ideal.ofBits .f32 0x40800000#32)) (congrArg₂ (fun u v : EReal => u + v) (congrArg₂ (fun u v : EReal => u + v)
    (congrArg₂ (fun u v : EReal => u + v) (mean0 V h6 h7 j) (mean1 V h6 h7 j)) (mean2 V h6 h7 j)) (mean3 V h6 h7 j))) (scale_eq _ _ _ _)

end Cert.Proof.Value

end
-- ==== Proof.Value.Algebraic.lean ====
/-
  The value claim: over extended reals the idealized kernel and the reference leave the same loss.
-/
module

public import proofs.«01_k».proof.Proof.Frames
public import proofs.«01_k».proof.Proof.Value.Kernel
public import proofs.«01_k».proof.Proof.Value.Reference

@[expose] public section

noncomputable section

namespace Cert.Proof

open Idealize.ShloMosaic Idealize.ShloMosaic.Pipeline Idealize.SL.Sem

/-- The reference's result from a memory that holds the kernel's arguments is the kernel's result. -/
theorem same_loss (m : (ℓ : Loc Cert.KernelIdeal.nD Cert.KernelIdeal.τ Cert.KernelIdeal.sig) → Buf (Elt Ideal) ℓ)
    (h : Cert.KernelIdeal.Run.Rows m) (V : Valuation Cert.ReferenceIdeal.τ Cert.ReferenceIdeal.sig (Elt Ideal))
    (i0 : Value.r0 V = Value.a0 m) (i1 : Value.r1 V = Value.a1 m) (i2 : Value.r2 V = Value.a2 m) (i3 : Value.r3 V = Value.a3 m)
    (i4 : Value.r4 V = Value.a4 m) (i5 : Value.r5 V = Value.a5 m) (i6 : Value.r6 V = Value.a6 m) (i7 : Value.r7 V = Value.a7 m) :
    (Host.divf (F := Ideal) (φ := .f32) (addf (F := Ideal) (φ := .f32) (addf (F := Ideal) (φ := .f32) (addf (F := Ideal) (φ := .f32)
        (Cert.ReferenceIdeal.Value.res_main_v264 V) (Cert.ReferenceIdeal.Value.res_main_v310 V)) (Cert.ReferenceIdeal.Value.res_main_v356 V))
        (Cert.ReferenceIdeal.Value.res_main_v402 V)) (constant Cert.ReferenceIdeal.S_ .f32 0x40800000#32) : Cert.ReferenceIdeal.S_.Idx → EReal)
      = (Cert.KernelIdeal.Run.W17 m h 0 (Proc.devRef .tc Cert.KernelIdeal.main_v106) : Cert.KernelIdeal.S_.Idx → EReal) := by
  have l6 : ∀ j, (Value.r6 V j).toNat < 30000 := fun j => by rw [i6]; exact h.1 j
  have l7 : ∀ j, (Value.r7 V j).toNat < 30000 := fun j => by rw [i7]; exact h.2 j
  funext j
  refine (Value.reference_value V l6 l7 j).trans ?_
  rw [i0, i1, i2, i3, i4, i5, i6, i7]
  exact (Value.kernel_value m h j).symm

/-- Both programs leave the loss that `Value.lossAt` states: the kernel by its eight launches, the reference by its operations. -/
theorem algebraic : Cert.algebraic_KernelIdeal_ReferenceIdeal (hKernelIdeal := Cert.KernelIdeal.Gen.facts)
    (hReferenceIdeal := Cert.ReferenceIdeal.Gen.facts) (hPre_rows_exist := Range.facts) := by
  intro m g m' g' hm hargs
  have h := rows_KernelIdeal m hm
  have hk := Cert.KernelIdeal.Run.run m h g
  have hR := Cert.ReferenceIdeal.Value.run m' g'
  have hs : ∀ c : Fin 1, c = 0 := fun c => Subsingleton.elim _ _
  refine ⟨fun c => Cert.KernelIdeal.Run.W17 m h c (Proc.devRef .tc Cert.KernelIdeal.main_v106), ?_, ?_⟩
  · exact (θ_run _ _ _).mono (fun _ hr => hr.1) hk
  · refine (θ_run _ _ _).mono (fun r hr c => ⟨(hr c).1.trans ?_, (hr c).2⟩) hR
    obtain rfl := hs c
    obtain ⟨e0, e1, e2, e3, e4, e5, e6, e7⟩ := hargs 0
    exact same_loss m h (StableHlo.launchContents m' 0) e0 e1 e2 e3 e4 e5 e6 e7

end Cert.Proof

end
-- ==== Proof.lean ====
/-
  The proof of `Cert.Claim`: the claims of the certificate, each proved in a module of its own.
-/
module

public import proofs.«01_k».proof.Defs
public import proofs.«01_k».proof.Proof.Frames
public import proofs.«01_k».proof.Proof.Value.Algebraic

@[expose] public section

noncomputable section

namespace Cert.Proof

theorem claim : Cert.Claim := ⟨Cert.Kernel.Gen.facts, Cert.KernelIdeal.Gen.facts, Cert.ReferenceIdeal.Gen.facts, Range.facts,
  frame_Kernel, frame_KernelIdeal, frame_ReferenceIdeal, (fun m g _ => frame_ReferenceIdeal m g trivial), preserves, algebraic⟩

end Cert.Proof

end
